-- ==== Defs.lean ====
def Pre_KScale (m : (ℓ : Loc Cert.KScale.nD Cert.KScale.τ Cert.KScale.sig) → Buf (Elt Bits) ℓ) : Prop :=
  True

def Pre_KScaleIdeal (m : (ℓ : Loc Cert.KScaleIdeal.nD Cert.KScaleIdeal.τ Cert.KScaleIdeal.sig) → Buf (Elt Ideal) ℓ) : Prop :=
  True

def Pre_RScaleIdeal (m : (ℓ : Loc Cert.RScaleIdeal.nD Cert.RScaleIdeal.τ Cert.RScaleIdeal.sig) → Buf (Elt Ideal) ℓ) : Prop :=
  True

def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def Pre_KLn (m : (ℓ : Loc Cert.KLn.nD Cert.KLn.τ Cert.KLn.sig) → Buf (Elt Bits) ℓ) : Prop :=
  True

def Pre_KLnIdeal (m : (ℓ : Loc Cert.KLnIdeal.nD Cert.KLnIdeal.τ Cert.KLnIdeal.sig) → Buf (Elt Ideal) ℓ) : Prop :=
  True

def Pre_KLnIdeal_finite_ln [hPre_finite_ln : Cert.Pre_finite_ln.Facts] (m : (ℓ : Loc Cert.KLnIdeal.nD Cert.KLnIdeal.τ Cert.KLnIdeal.sig) → Buf (Elt Ideal) ℓ) : Prop :=
  ∀ c : Dev Cert.KLnIdeal.nD,
    (Cert.Pre_finite_ln.fn (F := Ideal) (m ((c.tc : Thread Cert.KLnIdeal.nD Cert.KLnIdeal.τ).loc Cert.KLnIdeal.main_arg0)) (m ((c.tc : Thread Cert.KLnIdeal.nD Cert.KLnIdeal.τ).loc Cert.KLnIdeal.main_arg1)) (m ((c.tc : Thread Cert.KLnIdeal.nD Cert.KLnIdeal.τ).loc Cert.KLnIdeal.main_arg2)) (m ((c.tc : Thread Cert.KLnIdeal.nD Cert.KLnIdeal.τ).loc Cert.KLnIdeal.main_arg3)) (m ((c.tc : Thread Cert.KLnIdeal.nD Cert.KLnIdeal.τ).loc Cert.KLnIdeal.main_arg4))) = (fun _ => 1#1)

def Pre_RLnIdeal (m : (ℓ : Loc Cert.RLnIdeal.nD Cert.RLnIdeal.τ Cert.RLnIdeal.sig) → Buf (Elt Ideal) ℓ) : Prop :=
  True

def Pre_RLnIdeal_finite_ln [hPre_finite_ln : Cert.Pre_finite_ln.Facts] (m : (ℓ : Loc Cert.RLnIdeal.nD Cert.RLnIdeal.τ Cert.RLnIdeal.sig) → Buf (Elt Ideal) ℓ) : Prop :=
  ∀ c : Dev Cert.RLnIdeal.nD,
    (Cert.Pre_finite_ln.fn (F := Ideal) (m ((c.tc : Thread Cert.RLnIdeal.nD Cert.RLnIdeal.τ).loc Cert.RLnIdeal.main_arg0)) (m ((c.tc : Thread Cert.RLnIdeal.nD Cert.RLnIdeal.τ).loc Cert.RLnIdeal.main_arg1)) (m ((c.tc : Thread Cert.RLnIdeal.nD Cert.RLnIdeal.τ).loc Cert.RLnIdeal.main_arg2)) (m ((c.tc : Thread Cert.RLnIdeal.nD Cert.RLnIdeal.τ).loc Cert.RLnIdeal.main_arg3)) (m ((c.tc : Thread Cert.RLnIdeal.nD Cert.RLnIdeal.τ).loc Cert.RLnIdeal.main_arg4))) = (fun _ => 1#1)

def Pre_KDgu (m : (ℓ : Loc Cert.KDgu.nD Cert.KDgu.τ Cert.KDgu.sig) → Buf (Elt Bits) ℓ) : Prop :=
  True

def Pre_KDguIdeal (m : (ℓ : Loc Cert.KDguIdeal.nD Cert.KDguIdeal.τ Cert.KDguIdeal.sig) → Buf (Elt Ideal) ℓ) : Prop :=
  True

def Pre_KDguIdeal_finite_dgu [hPre_finite_dgu : Cert.Pre_finite_dgu.Facts] (m : (ℓ : Loc Cert.KDguIdeal.nD Cert.KDguIdeal.τ Cert.KDguIdeal.sig) → Buf (Elt Ideal) ℓ) : Prop :=
  ∀ c : Dev Cert.KDguIdeal.nD,
    (Cert.Pre_finite_dgu.fn (F := Ideal) (m ((c.tc : Thread Cert.KDguIdeal.nD Cert.KDguIdeal.τ).loc Cert.KDguIdeal.main_arg0)) (m ((c.tc : Thread Cert.KDguIdeal.nD Cert.KDguIdeal.τ).loc Cert.KDguIdeal.main_arg1)) (m ((c.tc : Thread Cert.KDguIdeal.nD Cert.KDguIdeal.τ).loc Cert.KDguIdeal.main_arg2)) (m ((c.tc : Thread Cert.KDguIdeal.nD Cert.KDguIdeal.τ).loc Cert.KDguIdeal.main_arg3)) (m ((c.tc : Thread Cert.KDguIdeal.nD Cert.KDguIdeal.τ).loc Cert.KDguIdeal.main_arg4))) = (fun _ => 1#1)

def Pre_RDguIdeal (m : (ℓ : Loc Cert.RDguIdeal.nD Cert.RDguIdeal.τ Cert.RDguIdeal.sig) → Buf (Elt Ideal) ℓ) : Prop :=
  True

def Pre_RDguIdeal_finite_dgu [hPre_finite_dgu : Cert.Pre_finite_dgu.Facts] (m : (ℓ : Loc Cert.RDguIdeal.nD Cert.RDguIdeal.τ Cert.RDguIdeal.sig) → Buf (Elt Ideal) ℓ) : Prop :=
  ∀ c : Dev Cert.RDguIdeal.nD,
    (Cert.Pre_finite_dgu.fn (F := Ideal) (m ((c.tc : Thread Cert.RDguIdeal.nD Cert.RDguIdeal.τ).loc Cert.RDguIdeal.main_arg0)) (m ((c.tc : Thread Cert.RDguIdeal.nD Cert.RDguIdeal.τ).loc Cert.RDguIdeal.main_arg1)) (m ((c.tc : Thread Cert.RDguIdeal.nD Cert.RDguIdeal.τ).loc Cert.RDguIdeal.main_arg2)) (m ((c.tc : Thread Cert.RDguIdeal.nD Cert.RDguIdeal.τ).loc Cert.RDguIdeal.main_arg3)) (m ((c.tc : Thread Cert.RDguIdeal.nD Cert.RDguIdeal.τ).loc Cert.RDguIdeal.main_arg4))) = (fun _ => 1#1)

def Pre_KPool (m : (ℓ : Loc Cert.KPool.nD Cert.KPool.τ Cert.KPool.sig) → Buf (Elt Bits) ℓ) : Prop :=
  True

def Pre_KPoolIdeal (m : (ℓ : Loc Cert.KPoolIdeal.nD Cert.KPoolIdeal.τ Cert.KPoolIdeal.sig) → Buf (Elt Ideal) ℓ) : Prop :=
  True

def Pre_KPoolIdeal_finite_pool [hPre_finite_pool : Cert.Pre_finite_pool.Facts] (m : (ℓ : Loc Cert.KPoolIdeal.nD Cert.KPoolIdeal.τ Cert.KPoolIdeal.sig) → Buf (Elt Ideal) ℓ) : Prop :=
  ∀ c : Dev Cert.KPoolIdeal.nD,
    (Cert.Pre_finite_pool.fn (F := Ideal) (m ((c.tc : Thread Cert.KPoolIdeal.nD Cert.KPoolIdeal.τ).loc Cert.KPoolIdeal.main_arg0)) (m ((c.tc : Thread Cert.KPoolIdeal.nD Cert.KPoolIdeal.τ).loc Cert.KPoolIdeal.main_arg1))) = (fun _ => 1#1)

def Pre_RPoolIdeal (m : (ℓ : Loc Cert.RPoolIdeal.nD Cert.RPoolIdeal.τ Cert.RPoolIdeal.sig) → Buf (Elt Ideal) ℓ) : Prop :=
  True

def Pre_RPoolIdeal_finite_pool [hPre_finite_pool : Cert.Pre_finite_pool.Facts] (m : (ℓ : Loc Cert.RPoolIdeal.nD Cert.RPoolIdeal.τ Cert.RPoolIdeal.sig) → Buf (Elt Ideal) ℓ) : Prop :=
  ∀ c : Dev Cert.RPoolIdeal.nD,
    (Cert.Pre_finite_pool.fn (F := Ideal) (m ((c.tc : Thread Cert.RPoolIdeal.nD Cert.RPoolIdeal.τ).loc Cert.RPoolIdeal.main_arg0)) (m ((c.tc : Thread Cert.RPoolIdeal.nD Cert.RPoolIdeal.τ).loc Cert.RPoolIdeal.main_arg1))) = (fun _ => 1#1)

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_KLossIdeal_finite_loss [hPre_finite_loss : Cert.Pre_finite_loss.Facts] (m : (ℓ : Loc Cert.KLossIdeal.nD Cert.KLossIdeal.τ Cert.KLossIdeal.sig) → Buf (Elt Ideal) ℓ) : Prop :=
  ∀ c : Dev Cert.KLossIdeal.nD,
    (Cert.Pre_finite_loss.fn (F := Ideal) (m ((c.tc : Thread Cert.KLossIdeal.nD Cert.KLossIdeal.τ).loc Cert.KLossIdeal.main_arg0)) (m ((c.tc : Thread Cert.KLossIdeal.nD Cert.KLossIdeal.τ).loc Cert.KLossIdeal.main_arg1)) (m ((c.tc : Thread Cert.KLossIdeal.nD Cert.KLossIdeal.τ).loc Cert.KLossIdeal.main_arg2)) (m ((c.tc : Thread Cert.KLossIdeal.nD Cert.KLossIdeal.τ).loc Cert.KLossIdeal.main_arg3)) (m ((c.tc : Thread Cert.KLossIdeal.nD Cert.KLossIdeal.τ).loc Cert.KLossIdeal.main_arg4))) = (fun _ => 1#1)

def Pre_RLossIdeal (m : (ℓ : Loc Cert.RLossIdeal.nD Cert.RLossIdeal.τ Cert.RLossIdeal.sig) → Buf (Elt Ideal) ℓ) : Prop :=
  True

def Pre_RLossIdeal_finite_loss [hPre_finite_loss : Cert.Pre_finite_loss.Facts] (m : (ℓ : Loc Cert.RLossIdeal.nD Cert.RLossIdeal.τ Cert.RLossIdeal.sig) → Buf (Elt Ideal) ℓ) : Prop :=
  ∀ c : Dev Cert.RLossIdeal.nD,
    (Cert.Pre_finite_loss.fn (F := Ideal) (m ((c.tc : Thread Cert.RLossIdeal.nD Cert.RLossIdeal.τ).loc Cert.RLossIdeal.main_arg0)) (m ((c.tc : Thread Cert.RLossIdeal.nD Cert.RLossIdeal.τ).loc Cert.RLossIdeal.main_arg1)) (m ((c.tc : Thread Cert.RLossIdeal.nD Cert.RLossIdeal.τ).loc Cert.RLossIdeal.main_arg2)) (m ((c.tc : Thread Cert.RLossIdeal.nD Cert.RLossIdeal.τ).loc Cert.RLossIdeal.main_arg3)) (m ((c.tc : Thread Cert.RLossIdeal.nD Cert.RLossIdeal.τ).loc Cert.RLossIdeal.main_arg4))) = (fun _ => 1#1)

def Pre_KLnF (m : (ℓ : Loc Cert.KLnF.nD Cert.KLnF.τ Cert.KLnF.sig) → Buf (Elt Bits) ℓ) : Prop :=
  True

def Pre_KLnFIdeal (m : (ℓ : Loc Cert.KLnFIdeal.nD Cert.KLnFIdeal.τ Cert.KLnFIdeal.sig) → Buf (Elt Ideal) ℓ) : Prop :=
  True

def Pre_RLnFIdeal (m : (ℓ : Loc Cert.RLnFIdeal.nD Cert.RLnFIdeal.τ Cert.RLnFIdeal.sig) → Buf (Elt Ideal) ℓ) : Prop :=
  True

def Pre_KGuF (m : (ℓ : Loc Cert.KGuF.nD Cert.KGuF.τ Cert.KGuF.sig) → Buf (Elt Bits) ℓ) : Prop :=
  True

def Pre_KGuFIdeal (m : (ℓ : Loc Cert.KGuFIdeal.nD Cert.KGuFIdeal.τ Cert.KGuFIdeal.sig) → Buf (Elt Ideal) ℓ) : Prop :=
  True

def Pre_RGuFIdeal (m : (ℓ : Loc Cert.RGuFIdeal.nD Cert.RGuFIdeal.τ Cert.RGuFIdeal.sig) → Buf (Elt Ideal) ℓ) : Prop :=
  True

def Pre_KConvF (m : (ℓ : Loc Cert.KConvF.nD Cert.KConvF.τ Cert.KConvF.sig) → Buf (Elt Bits) ℓ) : Prop :=
  True

def Pre_KConvFIdeal (m : (ℓ : Loc Cert.KConvFIdeal.nD Cert.KConvFIdeal.τ Cert.KConvFIdeal.sig) → Buf (Elt Ideal) ℓ) : Prop :=
  True

def Pre_RConvFIdeal (m : (ℓ : Loc Cert.RConvFIdeal.nD Cert.RConvFIdeal.τ Cert.RConvFIdeal.sig) → Buf (Elt Ideal) ℓ) : Prop :=
  True

def Pre_KPoolF (m : (ℓ : Loc Cert.KPoolF.nD Cert.KPoolF.τ Cert.KPoolF.sig) → Buf (Elt Bits) ℓ) : Prop :=
  True

def Pre_KPoolFIdeal (m : (ℓ : Loc Cert.KPoolFIdeal.nD Cert.KPoolFIdeal.τ Cert.KPoolFIdeal.sig) → Buf (Elt Ideal) ℓ) : Prop :=
  True

def Pre_KPoolFIdeal_finite_poolf [hPre_finite_poolf : Cert.Pre_finite_poolf.Facts] (m : (ℓ : Loc Cert.KPoolFIdeal.nD Cert.KPoolFIdeal.τ Cert.KPoolFIdeal.sig) → Buf (Elt Ideal) ℓ) : Prop :=
  ∀ c : Dev Cert.KPoolFIdeal.nD,
    (Cert.Pre_finite_poolf.fn (F := Ideal) (m ((c.tc : Thread Cert.KPoolFIdeal.nD Cert.KPoolFIdeal.τ).loc Cert.KPoolFIdeal.main_arg0)) (m ((c.tc : Thread Cert.KPoolFIdeal.nD Cert.KPoolFIdeal.τ).loc Cert.KPoolFIdeal.main_arg1))) = (fun _ => 1#1)

def Pre_RPoolFIdeal (m : (ℓ : Loc Cert.RPoolFIdeal.nD Cert.RPoolFIdeal.τ Cert.RPoolFIdeal.sig) → Buf (Elt Ideal) ℓ) : Prop :=
  True

def Pre_RPoolFIdeal_finite_poolf [hPre_finite_poolf : Cert.Pre_finite_poolf.Facts] (m : (ℓ : Loc Cert.RPoolFIdeal.nD Cert.RPoolFIdeal.τ Cert.RPoolFIdeal.sig) → Buf (Elt Ideal) ℓ) : Prop :=
  ∀ c : Dev Cert.RPoolFIdeal.nD,
    (Cert.Pre_finite_poolf.fn (F := Ideal) (m ((c.tc : Thread Cert.RPoolFIdeal.nD Cert.RPoolFIdeal.τ).loc Cert.RPoolFIdeal.main_arg0)) (m ((c.tc : Thread Cert.RPoolFIdeal.nD Cert.RPoolFIdeal.τ).loc Cert.RPoolFIdeal.main_arg1))) = (fun _ => 1#1)

def Pre_KMixF (m : (ℓ : Loc Cert.KMixF.nD Cert.KMixF.τ Cert.KMixF.sig) → Buf (Elt Bits) ℓ) : Prop :=
  True

def Pre_KMixFIdeal (m : (ℓ : Loc Cert.KMixFIdeal.nD Cert.KMixFIdeal.τ Cert.KMixFIdeal.sig) → Buf (Elt Ideal) ℓ) : Prop :=
  True

def Pre_RMixFIdeal (m : (ℓ : Loc Cert.RMixFIdeal.nD Cert.RMixFIdeal.τ Cert.RMixFIdeal.sig) → Buf (Elt Ideal) ℓ) : Prop :=
  True

def Pre_KPoolIn (m : (ℓ : Loc Cert.KPoolIn.nD Cert.KPoolIn.τ Cert.KPoolIn.sig) → Buf (Elt Bits) ℓ) : Prop :=
  True

def Pre_KPoolInIdeal (m : (ℓ : Loc Cert.KPoolInIdeal.nD Cert.KPoolInIdeal.τ Cert.KPoolInIdeal.sig) → Buf (Elt Ideal) ℓ) : Prop :=
  True

def Pre_RPoolInIdeal (m : (ℓ : Loc Cert.RPoolInIdeal.nD Cert.RPoolInIdeal.τ Cert.RPoolInIdeal.sig) → Buf (Elt Ideal) ℓ) : Prop :=
  True

def Pre_KOutY (m : (ℓ : Loc Cert.KOutY.nD Cert.KOutY.τ Cert.KOutY.sig) → Buf (Elt Bits) ℓ) : Prop :=
  True

def Pre_KOutYIdeal (m : (ℓ : Loc Cert.KOutYIdeal.nD Cert.KOutYIdeal.τ Cert.KOutYIdeal.sig) → Buf (Elt Ideal) ℓ) : Prop :=
  True

def Pre_ROutYIdeal (m : (ℓ : Loc Cert.ROutYIdeal.nD Cert.ROutYIdeal.τ Cert.ROutYIdeal.sig) → Buf (Elt Ideal) ℓ) : Prop :=
  True

def Pre_KPoolW (m : (ℓ : Loc Cert.KPoolW.nD Cert.KPoolW.τ Cert.KPoolW.sig) → Buf (Elt Bits) ℓ) : Prop :=
  True

def Pre_KPoolWIdeal (m : (ℓ : Loc Cert.KPoolWIdeal.nD Cert.KPoolWIdeal.τ Cert.KPoolWIdeal.sig) → Buf (Elt Ideal) ℓ) : Prop :=
  True

def Pre_RPoolWIdeal (m : (ℓ : Loc Cert.RPoolWIdeal.nD Cert.RPoolWIdeal.τ Cert.RPoolWIdeal.sig) → Buf (Elt Ideal) ℓ) : Prop :=
  True

def Pre_KProjIn (m : (ℓ : Loc Cert.KProjIn.nD Cert.KProjIn.τ Cert.KProjIn.sig) → Buf (Elt Bits) ℓ) : Prop :=
  True

def Pre_KProjInIdeal (m : (ℓ : Loc Cert.KProjInIdeal.nD Cert.KProjInIdeal.τ Cert.KProjInIdeal.sig) → Buf (Elt Ideal) ℓ) : Prop :=
  True

def Pre_RProjInIdeal (m : (ℓ : Loc Cert.RProjInIdeal.nD Cert.RProjInIdeal.τ Cert.RProjInIdeal.sig) → Buf (Elt Ideal) ℓ) : Prop :=
  True

def Pre_KProjOut (m : (ℓ : Loc Cert.KProjOut.nD Cert.KProjOut.τ Cert.KProjOut.sig) → Buf (Elt Bits) ℓ) : Prop :=
  True

def Pre_KProjOutIdeal (m : (ℓ : Loc Cert.KProjOutIdeal.nD Cert.KProjOutIdeal.τ Cert.KProjOutIdeal.sig) → Buf (Elt Ideal) ℓ) : Prop :=
  True

def Pre_RProjOutIdeal (m : (ℓ : Loc Cert.RProjOutIdeal.nD Cert.RProjOutIdeal.τ Cert.RProjOutIdeal.sig) → Buf (Elt Ideal) ℓ) : Prop :=
  True

def Pre_KOutW (m : (ℓ : Loc Cert.KOutW.nD Cert.KOutW.τ Cert.KOutW.sig) → Buf (Elt Bits) ℓ) : Prop :=
  True

def Pre_KOutWIdeal (m : (ℓ : Loc Cert.KOutWIdeal.nD Cert.KOutWIdeal.τ Cert.KOutWIdeal.sig) → Buf (Elt Ideal) ℓ) : Prop :=
  True

def Pre_ROutWIdeal (m : (ℓ : Loc Cert.ROutWIdeal.nD Cert.ROutWIdeal.τ Cert.ROutWIdeal.sig) → Buf (Elt Ideal) ℓ) : Prop :=
  True

def Pre_KInW (m : (ℓ : Loc Cert.KInW.nD Cert.KInW.τ Cert.KInW.sig) → Buf (Elt Bits) ℓ) : Prop :=
  True

def Pre_KInWIdeal (m : (ℓ : Loc Cert.KInWIdeal.nD Cert.KInWIdeal.τ Cert.KInWIdeal.sig) → Buf (Elt Ideal) ℓ) : Prop :=
  True

def Pre_RInWIdeal (m : (ℓ : Loc Cert.RInWIdeal.nD Cert.RInWIdeal.τ Cert.RInWIdeal.sig) → Buf (Elt Ideal) ℓ) : Prop :=
  True

def Pre_KInH (m : (ℓ : Loc Cert.KInH.nD Cert.KInH.τ Cert.KInH.sig) → Buf (Elt Bits) ℓ) : Prop :=
  True

def Pre_KInHIdeal (m : (ℓ : Loc Cert.KInHIdeal.nD Cert.KInHIdeal.τ Cert.KInHIdeal.sig) → Buf (Elt Ideal) ℓ) : Prop :=
  True

def Pre_RInHIdeal (m : (ℓ : Loc Cert.RInHIdeal.nD Cert.RInHIdeal.τ Cert.RInHIdeal.sig) → Buf (Elt Ideal) ℓ) : Prop :=
  True

def Pre_KDown (m : (ℓ : Loc Cert.KDown.nD Cert.KDown.τ Cert.KDown.sig) → Buf (Elt Bits) ℓ) : Prop :=
  True

def Pre_KDownIdeal (m : (ℓ : Loc Cert.KDownIdeal.nD Cert.KDownIdeal.τ Cert.KDownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_KBwdWd (m : (ℓ : Loc Cert.KBwdWd.nD Cert.KBwdWd.τ Cert.KBwdWd.sig) → Buf (Elt Bits) ℓ) : Prop :=
  True

def Pre_KBwdWdIdeal (m : (ℓ : Loc Cert.KBwdWdIdeal.nD Cert.KBwdWdIdeal.τ Cert.KBwdWdIdeal.sig) → Buf (Elt Ideal) ℓ) : Prop :=
  True

def Pre_RBwdWdIdeal (m : (ℓ : Loc Cert.RBwdWdIdeal.nD Cert.RBwdWdIdeal.τ Cert.RBwdWdIdeal.sig) → Buf (Elt Ideal) ℓ) : Prop :=
  True

def Pre_KBwdWgu (m : (ℓ : Loc Cert.KBwdWgu.nD Cert.KBwdWgu.τ Cert.KBwdWgu.sig) → Buf (Elt Bits) ℓ) : Prop :=
  True

def Pre_KBwdWguIdeal (m : (ℓ : Loc Cert.KBwdWguIdeal.nD Cert.KBwdWguIdeal.τ Cert.KBwdWguIdeal.sig) → Buf (Elt Ideal) ℓ) : Prop :=
  True

def Pre_RBwdWguIdeal (m : (ℓ : Loc Cert.RBwdWguIdeal.nD Cert.RBwdWguIdeal.τ Cert.RBwdWguIdeal.sig) → Buf (Elt Ideal) ℓ) : Prop :=
  True

def Pre_KBwdDh (m : (ℓ : Loc Cert.KBwdDh.nD Cert.KBwdDh.τ Cert.KBwdDh.sig) → Buf (Elt Bits) ℓ) : Prop :=
  True

def Pre_KBwdDhIdeal (m : (ℓ : Loc Cert.KBwdDhIdeal.nD Cert.KBwdDhIdeal.τ Cert.KBwdDhIdeal.sig) → Buf (Elt Ideal) ℓ) : Prop :=
  True

def Pre_RBwdDhIdeal (m : (ℓ : Loc Cert.RBwdDhIdeal.nD Cert.RBwdDhIdeal.τ Cert.RBwdDhIdeal.sig) → Buf (Elt Ideal) ℓ) : Prop :=
  True

def Pre_KSumParts (m : (ℓ : Loc Cert.KSumParts.nD Cert.KSumParts.τ Cert.KSumParts.sig) → Buf (Elt Bits) ℓ) : Prop :=
  True

def Pre_KSumPartsIdeal (m : (ℓ : Loc Cert.KSumPartsIdeal.nD Cert.KSumPartsIdeal.τ Cert.KSumPartsIdeal.sig) → Buf (Elt Ideal) ℓ) : Prop :=
  True

def Pre_RSumPartsIdeal (m : (ℓ : Loc Cert.RSumPartsIdeal.nD Cert.RSumPartsIdeal.τ Cert.RSumPartsIdeal.sig) → Buf (Elt Ideal) ℓ) : Prop :=
  True

def Pre_KAdamB [hPre_placed : Cert.Pre_placed.Facts] (m : (ℓ : Loc Cert.KAdamB.nD Cert.KAdamB.τ Cert.KAdamB.sig) → Buf (Elt Bits) ℓ) : Prop :=
  ∀ c : Dev Cert.KAdamB.nD,
    (Cert.Pre_placed.fn (F := Bits) (m ((c.tc : Thread Cert.KAdamB.nD Cert.KAdamB.τ).loc Cert.KAdamB.main_arg0)) (m ((c.tc : Thread Cert.KAdamB.nD Cert.KAdamB.τ).loc Cert.KAdamB.main_arg1)) (m ((c.tc : Thread Cert.KAdamB.nD Cert.KAdamB.τ).loc Cert.KAdamB.main_arg2)) (m ((c.tc : Thread Cert.KAdamB.nD Cert.KAdamB.τ).loc Cert.KAdamB.main_arg3)) (m ((c.tc : Thread Cert.KAdamB.nD Cert.KAdamB.τ).loc Cert.KAdamB.main_arg4)) (m ((c.tc : Thread Cert.KAdamB.nD Cert.KAdamB.τ).loc Cert.KAdamB.main_arg5)) (m ((c.tc : Thread Cert.KAdamB.nD Cert.KAdamB.τ).loc Cert.KAdamB.main_arg6)) (m ((c.tc : Thread Cert.KAdamB.nD Cert.KAdamB.τ).loc Cert.KAdamB.main_arg7))) = (fun _ => 1#1)

def Pre_KAdamBIdeal [hPre_placed : Cert.Pre_placed.Facts] (m : (ℓ : Loc Cert.KAdamBIdeal.nD Cert.KAdamBIdeal.τ Cert.KAdamBIdeal.sig) → Buf (Elt Ideal) ℓ) : Prop :=
  ∀ c : Dev Cert.KAdamBIdeal.nD,
    (Cert.Pre_placed.fn (F := Ideal) (m ((c.tc : Thread Cert.KAdamBIdeal.nD Cert.KAdamBIdeal.τ).loc Cert.KAdamBIdeal.main_arg0)) (m ((c.tc : Thread Cert.KAdamBIdeal.nD Cert.KAdamBIdeal.τ).loc Cert.KAdamBIdeal.main_arg1)) (m ((c.tc : Thread Cert.KAdamBIdeal.nD Cert.KAdamBIdeal.τ).loc Cert.KAdamBIdeal.main_arg2)) (m ((c.tc : Thread Cert.KAdamBIdeal.nD Cert.KAdamBIdeal.τ).loc Cert.KAdamBIdeal.main_arg3)) (m ((c.tc : Thread Cert.KAdamBIdeal.nD Cert.KAdamBIdeal.τ).loc Cert.KAdamBIdeal.main_arg4)) (m ((c.tc : Thread Cert.KAdamBIdeal.nD Cert.KAdamBIdeal.τ).loc Cert.KAdamBIdeal.main_arg5)) (m ((c.tc : Thread Cert.KAdamBIdeal.nD Cert.KAdamBIdeal.τ).loc Cert.KAdamBIdeal.main_arg6)) (m ((c.tc : Thread Cert.KAdamBIdeal.nD Cert.KAdamBIdeal.τ).loc Cert.KAdamBIdeal.main_arg7))) = (fun _ => 1#1)

def Pre_RAdamBIdeal (m : (ℓ : Loc Cert.RAdamBIdeal.nD Cert.RAdamBIdeal.τ Cert.RAdamBIdeal.sig) → Buf (Elt Ideal) ℓ) : Prop :=
  True

def Pre_RAdamBIdeal_placed [hPre_placed : Cert.Pre_placed.Facts] (m : (ℓ : Loc Cert.RAdamBIdeal.nD Cert.RAdamBIdeal.τ Cert.RAdamBIdeal.sig) → Buf (Elt Ideal) ℓ) : Prop :=
  ∀ c : Dev Cert.RAdamBIdeal.nD,
    (Cert.Pre_placed.fn (F := Ideal) (m ((c.tc : Thread Cert.RAdamBIdeal.nD Cert.RAdamBIdeal.τ).loc Cert.RAdamBIdeal.main_arg0)) (m ((c.tc : Thread Cert.RAdamBIdeal.nD Cert.RAdamBIdeal.τ).loc Cert.RAdamBIdeal.main_arg1)) (m ((c.tc : Thread Cert.RAdamBIdeal.nD Cert.RAdamBIdeal.τ).loc Cert.RAdamBIdeal.main_arg2)) (m ((c.tc : Thread Cert.RAdamBIdeal.nD Cert.RAdamBIdeal.τ).loc Cert.RAdamBIdeal.main_arg3)) (m ((c.tc : Thread Cert.RAdamBIdeal.nD Cert.RAdamBIdeal.τ).loc Cert.RAdamBIdeal.main_arg4)) (m ((c.tc : Thread Cert.RAdamBIdeal.nD Cert.RAdamBIdeal.τ).loc Cert.RAdamBIdeal.main_arg5)) (m ((c.tc : Thread Cert.RAdamBIdeal.nD Cert.RAdamBIdeal.τ).loc Cert.RAdamBIdeal.main_arg6)) (m ((c.tc : Thread Cert.RAdamBIdeal.nD Cert.RAdamBIdeal.τ).loc Cert.RAdamBIdeal.main_arg7))) = (fun _ => 1#1)

def Pre_KAddSib [hPre_on_mesh : Cert.Pre_on_mesh.Facts] (m : (ℓ : Loc Cert.KAddSib.nD Cert.KAddSib.τ Cert.KAddSib.sig) → Buf (Elt Bits) ℓ) : Prop :=
  ∀ c : Dev Cert.KAddSib.nD,
    (Cert.Pre_on_mesh.fn (F := Bits) (m ((c.tc : Thread Cert.KAddSib.nD Cert.KAddSib.τ).loc Cert.KAddSib.main_arg0)) (m ((c.tc : Thread Cert.KAddSib.nD Cert.KAddSib.τ).loc Cert.KAddSib.main_arg1)) (m ((c.tc : Thread Cert.KAddSib.nD Cert.KAddSib.τ).loc Cert.KAddSib.main_arg2)) (m ((c.tc : Thread Cert.KAddSib.nD Cert.KAddSib.τ).loc Cert.KAddSib.main_arg3)) (m ((c.tc : Thread Cert.KAddSib.nD Cert.KAddSib.τ).loc Cert.KAddSib.main_arg4))) = (fun _ => 1#1)

def Pre_KAddSibIdeal [hPre_on_mesh : Cert.Pre_on_mesh.Facts] (m : (ℓ : Loc Cert.KAddSibIdeal.nD Cert.KAddSibIdeal.τ Cert.KAddSibIdeal.sig) → Buf (Elt Ideal) ℓ) : Prop :=
  ∀ c : Dev Cert.KAddSibIdeal.nD,
    (Cert.Pre_on_mesh.fn (F := Ideal) (m ((c.tc : Thread Cert.KAddSibIdeal.nD Cert.KAddSibIdeal.τ).loc Cert.KAddSibIdeal.main_arg0)) (m ((c.tc : Thread Cert.KAddSibIdeal.nD Cert.KAddSibIdeal.τ).loc Cert.KAddSibIdeal.main_arg1)) (m ((c.tc : Thread Cert.KAddSibIdeal.nD Cert.KAddSibIdeal.τ).loc Cert.KAddSibIdeal.main_arg2)) (m ((c.tc : Thread Cert.KAddSibIdeal.nD Cert.KAddSibIdeal.τ).loc Cert.KAddSibIdeal.main_arg3)) (m ((c.tc : Thread Cert.KAddSibIdeal.nD Cert.KAddSibIdeal.τ).loc Cert.KAddSibIdeal.main_arg4))) = (fun _ => 1#1)

def Pre_RAddSibIdeal (m : (ℓ : Loc Cert.RAddSibIdeal.nD Cert.RAddSibIdeal.τ Cert.RAddSibIdeal.sig) → Buf (Elt Ideal) ℓ) : Prop :=
  True

def Pre_RAddSibIdeal_on_mesh [hPre_on_mesh : Cert.Pre_on_mesh.Facts] (m : (ℓ : Loc Cert.RAddSibIdeal.nD Cert.RAddSibIdeal.τ Cert.RAddSibIdeal.sig) → Buf (Elt Ideal) ℓ) : Prop :=
  ∀ c : Dev Cert.RAddSibIdeal.nD,
    (Cert.Pre_on_mesh.fn (F := Ideal) (m ((c.tc : Thread Cert.RAddSibIdeal.nD Cert.RAddSibIdeal.τ).loc Cert.RAddSibIdeal.main_arg0)) (m ((c.tc : Thread Cert.RAddSibIdeal.nD Cert.RAddSibIdeal.τ).loc Cert.RAddSibIdeal.main_arg1)) (m ((c.tc : Thread Cert.RAddSibIdeal.nD Cert.RAddSibIdeal.τ).loc Cert.RAddSibIdeal.main_arg2)) (m ((c.tc : Thread Cert.RAddSibIdeal.nD Cert.RAddSibIdeal.τ).loc Cert.RAddSibIdeal.main_arg3)) (m ((c.tc : Thread Cert.RAddSibIdeal.nD Cert.RAddSibIdeal.τ).loc Cert.RAddSibIdeal.main_arg4))) = (fun _ => 1#1)

def quiescent_KScale [hKScale : Cert.KScale.Facts] : Prop :=
  ∀ (m : (ℓ : Loc Cert.KScale.nD Cert.KScale.τ Cert.KScale.sig) → Buf (Elt Bits) ℓ) (g : Dev Cert.KScale.nD → PrngReg), Pre_KScale m →
    θ_run (Cert.KScale.defs (F := Bits)) (onTc (τ := Cert.KScale.τ) (Cert.KScale.main (F := Bits))) ⟨m, fun _ => 0, g⟩ (fun r => (∀ c : Dev Cert.KScale.nD,
      r.2.mem ((c.tc : Thread Cert.KScale.nD Cert.KScale.τ).loc Cert.KScale.main_arg0) = m ((c.tc : Thread Cert.KScale.nD Cert.KScale.τ).loc Cert.KScale.main_arg0)
      ∧ r.2.mem ((c.tc : Thread Cert.KScale.nD Cert.KScale.τ).loc Cert.KScale.main_arg1) = m ((c.tc : Thread Cert.KScale.nD Cert.KScale.τ).loc Cert.KScale.main_arg1)
      ∧ r.2.mem ((c.tc : Thread Cert.KScale.nD Cert.KScale.τ).loc Cert.KScale.main_arg2) = m ((c.tc : Thread Cert.KScale.nD Cert.KScale.τ).loc Cert.KScale.main_arg2)
      ∧ r.2.mem ((c.tc : Thread Cert.KScale.nD Cert.KScale.τ).loc Cert.KScale.main_arg3) = m ((c.tc : Thread Cert.KScale.nD Cert.KScale.τ).loc Cert.KScale.main_arg3)
      ∧ r.2.mem ((c.tc : Thread Cert.KScale.nD Cert.KScale.τ).loc Cert.KScale.main_arg4) = m ((c.tc : Thread Cert.KScale.nD Cert.KScale.τ).loc Cert.KScale.main_arg4))
      ∧ r.2.sem = fun _ => 0)

def quiescent_KScaleIdeal [hKScaleIdeal : Cert.KScaleIdeal.Facts] : Prop :=
  ∀ (m : (ℓ : Loc Cert.KScaleIdeal.nD Cert.KScaleIdeal.τ Cert.KScaleIdeal.sig) → Buf (Elt Ideal) ℓ) (g : Dev Cert.KScaleIdeal.nD → PrngReg), Pre_KScaleIdeal m →
    θ_run (Cert.KScaleIdeal.defs (F := Ideal)) (onTc (τ := Cert.KScaleIdeal.τ) (Cert.KScaleIdeal.main (F := Ideal))) ⟨m, fun _ => 0, g⟩ (fun r => (∀ c : Dev Cert.KScaleIdeal.nD,
      r.2.mem ((c.tc : Thread Cert.KScaleIdeal.nD Cert.KScaleIdeal.τ).loc Cert.KScaleIdeal.main_arg0) = m ((c.tc : Thread Cert.KScaleIdeal.nD Cert.KScaleIdeal.τ).loc Cert.KScaleIdeal.main_arg0)
      ∧ r.2.mem ((c.tc : Thread Cert.KScaleIdeal.nD Cert.KScaleIdeal.τ).loc Cert.KScaleIdeal.main_arg1) = m ((c.tc : Thread Cert.KScaleIdeal.nD Cert.KScaleIdeal.τ).loc Cert.KScaleIdeal.main_arg1)
      ∧ r.2.mem ((c.tc : Thread Cert.KScaleIdeal.nD Cert.KScaleIdeal.τ).loc Cert.KScaleIdeal.main_arg2) = m ((c.tc : Thread Cert.KScaleIdeal.nD Cert.KScaleIdeal.τ).loc Cert.KScaleIdeal.main_arg2)
      ∧ r.2.mem ((c.tc : Thread Cert.KScaleIdeal.nD Cert.KScaleIdeal.τ).loc Cert.KScaleIdeal.main_arg3) = m ((c.tc : Thread Cert.KScaleIdeal.nD Cert.KScaleIdeal.τ).loc Cert.KScaleIdeal.main_arg3)
      ∧ r.2.mem ((c.tc : Thread Cert.KScaleIdeal.nD Cert.KScaleIdeal.τ).loc Cert.KScaleIdeal.main_arg4) = m ((c.tc : Thread Cert.KScaleIdeal.nD Cert.KScaleIdeal.τ).loc Cert.KScaleIdeal.main_arg4))
      ∧ r.2.sem = fun _ => 0)

def quiescent_RScaleIdeal [hRScaleIdeal : Cert.RScaleIdeal.Facts] : Prop :=
  ∀ (m : (ℓ : Loc Cert.RScaleIdeal.nD Cert.RScaleIdeal.τ Cert.RScaleIdeal.sig) → Buf (Elt Ideal) ℓ) (g : Dev Cert.RScaleIdeal.nD → PrngReg), Pre_RScaleIdeal m →
    θ_run (Cert.RScaleIdeal.defs (F := Ideal)) (onTc (τ := Cert.RScaleIdeal.τ) (Cert.RScaleIdeal.main (F := Ideal))) ⟨m, fun _ => 0, g⟩ (fun r => (∀ c : Dev Cert.RScaleIdeal.nD,
      r.2.mem ((c.tc : Thread Cert.RScaleIdeal.nD Cert.RScaleIdeal.τ).loc Cert.RScaleIdeal.main_arg0) = m ((c.tc : Thread Cert.RScaleIdeal.nD Cert.RScaleIdeal.τ).loc Cert.RScaleIdeal.main_arg0)
      ∧ r.2.mem ((c.tc : Thread Cert.RScaleIdeal.nD Cert.RScaleIdeal.τ).loc Cert.RScaleIdeal.main_arg1) = m ((c.tc : Thread Cert.RScaleIdeal.nD Cert.RScaleIdeal.τ).loc Cert.RScaleIdeal.main_arg1)
      ∧ r.2.mem ((c.tc : Thread Cert.RScaleIdeal.nD Cert.RScaleIdeal.τ).loc Cert.RScaleIdeal.main_arg2) = m ((c.tc : Thread Cert.RScaleIdeal.nD Cert.RScaleIdeal.τ).loc Cert.RScaleIdeal.main_arg2)
      ∧ r.2.mem ((c.tc : Thread Cert.RScaleIdeal.nD Cert.RScaleIdeal.τ).loc Cert.RScaleIdeal.main_arg3) = m ((c.tc : Thread Cert.RScaleIdeal.nD Cert.RScaleIdeal.τ).loc Cert.RScaleIdeal.main_arg3)
      ∧ r.2.mem ((c.tc : Thread Cert.RScaleIdeal.nD Cert.RScaleIdeal.τ).loc Cert.RScaleIdeal.main_arg4) = m ((c.tc : Thread Cert.RScaleIdeal.nD Cert.RScaleIdeal.τ).loc Cert.RScaleIdeal.main_arg4))
      ∧ r.2.sem = fun _ => 0)

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1)
      ∧ r.2.mem ((c.tc : Thread Cert.KConv.nD Cert.KConv.τ).loc Cert.KConv.main_arg2) = m ((c.tc : Thread Cert.KConv.nD Cert.KConv.τ).loc Cert.KConv.main_arg2)
      ∧ r.2.mem ((c.tc : Thread Cert.KConv.nD Cert.KConv.τ).loc Cert.KConv.main_arg3) = m ((c.tc : Thread Cert.KConv.nD Cert.KConv.τ).loc Cert.KConv.main_arg3))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
      ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
      ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m ((c.tc : Thread Cert.RConvIdeal.nD Cert.RConvIdeal.τ).loc Cert.RConvIdeal.main_arg2)
      ∧ r.2.mem ((c.tc : Thread Cert.RConvIdeal.nD Cert.RConvIdeal.τ).loc Cert.RConvIdeal.main_arg3) = m ((c.tc : Thread Cert.RConvIdeal.nD Cert.RConvIdeal.τ).loc Cert.RConvIdeal.main_arg3))
      ∧ r.2.sem = fun _ => 0)

def quiescent_KLn [hKLn : Cert.KLn.Facts] : Prop :=
  ∀ (m : (ℓ : Loc Cert.KLn.nD Cert.KLn.τ Cert.KLn.sig) → Buf (Elt Bits) ℓ) (g : Dev Cert.KLn.nD → PrngReg), Pre_KLn m →
    θ_run (Cert.KLn.defs (F := Bits)) (onTc (τ := Cert.KLn.τ) (Cert.KLn.main (F := Bits))) ⟨m, fun _ => 0, g⟩ (fun r => (∀ c : Dev Cert.KLn.nD,
      r.2.mem ((c.tc : Thread Cert.KLn.nD Cert.KLn.τ).loc Cert.KLn.main_arg0) = m ((c.tc : Thread Cert.KLn.nD Cert.KLn.τ).loc Cert.KLn.main_arg0)
      ∧ r.2.mem ((c.tc : Thread Cert.KLn.nD Cert.KLn.τ).loc Cert.KLn.main_arg1) = m ((c.tc : Thread Cert.KLn.nD Cert.KLn.τ).loc Cert.KLn.main_arg1)
      ∧ r.2.mem ((c.tc : Thread Cert.KLn.nD Cert.KLn.τ).loc Cert.KLn.main_arg2) = m ((c.tc : Thread Cert.KLn.nD Cert.KLn.τ).loc Cert.KLn.main_arg2)
      ∧ r.2.mem ((c.tc : Thread Cert.KLn.nD Cert.KLn.τ).loc Cert.KLn.main_arg3) = m ((c.tc : Thread Cert.KLn.nD Cert.KLn.τ).loc Cert.KLn.main_arg3)
      ∧ r.2.mem ((c.tc : Thread Cert.KLn.nD Cert.KLn.τ).loc Cert.KLn.main_arg4) = m ((c.tc : Thread Cert.KLn.nD Cert.KLn.τ).loc Cert.KLn.main_arg4))
      ∧ r.2.sem = fun _ => 0)

def quiescent_KLnIdeal [hKLnIdeal : Cert.KLnIdeal.Facts] : Prop :=
  ∀ (m : (ℓ : Loc Cert.KLnIdeal.nD Cert.KLnIdeal.τ Cert.KLnIdeal.sig) → Buf (Elt Ideal) ℓ) (g : Dev Cert.KLnIdeal.nD → PrngReg), Pre_KLnIdeal m →
    θ_run (Cert.KLnIdeal.defs (F := Ideal)) (onTc (τ := Cert.KLnIdeal.τ) (Cert.KLnIdeal.main (F := Ideal))) ⟨m, fun _ => 0, g⟩ (fun r => (∀ c : Dev Cert.KLnIdeal.nD,
      r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
      ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
      ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
      ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3)
      ∧ r.2.mem ((c.tc : Thread Cert.KLnIdeal.nD Cert.KLnIdeal.τ).loc Cert.KLnIdeal.main_arg4) = m ((c.tc : Thread Cert.KLnIdeal.nD Cert.KLnIdeal.τ).loc Cert.KLnIdeal.main_arg4))
      ∧ r.2.sem = fun _ => 0)

def quiescent_KLnIdeal_pre_finite_ln [hKLnIdeal : Cert.KLnIdeal.Facts] [hPre_finite_ln : Cert.Pre_finite_ln.Facts] : Prop :=
  ∀ (m : (ℓ : Loc Cert.KLnIdeal.nD Cert.KLnIdeal.τ Cert.KLnIdeal.sig) → Buf (Elt Ideal) ℓ) (g : Dev Cert.KLnIdeal.nD → PrngReg), Pre_KLnIdeal_finite_ln m →
    θ_run (Cert.KLnIdeal.defs (F := Ideal)) (onTc (τ := Cert.KLnIdeal.τ) (Cert.KLnIdeal.main (F := Ideal))) ⟨m, fun _ => 0, g⟩ (fun r => (∀ c : Dev Cert.KLnIdeal.nD,
      r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
      ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
      ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
      ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3)
      ∧ r.2.mem ((c.tc : Thread Cert.KLnIdeal.nD Cert.KLnIdeal.τ).loc Cert.KLnIdeal.main_arg4) = m ((c.tc : Thread Cert.KLnIdeal.nD Cert.KLnIdeal.τ).loc Cert.KLnIdeal.main_arg4))
      ∧ r.2.sem = fun _ => 0)

def quiescent_RLnIdeal [hRLnIdeal : Cert.RLnIdeal.Facts] : Prop :=
  ∀ (m : (ℓ : Loc Cert.RLnIdeal.nD Cert.RLnIdeal.τ Cert.RLnIdeal.sig) → Buf (Elt Ideal) ℓ) (g : Dev Cert.RLnIdeal.nD → PrngReg), Pre_RLnIdeal m →
    θ_run (Cert.RLnIdeal.defs (F := Ideal)) (onTc (τ := Cert.RLnIdeal.τ) (Cert.RLnIdeal.main (F := Ideal))) ⟨m, fun _ => 0, g⟩ (fun r => (∀ c : Dev Cert.RLnIdeal.nD,
      r.2.mem ((c.tc : Thread Cert.RLnIdeal.nD Cert.RLnIdeal.τ).loc Cert.RLnIdeal.main_arg0) = m ((c.tc : Thread Cert.RLnIdeal.nD Cert.RLnIdeal.τ).loc Cert.RLnIdeal.main_arg0)
      ∧ r.2.mem ((c.tc : Thread Cert.RLnIdeal.nD Cert.RLnIdeal.τ).loc Cert.RLnIdeal.main_arg1) = m ((c.tc : Thread Cert.RLnIdeal.nD Cert.RLnIdeal.τ).loc Cert.RLnIdeal.main_arg1)
      ∧ r.2.mem ((c.tc : Thread Cert.RLnIdeal.nD Cert.RLnIdeal.τ).loc Cert.RLnIdeal.main_arg2) = m ((c.tc : Thread Cert.RLnIdeal.nD Cert.RLnIdeal.τ).loc Cert.RLnIdeal.main_arg2)
      ∧ r.2.mem ((c.tc : Thread Cert.RLnIdeal.nD Cert.RLnIdeal.τ).loc Cert.RLnIdeal.main_arg3) = m ((c.tc : Thread Cert.RLnIdeal.nD Cert.RLnIdeal.τ).loc Cert.RLnIdeal.main_arg3)
      ∧ r.2.mem ((c.tc : Thread Cert.RLnIdeal.nD Cert.RLnIdeal.τ).loc Cert.RLnIdeal.main_arg4) = m ((c.tc : Thread Cert.RLnIdeal.nD Cert.RLnIdeal.τ).loc Cert.RLnIdeal.main_arg4))
      ∧ r.2.sem = fun _ => 0)

def quiescent_RLnIdeal_pre_finite_ln [hRLnIdeal : Cert.RLnIdeal.Facts] [hPre_finite_ln : Cert.Pre_finite_ln.Facts] : Prop :=
  ∀ (m : (ℓ : Loc Cert.RLnIdeal.nD Cert.RLnIdeal.τ Cert.RLnIdeal.sig) → Buf (Elt Ideal) ℓ) (g : Dev Cert.RLnIdeal.nD → PrngReg), Pre_RLnIdeal_finite_ln m →
    θ_run (Cert.RLnIdeal.defs (F := Ideal)) (onTc (τ := Cert.RLnIdeal.τ) (Cert.RLnIdeal.main (F := Ideal))) ⟨m, fun _ => 0, g⟩ (fun r => (∀ c : Dev Cert.RLnIdeal.nD,
      r.2.mem ((c.tc : Thread Cert.RLnIdeal.nD Cert.RLnIdeal.τ).loc Cert.RLnIdeal.main_arg0) = m ((c.tc : Thread Cert.RLnIdeal.nD Cert.RLnIdeal.τ).loc Cert.RLnIdeal.main_arg0)
      ∧ r.2.mem ((c.tc : Thread Cert.RLnIdeal.nD Cert.RLnIdeal.τ).loc Cert.RLnIdeal.main_arg1) = m ((c.tc : Thread Cert.RLnIdeal.nD Cert.RLnIdeal.τ).loc Cert.RLnIdeal.main_arg1)
      ∧ r.2.mem ((c.tc : Thread Cert.RLnIdeal.nD Cert.RLnIdeal.τ).loc Cert.RLnIdeal.main_arg2) = m ((c.tc : Thread Cert.RLnIdeal.nD Cert.RLnIdeal.τ).loc Cert.RLnIdeal.main_arg2)
      ∧ r.2.mem ((c.tc : Thread Cert.RLnIdeal.nD Cert.RLnIdeal.τ).loc Cert.RLnIdeal.main_arg3) = m ((c.tc : Thread Cert.RLnIdeal.nD Cert.RLnIdeal.τ).loc Cert.RLnIdeal.main_arg3)
      ∧ r.2.mem ((c.tc : Thread Cert.RLnIdeal.nD Cert.RLnIdeal.τ).loc Cert.RLnIdeal.main_arg4) = m ((c.tc : Thread Cert.RLnIdeal.nD Cert.RLnIdeal.τ).loc Cert.RLnIdeal.main_arg4))
      ∧ r.2.sem = fun _ => 0)

def quiescent_KDgu [hKDgu : Cert.KDgu.Facts] : Prop :=
  ∀ (m : (ℓ : Loc Cert.KDgu.nD Cert.KDgu.τ Cert.KDgu.sig) → Buf (Elt Bits) ℓ) (g : Dev Cert.KDgu.nD → PrngReg), Pre_KDgu m →
    θ_run (Cert.KDgu.defs (F := Bits)) (onTc (τ := Cert.KDgu.τ) (Cert.KDgu.main (F := Bits))) ⟨m, fun _ => 0, g⟩ (fun r => (∀ c : Dev Cert.KDgu.nD,
      r.2.mem ((c.tc : Thread Cert.KDgu.nD Cert.KDgu.τ).loc Cert.KDgu.main_arg0) = m ((c.tc : Thread Cert.KDgu.nD Cert.KDgu.τ).loc Cert.KDgu.main_arg0)
      ∧ r.2.mem ((c.tc : Thread Cert.KDgu.nD Cert.KDgu.τ).loc Cert.KDgu.main_arg1) = m ((c.tc : Thread Cert.KDgu.nD Cert.KDgu.τ).loc Cert.KDgu.main_arg1)
      ∧ r.2.mem ((c.tc : Thread Cert.KDgu.nD Cert.KDgu.τ).loc Cert.KDgu.main_arg2) = m ((c.tc : Thread Cert.KDgu.nD Cert.KDgu.τ).loc Cert.KDgu.main_arg2)
      ∧ r.2.mem ((c.tc : Thread Cert.KDgu.nD Cert.KDgu.τ).loc Cert.KDgu.main_arg3) = m ((c.tc : Thread Cert.KDgu.nD Cert.KDgu.τ).loc Cert.KDgu.main_arg3)
      ∧ r.2.mem ((c.tc : Thread Cert.KDgu.nD Cert.KDgu.τ).loc Cert.KDgu.main_arg4) = m ((c.tc : Thread Cert.KDgu.nD Cert.KDgu.τ).loc Cert.KDgu.main_arg4))
      ∧ r.2.sem = fun _ => 0)

def quiescent_KDguIdeal [hKDguIdeal : Cert.KDguIdeal.Facts] : Prop :=
  ∀ (m : (ℓ : Loc Cert.KDguIdeal.nD Cert.KDguIdeal.τ Cert.KDguIdeal.sig) → Buf (Elt Ideal) ℓ) (g : Dev Cert.KDguIdeal.nD → PrngReg), Pre_KDguIdeal m →
    θ_run (Cert.KDguIdeal.defs (F := Ideal)) (onTc (τ := Cert.KDguIdeal.τ) (Cert.KDguIdeal.main (F := Ideal))) ⟨m, fun _ => 0, g⟩ (fun r => (∀ c : Dev Cert.KDguIdeal.nD,
      r.2.mem ((c.tc : Thread Cert.KDguIdeal.nD Cert.KDguIdeal.τ).loc Cert.KDguIdeal.main_arg0) = m ((c.tc : Thread Cert.KDguIdeal.nD Cert.KDguIdeal.τ).loc Cert.KDguIdeal.main_arg0)
      ∧ r.2.mem ((c.tc : Thread Cert.KDguIdeal.nD Cert.KDguIdeal.τ).loc Cert.KDguIdeal.main_arg1) = m ((c.tc : Thread Cert.KDguIdeal.nD Cert.KDguIdeal.τ).loc Cert.KDguIdeal.main_arg1)
      ∧ r.2.mem ((c.tc : Thread Cert.KDguIdeal.nD Cert.KDguIdeal.τ).loc Cert.KDguIdeal.main_arg2) = m ((c.tc : Thread Cert.KDguIdeal.nD Cert.KDguIdeal.τ).loc Cert.KDguIdeal.main_arg2)
      ∧ r.2.mem ((c.tc : Thread Cert.KDguIdeal.nD Cert.KDguIdeal.τ).loc Cert.KDguIdeal.main_arg3) = m ((c.tc : Thread Cert.KDguIdeal.nD Cert.KDguIdeal.τ).loc Cert.KDguIdeal.main_arg3)
      ∧ r.2.mem ((c.tc : Thread Cert.KDguIdeal.nD Cert.KDguIdeal.τ).loc Cert.KDguIdeal.main_arg4) = m ((c.tc : Thread Cert.KDguIdeal.nD Cert.KDguIdeal.τ).loc Cert.KDguIdeal.main_arg4))
      ∧ r.2.sem = fun _ => 0)

def quiescent_KDguIdeal_pre_finite_dgu [hKDguIdeal : Cert.KDguIdeal.Facts] [hPre_finite_dgu : Cert.Pre_finite_dgu.Facts] : Prop :=
  ∀ (m : (ℓ : Loc Cert.KDguIdeal.nD Cert.KDguIdeal.τ Cert.KDguIdeal.sig) → Buf (Elt Ideal) ℓ) (g : Dev Cert.KDguIdeal.nD → PrngReg), Pre_KDguIdeal_finite_dgu m →
    θ_run (Cert.KDguIdeal.defs (F := Ideal)) (onTc (τ := Cert.KDguIdeal.τ) (Cert.KDguIdeal.main (F := Ideal))) ⟨m, fun _ => 0, g⟩ (fun r => (∀ c : Dev Cert.KDguIdeal.nD,
      r.2.mem ((c.tc : Thread Cert.KDguIdeal.nD Cert.KDguIdeal.τ).loc Cert.KDguIdeal.main_arg0) = m ((c.tc : Thread Cert.KDguIdeal.nD Cert.KDguIdeal.τ).loc Cert.KDguIdeal.main_arg0)
      ∧ r.2.mem ((c.tc : Thread Cert.KDguIdeal.nD Cert.KDguIdeal.τ).loc Cert.KDguIdeal.main_arg1) = m ((c.tc : Thread Cert.KDguIdeal.nD Cert.KDguIdeal.τ).loc Cert.KDguIdeal.main_arg1)
      ∧ r.2.mem ((c.tc : Thread Cert.KDguIdeal.nD Cert.KDguIdeal.τ).loc Cert.KDguIdeal.main_arg2) = m ((c.tc : Thread Cert.KDguIdeal.nD Cert.KDguIdeal.τ).loc Cert.KDguIdeal.main_arg2)
      ∧ r.2.mem ((c.tc : Thread Cert.KDguIdeal.nD Cert.KDguIdeal.τ).loc Cert.KDguIdeal.main_arg3) = m ((c.tc : Thread Cert.KDguIdeal.nD Cert.KDguIdeal.τ).loc Cert.KDguIdeal.main_arg3)
      ∧ r.2.mem ((c.tc : Thread Cert.KDguIdeal.nD Cert.KDguIdeal.τ).loc Cert.KDguIdeal.main_arg4) = m ((c.tc : Thread Cert.KDguIdeal.nD Cert.KDguIdeal.τ).loc Cert.KDguIdeal.main_arg4))
      ∧ r.2.sem = fun _ => 0)

def quiescent_RDguIdeal [hRDguIdeal : Cert.RDguIdeal.Facts] : Prop :=
  ∀ (m : (ℓ : Loc Cert.RDguIdeal.nD Cert.RDguIdeal.τ Cert.RDguIdeal.sig) → Buf (Elt Ideal) ℓ) (g : Dev Cert.RDguIdeal.nD → PrngReg), Pre_RDguIdeal m →
    θ_run (Cert.RDguIdeal.defs (F := Ideal)) (onTc (τ := Cert.RDguIdeal.τ) (Cert.RDguIdeal.main (F := Ideal))) ⟨m, fun _ => 0, g⟩ (fun r => (∀ c : Dev Cert.RDguIdeal.nD,
      r.2.mem ((c.tc : Thread Cert.RDguIdeal.nD Cert.RDguIdeal.τ).loc Cert.RDguIdeal.main_arg0) = m ((c.tc : Thread Cert.RDguIdeal.nD Cert.RDguIdeal.τ).loc Cert.RDguIdeal.main_arg0)
      ∧ r.2.mem ((c.tc : Thread Cert.RDguIdeal.nD Cert.RDguIdeal.τ).loc Cert.RDguIdeal.main_arg1) = m ((c.tc : Thread Cert.RDguIdeal.nD Cert.RDguIdeal.τ).loc Cert.RDguIdeal.main_arg1)
      ∧ r.2.mem ((c.tc : Thread Cert.RDguIdeal.nD Cert.RDguIdeal.τ).loc Cert.RDguIdeal.main_arg2) = m ((c.tc : Thread Cert.RDguIdeal.nD Cert.RDguIdeal.τ).loc Cert.RDguIdeal.main_arg2)
      ∧ r.2.mem ((c.tc : Thread Cert.RDguIdeal.nD Cert.RDguIdeal.τ).loc Cert.RDguIdeal.main_arg3) = m ((c.tc : Thread Cert.RDguIdeal.nD Cert.RDguIdeal.τ).loc Cert.RDguIdeal.main_arg3)
      ∧ r.2.mem ((c.tc : Thread Cert.RDguIdeal.nD Cert.RDguIdeal.τ).loc Cert.RDguIdeal.main_arg4) = m ((c.tc : Thread Cert.RDguIdeal.nD Cert.RDguIdeal.τ).loc Cert.RDguIdeal.main_arg4))
      ∧ r.2.sem = fun _ => 0)

def quiescent_RDguIdeal_pre_finite_dgu [hRDguIdeal : Cert.RDguIdeal.Facts] [hPre_finite_dgu : Cert.Pre_finite_dgu.Facts] : Prop :=
  ∀ (m : (ℓ : Loc Cert.RDguIdeal.nD Cert.RDguIdeal.τ Cert.RDguIdeal.sig) → Buf (Elt Ideal) ℓ) (g : Dev Cert.RDguIdeal.nD → PrngReg), Pre_RDguIdeal_finite_dgu m →
    θ_run (Cert.RDguIdeal.defs (F := Ideal)) (onTc (τ := Cert.RDguIdeal.τ) (Cert.RDguIdeal.main (F := Ideal))) ⟨m, fun _ => 0, g⟩ (fun r => (∀ c : Dev Cert.RDguIdeal.nD,
      r.2.mem ((c.tc : Thread Cert.RDguIdeal.nD Cert.RDguIdeal.τ).loc Cert.RDguIdeal.main_arg0) = m ((c.tc : Thread Cert.RDguIdeal.nD Cert.RDguIdeal.τ).loc Cert.RDguIdeal.main_arg0)
      ∧ r.2.mem ((c.tc : Thread Cert.RDguIdeal.nD Cert.RDguIdeal.τ).loc Cert.RDguIdeal.main_arg1) = m ((c.tc : Thread Cert.RDguIdeal.nD Cert.RDguIdeal.τ).loc Cert.RDguIdeal.main_arg1)
      ∧ r.2.mem ((c.tc : Thread Cert.RDguIdeal.nD Cert.RDguIdeal.τ).loc Cert.RDguIdeal.main_arg2) = m ((c.tc : Thread Cert.RDguIdeal.nD Cert.RDguIdeal.τ).loc Cert.RDguIdeal.main_arg2)
      ∧ r.2.mem ((c.tc : Thread Cert.RDguIdeal.nD Cert.RDguIdeal.τ).loc Cert.RDguIdeal.main_arg3) = m ((c.tc : Thread Cert.RDguIdeal.nD Cert.RDguIdeal.τ).loc Cert.RDguIdeal.main_arg3)
      ∧ r.2.mem ((c.tc : Thread Cert.RDguIdeal.nD Cert.RDguIdeal.τ).loc Cert.RDguIdeal.main_arg4) = m ((c.tc : Thread Cert.RDguIdeal.nD Cert.RDguIdeal.τ).loc Cert.RDguIdeal.main_arg4))
      ∧ r.2.sem = fun _ => 0)

def quiescent_KPool [hKPool : Cert.KPool.Facts] : Prop :=
  ∀ (m : (ℓ : Loc Cert.KPool.nD Cert.KPool.τ Cert.KPool.sig) → Buf (Elt Bits) ℓ) (g : Dev Cert.KPool.nD → PrngReg), Pre_KPool m →
    θ_run (Cert.KPool.defs (F := Bits)) (onTc (τ := Cert.KPool.τ) (Cert.KPool.main (F := Bits))) ⟨m, fun _ => 0, g⟩ (fun r => (∀ c : Dev Cert.KPool.nD,
      r.2.mem ((c.tc : Thread Cert.KPool.nD Cert.KPool.τ).loc Cert.KPool.main_arg0) = m ((c.tc : Thread Cert.KPool.nD Cert.KPool.τ).loc Cert.KPool.main_arg0)
      ∧ r.2.mem ((c.tc : Thread Cert.KPool.nD Cert.KPool.τ).loc Cert.KPool.main_arg1) = m ((c.tc : Thread Cert.KPool.nD Cert.KPool.τ).loc Cert.KPool.main_arg1))
      ∧ r.2.sem = fun _ => 0)

def quiescent_KPoolIdeal [hKPoolIdeal : Cert.KPoolIdeal.Facts] : Prop :=
  ∀ (m : (ℓ : Loc Cert.KPoolIdeal.nD Cert.KPoolIdeal.τ Cert.KPoolIdeal.sig) → Buf (Elt Ideal) ℓ) (g : Dev Cert.KPoolIdeal.nD → PrngReg), Pre_KPoolIdeal m →
    θ_run (Cert.KPoolIdeal.defs (F := Ideal)) (onTc (τ := Cert.KPoolIdeal.τ) (Cert.KPoolIdeal.main (F := Ideal))) ⟨m, fun _ => 0, g⟩ (fun r => (∀ c : Dev Cert.KPoolIdeal.nD,
      r.2.mem ((c.tc : Thread Cert.KPoolIdeal.nD Cert.KPoolIdeal.τ).loc Cert.KPoolIdeal.main_arg0) = m ((c.tc : Thread Cert.KPoolIdeal.nD Cert.KPoolIdeal.τ).loc Cert.KPoolIdeal.main_arg0)
      ∧ r.2.mem ((c.tc : Thread Cert.KPoolIdeal.nD Cert.KPoolIdeal.τ).loc Cert.KPoolIdeal.main_arg1) = m ((c.tc : Thread Cert.KPoolIdeal.nD Cert.KPoolIdeal.τ).loc Cert.KPoolIdeal.main_arg1))
      ∧ r.2.sem = fun _ => 0)

def quiescent_KPoolIdeal_pre_finite_pool [hKPoolIdeal : Cert.KPoolIdeal.Facts] [hPre_finite_pool : Cert.Pre_finite_pool.Facts] : Prop :=
  ∀ (m : (ℓ : Loc Cert.KPoolIdeal.nD Cert.KPoolIdeal.τ Cert.KPoolIdeal.sig) → Buf (Elt Ideal) ℓ) (g : Dev Cert.KPoolIdeal.nD → PrngReg), Pre_KPoolIdeal_finite_pool m →
    θ_run (Cert.KPoolIdeal.defs (F := Ideal)) (onTc (τ := Cert.KPoolIdeal.τ) (Cert.KPoolIdeal.main (F := Ideal))) ⟨m, fun _ => 0, g⟩ (fun r => (∀ c : Dev Cert.KPoolIdeal.nD,
      r.2.mem ((c.tc : Thread Cert.KPoolIdeal.nD Cert.KPoolIdeal.τ).loc Cert.KPoolIdeal.main_arg0) = m ((c.tc : Thread Cert.KPoolIdeal.nD Cert.KPoolIdeal.τ).loc Cert.KPoolIdeal.main_arg0)
      ∧ r.2.mem ((c.tc : Thread Cert.KPoolIdeal.nD Cert.KPoolIdeal.τ).loc Cert.KPoolIdeal.main_arg1) = m ((c.tc : Thread Cert.KPoolIdeal.nD Cert.KPoolIdeal.τ).loc Cert.KPoolIdeal.main_arg1))
      ∧ r.2.sem = fun _ => 0)

def quiescent_RPoolIdeal [hRPoolIdeal : Cert.RPoolIdeal.Facts] : Prop :=
  ∀ (m : (ℓ : Loc Cert.RPoolIdeal.nD Cert.RPoolIdeal.τ Cert.RPoolIdeal.sig) → Buf (Elt Ideal) ℓ) (g : Dev Cert.RPoolIdeal.nD → PrngReg), Pre_RPoolIdeal m →
    θ_run (Cert.RPoolIdeal.defs (F := Ideal)) (onTc (τ := Cert.RPoolIdeal.τ) (Cert.RPoolIdeal.main (F := Ideal))) ⟨m, fun _ => 0, g⟩ (fun r => (∀ c : Dev Cert.RPoolIdeal.nD,
      r.2.mem ((c.tc : Thread Cert.RPoolIdeal.nD Cert.RPoolIdeal.τ).loc Cert.RPoolIdeal.main_arg0) = m ((c.tc : Thread Cert.RPoolIdeal.nD Cert.RPoolIdeal.τ).loc Cert.RPoolIdeal.main_arg0)
      ∧ r.2.mem ((c.tc : Thread Cert.RPoolIdeal.nD Cert.RPoolIdeal.τ).loc Cert.RPoolIdeal.main_arg1) = m ((c.tc : Thread Cert.RPoolIdeal.nD Cert.RPoolIdeal.τ).loc Cert.RPoolIdeal.main_arg1))
      ∧ r.2.sem = fun _ => 0)

def quiescent_RPoolIdeal_pre_finite_pool [hRPoolIdeal : Cert.RPoolIdeal.Facts] [hPre_finite_pool : Cert.Pre_finite_pool.Facts] : Prop :=
  ∀ (m : (ℓ : Loc Cert.RPoolIdeal.nD Cert.RPoolIdeal.τ Cert.RPoolIdeal.sig) → Buf (Elt Ideal) ℓ) (g : Dev Cert.RPoolIdeal.nD → PrngReg), Pre_RPoolIdeal_finite_pool m →
    θ_run (Cert.RPoolIdeal.defs (F := Ideal)) (onTc (τ := Cert.RPoolIdeal.τ) (Cert.RPoolIdeal.main (F := Ideal))) ⟨m, fun _ => 0, g⟩ (fun r => (∀ c : Dev Cert.RPoolIdeal.nD,
      r.2.mem ((c.tc : Thread Cert.RPoolIdeal.nD Cert.RPoolIdeal.τ).loc Cert.RPoolIdeal.main_arg0) = m ((c.tc : Thread Cert.RPoolIdeal.nD Cert.RPoolIdeal.τ).loc Cert.RPoolIdeal.main_arg0)
      ∧ r.2.mem ((c.tc : Thread Cert.RPoolIdeal.nD Cert.RPoolIdeal.τ).loc Cert.RPoolIdeal.main_arg1) = m ((c.tc : Thread Cert.RPoolIdeal.nD Cert.RPoolIdeal.τ).loc Cert.RPoolIdeal.main_arg1))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1)
      ∧ r.2.mem ((c.tc : Thread Cert.KLoss.nD Cert.KLoss.τ).loc Cert.KLoss.main_arg2) = m ((c.tc : Thread Cert.KLoss.nD Cert.KLoss.τ).loc Cert.KLoss.main_arg2)
      ∧ r.2.mem ((c.tc : Thread Cert.KLoss.nD Cert.KLoss.τ).loc Cert.KLoss.main_arg3) = m ((c.tc : Thread Cert.KLoss.nD Cert.KLoss.τ).loc Cert.KLoss.main_arg3)
      ∧ r.2.mem ((c.tc : Thread Cert.KLoss.nD Cert.KLoss.τ).loc Cert.KLoss.main_arg4) = m ((c.tc : Thread Cert.KLoss.nD Cert.KLoss.τ).loc Cert.KLoss.main_arg4))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
      ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ r.2.sem = fun _ => 0)

def quiescent_KLossIdeal_pre_finite_loss [hKLossIdeal : Cert.KLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal_finite_loss m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
      ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
      ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
      ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4))
      ∧ r.2.sem = fun _ => 0)

def quiescent_RLossIdeal_pre_finite_loss [hRLossIdeal : Cert.RLossIdeal.Facts] [hPre_finite_loss : Cert.Pre_finite_loss.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal_finite_loss m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1)
      ∧ r.2.mem ((c.tc : Thread Cert.RLossIdeal.nD Cert.RLossIdeal.τ).loc Cert.RLossIdeal.main_arg2) = m ((c.tc : Thread Cert.RLossIdeal.nD Cert.RLossIdeal.τ).loc Cert.RLossIdeal.main_arg2)
      ∧ r.2.mem ((c.tc : Thread Cert.RLossIdeal.nD Cert.RLossIdeal.τ).loc Cert.RLossIdeal.main_arg3) = m ((c.tc : Thread Cert.RLossIdeal.nD Cert.RLossIdeal.τ).loc Cert.RLossIdeal.main_arg3)
      ∧ r.2.mem ((c.tc : Thread Cert.RLossIdeal.nD Cert.RLossIdeal.τ).loc Cert.RLossIdeal.main_arg4) = m ((c.tc : Thread Cert.RLossIdeal.nD Cert.RLossIdeal.τ).loc Cert.RLossIdeal.main_arg4))
      ∧ r.2.sem = fun _ => 0)

def quiescent_KLnF [hKLnF : Cert.KLnF.Facts] : Prop :=
  ∀ (m : (ℓ : Loc Cert.KLnF.nD Cert.KLnF.τ Cert.KLnF.sig) → Buf (Elt Bits) ℓ) (g : Dev Cert.KLnF.nD → PrngReg), Pre_KLnF m →
    θ_run (Cert.KLnF.defs (F := Bits)) (onTc (τ := Cert.KLnF.τ) (Cert.KLnF.main (F := Bits))) ⟨m, fun _ => 0, g⟩ (fun r => (∀ c : Dev Cert.KLnF.nD,
      r.2.mem ((c.tc : Thread Cert.KLnF.nD Cert.KLnF.τ).loc Cert.KLnF.main_arg0) = m ((c.tc : Thread Cert.KLnF.nD Cert.KLnF.τ).loc Cert.KLnF.main_arg0)
      ∧ r.2.mem ((c.tc : Thread Cert.KLnF.nD Cert.KLnF.τ).loc Cert.KLnF.main_arg1) = m ((c.tc : Thread Cert.KLnF.nD Cert.KLnF.τ).loc Cert.KLnF.main_arg1)
      ∧ r.2.mem ((c.tc : Thread Cert.KLnF.nD Cert.KLnF.τ).loc Cert.KLnF.main_arg2) = m ((c.tc : Thread Cert.KLnF.nD Cert.KLnF.τ).loc Cert.KLnF.main_arg2)
      ∧ r.2.mem ((c.tc : Thread Cert.KLnF.nD Cert.KLnF.τ).loc Cert.KLnF.main_arg3) = m ((c.tc : Thread Cert.KLnF.nD Cert.KLnF.τ).loc Cert.KLnF.main_arg3))
      ∧ r.2.sem = fun _ => 0)

def quiescent_KLnFIdeal [hKLnFIdeal : Cert.KLnFIdeal.Facts] : Prop :=
  ∀ (m : (ℓ : Loc Cert.KLnFIdeal.nD Cert.KLnFIdeal.τ Cert.KLnFIdeal.sig) → Buf (Elt Ideal) ℓ) (g : Dev Cert.KLnFIdeal.nD → PrngReg), Pre_KLnFIdeal m →
    θ_run (Cert.KLnFIdeal.defs (F := Ideal)) (onTc (τ := Cert.KLnFIdeal.τ) (Cert.KLnFIdeal.main (F := Ideal))) ⟨m, fun _ => 0, g⟩ (fun r => (∀ c : Dev Cert.KLnFIdeal.nD,
      r.2.mem ((c.tc : Thread Cert.KLnFIdeal.nD Cert.KLnFIdeal.τ).loc Cert.KLnFIdeal.main_arg0) = m ((c.tc : Thread Cert.KLnFIdeal.nD Cert.KLnFIdeal.τ).loc Cert.KLnFIdeal.main_arg0)
      ∧ r.2.mem ((c.tc : Thread Cert.KLnFIdeal.nD Cert.KLnFIdeal.τ).loc Cert.KLnFIdeal.main_arg1) = m ((c.tc : Thread Cert.KLnFIdeal.nD Cert.KLnFIdeal.τ).loc Cert.KLnFIdeal.main_arg1)
      ∧ r.2.mem ((c.tc : Thread Cert.KLnFIdeal.nD Cert.KLnFIdeal.τ).loc Cert.KLnFIdeal.main_arg2) = m ((c.tc : Thread Cert.KLnFIdeal.nD Cert.KLnFIdeal.τ).loc Cert.KLnFIdeal.main_arg2)
      ∧ r.2.mem ((c.tc : Thread Cert.KLnFIdeal.nD Cert.KLnFIdeal.τ).loc Cert.KLnFIdeal.main_arg3) = m ((c.tc : Thread Cert.KLnFIdeal.nD Cert.KLnFIdeal.τ).loc Cert.KLnFIdeal.main_arg3))
      ∧ r.2.sem = fun _ => 0)

def quiescent_RLnFIdeal [hRLnFIdeal : Cert.RLnFIdeal.Facts] : Prop :=
  ∀ (m : (ℓ : Loc Cert.RLnFIdeal.nD Cert.RLnFIdeal.τ Cert.RLnFIdeal.sig) → Buf (Elt Ideal) ℓ) (g : Dev Cert.RLnFIdeal.nD → PrngReg), Pre_RLnFIdeal m →
    θ_run (Cert.RLnFIdeal.defs (F := Ideal)) (onTc (τ := Cert.RLnFIdeal.τ) (Cert.RLnFIdeal.main (F := Ideal))) ⟨m, fun _ => 0, g⟩ (fun r => (∀ c : Dev Cert.RLnFIdeal.nD,
      r.2.mem ((c.tc : Thread Cert.RLnFIdeal.nD Cert.RLnFIdeal.τ).loc Cert.RLnFIdeal.main_arg0) = m ((c.tc : Thread Cert.RLnFIdeal.nD Cert.RLnFIdeal.τ).loc Cert.RLnFIdeal.main_arg0)
      ∧ r.2.mem ((c.tc : Thread Cert.RLnFIdeal.nD Cert.RLnFIdeal.τ).loc Cert.RLnFIdeal.main_arg1) = m ((c.tc : Thread Cert.RLnFIdeal.nD Cert.RLnFIdeal.τ).loc Cert.RLnFIdeal.main_arg1)
      ∧ r.2.mem ((c.tc : Thread Cert.RLnFIdeal.nD Cert.RLnFIdeal.τ).loc Cert.RLnFIdeal.main_arg2) = m ((c.tc : Thread Cert.RLnFIdeal.nD Cert.RLnFIdeal.τ).loc Cert.RLnFIdeal.main_arg2)
      ∧ r.2.mem ((c.tc : Thread Cert.RLnFIdeal.nD Cert.RLnFIdeal.τ).loc Cert.RLnFIdeal.main_arg3) = m ((c.tc : Thread Cert.RLnFIdeal.nD Cert.RLnFIdeal.τ).loc Cert.RLnFIdeal.main_arg3))
      ∧ r.2.sem = fun _ => 0)

def quiescent_KGuF [hKGuF : Cert.KGuF.Facts] : Prop :=
  ∀ (m : (ℓ : Loc Cert.KGuF.nD Cert.KGuF.τ Cert.KGuF.sig) → Buf (Elt Bits) ℓ) (g : Dev Cert.KGuF.nD → PrngReg), Pre_KGuF m →
    θ_run (Cert.KGuF.defs (F := Bits)) (onTc (τ := Cert.KGuF.τ) (Cert.KGuF.main (F := Bits))) ⟨m, fun _ => 0, g⟩ (fun r => (∀ c : Dev Cert.KGuF.nD,
      r.2.mem ((c.tc : Thread Cert.KGuF.nD Cert.KGuF.τ).loc Cert.KGuF.main_arg0) = m ((c.tc : Thread Cert.KGuF.nD Cert.KGuF.τ).loc Cert.KGuF.main_arg0)
      ∧ r.2.mem ((c.tc : Thread Cert.KGuF.nD Cert.KGuF.τ).loc Cert.KGuF.main_arg1) = m ((c.tc : Thread Cert.KGuF.nD Cert.KGuF.τ).loc Cert.KGuF.main_arg1)
      ∧ r.2.mem ((c.tc : Thread Cert.KGuF.nD Cert.KGuF.τ).loc Cert.KGuF.main_arg2) = m ((c.tc : Thread Cert.KGuF.nD Cert.KGuF.τ).loc Cert.KGuF.main_arg2))
      ∧ r.2.sem = fun _ => 0)

def quiescent_KGuFIdeal [hKGuFIdeal : Cert.KGuFIdeal.Facts] : Prop :=
  ∀ (m : (ℓ : Loc Cert.KGuFIdeal.nD Cert.KGuFIdeal.τ Cert.KGuFIdeal.sig) → Buf (Elt Ideal) ℓ) (g : Dev Cert.KGuFIdeal.nD → PrngReg), Pre_KGuFIdeal m →
    θ_run (Cert.KGuFIdeal.defs (F := Ideal)) (onTc (τ := Cert.KGuFIdeal.τ) (Cert.KGuFIdeal.main (F := Ideal))) ⟨m, fun _ => 0, g⟩ (fun r => (∀ c : Dev Cert.KGuFIdeal.nD,
      r.2.mem ((c.tc : Thread Cert.KGuFIdeal.nD Cert.KGuFIdeal.τ).loc Cert.KGuFIdeal.main_arg0) = m ((c.tc : Thread Cert.KGuFIdeal.nD Cert.KGuFIdeal.τ).loc Cert.KGuFIdeal.main_arg0)
      ∧ r.2.mem ((c.tc : Thread Cert.KGuFIdeal.nD Cert.KGuFIdeal.τ).loc Cert.KGuFIdeal.main_arg1) = m ((c.tc : Thread Cert.KGuFIdeal.nD Cert.KGuFIdeal.τ).loc Cert.KGuFIdeal.main_arg1)
      ∧ r.2.mem ((c.tc : Thread Cert.KGuFIdeal.nD Cert.KGuFIdeal.τ).loc Cert.KGuFIdeal.main_arg2) = m ((c.tc : Thread Cert.KGuFIdeal.nD Cert.KGuFIdeal.τ).loc Cert.KGuFIdeal.main_arg2))
      ∧ r.2.sem = fun _ => 0)

def quiescent_RGuFIdeal [hRGuFIdeal : Cert.RGuFIdeal.Facts] : Prop :=
  ∀ (m : (ℓ : Loc Cert.RGuFIdeal.nD Cert.RGuFIdeal.τ Cert.RGuFIdeal.sig) → Buf (Elt Ideal) ℓ) (g : Dev Cert.RGuFIdeal.nD → PrngReg), Pre_RGuFIdeal m →
    θ_run (Cert.RGuFIdeal.defs (F := Ideal)) (onTc (τ := Cert.RGuFIdeal.τ) (Cert.RGuFIdeal.main (F := Ideal))) ⟨m, fun _ => 0, g⟩ (fun r => (∀ c : Dev Cert.RGuFIdeal.nD,
      r.2.mem ((c.tc : Thread Cert.RGuFIdeal.nD Cert.RGuFIdeal.τ).loc Cert.RGuFIdeal.main_arg0) = m ((c.tc : Thread Cert.RGuFIdeal.nD Cert.RGuFIdeal.τ).loc Cert.RGuFIdeal.main_arg0)
      ∧ r.2.mem ((c.tc : Thread Cert.RGuFIdeal.nD Cert.RGuFIdeal.τ).loc Cert.RGuFIdeal.main_arg1) = m ((c.tc : Thread Cert.RGuFIdeal.nD Cert.RGuFIdeal.τ).loc Cert.RGuFIdeal.main_arg1)
      ∧ r.2.mem ((c.tc : Thread Cert.RGuFIdeal.nD Cert.RGuFIdeal.τ).loc Cert.RGuFIdeal.main_arg2) = m ((c.tc : Thread Cert.RGuFIdeal.nD Cert.RGuFIdeal.τ).loc Cert.RGuFIdeal.main_arg2))
      ∧ r.2.sem = fun _ => 0)

def quiescent_KConvF [hKConvF : Cert.KConvF.Facts] : Prop :=
  ∀ (m : (ℓ : Loc Cert.KConvF.nD Cert.KConvF.τ Cert.KConvF.sig) → Buf (Elt Bits) ℓ) (g : Dev Cert.KConvF.nD → PrngReg), Pre_KConvF m →
    θ_run (Cert.KConvF.defs (F := Bits)) (onTc (τ := Cert.KConvF.τ) (Cert.KConvF.main (F := Bits))) ⟨m, fun _ => 0, g⟩ (fun r => (∀ c : Dev Cert.KConvF.nD,
      r.2.mem ((c.tc : Thread Cert.KConvF.nD Cert.KConvF.τ).loc Cert.KConvF.main_arg0) = m ((c.tc : Thread Cert.KConvF.nD Cert.KConvF.τ).loc Cert.KConvF.main_arg0)
      ∧ r.2.mem ((c.tc : Thread Cert.KConvF.nD Cert.KConvF.τ).loc Cert.KConvF.main_arg1) = m ((c.tc : Thread Cert.KConvF.nD Cert.KConvF.τ).loc Cert.KConvF.main_arg1)
      ∧ r.2.mem ((c.tc : Thread Cert.KConvF.nD Cert.KConvF.τ).loc Cert.KConvF.main_arg2) = m ((c.tc : Thread Cert.KConvF.nD Cert.KConvF.τ).loc Cert.KConvF.main_arg2))
      ∧ r.2.sem = fun _ => 0)

def quiescent_KConvFIdeal [hKConvFIdeal : Cert.KConvFIdeal.Facts] : Prop :=
  ∀ (m : (ℓ : Loc Cert.KConvFIdeal.nD Cert.KConvFIdeal.τ Cert.KConvFIdeal.sig) → Buf (Elt Ideal) ℓ) (g : Dev Cert.KConvFIdeal.nD → PrngReg), Pre_KConvFIdeal m →
    θ_run (Cert.KConvFIdeal.defs (F := Ideal)) (onTc (τ := Cert.KConvFIdeal.τ) (Cert.KConvFIdeal.main (F := Ideal))) ⟨m, fun _ => 0, g⟩ (fun r => (∀ c : Dev Cert.KConvFIdeal.nD,
      r.2.mem ((c.tc : Thread Cert.KConvFIdeal.nD Cert.KConvFIdeal.τ).loc Cert.KConvFIdeal.main_arg0) = m ((c.tc : Thread Cert.KConvFIdeal.nD Cert.KConvFIdeal.τ).loc Cert.KConvFIdeal.main_arg0)
      ∧ r.2.mem ((c.tc : Thread Cert.KConvFIdeal.nD Cert.KConvFIdeal.τ).loc Cert.KConvFIdeal.main_arg1) = m ((c.tc : Thread Cert.KConvFIdeal.nD Cert.KConvFIdeal.τ).loc Cert.KConvFIdeal.main_arg1)
      ∧ r.2.mem ((c.tc : Thread Cert.KConvFIdeal.nD Cert.KConvFIdeal.τ).loc Cert.KConvFIdeal.main_arg2) = m ((c.tc : Thread Cert.KConvFIdeal.nD Cert.KConvFIdeal.τ).loc Cert.KConvFIdeal.main_arg2))
      ∧ r.2.sem = fun _ => 0)

def quiescent_RConvFIdeal [hRConvFIdeal : Cert.RConvFIdeal.Facts] : Prop :=
  ∀ (m : (ℓ : Loc Cert.RConvFIdeal.nD Cert.RConvFIdeal.τ Cert.RConvFIdeal.sig) → Buf (Elt Ideal) ℓ) (g : Dev Cert.RConvFIdeal.nD → PrngReg), Pre_RConvFIdeal m →
    θ_run (Cert.RConvFIdeal.defs (F := Ideal)) (onTc (τ := Cert.RConvFIdeal.τ) (Cert.RConvFIdeal.main (F := Ideal))) ⟨m, fun _ => 0, g⟩ (fun r => (∀ c : Dev Cert.RConvFIdeal.nD,
      r.2.mem ((c.tc : Thread Cert.RConvFIdeal.nD Cert.RConvFIdeal.τ).loc Cert.RConvFIdeal.main_arg0) = m ((c.tc : Thread Cert.RConvFIdeal.nD Cert.RConvFIdeal.τ).loc Cert.RConvFIdeal.main_arg0)
      ∧ r.2.mem ((c.tc : Thread Cert.RConvFIdeal.nD Cert.RConvFIdeal.τ).loc Cert.RConvFIdeal.main_arg1) = m ((c.tc : Thread Cert.RConvFIdeal.nD Cert.RConvFIdeal.τ).loc Cert.RConvFIdeal.main_arg1)
      ∧ r.2.mem ((c.tc : Thread Cert.RConvFIdeal.nD Cert.RConvFIdeal.τ).loc Cert.RConvFIdeal.main_arg2) = m ((c.tc : Thread Cert.RConvFIdeal.nD Cert.RConvFIdeal.τ).loc Cert.RConvFIdeal.main_arg2))
      ∧ r.2.sem = fun _ => 0)

def quiescent_KPoolF [hKPoolF : Cert.KPoolF.Facts] : Prop :=
  ∀ (m : (ℓ : Loc Cert.KPoolF.nD Cert.KPoolF.τ Cert.KPoolF.sig) → Buf (Elt Bits) ℓ) (g : Dev Cert.KPoolF.nD → PrngReg), Pre_KPoolF m →
    θ_run (Cert.KPoolF.defs (F := Bits)) (onTc (τ := Cert.KPoolF.τ) (Cert.KPoolF.main (F := Bits))) ⟨m, fun _ => 0, g⟩ (fun r => (∀ c : Dev Cert.KPoolF.nD,
      r.2.mem ((c.tc : Thread Cert.KPoolF.nD Cert.KPoolF.τ).loc Cert.KPoolF.main_arg0) = m ((c.tc : Thread Cert.KPoolF.nD Cert.KPoolF.τ).loc Cert.KPoolF.main_arg0)
      ∧ r.2.mem ((c.tc : Thread Cert.KPoolF.nD Cert.KPoolF.τ).loc Cert.KPoolF.main_arg1) = m ((c.tc : Thread Cert.KPoolF.nD Cert.KPoolF.τ).loc Cert.KPoolF.main_arg1))
      ∧ r.2.sem = fun _ => 0)

def quiescent_KPoolFIdeal [hKPoolFIdeal : Cert.KPoolFIdeal.Facts] : Prop :=
  ∀ (m : (ℓ : Loc Cert.KPoolFIdeal.nD Cert.KPoolFIdeal.τ Cert.KPoolFIdeal.sig) → Buf (Elt Ideal) ℓ) (g : Dev Cert.KPoolFIdeal.nD → PrngReg), Pre_KPoolFIdeal m →
    θ_run (Cert.KPoolFIdeal.defs (F := Ideal)) (onTc (τ := Cert.KPoolFIdeal.τ) (Cert.KPoolFIdeal.main (F := Ideal))) ⟨m, fun _ => 0, g⟩ (fun r => (∀ c : Dev Cert.KPoolFIdeal.nD,
      r.2.mem ((c.tc : Thread Cert.KPoolFIdeal.nD Cert.KPoolFIdeal.τ).loc Cert.KPoolFIdeal.main_arg0) = m ((c.tc : Thread Cert.KPoolFIdeal.nD Cert.KPoolFIdeal.τ).loc Cert.KPoolFIdeal.main_arg0)
      ∧ r.2.mem ((c.tc : Thread Cert.KPoolFIdeal.nD Cert.KPoolFIdeal.τ).loc Cert.KPoolFIdeal.main_arg1) = m ((c.tc : Thread Cert.KPoolFIdeal.nD Cert.KPoolFIdeal.τ).loc Cert.KPoolFIdeal.main_arg1))
      ∧ r.2.sem = fun _ => 0)

def quiescent_KPoolFIdeal_pre_finite_poolf [hKPoolFIdeal : Cert.KPoolFIdeal.Facts] [hPre_finite_poolf : Cert.Pre_finite_poolf.Facts] : Prop :=
  ∀ (m : (ℓ : Loc Cert.KPoolFIdeal.nD Cert.KPoolFIdeal.τ Cert.KPoolFIdeal.sig) → Buf (Elt Ideal) ℓ) (g : Dev Cert.KPoolFIdeal.nD → PrngReg), Pre_KPoolFIdeal_finite_poolf m →
    θ_run (Cert.KPoolFIdeal.defs (F := Ideal)) (onTc (τ := Cert.KPoolFIdeal.τ) (Cert.KPoolFIdeal.main (F := Ideal))) ⟨m, fun _ => 0, g⟩ (fun r => (∀ c : Dev Cert.KPoolFIdeal.nD,
      r.2.mem ((c.tc : Thread Cert.KPoolFIdeal.nD Cert.KPoolFIdeal.τ).loc Cert.KPoolFIdeal.main_arg0) = m ((c.tc : Thread Cert.KPoolFIdeal.nD Cert.KPoolFIdeal.τ).loc Cert.KPoolFIdeal.main_arg0)
      ∧ r.2.mem ((c.tc : Thread Cert.KPoolFIdeal.nD Cert.KPoolFIdeal.τ).loc Cert.KPoolFIdeal.main_arg1) = m ((c.tc : Thread Cert.KPoolFIdeal.nD Cert.KPoolFIdeal.τ).loc Cert.KPoolFIdeal.main_arg1))
      ∧ r.2.sem = fun _ => 0)

def quiescent_RPoolFIdeal [hRPoolFIdeal : Cert.RPoolFIdeal.Facts] : Prop :=
  ∀ (m : (ℓ : Loc Cert.RPoolFIdeal.nD Cert.RPoolFIdeal.τ Cert.RPoolFIdeal.sig) → Buf (Elt Ideal) ℓ) (g : Dev Cert.RPoolFIdeal.nD → PrngReg), Pre_RPoolFIdeal m →
    θ_run (Cert.RPoolFIdeal.defs (F := Ideal)) (onTc (τ := Cert.RPoolFIdeal.τ) (Cert.RPoolFIdeal.main (F := Ideal))) ⟨m, fun _ => 0, g⟩ (fun r => (∀ c : Dev Cert.RPoolFIdeal.nD,
      r.2.mem ((c.tc : Thread Cert.RPoolFIdeal.nD Cert.RPoolFIdeal.τ).loc Cert.RPoolFIdeal.main_arg0) = m ((c.tc : Thread Cert.RPoolFIdeal.nD Cert.RPoolFIdeal.τ).loc Cert.RPoolFIdeal.main_arg0)
      ∧ r.2.mem ((c.tc : Thread Cert.RPoolFIdeal.nD Cert.RPoolFIdeal.τ).loc Cert.RPoolFIdeal.main_arg1) = m ((c.tc : Thread Cert.RPoolFIdeal.nD Cert.RPoolFIdeal.τ).loc Cert.RPoolFIdeal.main_arg1))
      ∧ r.2.sem = fun _ => 0)

def quiescent_RPoolFIdeal_pre_finite_poolf [hRPoolFIdeal : Cert.RPoolFIdeal.Facts] [hPre_finite_poolf : Cert.Pre_finite_poolf.Facts] : Prop :=
  ∀ (m : (ℓ : Loc Cert.RPoolFIdeal.nD Cert.RPoolFIdeal.τ Cert.RPoolFIdeal.sig) → Buf (Elt Ideal) ℓ) (g : Dev Cert.RPoolFIdeal.nD → PrngReg), Pre_RPoolFIdeal_finite_poolf m →
    θ_run (Cert.RPoolFIdeal.defs (F := Ideal)) (onTc (τ := Cert.RPoolFIdeal.τ) (Cert.RPoolFIdeal.main (F := Ideal))) ⟨m, fun _ => 0, g⟩ (fun r => (∀ c : Dev Cert.RPoolFIdeal.nD,
      r.2.mem ((c.tc : Thread Cert.RPoolFIdeal.nD Cert.RPoolFIdeal.τ).loc Cert.RPoolFIdeal.main_arg0) = m ((c.tc : Thread Cert.RPoolFIdeal.nD Cert.RPoolFIdeal.τ).loc Cert.RPoolFIdeal.main_arg0)
      ∧ r.2.mem ((c.tc : Thread Cert.RPoolFIdeal.nD Cert.RPoolFIdeal.τ).loc Cert.RPoolFIdeal.main_arg1) = m ((c.tc : Thread Cert.RPoolFIdeal.nD Cert.RPoolFIdeal.τ).loc Cert.RPoolFIdeal.main_arg1))
      ∧ r.2.sem = fun _ => 0)

def quiescent_KMixF [hKMixF : Cert.KMixF.Facts] : Prop :=
  ∀ (m : (ℓ : Loc Cert.KMixF.nD Cert.KMixF.τ Cert.KMixF.sig) → Buf (Elt Bits) ℓ) (g : Dev Cert.KMixF.nD → PrngReg), Pre_KMixF m →
    θ_run (Cert.KMixF.defs (F := Bits)) (onTc (τ := Cert.KMixF.τ) (Cert.KMixF.main (F := Bits))) ⟨m, fun _ => 0, g⟩ (fun r => (∀ c : Dev Cert.KMixF.nD,
      r.2.mem ((c.tc : Thread Cert.KMixF.nD Cert.KMixF.τ).loc Cert.KMixF.main_arg0) = m ((c.tc : Thread Cert.KMixF.nD Cert.KMixF.τ).loc Cert.KMixF.main_arg0)
      ∧ r.2.mem ((c.tc : Thread Cert.KMixF.nD Cert.KMixF.τ).loc Cert.KMixF.main_arg1) = m ((c.tc : Thread Cert.KMixF.nD Cert.KMixF.τ).loc Cert.KMixF.main_arg1)
      ∧ r.2.mem ((c.tc : Thread Cert.KMixF.nD Cert.KMixF.τ).loc Cert.KMixF.main_arg2) = m ((c.tc : Thread Cert.KMixF.nD Cert.KMixF.τ).loc Cert.KMixF.main_arg2)
      ∧ r.2.mem ((c.tc : Thread Cert.KMixF.nD Cert.KMixF.τ).loc Cert.KMixF.main_arg3) = m ((c.tc : Thread Cert.KMixF.nD Cert.KMixF.τ).loc Cert.KMixF.main_arg3))
      ∧ r.2.sem = fun _ => 0)

def quiescent_KMixFIdeal [hKMixFIdeal : Cert.KMixFIdeal.Facts] : Prop :=
  ∀ (m : (ℓ : Loc Cert.KMixFIdeal.nD Cert.KMixFIdeal.τ Cert.KMixFIdeal.sig) → Buf (Elt Ideal) ℓ) (g : Dev Cert.KMixFIdeal.nD → PrngReg), Pre_KMixFIdeal m →
    θ_run (Cert.KMixFIdeal.defs (F := Ideal)) (onTc (τ := Cert.KMixFIdeal.τ) (Cert.KMixFIdeal.main (F := Ideal))) ⟨m, fun _ => 0, g⟩ (fun r => (∀ c : Dev Cert.KMixFIdeal.nD,
      r.2.mem ((c.tc : Thread Cert.KMixFIdeal.nD Cert.KMixFIdeal.τ).loc Cert.KMixFIdeal.main_arg0) = m ((c.tc : Thread Cert.KMixFIdeal.nD Cert.KMixFIdeal.τ).loc Cert.KMixFIdeal.main_arg0)
      ∧ r.2.mem ((c.tc : Thread Cert.KMixFIdeal.nD Cert.KMixFIdeal.τ).loc Cert.KMixFIdeal.main_arg1) = m ((c.tc : Thread Cert.KMixFIdeal.nD Cert.KMixFIdeal.τ).loc Cert.KMixFIdeal.main_arg1)
      ∧ r.2.mem ((c.tc : Thread Cert.KMixFIdeal.nD Cert.KMixFIdeal.τ).loc Cert.KMixFIdeal.main_arg2) = m ((c.tc : Thread Cert.KMixFIdeal.nD Cert.KMixFIdeal.τ).loc Cert.KMixFIdeal.main_arg2)
      ∧ r.2.mem ((c.tc : Thread Cert.KMixFIdeal.nD Cert.KMixFIdeal.τ).loc Cert.KMixFIdeal.main_arg3) = m ((c.tc : Thread Cert.KMixFIdeal.nD Cert.KMixFIdeal.τ).loc Cert.KMixFIdeal.main_arg3))
      ∧ r.2.sem = fun _ => 0)

def quiescent_RMixFIdeal [hRMixFIdeal : Cert.RMixFIdeal.Facts] : Prop :=
  ∀ (m : (ℓ : Loc Cert.RMixFIdeal.nD Cert.RMixFIdeal.τ Cert.RMixFIdeal.sig) → Buf (Elt Ideal) ℓ) (g : Dev Cert.RMixFIdeal.nD → PrngReg), Pre_RMixFIdeal m →
    θ_run (Cert.RMixFIdeal.defs (F := Ideal)) (onTc (τ := Cert.RMixFIdeal.τ) (Cert.RMixFIdeal.main (F := Ideal))) ⟨m, fun _ => 0, g⟩ (fun r => (∀ c : Dev Cert.RMixFIdeal.nD,
      r.2.mem ((c.tc : Thread Cert.RMixFIdeal.nD Cert.RMixFIdeal.τ).loc Cert.RMixFIdeal.main_arg0) = m ((c.tc : Thread Cert.RMixFIdeal.nD Cert.RMixFIdeal.τ).loc Cert.RMixFIdeal.main_arg0)
      ∧ r.2.mem ((c.tc : Thread Cert.RMixFIdeal.nD Cert.RMixFIdeal.τ).loc Cert.RMixFIdeal.main_arg1) = m ((c.tc : Thread Cert.RMixFIdeal.nD Cert.RMixFIdeal.τ).loc Cert.RMixFIdeal.main_arg1)
      ∧ r.2.mem ((c.tc : Thread Cert.RMixFIdeal.nD Cert.RMixFIdeal.τ).loc Cert.RMixFIdeal.main_arg2) = m ((c.tc : Thread Cert.RMixFIdeal.nD Cert.RMixFIdeal.τ).loc Cert.RMixFIdeal.main_arg2)
      ∧ r.2.mem ((c.tc : Thread Cert.RMixFIdeal.nD Cert.RMixFIdeal.τ).loc Cert.RMixFIdeal.main_arg3) = m ((c.tc : Thread Cert.RMixFIdeal.nD Cert.RMixFIdeal.τ).loc Cert.RMixFIdeal.main_arg3))
      ∧ r.2.sem = fun _ => 0)

def quiescent_KPoolIn [hKPoolIn : Cert.KPoolIn.Facts] : Prop :=
  ∀ (m : (ℓ : Loc Cert.KPoolIn.nD Cert.KPoolIn.τ Cert.KPoolIn.sig) → Buf (Elt Bits) ℓ) (g : Dev Cert.KPoolIn.nD → PrngReg), Pre_KPoolIn m →
    θ_run (Cert.KPoolIn.defs (F := Bits)) (onTc (τ := Cert.KPoolIn.τ) (Cert.KPoolIn.main (F := Bits))) ⟨m, fun _ => 0, g⟩ (fun r => (∀ c : Dev Cert.KPoolIn.nD,
      r.2.mem ((c.tc : Thread Cert.KPoolIn.nD Cert.KPoolIn.τ).loc Cert.KPoolIn.main_arg0) = m ((c.tc : Thread Cert.KPoolIn.nD Cert.KPoolIn.τ).loc Cert.KPoolIn.main_arg0)
      ∧ r.2.mem ((c.tc : Thread Cert.KPoolIn.nD Cert.KPoolIn.τ).loc Cert.KPoolIn.main_arg1) = m ((c.tc : Thread Cert.KPoolIn.nD Cert.KPoolIn.τ).loc Cert.KPoolIn.main_arg1)
      ∧ r.2.mem ((c.tc : Thread Cert.KPoolIn.nD Cert.KPoolIn.τ).loc Cert.KPoolIn.main_arg2) = m ((c.tc : Thread Cert.KPoolIn.nD Cert.KPoolIn.τ).loc Cert.KPoolIn.main_arg2))
      ∧ r.2.sem = fun _ => 0)

def quiescent_KPoolInIdeal [hKPoolInIdeal : Cert.KPoolInIdeal.Facts] : Prop :=
  ∀ (m : (ℓ : Loc Cert.KPoolInIdeal.nD Cert.KPoolInIdeal.τ Cert.KPoolInIdeal.sig) → Buf (Elt Ideal) ℓ) (g : Dev Cert.KPoolInIdeal.nD → PrngReg), Pre_KPoolInIdeal m →
    θ_run (Cert.KPoolInIdeal.defs (F := Ideal)) (onTc (τ := Cert.KPoolInIdeal.τ) (Cert.KPoolInIdeal.main (F := Ideal))) ⟨m, fun _ => 0, g⟩ (fun r => (∀ c : Dev Cert.KPoolInIdeal.nD,
      r.2.mem ((c.tc : Thread Cert.KPoolInIdeal.nD Cert.KPoolInIdeal.τ).loc Cert.KPoolInIdeal.main_arg0) = m ((c.tc : Thread Cert.KPoolInIdeal.nD Cert.KPoolInIdeal.τ).loc Cert.KPoolInIdeal.main_arg0)
      ∧ r.2.mem ((c.tc : Thread Cert.KPoolInIdeal.nD Cert.KPoolInIdeal.τ).loc Cert.KPoolInIdeal.main_arg1) = m ((c.tc : Thread Cert.KPoolInIdeal.nD Cert.KPoolInIdeal.τ).loc Cert.KPoolInIdeal.main_arg1)
      ∧ r.2.mem ((c.tc : Thread Cert.KPoolInIdeal.nD Cert.KPoolInIdeal.τ).loc Cert.KPoolInIdeal.main_arg2) = m ((c.tc : Thread Cert.KPoolInIdeal.nD Cert.KPoolInIdeal.τ).loc Cert.KPoolInIdeal.main_arg2))
      ∧ r.2.sem = fun _ => 0)

def quiescent_RPoolInIdeal [hRPoolInIdeal : Cert.RPoolInIdeal.Facts] : Prop :=
  ∀ (m : (ℓ : Loc Cert.RPoolInIdeal.nD Cert.RPoolInIdeal.τ Cert.RPoolInIdeal.sig) → Buf (Elt Ideal) ℓ) (g : Dev Cert.RPoolInIdeal.nD → PrngReg), Pre_RPoolInIdeal m →
    θ_run (Cert.RPoolInIdeal.defs (F := Ideal)) (onTc (τ := Cert.RPoolInIdeal.τ) (Cert.RPoolInIdeal.main (F := Ideal))) ⟨m, fun _ => 0, g⟩ (fun r => (∀ c : Dev Cert.RPoolInIdeal.nD,
      r.2.mem ((c.tc : Thread Cert.RPoolInIdeal.nD Cert.RPoolInIdeal.τ).loc Cert.RPoolInIdeal.main_arg0) = m ((c.tc : Thread Cert.RPoolInIdeal.nD Cert.RPoolInIdeal.τ).loc Cert.RPoolInIdeal.main_arg0)
      ∧ r.2.mem ((c.tc : Thread Cert.RPoolInIdeal.nD Cert.RPoolInIdeal.τ).loc Cert.RPoolInIdeal.main_arg1) = m ((c.tc : Thread Cert.RPoolInIdeal.nD Cert.RPoolInIdeal.τ).loc Cert.RPoolInIdeal.main_arg1)
      ∧ r.2.mem ((c.tc : Thread Cert.RPoolInIdeal.nD Cert.RPoolInIdeal.τ).loc Cert.RPoolInIdeal.main_arg2) = m ((c.tc : Thread Cert.RPoolInIdeal.nD Cert.RPoolInIdeal.τ).loc Cert.RPoolInIdeal.main_arg2))
      ∧ r.2.sem = fun _ => 0)

def quiescent_KOutY [hKOutY : Cert.KOutY.Facts] : Prop :=
  ∀ (m : (ℓ : Loc Cert.KOutY.nD Cert.KOutY.τ Cert.KOutY.sig) → Buf (Elt Bits) ℓ) (g : Dev Cert.KOutY.nD → PrngReg), Pre_KOutY m →
    θ_run (Cert.KOutY.defs (F := Bits)) (onTc (τ := Cert.KOutY.τ) (Cert.KOutY.main (F := Bits))) ⟨m, fun _ => 0, g⟩ (fun r => (∀ c : Dev Cert.KOutY.nD,
      r.2.mem ((c.tc : Thread Cert.KOutY.nD Cert.KOutY.τ).loc Cert.KOutY.main_arg0) = m ((c.tc : Thread Cert.KOutY.nD Cert.KOutY.τ).loc Cert.KOutY.main_arg0)
      ∧ r.2.mem ((c.tc : Thread Cert.KOutY.nD Cert.KOutY.τ).loc Cert.KOutY.main_arg1) = m ((c.tc : Thread Cert.KOutY.nD Cert.KOutY.τ).loc Cert.KOutY.main_arg1)
      ∧ r.2.mem ((c.tc : Thread Cert.KOutY.nD Cert.KOutY.τ).loc Cert.KOutY.main_arg2) = m ((c.tc : Thread Cert.KOutY.nD Cert.KOutY.τ).loc Cert.KOutY.main_arg2))
      ∧ r.2.sem = fun _ => 0)

def quiescent_KOutYIdeal [hKOutYIdeal : Cert.KOutYIdeal.Facts] : Prop :=
  ∀ (m : (ℓ : Loc Cert.KOutYIdeal.nD Cert.KOutYIdeal.τ Cert.KOutYIdeal.sig) → Buf (Elt Ideal) ℓ) (g : Dev Cert.KOutYIdeal.nD → PrngReg), Pre_KOutYIdeal m →
    θ_run (Cert.KOutYIdeal.defs (F := Ideal)) (onTc (τ := Cert.KOutYIdeal.τ) (Cert.KOutYIdeal.main (F := Ideal))) ⟨m, fun _ => 0, g⟩ (fun r => (∀ c : Dev Cert.KOutYIdeal.nD,
      r.2.mem ((c.tc : Thread Cert.KOutYIdeal.nD Cert.KOutYIdeal.τ).loc Cert.KOutYIdeal.main_arg0) = m ((c.tc : Thread Cert.KOutYIdeal.nD Cert.KOutYIdeal.τ).loc Cert.KOutYIdeal.main_arg0)
      ∧ r.2.mem ((c.tc : Thread Cert.KOutYIdeal.nD Cert.KOutYIdeal.τ).loc Cert.KOutYIdeal.main_arg1) = m ((c.tc : Thread Cert.KOutYIdeal.nD Cert.KOutYIdeal.τ).loc Cert.KOutYIdeal.main_arg1)
      ∧ r.2.mem ((c.tc : Thread Cert.KOutYIdeal.nD Cert.KOutYIdeal.τ).loc Cert.KOutYIdeal.main_arg2) = m ((c.tc : Thread Cert.KOutYIdeal.nD Cert.KOutYIdeal.τ).loc Cert.KOutYIdeal.main_arg2))
      ∧ r.2.sem = fun _ => 0)

def quiescent_ROutYIdeal [hROutYIdeal : Cert.ROutYIdeal.Facts] : Prop :=
  ∀ (m : (ℓ : Loc Cert.ROutYIdeal.nD Cert.ROutYIdeal.τ Cert.ROutYIdeal.sig) → Buf (Elt Ideal) ℓ) (g : Dev Cert.ROutYIdeal.nD → PrngReg), Pre_ROutYIdeal m →
    θ_run (Cert.ROutYIdeal.defs (F := Ideal)) (onTc (τ := Cert.ROutYIdeal.τ) (Cert.ROutYIdeal.main (F := Ideal))) ⟨m, fun _ => 0, g⟩ (fun r => (∀ c : Dev Cert.ROutYIdeal.nD,
      r.2.mem ((c.tc : Thread Cert.ROutYIdeal.nD Cert.ROutYIdeal.τ).loc Cert.ROutYIdeal.main_arg0) = m ((c.tc : Thread Cert.ROutYIdeal.nD Cert.ROutYIdeal.τ).loc Cert.ROutYIdeal.main_arg0)
      ∧ r.2.mem ((c.tc : Thread Cert.ROutYIdeal.nD Cert.ROutYIdeal.τ).loc Cert.ROutYIdeal.main_arg1) = m ((c.tc : Thread Cert.ROutYIdeal.nD Cert.ROutYIdeal.τ).loc Cert.ROutYIdeal.main_arg1)
      ∧ r.2.mem ((c.tc : Thread Cert.ROutYIdeal.nD Cert.ROutYIdeal.τ).loc Cert.ROutYIdeal.main_arg2) = m ((c.tc : Thread Cert.ROutYIdeal.nD Cert.ROutYIdeal.τ).loc Cert.ROutYIdeal.main_arg2))
      ∧ r.2.sem = fun _ => 0)

def quiescent_KPoolW [hKPoolW : Cert.KPoolW.Facts] : Prop :=
  ∀ (m : (ℓ : Loc Cert.KPoolW.nD Cert.KPoolW.τ Cert.KPoolW.sig) → Buf (Elt Bits) ℓ) (g : Dev Cert.KPoolW.nD → PrngReg), Pre_KPoolW m →
    θ_run (Cert.KPoolW.defs (F := Bits)) (onTc (τ := Cert.KPoolW.τ) (Cert.KPoolW.main (F := Bits))) ⟨m, fun _ => 0, g⟩ (fun r => (∀ c : Dev Cert.KPoolW.nD,
      r.2.mem ((c.tc : Thread Cert.KPoolW.nD Cert.KPoolW.τ).loc Cert.KPoolW.main_arg0) = m ((c.tc : Thread Cert.KPoolW.nD Cert.KPoolW.τ).loc Cert.KPoolW.main_arg0)
      ∧ r.2.mem ((c.tc : Thread Cert.KPoolW.nD Cert.KPoolW.τ).loc Cert.KPoolW.main_arg1) = m ((c.tc : Thread Cert.KPoolW.nD Cert.KPoolW.τ).loc Cert.KPoolW.main_arg1)
      ∧ r.2.mem ((c.tc : Thread Cert.KPoolW.nD Cert.KPoolW.τ).loc Cert.KPoolW.main_arg2) = m ((c.tc : Thread Cert.KPoolW.nD Cert.KPoolW.τ).loc Cert.KPoolW.main_arg2)
      ∧ r.2.mem ((c.tc : Thread Cert.KPoolW.nD Cert.KPoolW.τ).loc Cert.KPoolW.main_arg3) = m ((c.tc : Thread Cert.KPoolW.nD Cert.KPoolW.τ).loc Cert.KPoolW.main_arg3))
      ∧ r.2.sem = fun _ => 0)

def quiescent_KPoolWIdeal [hKPoolWIdeal : Cert.KPoolWIdeal.Facts] : Prop :=
  ∀ (m : (ℓ : Loc Cert.KPoolWIdeal.nD Cert.KPoolWIdeal.τ Cert.KPoolWIdeal.sig) → Buf (Elt Ideal) ℓ) (g : Dev Cert.KPoolWIdeal.nD → PrngReg), Pre_KPoolWIdeal m →
    θ_run (Cert.KPoolWIdeal.defs (F := Ideal)) (onTc (τ := Cert.KPoolWIdeal.τ) (Cert.KPoolWIdeal.main (F := Ideal))) ⟨m, fun _ => 0, g⟩ (fun r => (∀ c : Dev Cert.KPoolWIdeal.nD,
      r.2.mem ((c.tc : Thread Cert.KPoolWIdeal.nD Cert.KPoolWIdeal.τ).loc Cert.KPoolWIdeal.main_arg0) = m ((c.tc : Thread Cert.KPoolWIdeal.nD Cert.KPoolWIdeal.τ).loc Cert.KPoolWIdeal.main_arg0)
      ∧ r.2.mem ((c.tc : Thread Cert.KPoolWIdeal.nD Cert.KPoolWIdeal.τ).loc Cert.KPoolWIdeal.main_arg1) = m ((c.tc : Thread Cert.KPoolWIdeal.nD Cert.KPoolWIdeal.τ).loc Cert.KPoolWIdeal.main_arg1)
      ∧ r.2.mem ((c.tc : Thread Cert.KPoolWIdeal.nD Cert.KPoolWIdeal.τ).loc Cert.KPoolWIdeal.main_arg2) = m ((c.tc : Thread Cert.KPoolWIdeal.nD Cert.KPoolWIdeal.τ).loc Cert.KPoolWIdeal.main_arg2)
      ∧ r.2.mem ((c.tc : Thread Cert.KPoolWIdeal.nD Cert.KPoolWIdeal.τ).loc Cert.KPoolWIdeal.main_arg3) = m ((c.tc : Thread Cert.KPoolWIdeal.nD Cert.KPoolWIdeal.τ).loc Cert.KPoolWIdeal.main_arg3))
      ∧ r.2.sem = fun _ => 0)

def quiescent_RPoolWIdeal [hRPoolWIdeal : Cert.RPoolWIdeal.Facts] : Prop :=
  ∀ (m : (ℓ : Loc Cert.RPoolWIdeal.nD Cert.RPoolWIdeal.τ Cert.RPoolWIdeal.sig) → Buf (Elt Ideal) ℓ) (g : Dev Cert.RPoolWIdeal.nD → PrngReg), Pre_RPoolWIdeal m →
    θ_run (Cert.RPoolWIdeal.defs (F := Ideal)) (onTc (τ := Cert.RPoolWIdeal.τ) (Cert.RPoolWIdeal.main (F := Ideal))) ⟨m, fun _ => 0, g⟩ (fun r => (∀ c : Dev Cert.RPoolWIdeal.nD,
      r.2.mem ((c.tc : Thread Cert.RPoolWIdeal.nD Cert.RPoolWIdeal.τ).loc Cert.RPoolWIdeal.main_arg0) = m ((c.tc : Thread Cert.RPoolWIdeal.nD Cert.RPoolWIdeal.τ).loc Cert.RPoolWIdeal.main_arg0)
      ∧ r.2.mem ((c.tc : Thread Cert.RPoolWIdeal.nD Cert.RPoolWIdeal.τ).loc Cert.RPoolWIdeal.main_arg1) = m ((c.tc : Thread Cert.RPoolWIdeal.nD Cert.RPoolWIdeal.τ).loc Cert.RPoolWIdeal.main_arg1)
      ∧ r.2.mem ((c.tc : Thread Cert.RPoolWIdeal.nD Cert.RPoolWIdeal.τ).loc Cert.RPoolWIdeal.main_arg2) = m ((c.tc : Thread Cert.RPoolWIdeal.nD Cert.RPoolWIdeal.τ).loc Cert.RPoolWIdeal.main_arg2)
      ∧ r.2.mem ((c.tc : Thread Cert.RPoolWIdeal.nD Cert.RPoolWIdeal.τ).loc Cert.RPoolWIdeal.main_arg3) = m ((c.tc : Thread Cert.RPoolWIdeal.nD Cert.RPoolWIdeal.τ).loc Cert.RPoolWIdeal.main_arg3))
      ∧ r.2.sem = fun _ => 0)

def quiescent_KProjIn [hKProjIn : Cert.KProjIn.Facts] : Prop :=
  ∀ (m : (ℓ : Loc Cert.KProjIn.nD Cert.KProjIn.τ Cert.KProjIn.sig) → Buf (Elt Bits) ℓ) (g : Dev Cert.KProjIn.nD → PrngReg), Pre_KProjIn m →
    θ_run (Cert.KProjIn.defs (F := Bits)) (onTc (τ := Cert.KProjIn.τ) (Cert.KProjIn.main (F := Bits))) ⟨m, fun _ => 0, g⟩ (fun r => (∀ c : Dev Cert.KProjIn.nD,
      r.2.mem ((c.tc : Thread Cert.KProjIn.nD Cert.KProjIn.τ).loc Cert.KProjIn.main_arg0) = m ((c.tc : Thread Cert.KProjIn.nD Cert.KProjIn.τ).loc Cert.KProjIn.main_arg0)
      ∧ r.2.mem ((c.tc : Thread Cert.KProjIn.nD Cert.KProjIn.τ).loc Cert.KProjIn.main_arg1) = m ((c.tc : Thread Cert.KProjIn.nD Cert.KProjIn.τ).loc Cert.KProjIn.main_arg1)
      ∧ r.2.mem ((c.tc : Thread Cert.KProjIn.nD Cert.KProjIn.τ).loc Cert.KProjIn.main_arg2) = m ((c.tc : Thread Cert.KProjIn.nD Cert.KProjIn.τ).loc Cert.KProjIn.main_arg2))
      ∧ r.2.sem = fun _ => 0)

def quiescent_KProjInIdeal [hKProjInIdeal : Cert.KProjInIdeal.Facts] : Prop :=
  ∀ (m : (ℓ : Loc Cert.KProjInIdeal.nD Cert.KProjInIdeal.τ Cert.KProjInIdeal.sig) → Buf (Elt Ideal) ℓ) (g : Dev Cert.KProjInIdeal.nD → PrngReg), Pre_KProjInIdeal m →
    θ_run (Cert.KProjInIdeal.defs (F := Ideal)) (onTc (τ := Cert.KProjInIdeal.τ) (Cert.KProjInIdeal.main (F := Ideal))) ⟨m, fun _ => 0, g⟩ (fun r => (∀ c : Dev Cert.KProjInIdeal.nD,
      r.2.mem ((c.tc : Thread Cert.KProjInIdeal.nD Cert.KProjInIdeal.τ).loc Cert.KProjInIdeal.main_arg0) = m ((c.tc : Thread Cert.KProjInIdeal.nD Cert.KProjInIdeal.τ).loc Cert.KProjInIdeal.main_arg0)
      ∧ r.2.mem ((c.tc : Thread Cert.KProjInIdeal.nD Cert.KProjInIdeal.τ).loc Cert.KProjInIdeal.main_arg1) = m ((c.tc : Thread Cert.KProjInIdeal.nD Cert.KProjInIdeal.τ).loc Cert.KProjInIdeal.main_arg1)
      ∧ r.2.mem ((c.tc : Thread Cert.KProjInIdeal.nD Cert.KProjInIdeal.τ).loc Cert.KProjInIdeal.main_arg2) = m ((c.tc : Thread Cert.KProjInIdeal.nD Cert.KProjInIdeal.τ).loc Cert.KProjInIdeal.main_arg2))
      ∧ r.2.sem = fun _ => 0)

def quiescent_RProjInIdeal [hRProjInIdeal : Cert.RProjInIdeal.Facts] : Prop :=
  ∀ (m : (ℓ : Loc Cert.RProjInIdeal.nD Cert.RProjInIdeal.τ Cert.RProjInIdeal.sig) → Buf (Elt Ideal) ℓ) (g : Dev Cert.RProjInIdeal.nD → PrngReg), Pre_RProjInIdeal m →
    θ_run (Cert.RProjInIdeal.defs (F := Ideal)) (onTc (τ := Cert.RProjInIdeal.τ) (Cert.RProjInIdeal.main (F := Ideal))) ⟨m, fun _ => 0, g⟩ (fun r => (∀ c : Dev Cert.RProjInIdeal.nD,
      r.2.mem ((c.tc : Thread Cert.RProjInIdeal.nD Cert.RProjInIdeal.τ).loc Cert.RProjInIdeal.main_arg0) = m ((c.tc : Thread Cert.RProjInIdeal.nD Cert.RProjInIdeal.τ).loc Cert.RProjInIdeal.main_arg0)
      ∧ r.2.mem ((c.tc : Thread Cert.RProjInIdeal.nD Cert.RProjInIdeal.τ).loc Cert.RProjInIdeal.main_arg1) = m ((c.tc : Thread Cert.RProjInIdeal.nD Cert.RProjInIdeal.τ).loc Cert.RProjInIdeal.main_arg1)
      ∧ r.2.mem ((c.tc : Thread Cert.RProjInIdeal.nD Cert.RProjInIdeal.τ).loc Cert.RProjInIdeal.main_arg2) = m ((c.tc : Thread Cert.RProjInIdeal.nD Cert.RProjInIdeal.τ).loc Cert.RProjInIdeal.main_arg2))
      ∧ r.2.sem = fun _ => 0)

def quiescent_KProjOut [hKProjOut : Cert.KProjOut.Facts] : Prop :=
  ∀ (m : (ℓ : Loc Cert.KProjOut.nD Cert.KProjOut.τ Cert.KProjOut.sig) → Buf (Elt Bits) ℓ) (g : Dev Cert.KProjOut.nD → PrngReg), Pre_KProjOut m →
    θ_run (Cert.KProjOut.defs (F := Bits)) (onTc (τ := Cert.KProjOut.τ) (Cert.KProjOut.main (F := Bits))) ⟨m, fun _ => 0, g⟩ (fun r => (∀ c : Dev Cert.KProjOut.nD,
      r.2.mem ((c.tc : Thread Cert.KProjOut.nD Cert.KProjOut.τ).loc Cert.KProjOut.main_arg0) = m ((c.tc : Thread Cert.KProjOut.nD Cert.KProjOut.τ).loc Cert.KProjOut.main_arg0)
      ∧ r.2.mem ((c.tc : Thread Cert.KProjOut.nD Cert.KProjOut.τ).loc Cert.KProjOut.main_arg1) = m ((c.tc : Thread Cert.KProjOut.nD Cert.KProjOut.τ).loc Cert.KProjOut.main_arg1)
      ∧ r.2.mem ((c.tc : Thread Cert.KProjOut.nD Cert.KProjOut.τ).loc Cert.KProjOut.main_arg2) = m ((c.tc : Thread Cert.KProjOut.nD Cert.KProjOut.τ).loc Cert.KProjOut.main_arg2)
      ∧ r.2.mem ((c.tc : Thread Cert.KProjOut.nD Cert.KProjOut.τ).loc Cert.KProjOut.main_arg3) = m ((c.tc : Thread Cert.KProjOut.nD Cert.KProjOut.τ).loc Cert.KProjOut.main_arg3)
      ∧ r.2.mem ((c.tc : Thread Cert.KProjOut.nD Cert.KProjOut.τ).loc Cert.KProjOut.main_arg4) = m ((c.tc : Thread Cert.KProjOut.nD Cert.KProjOut.τ).loc Cert.KProjOut.main_arg4))
      ∧ r.2.sem = fun _ => 0)

def quiescent_KProjOutIdeal [hKProjOutIdeal : Cert.KProjOutIdeal.Facts] : Prop :=
  ∀ (m : (ℓ : Loc Cert.KProjOutIdeal.nD Cert.KProjOutIdeal.τ Cert.KProjOutIdeal.sig) → Buf (Elt Ideal) ℓ) (g : Dev Cert.KProjOutIdeal.nD → PrngReg), Pre_KProjOutIdeal m →
    θ_run (Cert.KProjOutIdeal.defs (F := Ideal)) (onTc (τ := Cert.KProjOutIdeal.τ) (Cert.KProjOutIdeal.main (F := Ideal))) ⟨m, fun _ => 0, g⟩ (fun r => (∀ c : Dev Cert.KProjOutIdeal.nD,
      r.2.mem ((c.tc : Thread Cert.KProjOutIdeal.nD Cert.KProjOutIdeal.τ).loc Cert.KProjOutIdeal.main_arg0) = m ((c.tc : Thread Cert.KProjOutIdeal.nD Cert.KProjOutIdeal.τ).loc Cert.KProjOutIdeal.main_arg0)
      ∧ r.2.mem ((c.tc : Thread Cert.KProjOutIdeal.nD Cert.KProjOutIdeal.τ).loc Cert.KProjOutIdeal.main_arg1) = m ((c.tc : Thread Cert.KProjOutIdeal.nD Cert.KProjOutIdeal.τ).loc Cert.KProjOutIdeal.main_arg1)
      ∧ r.2.mem ((c.tc : Thread Cert.KProjOutIdeal.nD Cert.KProjOutIdeal.τ).loc Cert.KProjOutIdeal.main_arg2) = m ((c.tc : Thread Cert.KProjOutIdeal.nD Cert.KProjOutIdeal.τ).loc Cert.KProjOutIdeal.main_arg2)
      ∧ r.2.mem ((c.tc : Thread Cert.KProjOutIdeal.nD Cert.KProjOutIdeal.τ).loc Cert.KProjOutIdeal.main_arg3) = m ((c.tc : Thread Cert.KProjOutIdeal.nD Cert.KProjOutIdeal.τ).loc Cert.KProjOutIdeal.main_arg3)
      ∧ r.2.mem ((c.tc : Thread Cert.KProjOutIdeal.nD Cert.KProjOutIdeal.τ).loc Cert.KProjOutIdeal.main_arg4) = m ((c.tc : Thread Cert.KProjOutIdeal.nD Cert.KProjOutIdeal.τ).loc Cert.KProjOutIdeal.main_arg4))
      ∧ r.2.sem = fun _ => 0)

def quiescent_RProjOutIdeal [hRProjOutIdeal : Cert.RProjOutIdeal.Facts] : Prop :=
  ∀ (m : (ℓ : Loc Cert.RProjOutIdeal.nD Cert.RProjOutIdeal.τ Cert.RProjOutIdeal.sig) → Buf (Elt Ideal) ℓ) (g : Dev Cert.RProjOutIdeal.nD → PrngReg), Pre_RProjOutIdeal m →
    θ_run (Cert.RProjOutIdeal.defs (F := Ideal)) (onTc (τ := Cert.RProjOutIdeal.τ) (Cert.RProjOutIdeal.main (F := Ideal))) ⟨m, fun _ => 0, g⟩ (fun r => (∀ c : Dev Cert.RProjOutIdeal.nD,
      r.2.mem ((c.tc : Thread Cert.RProjOutIdeal.nD Cert.RProjOutIdeal.τ).loc Cert.RProjOutIdeal.main_arg0) = m ((c.tc : Thread Cert.RProjOutIdeal.nD Cert.RProjOutIdeal.τ).loc Cert.RProjOutIdeal.main_arg0)
      ∧ r.2.mem ((c.tc : Thread Cert.RProjOutIdeal.nD Cert.RProjOutIdeal.τ).loc Cert.RProjOutIdeal.main_arg1) = m ((c.tc : Thread Cert.RProjOutIdeal.nD Cert.RProjOutIdeal.τ).loc Cert.RProjOutIdeal.main_arg1)
      ∧ r.2.mem ((c.tc : Thread Cert.RProjOutIdeal.nD Cert.RProjOutIdeal.τ).loc Cert.RProjOutIdeal.main_arg2) = m ((c.tc : Thread Cert.RProjOutIdeal.nD Cert.RProjOutIdeal.τ).loc Cert.RProjOutIdeal.main_arg2)
      ∧ r.2.mem ((c.tc : Thread Cert.RProjOutIdeal.nD Cert.RProjOutIdeal.τ).loc Cert.RProjOutIdeal.main_arg3) = m ((c.tc : Thread Cert.RProjOutIdeal.nD Cert.RProjOutIdeal.τ).loc Cert.RProjOutIdeal.main_arg3)
      ∧ r.2.mem ((c.tc : Thread Cert.RProjOutIdeal.nD Cert.RProjOutIdeal.τ).loc Cert.RProjOutIdeal.main_arg4) = m ((c.tc : Thread Cert.RProjOutIdeal.nD Cert.RProjOutIdeal.τ).loc Cert.RProjOutIdeal.main_arg4))
      ∧ r.2.sem = fun _ => 0)

def quiescent_KOutW [hKOutW : Cert.KOutW.Facts] : Prop :=
  ∀ (m : (ℓ : Loc Cert.KOutW.nD Cert.KOutW.τ Cert.KOutW.sig) → Buf (Elt Bits) ℓ) (g : Dev Cert.KOutW.nD → PrngReg), Pre_KOutW m →
    θ_run (Cert.KOutW.defs (F := Bits)) (onTc (τ := Cert.KOutW.τ) (Cert.KOutW.main (F := Bits))) ⟨m, fun _ => 0, g⟩ (fun r => (∀ c : Dev Cert.KOutW.nD,
      r.2.mem ((c.tc : Thread Cert.KOutW.nD Cert.KOutW.τ).loc Cert.KOutW.main_arg0) = m ((c.tc : Thread Cert.KOutW.nD Cert.KOutW.τ).loc Cert.KOutW.main_arg0)
      ∧ r.2.mem ((c.tc : Thread Cert.KOutW.nD Cert.KOutW.τ).loc Cert.KOutW.main_arg1) = m ((c.tc : Thread Cert.KOutW.nD Cert.KOutW.τ).loc Cert.KOutW.main_arg1)
      ∧ r.2.mem ((c.tc : Thread Cert.KOutW.nD Cert.KOutW.τ).loc Cert.KOutW.main_arg2) = m ((c.tc : Thread Cert.KOutW.nD Cert.KOutW.τ).loc Cert.KOutW.main_arg2)
      ∧ r.2.mem ((c.tc : Thread Cert.KOutW.nD Cert.KOutW.τ).loc Cert.KOutW.main_arg3) = m ((c.tc : Thread Cert.KOutW.nD Cert.KOutW.τ).loc Cert.KOutW.main_arg3))
      ∧ r.2.sem = fun _ => 0)

def quiescent_KOutWIdeal [hKOutWIdeal : Cert.KOutWIdeal.Facts] : Prop :=
  ∀ (m : (ℓ : Loc Cert.KOutWIdeal.nD Cert.KOutWIdeal.τ Cert.KOutWIdeal.sig) → Buf (Elt Ideal) ℓ) (g : Dev Cert.KOutWIdeal.nD → PrngReg), Pre_KOutWIdeal m →
    θ_run (Cert.KOutWIdeal.defs (F := Ideal)) (onTc (τ := Cert.KOutWIdeal.τ) (Cert.KOutWIdeal.main (F := Ideal))) ⟨m, fun _ => 0, g⟩ (fun r => (∀ c : Dev Cert.KOutWIdeal.nD,
      r.2.mem ((c.tc : Thread Cert.KOutWIdeal.nD Cert.KOutWIdeal.τ).loc Cert.KOutWIdeal.main_arg0) = m ((c.tc : Thread Cert.KOutWIdeal.nD Cert.KOutWIdeal.τ).loc Cert.KOutWIdeal.main_arg0)
      ∧ r.2.mem ((c.tc : Thread Cert.KOutWIdeal.nD Cert.KOutWIdeal.τ).loc Cert.KOutWIdeal.main_arg1) = m ((c.tc : Thread Cert.KOutWIdeal.nD Cert.KOutWIdeal.τ).loc Cert.KOutWIdeal.main_arg1)
      ∧ r.2.mem ((c.tc : Thread Cert.KOutWIdeal.nD Cert.KOutWIdeal.τ).loc Cert.KOutWIdeal.main_arg2) = m ((c.tc : Thread Cert.KOutWIdeal.nD Cert.KOutWIdeal.τ).loc Cert.KOutWIdeal.main_arg2)
      ∧ r.2.mem ((c.tc : Thread Cert.KOutWIdeal.nD Cert.KOutWIdeal.τ).loc Cert.KOutWIdeal.main_arg3) = m ((c.tc : Thread Cert.KOutWIdeal.nD Cert.KOutWIdeal.τ).loc Cert.KOutWIdeal.main_arg3))
      ∧ r.2.sem = fun _ => 0)

def quiescent_ROutWIdeal [hROutWIdeal : Cert.ROutWIdeal.Facts] : Prop :=
  ∀ (m : (ℓ : Loc Cert.ROutWIdeal.nD Cert.ROutWIdeal.τ Cert.ROutWIdeal.sig) → Buf (Elt Ideal) ℓ) (g : Dev Cert.ROutWIdeal.nD → PrngReg), Pre_ROutWIdeal m →
    θ_run (Cert.ROutWIdeal.defs (F := Ideal)) (onTc (τ := Cert.ROutWIdeal.τ) (Cert.ROutWIdeal.main (F := Ideal))) ⟨m, fun _ => 0, g⟩ (fun r => (∀ c : Dev Cert.ROutWIdeal.nD,
      r.2.mem ((c.tc : Thread Cert.ROutWIdeal.nD Cert.ROutWIdeal.τ).loc Cert.ROutWIdeal.main_arg0) = m ((c.tc : Thread Cert.ROutWIdeal.nD Cert.ROutWIdeal.τ).loc Cert.ROutWIdeal.main_arg0)
      ∧ r.2.mem ((c.tc : Thread Cert.ROutWIdeal.nD Cert.ROutWIdeal.τ).loc Cert.ROutWIdeal.main_arg1) = m ((c.tc : Thread Cert.ROutWIdeal.nD Cert.ROutWIdeal.τ).loc Cert.ROutWIdeal.main_arg1)
      ∧ r.2.mem ((c.tc : Thread Cert.ROutWIdeal.nD Cert.ROutWIdeal.τ).loc Cert.ROutWIdeal.main_arg2) = m ((c.tc : Thread Cert.ROutWIdeal.nD Cert.ROutWIdeal.τ).loc Cert.ROutWIdeal.main_arg2)
      ∧ r.2.mem ((c.tc : Thread Cert.ROutWIdeal.nD Cert.ROutWIdeal.τ).loc Cert.ROutWIdeal.main_arg3) = m ((c.tc : Thread Cert.ROutWIdeal.nD Cert.ROutWIdeal.τ).loc Cert.ROutWIdeal.main_arg3))
      ∧ r.2.sem = fun _ => 0)

def quiescent_KInW [hKInW : Cert.KInW.Facts] : Prop :=
  ∀ (m : (ℓ : Loc Cert.KInW.nD Cert.KInW.τ Cert.KInW.sig) → Buf (Elt Bits) ℓ) (g : Dev Cert.KInW.nD → PrngReg), Pre_KInW m →
    θ_run (Cert.KInW.defs (F := Bits)) (onTc (τ := Cert.KInW.τ) (Cert.KInW.main (F := Bits))) ⟨m, fun _ => 0, g⟩ (fun r => (∀ c : Dev Cert.KInW.nD,
      r.2.mem ((c.tc : Thread Cert.KInW.nD Cert.KInW.τ).loc Cert.KInW.main_arg0) = m ((c.tc : Thread Cert.KInW.nD Cert.KInW.τ).loc Cert.KInW.main_arg0)
      ∧ r.2.mem ((c.tc : Thread Cert.KInW.nD Cert.KInW.τ).loc Cert.KInW.main_arg1) = m ((c.tc : Thread Cert.KInW.nD Cert.KInW.τ).loc Cert.KInW.main_arg1)
      ∧ r.2.mem ((c.tc : Thread Cert.KInW.nD Cert.KInW.τ).loc Cert.KInW.main_arg2) = m ((c.tc : Thread Cert.KInW.nD Cert.KInW.τ).loc Cert.KInW.main_arg2)
      ∧ r.2.mem ((c.tc : Thread Cert.KInW.nD Cert.KInW.τ).loc Cert.KInW.main_arg3) = m ((c.tc : Thread Cert.KInW.nD Cert.KInW.τ).loc Cert.KInW.main_arg3))
      ∧ r.2.sem = fun _ => 0)

def quiescent_KInWIdeal [hKInWIdeal : Cert.KInWIdeal.Facts] : Prop :=
  ∀ (m : (ℓ : Loc Cert.KInWIdeal.nD Cert.KInWIdeal.τ Cert.KInWIdeal.sig) → Buf (Elt Ideal) ℓ) (g : Dev Cert.KInWIdeal.nD → PrngReg), Pre_KInWIdeal m →
    θ_run (Cert.KInWIdeal.defs (F := Ideal)) (onTc (τ := Cert.KInWIdeal.τ) (Cert.KInWIdeal.main (F := Ideal))) ⟨m, fun _ => 0, g⟩ (fun r => (∀ c : Dev Cert.KInWIdeal.nD,
      r.2.mem ((c.tc : Thread Cert.KInWIdeal.nD Cert.KInWIdeal.τ).loc Cert.KInWIdeal.main_arg0) = m ((c.tc : Thread Cert.KInWIdeal.nD Cert.KInWIdeal.τ).loc Cert.KInWIdeal.main_arg0)
      ∧ r.2.mem ((c.tc : Thread Cert.KInWIdeal.nD Cert.KInWIdeal.τ).loc Cert.KInWIdeal.main_arg1) = m ((c.tc : Thread Cert.KInWIdeal.nD Cert.KInWIdeal.τ).loc Cert.KInWIdeal.main_arg1)
      ∧ r.2.mem ((c.tc : Thread Cert.KInWIdeal.nD Cert.KInWIdeal.τ).loc Cert.KInWIdeal.main_arg2) = m ((c.tc : Thread Cert.KInWIdeal.nD Cert.KInWIdeal.τ).loc Cert.KInWIdeal.main_arg2)
      ∧ r.2.mem ((c.tc : Thread Cert.KInWIdeal.nD Cert.KInWIdeal.τ).loc Cert.KInWIdeal.main_arg3) = m ((c.tc : Thread Cert.KInWIdeal.nD Cert.KInWIdeal.τ).loc Cert.KInWIdeal.main_arg3))
      ∧ r.2.sem = fun _ => 0)

def quiescent_RInWIdeal [hRInWIdeal : Cert.RInWIdeal.Facts] : Prop :=
  ∀ (m : (ℓ : Loc Cert.RInWIdeal.nD Cert.RInWIdeal.τ Cert.RInWIdeal.sig) → Buf (Elt Ideal) ℓ) (g : Dev Cert.RInWIdeal.nD → PrngReg), Pre_RInWIdeal m →
    θ_run (Cert.RInWIdeal.defs (F := Ideal)) (onTc (τ := Cert.RInWIdeal.τ) (Cert.RInWIdeal.main (F := Ideal))) ⟨m, fun _ => 0, g⟩ (fun r => (∀ c : Dev Cert.RInWIdeal.nD,
      r.2.mem ((c.tc : Thread Cert.RInWIdeal.nD Cert.RInWIdeal.τ).loc Cert.RInWIdeal.main_arg0) = m ((c.tc : Thread Cert.RInWIdeal.nD Cert.RInWIdeal.τ).loc Cert.RInWIdeal.main_arg0)
      ∧ r.2.mem ((c.tc : Thread Cert.RInWIdeal.nD Cert.RInWIdeal.τ).loc Cert.RInWIdeal.main_arg1) = m ((c.tc : Thread Cert.RInWIdeal.nD Cert.RInWIdeal.τ).loc Cert.RInWIdeal.main_arg1)
      ∧ r.2.mem ((c.tc : Thread Cert.RInWIdeal.nD Cert.RInWIdeal.τ).loc Cert.RInWIdeal.main_arg2) = m ((c.tc : Thread Cert.RInWIdeal.nD Cert.RInWIdeal.τ).loc Cert.RInWIdeal.main_arg2)
      ∧ r.2.mem ((c.tc : Thread Cert.RInWIdeal.nD Cert.RInWIdeal.τ).loc Cert.RInWIdeal.main_arg3) = m ((c.tc : Thread Cert.RInWIdeal.nD Cert.RInWIdeal.τ).loc Cert.RInWIdeal.main_arg3))
      ∧ r.2.sem = fun _ => 0)

def quiescent_KInH [hKInH : Cert.KInH.Facts] : Prop :=
  ∀ (m : (ℓ : Loc Cert.KInH.nD Cert.KInH.τ Cert.KInH.sig) → Buf (Elt Bits) ℓ) (g : Dev Cert.KInH.nD → PrngReg), Pre_KInH m →
    θ_run (Cert.KInH.defs (F := Bits)) (onTc (τ := Cert.KInH.τ) (Cert.KInH.main (F := Bits))) ⟨m, fun _ => 0, g⟩ (fun r => (∀ c : Dev Cert.KInH.nD,
      r.2.mem ((c.tc : Thread Cert.KInH.nD Cert.KInH.τ).loc Cert.KInH.main_arg0) = m ((c.tc : Thread Cert.KInH.nD Cert.KInH.τ).loc Cert.KInH.main_arg0)
      ∧ r.2.mem ((c.tc : Thread Cert.KInH.nD Cert.KInH.τ).loc Cert.KInH.main_arg1) = m ((c.tc : Thread Cert.KInH.nD Cert.KInH.τ).loc Cert.KInH.main_arg1)
      ∧ r.2.mem ((c.tc : Thread Cert.KInH.nD Cert.KInH.τ).loc Cert.KInH.main_arg2) = m ((c.tc : Thread Cert.KInH.nD Cert.KInH.τ).loc Cert.KInH.main_arg2)
      ∧ r.2.mem ((c.tc : Thread Cert.KInH.nD Cert.KInH.τ).loc Cert.KInH.main_arg3) = m ((c.tc : Thread Cert.KInH.nD Cert.KInH.τ).loc Cert.KInH.main_arg3))
      ∧ r.2.sem = fun _ => 0)

def quiescent_KInHIdeal [hKInHIdeal : Cert.KInHIdeal.Facts] : Prop :=
  ∀ (m : (ℓ : Loc Cert.KInHIdeal.nD Cert.KInHIdeal.τ Cert.KInHIdeal.sig) → Buf (Elt Ideal) ℓ) (g : Dev Cert.KInHIdeal.nD → PrngReg), Pre_KInHIdeal m →
    θ_run (Cert.KInHIdeal.defs (F := Ideal)) (onTc (τ := Cert.KInHIdeal.τ) (Cert.KInHIdeal.main (F := Ideal))) ⟨m, fun _ => 0, g⟩ (fun r => (∀ c : Dev Cert.KInHIdeal.nD,
      r.2.mem ((c.tc : Thread Cert.KInHIdeal.nD Cert.KInHIdeal.τ).loc Cert.KInHIdeal.main_arg0) = m ((c.tc : Thread Cert.KInHIdeal.nD Cert.KInHIdeal.τ).loc Cert.KInHIdeal.main_arg0)
      ∧ r.2.mem ((c.tc : Thread Cert.KInHIdeal.nD Cert.KInHIdeal.τ).loc Cert.KInHIdeal.main_arg1) = m ((c.tc : Thread Cert.KInHIdeal.nD Cert.KInHIdeal.τ).loc Cert.KInHIdeal.main_arg1)
      ∧ r.2.mem ((c.tc : Thread Cert.KInHIdeal.nD Cert.KInHIdeal.τ).loc Cert.KInHIdeal.main_arg2) = m ((c.tc : Thread Cert.KInHIdeal.nD Cert.KInHIdeal.τ).loc Cert.KInHIdeal.main_arg2)
      ∧ r.2.mem ((c.tc : Thread Cert.KInHIdeal.nD Cert.KInHIdeal.τ).loc Cert.KInHIdeal.main_arg3) = m ((c.tc : Thread Cert.KInHIdeal.nD Cert.KInHIdeal.τ).loc Cert.KInHIdeal.main_arg3))
      ∧ r.2.sem = fun _ => 0)

def quiescent_RInHIdeal [hRInHIdeal : Cert.RInHIdeal.Facts] : Prop :=
  ∀ (m : (ℓ : Loc Cert.RInHIdeal.nD Cert.RInHIdeal.τ Cert.RInHIdeal.sig) → Buf (Elt Ideal) ℓ) (g : Dev Cert.RInHIdeal.nD → PrngReg), Pre_RInHIdeal m →
    θ_run (Cert.RInHIdeal.defs (F := Ideal)) (onTc (τ := Cert.RInHIdeal.τ) (Cert.RInHIdeal.main (F := Ideal))) ⟨m, fun _ => 0, g⟩ (fun r => (∀ c : Dev Cert.RInHIdeal.nD,
      r.2.mem ((c.tc : Thread Cert.RInHIdeal.nD Cert.RInHIdeal.τ).loc Cert.RInHIdeal.main_arg0) = m ((c.tc : Thread Cert.RInHIdeal.nD Cert.RInHIdeal.τ).loc Cert.RInHIdeal.main_arg0)
      ∧ r.2.mem ((c.tc : Thread Cert.RInHIdeal.nD Cert.RInHIdeal.τ).loc Cert.RInHIdeal.main_arg1) = m ((c.tc : Thread Cert.RInHIdeal.nD Cert.RInHIdeal.τ).loc Cert.RInHIdeal.main_arg1)
      ∧ r.2.mem ((c.tc : Thread Cert.RInHIdeal.nD Cert.RInHIdeal.τ).loc Cert.RInHIdeal.main_arg2) = m ((c.tc : Thread Cert.RInHIdeal.nD Cert.RInHIdeal.τ).loc Cert.RInHIdeal.main_arg2)
      ∧ r.2.mem ((c.tc : Thread Cert.RInHIdeal.nD Cert.RInHIdeal.τ).loc Cert.RInHIdeal.main_arg3) = m ((c.tc : Thread Cert.RInHIdeal.nD Cert.RInHIdeal.τ).loc Cert.RInHIdeal.main_arg3))
      ∧ r.2.sem = fun _ => 0)

def quiescent_KDown [hKDown : Cert.KDown.Facts] : Prop :=
  ∀ (m : (ℓ : Loc Cert.KDown.nD Cert.KDown.τ Cert.KDown.sig) → Buf (Elt Bits) ℓ) (g : Dev Cert.KDown.nD → PrngReg), Pre_KDown m →
    θ_run (Cert.KDown.defs (F := Bits)) (onTc (τ := Cert.KDown.τ) (Cert.KDown.main (F := Bits))) ⟨m, fun _ => 0, g⟩ (fun r => (∀ c : Dev Cert.KDown.nD,
      r.2.mem ((c.tc : Thread Cert.KDown.nD Cert.KDown.τ).loc Cert.KDown.main_arg0) = m ((c.tc : Thread Cert.KDown.nD Cert.KDown.τ).loc Cert.KDown.main_arg0)
      ∧ r.2.mem ((c.tc : Thread Cert.KDown.nD Cert.KDown.τ).loc Cert.KDown.main_arg1) = m ((c.tc : Thread Cert.KDown.nD Cert.KDown.τ).loc Cert.KDown.main_arg1)
      ∧ r.2.mem ((c.tc : Thread Cert.KDown.nD Cert.KDown.τ).loc Cert.KDown.main_arg2) = m ((c.tc : Thread Cert.KDown.nD Cert.KDown.τ).loc Cert.KDown.main_arg2)
      ∧ r.2.mem ((c.tc : Thread Cert.KDown.nD Cert.KDown.τ).loc Cert.KDown.main_arg3) = m ((c.tc : Thread Cert.KDown.nD Cert.KDown.τ).loc Cert.KDown.main_arg3)
      ∧ r.2.mem ((c.tc : Thread Cert.KDown.nD Cert.KDown.τ).loc Cert.KDown.main_arg4) = m ((c.tc : Thread Cert.KDown.nD Cert.KDown.τ).loc Cert.KDown.main_arg4))
      ∧ r.2.sem = fun _ => 0)

def quiescent_KDownIdeal [hKDownIdeal : Cert.KDownIdeal.Facts] : Prop :=
  ∀ (m : (ℓ : Loc Cert.KDownIdeal.nD Cert.KDownIdeal.τ Cert.KDownIdeal.sig) → Buf (Elt Ideal) ℓ) (g : Dev Cert.KDownIdeal.nD → PrngReg), Pre_KDownIdeal m →
    θ_run (Cert.KDownIdeal.defs (F := Ideal)) (onTc (τ := Cert.KDownIdeal.τ) (Cert.KDownIdeal.main (F := Ideal))) ⟨m, fun _ => 0, g⟩ (fun r => (∀ c : Dev Cert.KDownIdeal.nD,
      r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
      ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
      ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
      ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3)
      ∧ r.2.mem ((c.tc : Thread Cert.KDownIdeal.nD Cert.KDownIdeal.τ).loc Cert.KDownIdeal.main_arg4) = m ((c.tc : Thread Cert.KDownIdeal.nD Cert.KDownIdeal.τ).loc Cert.KDownIdeal.main_arg4))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3)
      ∧ r.2.mem ((c.tc : Thread Cert.RDownIdeal.nD Cert.RDownIdeal.τ).loc Cert.RDownIdeal.main_arg4) = m ((c.tc : Thread Cert.RDownIdeal.nD Cert.RDownIdeal.τ).loc Cert.RDownIdeal.main_arg4))
      ∧ r.2.sem = fun _ => 0)

def quiescent_KBwdWd [hKBwdWd : Cert.KBwdWd.Facts] : Prop :=
  ∀ (m : (ℓ : Loc Cert.KBwdWd.nD Cert.KBwdWd.τ Cert.KBwdWd.sig) → Buf (Elt Bits) ℓ) (g : Dev Cert.KBwdWd.nD → PrngReg), Pre_KBwdWd m →
    θ_run (Cert.KBwdWd.defs (F := Bits)) (onTc (τ := Cert.KBwdWd.τ) (Cert.KBwdWd.main (F := Bits))) ⟨m, fun _ => 0, g⟩ (fun r => (∀ c : Dev Cert.KBwdWd.nD,
      r.2.mem ((c.tc : Thread Cert.KBwdWd.nD Cert.KBwdWd.τ).loc Cert.KBwdWd.main_arg0) = m ((c.tc : Thread Cert.KBwdWd.nD Cert.KBwdWd.τ).loc Cert.KBwdWd.main_arg0)
      ∧ r.2.mem ((c.tc : Thread Cert.KBwdWd.nD Cert.KBwdWd.τ).loc Cert.KBwdWd.main_arg1) = m ((c.tc : Thread Cert.KBwdWd.nD Cert.KBwdWd.τ).loc Cert.KBwdWd.main_arg1)
      ∧ r.2.mem ((c.tc : Thread Cert.KBwdWd.nD Cert.KBwdWd.τ).loc Cert.KBwdWd.main_arg2) = m ((c.tc : Thread Cert.KBwdWd.nD Cert.KBwdWd.τ).loc Cert.KBwdWd.main_arg2)
      ∧ r.2.mem ((c.tc : Thread Cert.KBwdWd.nD Cert.KBwdWd.τ).loc Cert.KBwdWd.main_arg3) = m ((c.tc : Thread Cert.KBwdWd.nD Cert.KBwdWd.τ).loc Cert.KBwdWd.main_arg3))
      ∧ r.2.sem = fun _ => 0)

def quiescent_KBwdWdIdeal [hKBwdWdIdeal : Cert.KBwdWdIdeal.Facts] : Prop :=
  ∀ (m : (ℓ : Loc Cert.KBwdWdIdeal.nD Cert.KBwdWdIdeal.τ Cert.KBwdWdIdeal.sig) → Buf (Elt Ideal) ℓ) (g : Dev Cert.KBwdWdIdeal.nD → PrngReg), Pre_KBwdWdIdeal m →
    θ_run (Cert.KBwdWdIdeal.defs (F := Ideal)) (onTc (τ := Cert.KBwdWdIdeal.τ) (Cert.KBwdWdIdeal.main (F := Ideal))) ⟨m, fun _ => 0, g⟩ (fun r => (∀ c : Dev Cert.KBwdWdIdeal.nD,
      r.2.mem ((c.tc : Thread Cert.KBwdWdIdeal.nD Cert.KBwdWdIdeal.τ).loc Cert.KBwdWdIdeal.main_arg0) = m ((c.tc : Thread Cert.KBwdWdIdeal.nD Cert.KBwdWdIdeal.τ).loc Cert.KBwdWdIdeal.main_arg0)
      ∧ r.2.mem ((c.tc : Thread Cert.KBwdWdIdeal.nD Cert.KBwdWdIdeal.τ).loc Cert.KBwdWdIdeal.main_arg1) = m ((c.tc : Thread Cert.KBwdWdIdeal.nD Cert.KBwdWdIdeal.τ).loc Cert.KBwdWdIdeal.main_arg1)
      ∧ r.2.mem ((c.tc : Thread Cert.KBwdWdIdeal.nD Cert.KBwdWdIdeal.τ).loc Cert.KBwdWdIdeal.main_arg2) = m ((c.tc : Thread Cert.KBwdWdIdeal.nD Cert.KBwdWdIdeal.τ).loc Cert.KBwdWdIdeal.main_arg2)
      ∧ r.2.mem ((c.tc : Thread Cert.KBwdWdIdeal.nD Cert.KBwdWdIdeal.τ).loc Cert.KBwdWdIdeal.main_arg3) = m ((c.tc : Thread Cert.KBwdWdIdeal.nD Cert.KBwdWdIdeal.τ).loc Cert.KBwdWdIdeal.main_arg3))
      ∧ r.2.sem = fun _ => 0)

def quiescent_RBwdWdIdeal [hRBwdWdIdeal : Cert.RBwdWdIdeal.Facts] : Prop :=
  ∀ (m : (ℓ : Loc Cert.RBwdWdIdeal.nD Cert.RBwdWdIdeal.τ Cert.RBwdWdIdeal.sig) → Buf (Elt Ideal) ℓ) (g : Dev Cert.RBwdWdIdeal.nD → PrngReg), Pre_RBwdWdIdeal m →
    θ_run (Cert.RBwdWdIdeal.defs (F := Ideal)) (onTc (τ := Cert.RBwdWdIdeal.τ) (Cert.RBwdWdIdeal.main (F := Ideal))) ⟨m, fun _ => 0, g⟩ (fun r => (∀ c : Dev Cert.RBwdWdIdeal.nD,
      r.2.mem ((c.tc : Thread Cert.RBwdWdIdeal.nD Cert.RBwdWdIdeal.τ).loc Cert.RBwdWdIdeal.main_arg0) = m ((c.tc : Thread Cert.RBwdWdIdeal.nD Cert.RBwdWdIdeal.τ).loc Cert.RBwdWdIdeal.main_arg0)
      ∧ r.2.mem ((c.tc : Thread Cert.RBwdWdIdeal.nD Cert.RBwdWdIdeal.τ).loc Cert.RBwdWdIdeal.main_arg1) = m ((c.tc : Thread Cert.RBwdWdIdeal.nD Cert.RBwdWdIdeal.τ).loc Cert.RBwdWdIdeal.main_arg1)
      ∧ r.2.mem ((c.tc : Thread Cert.RBwdWdIdeal.nD Cert.RBwdWdIdeal.τ).loc Cert.RBwdWdIdeal.main_arg2) = m ((c.tc : Thread Cert.RBwdWdIdeal.nD Cert.RBwdWdIdeal.τ).loc Cert.RBwdWdIdeal.main_arg2)
      ∧ r.2.mem ((c.tc : Thread Cert.RBwdWdIdeal.nD Cert.RBwdWdIdeal.τ).loc Cert.RBwdWdIdeal.main_arg3) = m ((c.tc : Thread Cert.RBwdWdIdeal.nD Cert.RBwdWdIdeal.τ).loc Cert.RBwdWdIdeal.main_arg3))
      ∧ r.2.sem = fun _ => 0)

def quiescent_KBwdWgu [hKBwdWgu : Cert.KBwdWgu.Facts] : Prop :=
  ∀ (m : (ℓ : Loc Cert.KBwdWgu.nD Cert.KBwdWgu.τ Cert.KBwdWgu.sig) → Buf (Elt Bits) ℓ) (g : Dev Cert.KBwdWgu.nD → PrngReg), Pre_KBwdWgu m →
    θ_run (Cert.KBwdWgu.defs (F := Bits)) (onTc (τ := Cert.KBwdWgu.τ) (Cert.KBwdWgu.main (F := Bits))) ⟨m, fun _ => 0, g⟩ (fun r => (∀ c : Dev Cert.KBwdWgu.nD,
      r.2.mem ((c.tc : Thread Cert.KBwdWgu.nD Cert.KBwdWgu.τ).loc Cert.KBwdWgu.main_arg0) = m ((c.tc : Thread Cert.KBwdWgu.nD Cert.KBwdWgu.τ).loc Cert.KBwdWgu.main_arg0)
      ∧ r.2.mem ((c.tc : Thread Cert.KBwdWgu.nD Cert.KBwdWgu.τ).loc Cert.KBwdWgu.main_arg1) = m ((c.tc : Thread Cert.KBwdWgu.nD Cert.KBwdWgu.τ).loc Cert.KBwdWgu.main_arg1)
      ∧ r.2.mem ((c.tc : Thread Cert.KBwdWgu.nD Cert.KBwdWgu.τ).loc Cert.KBwdWgu.main_arg2) = m ((c.tc : Thread Cert.KBwdWgu.nD Cert.KBwdWgu.τ).loc Cert.KBwdWgu.main_arg2)
      ∧ r.2.mem ((c.tc : Thread Cert.KBwdWgu.nD Cert.KBwdWgu.τ).loc Cert.KBwdWgu.main_arg3) = m ((c.tc : Thread Cert.KBwdWgu.nD Cert.KBwdWgu.τ).loc Cert.KBwdWgu.main_arg3))
      ∧ r.2.sem = fun _ => 0)

def quiescent_KBwdWguIdeal [hKBwdWguIdeal : Cert.KBwdWguIdeal.Facts] : Prop :=
  ∀ (m : (ℓ : Loc Cert.KBwdWguIdeal.nD Cert.KBwdWguIdeal.τ Cert.KBwdWguIdeal.sig) → Buf (Elt Ideal) ℓ) (g : Dev Cert.KBwdWguIdeal.nD → PrngReg), Pre_KBwdWguIdeal m →
    θ_run (Cert.KBwdWguIdeal.defs (F := Ideal)) (onTc (τ := Cert.KBwdWguIdeal.τ) (Cert.KBwdWguIdeal.main (F := Ideal))) ⟨m, fun _ => 0, g⟩ (fun r => (∀ c : Dev Cert.KBwdWguIdeal.nD,
      r.2.mem ((c.tc : Thread Cert.KBwdWguIdeal.nD Cert.KBwdWguIdeal.τ).loc Cert.KBwdWguIdeal.main_arg0) = m ((c.tc : Thread Cert.KBwdWguIdeal.nD Cert.KBwdWguIdeal.τ).loc Cert.KBwdWguIdeal.main_arg0)
      ∧ r.2.mem ((c.tc : Thread Cert.KBwdWguIdeal.nD Cert.KBwdWguIdeal.τ).loc Cert.KBwdWguIdeal.main_arg1) = m ((c.tc : Thread Cert.KBwdWguIdeal.nD Cert.KBwdWguIdeal.τ).loc Cert.KBwdWguIdeal.main_arg1)
      ∧ r.2.mem ((c.tc : Thread Cert.KBwdWguIdeal.nD Cert.KBwdWguIdeal.τ).loc Cert.KBwdWguIdeal.main_arg2) = m ((c.tc : Thread Cert.KBwdWguIdeal.nD Cert.KBwdWguIdeal.τ).loc Cert.KBwdWguIdeal.main_arg2)
      ∧ r.2.mem ((c.tc : Thread Cert.KBwdWguIdeal.nD Cert.KBwdWguIdeal.τ).loc Cert.KBwdWguIdeal.main_arg3) = m ((c.tc : Thread Cert.KBwdWguIdeal.nD Cert.KBwdWguIdeal.τ).loc Cert.KBwdWguIdeal.main_arg3))
      ∧ r.2.sem = fun _ => 0)

def quiescent_RBwdWguIdeal [hRBwdWguIdeal : Cert.RBwdWguIdeal.Facts] : Prop :=
  ∀ (m : (ℓ : Loc Cert.RBwdWguIdeal.nD Cert.RBwdWguIdeal.τ Cert.RBwdWguIdeal.sig) → Buf (Elt Ideal) ℓ) (g : Dev Cert.RBwdWguIdeal.nD → PrngReg), Pre_RBwdWguIdeal m →
    θ_run (Cert.RBwdWguIdeal.defs (F := Ideal)) (onTc (τ := Cert.RBwdWguIdeal.τ) (Cert.RBwdWguIdeal.main (F := Ideal))) ⟨m, fun _ => 0, g⟩ (fun r => (∀ c : Dev Cert.RBwdWguIdeal.nD,
      r.2.mem ((c.tc : Thread Cert.RBwdWguIdeal.nD Cert.RBwdWguIdeal.τ).loc Cert.RBwdWguIdeal.main_arg0) = m ((c.tc : Thread Cert.RBwdWguIdeal.nD Cert.RBwdWguIdeal.τ).loc Cert.RBwdWguIdeal.main_arg0)
      ∧ r.2.mem ((c.tc : Thread Cert.RBwdWguIdeal.nD Cert.RBwdWguIdeal.τ).loc Cert.RBwdWguIdeal.main_arg1) = m ((c.tc : Thread Cert.RBwdWguIdeal.nD Cert.RBwdWguIdeal.τ).loc Cert.RBwdWguIdeal.main_arg1)
      ∧ r.2.mem ((c.tc : Thread Cert.RBwdWguIdeal.nD Cert.RBwdWguIdeal.τ).loc Cert.RBwdWguIdeal.main_arg2) = m ((c.tc : Thread Cert.RBwdWguIdeal.nD Cert.RBwdWguIdeal.τ).loc Cert.RBwdWguIdeal.main_arg2)
      ∧ r.2.mem ((c.tc : Thread Cert.RBwdWguIdeal.nD Cert.RBwdWguIdeal.τ).loc Cert.RBwdWguIdeal.main_arg3) = m ((c.tc : Thread Cert.RBwdWguIdeal.nD Cert.RBwdWguIdeal.τ).loc Cert.RBwdWguIdeal.main_arg3))
      ∧ r.2.sem = fun _ => 0)

def quiescent_KBwdDh [hKBwdDh : Cert.KBwdDh.Facts] : Prop :=
  ∀ (m : (ℓ : Loc Cert.KBwdDh.nD Cert.KBwdDh.τ Cert.KBwdDh.sig) → Buf (Elt Bits) ℓ) (g : Dev Cert.KBwdDh.nD → PrngReg), Pre_KBwdDh m →
    θ_run (Cert.KBwdDh.defs (F := Bits)) (onTc (τ := Cert.KBwdDh.τ) (Cert.KBwdDh.main (F := Bits))) ⟨m, fun _ => 0, g⟩ (fun r => (∀ c : Dev Cert.KBwdDh.nD,
      r.2.mem ((c.tc : Thread Cert.KBwdDh.nD Cert.KBwdDh.τ).loc Cert.KBwdDh.main_arg0) = m ((c.tc : Thread Cert.KBwdDh.nD Cert.KBwdDh.τ).loc Cert.KBwdDh.main_arg0)
      ∧ r.2.mem ((c.tc : Thread Cert.KBwdDh.nD Cert.KBwdDh.τ).loc Cert.KBwdDh.main_arg1) = m ((c.tc : Thread Cert.KBwdDh.nD Cert.KBwdDh.τ).loc Cert.KBwdDh.main_arg1)
      ∧ r.2.mem ((c.tc : Thread Cert.KBwdDh.nD Cert.KBwdDh.τ).loc Cert.KBwdDh.main_arg2) = m ((c.tc : Thread Cert.KBwdDh.nD Cert.KBwdDh.τ).loc Cert.KBwdDh.main_arg2)
      ∧ r.2.mem ((c.tc : Thread Cert.KBwdDh.nD Cert.KBwdDh.τ).loc Cert.KBwdDh.main_arg3) = m ((c.tc : Thread Cert.KBwdDh.nD Cert.KBwdDh.τ).loc Cert.KBwdDh.main_arg3))
      ∧ r.2.sem = fun _ => 0)

def quiescent_KBwdDhIdeal [hKBwdDhIdeal : Cert.KBwdDhIdeal.Facts] : Prop :=
  ∀ (m : (ℓ : Loc Cert.KBwdDhIdeal.nD Cert.KBwdDhIdeal.τ Cert.KBwdDhIdeal.sig) → Buf (Elt Ideal) ℓ) (g : Dev Cert.KBwdDhIdeal.nD → PrngReg), Pre_KBwdDhIdeal m →
    θ_run (Cert.KBwdDhIdeal.defs (F := Ideal)) (onTc (τ := Cert.KBwdDhIdeal.τ) (Cert.KBwdDhIdeal.main (F := Ideal))) ⟨m, fun _ => 0, g⟩ (fun r => (∀ c : Dev Cert.KBwdDhIdeal.nD,
      r.2.mem ((c.tc : Thread Cert.KBwdDhIdeal.nD Cert.KBwdDhIdeal.τ).loc Cert.KBwdDhIdeal.main_arg0) = m ((c.tc : Thread Cert.KBwdDhIdeal.nD Cert.KBwdDhIdeal.τ).loc Cert.KBwdDhIdeal.main_arg0)
      ∧ r.2.mem ((c.tc : Thread Cert.KBwdDhIdeal.nD Cert.KBwdDhIdeal.τ).loc Cert.KBwdDhIdeal.main_arg1) = m ((c.tc : Thread Cert.KBwdDhIdeal.nD Cert.KBwdDhIdeal.τ).loc Cert.KBwdDhIdeal.main_arg1)
      ∧ r.2.mem ((c.tc : Thread Cert.KBwdDhIdeal.nD Cert.KBwdDhIdeal.τ).loc Cert.KBwdDhIdeal.main_arg2) = m ((c.tc : Thread Cert.KBwdDhIdeal.nD Cert.KBwdDhIdeal.τ).loc Cert.KBwdDhIdeal.main_arg2)
      ∧ r.2.mem ((c.tc : Thread Cert.KBwdDhIdeal.nD Cert.KBwdDhIdeal.τ).loc Cert.KBwdDhIdeal.main_arg3) = m ((c.tc : Thread Cert.KBwdDhIdeal.nD Cert.KBwdDhIdeal.τ).loc Cert.KBwdDhIdeal.main_arg3))
      ∧ r.2.sem = fun _ => 0)

def quiescent_RBwdDhIdeal [hRBwdDhIdeal : Cert.RBwdDhIdeal.Facts] : Prop :=
  ∀ (m : (ℓ : Loc Cert.RBwdDhIdeal.nD Cert.RBwdDhIdeal.τ Cert.RBwdDhIdeal.sig) → Buf (Elt Ideal) ℓ) (g : Dev Cert.RBwdDhIdeal.nD → PrngReg), Pre_RBwdDhIdeal m →
    θ_run (Cert.RBwdDhIdeal.defs (F := Ideal)) (onTc (τ := Cert.RBwdDhIdeal.τ) (Cert.RBwdDhIdeal.main (F := Ideal))) ⟨m, fun _ => 0, g⟩ (fun r => (∀ c : Dev Cert.RBwdDhIdeal.nD,
      r.2.mem ((c.tc : Thread Cert.RBwdDhIdeal.nD Cert.RBwdDhIdeal.τ).loc Cert.RBwdDhIdeal.main_arg0) = m ((c.tc : Thread Cert.RBwdDhIdeal.nD Cert.RBwdDhIdeal.τ).loc Cert.RBwdDhIdeal.main_arg0)
      ∧ r.2.mem ((c.tc : Thread Cert.RBwdDhIdeal.nD Cert.RBwdDhIdeal.τ).loc Cert.RBwdDhIdeal.main_arg1) = m ((c.tc : Thread Cert.RBwdDhIdeal.nD Cert.RBwdDhIdeal.τ).loc Cert.RBwdDhIdeal.main_arg1)
      ∧ r.2.mem ((c.tc : Thread Cert.RBwdDhIdeal.nD Cert.RBwdDhIdeal.τ).loc Cert.RBwdDhIdeal.main_arg2) = m ((c.tc : Thread Cert.RBwdDhIdeal.nD Cert.RBwdDhIdeal.τ).loc Cert.RBwdDhIdeal.main_arg2)
      ∧ r.2.mem ((c.tc : Thread Cert.RBwdDhIdeal.nD Cert.RBwdDhIdeal.τ).loc Cert.RBwdDhIdeal.main_arg3) = m ((c.tc : Thread Cert.RBwdDhIdeal.nD Cert.RBwdDhIdeal.τ).loc Cert.RBwdDhIdeal.main_arg3))
      ∧ r.2.sem = fun _ => 0)

def quiescent_KSumParts [hKSumParts : Cert.KSumParts.Facts] : Prop :=
  ∀ (m : (ℓ : Loc Cert.KSumParts.nD Cert.KSumParts.τ Cert.KSumParts.sig) → Buf (Elt Bits) ℓ) (g : Dev Cert.KSumParts.nD → PrngReg), Pre_KSumParts m →
    θ_run (Cert.KSumParts.defs (F := Bits)) (onTc (τ := Cert.KSumParts.τ) (Cert.KSumParts.main (F := Bits))) ⟨m, fun _ => 0, g⟩ (fun r => (∀ c : Dev Cert.KSumParts.nD,
      r.2.mem ((c.tc : Thread Cert.KSumParts.nD Cert.KSumParts.τ).loc Cert.KSumParts.main_arg0) = m ((c.tc : Thread Cert.KSumParts.nD Cert.KSumParts.τ).loc Cert.KSumParts.main_arg0))
      ∧ r.2.sem = fun _ => 0)

def quiescent_KSumPartsIdeal [hKSumPartsIdeal : Cert.KSumPartsIdeal.Facts] : Prop :=
  ∀ (m : (ℓ : Loc Cert.KSumPartsIdeal.nD Cert.KSumPartsIdeal.τ Cert.KSumPartsIdeal.sig) → Buf (Elt Ideal) ℓ) (g : Dev Cert.KSumPartsIdeal.nD → PrngReg), Pre_KSumPartsIdeal m →
    θ_run (Cert.KSumPartsIdeal.defs (F := Ideal)) (onTc (τ := Cert.KSumPartsIdeal.τ) (Cert.KSumPartsIdeal.main (F := Ideal))) ⟨m, fun _ => 0, g⟩ (fun r => (∀ c : Dev Cert.KSumPartsIdeal.nD,
      r.2.mem ((c.tc : Thread Cert.KSumPartsIdeal.nD Cert.KSumPartsIdeal.τ).loc Cert.KSumPartsIdeal.main_arg0) = m ((c.tc : Thread Cert.KSumPartsIdeal.nD Cert.KSumPartsIdeal.τ).loc Cert.KSumPartsIdeal.main_arg0))
      ∧ r.2.sem = fun _ => 0)

def quiescent_RSumPartsIdeal [hRSumPartsIdeal : Cert.RSumPartsIdeal.Facts] : Prop :=
  ∀ (m : (ℓ : Loc Cert.RSumPartsIdeal.nD Cert.RSumPartsIdeal.τ Cert.RSumPartsIdeal.sig) → Buf (Elt Ideal) ℓ) (g : Dev Cert.RSumPartsIdeal.nD → PrngReg), Pre_RSumPartsIdeal m →
    θ_run (Cert.RSumPartsIdeal.defs (F := Ideal)) (onTc (τ := Cert.RSumPartsIdeal.τ) (Cert.RSumPartsIdeal.main (F := Ideal))) ⟨m, fun _ => 0, g⟩ (fun r => (∀ c : Dev Cert.RSumPartsIdeal.nD,
      r.2.mem ((c.tc : Thread Cert.RSumPartsIdeal.nD Cert.RSumPartsIdeal.τ).loc Cert.RSumPartsIdeal.main_arg0) = m ((c.tc : Thread Cert.RSumPartsIdeal.nD Cert.RSumPartsIdeal.τ).loc Cert.RSumPartsIdeal.main_arg0))
      ∧ r.2.sem = fun _ => 0)

def quiescent_KAdamB [hKAdamB : Cert.KAdamB.Facts] [hPre_placed : Cert.Pre_placed.Facts] : Prop :=
  ∀ (m : (ℓ : Loc Cert.KAdamB.nD Cert.KAdamB.τ Cert.KAdamB.sig) → Buf (Elt Bits) ℓ) (g : Dev Cert.KAdamB.nD → PrngReg), Pre_KAdamB m →
    θ_run (Cert.KAdamB.defs (F := Bits)) (onTc (τ := Cert.KAdamB.τ) (Cert.KAdamB.main (F := Bits))) ⟨m, fun _ => 0, g⟩ (fun r => (∀ c : Dev Cert.KAdamB.nD,
      r.2.mem ((c.tc : Thread Cert.KAdamB.nD Cert.KAdamB.τ).loc Cert.KAdamB.main_arg0) = m ((c.tc : Thread Cert.KAdamB.nD Cert.KAdamB.τ).loc Cert.KAdamB.main_arg0)
      ∧ r.2.mem ((c.tc : Thread Cert.KAdamB.nD Cert.KAdamB.τ).loc Cert.KAdamB.main_arg1) = m ((c.tc : Thread Cert.KAdamB.nD Cert.KAdamB.τ).loc Cert.KAdamB.main_arg1)
      ∧ r.2.mem ((c.tc : Thread Cert.KAdamB.nD Cert.KAdamB.τ).loc Cert.KAdamB.main_arg2) = m ((c.tc : Thread Cert.KAdamB.nD Cert.KAdamB.τ).loc Cert.KAdamB.main_arg2)
      ∧ r.2.mem ((c.tc : Thread Cert.KAdamB.nD Cert.KAdamB.τ).loc Cert.KAdamB.main_arg3) = m ((c.tc : Thread Cert.KAdamB.nD Cert.KAdamB.τ).loc Cert.KAdamB.main_arg3)
      ∧ r.2.mem ((c.tc : Thread Cert.KAdamB.nD Cert.KAdamB.τ).loc Cert.KAdamB.main_arg4) = m ((c.tc : Thread Cert.KAdamB.nD Cert.KAdamB.τ).loc Cert.KAdamB.main_arg4)
      ∧ r.2.mem ((c.tc : Thread Cert.KAdamB.nD Cert.KAdamB.τ).loc Cert.KAdamB.main_arg5) = m ((c.tc : Thread Cert.KAdamB.nD Cert.KAdamB.τ).loc Cert.KAdamB.main_arg5)
      ∧ r.2.mem ((c.tc : Thread Cert.KAdamB.nD Cert.KAdamB.τ).loc Cert.KAdamB.main_arg6) = m ((c.tc : Thread Cert.KAdamB.nD Cert.KAdamB.τ).loc Cert.KAdamB.main_arg6)
      ∧ r.2.mem ((c.tc : Thread Cert.KAdamB.nD Cert.KAdamB.τ).loc Cert.KAdamB.main_arg7) = m ((c.tc : Thread Cert.KAdamB.nD Cert.KAdamB.τ).loc Cert.KAdamB.main_arg7))
      ∧ r.2.sem = fun _ => 0)

def quiescent_KAdamBIdeal [hKAdamBIdeal : Cert.KAdamBIdeal.Facts] [hPre_placed : Cert.Pre_placed.Facts] : Prop :=
  ∀ (m : (ℓ : Loc Cert.KAdamBIdeal.nD Cert.KAdamBIdeal.τ Cert.KAdamBIdeal.sig) → Buf (Elt Ideal) ℓ) (g : Dev Cert.KAdamBIdeal.nD → PrngReg), Pre_KAdamBIdeal m →
    θ_run (Cert.KAdamBIdeal.defs (F := Ideal)) (onTc (τ := Cert.KAdamBIdeal.τ) (Cert.KAdamBIdeal.main (F := Ideal))) ⟨m, fun _ => 0, g⟩ (fun r => (∀ c : Dev Cert.KAdamBIdeal.nD,
      r.2.mem ((c.tc : Thread Cert.KAdamBIdeal.nD Cert.KAdamBIdeal.τ).loc Cert.KAdamBIdeal.main_arg0) = m ((c.tc : Thread Cert.KAdamBIdeal.nD Cert.KAdamBIdeal.τ).loc Cert.KAdamBIdeal.main_arg0)
      ∧ r.2.mem ((c.tc : Thread Cert.KAdamBIdeal.nD Cert.KAdamBIdeal.τ).loc Cert.KAdamBIdeal.main_arg1) = m ((c.tc : Thread Cert.KAdamBIdeal.nD Cert.KAdamBIdeal.τ).loc Cert.KAdamBIdeal.main_arg1)
      ∧ r.2.mem ((c.tc : Thread Cert.KAdamBIdeal.nD Cert.KAdamBIdeal.τ).loc Cert.KAdamBIdeal.main_arg2) = m ((c.tc : Thread Cert.KAdamBIdeal.nD Cert.KAdamBIdeal.τ).loc Cert.KAdamBIdeal.main_arg2)
      ∧ r.2.mem ((c.tc : Thread Cert.KAdamBIdeal.nD Cert.KAdamBIdeal.τ).loc Cert.KAdamBIdeal.main_arg3) = m ((c.tc : Thread Cert.KAdamBIdeal.nD Cert.KAdamBIdeal.τ).loc Cert.KAdamBIdeal.main_arg3)
      ∧ r.2.mem ((c.tc : Thread Cert.KAdamBIdeal.nD Cert.KAdamBIdeal.τ).loc Cert.KAdamBIdeal.main_arg4) = m ((c.tc : Thread Cert.KAdamBIdeal.nD Cert.KAdamBIdeal.τ).loc Cert.KAdamBIdeal.main_arg4)
      ∧ r.2.mem ((c.tc : Thread Cert.KAdamBIdeal.nD Cert.KAdamBIdeal.τ).loc Cert.KAdamBIdeal.main_arg5) = m ((c.tc : Thread Cert.KAdamBIdeal.nD Cert.KAdamBIdeal.τ).loc Cert.KAdamBIdeal.main_arg5)
      ∧ r.2.mem ((c.tc : Thread Cert.KAdamBIdeal.nD Cert.KAdamBIdeal.τ).loc Cert.KAdamBIdeal.main_arg6) = m ((c.tc : Thread Cert.KAdamBIdeal.nD Cert.KAdamBIdeal.τ).loc Cert.KAdamBIdeal.main_arg6)
      ∧ r.2.mem ((c.tc : Thread Cert.KAdamBIdeal.nD Cert.KAdamBIdeal.τ).loc Cert.KAdamBIdeal.main_arg7) = m ((c.tc : Thread Cert.KAdamBIdeal.nD Cert.KAdamBIdeal.τ).loc Cert.KAdamBIdeal.main_arg7))
      ∧ r.2.sem = fun _ => 0)

def quiescent_RAdamBIdeal [hRAdamBIdeal : Cert.RAdamBIdeal.Facts] : Prop :=
  ∀ (m : (ℓ : Loc Cert.RAdamBIdeal.nD Cert.RAdamBIdeal.τ Cert.RAdamBIdeal.sig) → Buf (Elt Ideal) ℓ) (g : Dev Cert.RAdamBIdeal.nD → PrngReg), Pre_RAdamBIdeal m →
    θ_run (Cert.RAdamBIdeal.defs (F := Ideal)) (onTc (τ := Cert.RAdamBIdeal.τ) (Cert.RAdamBIdeal.main (F := Ideal))) ⟨m, fun _ => 0, g⟩ (fun r => (∀ c : Dev Cert.RAdamBIdeal.nD,
      r.2.mem ((c.tc : Thread Cert.RAdamBIdeal.nD Cert.RAdamBIdeal.τ).loc Cert.RAdamBIdeal.main_arg0) = m ((c.tc : Thread Cert.RAdamBIdeal.nD Cert.RAdamBIdeal.τ).loc Cert.RAdamBIdeal.main_arg0)
      ∧ r.2.mem ((c.tc : Thread Cert.RAdamBIdeal.nD Cert.RAdamBIdeal.τ).loc Cert.RAdamBIdeal.main_arg1) = m ((c.tc : Thread Cert.RAdamBIdeal.nD Cert.RAdamBIdeal.τ).loc Cert.RAdamBIdeal.main_arg1)
      ∧ r.2.mem ((c.tc : Thread Cert.RAdamBIdeal.nD Cert.RAdamBIdeal.τ).loc Cert.RAdamBIdeal.main_arg2) = m ((c.tc : Thread Cert.RAdamBIdeal.nD Cert.RAdamBIdeal.τ).loc Cert.RAdamBIdeal.main_arg2)
      ∧ r.2.mem ((c.tc : Thread Cert.RAdamBIdeal.nD Cert.RAdamBIdeal.τ).loc Cert.RAdamBIdeal.main_arg3) = m ((c.tc : Thread Cert.RAdamBIdeal.nD Cert.RAdamBIdeal.τ).loc Cert.RAdamBIdeal.main_arg3)
      ∧ r.2.mem ((c.tc : Thread Cert.RAdamBIdeal.nD Cert.RAdamBIdeal.τ).loc Cert.RAdamBIdeal.main_arg4) = m ((c.tc : Thread Cert.RAdamBIdeal.nD Cert.RAdamBIdeal.τ).loc Cert.RAdamBIdeal.main_arg4)
      ∧ r.2.mem ((c.tc : Thread Cert.RAdamBIdeal.nD Cert.RAdamBIdeal.τ).loc Cert.RAdamBIdeal.main_arg5) = m ((c.tc : Thread Cert.RAdamBIdeal.nD Cert.RAdamBIdeal.τ).loc Cert.RAdamBIdeal.main_arg5)
      ∧ r.2.mem ((c.tc : Thread Cert.RAdamBIdeal.nD Cert.RAdamBIdeal.τ).loc Cert.RAdamBIdeal.main_arg6) = m ((c.tc : Thread Cert.RAdamBIdeal.nD Cert.RAdamBIdeal.τ).loc Cert.RAdamBIdeal.main_arg6)
      ∧ r.2.mem ((c.tc : Thread Cert.RAdamBIdeal.nD Cert.RAdamBIdeal.τ).loc Cert.RAdamBIdeal.main_arg7) = m ((c.tc : Thread Cert.RAdamBIdeal.nD Cert.RAdamBIdeal.τ).loc Cert.RAdamBIdeal.main_arg7))
      ∧ r.2.sem = fun _ => 0)

def quiescent_RAdamBIdeal_pre_placed [hRAdamBIdeal : Cert.RAdamBIdeal.Facts] [hPre_placed : Cert.Pre_placed.Facts] : Prop :=
  ∀ (m : (ℓ : Loc Cert.RAdamBIdeal.nD Cert.RAdamBIdeal.τ Cert.RAdamBIdeal.sig) → Buf (Elt Ideal) ℓ) (g : Dev Cert.RAdamBIdeal.nD → PrngReg), Pre_RAdamBIdeal_placed m →
    θ_run (Cert.RAdamBIdeal.defs (F := Ideal)) (onTc (τ := Cert.RAdamBIdeal.τ) (Cert.RAdamBIdeal.main (F := Ideal))) ⟨m, fun _ => 0, g⟩ (fun r => (∀ c : Dev Cert.RAdamBIdeal.nD,
      r.2.mem ((c.tc : Thread Cert.RAdamBIdeal.nD Cert.RAdamBIdeal.τ).loc Cert.RAdamBIdeal.main_arg0) = m ((c.tc : Thread Cert.RAdamBIdeal.nD Cert.RAdamBIdeal.τ).loc Cert.RAdamBIdeal.main_arg0)
      ∧ r.2.mem ((c.tc : Thread Cert.RAdamBIdeal.nD Cert.RAdamBIdeal.τ).loc Cert.RAdamBIdeal.main_arg1) = m ((c.tc : Thread Cert.RAdamBIdeal.nD Cert.RAdamBIdeal.τ).loc Cert.RAdamBIdeal.main_arg1)
      ∧ r.2.mem ((c.tc : Thread Cert.RAdamBIdeal.nD Cert.RAdamBIdeal.τ).loc Cert.RAdamBIdeal.main_arg2) = m ((c.tc : Thread Cert.RAdamBIdeal.nD Cert.RAdamBIdeal.τ).loc Cert.RAdamBIdeal.main_arg2)
      ∧ r.2.mem ((c.tc : Thread Cert.RAdamBIdeal.nD Cert.RAdamBIdeal.τ).loc Cert.RAdamBIdeal.main_arg3) = m ((c.tc : Thread Cert.RAdamBIdeal.nD Cert.RAdamBIdeal.τ).loc Cert.RAdamBIdeal.main_arg3)
      ∧ r.2.mem ((c.tc : Thread Cert.RAdamBIdeal.nD Cert.RAdamBIdeal.τ).loc Cert.RAdamBIdeal.main_arg4) = m ((c.tc : Thread Cert.RAdamBIdeal.nD Cert.RAdamBIdeal.τ).loc Cert.RAdamBIdeal.main_arg4)
      ∧ r.2.mem ((c.tc : Thread Cert.RAdamBIdeal.nD Cert.RAdamBIdeal.τ).loc Cert.RAdamBIdeal.main_arg5) = m ((c.tc : Thread Cert.RAdamBIdeal.nD Cert.RAdamBIdeal.τ).loc Cert.RAdamBIdeal.main_arg5)
      ∧ r.2.mem ((c.tc : Thread Cert.RAdamBIdeal.nD Cert.RAdamBIdeal.τ).loc Cert.RAdamBIdeal.main_arg6) = m ((c.tc : Thread Cert.RAdamBIdeal.nD Cert.RAdamBIdeal.τ).loc Cert.RAdamBIdeal.main_arg6)
      ∧ r.2.mem ((c.tc : Thread Cert.RAdamBIdeal.nD Cert.RAdamBIdeal.τ).loc Cert.RAdamBIdeal.main_arg7) = m ((c.tc : Thread Cert.RAdamBIdeal.nD Cert.RAdamBIdeal.τ).loc Cert.RAdamBIdeal.main_arg7))
      ∧ r.2.sem = fun _ => 0)

def quiescent_KAddSib [hKAddSib : Cert.KAddSib.Facts] [hPre_on_mesh : Cert.Pre_on_mesh.Facts] : Prop :=
  ∀ (m : (ℓ : Loc Cert.KAddSib.nD Cert.KAddSib.τ Cert.KAddSib.sig) → Buf (Elt Bits) ℓ) (g : Dev Cert.KAddSib.nD → PrngReg), Pre_KAddSib m →
    θ_run (Cert.KAddSib.defs (F := Bits)) (onTc (τ := Cert.KAddSib.τ) (Cert.KAddSib.main (F := Bits))) ⟨m, fun _ => 0, g⟩ (fun r => (∀ c : Dev Cert.KAddSib.nD,
      r.2.mem ((c.tc : Thread Cert.KAddSib.nD Cert.KAddSib.τ).loc Cert.KAddSib.main_arg0) = m ((c.tc : Thread Cert.KAddSib.nD Cert.KAddSib.τ).loc Cert.KAddSib.main_arg0)
      ∧ r.2.mem ((c.tc : Thread Cert.KAddSib.nD Cert.KAddSib.τ).loc Cert.KAddSib.main_arg1) = m ((c.tc : Thread Cert.KAddSib.nD Cert.KAddSib.τ).loc Cert.KAddSib.main_arg1)
      ∧ r.2.mem ((c.tc : Thread Cert.KAddSib.nD Cert.KAddSib.τ).loc Cert.KAddSib.main_arg2) = m ((c.tc : Thread Cert.KAddSib.nD Cert.KAddSib.τ).loc Cert.KAddSib.main_arg2)
      ∧ r.2.mem ((c.tc : Thread Cert.KAddSib.nD Cert.KAddSib.τ).loc Cert.KAddSib.main_arg3) = m ((c.tc : Thread Cert.KAddSib.nD Cert.KAddSib.τ).loc Cert.KAddSib.main_arg3)
      ∧ r.2.mem ((c.tc : Thread Cert.KAddSib.nD Cert.KAddSib.τ).loc Cert.KAddSib.main_arg4) = m ((c.tc : Thread Cert.KAddSib.nD Cert.KAddSib.τ).loc Cert.KAddSib.main_arg4))
      ∧ r.2.sem = fun _ => 0)

def quiescent_KAddSibIdeal [hKAddSibIdeal : Cert.KAddSibIdeal.Facts] [hPre_on_mesh : Cert.Pre_on_mesh.Facts] : Prop :=
  ∀ (m : (ℓ : Loc Cert.KAddSibIdeal.nD Cert.KAddSibIdeal.τ Cert.KAddSibIdeal.sig) → Buf (Elt Ideal) ℓ) (g : Dev Cert.KAddSibIdeal.nD → PrngReg), Pre_KAddSibIdeal m →
    θ_run (Cert.KAddSibIdeal.defs (F := Ideal)) (onTc (τ := Cert.KAddSibIdeal.τ) (Cert.KAddSibIdeal.main (F := Ideal))) ⟨m, fun _ => 0, g⟩ (fun r => (∀ c : Dev Cert.KAddSibIdeal.nD,
      r.2.mem ((c.tc : Thread Cert.KAddSibIdeal.nD Cert.KAddSibIdeal.τ).loc Cert.KAddSibIdeal.main_arg0) = m ((c.tc : Thread Cert.KAddSibIdeal.nD Cert.KAddSibIdeal.τ).loc Cert.KAddSibIdeal.main_arg0)
      ∧ r.2.mem ((c.tc : Thread Cert.KAddSibIdeal.nD Cert.KAddSibIdeal.τ).loc Cert.KAddSibIdeal.main_arg1) = m ((c.tc : Thread Cert.KAddSibIdeal.nD Cert.KAddSibIdeal.τ).loc Cert.KAddSibIdeal.main_arg1)
      ∧ r.2.mem ((c.tc : Thread Cert.KAddSibIdeal.nD Cert.KAddSibIdeal.τ).loc Cert.KAddSibIdeal.main_arg2) = m ((c.tc : Thread Cert.KAddSibIdeal.nD Cert.KAddSibIdeal.τ).loc Cert.KAddSibIdeal.main_arg2)
      ∧ r.2.mem ((c.tc : Thread Cert.KAddSibIdeal.nD Cert.KAddSibIdeal.τ).loc Cert.KAddSibIdeal.main_arg3) = m ((c.tc : Thread Cert.KAddSibIdeal.nD Cert.KAddSibIdeal.τ).loc Cert.KAddSibIdeal.main_arg3)
      ∧ r.2.mem ((c.tc : Thread Cert.KAddSibIdeal.nD Cert.KAddSibIdeal.τ).loc Cert.KAddSibIdeal.main_arg4) = m ((c.tc : Thread Cert.KAddSibIdeal.nD Cert.KAddSibIdeal.τ).loc Cert.KAddSibIdeal.main_arg4))
      ∧ r.2.sem = fun _ => 0)

def quiescent_RAddSibIdeal [hRAddSibIdeal : Cert.RAddSibIdeal.Facts] : Prop :=
  ∀ (m : (ℓ : Loc Cert.RAddSibIdeal.nD Cert.RAddSibIdeal.τ Cert.RAddSibIdeal.sig) → Buf (Elt Ideal) ℓ) (g : Dev Cert.RAddSibIdeal.nD → PrngReg), Pre_RAddSibIdeal m →
    θ_run (Cert.RAddSibIdeal.defs (F := Ideal)) (onTc (τ := Cert.RAddSibIdeal.τ) (Cert.RAddSibIdeal.main (F := Ideal))) ⟨m, fun _ => 0, g⟩ (fun r => (∀ c : Dev Cert.RAddSibIdeal.nD,
      r.2.mem ((c.tc : Thread Cert.RAddSibIdeal.nD Cert.RAddSibIdeal.τ).loc Cert.RAddSibIdeal.main_arg0) = m ((c.tc : Thread Cert.RAddSibIdeal.nD Cert.RAddSibIdeal.τ).loc Cert.RAddSibIdeal.main_arg0)
      ∧ r.2.mem ((c.tc : Thread Cert.RAddSibIdeal.nD Cert.RAddSibIdeal.τ).loc Cert.RAddSibIdeal.main_arg1) = m ((c.tc : Thread Cert.RAddSibIdeal.nD Cert.RAddSibIdeal.τ).loc Cert.RAddSibIdeal.main_arg1)
      ∧ r.2.mem ((c.tc : Thread Cert.RAddSibIdeal.nD Cert.RAddSibIdeal.τ).loc Cert.RAddSibIdeal.main_arg2) = m ((c.tc : Thread Cert.RAddSibIdeal.nD Cert.RAddSibIdeal.τ).loc Cert.RAddSibIdeal.main_arg2)
      ∧ r.2.mem ((c.tc : Thread Cert.RAddSibIdeal.nD Cert.RAddSibIdeal.τ).loc Cert.RAddSibIdeal.main_arg3) = m ((c.tc : Thread Cert.RAddSibIdeal.nD Cert.RAddSibIdeal.τ).loc Cert.RAddSibIdeal.main_arg3)
      ∧ r.2.mem ((c.tc : Thread Cert.RAddSibIdeal.nD Cert.RAddSibIdeal.τ).loc Cert.RAddSibIdeal.main_arg4) = m ((c.tc : Thread Cert.RAddSibIdeal.nD Cert.RAddSibIdeal.τ).loc Cert.RAddSibIdeal.main_arg4))
      ∧ r.2.sem = fun _ => 0)

def quiescent_RAddSibIdeal_pre_on_mesh [hRAddSibIdeal : Cert.RAddSibIdeal.Facts] [hPre_on_mesh : Cert.Pre_on_mesh.Facts] : Prop :=
  ∀ (m : (ℓ : Loc Cert.RAddSibIdeal.nD Cert.RAddSibIdeal.τ Cert.RAddSibIdeal.sig) → Buf (Elt Ideal) ℓ) (g : Dev Cert.RAddSibIdeal.nD → PrngReg), Pre_RAddSibIdeal_on_mesh m →
    θ_run (Cert.RAddSibIdeal.defs (F := Ideal)) (onTc (τ := Cert.RAddSibIdeal.τ) (Cert.RAddSibIdeal.main (F := Ideal))) ⟨m, fun _ => 0, g⟩ (fun r => (∀ c : Dev Cert.RAddSibIdeal.nD,
      r.2.mem ((c.tc : Thread Cert.RAddSibIdeal.nD Cert.RAddSibIdeal.τ).loc Cert.RAddSibIdeal.main_arg0) = m ((c.tc : Thread Cert.RAddSibIdeal.nD Cert.RAddSibIdeal.τ).loc Cert.RAddSibIdeal.main_arg0)
      ∧ r.2.mem ((c.tc : Thread Cert.RAddSibIdeal.nD Cert.RAddSibIdeal.τ).loc Cert.RAddSibIdeal.main_arg1) = m ((c.tc : Thread Cert.RAddSibIdeal.nD Cert.RAddSibIdeal.τ).loc Cert.RAddSibIdeal.main_arg1)
      ∧ r.2.mem ((c.tc : Thread Cert.RAddSibIdeal.nD Cert.RAddSibIdeal.τ).loc Cert.RAddSibIdeal.main_arg2) = m ((c.tc : Thread Cert.RAddSibIdeal.nD Cert.RAddSibIdeal.τ).loc Cert.RAddSibIdeal.main_arg2)
      ∧ r.2.mem ((c.tc : Thread Cert.RAddSibIdeal.nD Cert.RAddSibIdeal.τ).loc Cert.RAddSibIdeal.main_arg3) = m ((c.tc : Thread Cert.RAddSibIdeal.nD Cert.RAddSibIdeal.τ).loc Cert.RAddSibIdeal.main_arg3)
      ∧ r.2.mem ((c.tc : Thread Cert.RAddSibIdeal.nD Cert.RAddSibIdeal.τ).loc Cert.RAddSibIdeal.main_arg4) = m ((c.tc : Thread Cert.RAddSibIdeal.nD Cert.RAddSibIdeal.τ).loc Cert.RAddSibIdeal.main_arg4))
      ∧ r.2.sem = fun _ => 0)

def preserves_KScale_KScaleIdeal : Prop :=
  True

def algebraic_KScaleIdeal_RScaleIdeal [hKScaleIdeal : Cert.KScaleIdeal.Facts] [hRScaleIdeal : Cert.RScaleIdeal.Facts] : Prop :=
  ∀ (m : (ℓ : Loc Cert.KScaleIdeal.nD Cert.KScaleIdeal.τ Cert.KScaleIdeal.sig) → Buf (Elt Ideal) ℓ) (g : Dev Cert.KScaleIdeal.nD → PrngReg)
    (m' : (ℓ : Loc Cert.RScaleIdeal.nD Cert.RScaleIdeal.τ Cert.RScaleIdeal.sig) → Buf (Elt Ideal) ℓ) (g' : Dev Cert.RScaleIdeal.nD → PrngReg), Pre_KScaleIdeal m →
    (∀ c : Dev Cert.KScaleIdeal.nD,
      m' ((c.tc : Thread Cert.RScaleIdeal.nD Cert.RScaleIdeal.τ).loc Cert.RScaleIdeal.main_arg0) = m ((c.tc : Thread Cert.KScaleIdeal.nD Cert.KScaleIdeal.τ).loc Cert.KScaleIdeal.main_arg0)
      ∧ m' ((c.tc : Thread Cert.RScaleIdeal.nD Cert.RScaleIdeal.τ).loc Cert.RScaleIdeal.main_arg1) = m ((c.tc : Thread Cert.KScaleIdeal.nD Cert.KScaleIdeal.τ).loc Cert.KScaleIdeal.main_arg1)
      ∧ m' ((c.tc : Thread Cert.RScaleIdeal.nD Cert.RScaleIdeal.τ).loc Cert.RScaleIdeal.main_arg2) = m ((c.tc : Thread Cert.KScaleIdeal.nD Cert.KScaleIdeal.τ).loc Cert.KScaleIdeal.main_arg2)
      ∧ m' ((c.tc : Thread Cert.RScaleIdeal.nD Cert.RScaleIdeal.τ).loc Cert.RScaleIdeal.main_arg3) = m ((c.tc : Thread Cert.KScaleIdeal.nD Cert.KScaleIdeal.τ).loc Cert.KScaleIdeal.main_arg3)
      ∧ m' ((c.tc : Thread Cert.RScaleIdeal.nD Cert.RScaleIdeal.τ).loc Cert.RScaleIdeal.main_arg4) = m ((c.tc : Thread Cert.KScaleIdeal.nD Cert.KScaleIdeal.τ).loc Cert.KScaleIdeal.main_arg4)) →
    ∃ (v0 : (c : Dev Cert.KScaleIdeal.nD) → Buf (Elt Ideal) ((c.tc : Thread Cert.KScaleIdeal.nD Cert.KScaleIdeal.τ).loc Cert.KScaleIdeal.main_v9_0)) (v1 : (c : Dev Cert.KScaleIdeal.nD) → Buf (Elt Ideal) ((c.tc : Thread Cert.KScaleIdeal.nD Cert.KScaleIdeal.τ).loc Cert.KScaleIdeal.main_v9_1)),
      θ_run (Cert.KScaleIdeal.defs (F := Ideal)) (onTc (τ := Cert.KScaleIdeal.τ) (Cert.KScaleIdeal.main (F := Ideal))) ⟨m, fun _ => 0, g⟩ (fun r => ∀ c : Dev Cert.KScaleIdeal.nD,
          r.2.mem ((c.tc : Thread Cert.KScaleIdeal.nD Cert.KScaleIdeal.τ).loc Cert.KScaleIdeal.main_v9_0) = v0 c
          ∧ r.2.mem ((c.tc : Thread Cert.KScaleIdeal.nD Cert.KScaleIdeal.τ).loc Cert.KScaleIdeal.main_v9_1) = v1 c
          ∧ r.2.mem ((c.tc : Thread Cert.KScaleIdeal.nD Cert.KScaleIdeal.τ).loc Cert.KScaleIdeal.main_arg0) = m ((c.tc : Thread Cert.KScaleIdeal.nD Cert.KScaleIdeal.τ).loc Cert.KScaleIdeal.main_arg0)
          ∧ r.2.mem ((c.tc : Thread Cert.KScaleIdeal.nD Cert.KScaleIdeal.τ).loc Cert.KScaleIdeal.main_arg1) = m ((c.tc : Thread Cert.KScaleIdeal.nD Cert.KScaleIdeal.τ).loc Cert.KScaleIdeal.main_arg1)
          ∧ r.2.mem ((c.tc : Thread Cert.KScaleIdeal.nD Cert.KScaleIdeal.τ).loc Cert.KScaleIdeal.main_arg2) = m ((c.tc : Thread Cert.KScaleIdeal.nD Cert.KScaleIdeal.τ).loc Cert.KScaleIdeal.main_arg2)
          ∧ r.2.mem ((c.tc : Thread Cert.KScaleIdeal.nD Cert.KScaleIdeal.τ).loc Cert.KScaleIdeal.main_arg3) = m ((c.tc : Thread Cert.KScaleIdeal.nD Cert.KScaleIdeal.τ).loc Cert.KScaleIdeal.main_arg3)
          ∧ r.2.mem ((c.tc : Thread Cert.KScaleIdeal.nD Cert.KScaleIdeal.τ).loc Cert.KScaleIdeal.main_arg4) = m ((c.tc : Thread Cert.KScaleIdeal.nD Cert.KScaleIdeal.τ).loc Cert.KScaleIdeal.main_arg4))
      ∧ θ_run (Cert.RScaleIdeal.defs (F := Ideal)) (onTc (τ := Cert.RScaleIdeal.τ) (Cert.RScaleIdeal.main (F := Ideal))) ⟨m', fun _ => 0, g'⟩ (fun r => ∀ c : Dev Cert.RScaleIdeal.nD,
          r.2.mem ((c.tc : Thread Cert.RScaleIdeal.nD Cert.RScaleIdeal.τ).loc Cert.RScaleIdeal.main_v19) = v0 c
          ∧ r.2.mem ((c.tc : Thread Cert.RScaleIdeal.nD Cert.RScaleIdeal.τ).loc Cert.RScaleIdeal.main_v16) = v1 c
          ∧ r.2.mem ((c.tc : Thread Cert.RScaleIdeal.nD Cert.RScaleIdeal.τ).loc Cert.RScaleIdeal.main_arg0) = m' ((c.tc : Thread Cert.RScaleIdeal.nD Cert.RScaleIdeal.τ).loc Cert.RScaleIdeal.main_arg0)
          ∧ r.2.mem ((c.tc : Thread Cert.RScaleIdeal.nD Cert.RScaleIdeal.τ).loc Cert.RScaleIdeal.main_arg1) = m' ((c.tc : Thread Cert.RScaleIdeal.nD Cert.RScaleIdeal.τ).loc Cert.RScaleIdeal.main_arg1)
          ∧ r.2.mem ((c.tc : Thread Cert.RScaleIdeal.nD Cert.RScaleIdeal.τ).loc Cert.RScaleIdeal.main_arg2) = m' ((c.tc : Thread Cert.RScaleIdeal.nD Cert.RScaleIdeal.τ).loc Cert.RScaleIdeal.main_arg2)
          ∧ r.2.mem ((c.tc : Thread Cert.RScaleIdeal.nD Cert.RScaleIdeal.τ).loc Cert.RScaleIdeal.main_arg3) = m' ((c.tc : Thread Cert.RScaleIdeal.nD Cert.RScaleIdeal.τ).loc Cert.RScaleIdeal.main_arg3)
          ∧ r.2.mem ((c.tc : Thread Cert.RScaleIdeal.nD Cert.RScaleIdeal.τ).loc Cert.RScaleIdeal.main_arg4) = m' ((c.tc : Thread Cert.RScaleIdeal.nD Cert.RScaleIdeal.τ).loc Cert.RScaleIdeal.main_arg4))

def preserves_KConv_KConvIdeal : Prop :=
  True

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)
      ∧ m' ((c.tc : Thread Cert.RConvIdeal.nD Cert.RConvIdeal.τ).loc Cert.RConvIdeal.main_arg2) = m ((c.tc : Thread Cert.KConvIdeal.nD Cert.KConvIdeal.τ).loc Cert.KConvIdeal.main_arg2)
      ∧ m' ((c.tc : Thread Cert.RConvIdeal.nD Cert.RConvIdeal.τ).loc Cert.RConvIdeal.main_arg3) = m ((c.tc : Thread Cert.KConvIdeal.nD Cert.KConvIdeal.τ).loc Cert.KConvIdeal.main_arg3)) →
    ∃ (v0 : (c : Dev Cert.KConvIdeal.nD) → Buf (Elt Ideal) ((c.tc : Thread Cert.KConvIdeal.nD Cert.KConvIdeal.τ).loc Cert.KConvIdeal.main_v5_0)) (v1 : (c : Dev Cert.KConvIdeal.nD) → Buf (Elt Ideal) ((c.tc : Thread Cert.KConvIdeal.nD Cert.KConvIdeal.τ).loc Cert.KConvIdeal.main_v5_1)) (v2 : (c : Dev Cert.KConvIdeal.nD) → Buf (Elt Ideal) ((c.tc : Thread Cert.KConvIdeal.nD Cert.KConvIdeal.τ).loc Cert.KConvIdeal.main_v5_2)) (v3 : (c : Dev Cert.KConvIdeal.nD) → Buf (Elt Ideal) ((c.tc : Thread Cert.KConvIdeal.nD Cert.KConvIdeal.τ).loc Cert.KConvIdeal.main_v5_3)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v5_0) = v0 c
          ∧ r.2.mem ((c.tc : Thread Cert.KConvIdeal.nD Cert.KConvIdeal.τ).loc Cert.KConvIdeal.main_v5_1) = v1 c
          ∧ r.2.mem ((c.tc : Thread Cert.KConvIdeal.nD Cert.KConvIdeal.τ).loc Cert.KConvIdeal.main_v5_2) = v2 c
          ∧ r.2.mem ((c.tc : Thread Cert.KConvIdeal.nD Cert.KConvIdeal.τ).loc Cert.KConvIdeal.main_v5_3) = v3 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
          ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2)
          ∧ r.2.mem ((c.tc : Thread Cert.KConvIdeal.nD Cert.KConvIdeal.τ).loc Cert.KConvIdeal.main_arg3) = m ((c.tc : Thread Cert.KConvIdeal.nD Cert.KConvIdeal.τ).loc Cert.KConvIdeal.main_arg3))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v70) = v0 c
          ∧ r.2.mem ((c.tc : Thread Cert.RConvIdeal.nD Cert.RConvIdeal.τ).loc Cert.RConvIdeal.main_v73) = v1 c
          ∧ r.2.mem ((c.tc : Thread Cert.RConvIdeal.nD Cert.RConvIdeal.τ).loc Cert.RConvIdeal.main_v76) = v2 c
          ∧ r.2.mem ((c.tc : Thread Cert.RConvIdeal.nD Cert.RConvIdeal.τ).loc Cert.RConvIdeal.main_v77) = v3 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
          ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2)
          ∧ r.2.mem ((c.tc : Thread Cert.RConvIdeal.nD Cert.RConvIdeal.τ).loc Cert.RConvIdeal.main_arg3) = m' ((c.tc : Thread Cert.RConvIdeal.nD Cert.RConvIdeal.τ).loc Cert.RConvIdeal.main_arg3))

def preserves_KLn_KLnIdeal : Prop :=
  True

def algebraic_KLnIdeal_RLnIdeal_pre_finite_ln [hKLnIdeal : Cert.KLnIdeal.Facts] [hRLnIdeal : Cert.RLnIdeal.Facts] [hPre_finite_ln : Cert.Pre_finite_ln.Facts] : Prop :=
  ∀ (m : (ℓ : Loc Cert.KLnIdeal.nD Cert.KLnIdeal.τ Cert.KLnIdeal.sig) → Buf (Elt Ideal) ℓ) (g : Dev Cert.KLnIdeal.nD → PrngReg)
    (m' : (ℓ : Loc Cert.RLnIdeal.nD Cert.RLnIdeal.τ Cert.RLnIdeal.sig) → Buf (Elt Ideal) ℓ) (g' : Dev Cert.RLnIdeal.nD → PrngReg), Pre_KLnIdeal_finite_ln m →
    (∀ c : Dev Cert.KLnIdeal.nD,
      m' ((c.tc : Thread Cert.RLnIdeal.nD Cert.RLnIdeal.τ).loc Cert.RLnIdeal.main_arg0) = m ((c.tc : Thread Cert.KLnIdeal.nD Cert.KLnIdeal.τ).loc Cert.KLnIdeal.main_arg0)
      ∧ m' ((c.tc : Thread Cert.RLnIdeal.nD Cert.RLnIdeal.τ).loc Cert.RLnIdeal.main_arg1) = m ((c.tc : Thread Cert.KLnIdeal.nD Cert.KLnIdeal.τ).loc Cert.KLnIdeal.main_arg1)
      ∧ m' ((c.tc : Thread Cert.RLnIdeal.nD Cert.RLnIdeal.τ).loc Cert.RLnIdeal.main_arg2) = m ((c.tc : Thread Cert.KLnIdeal.nD Cert.KLnIdeal.τ).loc Cert.KLnIdeal.main_arg2)
      ∧ m' ((c.tc : Thread Cert.RLnIdeal.nD Cert.RLnIdeal.τ).loc Cert.RLnIdeal.main_arg3) = m ((c.tc : Thread Cert.KLnIdeal.nD Cert.KLnIdeal.τ).loc Cert.KLnIdeal.main_arg3)
      ∧ m' ((c.tc : Thread Cert.RLnIdeal.nD Cert.RLnIdeal.τ).loc Cert.RLnIdeal.main_arg4) = m ((c.tc : Thread Cert.KLnIdeal.nD Cert.KLnIdeal.τ).loc Cert.KLnIdeal.main_arg4)) →
    ∃ (v0 : (c : Dev Cert.KLnIdeal.nD) → Buf (Elt Ideal) ((c.tc : Thread Cert.KLnIdeal.nD Cert.KLnIdeal.τ).loc Cert.KLnIdeal.main_v4_0)) (v1 : (c : Dev Cert.KLnIdeal.nD) → Buf (Elt Ideal) ((c.tc : Thread Cert.KLnIdeal.nD Cert.KLnIdeal.τ).loc Cert.KLnIdeal.main_v4_1)) (v2 : (c : Dev Cert.KLnIdeal.nD) → Buf (Elt Ideal) ((c.tc : Thread Cert.KLnIdeal.nD Cert.KLnIdeal.τ).loc Cert.KLnIdeal.main_v4_2)) (v3 : (c : Dev Cert.KLnIdeal.nD) → Buf (Elt Ideal) ((c.tc : Thread Cert.KLnIdeal.nD Cert.KLnIdeal.τ).loc Cert.KLnIdeal.main_v4_3)),
      θ_run (Cert.KLnIdeal.defs (F := Ideal)) (onTc (τ := Cert.KLnIdeal.τ) (Cert.KLnIdeal.main (F := Ideal))) ⟨m, fun _ => 0, g⟩ (fun r => ∀ c : Dev Cert.KLnIdeal.nD,
          r.2.mem ((c.tc : Thread Cert.KLnIdeal.nD Cert.KLnIdeal.τ).loc Cert.KLnIdeal.main_v4_0) = v0 c
          ∧ r.2.mem ((c.tc : Thread Cert.KLnIdeal.nD Cert.KLnIdeal.τ).loc Cert.KLnIdeal.main_v4_1) = v1 c
          ∧ r.2.mem ((c.tc : Thread Cert.KLnIdeal.nD Cert.KLnIdeal.τ).loc Cert.KLnIdeal.main_v4_2) = v2 c
          ∧ r.2.mem ((c.tc : Thread Cert.KLnIdeal.nD Cert.KLnIdeal.τ).loc Cert.KLnIdeal.main_v4_3) = v3 c
          ∧ r.2.mem ((c.tc : Thread Cert.KLnIdeal.nD Cert.KLnIdeal.τ).loc Cert.KLnIdeal.main_arg0) = m ((c.tc : Thread Cert.KLnIdeal.nD Cert.KLnIdeal.τ).loc Cert.KLnIdeal.main_arg0)
          ∧ r.2.mem ((c.tc : Thread Cert.KLnIdeal.nD Cert.KLnIdeal.τ).loc Cert.KLnIdeal.main_arg1) = m ((c.tc : Thread Cert.KLnIdeal.nD Cert.KLnIdeal.τ).loc Cert.KLnIdeal.main_arg1)
          ∧ r.2.mem ((c.tc : Thread Cert.KLnIdeal.nD Cert.KLnIdeal.τ).loc Cert.KLnIdeal.main_arg2) = m ((c.tc : Thread Cert.KLnIdeal.nD Cert.KLnIdeal.τ).loc Cert.KLnIdeal.main_arg2)
          ∧ r.2.mem ((c.tc : Thread Cert.KLnIdeal.nD Cert.KLnIdeal.τ).loc Cert.KLnIdeal.main_arg3) = m ((c.tc : Thread Cert.KLnIdeal.nD Cert.KLnIdeal.τ).loc Cert.KLnIdeal.main_arg3)
          ∧ r.2.mem ((c.tc : Thread Cert.KLnIdeal.nD Cert.KLnIdeal.τ).loc Cert.KLnIdeal.main_arg4) = m ((c.tc : Thread Cert.KLnIdeal.nD Cert.KLnIdeal.τ).loc Cert.KLnIdeal.main_arg4))
      ∧ θ_run (Cert.RLnIdeal.defs (F := Ideal)) (onTc (τ := Cert.RLnIdeal.τ) (Cert.RLnIdeal.main (F := Ideal))) ⟨m', fun _ => 0, g'⟩ (fun r => ∀ c : Dev Cert.RLnIdeal.nD,
          r.2.mem ((c.tc : Thread Cert.RLnIdeal.nD Cert.RLnIdeal.τ).loc Cert.RLnIdeal.main_v62) = v0 c
          ∧ r.2.mem ((c.tc : Thread Cert.RLnIdeal.nD Cert.RLnIdeal.τ).loc Cert.RLnIdeal.main_v63) = v1 c
          ∧ r.2.mem ((c.tc : Thread Cert.RLnIdeal.nD Cert.RLnIdeal.τ).loc Cert.RLnIdeal.main_v60) = v2 c
          ∧ r.2.mem ((c.tc : Thread Cert.RLnIdeal.nD Cert.RLnIdeal.τ).loc Cert.RLnIdeal.main_v59) = v3 c
          ∧ r.2.mem ((c.tc : Thread Cert.RLnIdeal.nD Cert.RLnIdeal.τ).loc Cert.RLnIdeal.main_arg0) = m' ((c.tc : Thread Cert.RLnIdeal.nD Cert.RLnIdeal.τ).loc Cert.RLnIdeal.main_arg0)
          ∧ r.2.mem ((c.tc : Thread Cert.RLnIdeal.nD Cert.RLnIdeal.τ).loc Cert.RLnIdeal.main_arg1) = m' ((c.tc : Thread Cert.RLnIdeal.nD Cert.RLnIdeal.τ).loc Cert.RLnIdeal.main_arg1)
          ∧ r.2.mem ((c.tc : Thread Cert.RLnIdeal.nD Cert.RLnIdeal.τ).loc Cert.RLnIdeal.main_arg2) = m' ((c.tc : Thread Cert.RLnIdeal.nD Cert.RLnIdeal.τ).loc Cert.RLnIdeal.main_arg2)
          ∧ r.2.mem ((c.tc : Thread Cert.RLnIdeal.nD Cert.RLnIdeal.τ).loc Cert.RLnIdeal.main_arg3) = m' ((c.tc : Thread Cert.RLnIdeal.nD Cert.RLnIdeal.τ).loc Cert.RLnIdeal.main_arg3)
          ∧ r.2.mem ((c.tc : Thread Cert.RLnIdeal.nD Cert.RLnIdeal.τ).loc Cert.RLnIdeal.main_arg4) = m' ((c.tc : Thread Cert.RLnIdeal.nD Cert.RLnIdeal.τ).loc Cert.RLnIdeal.main_arg4))

def preserves_KDgu_KDguIdeal : Prop :=
  True

def algebraic_KDguIdeal_RDguIdeal_pre_finite_dgu [hKDguIdeal : Cert.KDguIdeal.Facts] [hRDguIdeal : Cert.RDguIdeal.Facts] [hPre_finite_dgu : Cert.Pre_finite_dgu.Facts] : Prop :=
  ∀ (m : (ℓ : Loc Cert.KDguIdeal.nD Cert.KDguIdeal.τ Cert.KDguIdeal.sig) → Buf (Elt Ideal) ℓ) (g : Dev Cert.KDguIdeal.nD → PrngReg)
    (m' : (ℓ : Loc Cert.RDguIdeal.nD Cert.RDguIdeal.τ Cert.RDguIdeal.sig) → Buf (Elt Ideal) ℓ) (g' : Dev Cert.RDguIdeal.nD → PrngReg), Pre_KDguIdeal_finite_dgu m →
    (∀ c : Dev Cert.KDguIdeal.nD,
      m' ((c.tc : Thread Cert.RDguIdeal.nD Cert.RDguIdeal.τ).loc Cert.RDguIdeal.main_arg0) = m ((c.tc : Thread Cert.KDguIdeal.nD Cert.KDguIdeal.τ).loc Cert.KDguIdeal.main_arg0)
      ∧ m' ((c.tc : Thread Cert.RDguIdeal.nD Cert.RDguIdeal.τ).loc Cert.RDguIdeal.main_arg1) = m ((c.tc : Thread Cert.KDguIdeal.nD Cert.KDguIdeal.τ).loc Cert.KDguIdeal.main_arg1)
      ∧ m' ((c.tc : Thread Cert.RDguIdeal.nD Cert.RDguIdeal.τ).loc Cert.RDguIdeal.main_arg2) = m ((c.tc : Thread Cert.KDguIdeal.nD Cert.KDguIdeal.τ).loc Cert.KDguIdeal.main_arg2)
      ∧ m' ((c.tc : Thread Cert.RDguIdeal.nD Cert.RDguIdeal.τ).loc Cert.RDguIdeal.main_arg3) = m ((c.tc : Thread Cert.KDguIdeal.nD Cert.KDguIdeal.τ).loc Cert.KDguIdeal.main_arg3)
      ∧ m' ((c.tc : Thread Cert.RDguIdeal.nD Cert.RDguIdeal.τ).loc Cert.RDguIdeal.main_arg4) = m ((c.tc : Thread Cert.KDguIdeal.nD Cert.KDguIdeal.τ).loc Cert.KDguIdeal.main_arg4)) →
    ∃ (v0 : (c : Dev Cert.KDguIdeal.nD) → Buf (Elt Ideal) ((c.tc : Thread Cert.KDguIdeal.nD Cert.KDguIdeal.τ).loc Cert.KDguIdeal.main_v16)),
      θ_run (Cert.KDguIdeal.defs (F := Ideal)) (onTc (τ := Cert.KDguIdeal.τ) (Cert.KDguIdeal.main (F := Ideal))) ⟨m, fun _ => 0, g⟩ (fun r => ∀ c : Dev Cert.KDguIdeal.nD,
          r.2.mem ((c.tc : Thread Cert.KDguIdeal.nD Cert.KDguIdeal.τ).loc Cert.KDguIdeal.main_v16) = v0 c
          ∧ r.2.mem ((c.tc : Thread Cert.KDguIdeal.nD Cert.KDguIdeal.τ).loc Cert.KDguIdeal.main_arg0) = m ((c.tc : Thread Cert.KDguIdeal.nD Cert.KDguIdeal.τ).loc Cert.KDguIdeal.main_arg0)
          ∧ r.2.mem ((c.tc : Thread Cert.KDguIdeal.nD Cert.KDguIdeal.τ).loc Cert.KDguIdeal.main_arg1) = m ((c.tc : Thread Cert.KDguIdeal.nD Cert.KDguIdeal.τ).loc Cert.KDguIdeal.main_arg1)
          ∧ r.2.mem ((c.tc : Thread Cert.KDguIdeal.nD Cert.KDguIdeal.τ).loc Cert.KDguIdeal.main_arg2) = m ((c.tc : Thread Cert.KDguIdeal.nD Cert.KDguIdeal.τ).loc Cert.KDguIdeal.main_arg2)
          ∧ r.2.mem ((c.tc : Thread Cert.KDguIdeal.nD Cert.KDguIdeal.τ).loc Cert.KDguIdeal.main_arg3) = m ((c.tc : Thread Cert.KDguIdeal.nD Cert.KDguIdeal.τ).loc Cert.KDguIdeal.main_arg3)
          ∧ r.2.mem ((c.tc : Thread Cert.KDguIdeal.nD Cert.KDguIdeal.τ).loc Cert.KDguIdeal.main_arg4) = m ((c.tc : Thread Cert.KDguIdeal.nD Cert.KDguIdeal.τ).loc Cert.KDguIdeal.main_arg4))
      ∧ θ_run (Cert.RDguIdeal.defs (F := Ideal)) (onTc (τ := Cert.RDguIdeal.τ) (Cert.RDguIdeal.main (F := Ideal))) ⟨m', fun _ => 0, g'⟩ (fun r => ∀ c : Dev Cert.RDguIdeal.nD,
          r.2.mem ((c.tc : Thread Cert.RDguIdeal.nD Cert.RDguIdeal.τ).loc Cert.RDguIdeal.main_v22) = v0 c
          ∧ r.2.mem ((c.tc : Thread Cert.RDguIdeal.nD Cert.RDguIdeal.τ).loc Cert.RDguIdeal.main_arg0) = m' ((c.tc : Thread Cert.RDguIdeal.nD Cert.RDguIdeal.τ).loc Cert.RDguIdeal.main_arg0)
          ∧ r.2.mem ((c.tc : Thread Cert.RDguIdeal.nD Cert.RDguIdeal.τ).loc Cert.RDguIdeal.main_arg1) = m' ((c.tc : Thread Cert.RDguIdeal.nD Cert.RDguIdeal.τ).loc Cert.RDguIdeal.main_arg1)
          ∧ r.2.mem ((c.tc : Thread Cert.RDguIdeal.nD Cert.RDguIdeal.τ).loc Cert.RDguIdeal.main_arg2) = m' ((c.tc : Thread Cert.RDguIdeal.nD Cert.RDguIdeal.τ).loc Cert.RDguIdeal.main_arg2)
          ∧ r.2.mem ((c.tc : Thread Cert.RDguIdeal.nD Cert.RDguIdeal.τ).loc Cert.RDguIdeal.main_arg3) = m' ((c.tc : Thread Cert.RDguIdeal.nD Cert.RDguIdeal.τ).loc Cert.RDguIdeal.main_arg3)
          ∧ r.2.mem ((c.tc : Thread Cert.RDguIdeal.nD Cert.RDguIdeal.τ).loc Cert.RDguIdeal.main_arg4) = m' ((c.tc : Thread Cert.RDguIdeal.nD Cert.RDguIdeal.τ).loc Cert.RDguIdeal.main_arg4))

def preserves_KPool_KPoolIdeal : Prop :=
  True

def algebraic_KPoolIdeal_RPoolIdeal_pre_finite_pool [hKPoolIdeal : Cert.KPoolIdeal.Facts] [hRPoolIdeal : Cert.RPoolIdeal.Facts] [hPre_finite_pool : Cert.Pre_finite_pool.Facts] : Prop :=
  ∀ (m : (ℓ : Loc Cert.KPoolIdeal.nD Cert.KPoolIdeal.τ Cert.KPoolIdeal.sig) → Buf (Elt Ideal) ℓ) (g : Dev Cert.KPoolIdeal.nD → PrngReg)
    (m' : (ℓ : Loc Cert.RPoolIdeal.nD Cert.RPoolIdeal.τ Cert.RPoolIdeal.sig) → Buf (Elt Ideal) ℓ) (g' : Dev Cert.RPoolIdeal.nD → PrngReg), Pre_KPoolIdeal_finite_pool m →
    (∀ c : Dev Cert.KPoolIdeal.nD,
      m' ((c.tc : Thread Cert.RPoolIdeal.nD Cert.RPoolIdeal.τ).loc Cert.RPoolIdeal.main_arg0) = m ((c.tc : Thread Cert.KPoolIdeal.nD Cert.KPoolIdeal.τ).loc Cert.KPoolIdeal.main_arg0)
      ∧ m' ((c.tc : Thread Cert.RPoolIdeal.nD Cert.RPoolIdeal.τ).loc Cert.RPoolIdeal.main_arg1) = m ((c.tc : Thread Cert.KPoolIdeal.nD Cert.KPoolIdeal.τ).loc Cert.KPoolIdeal.main_arg1)) →
    ∃ (v0 : (c : Dev Cert.KPoolIdeal.nD) → Buf (Elt Ideal) ((c.tc : Thread Cert.KPoolIdeal.nD Cert.KPoolIdeal.τ).loc Cert.KPoolIdeal.main_v2)),
      θ_run (Cert.KPoolIdeal.defs (F := Ideal)) (onTc (τ := Cert.KPoolIdeal.τ) (Cert.KPoolIdeal.main (F := Ideal))) ⟨m, fun _ => 0, g⟩ (fun r => ∀ c : Dev Cert.KPoolIdeal.nD,
          r.2.mem ((c.tc : Thread Cert.KPoolIdeal.nD Cert.KPoolIdeal.τ).loc Cert.KPoolIdeal.main_v2) = v0 c
          ∧ r.2.mem ((c.tc : Thread Cert.KPoolIdeal.nD Cert.KPoolIdeal.τ).loc Cert.KPoolIdeal.main_arg0) = m ((c.tc : Thread Cert.KPoolIdeal.nD Cert.KPoolIdeal.τ).loc Cert.KPoolIdeal.main_arg0)
          ∧ r.2.mem ((c.tc : Thread Cert.KPoolIdeal.nD Cert.KPoolIdeal.τ).loc Cert.KPoolIdeal.main_arg1) = m ((c.tc : Thread Cert.KPoolIdeal.nD Cert.KPoolIdeal.τ).loc Cert.KPoolIdeal.main_arg1))
      ∧ θ_run (Cert.RPoolIdeal.defs (F := Ideal)) (onTc (τ := Cert.RPoolIdeal.τ) (Cert.RPoolIdeal.main (F := Ideal))) ⟨m', fun _ => 0, g'⟩ (fun r => ∀ c : Dev Cert.RPoolIdeal.nD,
          r.2.mem ((c.tc : Thread Cert.RPoolIdeal.nD Cert.RPoolIdeal.τ).loc Cert.RPoolIdeal.main_v133) = v0 c
          ∧ r.2.mem ((c.tc : Thread Cert.RPoolIdeal.nD Cert.RPoolIdeal.τ).loc Cert.RPoolIdeal.main_arg0) = m' ((c.tc : Thread Cert.RPoolIdeal.nD Cert.RPoolIdeal.τ).loc Cert.RPoolIdeal.main_arg0)
          ∧ r.2.mem ((c.tc : Thread Cert.RPoolIdeal.nD Cert.RPoolIdeal.τ).loc Cert.RPoolIdeal.main_arg1) = m' ((c.tc : Thread Cert.RPoolIdeal.nD Cert.RPoolIdeal.τ).loc Cert.RPoolIdeal.main_arg1))

def preserves_KLoss_KLossIdeal : Prop :=
  True

def algebraic_KLossIdeal_RLossIdeal_pre_finite_loss [hKLossIdeal : Cert.KLossIdeal.Facts] [hRLossIdeal : Cert.RLossIdeal.Facts] [hPre_finite_loss : Cert.Pre_finite_loss.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal_finite_loss m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)
      ∧ m' ((c.tc : Thread Cert.RLossIdeal.nD Cert.RLossIdeal.τ).loc Cert.RLossIdeal.main_arg2) = m ((c.tc : Thread Cert.KLossIdeal.nD Cert.KLossIdeal.τ).loc Cert.KLossIdeal.main_arg2)
      ∧ m' ((c.tc : Thread Cert.RLossIdeal.nD Cert.RLossIdeal.τ).loc Cert.RLossIdeal.main_arg3) = m ((c.tc : Thread Cert.KLossIdeal.nD Cert.KLossIdeal.τ).loc Cert.KLossIdeal.main_arg3)
      ∧ m' ((c.tc : Thread Cert.RLossIdeal.nD Cert.RLossIdeal.τ).loc Cert.RLossIdeal.main_arg4) = m ((c.tc : Thread Cert.KLossIdeal.nD Cert.KLossIdeal.τ).loc Cert.KLossIdeal.main_arg4)) →
    ∃ (v0 : (c : Dev Cert.KLossIdeal.nD) → Buf (Elt Ideal) ((c.tc : Thread Cert.KLossIdeal.nD Cert.KLossIdeal.τ).loc Cert.KLossIdeal.main_v8)) (v1 : (c : Dev Cert.KLossIdeal.nD) → Buf (Elt Ideal) ((c.tc : Thread Cert.KLossIdeal.nD Cert.KLossIdeal.τ).loc Cert.KLossIdeal.main_v5_0)) (v2 : (c : Dev Cert.KLossIdeal.nD) → Buf (Elt Ideal) ((c.tc : Thread Cert.KLossIdeal.nD Cert.KLossIdeal.τ).loc Cert.KLossIdeal.main_v5_1)) (v3 : (c : Dev Cert.KLossIdeal.nD) → Buf (Elt Ideal) ((c.tc : Thread Cert.KLossIdeal.nD Cert.KLossIdeal.τ).loc Cert.KLossIdeal.main_v5_2)) (v4 : (c : Dev Cert.KLossIdeal.nD) → Buf (Elt Ideal) ((c.tc : Thread Cert.KLossIdeal.nD Cert.KLossIdeal.τ).loc Cert.KLossIdeal.main_v5_3)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v8) = v0 c
          ∧ r.2.mem ((c.tc : Thread Cert.KLossIdeal.nD Cert.KLossIdeal.τ).loc Cert.KLossIdeal.main_v5_0) = v1 c
          ∧ r.2.mem ((c.tc : Thread Cert.KLossIdeal.nD Cert.KLossIdeal.τ).loc Cert.KLossIdeal.main_v5_1) = v2 c
          ∧ r.2.mem ((c.tc : Thread Cert.KLossIdeal.nD Cert.KLossIdeal.τ).loc Cert.KLossIdeal.main_v5_2) = v3 c
          ∧ r.2.mem ((c.tc : Thread Cert.KLossIdeal.nD Cert.KLossIdeal.τ).loc Cert.KLossIdeal.main_v5_3) = v4 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1)
          ∧ r.2.mem ((c.tc : Thread Cert.KLossIdeal.nD Cert.KLossIdeal.τ).loc Cert.KLossIdeal.main_arg2) = m ((c.tc : Thread Cert.KLossIdeal.nD Cert.KLossIdeal.τ).loc Cert.KLossIdeal.main_arg2)
          ∧ r.2.mem ((c.tc : Thread Cert.KLossIdeal.nD Cert.KLossIdeal.τ).loc Cert.KLossIdeal.main_arg3) = m ((c.tc : Thread Cert.KLossIdeal.nD Cert.KLossIdeal.τ).loc Cert.KLossIdeal.main_arg3)
          ∧ r.2.mem ((c.tc : Thread Cert.KLossIdeal.nD Cert.KLossIdeal.τ).loc Cert.KLossIdeal.main_arg4) = m ((c.tc : Thread Cert.KLossIdeal.nD Cert.KLossIdeal.τ).loc Cert.KLossIdeal.main_arg4))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v38) = v0 c
          ∧ r.2.mem ((c.tc : Thread Cert.RLossIdeal.nD Cert.RLossIdeal.τ).loc Cert.RLossIdeal.main_v78) = v1 c
          ∧ r.2.mem ((c.tc : Thread Cert.RLossIdeal.nD Cert.RLossIdeal.τ).loc Cert.RLossIdeal.main_v79) = v2 c
          ∧ r.2.mem ((c.tc : Thread Cert.RLossIdeal.nD Cert.RLossIdeal.τ).loc Cert.RLossIdeal.main_v76) = v3 c
          ∧ r.2.mem ((c.tc : Thread Cert.RLossIdeal.nD Cert.RLossIdeal.τ).loc Cert.RLossIdeal.main_v75) = v4 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1)
          ∧ r.2.mem ((c.tc : Thread Cert.RLossIdeal.nD Cert.RLossIdeal.τ).loc Cert.RLossIdeal.main_arg2) = m' ((c.tc : Thread Cert.RLossIdeal.nD Cert.RLossIdeal.τ).loc Cert.RLossIdeal.main_arg2)
          ∧ r.2.mem ((c.tc : Thread Cert.RLossIdeal.nD Cert.RLossIdeal.τ).loc Cert.RLossIdeal.main_arg3) = m' ((c.tc : Thread Cert.RLossIdeal.nD Cert.RLossIdeal.τ).loc Cert.RLossIdeal.main_arg3)
          ∧ r.2.mem ((c.tc : Thread Cert.RLossIdeal.nD Cert.RLossIdeal.τ).loc Cert.RLossIdeal.main_arg4) = m' ((c.tc : Thread Cert.RLossIdeal.nD Cert.RLossIdeal.τ).loc Cert.RLossIdeal.main_arg4))

def preserves_KLnF_KLnFIdeal : Prop :=
  True

def algebraic_KLnFIdeal_RLnFIdeal [hKLnFIdeal : Cert.KLnFIdeal.Facts] [hRLnFIdeal : Cert.RLnFIdeal.Facts] : Prop :=
  ∀ (m : (ℓ : Loc Cert.KLnFIdeal.nD Cert.KLnFIdeal.τ Cert.KLnFIdeal.sig) → Buf (Elt Ideal) ℓ) (g : Dev Cert.KLnFIdeal.nD → PrngReg)
    (m' : (ℓ : Loc Cert.RLnFIdeal.nD Cert.RLnFIdeal.τ Cert.RLnFIdeal.sig) → Buf (Elt Ideal) ℓ) (g' : Dev Cert.RLnFIdeal.nD → PrngReg), Pre_KLnFIdeal m →
    (∀ c : Dev Cert.KLnFIdeal.nD,
      m' ((c.tc : Thread Cert.RLnFIdeal.nD Cert.RLnFIdeal.τ).loc Cert.RLnFIdeal.main_arg0) = m ((c.tc : Thread Cert.KLnFIdeal.nD Cert.KLnFIdeal.τ).loc Cert.KLnFIdeal.main_arg0)
      ∧ m' ((c.tc : Thread Cert.RLnFIdeal.nD Cert.RLnFIdeal.τ).loc Cert.RLnFIdeal.main_arg1) = m ((c.tc : Thread Cert.KLnFIdeal.nD Cert.KLnFIdeal.τ).loc Cert.KLnFIdeal.main_arg1)
      ∧ m' ((c.tc : Thread Cert.RLnFIdeal.nD Cert.RLnFIdeal.τ).loc Cert.RLnFIdeal.main_arg2) = m ((c.tc : Thread Cert.KLnFIdeal.nD Cert.KLnFIdeal.τ).loc Cert.KLnFIdeal.main_arg2)
      ∧ m' ((c.tc : Thread Cert.RLnFIdeal.nD Cert.RLnFIdeal.τ).loc Cert.RLnFIdeal.main_arg3) = m ((c.tc : Thread Cert.KLnFIdeal.nD Cert.KLnFIdeal.τ).loc Cert.KLnFIdeal.main_arg3)) →
    ∃ (v0 : (c : Dev Cert.KLnFIdeal.nD) → Buf (Elt Ideal) ((c.tc : Thread Cert.KLnFIdeal.nD Cert.KLnFIdeal.τ).loc Cert.KLnFIdeal.main_v2_0)) (v1 : (c : Dev Cert.KLnFIdeal.nD) → Buf (Elt Ideal) ((c.tc : Thread Cert.KLnFIdeal.nD Cert.KLnFIdeal.τ).loc Cert.KLnFIdeal.main_v2_1)),
      θ_run (Cert.KLnFIdeal.defs (F := Ideal)) (onTc (τ := Cert.KLnFIdeal.τ) (Cert.KLnFIdeal.main (F := Ideal))) ⟨m, fun _ => 0, g⟩ (fun r => ∀ c : Dev Cert.KLnFIdeal.nD,
          r.2.mem ((c.tc : Thread Cert.KLnFIdeal.nD Cert.KLnFIdeal.τ).loc Cert.KLnFIdeal.main_v2_0) = v0 c
          ∧ r.2.mem ((c.tc : Thread Cert.KLnFIdeal.nD Cert.KLnFIdeal.τ).loc Cert.KLnFIdeal.main_v2_1) = v1 c
          ∧ r.2.mem ((c.tc : Thread Cert.KLnFIdeal.nD Cert.KLnFIdeal.τ).loc Cert.KLnFIdeal.main_arg0) = m ((c.tc : Thread Cert.KLnFIdeal.nD Cert.KLnFIdeal.τ).loc Cert.KLnFIdeal.main_arg0)
          ∧ r.2.mem ((c.tc : Thread Cert.KLnFIdeal.nD Cert.KLnFIdeal.τ).loc Cert.KLnFIdeal.main_arg1) = m ((c.tc : Thread Cert.KLnFIdeal.nD Cert.KLnFIdeal.τ).loc Cert.KLnFIdeal.main_arg1)
          ∧ r.2.mem ((c.tc : Thread Cert.KLnFIdeal.nD Cert.KLnFIdeal.τ).loc Cert.KLnFIdeal.main_arg2) = m ((c.tc : Thread Cert.KLnFIdeal.nD Cert.KLnFIdeal.τ).loc Cert.KLnFIdeal.main_arg2)
          ∧ r.2.mem ((c.tc : Thread Cert.KLnFIdeal.nD Cert.KLnFIdeal.τ).loc Cert.KLnFIdeal.main_arg3) = m ((c.tc : Thread Cert.KLnFIdeal.nD Cert.KLnFIdeal.τ).loc Cert.KLnFIdeal.main_arg3))
      ∧ θ_run (Cert.RLnFIdeal.defs (F := Ideal)) (onTc (τ := Cert.RLnFIdeal.τ) (Cert.RLnFIdeal.main (F := Ideal))) ⟨m', fun _ => 0, g'⟩ (fun r => ∀ c : Dev Cert.RLnFIdeal.nD,
          r.2.mem ((c.tc : Thread Cert.RLnFIdeal.nD Cert.RLnFIdeal.τ).loc Cert.RLnFIdeal.main_v25) = v0 c
          ∧ r.2.mem ((c.tc : Thread Cert.RLnFIdeal.nD Cert.RLnFIdeal.τ).loc Cert.RLnFIdeal.main_v26) = v1 c
          ∧ r.2.mem ((c.tc : Thread Cert.RLnFIdeal.nD Cert.RLnFIdeal.τ).loc Cert.RLnFIdeal.main_arg0) = m' ((c.tc : Thread Cert.RLnFIdeal.nD Cert.RLnFIdeal.τ).loc Cert.RLnFIdeal.main_arg0)
          ∧ r.2.mem ((c.tc : Thread Cert.RLnFIdeal.nD Cert.RLnFIdeal.τ).loc Cert.RLnFIdeal.main_arg1) = m' ((c.tc : Thread Cert.RLnFIdeal.nD Cert.RLnFIdeal.τ).loc Cert.RLnFIdeal.main_arg1)
          ∧ r.2.mem ((c.tc : Thread Cert.RLnFIdeal.nD Cert.RLnFIdeal.τ).loc Cert.RLnFIdeal.main_arg2) = m' ((c.tc : Thread Cert.RLnFIdeal.nD Cert.RLnFIdeal.τ).loc Cert.RLnFIdeal.main_arg2)
          ∧ r.2.mem ((c.tc : Thread Cert.RLnFIdeal.nD Cert.RLnFIdeal.τ).loc Cert.RLnFIdeal.main_arg3) = m' ((c.tc : Thread Cert.RLnFIdeal.nD Cert.RLnFIdeal.τ).loc Cert.RLnFIdeal.main_arg3))

def preserves_KGuF_KGuFIdeal : Prop :=
  True

def algebraic_KGuFIdeal_RGuFIdeal [hKGuFIdeal : Cert.KGuFIdeal.Facts] [hRGuFIdeal : Cert.RGuFIdeal.Facts] : Prop :=
  ∀ (m : (ℓ : Loc Cert.KGuFIdeal.nD Cert.KGuFIdeal.τ Cert.KGuFIdeal.sig) → Buf (Elt Ideal) ℓ) (g : Dev Cert.KGuFIdeal.nD → PrngReg)
    (m' : (ℓ : Loc Cert.RGuFIdeal.nD Cert.RGuFIdeal.τ Cert.RGuFIdeal.sig) → Buf (Elt Ideal) ℓ) (g' : Dev Cert.RGuFIdeal.nD → PrngReg), Pre_KGuFIdeal m →
    (∀ c : Dev Cert.KGuFIdeal.nD,
      m' ((c.tc : Thread Cert.RGuFIdeal.nD Cert.RGuFIdeal.τ).loc Cert.RGuFIdeal.main_arg0) = m ((c.tc : Thread Cert.KGuFIdeal.nD Cert.KGuFIdeal.τ).loc Cert.KGuFIdeal.main_arg0)
      ∧ m' ((c.tc : Thread Cert.RGuFIdeal.nD Cert.RGuFIdeal.τ).loc Cert.RGuFIdeal.main_arg1) = m ((c.tc : Thread Cert.KGuFIdeal.nD Cert.KGuFIdeal.τ).loc Cert.KGuFIdeal.main_arg1)
      ∧ m' ((c.tc : Thread Cert.RGuFIdeal.nD Cert.RGuFIdeal.τ).loc Cert.RGuFIdeal.main_arg2) = m ((c.tc : Thread Cert.KGuFIdeal.nD Cert.KGuFIdeal.τ).loc Cert.KGuFIdeal.main_arg2)) →
    ∃ (v0 : (c : Dev Cert.KGuFIdeal.nD) → Buf (Elt Ideal) ((c.tc : Thread Cert.KGuFIdeal.nD Cert.KGuFIdeal.τ).loc Cert.KGuFIdeal.main_v7_0)) (v1 : (c : Dev Cert.KGuFIdeal.nD) → Buf (Elt Ideal) ((c.tc : Thread Cert.KGuFIdeal.nD Cert.KGuFIdeal.τ).loc Cert.KGuFIdeal.main_v7_1)),
      θ_run (Cert.KGuFIdeal.defs (F := Ideal)) (onTc (τ := Cert.KGuFIdeal.τ) (Cert.KGuFIdeal.main (F := Ideal))) ⟨m, fun _ => 0, g⟩ (fun r => ∀ c : Dev Cert.KGuFIdeal.nD,
          r.2.mem ((c.tc : Thread Cert.KGuFIdeal.nD Cert.KGuFIdeal.τ).loc Cert.KGuFIdeal.main_v7_0) = v0 c
          ∧ r.2.mem ((c.tc : Thread Cert.KGuFIdeal.nD Cert.KGuFIdeal.τ).loc Cert.KGuFIdeal.main_v7_1) = v1 c
          ∧ r.2.mem ((c.tc : Thread Cert.KGuFIdeal.nD Cert.KGuFIdeal.τ).loc Cert.KGuFIdeal.main_arg0) = m ((c.tc : Thread Cert.KGuFIdeal.nD Cert.KGuFIdeal.τ).loc Cert.KGuFIdeal.main_arg0)
          ∧ r.2.mem ((c.tc : Thread Cert.KGuFIdeal.nD Cert.KGuFIdeal.τ).loc Cert.KGuFIdeal.main_arg1) = m ((c.tc : Thread Cert.KGuFIdeal.nD Cert.KGuFIdeal.τ).loc Cert.KGuFIdeal.main_arg1)
          ∧ r.2.mem ((c.tc : Thread Cert.KGuFIdeal.nD Cert.KGuFIdeal.τ).loc Cert.KGuFIdeal.main_arg2) = m ((c.tc : Thread Cert.KGuFIdeal.nD Cert.KGuFIdeal.τ).loc Cert.KGuFIdeal.main_arg2))
      ∧ θ_run (Cert.RGuFIdeal.defs (F := Ideal)) (onTc (τ := Cert.RGuFIdeal.τ) (Cert.RGuFIdeal.main (F := Ideal))) ⟨m', fun _ => 0, g'⟩ (fun r => ∀ c : Dev Cert.RGuFIdeal.nD,
          r.2.mem ((c.tc : Thread Cert.RGuFIdeal.nD Cert.RGuFIdeal.τ).loc Cert.RGuFIdeal.main_v10) = v0 c
          ∧ r.2.mem ((c.tc : Thread Cert.RGuFIdeal.nD Cert.RGuFIdeal.τ).loc Cert.RGuFIdeal.main_v13) = v1 c
          ∧ r.2.mem ((c.tc : Thread Cert.RGuFIdeal.nD Cert.RGuFIdeal.τ).loc Cert.RGuFIdeal.main_arg0) = m' ((c.tc : Thread Cert.RGuFIdeal.nD Cert.RGuFIdeal.τ).loc Cert.RGuFIdeal.main_arg0)
          ∧ r.2.mem ((c.tc : Thread Cert.RGuFIdeal.nD Cert.RGuFIdeal.τ).loc Cert.RGuFIdeal.main_arg1) = m' ((c.tc : Thread Cert.RGuFIdeal.nD Cert.RGuFIdeal.τ).loc Cert.RGuFIdeal.main_arg1)
          ∧ r.2.mem ((c.tc : Thread Cert.RGuFIdeal.nD Cert.RGuFIdeal.τ).loc Cert.RGuFIdeal.main_arg2) = m' ((c.tc : Thread Cert.RGuFIdeal.nD Cert.RGuFIdeal.τ).loc Cert.RGuFIdeal.main_arg2))

def preserves_KConvF_KConvFIdeal : Prop :=
  True

def algebraic_KConvFIdeal_RConvFIdeal [hKConvFIdeal : Cert.KConvFIdeal.Facts] [hRConvFIdeal : Cert.RConvFIdeal.Facts] : Prop :=
  ∀ (m : (ℓ : Loc Cert.KConvFIdeal.nD Cert.KConvFIdeal.τ Cert.KConvFIdeal.sig) → Buf (Elt Ideal) ℓ) (g : Dev Cert.KConvFIdeal.nD → PrngReg)
    (m' : (ℓ : Loc Cert.RConvFIdeal.nD Cert.RConvFIdeal.τ Cert.RConvFIdeal.sig) → Buf (Elt Ideal) ℓ) (g' : Dev Cert.RConvFIdeal.nD → PrngReg), Pre_KConvFIdeal m →
    (∀ c : Dev Cert.KConvFIdeal.nD,
      m' ((c.tc : Thread Cert.RConvFIdeal.nD Cert.RConvFIdeal.τ).loc Cert.RConvFIdeal.main_arg0) = m ((c.tc : Thread Cert.KConvFIdeal.nD Cert.KConvFIdeal.τ).loc Cert.KConvFIdeal.main_arg0)
      ∧ m' ((c.tc : Thread Cert.RConvFIdeal.nD Cert.RConvFIdeal.τ).loc Cert.RConvFIdeal.main_arg1) = m ((c.tc : Thread Cert.KConvFIdeal.nD Cert.KConvFIdeal.τ).loc Cert.KConvFIdeal.main_arg1)
      ∧ m' ((c.tc : Thread Cert.RConvFIdeal.nD Cert.RConvFIdeal.τ).loc Cert.RConvFIdeal.main_arg2) = m ((c.tc : Thread Cert.KConvFIdeal.nD Cert.KConvFIdeal.τ).loc Cert.KConvFIdeal.main_arg2)) →
    ∃ (v0 : (c : Dev Cert.KConvFIdeal.nD) → Buf (Elt Ideal) ((c.tc : Thread Cert.KConvFIdeal.nD Cert.KConvFIdeal.τ).loc Cert.KConvFIdeal.main_v4)),
      θ_run (Cert.KConvFIdeal.defs (F := Ideal)) (onTc (τ := Cert.KConvFIdeal.τ) (Cert.KConvFIdeal.main (F := Ideal))) ⟨m, fun _ => 0, g⟩ (fun r => ∀ c : Dev Cert.KConvFIdeal.nD,
          r.2.mem ((c.tc : Thread Cert.KConvFIdeal.nD Cert.KConvFIdeal.τ).loc Cert.KConvFIdeal.main_v4) = v0 c
          ∧ r.2.mem ((c.tc : Thread Cert.KConvFIdeal.nD Cert.KConvFIdeal.τ).loc Cert.KConvFIdeal.main_arg0) = m ((c.tc : Thread Cert.KConvFIdeal.nD Cert.KConvFIdeal.τ).loc Cert.KConvFIdeal.main_arg0)
          ∧ r.2.mem ((c.tc : Thread Cert.KConvFIdeal.nD Cert.KConvFIdeal.τ).loc Cert.KConvFIdeal.main_arg1) = m ((c.tc : Thread Cert.KConvFIdeal.nD Cert.KConvFIdeal.τ).loc Cert.KConvFIdeal.main_arg1)
          ∧ r.2.mem ((c.tc : Thread Cert.KConvFIdeal.nD Cert.KConvFIdeal.τ).loc Cert.KConvFIdeal.main_arg2) = m ((c.tc : Thread Cert.KConvFIdeal.nD Cert.KConvFIdeal.τ).loc Cert.KConvFIdeal.main_arg2))
      ∧ θ_run (Cert.RConvFIdeal.defs (F := Ideal)) (onTc (τ := Cert.RConvFIdeal.τ) (Cert.RConvFIdeal.main (F := Ideal))) ⟨m', fun _ => 0, g'⟩ (fun r => ∀ c : Dev Cert.RConvFIdeal.nD,
          r.2.mem ((c.tc : Thread Cert.RConvFIdeal.nD Cert.RConvFIdeal.τ).loc Cert.RConvFIdeal.main_v29) = v0 c
          ∧ r.2.mem ((c.tc : Thread Cert.RConvFIdeal.nD Cert.RConvFIdeal.τ).loc Cert.RConvFIdeal.main_arg0) = m' ((c.tc : Thread Cert.RConvFIdeal.nD Cert.RConvFIdeal.τ).loc Cert.RConvFIdeal.main_arg0)
          ∧ r.2.mem ((c.tc : Thread Cert.RConvFIdeal.nD Cert.RConvFIdeal.τ).loc Cert.RConvFIdeal.main_arg1) = m' ((c.tc : Thread Cert.RConvFIdeal.nD Cert.RConvFIdeal.τ).loc Cert.RConvFIdeal.main_arg1)
          ∧ r.2.mem ((c.tc : Thread Cert.RConvFIdeal.nD Cert.RConvFIdeal.τ).loc Cert.RConvFIdeal.main_arg2) = m' ((c.tc : Thread Cert.RConvFIdeal.nD Cert.RConvFIdeal.τ).loc Cert.RConvFIdeal.main_arg2))

def preserves_KPoolF_KPoolFIdeal : Prop :=
  True

def algebraic_KPoolFIdeal_RPoolFIdeal_pre_finite_poolf [hKPoolFIdeal : Cert.KPoolFIdeal.Facts] [hRPoolFIdeal : Cert.RPoolFIdeal.Facts] [hPre_finite_poolf : Cert.Pre_finite_poolf.Facts] : Prop :=
  ∀ (m : (ℓ : Loc Cert.KPoolFIdeal.nD Cert.KPoolFIdeal.τ Cert.KPoolFIdeal.sig) → Buf (Elt Ideal) ℓ) (g : Dev Cert.KPoolFIdeal.nD → PrngReg)
    (m' : (ℓ : Loc Cert.RPoolFIdeal.nD Cert.RPoolFIdeal.τ Cert.RPoolFIdeal.sig) → Buf (Elt Ideal) ℓ) (g' : Dev Cert.RPoolFIdeal.nD → PrngReg), Pre_KPoolFIdeal_finite_poolf m →
    (∀ c : Dev Cert.KPoolFIdeal.nD,
      m' ((c.tc : Thread Cert.RPoolFIdeal.nD Cert.RPoolFIdeal.τ).loc Cert.RPoolFIdeal.main_arg0) = m ((c.tc : Thread Cert.KPoolFIdeal.nD Cert.KPoolFIdeal.τ).loc Cert.KPoolFIdeal.main_arg0)
      ∧ m' ((c.tc : Thread Cert.RPoolFIdeal.nD Cert.RPoolFIdeal.τ).loc Cert.RPoolFIdeal.main_arg1) = m ((c.tc : Thread Cert.KPoolFIdeal.nD Cert.KPoolFIdeal.τ).loc Cert.KPoolFIdeal.main_arg1)) →
    ∃ (v0 : (c : Dev Cert.KPoolFIdeal.nD) → Buf (Elt Ideal) ((c.tc : Thread Cert.KPoolFIdeal.nD Cert.KPoolFIdeal.τ).loc Cert.KPoolFIdeal.main_v3)),
      θ_run (Cert.KPoolFIdeal.defs (F := Ideal)) (onTc (τ := Cert.KPoolFIdeal.τ) (Cert.KPoolFIdeal.main (F := Ideal))) ⟨m, fun _ => 0, g⟩ (fun r => ∀ c : Dev Cert.KPoolFIdeal.nD,
          r.2.mem ((c.tc : Thread Cert.KPoolFIdeal.nD Cert.KPoolFIdeal.τ).loc Cert.KPoolFIdeal.main_v3) = v0 c
          ∧ r.2.mem ((c.tc : Thread Cert.KPoolFIdeal.nD Cert.KPoolFIdeal.τ).loc Cert.KPoolFIdeal.main_arg0) = m ((c.tc : Thread Cert.KPoolFIdeal.nD Cert.KPoolFIdeal.τ).loc Cert.KPoolFIdeal.main_arg0)
          ∧ r.2.mem ((c.tc : Thread Cert.KPoolFIdeal.nD Cert.KPoolFIdeal.τ).loc Cert.KPoolFIdeal.main_arg1) = m ((c.tc : Thread Cert.KPoolFIdeal.nD Cert.KPoolFIdeal.τ).loc Cert.KPoolFIdeal.main_arg1))
      ∧ θ_run (Cert.RPoolFIdeal.defs (F := Ideal)) (onTc (τ := Cert.RPoolFIdeal.τ) (Cert.RPoolFIdeal.main (F := Ideal))) ⟨m', fun _ => 0, g'⟩ (fun r => ∀ c : Dev Cert.RPoolFIdeal.nD,
          r.2.mem ((c.tc : Thread Cert.RPoolFIdeal.nD Cert.RPoolFIdeal.τ).loc Cert.RPoolFIdeal.main_v73) = v0 c
          ∧ r.2.mem ((c.tc : Thread Cert.RPoolFIdeal.nD Cert.RPoolFIdeal.τ).loc Cert.RPoolFIdeal.main_arg0) = m' ((c.tc : Thread Cert.RPoolFIdeal.nD Cert.RPoolFIdeal.τ).loc Cert.RPoolFIdeal.main_arg0)
          ∧ r.2.mem ((c.tc : Thread Cert.RPoolFIdeal.nD Cert.RPoolFIdeal.τ).loc Cert.RPoolFIdeal.main_arg1) = m' ((c.tc : Thread Cert.RPoolFIdeal.nD Cert.RPoolFIdeal.τ).loc Cert.RPoolFIdeal.main_arg1))

def preserves_KMixF_KMixFIdeal : Prop :=
  True

def algebraic_KMixFIdeal_RMixFIdeal [hKMixFIdeal : Cert.KMixFIdeal.Facts] [hRMixFIdeal : Cert.RMixFIdeal.Facts] : Prop :=
  ∀ (m : (ℓ : Loc Cert.KMixFIdeal.nD Cert.KMixFIdeal.τ Cert.KMixFIdeal.sig) → Buf (Elt Ideal) ℓ) (g : Dev Cert.KMixFIdeal.nD → PrngReg)
    (m' : (ℓ : Loc Cert.RMixFIdeal.nD Cert.RMixFIdeal.τ Cert.RMixFIdeal.sig) → Buf (Elt Ideal) ℓ) (g' : Dev Cert.RMixFIdeal.nD → PrngReg), Pre_KMixFIdeal m →
    (∀ c : Dev Cert.KMixFIdeal.nD,
      m' ((c.tc : Thread Cert.RMixFIdeal.nD Cert.RMixFIdeal.τ).loc Cert.RMixFIdeal.main_arg0) = m ((c.tc : Thread Cert.KMixFIdeal.nD Cert.KMixFIdeal.τ).loc Cert.KMixFIdeal.main_arg0)
      ∧ m' ((c.tc : Thread Cert.RMixFIdeal.nD Cert.RMixFIdeal.τ).loc Cert.RMixFIdeal.main_arg1) = m ((c.tc : Thread Cert.KMixFIdeal.nD Cert.KMixFIdeal.τ).loc Cert.KMixFIdeal.main_arg1)
      ∧ m' ((c.tc : Thread Cert.RMixFIdeal.nD Cert.RMixFIdeal.τ).loc Cert.RMixFIdeal.main_arg2) = m ((c.tc : Thread Cert.KMixFIdeal.nD Cert.KMixFIdeal.τ).loc Cert.KMixFIdeal.main_arg2)
      ∧ m' ((c.tc : Thread Cert.RMixFIdeal.nD Cert.RMixFIdeal.τ).loc Cert.RMixFIdeal.main_arg3) = m ((c.tc : Thread Cert.KMixFIdeal.nD Cert.KMixFIdeal.τ).loc Cert.KMixFIdeal.main_arg3)) →
    ∃ (v0 : (c : Dev Cert.KMixFIdeal.nD) → Buf (Elt Ideal) ((c.tc : Thread Cert.KMixFIdeal.nD Cert.KMixFIdeal.τ).loc Cert.KMixFIdeal.main_v5_0)) (v1 : (c : Dev Cert.KMixFIdeal.nD) → Buf (Elt Ideal) ((c.tc : Thread Cert.KMixFIdeal.nD Cert.KMixFIdeal.τ).loc Cert.KMixFIdeal.main_v5_1)),
      θ_run (Cert.KMixFIdeal.defs (F := Ideal)) (onTc (τ := Cert.KMixFIdeal.τ) (Cert.KMixFIdeal.main (F := Ideal))) ⟨m, fun _ => 0, g⟩ (fun r => ∀ c : Dev Cert.KMixFIdeal.nD,
          r.2.mem ((c.tc : Thread Cert.KMixFIdeal.nD Cert.KMixFIdeal.τ).loc Cert.KMixFIdeal.main_v5_0) = v0 c
          ∧ r.2.mem ((c.tc : Thread Cert.KMixFIdeal.nD Cert.KMixFIdeal.τ).loc Cert.KMixFIdeal.main_v5_1) = v1 c
          ∧ r.2.mem ((c.tc : Thread Cert.KMixFIdeal.nD Cert.KMixFIdeal.τ).loc Cert.KMixFIdeal.main_arg0) = m ((c.tc : Thread Cert.KMixFIdeal.nD Cert.KMixFIdeal.τ).loc Cert.KMixFIdeal.main_arg0)
          ∧ r.2.mem ((c.tc : Thread Cert.KMixFIdeal.nD Cert.KMixFIdeal.τ).loc Cert.KMixFIdeal.main_arg1) = m ((c.tc : Thread Cert.KMixFIdeal.nD Cert.KMixFIdeal.τ).loc Cert.KMixFIdeal.main_arg1)
          ∧ r.2.mem ((c.tc : Thread Cert.KMixFIdeal.nD Cert.KMixFIdeal.τ).loc Cert.KMixFIdeal.main_arg2) = m ((c.tc : Thread Cert.KMixFIdeal.nD Cert.KMixFIdeal.τ).loc Cert.KMixFIdeal.main_arg2)
          ∧ r.2.mem ((c.tc : Thread Cert.KMixFIdeal.nD Cert.KMixFIdeal.τ).loc Cert.KMixFIdeal.main_arg3) = m ((c.tc : Thread Cert.KMixFIdeal.nD Cert.KMixFIdeal.τ).loc Cert.KMixFIdeal.main_arg3))
      ∧ θ_run (Cert.RMixFIdeal.defs (F := Ideal)) (onTc (τ := Cert.RMixFIdeal.τ) (Cert.RMixFIdeal.main (F := Ideal))) ⟨m', fun _ => 0, g'⟩ (fun r => ∀ c : Dev Cert.RMixFIdeal.nD,
          r.2.mem ((c.tc : Thread Cert.RMixFIdeal.nD Cert.RMixFIdeal.τ).loc Cert.RMixFIdeal.main_v6) = v0 c
          ∧ r.2.mem ((c.tc : Thread Cert.RMixFIdeal.nD Cert.RMixFIdeal.τ).loc Cert.RMixFIdeal.main_v11) = v1 c
          ∧ r.2.mem ((c.tc : Thread Cert.RMixFIdeal.nD Cert.RMixFIdeal.τ).loc Cert.RMixFIdeal.main_arg0) = m' ((c.tc : Thread Cert.RMixFIdeal.nD Cert.RMixFIdeal.τ).loc Cert.RMixFIdeal.main_arg0)
          ∧ r.2.mem ((c.tc : Thread Cert.RMixFIdeal.nD Cert.RMixFIdeal.τ).loc Cert.RMixFIdeal.main_arg1) = m' ((c.tc : Thread Cert.RMixFIdeal.nD Cert.RMixFIdeal.τ).loc Cert.RMixFIdeal.main_arg1)
          ∧ r.2.mem ((c.tc : Thread Cert.RMixFIdeal.nD Cert.RMixFIdeal.τ).loc Cert.RMixFIdeal.main_arg2) = m' ((c.tc : Thread Cert.RMixFIdeal.nD Cert.RMixFIdeal.τ).loc Cert.RMixFIdeal.main_arg2)
          ∧ r.2.mem ((c.tc : Thread Cert.RMixFIdeal.nD Cert.RMixFIdeal.τ).loc Cert.RMixFIdeal.main_arg3) = m' ((c.tc : Thread Cert.RMixFIdeal.nD Cert.RMixFIdeal.τ).loc Cert.RMixFIdeal.main_arg3))

def preserves_KPoolIn_KPoolInIdeal : Prop :=
  True

def algebraic_KPoolInIdeal_RPoolInIdeal [hKPoolInIdeal : Cert.KPoolInIdeal.Facts] [hRPoolInIdeal : Cert.RPoolInIdeal.Facts] : Prop :=
  ∀ (m : (ℓ : Loc Cert.KPoolInIdeal.nD Cert.KPoolInIdeal.τ Cert.KPoolInIdeal.sig) → Buf (Elt Ideal) ℓ) (g : Dev Cert.KPoolInIdeal.nD → PrngReg)
    (m' : (ℓ : Loc Cert.RPoolInIdeal.nD Cert.RPoolInIdeal.τ Cert.RPoolInIdeal.sig) → Buf (Elt Ideal) ℓ) (g' : Dev Cert.RPoolInIdeal.nD → PrngReg), Pre_KPoolInIdeal m →
    (∀ c : Dev Cert.KPoolInIdeal.nD,
      m' ((c.tc : Thread Cert.RPoolInIdeal.nD Cert.RPoolInIdeal.τ).loc Cert.RPoolInIdeal.main_arg0) = m ((c.tc : Thread Cert.KPoolInIdeal.nD Cert.KPoolInIdeal.τ).loc Cert.KPoolInIdeal.main_arg0)
      ∧ m' ((c.tc : Thread Cert.RPoolInIdeal.nD Cert.RPoolInIdeal.τ).loc Cert.RPoolInIdeal.main_arg1) = m ((c.tc : Thread Cert.KPoolInIdeal.nD Cert.KPoolInIdeal.τ).loc Cert.KPoolInIdeal.main_arg1)
      ∧ m' ((c.tc : Thread Cert.RPoolInIdeal.nD Cert.RPoolInIdeal.τ).loc Cert.RPoolInIdeal.main_arg2) = m ((c.tc : Thread Cert.KPoolInIdeal.nD Cert.KPoolInIdeal.τ).loc Cert.KPoolInIdeal.main_arg2)) →
    ∃ (v0 : (c : Dev Cert.KPoolInIdeal.nD) → Buf (Elt Ideal) ((c.tc : Thread Cert.KPoolInIdeal.nD Cert.KPoolInIdeal.τ).loc Cert.KPoolInIdeal.main_v5)),
      θ_run (Cert.KPoolInIdeal.defs (F := Ideal)) (onTc (τ := Cert.KPoolInIdeal.τ) (Cert.KPoolInIdeal.main (F := Ideal))) ⟨m, fun _ => 0, g⟩ (fun r => ∀ c : Dev Cert.KPoolInIdeal.nD,
          r.2.mem ((c.tc : Thread Cert.KPoolInIdeal.nD Cert.KPoolInIdeal.τ).loc Cert.KPoolInIdeal.main_v5) = v0 c
          ∧ r.2.mem ((c.tc : Thread Cert.KPoolInIdeal.nD Cert.KPoolInIdeal.τ).loc Cert.KPoolInIdeal.main_arg0) = m ((c.tc : Thread Cert.KPoolInIdeal.nD Cert.KPoolInIdeal.τ).loc Cert.KPoolInIdeal.main_arg0)
          ∧ r.2.mem ((c.tc : Thread Cert.KPoolInIdeal.nD Cert.KPoolInIdeal.τ).loc Cert.KPoolInIdeal.main_arg1) = m ((c.tc : Thread Cert.KPoolInIdeal.nD Cert.KPoolInIdeal.τ).loc Cert.KPoolInIdeal.main_arg1)
          ∧ r.2.mem ((c.tc : Thread Cert.KPoolInIdeal.nD Cert.KPoolInIdeal.τ).loc Cert.KPoolInIdeal.main_arg2) = m ((c.tc : Thread Cert.KPoolInIdeal.nD Cert.KPoolInIdeal.τ).loc Cert.KPoolInIdeal.main_arg2))
      ∧ θ_run (Cert.RPoolInIdeal.defs (F := Ideal)) (onTc (τ := Cert.RPoolInIdeal.τ) (Cert.RPoolInIdeal.main (F := Ideal))) ⟨m', fun _ => 0, g'⟩ (fun r => ∀ c : Dev Cert.RPoolInIdeal.nD,
          r.2.mem ((c.tc : Thread Cert.RPoolInIdeal.nD Cert.RPoolInIdeal.τ).loc Cert.RPoolInIdeal.main_v11) = v0 c
          ∧ r.2.mem ((c.tc : Thread Cert.RPoolInIdeal.nD Cert.RPoolInIdeal.τ).loc Cert.RPoolInIdeal.main_arg0) = m' ((c.tc : Thread Cert.RPoolInIdeal.nD Cert.RPoolInIdeal.τ).loc Cert.RPoolInIdeal.main_arg0)
          ∧ r.2.mem ((c.tc : Thread Cert.RPoolInIdeal.nD Cert.RPoolInIdeal.τ).loc Cert.RPoolInIdeal.main_arg1) = m' ((c.tc : Thread Cert.RPoolInIdeal.nD Cert.RPoolInIdeal.τ).loc Cert.RPoolInIdeal.main_arg1)
          ∧ r.2.mem ((c.tc : Thread Cert.RPoolInIdeal.nD Cert.RPoolInIdeal.τ).loc Cert.RPoolInIdeal.main_arg2) = m' ((c.tc : Thread Cert.RPoolInIdeal.nD Cert.RPoolInIdeal.τ).loc Cert.RPoolInIdeal.main_arg2))

def preserves_KOutY_KOutYIdeal : Prop :=
  True

def algebraic_KOutYIdeal_ROutYIdeal [hKOutYIdeal : Cert.KOutYIdeal.Facts] [hROutYIdeal : Cert.ROutYIdeal.Facts] : Prop :=
  ∀ (m : (ℓ : Loc Cert.KOutYIdeal.nD Cert.KOutYIdeal.τ Cert.KOutYIdeal.sig) → Buf (Elt Ideal) ℓ) (g : Dev Cert.KOutYIdeal.nD → PrngReg)
    (m' : (ℓ : Loc Cert.ROutYIdeal.nD Cert.ROutYIdeal.τ Cert.ROutYIdeal.sig) → Buf (Elt Ideal) ℓ) (g' : Dev Cert.ROutYIdeal.nD → PrngReg), Pre_KOutYIdeal m →
    (∀ c : Dev Cert.KOutYIdeal.nD,
      m' ((c.tc : Thread Cert.ROutYIdeal.nD Cert.ROutYIdeal.τ).loc Cert.ROutYIdeal.main_arg0) = m ((c.tc : Thread Cert.KOutYIdeal.nD Cert.KOutYIdeal.τ).loc Cert.KOutYIdeal.main_arg0)
      ∧ m' ((c.tc : Thread Cert.ROutYIdeal.nD Cert.ROutYIdeal.τ).loc Cert.ROutYIdeal.main_arg1) = m ((c.tc : Thread Cert.KOutYIdeal.nD Cert.KOutYIdeal.τ).loc Cert.KOutYIdeal.main_arg1)
      ∧ m' ((c.tc : Thread Cert.ROutYIdeal.nD Cert.ROutYIdeal.τ).loc Cert.ROutYIdeal.main_arg2) = m ((c.tc : Thread Cert.KOutYIdeal.nD Cert.KOutYIdeal.τ).loc Cert.KOutYIdeal.main_arg2)) →
    ∃ (v0 : (c : Dev Cert.KOutYIdeal.nD) → Buf (Elt Ideal) ((c.tc : Thread Cert.KOutYIdeal.nD Cert.KOutYIdeal.τ).loc Cert.KOutYIdeal.main_v6)),
      θ_run (Cert.KOutYIdeal.defs (F := Ideal)) (onTc (τ := Cert.KOutYIdeal.τ) (Cert.KOutYIdeal.main (F := Ideal))) ⟨m, fun _ => 0, g⟩ (fun r => ∀ c : Dev Cert.KOutYIdeal.nD,
          r.2.mem ((c.tc : Thread Cert.KOutYIdeal.nD Cert.KOutYIdeal.τ).loc Cert.KOutYIdeal.main_v6) = v0 c
          ∧ r.2.mem ((c.tc : Thread Cert.KOutYIdeal.nD Cert.KOutYIdeal.τ).loc Cert.KOutYIdeal.main_arg0) = m ((c.tc : Thread Cert.KOutYIdeal.nD Cert.KOutYIdeal.τ).loc Cert.KOutYIdeal.main_arg0)
          ∧ r.2.mem ((c.tc : Thread Cert.KOutYIdeal.nD Cert.KOutYIdeal.τ).loc Cert.KOutYIdeal.main_arg1) = m ((c.tc : Thread Cert.KOutYIdeal.nD Cert.KOutYIdeal.τ).loc Cert.KOutYIdeal.main_arg1)
          ∧ r.2.mem ((c.tc : Thread Cert.KOutYIdeal.nD Cert.KOutYIdeal.τ).loc Cert.KOutYIdeal.main_arg2) = m ((c.tc : Thread Cert.KOutYIdeal.nD Cert.KOutYIdeal.τ).loc Cert.KOutYIdeal.main_arg2))
      ∧ θ_run (Cert.ROutYIdeal.defs (F := Ideal)) (onTc (τ := Cert.ROutYIdeal.τ) (Cert.ROutYIdeal.main (F := Ideal))) ⟨m', fun _ => 0, g'⟩ (fun r => ∀ c : Dev Cert.ROutYIdeal.nD,
          r.2.mem ((c.tc : Thread Cert.ROutYIdeal.nD Cert.ROutYIdeal.τ).loc Cert.ROutYIdeal.main_v4) = v0 c
          ∧ r.2.mem ((c.tc : Thread Cert.ROutYIdeal.nD Cert.ROutYIdeal.τ).loc Cert.ROutYIdeal.main_arg0) = m' ((c.tc : Thread Cert.ROutYIdeal.nD Cert.ROutYIdeal.τ).loc Cert.ROutYIdeal.main_arg0)
          ∧ r.2.mem ((c.tc : Thread Cert.ROutYIdeal.nD Cert.ROutYIdeal.τ).loc Cert.ROutYIdeal.main_arg1) = m' ((c.tc : Thread Cert.ROutYIdeal.nD Cert.ROutYIdeal.τ).loc Cert.ROutYIdeal.main_arg1)
          ∧ r.2.mem ((c.tc : Thread Cert.ROutYIdeal.nD Cert.ROutYIdeal.τ).loc Cert.ROutYIdeal.main_arg2) = m' ((c.tc : Thread Cert.ROutYIdeal.nD Cert.ROutYIdeal.τ).loc Cert.ROutYIdeal.main_arg2))

def preserves_KPoolW_KPoolWIdeal : Prop :=
  True

def algebraic_KPoolWIdeal_RPoolWIdeal [hKPoolWIdeal : Cert.KPoolWIdeal.Facts] [hRPoolWIdeal : Cert.RPoolWIdeal.Facts] : Prop :=
  ∀ (m : (ℓ : Loc Cert.KPoolWIdeal.nD Cert.KPoolWIdeal.τ Cert.KPoolWIdeal.sig) → Buf (Elt Ideal) ℓ) (g : Dev Cert.KPoolWIdeal.nD → PrngReg)
    (m' : (ℓ : Loc Cert.RPoolWIdeal.nD Cert.RPoolWIdeal.τ Cert.RPoolWIdeal.sig) → Buf (Elt Ideal) ℓ) (g' : Dev Cert.RPoolWIdeal.nD → PrngReg), Pre_KPoolWIdeal m →
    (∀ c : Dev Cert.KPoolWIdeal.nD,
      m' ((c.tc : Thread Cert.RPoolWIdeal.nD Cert.RPoolWIdeal.τ).loc Cert.RPoolWIdeal.main_arg0) = m ((c.tc : Thread Cert.KPoolWIdeal.nD Cert.KPoolWIdeal.τ).loc Cert.KPoolWIdeal.main_arg0)
      ∧ m' ((c.tc : Thread Cert.RPoolWIdeal.nD Cert.RPoolWIdeal.τ).loc Cert.RPoolWIdeal.main_arg1) = m ((c.tc : Thread Cert.KPoolWIdeal.nD Cert.KPoolWIdeal.τ).loc Cert.KPoolWIdeal.main_arg1)
      ∧ m' ((c.tc : Thread Cert.RPoolWIdeal.nD Cert.RPoolWIdeal.τ).loc Cert.RPoolWIdeal.main_arg2) = m ((c.tc : Thread Cert.KPoolWIdeal.nD Cert.KPoolWIdeal.τ).loc Cert.KPoolWIdeal.main_arg2)
      ∧ m' ((c.tc : Thread Cert.RPoolWIdeal.nD Cert.RPoolWIdeal.τ).loc Cert.RPoolWIdeal.main_arg3) = m ((c.tc : Thread Cert.KPoolWIdeal.nD Cert.KPoolWIdeal.τ).loc Cert.KPoolWIdeal.main_arg3)) →
    ∃ (v0 : (c : Dev Cert.KPoolWIdeal.nD) → Buf (Elt Ideal) ((c.tc : Thread Cert.KPoolWIdeal.nD Cert.KPoolWIdeal.τ).loc Cert.KPoolWIdeal.main_v6)),
      θ_run (Cert.KPoolWIdeal.defs (F := Ideal)) (onTc (τ := Cert.KPoolWIdeal.τ) (Cert.KPoolWIdeal.main (F := Ideal))) ⟨m, fun _ => 0, g⟩ (fun r => ∀ c : Dev Cert.KPoolWIdeal.nD,
          r.2.mem ((c.tc : Thread Cert.KPoolWIdeal.nD Cert.KPoolWIdeal.τ).loc Cert.KPoolWIdeal.main_v6) = v0 c
          ∧ r.2.mem ((c.tc : Thread Cert.KPoolWIdeal.nD Cert.KPoolWIdeal.τ).loc Cert.KPoolWIdeal.main_arg0) = m ((c.tc : Thread Cert.KPoolWIdeal.nD Cert.KPoolWIdeal.τ).loc Cert.KPoolWIdeal.main_arg0)
          ∧ r.2.mem ((c.tc : Thread Cert.KPoolWIdeal.nD Cert.KPoolWIdeal.τ).loc Cert.KPoolWIdeal.main_arg1) = m ((c.tc : Thread Cert.KPoolWIdeal.nD Cert.KPoolWIdeal.τ).loc Cert.KPoolWIdeal.main_arg1)
          ∧ r.2.mem ((c.tc : Thread Cert.KPoolWIdeal.nD Cert.KPoolWIdeal.τ).loc Cert.KPoolWIdeal.main_arg2) = m ((c.tc : Thread Cert.KPoolWIdeal.nD Cert.KPoolWIdeal.τ).loc Cert.KPoolWIdeal.main_arg2)
          ∧ r.2.mem ((c.tc : Thread Cert.KPoolWIdeal.nD Cert.KPoolWIdeal.τ).loc Cert.KPoolWIdeal.main_arg3) = m ((c.tc : Thread Cert.KPoolWIdeal.nD Cert.KPoolWIdeal.τ).loc Cert.KPoolWIdeal.main_arg3))
      ∧ θ_run (Cert.RPoolWIdeal.defs (F := Ideal)) (onTc (τ := Cert.RPoolWIdeal.τ) (Cert.RPoolWIdeal.main (F := Ideal))) ⟨m', fun _ => 0, g'⟩ (fun r => ∀ c : Dev Cert.RPoolWIdeal.nD,
          r.2.mem ((c.tc : Thread Cert.RPoolWIdeal.nD Cert.RPoolWIdeal.τ).loc Cert.RPoolWIdeal.main_v10) = v0 c
          ∧ r.2.mem ((c.tc : Thread Cert.RPoolWIdeal.nD Cert.RPoolWIdeal.τ).loc Cert.RPoolWIdeal.main_arg0) = m' ((c.tc : Thread Cert.RPoolWIdeal.nD Cert.RPoolWIdeal.τ).loc Cert.RPoolWIdeal.main_arg0)
          ∧ r.2.mem ((c.tc : Thread Cert.RPoolWIdeal.nD Cert.RPoolWIdeal.τ).loc Cert.RPoolWIdeal.main_arg1) = m' ((c.tc : Thread Cert.RPoolWIdeal.nD Cert.RPoolWIdeal.τ).loc Cert.RPoolWIdeal.main_arg1)
          ∧ r.2.mem ((c.tc : Thread Cert.RPoolWIdeal.nD Cert.RPoolWIdeal.τ).loc Cert.RPoolWIdeal.main_arg2) = m' ((c.tc : Thread Cert.RPoolWIdeal.nD Cert.RPoolWIdeal.τ).loc Cert.RPoolWIdeal.main_arg2)
          ∧ r.2.mem ((c.tc : Thread Cert.RPoolWIdeal.nD Cert.RPoolWIdeal.τ).loc Cert.RPoolWIdeal.main_arg3) = m' ((c.tc : Thread Cert.RPoolWIdeal.nD Cert.RPoolWIdeal.τ).loc Cert.RPoolWIdeal.main_arg3))

def preserves_KProjIn_KProjInIdeal : Prop :=
  True

def algebraic_KProjInIdeal_RProjInIdeal [hKProjInIdeal : Cert.KProjInIdeal.Facts] [hRProjInIdeal : Cert.RProjInIdeal.Facts] : Prop :=
  ∀ (m : (ℓ : Loc Cert.KProjInIdeal.nD Cert.KProjInIdeal.τ Cert.KProjInIdeal.sig) → Buf (Elt Ideal) ℓ) (g : Dev Cert.KProjInIdeal.nD → PrngReg)
    (m' : (ℓ : Loc Cert.RProjInIdeal.nD Cert.RProjInIdeal.τ Cert.RProjInIdeal.sig) → Buf (Elt Ideal) ℓ) (g' : Dev Cert.RProjInIdeal.nD → PrngReg), Pre_KProjInIdeal m →
    (∀ c : Dev Cert.KProjInIdeal.nD,
      m' ((c.tc : Thread Cert.RProjInIdeal.nD Cert.RProjInIdeal.τ).loc Cert.RProjInIdeal.main_arg0) = m ((c.tc : Thread Cert.KProjInIdeal.nD Cert.KProjInIdeal.τ).loc Cert.KProjInIdeal.main_arg0)
      ∧ m' ((c.tc : Thread Cert.RProjInIdeal.nD Cert.RProjInIdeal.τ).loc Cert.RProjInIdeal.main_arg1) = m ((c.tc : Thread Cert.KProjInIdeal.nD Cert.KProjInIdeal.τ).loc Cert.KProjInIdeal.main_arg1)
      ∧ m' ((c.tc : Thread Cert.RProjInIdeal.nD Cert.RProjInIdeal.τ).loc Cert.RProjInIdeal.main_arg2) = m ((c.tc : Thread Cert.KProjInIdeal.nD Cert.KProjInIdeal.τ).loc Cert.KProjInIdeal.main_arg2)) →
    ∃ (v0 : (c : Dev Cert.KProjInIdeal.nD) → Buf (Elt Ideal) ((c.tc : Thread Cert.KProjInIdeal.nD Cert.KProjInIdeal.τ).loc Cert.KProjInIdeal.main_v7)),
      θ_run (Cert.KProjInIdeal.defs (F := Ideal)) (onTc (τ := Cert.KProjInIdeal.τ) (Cert.KProjInIdeal.main (F := Ideal))) ⟨m, fun _ => 0, g⟩ (fun r => ∀ c : Dev Cert.KProjInIdeal.nD,
          r.2.mem ((c.tc : Thread Cert.KProjInIdeal.nD Cert.KProjInIdeal.τ).loc Cert.KProjInIdeal.main_v7) = v0 c
          ∧ r.2.mem ((c.tc : Thread Cert.KProjInIdeal.nD Cert.KProjInIdeal.τ).loc Cert.KProjInIdeal.main_arg0) = m ((c.tc : Thread Cert.KProjInIdeal.nD Cert.KProjInIdeal.τ).loc Cert.KProjInIdeal.main_arg0)
          ∧ r.2.mem ((c.tc : Thread Cert.KProjInIdeal.nD Cert.KProjInIdeal.τ).loc Cert.KProjInIdeal.main_arg1) = m ((c.tc : Thread Cert.KProjInIdeal.nD Cert.KProjInIdeal.τ).loc Cert.KProjInIdeal.main_arg1)
          ∧ r.2.mem ((c.tc : Thread Cert.KProjInIdeal.nD Cert.KProjInIdeal.τ).loc Cert.KProjInIdeal.main_arg2) = m ((c.tc : Thread Cert.KProjInIdeal.nD Cert.KProjInIdeal.τ).loc Cert.KProjInIdeal.main_arg2))
      ∧ θ_run (Cert.RProjInIdeal.defs (F := Ideal)) (onTc (τ := Cert.RProjInIdeal.τ) (Cert.RProjInIdeal.main (F := Ideal))) ⟨m', fun _ => 0, g'⟩ (fun r => ∀ c : Dev Cert.RProjInIdeal.nD,
          r.2.mem ((c.tc : Thread Cert.RProjInIdeal.nD Cert.RProjInIdeal.τ).loc Cert.RProjInIdeal.main_v3) = v0 c
          ∧ r.2.mem ((c.tc : Thread Cert.RProjInIdeal.nD Cert.RProjInIdeal.τ).loc Cert.RProjInIdeal.main_arg0) = m' ((c.tc : Thread Cert.RProjInIdeal.nD Cert.RProjInIdeal.τ).loc Cert.RProjInIdeal.main_arg0)
          ∧ r.2.mem ((c.tc : Thread Cert.RProjInIdeal.nD Cert.RProjInIdeal.τ).loc Cert.RProjInIdeal.main_arg1) = m' ((c.tc : Thread Cert.RProjInIdeal.nD Cert.RProjInIdeal.τ).loc Cert.RProjInIdeal.main_arg1)
          ∧ r.2.mem ((c.tc : Thread Cert.RProjInIdeal.nD Cert.RProjInIdeal.τ).loc Cert.RProjInIdeal.main_arg2) = m' ((c.tc : Thread Cert.RProjInIdeal.nD Cert.RProjInIdeal.τ).loc Cert.RProjInIdeal.main_arg2))

def preserves_KProjOut_KProjOutIdeal : Prop :=
  True

def algebraic_KProjOutIdeal_RProjOutIdeal [hKProjOutIdeal : Cert.KProjOutIdeal.Facts] [hRProjOutIdeal : Cert.RProjOutIdeal.Facts] : Prop :=
  ∀ (m : (ℓ : Loc Cert.KProjOutIdeal.nD Cert.KProjOutIdeal.τ Cert.KProjOutIdeal.sig) → Buf (Elt Ideal) ℓ) (g : Dev Cert.KProjOutIdeal.nD → PrngReg)
    (m' : (ℓ : Loc Cert.RProjOutIdeal.nD Cert.RProjOutIdeal.τ Cert.RProjOutIdeal.sig) → Buf (Elt Ideal) ℓ) (g' : Dev Cert.RProjOutIdeal.nD → PrngReg), Pre_KProjOutIdeal m →
    (∀ c : Dev Cert.KProjOutIdeal.nD,
      m' ((c.tc : Thread Cert.RProjOutIdeal.nD Cert.RProjOutIdeal.τ).loc Cert.RProjOutIdeal.main_arg0) = m ((c.tc : Thread Cert.KProjOutIdeal.nD Cert.KProjOutIdeal.τ).loc Cert.KProjOutIdeal.main_arg0)
      ∧ m' ((c.tc : Thread Cert.RProjOutIdeal.nD Cert.RProjOutIdeal.τ).loc Cert.RProjOutIdeal.main_arg1) = m ((c.tc : Thread Cert.KProjOutIdeal.nD Cert.KProjOutIdeal.τ).loc Cert.KProjOutIdeal.main_arg1)
      ∧ m' ((c.tc : Thread Cert.RProjOutIdeal.nD Cert.RProjOutIdeal.τ).loc Cert.RProjOutIdeal.main_arg2) = m ((c.tc : Thread Cert.KProjOutIdeal.nD Cert.KProjOutIdeal.τ).loc Cert.KProjOutIdeal.main_arg2)
      ∧ m' ((c.tc : Thread Cert.RProjOutIdeal.nD Cert.RProjOutIdeal.τ).loc Cert.RProjOutIdeal.main_arg3) = m ((c.tc : Thread Cert.KProjOutIdeal.nD Cert.KProjOutIdeal.τ).loc Cert.KProjOutIdeal.main_arg3)
      ∧ m' ((c.tc : Thread Cert.RProjOutIdeal.nD Cert.RProjOutIdeal.τ).loc Cert.RProjOutIdeal.main_arg4) = m ((c.tc : Thread Cert.KProjOutIdeal.nD Cert.KProjOutIdeal.τ).loc Cert.KProjOutIdeal.main_arg4)) →
    ∃ (v0 : (c : Dev Cert.KProjOutIdeal.nD) → Buf (Elt Ideal) ((c.tc : Thread Cert.KProjOutIdeal.nD Cert.KProjOutIdeal.τ).loc Cert.KProjOutIdeal.main_v9)),
      θ_run (Cert.KProjOutIdeal.defs (F := Ideal)) (onTc (τ := Cert.KProjOutIdeal.τ) (Cert.KProjOutIdeal.main (F := Ideal))) ⟨m, fun _ => 0, g⟩ (fun r => ∀ c : Dev Cert.KProjOutIdeal.nD,
          r.2.mem ((c.tc : Thread Cert.KProjOutIdeal.nD Cert.KProjOutIdeal.τ).loc Cert.KProjOutIdeal.main_v9) = v0 c
          ∧ r.2.mem ((c.tc : Thread Cert.KProjOutIdeal.nD Cert.KProjOutIdeal.τ).loc Cert.KProjOutIdeal.main_arg0) = m ((c.tc : Thread Cert.KProjOutIdeal.nD Cert.KProjOutIdeal.τ).loc Cert.KProjOutIdeal.main_arg0)
          ∧ r.2.mem ((c.tc : Thread Cert.KProjOutIdeal.nD Cert.KProjOutIdeal.τ).loc Cert.KProjOutIdeal.main_arg1) = m ((c.tc : Thread Cert.KProjOutIdeal.nD Cert.KProjOutIdeal.τ).loc Cert.KProjOutIdeal.main_arg1)
          ∧ r.2.mem ((c.tc : Thread Cert.KProjOutIdeal.nD Cert.KProjOutIdeal.τ).loc Cert.KProjOutIdeal.main_arg2) = m ((c.tc : Thread Cert.KProjOutIdeal.nD Cert.KProjOutIdeal.τ).loc Cert.KProjOutIdeal.main_arg2)
          ∧ r.2.mem ((c.tc : Thread Cert.KProjOutIdeal.nD Cert.KProjOutIdeal.τ).loc Cert.KProjOutIdeal.main_arg3) = m ((c.tc : Thread Cert.KProjOutIdeal.nD Cert.KProjOutIdeal.τ).loc Cert.KProjOutIdeal.main_arg3)
          ∧ r.2.mem ((c.tc : Thread Cert.KProjOutIdeal.nD Cert.KProjOutIdeal.τ).loc Cert.KProjOutIdeal.main_arg4) = m ((c.tc : Thread Cert.KProjOutIdeal.nD Cert.KProjOutIdeal.τ).loc Cert.KProjOutIdeal.main_arg4))
      ∧ θ_run (Cert.RProjOutIdeal.defs (F := Ideal)) (onTc (τ := Cert.RProjOutIdeal.τ) (Cert.RProjOutIdeal.main (F := Ideal))) ⟨m', fun _ => 0, g'⟩ (fun r => ∀ c : Dev Cert.RProjOutIdeal.nD,
          r.2.mem ((c.tc : Thread Cert.RProjOutIdeal.nD Cert.RProjOutIdeal.τ).loc Cert.RProjOutIdeal.main_v8) = v0 c
          ∧ r.2.mem ((c.tc : Thread Cert.RProjOutIdeal.nD Cert.RProjOutIdeal.τ).loc Cert.RProjOutIdeal.main_arg0) = m' ((c.tc : Thread Cert.RProjOutIdeal.nD Cert.RProjOutIdeal.τ).loc Cert.RProjOutIdeal.main_arg0)
          ∧ r.2.mem ((c.tc : Thread Cert.RProjOutIdeal.nD Cert.RProjOutIdeal.τ).loc Cert.RProjOutIdeal.main_arg1) = m' ((c.tc : Thread Cert.RProjOutIdeal.nD Cert.RProjOutIdeal.τ).loc Cert.RProjOutIdeal.main_arg1)
          ∧ r.2.mem ((c.tc : Thread Cert.RProjOutIdeal.nD Cert.RProjOutIdeal.τ).loc Cert.RProjOutIdeal.main_arg2) = m' ((c.tc : Thread Cert.RProjOutIdeal.nD Cert.RProjOutIdeal.τ).loc Cert.RProjOutIdeal.main_arg2)
          ∧ r.2.mem ((c.tc : Thread Cert.RProjOutIdeal.nD Cert.RProjOutIdeal.τ).loc Cert.RProjOutIdeal.main_arg3) = m' ((c.tc : Thread Cert.RProjOutIdeal.nD Cert.RProjOutIdeal.τ).loc Cert.RProjOutIdeal.main_arg3)
          ∧ r.2.mem ((c.tc : Thread Cert.RProjOutIdeal.nD Cert.RProjOutIdeal.τ).loc Cert.RProjOutIdeal.main_arg4) = m' ((c.tc : Thread Cert.RProjOutIdeal.nD Cert.RProjOutIdeal.τ).loc Cert.RProjOutIdeal.main_arg4))

def preserves_KOutW_KOutWIdeal : Prop :=
  True

def algebraic_KOutWIdeal_ROutWIdeal [hKOutWIdeal : Cert.KOutWIdeal.Facts] [hROutWIdeal : Cert.ROutWIdeal.Facts] : Prop :=
  ∀ (m : (ℓ : Loc Cert.KOutWIdeal.nD Cert.KOutWIdeal.τ Cert.KOutWIdeal.sig) → Buf (Elt Ideal) ℓ) (g : Dev Cert.KOutWIdeal.nD → PrngReg)
    (m' : (ℓ : Loc Cert.ROutWIdeal.nD Cert.ROutWIdeal.τ Cert.ROutWIdeal.sig) → Buf (Elt Ideal) ℓ) (g' : Dev Cert.ROutWIdeal.nD → PrngReg), Pre_KOutWIdeal m →
    (∀ c : Dev Cert.KOutWIdeal.nD,
      m' ((c.tc : Thread Cert.ROutWIdeal.nD Cert.ROutWIdeal.τ).loc Cert.ROutWIdeal.main_arg0) = m ((c.tc : Thread Cert.KOutWIdeal.nD Cert.KOutWIdeal.τ).loc Cert.KOutWIdeal.main_arg0)
      ∧ m' ((c.tc : Thread Cert.ROutWIdeal.nD Cert.ROutWIdeal.τ).loc Cert.ROutWIdeal.main_arg1) = m ((c.tc : Thread Cert.KOutWIdeal.nD Cert.KOutWIdeal.τ).loc Cert.KOutWIdeal.main_arg1)
      ∧ m' ((c.tc : Thread Cert.ROutWIdeal.nD Cert.ROutWIdeal.τ).loc Cert.ROutWIdeal.main_arg2) = m ((c.tc : Thread Cert.KOutWIdeal.nD Cert.KOutWIdeal.τ).loc Cert.KOutWIdeal.main_arg2)
      ∧ m' ((c.tc : Thread Cert.ROutWIdeal.nD Cert.ROutWIdeal.τ).loc Cert.ROutWIdeal.main_arg3) = m ((c.tc : Thread Cert.KOutWIdeal.nD Cert.KOutWIdeal.τ).loc Cert.KOutWIdeal.main_arg3)) →
    ∃ (v0 : (c : Dev Cert.KOutWIdeal.nD) → Buf (Elt Ideal) ((c.tc : Thread Cert.KOutWIdeal.nD Cert.KOutWIdeal.τ).loc Cert.KOutWIdeal.main_v6)),
      θ_run (Cert.KOutWIdeal.defs (F := Ideal)) (onTc (τ := Cert.KOutWIdeal.τ) (Cert.KOutWIdeal.main (F := Ideal))) ⟨m, fun _ => 0, g⟩ (fun r => ∀ c : Dev Cert.KOutWIdeal.nD,
          r.2.mem ((c.tc : Thread Cert.KOutWIdeal.nD Cert.KOutWIdeal.τ).loc Cert.KOutWIdeal.main_v6) = v0 c
          ∧ r.2.mem ((c.tc : Thread Cert.KOutWIdeal.nD Cert.KOutWIdeal.τ).loc Cert.KOutWIdeal.main_arg0) = m ((c.tc : Thread Cert.KOutWIdeal.nD Cert.KOutWIdeal.τ).loc Cert.KOutWIdeal.main_arg0)
          ∧ r.2.mem ((c.tc : Thread Cert.KOutWIdeal.nD Cert.KOutWIdeal.τ).loc Cert.KOutWIdeal.main_arg1) = m ((c.tc : Thread Cert.KOutWIdeal.nD Cert.KOutWIdeal.τ).loc Cert.KOutWIdeal.main_arg1)
          ∧ r.2.mem ((c.tc : Thread Cert.KOutWIdeal.nD Cert.KOutWIdeal.τ).loc Cert.KOutWIdeal.main_arg2) = m ((c.tc : Thread Cert.KOutWIdeal.nD Cert.KOutWIdeal.τ).loc Cert.KOutWIdeal.main_arg2)
          ∧ r.2.mem ((c.tc : Thread Cert.KOutWIdeal.nD Cert.KOutWIdeal.τ).loc Cert.KOutWIdeal.main_arg3) = m ((c.tc : Thread Cert.KOutWIdeal.nD Cert.KOutWIdeal.τ).loc Cert.KOutWIdeal.main_arg3))
      ∧ θ_run (Cert.ROutWIdeal.defs (F := Ideal)) (onTc (τ := Cert.ROutWIdeal.τ) (Cert.ROutWIdeal.main (F := Ideal))) ⟨m', fun _ => 0, g'⟩ (fun r => ∀ c : Dev Cert.ROutWIdeal.nD,
          r.2.mem ((c.tc : Thread Cert.ROutWIdeal.nD Cert.ROutWIdeal.τ).loc Cert.ROutWIdeal.main_v7) = v0 c
          ∧ r.2.mem ((c.tc : Thread Cert.ROutWIdeal.nD Cert.ROutWIdeal.τ).loc Cert.ROutWIdeal.main_arg0) = m' ((c.tc : Thread Cert.ROutWIdeal.nD Cert.ROutWIdeal.τ).loc Cert.ROutWIdeal.main_arg0)
          ∧ r.2.mem ((c.tc : Thread Cert.ROutWIdeal.nD Cert.ROutWIdeal.τ).loc Cert.ROutWIdeal.main_arg1) = m' ((c.tc : Thread Cert.ROutWIdeal.nD Cert.ROutWIdeal.τ).loc Cert.ROutWIdeal.main_arg1)
          ∧ r.2.mem ((c.tc : Thread Cert.ROutWIdeal.nD Cert.ROutWIdeal.τ).loc Cert.ROutWIdeal.main_arg2) = m' ((c.tc : Thread Cert.ROutWIdeal.nD Cert.ROutWIdeal.τ).loc Cert.ROutWIdeal.main_arg2)
          ∧ r.2.mem ((c.tc : Thread Cert.ROutWIdeal.nD Cert.ROutWIdeal.τ).loc Cert.ROutWIdeal.main_arg3) = m' ((c.tc : Thread Cert.ROutWIdeal.nD Cert.ROutWIdeal.τ).loc Cert.ROutWIdeal.main_arg3))

def preserves_KInW_KInWIdeal : Prop :=
  True

def algebraic_KInWIdeal_RInWIdeal [hKInWIdeal : Cert.KInWIdeal.Facts] [hRInWIdeal : Cert.RInWIdeal.Facts] : Prop :=
  ∀ (m : (ℓ : Loc Cert.KInWIdeal.nD Cert.KInWIdeal.τ Cert.KInWIdeal.sig) → Buf (Elt Ideal) ℓ) (g : Dev Cert.KInWIdeal.nD → PrngReg)
    (m' : (ℓ : Loc Cert.RInWIdeal.nD Cert.RInWIdeal.τ Cert.RInWIdeal.sig) → Buf (Elt Ideal) ℓ) (g' : Dev Cert.RInWIdeal.nD → PrngReg), Pre_KInWIdeal m →
    (∀ c : Dev Cert.KInWIdeal.nD,
      m' ((c.tc : Thread Cert.RInWIdeal.nD Cert.RInWIdeal.τ).loc Cert.RInWIdeal.main_arg0) = m ((c.tc : Thread Cert.KInWIdeal.nD Cert.KInWIdeal.τ).loc Cert.KInWIdeal.main_arg0)
      ∧ m' ((c.tc : Thread Cert.RInWIdeal.nD Cert.RInWIdeal.τ).loc Cert.RInWIdeal.main_arg1) = m ((c.tc : Thread Cert.KInWIdeal.nD Cert.KInWIdeal.τ).loc Cert.KInWIdeal.main_arg1)
      ∧ m' ((c.tc : Thread Cert.RInWIdeal.nD Cert.RInWIdeal.τ).loc Cert.RInWIdeal.main_arg2) = m ((c.tc : Thread Cert.KInWIdeal.nD Cert.KInWIdeal.τ).loc Cert.KInWIdeal.main_arg2)
      ∧ m' ((c.tc : Thread Cert.RInWIdeal.nD Cert.RInWIdeal.τ).loc Cert.RInWIdeal.main_arg3) = m ((c.tc : Thread Cert.KInWIdeal.nD Cert.KInWIdeal.τ).loc Cert.KInWIdeal.main_arg3)) →
    ∃ (v0 : (c : Dev Cert.KInWIdeal.nD) → Buf (Elt Ideal) ((c.tc : Thread Cert.KInWIdeal.nD Cert.KInWIdeal.τ).loc Cert.KInWIdeal.main_v6)),
      θ_run (Cert.KInWIdeal.defs (F := Ideal)) (onTc (τ := Cert.KInWIdeal.τ) (Cert.KInWIdeal.main (F := Ideal))) ⟨m, fun _ => 0, g⟩ (fun r => ∀ c : Dev Cert.KInWIdeal.nD,
          r.2.mem ((c.tc : Thread Cert.KInWIdeal.nD Cert.KInWIdeal.τ).loc Cert.KInWIdeal.main_v6) = v0 c
          ∧ r.2.mem ((c.tc : Thread Cert.KInWIdeal.nD Cert.KInWIdeal.τ).loc Cert.KInWIdeal.main_arg0) = m ((c.tc : Thread Cert.KInWIdeal.nD Cert.KInWIdeal.τ).loc Cert.KInWIdeal.main_arg0)
          ∧ r.2.mem ((c.tc : Thread Cert.KInWIdeal.nD Cert.KInWIdeal.τ).loc Cert.KInWIdeal.main_arg1) = m ((c.tc : Thread Cert.KInWIdeal.nD Cert.KInWIdeal.τ).loc Cert.KInWIdeal.main_arg1)
          ∧ r.2.mem ((c.tc : Thread Cert.KInWIdeal.nD Cert.KInWIdeal.τ).loc Cert.KInWIdeal.main_arg2) = m ((c.tc : Thread Cert.KInWIdeal.nD Cert.KInWIdeal.τ).loc Cert.KInWIdeal.main_arg2)
          ∧ r.2.mem ((c.tc : Thread Cert.KInWIdeal.nD Cert.KInWIdeal.τ).loc Cert.KInWIdeal.main_arg3) = m ((c.tc : Thread Cert.KInWIdeal.nD Cert.KInWIdeal.τ).loc Cert.KInWIdeal.main_arg3))
      ∧ θ_run (Cert.RInWIdeal.defs (F := Ideal)) (onTc (τ := Cert.RInWIdeal.τ) (Cert.RInWIdeal.main (F := Ideal))) ⟨m', fun _ => 0, g'⟩ (fun r => ∀ c : Dev Cert.RInWIdeal.nD,
          r.2.mem ((c.tc : Thread Cert.RInWIdeal.nD Cert.RInWIdeal.τ).loc Cert.RInWIdeal.main_v8) = v0 c
          ∧ r.2.mem ((c.tc : Thread Cert.RInWIdeal.nD Cert.RInWIdeal.τ).loc Cert.RInWIdeal.main_arg0) = m' ((c.tc : Thread Cert.RInWIdeal.nD Cert.RInWIdeal.τ).loc Cert.RInWIdeal.main_arg0)
          ∧ r.2.mem ((c.tc : Thread Cert.RInWIdeal.nD Cert.RInWIdeal.τ).loc Cert.RInWIdeal.main_arg1) = m' ((c.tc : Thread Cert.RInWIdeal.nD Cert.RInWIdeal.τ).loc Cert.RInWIdeal.main_arg1)
          ∧ r.2.mem ((c.tc : Thread Cert.RInWIdeal.nD Cert.RInWIdeal.τ).loc Cert.RInWIdeal.main_arg2) = m' ((c.tc : Thread Cert.RInWIdeal.nD Cert.RInWIdeal.τ).loc Cert.RInWIdeal.main_arg2)
          ∧ r.2.mem ((c.tc : Thread Cert.RInWIdeal.nD Cert.RInWIdeal.τ).loc Cert.RInWIdeal.main_arg3) = m' ((c.tc : Thread Cert.RInWIdeal.nD Cert.RInWIdeal.τ).loc Cert.RInWIdeal.main_arg3))

def preserves_KInH_KInHIdeal : Prop :=
  True

def algebraic_KInHIdeal_RInHIdeal [hKInHIdeal : Cert.KInHIdeal.Facts] [hRInHIdeal : Cert.RInHIdeal.Facts] : Prop :=
  ∀ (m : (ℓ : Loc Cert.KInHIdeal.nD Cert.KInHIdeal.τ Cert.KInHIdeal.sig) → Buf (Elt Ideal) ℓ) (g : Dev Cert.KInHIdeal.nD → PrngReg)
    (m' : (ℓ : Loc Cert.RInHIdeal.nD Cert.RInHIdeal.τ Cert.RInHIdeal.sig) → Buf (Elt Ideal) ℓ) (g' : Dev Cert.RInHIdeal.nD → PrngReg), Pre_KInHIdeal m →
    (∀ c : Dev Cert.KInHIdeal.nD,
      m' ((c.tc : Thread Cert.RInHIdeal.nD Cert.RInHIdeal.τ).loc Cert.RInHIdeal.main_arg0) = m ((c.tc : Thread Cert.KInHIdeal.nD Cert.KInHIdeal.τ).loc Cert.KInHIdeal.main_arg0)
      ∧ m' ((c.tc : Thread Cert.RInHIdeal.nD Cert.RInHIdeal.τ).loc Cert.RInHIdeal.main_arg1) = m ((c.tc : Thread Cert.KInHIdeal.nD Cert.KInHIdeal.τ).loc Cert.KInHIdeal.main_arg1)
      ∧ m' ((c.tc : Thread Cert.RInHIdeal.nD Cert.RInHIdeal.τ).loc Cert.RInHIdeal.main_arg2) = m ((c.tc : Thread Cert.KInHIdeal.nD Cert.KInHIdeal.τ).loc Cert.KInHIdeal.main_arg2)
      ∧ m' ((c.tc : Thread Cert.RInHIdeal.nD Cert.RInHIdeal.τ).loc Cert.RInHIdeal.main_arg3) = m ((c.tc : Thread Cert.KInHIdeal.nD Cert.KInHIdeal.τ).loc Cert.KInHIdeal.main_arg3)) →
    ∃ (v0 : (c : Dev Cert.KInHIdeal.nD) → Buf (Elt Ideal) ((c.tc : Thread Cert.KInHIdeal.nD Cert.KInHIdeal.τ).loc Cert.KInHIdeal.main_v9)),
      θ_run (Cert.KInHIdeal.defs (F := Ideal)) (onTc (τ := Cert.KInHIdeal.τ) (Cert.KInHIdeal.main (F := Ideal))) ⟨m, fun _ => 0, g⟩ (fun r => ∀ c : Dev Cert.KInHIdeal.nD,
          r.2.mem ((c.tc : Thread Cert.KInHIdeal.nD Cert.KInHIdeal.τ).loc Cert.KInHIdeal.main_v9) = v0 c
          ∧ r.2.mem ((c.tc : Thread Cert.KInHIdeal.nD Cert.KInHIdeal.τ).loc Cert.KInHIdeal.main_arg0) = m ((c.tc : Thread Cert.KInHIdeal.nD Cert.KInHIdeal.τ).loc Cert.KInHIdeal.main_arg0)
          ∧ r.2.mem ((c.tc : Thread Cert.KInHIdeal.nD Cert.KInHIdeal.τ).loc Cert.KInHIdeal.main_arg1) = m ((c.tc : Thread Cert.KInHIdeal.nD Cert.KInHIdeal.τ).loc Cert.KInHIdeal.main_arg1)
          ∧ r.2.mem ((c.tc : Thread Cert.KInHIdeal.nD Cert.KInHIdeal.τ).loc Cert.KInHIdeal.main_arg2) = m ((c.tc : Thread Cert.KInHIdeal.nD Cert.KInHIdeal.τ).loc Cert.KInHIdeal.main_arg2)
          ∧ r.2.mem ((c.tc : Thread Cert.KInHIdeal.nD Cert.KInHIdeal.τ).loc Cert.KInHIdeal.main_arg3) = m ((c.tc : Thread Cert.KInHIdeal.nD Cert.KInHIdeal.τ).loc Cert.KInHIdeal.main_arg3))
      ∧ θ_run (Cert.RInHIdeal.defs (F := Ideal)) (onTc (τ := Cert.RInHIdeal.τ) (Cert.RInHIdeal.main (F := Ideal))) ⟨m', fun _ => 0, g'⟩ (fun r => ∀ c : Dev Cert.RInHIdeal.nD,
          r.2.mem ((c.tc : Thread Cert.RInHIdeal.nD Cert.RInHIdeal.τ).loc Cert.RInHIdeal.main_v9) = v0 c
          ∧ r.2.mem ((c.tc : Thread Cert.RInHIdeal.nD Cert.RInHIdeal.τ).loc Cert.RInHIdeal.main_arg0) = m' ((c.tc : Thread Cert.RInHIdeal.nD Cert.RInHIdeal.τ).loc Cert.RInHIdeal.main_arg0)
          ∧ r.2.mem ((c.tc : Thread Cert.RInHIdeal.nD Cert.RInHIdeal.τ).loc Cert.RInHIdeal.main_arg1) = m' ((c.tc : Thread Cert.RInHIdeal.nD Cert.RInHIdeal.τ).loc Cert.RInHIdeal.main_arg1)
          ∧ r.2.mem ((c.tc : Thread Cert.RInHIdeal.nD Cert.RInHIdeal.τ).loc Cert.RInHIdeal.main_arg2) = m' ((c.tc : Thread Cert.RInHIdeal.nD Cert.RInHIdeal.τ).loc Cert.RInHIdeal.main_arg2)
          ∧ r.2.mem ((c.tc : Thread Cert.RInHIdeal.nD Cert.RInHIdeal.τ).loc Cert.RInHIdeal.main_arg3) = m' ((c.tc : Thread Cert.RInHIdeal.nD Cert.RInHIdeal.τ).loc Cert.RInHIdeal.main_arg3))

def preserves_KDown_KDownIdeal : Prop :=
  True

def algebraic_KDownIdeal_RDownIdeal [hKDownIdeal : Cert.KDownIdeal.Facts] [hRDownIdeal : Cert.RDownIdeal.Facts] : Prop :=
  ∀ (m : (ℓ : Loc Cert.KDownIdeal.nD Cert.KDownIdeal.τ Cert.KDownIdeal.sig) → Buf (Elt Ideal) ℓ) (g : Dev Cert.KDownIdeal.nD → PrngReg)
    (m' : (ℓ : Loc Cert.RDownIdeal.nD Cert.RDownIdeal.τ Cert.RDownIdeal.sig) → Buf (Elt Ideal) ℓ) (g' : Dev Cert.RDownIdeal.nD → PrngReg), Pre_KDownIdeal m →
    (∀ c : Dev Cert.KDownIdeal.nD,
      m' ((c.tc : Thread Cert.RDownIdeal.nD Cert.RDownIdeal.τ).loc Cert.RDownIdeal.main_arg0) = m ((c.tc : Thread Cert.KDownIdeal.nD Cert.KDownIdeal.τ).loc Cert.KDownIdeal.main_arg0)
      ∧ m' ((c.tc : Thread Cert.RDownIdeal.nD Cert.RDownIdeal.τ).loc Cert.RDownIdeal.main_arg1) = m ((c.tc : Thread Cert.KDownIdeal.nD Cert.KDownIdeal.τ).loc Cert.KDownIdeal.main_arg1)
      ∧ m' ((c.tc : Thread Cert.RDownIdeal.nD Cert.RDownIdeal.τ).loc Cert.RDownIdeal.main_arg2) = m ((c.tc : Thread Cert.KDownIdeal.nD Cert.KDownIdeal.τ).loc Cert.KDownIdeal.main_arg2)
      ∧ m' ((c.tc : Thread Cert.RDownIdeal.nD Cert.RDownIdeal.τ).loc Cert.RDownIdeal.main_arg3) = m ((c.tc : Thread Cert.KDownIdeal.nD Cert.KDownIdeal.τ).loc Cert.KDownIdeal.main_arg3)
      ∧ m' ((c.tc : Thread Cert.RDownIdeal.nD Cert.RDownIdeal.τ).loc Cert.RDownIdeal.main_arg4) = m ((c.tc : Thread Cert.KDownIdeal.nD Cert.KDownIdeal.τ).loc Cert.KDownIdeal.main_arg4)) →
    ∃ (v0 : (c : Dev Cert.KDownIdeal.nD) → Buf (Elt Ideal) ((c.tc : Thread Cert.KDownIdeal.nD Cert.KDownIdeal.τ).loc Cert.KDownIdeal.main_v10)),
      θ_run (Cert.KDownIdeal.defs (F := Ideal)) (onTc (τ := Cert.KDownIdeal.τ) (Cert.KDownIdeal.main (F := Ideal))) ⟨m, fun _ => 0, g⟩ (fun r => ∀ c : Dev Cert.KDownIdeal.nD,
          r.2.mem ((c.tc : Thread Cert.KDownIdeal.nD Cert.KDownIdeal.τ).loc Cert.KDownIdeal.main_v10) = v0 c
          ∧ r.2.mem ((c.tc : Thread Cert.KDownIdeal.nD Cert.KDownIdeal.τ).loc Cert.KDownIdeal.main_arg0) = m ((c.tc : Thread Cert.KDownIdeal.nD Cert.KDownIdeal.τ).loc Cert.KDownIdeal.main_arg0)
          ∧ r.2.mem ((c.tc : Thread Cert.KDownIdeal.nD Cert.KDownIdeal.τ).loc Cert.KDownIdeal.main_arg1) = m ((c.tc : Thread Cert.KDownIdeal.nD Cert.KDownIdeal.τ).loc Cert.KDownIdeal.main_arg1)
          ∧ r.2.mem ((c.tc : Thread Cert.KDownIdeal.nD Cert.KDownIdeal.τ).loc Cert.KDownIdeal.main_arg2) = m ((c.tc : Thread Cert.KDownIdeal.nD Cert.KDownIdeal.τ).loc Cert.KDownIdeal.main_arg2)
          ∧ r.2.mem ((c.tc : Thread Cert.KDownIdeal.nD Cert.KDownIdeal.τ).loc Cert.KDownIdeal.main_arg3) = m ((c.tc : Thread Cert.KDownIdeal.nD Cert.KDownIdeal.τ).loc Cert.KDownIdeal.main_arg3)
          ∧ r.2.mem ((c.tc : Thread Cert.KDownIdeal.nD Cert.KDownIdeal.τ).loc Cert.KDownIdeal.main_arg4) = m ((c.tc : Thread Cert.KDownIdeal.nD Cert.KDownIdeal.τ).loc Cert.KDownIdeal.main_arg4))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v10) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3)
          ∧ r.2.mem ((c.tc : Thread Cert.RDownIdeal.nD Cert.RDownIdeal.τ).loc Cert.RDownIdeal.main_arg4) = m' ((c.tc : Thread Cert.RDownIdeal.nD Cert.RDownIdeal.τ).loc Cert.RDownIdeal.main_arg4))

def preserves_KBwdWd_KBwdWdIdeal : Prop :=
  True

def algebraic_KBwdWdIdeal_RBwdWdIdeal [hKBwdWdIdeal : Cert.KBwdWdIdeal.Facts] [hRBwdWdIdeal : Cert.RBwdWdIdeal.Facts] : Prop :=
  ∀ (m : (ℓ : Loc Cert.KBwdWdIdeal.nD Cert.KBwdWdIdeal.τ Cert.KBwdWdIdeal.sig) → Buf (Elt Ideal) ℓ) (g : Dev Cert.KBwdWdIdeal.nD → PrngReg)
    (m' : (ℓ : Loc Cert.RBwdWdIdeal.nD Cert.RBwdWdIdeal.τ Cert.RBwdWdIdeal.sig) → Buf (Elt Ideal) ℓ) (g' : Dev Cert.RBwdWdIdeal.nD → PrngReg), Pre_KBwdWdIdeal m →
    (∀ c : Dev Cert.KBwdWdIdeal.nD,
      m' ((c.tc : Thread Cert.RBwdWdIdeal.nD Cert.RBwdWdIdeal.τ).loc Cert.RBwdWdIdeal.main_arg0) = m ((c.tc : Thread Cert.KBwdWdIdeal.nD Cert.KBwdWdIdeal.τ).loc Cert.KBwdWdIdeal.main_arg0)
      ∧ m' ((c.tc : Thread Cert.RBwdWdIdeal.nD Cert.RBwdWdIdeal.τ).loc Cert.RBwdWdIdeal.main_arg1) = m ((c.tc : Thread Cert.KBwdWdIdeal.nD Cert.KBwdWdIdeal.τ).loc Cert.KBwdWdIdeal.main_arg1)
      ∧ m' ((c.tc : Thread Cert.RBwdWdIdeal.nD Cert.RBwdWdIdeal.τ).loc Cert.RBwdWdIdeal.main_arg2) = m ((c.tc : Thread Cert.KBwdWdIdeal.nD Cert.KBwdWdIdeal.τ).loc Cert.KBwdWdIdeal.main_arg2)
      ∧ m' ((c.tc : Thread Cert.RBwdWdIdeal.nD Cert.RBwdWdIdeal.τ).loc Cert.RBwdWdIdeal.main_arg3) = m ((c.tc : Thread Cert.KBwdWdIdeal.nD Cert.KBwdWdIdeal.τ).loc Cert.KBwdWdIdeal.main_arg3)) →
    ∃ (v0 : (c : Dev Cert.KBwdWdIdeal.nD) → Buf (Elt Ideal) ((c.tc : Thread Cert.KBwdWdIdeal.nD Cert.KBwdWdIdeal.τ).loc Cert.KBwdWdIdeal.main_v8)),
      θ_run (Cert.KBwdWdIdeal.defs (F := Ideal)) (onTc (τ := Cert.KBwdWdIdeal.τ) (Cert.KBwdWdIdeal.main (F := Ideal))) ⟨m, fun _ => 0, g⟩ (fun r => ∀ c : Dev Cert.KBwdWdIdeal.nD,
          r.2.mem ((c.tc : Thread Cert.KBwdWdIdeal.nD Cert.KBwdWdIdeal.τ).loc Cert.KBwdWdIdeal.main_v8) = v0 c
          ∧ r.2.mem ((c.tc : Thread Cert.KBwdWdIdeal.nD Cert.KBwdWdIdeal.τ).loc Cert.KBwdWdIdeal.main_arg0) = m ((c.tc : Thread Cert.KBwdWdIdeal.nD Cert.KBwdWdIdeal.τ).loc Cert.KBwdWdIdeal.main_arg0)
          ∧ r.2.mem ((c.tc : Thread Cert.KBwdWdIdeal.nD Cert.KBwdWdIdeal.τ).loc Cert.KBwdWdIdeal.main_arg1) = m ((c.tc : Thread Cert.KBwdWdIdeal.nD Cert.KBwdWdIdeal.τ).loc Cert.KBwdWdIdeal.main_arg1)
          ∧ r.2.mem ((c.tc : Thread Cert.KBwdWdIdeal.nD Cert.KBwdWdIdeal.τ).loc Cert.KBwdWdIdeal.main_arg2) = m ((c.tc : Thread Cert.KBwdWdIdeal.nD Cert.KBwdWdIdeal.τ).loc Cert.KBwdWdIdeal.main_arg2)
          ∧ r.2.mem ((c.tc : Thread Cert.KBwdWdIdeal.nD Cert.KBwdWdIdeal.τ).loc Cert.KBwdWdIdeal.main_arg3) = m ((c.tc : Thread Cert.KBwdWdIdeal.nD Cert.KBwdWdIdeal.τ).loc Cert.KBwdWdIdeal.main_arg3))
      ∧ θ_run (Cert.RBwdWdIdeal.defs (F := Ideal)) (onTc (τ := Cert.RBwdWdIdeal.τ) (Cert.RBwdWdIdeal.main (F := Ideal))) ⟨m', fun _ => 0, g'⟩ (fun r => ∀ c : Dev Cert.RBwdWdIdeal.nD,
          r.2.mem ((c.tc : Thread Cert.RBwdWdIdeal.nD Cert.RBwdWdIdeal.τ).loc Cert.RBwdWdIdeal.main_v11) = v0 c
          ∧ r.2.mem ((c.tc : Thread Cert.RBwdWdIdeal.nD Cert.RBwdWdIdeal.τ).loc Cert.RBwdWdIdeal.main_arg0) = m' ((c.tc : Thread Cert.RBwdWdIdeal.nD Cert.RBwdWdIdeal.τ).loc Cert.RBwdWdIdeal.main_arg0)
          ∧ r.2.mem ((c.tc : Thread Cert.RBwdWdIdeal.nD Cert.RBwdWdIdeal.τ).loc Cert.RBwdWdIdeal.main_arg1) = m' ((c.tc : Thread Cert.RBwdWdIdeal.nD Cert.RBwdWdIdeal.τ).loc Cert.RBwdWdIdeal.main_arg1)
          ∧ r.2.mem ((c.tc : Thread Cert.RBwdWdIdeal.nD Cert.RBwdWdIdeal.τ).loc Cert.RBwdWdIdeal.main_arg2) = m' ((c.tc : Thread Cert.RBwdWdIdeal.nD Cert.RBwdWdIdeal.τ).loc Cert.RBwdWdIdeal.main_arg2)
          ∧ r.2.mem ((c.tc : Thread Cert.RBwdWdIdeal.nD Cert.RBwdWdIdeal.τ).loc Cert.RBwdWdIdeal.main_arg3) = m' ((c.tc : Thread Cert.RBwdWdIdeal.nD Cert.RBwdWdIdeal.τ).loc Cert.RBwdWdIdeal.main_arg3))

def preserves_KBwdWgu_KBwdWguIdeal : Prop :=
  True

def algebraic_KBwdWguIdeal_RBwdWguIdeal [hKBwdWguIdeal : Cert.KBwdWguIdeal.Facts] [hRBwdWguIdeal : Cert.RBwdWguIdeal.Facts] : Prop :=
  ∀ (m : (ℓ : Loc Cert.KBwdWguIdeal.nD Cert.KBwdWguIdeal.τ Cert.KBwdWguIdeal.sig) → Buf (Elt Ideal) ℓ) (g : Dev Cert.KBwdWguIdeal.nD → PrngReg)
    (m' : (ℓ : Loc Cert.RBwdWguIdeal.nD Cert.RBwdWguIdeal.τ Cert.RBwdWguIdeal.sig) → Buf (Elt Ideal) ℓ) (g' : Dev Cert.RBwdWguIdeal.nD → PrngReg), Pre_KBwdWguIdeal m →
    (∀ c : Dev Cert.KBwdWguIdeal.nD,
      m' ((c.tc : Thread Cert.RBwdWguIdeal.nD Cert.RBwdWguIdeal.τ).loc Cert.RBwdWguIdeal.main_arg0) = m ((c.tc : Thread Cert.KBwdWguIdeal.nD Cert.KBwdWguIdeal.τ).loc Cert.KBwdWguIdeal.main_arg0)
      ∧ m' ((c.tc : Thread Cert.RBwdWguIdeal.nD Cert.RBwdWguIdeal.τ).loc Cert.RBwdWguIdeal.main_arg1) = m ((c.tc : Thread Cert.KBwdWguIdeal.nD Cert.KBwdWguIdeal.τ).loc Cert.KBwdWguIdeal.main_arg1)
      ∧ m' ((c.tc : Thread Cert.RBwdWguIdeal.nD Cert.RBwdWguIdeal.τ).loc Cert.RBwdWguIdeal.main_arg2) = m ((c.tc : Thread Cert.KBwdWguIdeal.nD Cert.KBwdWguIdeal.τ).loc Cert.KBwdWguIdeal.main_arg2)
      ∧ m' ((c.tc : Thread Cert.RBwdWguIdeal.nD Cert.RBwdWguIdeal.τ).loc Cert.RBwdWguIdeal.main_arg3) = m ((c.tc : Thread Cert.KBwdWguIdeal.nD Cert.KBwdWguIdeal.τ).loc Cert.KBwdWguIdeal.main_arg3)) →
    ∃ (v0 : (c : Dev Cert.KBwdWguIdeal.nD) → Buf (Elt Ideal) ((c.tc : Thread Cert.KBwdWguIdeal.nD Cert.KBwdWguIdeal.τ).loc Cert.KBwdWguIdeal.main_v8)),
      θ_run (Cert.KBwdWguIdeal.defs (F := Ideal)) (onTc (τ := Cert.KBwdWguIdeal.τ) (Cert.KBwdWguIdeal.main (F := Ideal))) ⟨m, fun _ => 0, g⟩ (fun r => ∀ c : Dev Cert.KBwdWguIdeal.nD,
          r.2.mem ((c.tc : Thread Cert.KBwdWguIdeal.nD Cert.KBwdWguIdeal.τ).loc Cert.KBwdWguIdeal.main_v8) = v0 c
          ∧ r.2.mem ((c.tc : Thread Cert.KBwdWguIdeal.nD Cert.KBwdWguIdeal.τ).loc Cert.KBwdWguIdeal.main_arg0) = m ((c.tc : Thread Cert.KBwdWguIdeal.nD Cert.KBwdWguIdeal.τ).loc Cert.KBwdWguIdeal.main_arg0)
          ∧ r.2.mem ((c.tc : Thread Cert.KBwdWguIdeal.nD Cert.KBwdWguIdeal.τ).loc Cert.KBwdWguIdeal.main_arg1) = m ((c.tc : Thread Cert.KBwdWguIdeal.nD Cert.KBwdWguIdeal.τ).loc Cert.KBwdWguIdeal.main_arg1)
          ∧ r.2.mem ((c.tc : Thread Cert.KBwdWguIdeal.nD Cert.KBwdWguIdeal.τ).loc Cert.KBwdWguIdeal.main_arg2) = m ((c.tc : Thread Cert.KBwdWguIdeal.nD Cert.KBwdWguIdeal.τ).loc Cert.KBwdWguIdeal.main_arg2)
          ∧ r.2.mem ((c.tc : Thread Cert.KBwdWguIdeal.nD Cert.KBwdWguIdeal.τ).loc Cert.KBwdWguIdeal.main_arg3) = m ((c.tc : Thread Cert.KBwdWguIdeal.nD Cert.KBwdWguIdeal.τ).loc Cert.KBwdWguIdeal.main_arg3))
      ∧ θ_run (Cert.RBwdWguIdeal.defs (F := Ideal)) (onTc (τ := Cert.RBwdWguIdeal.τ) (Cert.RBwdWguIdeal.main (F := Ideal))) ⟨m', fun _ => 0, g'⟩ (fun r => ∀ c : Dev Cert.RBwdWguIdeal.nD,
          r.2.mem ((c.tc : Thread Cert.RBwdWguIdeal.nD Cert.RBwdWguIdeal.τ).loc Cert.RBwdWguIdeal.main_v8) = v0 c
          ∧ r.2.mem ((c.tc : Thread Cert.RBwdWguIdeal.nD Cert.RBwdWguIdeal.τ).loc Cert.RBwdWguIdeal.main_arg0) = m' ((c.tc : Thread Cert.RBwdWguIdeal.nD Cert.RBwdWguIdeal.τ).loc Cert.RBwdWguIdeal.main_arg0)
          ∧ r.2.mem ((c.tc : Thread Cert.RBwdWguIdeal.nD Cert.RBwdWguIdeal.τ).loc Cert.RBwdWguIdeal.main_arg1) = m' ((c.tc : Thread Cert.RBwdWguIdeal.nD Cert.RBwdWguIdeal.τ).loc Cert.RBwdWguIdeal.main_arg1)
          ∧ r.2.mem ((c.tc : Thread Cert.RBwdWguIdeal.nD Cert.RBwdWguIdeal.τ).loc Cert.RBwdWguIdeal.main_arg2) = m' ((c.tc : Thread Cert.RBwdWguIdeal.nD Cert.RBwdWguIdeal.τ).loc Cert.RBwdWguIdeal.main_arg2)
          ∧ r.2.mem ((c.tc : Thread Cert.RBwdWguIdeal.nD Cert.RBwdWguIdeal.τ).loc Cert.RBwdWguIdeal.main_arg3) = m' ((c.tc : Thread Cert.RBwdWguIdeal.nD Cert.RBwdWguIdeal.τ).loc Cert.RBwdWguIdeal.main_arg3))

def preserves_KBwdDh_KBwdDhIdeal : Prop :=
  True

def algebraic_KBwdDhIdeal_RBwdDhIdeal [hKBwdDhIdeal : Cert.KBwdDhIdeal.Facts] [hRBwdDhIdeal : Cert.RBwdDhIdeal.Facts] : Prop :=
  ∀ (m : (ℓ : Loc Cert.KBwdDhIdeal.nD Cert.KBwdDhIdeal.τ Cert.KBwdDhIdeal.sig) → Buf (Elt Ideal) ℓ) (g : Dev Cert.KBwdDhIdeal.nD → PrngReg)
    (m' : (ℓ : Loc Cert.RBwdDhIdeal.nD Cert.RBwdDhIdeal.τ Cert.RBwdDhIdeal.sig) → Buf (Elt Ideal) ℓ) (g' : Dev Cert.RBwdDhIdeal.nD → PrngReg), Pre_KBwdDhIdeal m →
    (∀ c : Dev Cert.KBwdDhIdeal.nD,
      m' ((c.tc : Thread Cert.RBwdDhIdeal.nD Cert.RBwdDhIdeal.τ).loc Cert.RBwdDhIdeal.main_arg0) = m ((c.tc : Thread Cert.KBwdDhIdeal.nD Cert.KBwdDhIdeal.τ).loc Cert.KBwdDhIdeal.main_arg0)
      ∧ m' ((c.tc : Thread Cert.RBwdDhIdeal.nD Cert.RBwdDhIdeal.τ).loc Cert.RBwdDhIdeal.main_arg1) = m ((c.tc : Thread Cert.KBwdDhIdeal.nD Cert.KBwdDhIdeal.τ).loc Cert.KBwdDhIdeal.main_arg1)
      ∧ m' ((c.tc : Thread Cert.RBwdDhIdeal.nD Cert.RBwdDhIdeal.τ).loc Cert.RBwdDhIdeal.main_arg2) = m ((c.tc : Thread Cert.KBwdDhIdeal.nD Cert.KBwdDhIdeal.τ).loc Cert.KBwdDhIdeal.main_arg2)
      ∧ m' ((c.tc : Thread Cert.RBwdDhIdeal.nD Cert.RBwdDhIdeal.τ).loc Cert.RBwdDhIdeal.main_arg3) = m ((c.tc : Thread Cert.KBwdDhIdeal.nD Cert.KBwdDhIdeal.τ).loc Cert.KBwdDhIdeal.main_arg3)) →
    ∃ (v0 : (c : Dev Cert.KBwdDhIdeal.nD) → Buf (Elt Ideal) ((c.tc : Thread Cert.KBwdDhIdeal.nD Cert.KBwdDhIdeal.τ).loc Cert.KBwdDhIdeal.main_v11)),
      θ_run (Cert.KBwdDhIdeal.defs (F := Ideal)) (onTc (τ := Cert.KBwdDhIdeal.τ) (Cert.KBwdDhIdeal.main (F := Ideal))) ⟨m, fun _ => 0, g⟩ (fun r => ∀ c : Dev Cert.KBwdDhIdeal.nD,
          r.2.mem ((c.tc : Thread Cert.KBwdDhIdeal.nD Cert.KBwdDhIdeal.τ).loc Cert.KBwdDhIdeal.main_v11) = v0 c
          ∧ r.2.mem ((c.tc : Thread Cert.KBwdDhIdeal.nD Cert.KBwdDhIdeal.τ).loc Cert.KBwdDhIdeal.main_arg0) = m ((c.tc : Thread Cert.KBwdDhIdeal.nD Cert.KBwdDhIdeal.τ).loc Cert.KBwdDhIdeal.main_arg0)
          ∧ r.2.mem ((c.tc : Thread Cert.KBwdDhIdeal.nD Cert.KBwdDhIdeal.τ).loc Cert.KBwdDhIdeal.main_arg1) = m ((c.tc : Thread Cert.KBwdDhIdeal.nD Cert.KBwdDhIdeal.τ).loc Cert.KBwdDhIdeal.main_arg1)
          ∧ r.2.mem ((c.tc : Thread Cert.KBwdDhIdeal.nD Cert.KBwdDhIdeal.τ).loc Cert.KBwdDhIdeal.main_arg2) = m ((c.tc : Thread Cert.KBwdDhIdeal.nD Cert.KBwdDhIdeal.τ).loc Cert.KBwdDhIdeal.main_arg2)
          ∧ r.2.mem ((c.tc : Thread Cert.KBwdDhIdeal.nD Cert.KBwdDhIdeal.τ).loc Cert.KBwdDhIdeal.main_arg3) = m ((c.tc : Thread Cert.KBwdDhIdeal.nD Cert.KBwdDhIdeal.τ).loc Cert.KBwdDhIdeal.main_arg3))
      ∧ θ_run (Cert.RBwdDhIdeal.defs (F := Ideal)) (onTc (τ := Cert.RBwdDhIdeal.τ) (Cert.RBwdDhIdeal.main (F := Ideal))) ⟨m', fun _ => 0, g'⟩ (fun r => ∀ c : Dev Cert.RBwdDhIdeal.nD,
          r.2.mem ((c.tc : Thread Cert.RBwdDhIdeal.nD Cert.RBwdDhIdeal.τ).loc Cert.RBwdDhIdeal.main_v9) = v0 c
          ∧ r.2.mem ((c.tc : Thread Cert.RBwdDhIdeal.nD Cert.RBwdDhIdeal.τ).loc Cert.RBwdDhIdeal.main_arg0) = m' ((c.tc : Thread Cert.RBwdDhIdeal.nD Cert.RBwdDhIdeal.τ).loc Cert.RBwdDhIdeal.main_arg0)
          ∧ r.2.mem ((c.tc : Thread Cert.RBwdDhIdeal.nD Cert.RBwdDhIdeal.τ).loc Cert.RBwdDhIdeal.main_arg1) = m' ((c.tc : Thread Cert.RBwdDhIdeal.nD Cert.RBwdDhIdeal.τ).loc Cert.RBwdDhIdeal.main_arg1)
          ∧ r.2.mem ((c.tc : Thread Cert.RBwdDhIdeal.nD Cert.RBwdDhIdeal.τ).loc Cert.RBwdDhIdeal.main_arg2) = m' ((c.tc : Thread Cert.RBwdDhIdeal.nD Cert.RBwdDhIdeal.τ).loc Cert.RBwdDhIdeal.main_arg2)
          ∧ r.2.mem ((c.tc : Thread Cert.RBwdDhIdeal.nD Cert.RBwdDhIdeal.τ).loc Cert.RBwdDhIdeal.main_arg3) = m' ((c.tc : Thread Cert.RBwdDhIdeal.nD Cert.RBwdDhIdeal.τ).loc Cert.RBwdDhIdeal.main_arg3))

def preserves_KSumParts_KSumPartsIdeal : Prop :=
  True

def algebraic_KSumPartsIdeal_RSumPartsIdeal [hKSumPartsIdeal : Cert.KSumPartsIdeal.Facts] [hRSumPartsIdeal : Cert.RSumPartsIdeal.Facts] : Prop :=
  ∀ (m : (ℓ : Loc Cert.KSumPartsIdeal.nD Cert.KSumPartsIdeal.τ Cert.KSumPartsIdeal.sig) → Buf (Elt Ideal) ℓ) (g : Dev Cert.KSumPartsIdeal.nD → PrngReg)
    (m' : (ℓ : Loc Cert.RSumPartsIdeal.nD Cert.RSumPartsIdeal.τ Cert.RSumPartsIdeal.sig) → Buf (Elt Ideal) ℓ) (g' : Dev Cert.RSumPartsIdeal.nD → PrngReg), Pre_KSumPartsIdeal m →
    (∀ c : Dev Cert.KSumPartsIdeal.nD,
      m' ((c.tc : Thread Cert.RSumPartsIdeal.nD Cert.RSumPartsIdeal.τ).loc Cert.RSumPartsIdeal.main_arg0) = m ((c.tc : Thread Cert.KSumPartsIdeal.nD Cert.KSumPartsIdeal.τ).loc Cert.KSumPartsIdeal.main_arg0)) →
    ∃ (v0 : (c : Dev Cert.KSumPartsIdeal.nD) → Buf (Elt Ideal) ((c.tc : Thread Cert.KSumPartsIdeal.nD Cert.KSumPartsIdeal.τ).loc Cert.KSumPartsIdeal.main_v0)),
      θ_run (Cert.KSumPartsIdeal.defs (F := Ideal)) (onTc (τ := Cert.KSumPartsIdeal.τ) (Cert.KSumPartsIdeal.main (F := Ideal))) ⟨m, fun _ => 0, g⟩ (fun r => ∀ c : Dev Cert.KSumPartsIdeal.nD,
          r.2.mem ((c.tc : Thread Cert.KSumPartsIdeal.nD Cert.KSumPartsIdeal.τ).loc Cert.KSumPartsIdeal.main_v0) = v0 c
          ∧ r.2.mem ((c.tc : Thread Cert.KSumPartsIdeal.nD Cert.KSumPartsIdeal.τ).loc Cert.KSumPartsIdeal.main_arg0) = m ((c.tc : Thread Cert.KSumPartsIdeal.nD Cert.KSumPartsIdeal.τ).loc Cert.KSumPartsIdeal.main_arg0))
      ∧ θ_run (Cert.RSumPartsIdeal.defs (F := Ideal)) (onTc (τ := Cert.RSumPartsIdeal.τ) (Cert.RSumPartsIdeal.main (F := Ideal))) ⟨m', fun _ => 0, g'⟩ (fun r => ∀ c : Dev Cert.RSumPartsIdeal.nD,
          r.2.mem ((c.tc : Thread Cert.RSumPartsIdeal.nD Cert.RSumPartsIdeal.τ).loc Cert.RSumPartsIdeal.main_v0) = v0 c
          ∧ r.2.mem ((c.tc : Thread Cert.RSumPartsIdeal.nD Cert.RSumPartsIdeal.τ).loc Cert.RSumPartsIdeal.main_arg0) = m' ((c.tc : Thread Cert.RSumPartsIdeal.nD Cert.RSumPartsIdeal.τ).loc Cert.RSumPartsIdeal.main_arg0))

def preserves_KAdamB_KAdamBIdeal : Prop :=
  True

def algebraic_KAdamBIdeal_RAdamBIdeal [hKAdamBIdeal : Cert.KAdamBIdeal.Facts] [hRAdamBIdeal : Cert.RAdamBIdeal.Facts] [hPre_placed : Cert.Pre_placed.Facts] : Prop :=
  ∀ (m : (ℓ : Loc Cert.KAdamBIdeal.nD Cert.KAdamBIdeal.τ Cert.KAdamBIdeal.sig) → Buf (Elt Ideal) ℓ) (g : Dev Cert.KAdamBIdeal.nD → PrngReg)
    (m' : (ℓ : Loc Cert.RAdamBIdeal.nD Cert.RAdamBIdeal.τ Cert.RAdamBIdeal.sig) → Buf (Elt Ideal) ℓ) (g' : Dev Cert.RAdamBIdeal.nD → PrngReg), Pre_KAdamBIdeal m →
    (∀ c : Dev Cert.KAdamBIdeal.nD,
      m' ((c.tc : Thread Cert.RAdamBIdeal.nD Cert.RAdamBIdeal.τ).loc Cert.RAdamBIdeal.main_arg0) = m ((c.tc : Thread Cert.KAdamBIdeal.nD Cert.KAdamBIdeal.τ).loc Cert.KAdamBIdeal.main_arg0)
      ∧ m' ((c.tc : Thread Cert.RAdamBIdeal.nD Cert.RAdamBIdeal.τ).loc Cert.RAdamBIdeal.main_arg1) = m ((c.tc : Thread Cert.KAdamBIdeal.nD Cert.KAdamBIdeal.τ).loc Cert.KAdamBIdeal.main_arg1)
      ∧ m' ((c.tc : Thread Cert.RAdamBIdeal.nD Cert.RAdamBIdeal.τ).loc Cert.RAdamBIdeal.main_arg2) = m ((c.tc : Thread Cert.KAdamBIdeal.nD Cert.KAdamBIdeal.τ).loc Cert.KAdamBIdeal.main_arg2)
      ∧ m' ((c.tc : Thread Cert.RAdamBIdeal.nD Cert.RAdamBIdeal.τ).loc Cert.RAdamBIdeal.main_arg3) = m ((c.tc : Thread Cert.KAdamBIdeal.nD Cert.KAdamBIdeal.τ).loc Cert.KAdamBIdeal.main_arg3)
      ∧ m' ((c.tc : Thread Cert.RAdamBIdeal.nD Cert.RAdamBIdeal.τ).loc Cert.RAdamBIdeal.main_arg4) = m ((c.tc : Thread Cert.KAdamBIdeal.nD Cert.KAdamBIdeal.τ).loc Cert.KAdamBIdeal.main_arg4)
      ∧ m' ((c.tc : Thread Cert.RAdamBIdeal.nD Cert.RAdamBIdeal.τ).loc Cert.RAdamBIdeal.main_arg5) = m ((c.tc : Thread Cert.KAdamBIdeal.nD Cert.KAdamBIdeal.τ).loc Cert.KAdamBIdeal.main_arg5)
      ∧ m' ((c.tc : Thread Cert.RAdamBIdeal.nD Cert.RAdamBIdeal.τ).loc Cert.RAdamBIdeal.main_arg6) = m ((c.tc : Thread Cert.KAdamBIdeal.nD Cert.KAdamBIdeal.τ).loc Cert.KAdamBIdeal.main_arg6)
      ∧ m' ((c.tc : Thread Cert.RAdamBIdeal.nD Cert.RAdamBIdeal.τ).loc Cert.RAdamBIdeal.main_arg7) = m ((c.tc : Thread Cert.KAdamBIdeal.nD Cert.KAdamBIdeal.τ).loc Cert.KAdamBIdeal.main_arg7)) →
    ∃ (v0 : (c : Dev Cert.KAdamBIdeal.nD) → Buf (Elt Ideal) ((c.tc : Thread Cert.KAdamBIdeal.nD Cert.KAdamBIdeal.τ).loc Cert.KAdamBIdeal.main_v3_0)) (v1 : (c : Dev Cert.KAdamBIdeal.nD) → Buf (Elt Ideal) ((c.tc : Thread Cert.KAdamBIdeal.nD Cert.KAdamBIdeal.τ).loc Cert.KAdamBIdeal.main_v3_1)) (v2 : (c : Dev Cert.KAdamBIdeal.nD) → Buf (Elt Ideal) ((c.tc : Thread Cert.KAdamBIdeal.nD Cert.KAdamBIdeal.τ).loc Cert.KAdamBIdeal.main_v3_2)) (v3 : (c : Dev Cert.KAdamBIdeal.nD) → Buf (Elt Ideal) ((c.tc : Thread Cert.KAdamBIdeal.nD Cert.KAdamBIdeal.τ).loc Cert.KAdamBIdeal.main_v3_3)),
      θ_run (Cert.KAdamBIdeal.defs (F := Ideal)) (onTc (τ := Cert.KAdamBIdeal.τ) (Cert.KAdamBIdeal.main (F := Ideal))) ⟨m, fun _ => 0, g⟩ (fun r => ∀ c : Dev Cert.KAdamBIdeal.nD,
          r.2.mem ((c.tc : Thread Cert.KAdamBIdeal.nD Cert.KAdamBIdeal.τ).loc Cert.KAdamBIdeal.main_v3_0) = v0 c
          ∧ r.2.mem ((c.tc : Thread Cert.KAdamBIdeal.nD Cert.KAdamBIdeal.τ).loc Cert.KAdamBIdeal.main_v3_1) = v1 c
          ∧ r.2.mem ((c.tc : Thread Cert.KAdamBIdeal.nD Cert.KAdamBIdeal.τ).loc Cert.KAdamBIdeal.main_v3_2) = v2 c
          ∧ r.2.mem ((c.tc : Thread Cert.KAdamBIdeal.nD Cert.KAdamBIdeal.τ).loc Cert.KAdamBIdeal.main_v3_3) = v3 c
          ∧ r.2.mem ((c.tc : Thread Cert.KAdamBIdeal.nD Cert.KAdamBIdeal.τ).loc Cert.KAdamBIdeal.main_arg0) = m ((c.tc : Thread Cert.KAdamBIdeal.nD Cert.KAdamBIdeal.τ).loc Cert.KAdamBIdeal.main_arg0)
          ∧ r.2.mem ((c.tc : Thread Cert.KAdamBIdeal.nD Cert.KAdamBIdeal.τ).loc Cert.KAdamBIdeal.main_arg1) = m ((c.tc : Thread Cert.KAdamBIdeal.nD Cert.KAdamBIdeal.τ).loc Cert.KAdamBIdeal.main_arg1)
          ∧ r.2.mem ((c.tc : Thread Cert.KAdamBIdeal.nD Cert.KAdamBIdeal.τ).loc Cert.KAdamBIdeal.main_arg2) = m ((c.tc : Thread Cert.KAdamBIdeal.nD Cert.KAdamBIdeal.τ).loc Cert.KAdamBIdeal.main_arg2)
          ∧ r.2.mem ((c.tc : Thread Cert.KAdamBIdeal.nD Cert.KAdamBIdeal.τ).loc Cert.KAdamBIdeal.main_arg3) = m ((c.tc : Thread Cert.KAdamBIdeal.nD Cert.KAdamBIdeal.τ).loc Cert.KAdamBIdeal.main_arg3)
          ∧ r.2.mem ((c.tc : Thread Cert.KAdamBIdeal.nD Cert.KAdamBIdeal.τ).loc Cert.KAdamBIdeal.main_arg4) = m ((c.tc : Thread Cert.KAdamBIdeal.nD Cert.KAdamBIdeal.τ).loc Cert.KAdamBIdeal.main_arg4)
          ∧ r.2.mem ((c.tc : Thread Cert.KAdamBIdeal.nD Cert.KAdamBIdeal.τ).loc Cert.KAdamBIdeal.main_arg5) = m ((c.tc : Thread Cert.KAdamBIdeal.nD Cert.KAdamBIdeal.τ).loc Cert.KAdamBIdeal.main_arg5)
          ∧ r.2.mem ((c.tc : Thread Cert.KAdamBIdeal.nD Cert.KAdamBIdeal.τ).loc Cert.KAdamBIdeal.main_arg6) = m ((c.tc : Thread Cert.KAdamBIdeal.nD Cert.KAdamBIdeal.τ).loc Cert.KAdamBIdeal.main_arg6)
          ∧ r.2.mem ((c.tc : Thread Cert.KAdamBIdeal.nD Cert.KAdamBIdeal.τ).loc Cert.KAdamBIdeal.main_arg7) = m ((c.tc : Thread Cert.KAdamBIdeal.nD Cert.KAdamBIdeal.τ).loc Cert.KAdamBIdeal.main_arg7))
      ∧ θ_run (Cert.RAdamBIdeal.defs (F := Ideal)) (onTc (τ := Cert.RAdamBIdeal.τ) (Cert.RAdamBIdeal.main (F := Ideal))) ⟨m', fun _ => 0, g'⟩ (fun r => ∀ c : Dev Cert.RAdamBIdeal.nD,
          r.2.mem ((c.tc : Thread Cert.RAdamBIdeal.nD Cert.RAdamBIdeal.τ).loc Cert.RAdamBIdeal.main_v19) = v0 c
          ∧ r.2.mem ((c.tc : Thread Cert.RAdamBIdeal.nD Cert.RAdamBIdeal.τ).loc Cert.RAdamBIdeal.main_v46) = v1 c
          ∧ r.2.mem ((c.tc : Thread Cert.RAdamBIdeal.nD Cert.RAdamBIdeal.τ).loc Cert.RAdamBIdeal.main_v27) = v2 c
          ∧ r.2.mem ((c.tc : Thread Cert.RAdamBIdeal.nD Cert.RAdamBIdeal.τ).loc Cert.RAdamBIdeal.main_v33) = v3 c
          ∧ r.2.mem ((c.tc : Thread Cert.RAdamBIdeal.nD Cert.RAdamBIdeal.τ).loc Cert.RAdamBIdeal.main_arg0) = m' ((c.tc : Thread Cert.RAdamBIdeal.nD Cert.RAdamBIdeal.τ).loc Cert.RAdamBIdeal.main_arg0)
          ∧ r.2.mem ((c.tc : Thread Cert.RAdamBIdeal.nD Cert.RAdamBIdeal.τ).loc Cert.RAdamBIdeal.main_arg1) = m' ((c.tc : Thread Cert.RAdamBIdeal.nD Cert.RAdamBIdeal.τ).loc Cert.RAdamBIdeal.main_arg1)
          ∧ r.2.mem ((c.tc : Thread Cert.RAdamBIdeal.nD Cert.RAdamBIdeal.τ).loc Cert.RAdamBIdeal.main_arg2) = m' ((c.tc : Thread Cert.RAdamBIdeal.nD Cert.RAdamBIdeal.τ).loc Cert.RAdamBIdeal.main_arg2)
          ∧ r.2.mem ((c.tc : Thread Cert.RAdamBIdeal.nD Cert.RAdamBIdeal.τ).loc Cert.RAdamBIdeal.main_arg3) = m' ((c.tc : Thread Cert.RAdamBIdeal.nD Cert.RAdamBIdeal.τ).loc Cert.RAdamBIdeal.main_arg3)
          ∧ r.2.mem ((c.tc : Thread Cert.RAdamBIdeal.nD Cert.RAdamBIdeal.τ).loc Cert.RAdamBIdeal.main_arg4) = m' ((c.tc : Thread Cert.RAdamBIdeal.nD Cert.RAdamBIdeal.τ).loc Cert.RAdamBIdeal.main_arg4)
          ∧ r.2.mem ((c.tc : Thread Cert.RAdamBIdeal.nD Cert.RAdamBIdeal.τ).loc Cert.RAdamBIdeal.main_arg5) = m' ((c.tc : Thread Cert.RAdamBIdeal.nD Cert.RAdamBIdeal.τ).loc Cert.RAdamBIdeal.main_arg5)
          ∧ r.2.mem ((c.tc : Thread Cert.RAdamBIdeal.nD Cert.RAdamBIdeal.τ).loc Cert.RAdamBIdeal.main_arg6) = m' ((c.tc : Thread Cert.RAdamBIdeal.nD Cert.RAdamBIdeal.τ).loc Cert.RAdamBIdeal.main_arg6)
          ∧ r.2.mem ((c.tc : Thread Cert.RAdamBIdeal.nD Cert.RAdamBIdeal.τ).loc Cert.RAdamBIdeal.main_arg7) = m' ((c.tc : Thread Cert.RAdamBIdeal.nD Cert.RAdamBIdeal.τ).loc Cert.RAdamBIdeal.main_arg7))

def preserves_KAddSib_KAddSibIdeal : Prop :=
  True

def algebraic_KAddSibIdeal_RAddSibIdeal [hKAddSibIdeal : Cert.KAddSibIdeal.Facts] [hRAddSibIdeal : Cert.RAddSibIdeal.Facts] [hPre_on_mesh : Cert.Pre_on_mesh.Facts] : Prop :=
  ∀ (m : (ℓ : Loc Cert.KAddSibIdeal.nD Cert.KAddSibIdeal.τ Cert.KAddSibIdeal.sig) → Buf (Elt Ideal) ℓ) (g : Dev Cert.KAddSibIdeal.nD → PrngReg)
    (m' : (ℓ : Loc Cert.RAddSibIdeal.nD Cert.RAddSibIdeal.τ Cert.RAddSibIdeal.sig) → Buf (Elt Ideal) ℓ) (g' : Dev Cert.RAddSibIdeal.nD → PrngReg), Pre_KAddSibIdeal m →
    (∀ c : Dev Cert.KAddSibIdeal.nD,
      m' ((c.tc : Thread Cert.RAddSibIdeal.nD Cert.RAddSibIdeal.τ).loc Cert.RAddSibIdeal.main_arg0) = m ((c.tc : Thread Cert.KAddSibIdeal.nD Cert.KAddSibIdeal.τ).loc Cert.KAddSibIdeal.main_arg0)
      ∧ m' ((c.tc : Thread Cert.RAddSibIdeal.nD Cert.RAddSibIdeal.τ).loc Cert.RAddSibIdeal.main_arg1) = m ((c.tc : Thread Cert.KAddSibIdeal.nD Cert.KAddSibIdeal.τ).loc Cert.KAddSibIdeal.main_arg1)
      ∧ m' ((c.tc : Thread Cert.RAddSibIdeal.nD Cert.RAddSibIdeal.τ).loc Cert.RAddSibIdeal.main_arg2) = m ((c.tc : Thread Cert.KAddSibIdeal.nD Cert.KAddSibIdeal.τ).loc Cert.KAddSibIdeal.main_arg2)
      ∧ m' ((c.tc : Thread Cert.RAddSibIdeal.nD Cert.RAddSibIdeal.τ).loc Cert.RAddSibIdeal.main_arg3) = m ((c.tc : Thread Cert.KAddSibIdeal.nD Cert.KAddSibIdeal.τ).loc Cert.KAddSibIdeal.main_arg3)
      ∧ m' ((c.tc : Thread Cert.RAddSibIdeal.nD Cert.RAddSibIdeal.τ).loc Cert.RAddSibIdeal.main_arg4) = m ((c.tc : Thread Cert.KAddSibIdeal.nD Cert.KAddSibIdeal.τ).loc Cert.KAddSibIdeal.main_arg4)) →
    ∃ (v0 : (c : Dev Cert.KAddSibIdeal.nD) → Buf (Elt Ideal) ((c.tc : Thread Cert.KAddSibIdeal.nD Cert.KAddSibIdeal.τ).loc Cert.KAddSibIdeal.main_v0)),
      θ_run (Cert.KAddSibIdeal.defs (F := Ideal)) (onTc (τ := Cert.KAddSibIdeal.τ) (Cert.KAddSibIdeal.main (F := Ideal))) ⟨m, fun _ => 0, g⟩ (fun r => ∀ c : Dev Cert.KAddSibIdeal.nD,
          r.2.mem ((c.tc : Thread Cert.KAddSibIdeal.nD Cert.KAddSibIdeal.τ).loc Cert.KAddSibIdeal.main_v0) = v0 c
          ∧ r.2.mem ((c.tc : Thread Cert.KAddSibIdeal.nD Cert.KAddSibIdeal.τ).loc Cert.KAddSibIdeal.main_arg0) = m ((c.tc : Thread Cert.KAddSibIdeal.nD Cert.KAddSibIdeal.τ).loc Cert.KAddSibIdeal.main_arg0)
          ∧ r.2.mem ((c.tc : Thread Cert.KAddSibIdeal.nD Cert.KAddSibIdeal.τ).loc Cert.KAddSibIdeal.main_arg1) = m ((c.tc : Thread Cert.KAddSibIdeal.nD Cert.KAddSibIdeal.τ).loc Cert.KAddSibIdeal.main_arg1)
          ∧ r.2.mem ((c.tc : Thread Cert.KAddSibIdeal.nD Cert.KAddSibIdeal.τ).loc Cert.KAddSibIdeal.main_arg2) = m ((c.tc : Thread Cert.KAddSibIdeal.nD Cert.KAddSibIdeal.τ).loc Cert.KAddSibIdeal.main_arg2)
          ∧ r.2.mem ((c.tc : Thread Cert.KAddSibIdeal.nD Cert.KAddSibIdeal.τ).loc Cert.KAddSibIdeal.main_arg3) = m ((c.tc : Thread Cert.KAddSibIdeal.nD Cert.KAddSibIdeal.τ).loc Cert.KAddSibIdeal.main_arg3)
          ∧ r.2.mem ((c.tc : Thread Cert.KAddSibIdeal.nD Cert.KAddSibIdeal.τ).loc Cert.KAddSibIdeal.main_arg4) = m ((c.tc : Thread Cert.KAddSibIdeal.nD Cert.KAddSibIdeal.τ).loc Cert.KAddSibIdeal.main_arg4))
      ∧ θ_run (Cert.RAddSibIdeal.defs (F := Ideal)) (onTc (τ := Cert.RAddSibIdeal.τ) (Cert.RAddSibIdeal.main (F := Ideal))) ⟨m', fun _ => 0, g'⟩ (fun r => ∀ c : Dev Cert.RAddSibIdeal.nD,
          r.2.mem ((c.tc : Thread Cert.RAddSibIdeal.nD Cert.RAddSibIdeal.τ).loc Cert.RAddSibIdeal.main_v45) = v0 c
          ∧ r.2.mem ((c.tc : Thread Cert.RAddSibIdeal.nD Cert.RAddSibIdeal.τ).loc Cert.RAddSibIdeal.main_arg0) = m' ((c.tc : Thread Cert.RAddSibIdeal.nD Cert.RAddSibIdeal.τ).loc Cert.RAddSibIdeal.main_arg0)
          ∧ r.2.mem ((c.tc : Thread Cert.RAddSibIdeal.nD Cert.RAddSibIdeal.τ).loc Cert.RAddSibIdeal.main_arg1) = m' ((c.tc : Thread Cert.RAddSibIdeal.nD Cert.RAddSibIdeal.τ).loc Cert.RAddSibIdeal.main_arg1)
          ∧ r.2.mem ((c.tc : Thread Cert.RAddSibIdeal.nD Cert.RAddSibIdeal.τ).loc Cert.RAddSibIdeal.main_arg2) = m' ((c.tc : Thread Cert.RAddSibIdeal.nD Cert.RAddSibIdeal.τ).loc Cert.RAddSibIdeal.main_arg2)
          ∧ r.2.mem ((c.tc : Thread Cert.RAddSibIdeal.nD Cert.RAddSibIdeal.τ).loc Cert.RAddSibIdeal.main_arg3) = m' ((c.tc : Thread Cert.RAddSibIdeal.nD Cert.RAddSibIdeal.τ).loc Cert.RAddSibIdeal.main_arg3)
          ∧ r.2.mem ((c.tc : Thread Cert.RAddSibIdeal.nD Cert.RAddSibIdeal.τ).loc Cert.RAddSibIdeal.main_arg4) = m' ((c.tc : Thread Cert.RAddSibIdeal.nD Cert.RAddSibIdeal.τ).loc Cert.RAddSibIdeal.main_arg4))

def Claim : Prop :=
  ∃ (hKScale : Cert.KScale.Facts) (hKScaleIdeal : Cert.KScaleIdeal.Facts) (hRScaleIdeal : Cert.RScaleIdeal.Facts) (hKConv : Cert.KConv.Facts) (hKConvIdeal : Cert.KConvIdeal.Facts) (hRConvIdeal : Cert.RConvIdeal.Facts) (hKLn : Cert.KLn.Facts) (hKLnIdeal : Cert.KLnIdeal.Facts) (hRLnIdeal : Cert.RLnIdeal.Facts) (hKDgu : Cert.KDgu.Facts) (hKDguIdeal : Cert.KDguIdeal.Facts) (hRDguIdeal : Cert.RDguIdeal.Facts) (hKPool : Cert.KPool.Facts) (hKPoolIdeal : Cert.KPoolIdeal.Facts) (hRPoolIdeal : Cert.RPoolIdeal.Facts) (hKLoss : Cert.KLoss.Facts) (hKLossIdeal : Cert.KLossIdeal.Facts) (hRLossIdeal : Cert.RLossIdeal.Facts) (hKLnF : Cert.KLnF.Facts) (hKLnFIdeal : Cert.KLnFIdeal.Facts) (hRLnFIdeal : Cert.RLnFIdeal.Facts) (hKGuF : Cert.KGuF.Facts) (hKGuFIdeal : Cert.KGuFIdeal.Facts) (hRGuFIdeal : Cert.RGuFIdeal.Facts) (hKConvF : Cert.KConvF.Facts) (hKConvFIdeal : Cert.KConvFIdeal.Facts) (hRConvFIdeal : Cert.RConvFIdeal.Facts) (hKPoolF : Cert.KPoolF.Facts) (hKPoolFIdeal : Cert.KPoolFIdeal.Facts) (hRPoolFIdeal : Cert.RPoolFIdeal.Facts) (hKMixF : Cert.KMixF.Facts) (hKMixFIdeal : Cert.KMixFIdeal.Facts) (hRMixFIdeal : Cert.RMixFIdeal.Facts) (hKPoolIn : Cert.KPoolIn.Facts) (hKPoolInIdeal : Cert.KPoolInIdeal.Facts) (hRPoolInIdeal : Cert.RPoolInIdeal.Facts) (hKOutY : Cert.KOutY.Facts) (hKOutYIdeal : Cert.KOutYIdeal.Facts) (hROutYIdeal : Cert.ROutYIdeal.Facts) (hKPoolW : Cert.KPoolW.Facts) (hKPoolWIdeal : Cert.KPoolWIdeal.Facts) (hRPoolWIdeal : Cert.RPoolWIdeal.Facts) (hKProjIn : Cert.KProjIn.Facts) (hKProjInIdeal : Cert.KProjInIdeal.Facts) (hRProjInIdeal : Cert.RProjInIdeal.Facts) (hKProjOut : Cert.KProjOut.Facts) (hKProjOutIdeal : Cert.KProjOutIdeal.Facts) (hRProjOutIdeal : Cert.RProjOutIdeal.Facts) (hKOutW : Cert.KOutW.Facts) (hKOutWIdeal : Cert.KOutWIdeal.Facts) (hROutWIdeal : Cert.ROutWIdeal.Facts) (hKInW : Cert.KInW.Facts) (hKInWIdeal : Cert.KInWIdeal.Facts) (hRInWIdeal : Cert.RInWIdeal.Facts) (hKInH : Cert.KInH.Facts) (hKInHIdeal : Cert.KInHIdeal.Facts) (hRInHIdeal : Cert.RInHIdeal.Facts) (hKDown : Cert.KDown.Facts) (hKDownIdeal : Cert.KDownIdeal.Facts) (hRDownIdeal : Cert.RDownIdeal.Facts) (hKBwdWd : Cert.KBwdWd.Facts) (hKBwdWdIdeal : Cert.KBwdWdIdeal.Facts) (hRBwdWdIdeal : Cert.RBwdWdIdeal.Facts) (hKBwdWgu : Cert.KBwdWgu.Facts) (hKBwdWguIdeal : Cert.KBwdWguIdeal.Facts) (hRBwdWguIdeal : Cert.RBwdWguIdeal.Facts) (hKBwdDh : Cert.KBwdDh.Facts) (hKBwdDhIdeal : Cert.KBwdDhIdeal.Facts) (hRBwdDhIdeal : Cert.RBwdDhIdeal.Facts) (hKSumParts : Cert.KSumParts.Facts) (hKSumPartsIdeal : Cert.KSumPartsIdeal.Facts) (hRSumPartsIdeal : Cert.RSumPartsIdeal.Facts) (hKAdamB : Cert.KAdamB.Facts) (hKAdamBIdeal : Cert.KAdamBIdeal.Facts) (hRAdamBIdeal : Cert.RAdamBIdeal.Facts) (hKAddSib : Cert.KAddSib.Facts) (hKAddSibIdeal : Cert.KAddSibIdeal.Facts) (hRAddSibIdeal : Cert.RAddSibIdeal.Facts) (hPre_finite_ln : Cert.Pre_finite_ln.Facts) (hPre_finite_dgu : Cert.Pre_finite_dgu.Facts) (hPre_finite_pool : Cert.Pre_finite_pool.Facts) (hPre_finite_loss : Cert.Pre_finite_loss.Facts) (hPre_finite_poolf : Cert.Pre_finite_poolf.Facts) (hPre_placed : Cert.Pre_placed.Facts) (hPre_on_mesh : Cert.Pre_on_mesh.Facts),
    quiescent_KScale (hKScale := hKScale)
    ∧ quiescent_KScaleIdeal (hKScaleIdeal := hKScaleIdeal)
    ∧ quiescent_RScaleIdeal (hRScaleIdeal := hRScaleIdeal)
    ∧ quiescent_KConv (hKConv := hKConv)
    ∧ quiescent_KConvIdeal (hKConvIdeal := hKConvIdeal)
    ∧ quiescent_RConvIdeal (hRConvIdeal := hRConvIdeal)
    ∧ quiescent_KLn (hKLn := hKLn)
    ∧ quiescent_KLnIdeal (hKLnIdeal := hKLnIdeal)
    ∧ quiescent_KLnIdeal_pre_finite_ln (hKLnIdeal := hKLnIdeal) (hPre_finite_ln := hPre_finite_ln)
    ∧ quiescent_RLnIdeal (hRLnIdeal := hRLnIdeal)
    ∧ quiescent_RLnIdeal_pre_finite_ln (hRLnIdeal := hRLnIdeal) (hPre_finite_ln := hPre_finite_ln)
    ∧ quiescent_KDgu (hKDgu := hKDgu)
    ∧ quiescent_KDguIdeal (hKDguIdeal := hKDguIdeal)
    ∧ quiescent_KDguIdeal_pre_finite_dgu (hKDguIdeal := hKDguIdeal) (hPre_finite_dgu := hPre_finite_dgu)
    ∧ quiescent_RDguIdeal (hRDguIdeal := hRDguIdeal)
    ∧ quiescent_RDguIdeal_pre_finite_dgu (hRDguIdeal := hRDguIdeal) (hPre_finite_dgu := hPre_finite_dgu)
    ∧ quiescent_KPool (hKPool := hKPool)
    ∧ quiescent_KPoolIdeal (hKPoolIdeal := hKPoolIdeal)
    ∧ quiescent_KPoolIdeal_pre_finite_pool (hKPoolIdeal := hKPoolIdeal) (hPre_finite_pool := hPre_finite_pool)
    ∧ quiescent_RPoolIdeal (hRPoolIdeal := hRPoolIdeal)
    ∧ quiescent_RPoolIdeal_pre_finite_pool (hRPoolIdeal := hRPoolIdeal) (hPre_finite_pool := hPre_finite_pool)
    ∧ quiescent_KLoss (hKLoss := hKLoss)
    ∧ quiescent_KLossIdeal (hKLossIdeal := hKLossIdeal)
    ∧ quiescent_KLossIdeal_pre_finite_loss (hKLossIdeal := hKLossIdeal) (hPre_finite_loss := hPre_finite_loss)
    ∧ quiescent_RLossIdeal (hRLossIdeal := hRLossIdeal)
    ∧ quiescent_RLossIdeal_pre_finite_loss (hRLossIdeal := hRLossIdeal) (hPre_finite_loss := hPre_finite_loss)
    ∧ quiescent_KLnF (hKLnF := hKLnF)
    ∧ quiescent_KLnFIdeal (hKLnFIdeal := hKLnFIdeal)
    ∧ quiescent_RLnFIdeal (hRLnFIdeal := hRLnFIdeal)
    ∧ quiescent_KGuF (hKGuF := hKGuF)
    ∧ quiescent_KGuFIdeal (hKGuFIdeal := hKGuFIdeal)
    ∧ quiescent_RGuFIdeal (hRGuFIdeal := hRGuFIdeal)
    ∧ quiescent_KConvF (hKConvF := hKConvF)
    ∧ quiescent_KConvFIdeal (hKConvFIdeal := hKConvFIdeal)
    ∧ quiescent_RConvFIdeal (hRConvFIdeal := hRConvFIdeal)
    ∧ quiescent_KPoolF (hKPoolF := hKPoolF)
    ∧ quiescent_KPoolFIdeal (hKPoolFIdeal := hKPoolFIdeal)
    ∧ quiescent_KPoolFIdeal_pre_finite_poolf (hKPoolFIdeal := hKPoolFIdeal) (hPre_finite_poolf := hPre_finite_poolf)
    ∧ quiescent_RPoolFIdeal (hRPoolFIdeal := hRPoolFIdeal)
    ∧ quiescent_RPoolFIdeal_pre_finite_poolf (hRPoolFIdeal := hRPoolFIdeal) (hPre_finite_poolf := hPre_finite_poolf)
    ∧ quiescent_KMixF (hKMixF := hKMixF)
    ∧ quiescent_KMixFIdeal (hKMixFIdeal := hKMixFIdeal)
    ∧ quiescent_RMixFIdeal (hRMixFIdeal := hRMixFIdeal)
    ∧ quiescent_KPoolIn (hKPoolIn := hKPoolIn)
    ∧ quiescent_KPoolInIdeal (hKPoolInIdeal := hKPoolInIdeal)
    ∧ quiescent_RPoolInIdeal (hRPoolInIdeal := hRPoolInIdeal)
    ∧ quiescent_KOutY (hKOutY := hKOutY)
    ∧ quiescent_KOutYIdeal (hKOutYIdeal := hKOutYIdeal)
    ∧ quiescent_ROutYIdeal (hROutYIdeal := hROutYIdeal)
    ∧ quiescent_KPoolW (hKPoolW := hKPoolW)
    ∧ quiescent_KPoolWIdeal (hKPoolWIdeal := hKPoolWIdeal)
    ∧ quiescent_RPoolWIdeal (hRPoolWIdeal := hRPoolWIdeal)
    ∧ quiescent_KProjIn (hKProjIn := hKProjIn)
    ∧ quiescent_KProjInIdeal (hKProjInIdeal := hKProjInIdeal)
    ∧ quiescent_RProjInIdeal (hRProjInIdeal := hRProjInIdeal)
    ∧ quiescent_KProjOut (hKProjOut := hKProjOut)
    ∧ quiescent_KProjOutIdeal (hKProjOutIdeal := hKProjOutIdeal)
    ∧ quiescent_RProjOutIdeal (hRProjOutIdeal := hRProjOutIdeal)
    ∧ quiescent_KOutW (hKOutW := hKOutW)
    ∧ quiescent_KOutWIdeal (hKOutWIdeal := hKOutWIdeal)
    ∧ quiescent_ROutWIdeal (hROutWIdeal := hROutWIdeal)
    ∧ quiescent_KInW (hKInW := hKInW)
    ∧ quiescent_KInWIdeal (hKInWIdeal := hKInWIdeal)
    ∧ quiescent_RInWIdeal (hRInWIdeal := hRInWIdeal)
    ∧ quiescent_KInH (hKInH := hKInH)
    ∧ quiescent_KInHIdeal (hKInHIdeal := hKInHIdeal)
    ∧ quiescent_RInHIdeal (hRInHIdeal := hRInHIdeal)
    ∧ quiescent_KDown (hKDown := hKDown)
    ∧ quiescent_KDownIdeal (hKDownIdeal := hKDownIdeal)
    ∧ quiescent_RDownIdeal (hRDownIdeal := hRDownIdeal)
    ∧ quiescent_KBwdWd (hKBwdWd := hKBwdWd)
    ∧ quiescent_KBwdWdIdeal (hKBwdWdIdeal := hKBwdWdIdeal)
    ∧ quiescent_RBwdWdIdeal (hRBwdWdIdeal := hRBwdWdIdeal)
    ∧ quiescent_KBwdWgu (hKBwdWgu := hKBwdWgu)
    ∧ quiescent_KBwdWguIdeal (hKBwdWguIdeal := hKBwdWguIdeal)
    ∧ quiescent_RBwdWguIdeal (hRBwdWguIdeal := hRBwdWguIdeal)
    ∧ quiescent_KBwdDh (hKBwdDh := hKBwdDh)
    ∧ quiescent_KBwdDhIdeal (hKBwdDhIdeal := hKBwdDhIdeal)
    ∧ quiescent_RBwdDhIdeal (hRBwdDhIdeal := hRBwdDhIdeal)
    ∧ quiescent_KSumParts (hKSumParts := hKSumParts)
    ∧ quiescent_KSumPartsIdeal (hKSumPartsIdeal := hKSumPartsIdeal)
    ∧ quiescent_RSumPartsIdeal (hRSumPartsIdeal := hRSumPartsIdeal)
    ∧ quiescent_KAdamB (hKAdamB := hKAdamB) (hPre_placed := hPre_placed)
    ∧ quiescent_KAdamBIdeal (hKAdamBIdeal := hKAdamBIdeal) (hPre_placed := hPre_placed)
    ∧ quiescent_RAdamBIdeal (hRAdamBIdeal := hRAdamBIdeal)
    ∧ quiescent_RAdamBIdeal_pre_placed (hRAdamBIdeal := hRAdamBIdeal) (hPre_placed := hPre_placed)
    ∧ quiescent_KAddSib (hKAddSib := hKAddSib) (hPre_on_mesh := hPre_on_mesh)
    ∧ quiescent_KAddSibIdeal (hKAddSibIdeal := hKAddSibIdeal) (hPre_on_mesh := hPre_on_mesh)
    ∧ quiescent_RAddSibIdeal (hRAddSibIdeal := hRAddSibIdeal)
    ∧ quiescent_RAddSibIdeal_pre_on_mesh (hRAddSibIdeal := hRAddSibIdeal) (hPre_on_mesh := hPre_on_mesh)
    ∧ preserves_KScale_KScaleIdeal
    ∧ algebraic_KScaleIdeal_RScaleIdeal (hKScaleIdeal := hKScaleIdeal) (hRScaleIdeal := hRScaleIdeal)
    ∧ preserves_KConv_KConvIdeal
    ∧ algebraic_KConvIdeal_RConvIdeal (hKConvIdeal := hKConvIdeal) (hRConvIdeal := hRConvIdeal)
    ∧ preserves_KLn_KLnIdeal
    ∧ algebraic_KLnIdeal_RLnIdeal_pre_finite_ln (hKLnIdeal := hKLnIdeal) (hRLnIdeal := hRLnIdeal) (hPre_finite_ln := hPre_finite_ln)
    ∧ preserves_KDgu_KDguIdeal
    ∧ algebraic_KDguIdeal_RDguIdeal_pre_finite_dgu (hKDguIdeal := hKDguIdeal) (hRDguIdeal := hRDguIdeal) (hPre_finite_dgu := hPre_finite_dgu)
    ∧ preserves_KPool_KPoolIdeal
    ∧ algebraic_KPoolIdeal_RPoolIdeal_pre_finite_pool (hKPoolIdeal := hKPoolIdeal) (hRPoolIdeal := hRPoolIdeal) (hPre_finite_pool := hPre_finite_pool)
    ∧ preserves_KLoss_KLossIdeal
    ∧ algebraic_KLossIdeal_RLossIdeal_pre_finite_loss (hKLossIdeal := hKLossIdeal) (hRLossIdeal := hRLossIdeal) (hPre_finite_loss := hPre_finite_loss)
    ∧ preserves_KLnF_KLnFIdeal
    ∧ algebraic_KLnFIdeal_RLnFIdeal (hKLnFIdeal := hKLnFIdeal) (hRLnFIdeal := hRLnFIdeal)
    ∧ preserves_KGuF_KGuFIdeal
    ∧ algebraic_KGuFIdeal_RGuFIdeal (hKGuFIdeal := hKGuFIdeal) (hRGuFIdeal := hRGuFIdeal)
    ∧ preserves_KConvF_KConvFIdeal
    ∧ algebraic_KConvFIdeal_RConvFIdeal (hKConvFIdeal := hKConvFIdeal) (hRConvFIdeal := hRConvFIdeal)
    ∧ preserves_KPoolF_KPoolFIdeal
    ∧ algebraic_KPoolFIdeal_RPoolFIdeal_pre_finite_poolf (hKPoolFIdeal := hKPoolFIdeal) (hRPoolFIdeal := hRPoolFIdeal) (hPre_finite_poolf := hPre_finite_poolf)
    ∧ preserves_KMixF_KMixFIdeal
    ∧ algebraic_KMixFIdeal_RMixFIdeal (hKMixFIdeal := hKMixFIdeal) (hRMixFIdeal := hRMixFIdeal)
    ∧ preserves_KPoolIn_KPoolInIdeal
    ∧ algebraic_KPoolInIdeal_RPoolInIdeal (hKPoolInIdeal := hKPoolInIdeal) (hRPoolInIdeal := hRPoolInIdeal)
    ∧ preserves_KOutY_KOutYIdeal
    ∧ algebraic_KOutYIdeal_ROutYIdeal (hKOutYIdeal := hKOutYIdeal) (hROutYIdeal := hROutYIdeal)
    ∧ preserves_KPoolW_KPoolWIdeal
    ∧ algebraic_KPoolWIdeal_RPoolWIdeal (hKPoolWIdeal := hKPoolWIdeal) (hRPoolWIdeal := hRPoolWIdeal)
    ∧ preserves_KProjIn_KProjInIdeal
    ∧ algebraic_KProjInIdeal_RProjInIdeal (hKProjInIdeal := hKProjInIdeal) (hRProjInIdeal := hRProjInIdeal)
    ∧ preserves_KProjOut_KProjOutIdeal
    ∧ algebraic_KProjOutIdeal_RProjOutIdeal (hKProjOutIdeal := hKProjOutIdeal) (hRProjOutIdeal := hRProjOutIdeal)
    ∧ preserves_KOutW_KOutWIdeal
    ∧ algebraic_KOutWIdeal_ROutWIdeal (hKOutWIdeal := hKOutWIdeal) (hROutWIdeal := hROutWIdeal)
    ∧ preserves_KInW_KInWIdeal
    ∧ algebraic_KInWIdeal_RInWIdeal (hKInWIdeal := hKInWIdeal) (hRInWIdeal := hRInWIdeal)
    ∧ preserves_KInH_KInHIdeal
    ∧ algebraic_KInHIdeal_RInHIdeal (hKInHIdeal := hKInHIdeal) (hRInHIdeal := hRInHIdeal)
    ∧ preserves_KDown_KDownIdeal
    ∧ algebraic_KDownIdeal_RDownIdeal (hKDownIdeal := hKDownIdeal) (hRDownIdeal := hRDownIdeal)
    ∧ preserves_KBwdWd_KBwdWdIdeal
    ∧ algebraic_KBwdWdIdeal_RBwdWdIdeal (hKBwdWdIdeal := hKBwdWdIdeal) (hRBwdWdIdeal := hRBwdWdIdeal)
    ∧ preserves_KBwdWgu_KBwdWguIdeal
    ∧ algebraic_KBwdWguIdeal_RBwdWguIdeal (hKBwdWguIdeal := hKBwdWguIdeal) (hRBwdWguIdeal := hRBwdWguIdeal)
    ∧ preserves_KBwdDh_KBwdDhIdeal
    ∧ algebraic_KBwdDhIdeal_RBwdDhIdeal (hKBwdDhIdeal := hKBwdDhIdeal) (hRBwdDhIdeal := hRBwdDhIdeal)
    ∧ preserves_KSumParts_KSumPartsIdeal
    ∧ algebraic_KSumPartsIdeal_RSumPartsIdeal (hKSumPartsIdeal := hKSumPartsIdeal) (hRSumPartsIdeal := hRSumPartsIdeal)
    ∧ preserves_KAdamB_KAdamBIdeal
    ∧ algebraic_KAdamBIdeal_RAdamBIdeal (hKAdamBIdeal := hKAdamBIdeal) (hRAdamBIdeal := hRAdamBIdeal) (hPre_placed := hPre_placed)
    ∧ preserves_KAddSib_KAddSibIdeal
    ∧ algebraic_KAddSibIdeal_RAddSibIdeal (hKAddSibIdeal := hKAddSibIdeal) (hRAddSibIdeal := hRAddSibIdeal) (hPre_on_mesh := hPre_on_mesh)
-- ==== Pre_finite_dgu.lean ====
abbrev S2x2064x4096 : Shape := ⟨3, ![2, 2064, 4096]⟩
abbrev S96x4096 : Shape := ⟨2, ![96, 4096]⟩
abbrev S1x4096x22016 : Shape := ⟨3, ![1, 4096, 22016]⟩
abbrev S1x11008x4096 : Shape := ⟨3, ![1, 11008, 4096]⟩
abbrev S_ : Shape := ⟨0, ![]⟩

class Facts : Prop where
  bcast_S_S2x2064x4096 : S_.BroadcastsInDim S2x2064x4096 (![] : Fin 0 → Fin S2x2064x4096.rank)
  reducesTo_S2x2064x4096_S_d0_1_2 : S2x2064x4096.ReducesTo [0, 1, 2] S_
  h_S_ : 0 < S_.numel
  bcast_S_S1x4096x22016 : S_.BroadcastsInDim S1x4096x22016 (![] : Fin 0 → Fin S1x4096x22016.rank)
  reducesTo_S1x4096x22016_S_d0_1_2 : S1x4096x22016.ReducesTo [0, 1, 2] S_
  bcast_S_S1x11008x4096 : S_.BroadcastsInDim S1x11008x4096 (![] : Fin 0 → Fin S1x11008x4096.rank)
  reducesTo_S1x11008x4096_S_d0_1_2 : S1x11008x4096.ReducesTo [0, 1, 2] S_

variable [Facts]

def fn_part1 {F : FTy → Type} [FloatOps F] (main_v13 : IVec S_ 1) (main_v16 : IVec S2x2064x4096 1) : IVec S_ 1 :=
  let main_c_5 : IVec S_ 1 := constantI S_ 1 1#1
  let main_v17 : IVec S_ 1 := (fun x v => Host.reduce IntOp.andi x v reducesTo_S2x2064x4096_S_d0_1_2 h_S_) main_v16 main_c_5
  let main_v18 : IVec S_ 1 := andi main_v13 main_v17
  main_v18

def fn {F : FTy → Type} [FloatOps F] (main_arg0 : FVec F S2x2064x4096 .f32) (main_arg1 : FVec F S96x4096 .f32) (main_arg2 : FVec F S1x4096x22016 .f32) (main_arg3 : FVec F S1x11008x4096 .f32) (main_arg4 : FVec F S2x2064x4096 .f32) : IVec S_ 1 :=
  let main_v0 : FVec F S2x2064x4096 .f32 := Host.absf main_arg0
  let main_cst : FVec F S_ .f32 := constant S_ .f32 0x7F800000#32
  let main_v1 : FVec F S2x2064x4096 .f32 := broadcastInDim S2x2064x4096 ![] bcast_S_S2x2064x4096 main_cst
  let main_v2 : IVec S2x2064x4096 1 := cmpf .olt main_v0 main_v1
  let main_c : IVec S_ 1 := constantI S_ 1 1#1
  let main_v3 : IVec S_ 1 := (fun x v => Host.reduce IntOp.andi x v reducesTo_S2x2064x4096_S_d0_1_2 h_S_) main_v2 main_c
  let main_v4 : FVec F S1x4096x22016 .f32 := Host.absf main_arg2
  let main_cst_0 : FVec F S_ .f32 := constant S_ .f32 0x7F800000#32
  let main_v5 : FVec F S1x4096x22016 .f32 := broadcastInDim S1x4096x22016 ![] bcast_S_S1x4096x22016 main_cst_0
  let main_v6 : IVec S1x4096x22016 1 := cmpf .olt main_v4 main_v5
  let main_c_1 : IVec S_ 1 := constantI S_ 1 1#1
  let main_v7 : IVec S_ 1 := (fun x v => Host.reduce IntOp.andi x v reducesTo_S1x4096x22016_S_d0_1_2 h_S_) main_v6 main_c_1
  let main_v8 : IVec S_ 1 := andi main_v3 main_v7
  let main_v9 : FVec F S1x11008x4096 .f32 := Host.absf main_arg3
  let main_cst_2 : FVec F S_ .f32 := constant S_ .f32 0x7F800000#32
  let main_v10 : FVec F S1x11008x4096 .f32 := broadcastInDim S1x11008x4096 ![] bcast_S_S1x11008x4096 main_cst_2
  let main_v11 : IVec S1x11008x4096 1 := cmpf .olt main_v9 main_v10
  let main_c_3 : IVec S_ 1 := constantI S_ 1 1#1
  let main_v12 : IVec S_ 1 := (fun x v => Host.reduce IntOp.andi x v reducesTo_S1x11008x4096_S_d0_1_2 h_S_) main_v11 main_c_3
  let main_v13 : IVec S_ 1 := andi main_v8 main_v12
  let main_v14 : FVec F S2x2064x4096 .f32 := Host.absf main_arg4
  let main_cst_4 : FVec F S_ .f32 := constant S_ .f32 0x7F800000#32
  let main_v15 : FVec F S2x2064x4096 .f32 := broadcastInDim S2x2064x4096 ![] bcast_S_S2x2064x4096 main_cst_4
  let main_v16 : IVec S2x2064x4096 1 := cmpf .olt main_v14 main_v15
  fn_part1 (F := F) main_v13 main_v16
-- ==== Pre_finite_ln.lean ====
abbrev S2x2064x4096 : Shape := ⟨3, ![2, 2064, 4096]⟩
abbrev S96x4096 : Shape := ⟨2, ![96, 4096]⟩
abbrev S1x4096 : Shape := ⟨2, ![1, 4096]⟩
abbrev S_ : Shape := ⟨0, ![]⟩

class Facts : Prop where
  bcast_S_S2x2064x4096 : S_.BroadcastsInDim S2x2064x4096 (![] : Fin 0 → Fin S2x2064x4096.rank)
  reducesTo_S2x2064x4096_S_d0_1_2 : S2x2064x4096.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S2x2064x4096 .f32) (main_arg1 : FVec F S96x4096 .f32) (main_arg2 : FVec F S1x4096 .f32) (main_arg3 : FVec F S1x4096 .f32) (main_arg4 : FVec F S2x2064x4096 .f32) : IVec S_ 1 :=
  let main_v0 : FVec F S2x2064x4096 .f32 := Host.absf main_arg0
  let main_cst : FVec F S_ .f32 := constant S_ .f32 0x7F800000#32
  let main_v1 : FVec F S2x2064x4096 .f32 := broadcastInDim S2x2064x4096 ![] bcast_S_S2x2064x4096 main_cst
  let main_v2 : IVec S2x2064x4096 1 := cmpf .olt main_v0 main_v1
  let main_c : IVec S_ 1 := constantI S_ 1 1#1
  let main_v3 : IVec S_ 1 := (fun x v => Host.reduce IntOp.andi x v reducesTo_S2x2064x4096_S_d0_1_2 h_S_) main_v2 main_c
  let main_v4 : FVec F S1x4096 .f32 := Host.absf main_arg2
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S2x2064x4096 .f32 := Host.absf main_arg4
  let main_cst_2 : FVec F S_ .f32 := constant S_ .f32 0x7F800000#32
  let main_v10 : FVec F S2x2064x4096 .f32 := broadcastInDim S2x2064x4096 ![] bcast_S_S2x2064x4096 main_cst_2
  let main_v11 : IVec S2x2064x4096 1 := cmpf .olt main_v9 main_v10
  let main_c_3 : IVec S_ 1 := constantI S_ 1 1#1
  let main_v12 : IVec S_ 1 := (fun x v => Host.reduce IntOp.andi x v reducesTo_S2x2064x4096_S_d0_1_2 h_S_) main_v11 main_c_3
  let main_v13 : IVec S_ 1 := andi main_v8 main_v12
  main_v13
-- ==== Pre_finite_loss.lean ====
abbrev S2x2064x4096 : Shape := ⟨3, ![2, 2064, 4096]⟩
abbrev S96x4096 : Shape := ⟨2, ![96, 4096]⟩
abbrev S1x4096 : Shape := ⟨2, ![1, 4096]⟩
abbrev S2x2048x4096 : Shape := ⟨3, ![2, 2048, 4096]⟩
abbrev S_ : Shape := ⟨0, ![]⟩

class Facts : Prop where
  bcast_S_S2x2064x4096 : S_.BroadcastsInDim S2x2064x4096 (![] : Fin 0 → Fin S2x2064x4096.rank)
  reducesTo_S2x2064x4096_S_d0_1_2 : S2x2064x4096.ReducesTo [0, 1, 2] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S2x2048x4096 : S_.BroadcastsInDim S2x2048x4096 (![] : Fin 0 → Fin S2x2048x4096.rank)
  reducesTo_S2x2048x4096_S_d0_1_2 : S2x2048x4096.ReducesTo [0, 1, 2] S_

variable [Facts]

def fn_part1 {F : FTy → Type} [FloatOps F] (main_v13 : IVec S_ 1) (main_v16 : IVec S2x2048x4096 1) : IVec S_ 1 :=
  let main_c_5 : IVec S_ 1 := constantI S_ 1 1#1
  let main_v17 : IVec S_ 1 := (fun x v => Host.reduce IntOp.andi x v reducesTo_S2x2048x4096_S_d0_1_2 h_S_) main_v16 main_c_5
  let main_v18 : IVec S_ 1 := andi main_v13 main_v17
  main_v18

def fn {F : FTy → Type} [FloatOps F] (main_arg0 : FVec F S2x2064x4096 .f32) (main_arg1 : FVec F S96x4096 .f32) (main_arg2 : FVec F S1x4096 .f32) (main_arg3 : FVec F S1x4096 .f32) (main_arg4 : FVec F S2x2048x4096 .f32) : IVec S_ 1 :=
  let main_v0 : FVec F S2x2064x4096 .f32 := Host.absf main_arg0
  let main_cst : FVec F S_ .f32 := constant S_ .f32 0x7F800000#32
  let main_v1 : FVec F S2x2064x4096 .f32 := broadcastInDim S2x2064x4096 ![] bcast_S_S2x2064x4096 main_cst
  let main_v2 : IVec S2x2064x4096 1 := cmpf .olt main_v0 main_v1
  let main_c : IVec S_ 1 := constantI S_ 1 1#1
  let main_v3 : IVec S_ 1 := (fun x v => Host.reduce IntOp.andi x v reducesTo_S2x2064x4096_S_d0_1_2 h_S_) main_v2 main_c
  let main_v4 : FVec F S1x4096 .f32 := Host.absf main_arg2
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S2x2048x4096 .f32 := Host.absf main_arg4
  let main_cst_4 : FVec F S_ .f32 := constant S_ .f32 0x7F800000#32
  let main_v15 : FVec F S2x2048x4096 .f32 := broadcastInDim S2x2048x4096 ![] bcast_S_S2x2048x4096 main_cst_4
  let main_v16 : IVec S2x2048x4096 1 := cmpf .olt main_v14 main_v15
  fn_part1 (F := F) main_v13 main_v16
-- ==== Pre_finite_pool.lean ====
abbrev S2x2064x2048 : Shape := ⟨3, ![2, 2064, 2048]⟩
abbrev S_ : Shape := ⟨0, ![]⟩

class Facts : Prop where
  bcast_S_S2x2064x2048 : S_.BroadcastsInDim S2x2064x2048 (![] : Fin 0 → Fin S2x2064x2048.rank)
  reducesTo_S2x2064x2048_S_d0_1_2 : S2x2064x2048.ReducesTo [0, 1, 2] S_
  h_S_ : 0 < S_.numel

variable [Facts]

def fn {F : FTy → Type} [FloatOps F] (main_arg0 : FVec F S2x2064x2048 .f32) (main_arg1 : FVec F S2x2064x2048 .f32) : IVec S_ 1 :=
  let main_v0 : FVec F S2x2064x2048 .f32 := Host.absf main_arg1
  let main_cst : FVec F S_ .f32 := constant S_ .f32 0x7F800000#32
  let main_v1 : FVec F S2x2064x2048 .f32 := broadcastInDim S2x2064x2048 ![] bcast_S_S2x2064x2048 main_cst
  let main_v2 : IVec S2x2064x2048 1 := cmpf .olt main_v0 main_v1
  let main_c : IVec S_ 1 := constantI S_ 1 1#1
  let main_v3 : IVec S_ 1 := (fun x v => Host.reduce IntOp.andi x v reducesTo_S2x2064x2048_S_d0_1_2 h_S_) main_v2 main_c
  main_v3
-- ==== Pre_finite_poolf.lean ====
abbrev S2x2064x8192 : Shape := ⟨3, ![2, 2064, 8192]⟩
abbrev S96x8192 : Shape := ⟨2, ![96, 8192]⟩
abbrev S_ : Shape := ⟨0, ![]⟩

class Facts : Prop where
  bcast_S_S2x2064x8192 : S_.BroadcastsInDim S2x2064x8192 (![] : Fin 0 → Fin S2x2064x8192.rank)
  reducesTo_S2x2064x8192_S_d0_1_2 : S2x2064x8192.ReducesTo [0, 1, 2] S_
  h_S_ : 0 < S_.numel

variable [Facts]

def fn {F : FTy → Type} [FloatOps F] (main_arg0 : FVec F S2x2064x8192 .f32) (main_arg1 : FVec F S96x8192 .f32) : IVec S_ 1 :=
  let main_v0 : FVec F S2x2064x8192 .f32 := Host.absf main_arg0
  let main_cst : FVec F S_ .f32 := constant S_ .f32 0x7F800000#32
  let main_v1 : FVec F S2x2064x8192 .f32 := broadcastInDim S2x2064x8192 ![] bcast_S_S2x2064x8192 main_cst
  let main_v2 : IVec S2x2064x8192 1 := cmpf .olt main_v0 main_v1
  let main_c : IVec S_ 1 := constantI S_ 1 1#1
  let main_v3 : IVec S_ 1 := (fun x v => Host.reduce IntOp.andi x v reducesTo_S2x2064x8192_S_d0_1_2 h_S_) main_v2 main_c
  main_v3
-- ==== Pre_on_mesh.lean ====
abbrev S8x4096x2752 : Shape := ⟨3, ![8, 4096, 2752]⟩
abbrev S4x4096x2752 : Shape := ⟨3, ![4, 4096, 2752]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S8x4096x2752 .bf16) (main_arg1 : FVec F S4x4096x2752 .bf16) (main_arg2 : IVec S1 32) (main_arg3 : IVec S1 32) (main_arg4 : IVec S1 32) : IVec S_ 1 :=
  let main_v0 : IVec S_ 32 := shapeCast S_ main_arg2 shapeCasts_S1_S_
  let main_c : IVec S_ 32 := constantI S_ 32 0#32
  let main_v1 : IVec S_ 1 := cmpi .sge main_v0 main_c
  let main_v2 : IVec S_ 32 := shapeCast S_ main_arg2 shapeCasts_S1_S_
  let main_c_0 : IVec S_ 32 := constantI S_ 32 2#32
  let main_v3 : IVec S_ 1 := cmpi .slt main_v2 main_c_0
  let main_v4 : IVec S_ 1 := andi main_v1 main_v3
  let main_v5 : IVec S_ 32 := shapeCast S_ main_arg3 shapeCasts_S1_S_
  let main_c_1 : IVec S_ 32 := constantI S_ 32 0#32
  let main_v6 : IVec S_ 1 := cmpi .sge main_v5 main_c_1
  let main_v7 : IVec S_ 32 := shapeCast S_ main_arg3 shapeCasts_S1_S_
  let main_c_2 : IVec S_ 32 := constantI S_ 32 2#32
  let main_v8 : IVec S_ 1 := cmpi .slt main_v7 main_c_2
  let main_v9 : IVec S_ 1 := andi main_v6 main_v8
  let main_v10 : IVec S_ 1 := andi main_v4 main_v9
  let main_v11 : IVec S_ 32 := shapeCast S_ main_arg4 shapeCasts_S1_S_
  let main_c_3 : IVec S_ 32 := constantI S_ 32 0#32
  let main_v12 : IVec S_ 1 := cmpi .sge main_v11 main_c_3
  let main_v13 : IVec S_ 32 := shapeCast S_ main_arg4 shapeCasts_S1_S_
  let main_c_4 : IVec S_ 32 := constantI S_ 32 2#32
  let main_v14 : IVec S_ 1 := cmpi .slt main_v13 main_c_4
  let main_v15 : IVec S_ 1 := andi main_v12 main_v14
  let main_v16 : IVec S_ 1 := andi main_v10 main_v15
  main_v16
-- ==== Pre_placed.lean ====
abbrev S8x4096x2752 : Shape := ⟨3, ![8, 4096, 2752]⟩
abbrev S4x4096x2752 : Shape := ⟨3, ![4, 4096, 2752]⟩
abbrev S3x4096x2752 : Shape := ⟨3, ![3, 4096, 2752]⟩
abbrev S1 : Shape := ⟨1, ![1]⟩
abbrev S1x4096x2752 : Shape := ⟨3, ![1, 4096, 2752]⟩
abbrev S_ : Shape := ⟨0, ![]⟩

class Facts : Prop where
  shapeCasts_S1_S_ : S1.ShapeCasts S_

variable [Facts]

def fn {F : FTy → Type} [FloatOps F] (main_arg0 : FVec F S8x4096x2752 .bf16) (main_arg1 : FVec F S4x4096x2752 .bf16) (main_arg2 : FVec F S3x4096x2752 .bf16) (main_arg3 : IVec S1 32) (main_arg4 : IVec S1 32) (main_arg5 : FVec F S1x4096x2752 .f32) (main_arg6 : FVec F S1x4096x2752 .f32) (main_arg7 : FVec F S1x4096x2752 .f32) : IVec S_ 1 :=
  let main_v0 : IVec S_ 32 := shapeCast S_ main_arg3 shapeCasts_S1_S_
  let main_c : IVec S_ 32 := constantI S_ 32 0#32
  let main_v1 : IVec S_ 1 := cmpi .sge main_v0 main_c
  let main_v2 : IVec S_ 32 := shapeCast S_ main_arg3 shapeCasts_S1_S_
  let main_c_0 : IVec S_ 32 := constantI S_ 32 8#32
  let main_v3 : IVec S_ 1 := cmpi .slt main_v2 main_c_0
  let main_v4 : IVec S_ 1 := andi main_v1 main_v3
  let main_v5 : IVec S_ 32 := shapeCast S_ main_arg4 shapeCasts_S1_S_
  let main_c_1 : IVec S_ 32 := constantI S_ 32 0#32
  let main_v6 : IVec S_ 1 := cmpi .sge main_v5 main_c_1
  let main_v7 : IVec S_ 32 := shapeCast S_ main_arg4 shapeCasts_S1_S_
  let main_c_2 : IVec S_ 32 := constantI S_ 32 4#32
  let main_v8 : IVec S_ 1 := cmpi .slt main_v7 main_c_2
  let main_v9 : IVec S_ 1 := andi main_v6 main_v8
  let main_v10 : IVec S_ 1 := andi main_v4 main_v9
  main_v10
-- ==== KScale.lean ====
abbrev S2x2064x2048 : Shape := ⟨3, ![2, 2064, 2048]⟩
abbrev S96x2048 : Shape := ⟨2, ![96, 2048]⟩
abbrev S1x4x512x512 : Shape := ⟨4, ![1, 4, 512, 512]⟩
abbrev S1x2048 : Shape := ⟨2, ![1, 2048]⟩
abbrev S2x2064x4096 : Shape := ⟨3, ![2, 2064, 4096]⟩
abbrev S4128x2048 : Shape := ⟨2, ![4128, 2048]⟩
abbrev S4224x2048 : Shape := ⟨2, ![4224, 2048]⟩
abbrev S4224x4x512 : Shape := ⟨3, ![4224, 4, 512]⟩
abbrev S4x512x512 : Shape := ⟨3, ![4, 512, 512]⟩
abbrev S4x512x4224 : Shape := ⟨3, ![4, 512, 4224]⟩
abbrev S4128x4096 : Shape := ⟨2, ![4128, 4096]⟩
abbrev S_ : Shape := ⟨0, ![]⟩
abbrev S4224x4096 : Shape := ⟨2, ![4224, 4096]⟩
abbrev S128x2048 : Shape := ⟨2, ![128, 2048]⟩
abbrev S2048 : Shape := ⟨1, ![2048]⟩

abbrev nBuf : Space → Nat
  | .hbm => 18
  | .vmem => 8
  | .smem => 0
  | _ => 0

abbrev bufTy : (tb : Table) → Fin (tcTables nBuf tb) → BufTy
  | .hbm, ⟨0, _⟩ => ⟨S2x2064x2048, .f32⟩
  | .hbm, ⟨1, _⟩ => ⟨S96x2048, .f32⟩
  | .hbm, ⟨2, _⟩ => ⟨S1x4x512x512, .f32⟩
  | .hbm, ⟨3, _⟩ => ⟨S1x2048, .f32⟩
  | .hbm, ⟨4, _⟩ => ⟨S2x2064x4096, .f32⟩
  | .hbm, ⟨5, _⟩ => ⟨S4128x2048, .f32⟩
  | .hbm, ⟨6, _⟩ => ⟨S4224x2048, .f32⟩
  | .hbm, ⟨7, _⟩ => ⟨S4224x4x512, .f32⟩
  | .hbm, ⟨8, _⟩ => ⟨S4x512x512, .f32⟩
  | .hbm, ⟨9, _⟩ => ⟨S4x512x4224, .f32⟩
  | .hbm, ⟨10, _⟩ => ⟨S4224x4x512, .f32⟩
  | .hbm, ⟨11, _⟩ => ⟨S4224x2048, .f32⟩
  | .hbm, ⟨12, _⟩ => ⟨S4128x4096, .f32⟩
  | .hbm, ⟨13, _⟩ => ⟨S_, .i32⟩
  | .hbm, ⟨14, _⟩ => ⟨S_, .f32⟩
  | .hbm, ⟨15, _⟩ => ⟨S4224x4096, .f32⟩
  | .hbm, ⟨16, _⟩ => ⟨S4224x2048, .bf16⟩
  | .hbm, ⟨17, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S1x2048, .f32⟩
  | .local _ .vmem, ⟨5, _⟩ => ⟨S128x2048, .bf16⟩
  | .local _ .vmem, ⟨6, _⟩ => ⟨S128x2048, .bf16⟩
  | .local _ .vmem, ⟨7, _⟩ => ⟨S1x2048, .f32⟩
  | _, _ => ⟨S2x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32_8 : BitVec 32 := 0#32
  let v15 : BitVec 1 := Scalar.cmpi .sgt arg0 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RScaleIdeal.lean ====
abbrev S2x2064x2048 : Shape := ⟨3, ![2, 2064, 2048]⟩
abbrev S96x2048 : Shape := ⟨2, ![96, 2048]⟩
abbrev S1x4x512x512 : Shape := ⟨4, ![1, 4, 512, 512]⟩
abbrev S1x2048 : Shape := ⟨2, ![1, 2048]⟩
abbrev S2x2064x4096 : Shape := ⟨3, ![2, 2064, 4096]⟩
abbrev S2x2064x4x512 : Shape := ⟨4, ![2, 2064, 4, 512]⟩
abbrev S4x512x512 : Shape := ⟨3, ![4, 512, 512]⟩
abbrev S4x512x2x2064 : Shape := ⟨4, ![4, 512, 2, 2064]⟩
abbrev S2048 : Shape := ⟨1, ![2048]⟩
abbrev S1x1x2048 : Shape := ⟨3, ![1, 1, 2048]⟩
abbrev S_ : Shape := ⟨0, ![]⟩
abbrev S4128x2048 : Shape := ⟨2, ![4128, 2048]⟩
abbrev S4224x2048 : Shape := ⟨2, ![4224, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2x2064x2048, .f32⟩
  | .hbm, ⟨1, _⟩ => ⟨S96x2048, .f32⟩
  | .hbm, ⟨2, _⟩ => ⟨S1x4x512x512, .f32⟩
  | .hbm, ⟨3, _⟩ => ⟨S1x2048, .f32⟩
  | .hbm, ⟨4, _⟩ => ⟨S2x2064x4096, .f32⟩
  | .hbm, ⟨5, _⟩ => ⟨S2x2064x4x512, .f32⟩
  | .hbm, ⟨6, _⟩ => ⟨S4x512x512, .f32⟩
  | .hbm, ⟨7, _⟩ => ⟨S4x512x2x2064, .f32⟩
  | .hbm, ⟨8, _⟩ => ⟨S2x2064x4x512, .f32⟩
  | .hbm, ⟨9, _⟩ => ⟨S2x2064x2048, .f32⟩
  | .hbm, ⟨10, _⟩ => ⟨S2048, .f32⟩
  | .hbm, ⟨11, _⟩ => ⟨S1x1x2048, .f32⟩
  | .hbm, ⟨12, _⟩ => ⟨S2x2064x2048, .f32⟩
  | .hbm, ⟨13, _⟩ => ⟨S2x2064x2048, .f32⟩
  | .hbm, ⟨14, _⟩ => ⟨S2x2064x2048, .f32⟩
  | .hbm, ⟨15, _⟩ => ⟨S2x2064x2048, .f32⟩
  | .hbm, ⟨16, _⟩ => ⟨S_, .f32⟩
  | .hbm, ⟨17, _⟩ => ⟨S2048, .f32⟩
  | .hbm, ⟨18, _⟩ => ⟨S1x1x2048, .f32⟩
  | .hbm, ⟨19, _⟩ => ⟨S2x2064x2048, .f32⟩
  | .hbm, ⟨20, _⟩ => ⟨S2x2064x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S4128x2048, .f32⟩
  | .hbm, ⟨25, _⟩ => ⟨S_, .i32⟩
  | .hbm, ⟨26, _⟩ => ⟨S_, .f32⟩
  | .hbm, ⟨27, _⟩ => ⟨S4224x2048, .f32⟩
  | .hbm, ⟨28, _⟩ => ⟨S4224x2048, .bf16⟩
  | _, _ => ⟨S2x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== KConv.lean ====
abbrev S2x2064x8192 : Shape := ⟨3, ![2, 2064, 8192]⟩
abbrev S96x8192 : Shape := ⟨2, ![96, 8192]⟩
abbrev S1x3x2048 : Shape := ⟨3, ![1, 3, 2048]⟩
abbrev S2x2064x4096 : Shape := ⟨3, ![2, 2064, 4096]⟩
abbrev S4128x8192 : Shape := ⟨2, ![4128, 8192]⟩
abbrev S4224x8192 : Shape := ⟨2, ![4224, 8192]⟩
abbrev S3x2048 : Shape := ⟨2, ![3, 2048]⟩
abbrev S4128x4096 : Shape := ⟨2, ![4128, 4096]⟩
abbrev S_ : Shape := ⟨0, ![]⟩
abbrev S4224x4096 : Shape := ⟨2, ![4224, 4096]⟩
abbrev S4224x2048 : Shape := ⟨2, ![4224, 2048]⟩
abbrev S4224x128 : Shape := ⟨2, ![4224, 128]⟩
abbrev S3x128 : Shape := ⟨2, ![3, 128]⟩
abbrev S4224x1 : Shape := ⟨2, ![4224, 1]⟩
abbrev S1x128 : Shape := ⟨2, ![1, 128]⟩
abbrev S128 : Shape := ⟨1, ![128]⟩

abbrev nBuf : Space → Nat
  | .hbm => 15
  | .vmem => 18
  | .smem => 0
  | _ => 0

abbrev bufTy : (tb : Table) → Fin (tcTables nBuf tb) → BufTy
  | .hbm, ⟨0, _⟩ => ⟨S2x2064x8192, .f32⟩
  | .hbm, ⟨1, _⟩ => ⟨S96x8192, .f32⟩
  | .hbm, ⟨2, _⟩ => ⟨S1x3x2048, .f32⟩
  | .hbm, ⟨3, _⟩ => ⟨S2x2064x4096, .f32⟩
  | .hbm, ⟨4, _⟩ => ⟨S4128x8192, .f32⟩
  | .hbm, ⟨5, _⟩ => ⟨S4224x8192, .f32⟩
  | .hbm, ⟨6, _⟩ => ⟨S3x2048, .f32⟩
  | .hbm, ⟨7, _⟩ => ⟨S4128x4096, .f32⟩
  | .hbm, ⟨8, _⟩ => ⟨S_, .i32⟩
  | .hbm, ⟨9, _⟩ => ⟨S_, .f32⟩
  | .hbm, ⟨10, _⟩ => ⟨S4224x4096, .f32⟩
  | .hbm, ⟨11, _⟩ => ⟨S4224x2048, .bf16⟩
  | .hbm, ⟨12, _⟩ => ⟨S4224x2048, .bf16⟩
  | .hbm, ⟨13, _⟩ => ⟨S4224x2048, .bf16⟩
  | .hbm, ⟨14, _⟩ => ⟨S3x2048, .f32⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S3x128, .f32⟩
  | .local _ .vmem, ⟨7, _⟩ => ⟨S3x128, .f32⟩
  | .local _ .vmem, ⟨8, _⟩ => ⟨S4224x128, .f32⟩
  | .local _ .vmem, ⟨9, _⟩ => ⟨S4224x128, .f32⟩
  | .local _ .vmem, ⟨10, _⟩ => ⟨S4224x128, .bf16⟩
  | .local _ .vmem, ⟨11, _⟩ => ⟨S4224x128, .bf16⟩
  | .local _ .vmem, ⟨12, _⟩ => ⟨S4224x128, .bf16⟩
  | .local _ .vmem, ⟨13, _⟩ => ⟨S4224x128, .bf16⟩
  | .local _ .vmem, ⟨14, _⟩ => ⟨S4224x128, .bf16⟩
  | .local _ .vmem, ⟨15, _⟩ => ⟨S4224x128, .bf16⟩
  | .local _ .vmem, ⟨16, _⟩ => ⟨S3x128, .f32⟩
  | .local _ .vmem, ⟨17, _⟩ => ⟨S3x128, .f32⟩
  | _, _ => ⟨S2x2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4224x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4224x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RConvIdeal.lean ====
abbrev S2x2064x8192 : Shape := ⟨3, ![2, 2064, 8192]⟩
abbrev S96x8192 : Shape := ⟨2, ![96, 8192]⟩
abbrev S1x3x2048 : Shape := ⟨3, ![1, 3, 2048]⟩
abbrev S2x2064x4096 : Shape := ⟨3, ![2, 2064, 4096]⟩
abbrev S2x2064x2048 : Shape := ⟨3, ![2, 2064, 2048]⟩
abbrev S3x2048 : Shape := ⟨2, ![3, 2048]⟩
abbrev S_ : Shape := ⟨0, ![]⟩
abbrev S2x2x2048 : Shape := ⟨3, ![2, 2, 2048]⟩
abbrev S2x2066x2048 : Shape := ⟨3, ![2, 2066, 2048]⟩
abbrev S1x2048 : Shape := ⟨2, ![1, 2048]⟩
abbrev S2048 : Shape := ⟨1, ![2048]⟩
abbrev S1x1x2048 : Shape := ⟨3, ![1, 1, 2048]⟩
abbrev S4128x2048 : Shape := ⟨2, ![4128, 2048]⟩
abbrev S4224x2048 : Shape := ⟨2, ![4224, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2x2064x8192, .f32⟩
  | .hbm, ⟨1, _⟩ => ⟨S96x8192, .f32⟩
  | .hbm, ⟨2, _⟩ => ⟨S1x3x2048, .f32⟩
  | .hbm, ⟨3, _⟩ => ⟨S2x2064x4096, .f32⟩
  | .hbm, ⟨4, _⟩ => ⟨S2x2064x2048, .f32⟩
  | .hbm, ⟨5, _⟩ => ⟨S2x2064x2048, .f32⟩
  | .hbm, ⟨6, _⟩ => ⟨S2x2064x2048, .f32⟩
  | .hbm, ⟨7, _⟩ => ⟨S2x2064x2048, .f32⟩
  | .hbm, ⟨8, _⟩ => ⟨S3x2048, .f32⟩
  | .hbm, ⟨9, _⟩ => ⟨S_, .f32⟩
  | .hbm, ⟨10, _⟩ => ⟨S2x2x2048, .f32⟩
  | .hbm, ⟨11, _⟩ => ⟨S2x2066x2048, .f32⟩
  | .hbm, ⟨12, _⟩ => ⟨S_, .f32⟩
  | .hbm, ⟨13, _⟩ => ⟨S2x2x2048, .f32⟩
  | .hbm, ⟨14, _⟩ => ⟨S2x2064x2048, .f32⟩
  | .hbm, ⟨15, _⟩ => ⟨S1x2048, .f32⟩
  | .hbm, ⟨16, _⟩ => ⟨S2048, .f32⟩
  | .hbm, ⟨17, _⟩ => ⟨S1x1x2048, .f32⟩
  | .hbm, ⟨18, _⟩ => ⟨S2x2064x2048, .f32⟩
  | .hbm, ⟨19, _⟩ => ⟨S2x2064x2048, .f32⟩
  | .hbm, ⟨20, _⟩ => ⟨S2x2064x2048, .f32⟩
  | .hbm, ⟨21, _⟩ => ⟨S1x2048, .f32⟩
  | .hbm, ⟨22, _⟩ => ⟨S2048, .f32⟩
  | .hbm, ⟨23, _⟩ => ⟨S1x1x2048, .f32⟩
  | .hbm, ⟨24, _⟩ => ⟨S2x2064x2048, .f32⟩
  | .hbm, ⟨25, _⟩ => ⟨S2x2064x2048, .f32⟩
  | .hbm, ⟨26, _⟩ => ⟨S2x2064x2048, .f32⟩
  | .hbm, ⟨27, _⟩ => ⟨S2x2064x2048, .f32⟩
  | .hbm, ⟨28, _⟩ => ⟨S1x2048, .f32⟩
  | .hbm, ⟨29, _⟩ => ⟨S2048, .f32⟩
  | .hbm, ⟨30, _⟩ => ⟨S1x1x2048, .f32⟩
  | .hbm, ⟨31, _⟩ => ⟨S2x2064x2048, .f32⟩
  | .hbm, ⟨32, _⟩ => ⟨S2x2064x2048, .f32⟩
  | .hbm, ⟨33, _⟩ => ⟨S2x2064x2048, .f32⟩
  | .hbm, ⟨34, _⟩ => ⟨S2x2064x2048, .f32⟩
  | .hbm, ⟨35, _⟩ => ⟨S2x2064x2048, .f32⟩
  | .hbm, ⟨36, _⟩ => ⟨S2x2064x2048, .f32⟩
  | .hbm, ⟨37, _⟩ => ⟨S2x2064x2048, .f32⟩
  | .hbm, ⟨38, _⟩ => ⟨S2x2064x2048, .f32⟩
  | .hbm, ⟨39, _⟩ => ⟨S_, .f32⟩
  | .hbm, ⟨40, _⟩ => ⟨S2048, .f32⟩
  | .hbm, ⟨41, _⟩ => ⟨S1x1x2048, .f32⟩
  | .hbm, ⟨42, _⟩ => ⟨S2x2064x2048, .f32⟩
  | .hbm, ⟨43, _⟩ => ⟨S2x2064x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S_, .f32⟩
  | .hbm, ⟨48, _⟩ => ⟨S3x2048, .f32⟩
  | .hbm, ⟨49, _⟩ => ⟨S_, .f32⟩
  | .hbm, ⟨50, _⟩ => ⟨S2x2066x2048, .f32⟩
  | .hbm, ⟨51, _⟩ => ⟨S2x2064x2048, .f32⟩
  | .hbm, ⟨52, _⟩ => ⟨S_, .f32⟩
  | .hbm, ⟨53, _⟩ => ⟨S2048, .f32⟩
  | .hbm, ⟨54, _⟩ => ⟨S1x1x2048, .f32⟩
  | .hbm, ⟨55, _⟩ => ⟨S2x2064x2048, .f32⟩
  | .hbm, ⟨56, _⟩ => ⟨S2x2064x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S_, .f32⟩
  | .hbm, ⟨61, _⟩ => ⟨S3x2048, .f32⟩
  | .hbm, ⟨62, _⟩ => ⟨S3x2048, .f32⟩
  | .hbm, ⟨63, _⟩ => ⟨S_, .f32⟩
  | .hbm, ⟨64, _⟩ => ⟨S2x2066x2048, .f32⟩
  | .hbm, ⟨65, _⟩ => ⟨S2x2066x2048, .f32⟩
  | .hbm, ⟨66, _⟩ => ⟨S2x2064x2048, .f32⟩
  | .hbm, ⟨67, _⟩ => ⟨S_, .f32⟩
  | .hbm, ⟨68, _⟩ => ⟨S2048, .f32⟩
  | .hbm, ⟨69, _⟩ => ⟨S1x1x2048, .f32⟩
  | .hbm, ⟨70, _⟩ => ⟨S2x2064x2048, .f32⟩
  | .hbm, ⟨71, _⟩ => ⟨S2x2064x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S3x2048, .f32⟩
  | .hbm, ⟨78, _⟩ => ⟨S_, .f32⟩
  | .hbm, ⟨79, _⟩ => ⟨S2x2066x2048, .f32⟩
  | .hbm, ⟨80, _⟩ => ⟨S2x2066x2048, .f32⟩
  | .hbm, ⟨81, _⟩ => ⟨S2x2x2048, .f32⟩
  | .hbm, ⟨82, _⟩ => ⟨S2x2064x2048, .f32⟩
  | .hbm, ⟨83, _⟩ => ⟨S1x3x2048, .f32⟩
  | .hbm, ⟨84, _⟩ => ⟨S2x2064x2048, .f32⟩
  | .hbm, ⟨85, _⟩ => ⟨S2x2064x2048, .f32⟩
  | .hbm, ⟨86, _⟩ => ⟨S4128x2048, .f32⟩
  | .hbm, ⟨87, _⟩ => ⟨S_, .i32⟩
  | .hbm, ⟨88, _⟩ => ⟨S_, .f32⟩
  | .hbm, ⟨89, _⟩ => ⟨S4224x2048, .f32⟩
  | .hbm, ⟨90, _⟩ => ⟨S4224x2048, .bf16⟩
  | .hbm, ⟨91, _⟩ => ⟨S4128x2048, .f32⟩
  | .hbm, ⟨92, _⟩ => ⟨S_, .i32⟩
  | .hbm, ⟨93, _⟩ => ⟨S_, .f32⟩
  | .hbm, ⟨94, _⟩ => ⟨S4224x2048, .f32⟩
  | .hbm, ⟨95, _⟩ => ⟨S4224x2048, .bf16⟩
  | .hbm, ⟨96, _⟩ => ⟨S4128x2048, .f32⟩
  | .hbm, ⟨97, _⟩ => ⟨S_, .i32⟩
  | .hbm, ⟨98, _⟩ => ⟨S_, .f32⟩
  | .hbm, ⟨99, _⟩ => ⟨S4224x2048, .f32⟩
  | .hbm, ⟨100, _⟩ => ⟨S4224x2048, .bf16⟩
  | .hbm, ⟨101, _⟩ => ⟨S3x2048, .f32⟩
  | _, _ => ⟨S2x2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_cst_7 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_cst_11 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_c : Ref sig .tc := ⟨.hbm, 87, rfl⟩
abbrev main_call0_v0 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_c_13 : Ref sig .tc := ⟨.hbm, 92, rfl⟩
abbrev main_call1_v0 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_14 : Ref sig .tc := ⟨.hbm, 97, rfl⟩
abbrev main_call2_v0 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== KLn.lean ====
abbrev S2x2064x4096 : Shape := ⟨3, ![2, 2064, 4096]⟩
abbrev S96x4096 : Shape := ⟨2, ![96, 4096]⟩
abbrev S1x4096 : Shape := ⟨2, ![1, 4096]⟩
abbrev S4128x4096 : Shape := ⟨2, ![4128, 4096]⟩
abbrev S4224x4096 : Shape := ⟨2, ![4224, 4096]⟩
abbrev S_ : Shape := ⟨0, ![]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 15
  | .vmem => 11
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096, .f32⟩
  | .hbm, ⟨3, _⟩ => ⟨S1x4096, .f32⟩
  | .hbm, ⟨4, _⟩ => ⟨S2x2064x4096, .f32⟩
  | .hbm, ⟨5, _⟩ => ⟨S4128x4096, .f32⟩
  | .hbm, ⟨6, _⟩ => ⟨S4224x4096, .f32⟩
  | .hbm, ⟨7, _⟩ => ⟨S4128x4096, .f32⟩
  | .hbm, ⟨8, _⟩ => ⟨S_, .i32⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4224x4096, .bf16⟩
  | .hbm, ⟨13, _⟩ => ⟨S1x4096, .f32⟩
  | .hbm, ⟨14, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S1x4096, .f32⟩
  | .local _ .vmem, ⟨10, _⟩ => ⟨S1x4096, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v45 : BitVec 1 := Scalar.cmpi .eq arg0 c0_i32
  let v46 : BitVec 32 := Scalar.extui v45
  let c0_i32_18 : BitVec 32 := 0#32
  let v47 : BitVec 1 := Scalar.cmpi .ne v46 c0_i32_18
  v47

def k0_cond2 (i : grid0.Coords) : BitVec 1 :=
  let arg0 : BitVec 32 := BitVec.ofNat 32 (i 0).val
  let c0_i32_19 : BitVec 32 := 0#32
  let v48 : BitVec 1 := Scalar.cmpi .sgt arg0 c0_i32_19
  let v49 : BitVec 32 := Scalar.extui v48
  let c0_i32_20 : BitVec 32 := 0#32
  let v50 : BitVec 1 := Scalar.cmpi .ne v49 c0_i32_20
  v50

def k0_cond3 (i : grid0.Coords) : BitVec 1 :=
  let arg0 : BitVec 32 := BitVec.ofNat 32 (i 0).val
  let c0_i32_22 : BitVec 32 := 0#32
  let v53 : BitVec 1 := Scalar.cmpi .eq arg0 c0_i32_22
  let v54 : BitVec 32 := Scalar.extui v53
  let c0_i32_23 : BitVec 32 := 0#32
  let v55 : BitVec 1 := Scalar.cmpi .ne v54 c0_i32_23
  v55

def k0_cond4 (i : grid0.Coords) : BitVec 1 :=
  let arg0 : BitVec 32 := BitVec.ofNat 32 (i 0).val
  let c0_i32_24 : BitVec 32 := 0#32
  let v56 : BitVec 1 := Scalar.cmpi .sgt arg0 c0_i32_24
  let v57 : BitVec 32 := Scalar.extui v56
  let c0_i32_25 : BitVec 32 := 0#32
  let v58 : BitVec 1 := Scalar.cmpi .ne v57 c0_i32_25
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RLnIdeal.lean ====
abbrev S2x2064x4096 : Shape := ⟨3, ![2, 2064, 4096]⟩
abbrev S96x4096 : Shape := ⟨2, ![96, 4096]⟩
abbrev S1x4096 : Shape := ⟨2, ![1, 4096]⟩
abbrev S4096 : Shape := ⟨1, ![4096]⟩
abbrev S_ : Shape := ⟨0, ![]⟩
abbrev S2x2064 : Shape := ⟨2, ![2, 2064]⟩
abbrev S2x2064x1 : Shape := ⟨3, ![2, 2064, 1]⟩
abbrev S1x1x4096 : Shape := ⟨3, ![1, 1, 4096]⟩
abbrev S4128x4096 : Shape := ⟨2, ![4128, 4096]⟩
abbrev S4224x4096 : Shape := ⟨2, ![4224, 4096]⟩

abbrev nBuf : Space → Nat
  | .hbm => 88
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096, .f32⟩
  | .hbm, ⟨3, _⟩ => ⟨S1x4096, .f32⟩
  | .hbm, ⟨4, _⟩ => ⟨S2x2064x4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S2x2064, .f32⟩
  | .hbm, ⟨9, _⟩ => ⟨S2x2064x1, .f32⟩
  | .hbm, ⟨10, _⟩ => ⟨S_, .f32⟩
  | .hbm, ⟨11, _⟩ => ⟨S2x2064x1, .f32⟩
  | .hbm, ⟨12, _⟩ => ⟨S2x2064x1, .f32⟩
  | .hbm, ⟨13, _⟩ => ⟨S2x2064x4096, .f32⟩
  | .hbm, ⟨14, _⟩ => ⟨S2x2064x4096, .f32⟩
  | .hbm, ⟨15, _⟩ => ⟨S2x2064x4096, .f32⟩
  | .hbm, ⟨16, _⟩ => ⟨S_, .f32⟩
  | .hbm, ⟨17, _⟩ => ⟨S2x2064x4096, .f32⟩
  | .hbm, ⟨18, _⟩ => ⟨S2x2064x4096, .f32⟩
  | .hbm, ⟨19, _⟩ => ⟨S_, .f32⟩
  | .hbm, ⟨20, _⟩ => ⟨S2x2064, .f32⟩
  | .hbm, ⟨21, _⟩ => ⟨S2x2064x1, .f32⟩
  | .hbm, ⟨22, _⟩ => ⟨S_, .f32⟩
  | .hbm, ⟨23, _⟩ => ⟨S2x2064x1, .f32⟩
  | .hbm, ⟨24, _⟩ => ⟨S2x2064x1, .f32⟩
  | .hbm, ⟨25, _⟩ => ⟨S_, .f32⟩
  | .hbm, ⟨26, _⟩ => ⟨S2x2064x1, .f32⟩
  | .hbm, ⟨27, _⟩ => ⟨S2x2064x1, .f32⟩
  | .hbm, ⟨28, _⟩ => ⟨S2x2064x1, .f32⟩
  | .hbm, ⟨29, _⟩ => ⟨S2x2064x1, .f32⟩
  | .hbm, ⟨30, _⟩ => ⟨S_, .f32⟩
  | .hbm, ⟨31, _⟩ => ⟨S2x2064x1, .f32⟩
  | .hbm, ⟨32, _⟩ => ⟨S2x2064x1, .f32⟩
  | .hbm, ⟨33, _⟩ => ⟨S2x2064x4096, .f32⟩
  | .hbm, ⟨34, _⟩ => ⟨S2x2064x4096, .f32⟩
  | .hbm, ⟨35, _⟩ => ⟨S1x1x4096, .f32⟩
  | .hbm, ⟨36, _⟩ => ⟨S2x2064x4096, .f32⟩
  | .hbm, ⟨37, _⟩ => ⟨S2x2064x4096, .f32⟩
  | .hbm, ⟨38, _⟩ => ⟨S1x1x4096, .f32⟩
  | .hbm, ⟨39, _⟩ => ⟨S2x2064x4096, .f32⟩
  | .hbm, ⟨40, _⟩ => ⟨S2x2064x4096, .f32⟩
  | .hbm, ⟨41, _⟩ => ⟨S2x2064x4096, .f32⟩
  | .hbm, ⟨42, _⟩ => ⟨S_, .f32⟩
  | .hbm, ⟨43, _⟩ => ⟨S4096, .f32⟩
  | .hbm, ⟨44, _⟩ => ⟨S1x1x4096, .f32⟩
  | .hbm, ⟨45, _⟩ => ⟨S_, .f32⟩
  | .hbm, ⟨46, _⟩ => ⟨S4096, .f32⟩
  | .hbm, ⟨47, _⟩ => ⟨S2x2064x4096, .f32⟩
  | .hbm, ⟨48, _⟩ => ⟨S_, .f32⟩
  | .hbm, ⟨49, _⟩ => ⟨S4096, .f32⟩
  | .hbm, ⟨50, _⟩ => ⟨S1x1x4096, .f32⟩
  | .hbm, ⟨51, _⟩ => ⟨S2x2064x4096, .f32⟩
  | .hbm, ⟨52, _⟩ => ⟨S2x2064x4096, .f32⟩
  | .hbm, ⟨53, _⟩ => ⟨S_, .f32⟩
  | .hbm, ⟨54, _⟩ => ⟨S4096, .f32⟩
  | .hbm, ⟨55, _⟩ => ⟨S2x2064x4096, .f32⟩
  | .hbm, ⟨56, _⟩ => ⟨S_, .f32⟩
  | .hbm, ⟨57, _⟩ => ⟨S2x2064, .f32⟩
  | .hbm, ⟨58, _⟩ => ⟨S2x2064x1, .f32⟩
  | .hbm, ⟨59, _⟩ => ⟨S2x2064x4096, .f32⟩
  | .hbm, ⟨60, _⟩ => ⟨S2x2064x4096, .f32⟩
  | .hbm, ⟨61, _⟩ => ⟨S2x2064x1, .f32⟩
  | .hbm, ⟨62, _⟩ => ⟨S_, .f32⟩
  | .hbm, ⟨63, _⟩ => ⟨S2x2064x1, .f32⟩
  | .hbm, ⟨64, _⟩ => ⟨S2x2064x1, .f32⟩
  | .hbm, ⟨65, _⟩ => ⟨S_, .f32⟩
  | .hbm, ⟨66, _⟩ => ⟨S2x2064, .f32⟩
  | .hbm, ⟨67, _⟩ => ⟨S2x2064x4096, .f32⟩
  | .hbm, ⟨68, _⟩ => ⟨S2x2064x4096, .f32⟩
  | .hbm, ⟨69, _⟩ => ⟨S2x2064x4096, .f32⟩
  | .hbm, ⟨70, _⟩ => ⟨S2x2064x4096, .f32⟩
  | .hbm, ⟨71, _⟩ => ⟨S_, .f32⟩
  | .hbm, ⟨72, _⟩ => ⟨S2x2064, .f32⟩
  | .hbm, ⟨73, _⟩ => ⟨S2x2064x1, .f32⟩
  | .hbm, ⟨74, _⟩ => ⟨S_, .f32⟩
  | .hbm, ⟨75, _⟩ => ⟨S2x2064x1, .f32⟩
  | .hbm, ⟨76, _⟩ => ⟨S2x2064x1, .f32⟩
  | .hbm, ⟨77, _⟩ => ⟨S_, .f32⟩
  | .hbm, ⟨78, _⟩ => ⟨S2x2064, .f32⟩
  | .hbm, ⟨79, _⟩ => ⟨S2x2064x4096, .f32⟩
  | .hbm, ⟨80, _⟩ => ⟨S2x2064x4096, .f32⟩
  | .hbm, ⟨81, _⟩ => ⟨S1x4096, .f32⟩
  | .hbm, ⟨82, _⟩ => ⟨S1x4096, .f32⟩
  | .hbm, ⟨83, _⟩ => ⟨S4128x4096, .f32⟩
  | .hbm, ⟨84, _⟩ => ⟨S_, .i32⟩
  | .hbm, ⟨85, _⟩ => ⟨S_, .f32⟩
  | .hbm, ⟨86, _⟩ => ⟨S4224x4096, .f32⟩
  | .hbm, ⟨87, _⟩ => ⟨S4224x4096, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_13 : Ref sig .tc := ⟨.hbm, 71, rfl⟩
abbrev main_v52 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c : Ref sig .tc := ⟨.hbm, 84, rfl⟩
abbrev main_call0_v0 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== KDgu.lean ====
abbrev S2x2064x4096 : Shape := ⟨3, ![2, 2064, 4096]⟩
abbrev S96x4096 : Shape := ⟨2, ![96, 4096]⟩
abbrev S1x4096x22016 : Shape := ⟨3, ![1, 4096, 22016]⟩
abbrev S1x11008x4096 : Shape := ⟨3, ![1, 11008, 4096]⟩
abbrev S4128x4096 : Shape := ⟨2, ![4128, 4096]⟩
abbrev S4224x4096 : Shape := ⟨2, ![4224, 4096]⟩
abbrev S4096x22016 : Shape := ⟨2, ![4096, 22016]⟩
abbrev S4096x8x2752 : Shape := ⟨3, ![4096, 8, 2752]⟩
abbrev S8x4096x2752 : Shape := ⟨3, ![8, 4096, 2752]⟩
abbrev S8x2752x4224 : Shape := ⟨3, ![8, 2752, 4224]⟩
abbrev S8x4224x2752 : Shape := ⟨3, ![8, 4224, 2752]⟩
abbrev S2x4x4224x2752 : Shape := ⟨4, ![2, 4, 4224, 2752]⟩
abbrev S4x2x4224x2752 : Shape := ⟨4, ![4, 2, 4224, 2752]⟩
abbrev S11008x4096 : Shape := ⟨2, ![11008, 4096]⟩
abbrev S4x2752x4096 : Shape := ⟨3, ![4, 2752, 4096]⟩
abbrev S_ : Shape := ⟨0, ![]⟩
abbrev S704x1024 : Shape := ⟨2, ![704, 1024]⟩
abbrev S1x2752x1024 : Shape := ⟨3, ![1, 2752, 1024]⟩
abbrev S1x2x704x2752 : Shape := ⟨4, ![1, 2, 704, 2752]⟩
abbrev S704x2752 : Shape := ⟨2, ![704, 2752]⟩
abbrev S2752x1024 : Shape := ⟨2, ![2752, 1024]⟩
abbrev S64x2752 : Shape := ⟨2, ![64, 2752]⟩
abbrev S1x1x64x2752 : Shape := ⟨4, ![1, 1, 64, 2752]⟩

abbrev nBuf : Space → Nat
  | .hbm => 24
  | .vmem => 9
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x22016, .f32⟩
  | .hbm, ⟨3, _⟩ => ⟨S1x11008x4096, .f32⟩
  | .hbm, ⟨4, _⟩ => ⟨S2x2064x4096, .f32⟩
  | .hbm, ⟨5, _⟩ => ⟨S4128x4096, .f32⟩
  | .hbm, ⟨6, _⟩ => ⟨S4224x4096, .f32⟩
  | .hbm, ⟨7, _⟩ => ⟨S4096x22016, .f32⟩
  | .hbm, ⟨8, _⟩ => ⟨S4096x8x2752, .f32⟩
  | .hbm, ⟨9, _⟩ => ⟨S8x4096x2752, .f32⟩
  | .hbm, ⟨10, _⟩ => ⟨S8x2752x4224, .f32⟩
  | .hbm, ⟨11, _⟩ => ⟨S8x4224x2752, .f32⟩
  | .hbm, ⟨12, _⟩ => ⟨S2x4x4224x2752, .f32⟩
  | .hbm, ⟨13, _⟩ => ⟨S4x2x4224x2752, .f32⟩
  | .hbm, ⟨14, _⟩ => ⟨S4x2x4224x2752, .bf16⟩
  | .hbm, ⟨15, _⟩ => ⟨S11008x4096, .f32⟩
  | .hbm, ⟨16, _⟩ => ⟨S4x2752x4096, .f32⟩
  | .hbm, ⟨17, _⟩ => ⟨S4x2752x4096, .bf16⟩
  | .hbm, ⟨18, _⟩ => ⟨S4128x4096, .f32⟩
  | .hbm, ⟨19, _⟩ => ⟨S_, .i32⟩
  | .hbm, ⟨20, _⟩ => ⟨S_, .f32⟩
  | .hbm, ⟨21, _⟩ => ⟨S4224x4096, .f32⟩
  | .hbm, ⟨22, _⟩ => ⟨S4224x4096, .bf16⟩
  | .hbm, ⟨23, _⟩ => ⟨S4x2x4224x2752, .bf16⟩
  | .local _ .vmem, ⟨0, _⟩ => ⟨S704x1024, .bf16⟩
  | .local _ .vmem, ⟨1, _⟩ => ⟨S704x1024, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S1x2x704x2752, .bf16⟩
  | .local _ .vmem, ⟨5, _⟩ => ⟨S1x2x704x2752, .bf16⟩
  | .local _ .vmem, ⟨6, _⟩ => ⟨S1x2x704x2752, .bf16⟩
  | .local _ .vmem, ⟨7, _⟩ => ⟨S1x2x704x2752, .bf16⟩
  | .local _ .vmem, ⟨8, _⟩ => ⟨S704x2752, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def k0_off2 (k0_t1 : Fin k0_t1_loop.trips) : Fin 4 → Nat :=
  let c0_6 : Index := 0#32
  let c0_7 : Index := 0#32
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v14 : Index := Scalar.indexCast v11
  let c0_8 : Index := 0#32
  ![0, 0, v14.toNat, 0]
def k0_off3 (k0_t1 : Fin k0_t1_loop.trips) : Fin 4 → Nat :=
  let c0_9 : Index := 0#32
  let c1 : Index := 1#32
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v18 : Index := Scalar.indexCast v11
  let c0_10 : Index := 0#32
  ![0, 1, v18.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2x704x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2x704x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDguIdeal.lean ====
abbrev S2x2064x4096 : Shape := ⟨3, ![2, 2064, 4096]⟩
abbrev S96x4096 : Shape := ⟨2, ![96, 4096]⟩
abbrev S1x4096x22016 : Shape := ⟨3, ![1, 4096, 22016]⟩
abbrev S1x11008x4096 : Shape := ⟨3, ![1, 11008, 4096]⟩
abbrev S4096x22016 : Shape := ⟨2, ![4096, 22016]⟩
abbrev S2x2064x22016 : Shape := ⟨3, ![2, 2064, 22016]⟩
abbrev S11008x4096 : Shape := ⟨2, ![11008, 4096]⟩
abbrev S2x2064x11008 : Shape := ⟨3, ![2, 2064, 11008]⟩
abbrev S_ : Shape := ⟨0, ![]⟩
abbrev S4096x11008 : Shape := ⟨2, ![4096, 11008]⟩
abbrev S4128x2x4x2752 : Shape := ⟨4, ![4128, 2, 4, 2752]⟩
abbrev S4224x2x4x2752 : Shape := ⟨4, ![4224, 2, 4, 2752]⟩
abbrev S4x2x4224x2752 : Shape := ⟨4, ![4, 2, 4224, 2752]⟩

abbrev nBuf : Space → Nat
  | .hbm => 47
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x22016, .f32⟩
  | .hbm, ⟨3, _⟩ => ⟨S1x11008x4096, .f32⟩
  | .hbm, ⟨4, _⟩ => ⟨S2x2064x4096, .f32⟩
  | .hbm, ⟨5, _⟩ => ⟨S4096x22016, .f32⟩
  | .hbm, ⟨6, _⟩ => ⟨S2x2064x22016, .f32⟩
  | .hbm, ⟨7, _⟩ => ⟨S11008x4096, .f32⟩
  | .hbm, ⟨8, _⟩ => ⟨S2x2064x11008, .f32⟩
  | .hbm, ⟨9, _⟩ => ⟨S2x2064x11008, .f32⟩
  | .hbm, ⟨10, _⟩ => ⟨S2x2064x11008, .f32⟩
  | .hbm, ⟨11, _⟩ => ⟨S2x2064x11008, .f32⟩
  | .hbm, ⟨12, _⟩ => ⟨S_, .f32⟩
  | .hbm, ⟨13, _⟩ => ⟨S2x2064x11008, .f32⟩
  | .hbm, ⟨14, _⟩ => ⟨S2x2064x11008, .f32⟩
  | .hbm, ⟨15, _⟩ => ⟨S_, .f32⟩
  | .hbm, ⟨16, _⟩ => ⟨S2x2064x11008, .f32⟩
  | .hbm, ⟨17, _⟩ => ⟨S2x2064x11008, .f32⟩
  | .hbm, ⟨18, _⟩ => ⟨S_, .f32⟩
  | .hbm, ⟨19, _⟩ => ⟨S2x2064x11008, .f32⟩
  | .hbm, ⟨20, _⟩ => ⟨S2x2064x11008, .f32⟩
  | .hbm, ⟨21, _⟩ => ⟨S2x2064x11008, .f32⟩
  | .hbm, ⟨22, _⟩ => ⟨S2x2064x11008, .f32⟩
  | .hbm, ⟨23, _⟩ => ⟨S2x2064x11008, .f32⟩
  | .hbm, ⟨24, _⟩ => ⟨S2x2064x4096, .f32⟩
  | .hbm, ⟨25, _⟩ => ⟨S_, .f32⟩
  | .hbm, ⟨26, _⟩ => ⟨S2x2064x4096, .f32⟩
  | .hbm, ⟨27, _⟩ => ⟨S2x2064x4096, .f32⟩
  | .hbm, ⟨28, _⟩ => ⟨S_, .f32⟩
  | .hbm, ⟨29, _⟩ => ⟨S2x2064x4096, .f32⟩
  | .hbm, ⟨30, _⟩ => ⟨S2x2064x4096, .f32⟩
  | .hbm, ⟨31, _⟩ => ⟨S4096x11008, .f32⟩
  | .hbm, ⟨32, _⟩ => ⟨S11008x4096, .f32⟩
  | .hbm, ⟨33, _⟩ => ⟨S2x2064x11008, .f32⟩
  | .hbm, ⟨34, _⟩ => ⟨S2x2064x11008, .f32⟩
  | .hbm, ⟨35, _⟩ => ⟨S2x2064x11008, .f32⟩
  | .hbm, ⟨36, _⟩ => ⟨S2x2064x11008, .f32⟩
  | .hbm, ⟨37, _⟩ => ⟨S2x2064x11008, .f32⟩
  | .hbm, ⟨38, _⟩ => ⟨S2x2064x11008, .f32⟩
  | .hbm, ⟨39, _⟩ => ⟨S2x2064x11008, .f32⟩
  | .hbm, ⟨40, _⟩ => ⟨S2x2064x22016, .f32⟩
  | .hbm, ⟨41, _⟩ => ⟨S4128x2x4x2752, .f32⟩
  | .hbm, ⟨42, _⟩ => ⟨S_, .i32⟩
  | .hbm, ⟨43, _⟩ => ⟨S_, .f32⟩
  | .hbm, ⟨44, _⟩ => ⟨S4224x2x4x2752, .f32⟩
  | .hbm, ⟨45, _⟩ => ⟨S4x2x4224x2752, .f32⟩
  | .hbm, ⟨46, _⟩ => ⟨S4x2x4224x2752, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v5_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v5_1 : Ref sig .tc := ⟨.hbm, 21, rfl⟩
abbrev main_v5_0 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_call2_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩

abbrev nD : Nat := 1
abbrev τ : Topo := Topo.v7x

variable {F : FTy → Type} [FloatOps F]
-- ==== KPool.lean ====
abbrev S2x2064x2048 : Shape := ⟨3, ![2, 2064, 2048]⟩
abbrev S4128x2048 : Shape := ⟨2, ![4128, 2048]⟩
abbrev S_ : Shape := ⟨0, ![]⟩
abbrev S4224x2048 : Shape := ⟨2, ![4224, 2048]⟩
abbrev S4224x128 : Shape := ⟨2, ![4224, 128]⟩
abbrev S4224x1 : Shape := ⟨2, ![4224, 1]⟩

abbrev nBuf : Space → Nat
  | .hbm => 7
  | .vmem => 4
  | .smem => 0
  | _ => 0

abbrev bufTy : (tb : Table) → Fin (tcTables nBuf tb) → BufTy
  | .hbm, ⟨0, _⟩ => ⟨S2x2064x2048, .f32⟩
  | .hbm, ⟨1, _⟩ => ⟨S2x2064x2048, .f32⟩
  | .hbm, ⟨2, _⟩ => ⟨S4128x2048, .f32⟩
  | .hbm, ⟨3, _⟩ => ⟨S_, .i32⟩
  | .hbm, ⟨4, _⟩ => ⟨S_, .f32⟩
  | .hbm, ⟨5, _⟩ => ⟨S4224x2048, .f32⟩
  | .hbm, ⟨6, _⟩ => ⟨S4224x2048, .bf16⟩
  | .local _ .vmem, ⟨0, _⟩ => ⟨S4224x128, .f32⟩
  | .local _ .vmem, ⟨1, _⟩ => ⟨S4224x128, .f32⟩
  | .local _ .vmem, ⟨2, _⟩ => ⟨S4224x128, .bf16⟩
  | .local _ .vmem, ⟨3, _⟩ => ⟨S4224x128, .bf16⟩
  | _, _ => ⟨S2x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RPoolIdeal.lean ====
abbrev S2x2064x2048 : Shape := ⟨3, ![2, 2064, 2048]⟩
abbrev S2x2064x4x512 : Shape := ⟨4, ![2, 2064, 4, 512]⟩
abbrev S2x2064x1x512 : Shape := ⟨4, ![2, 2064, 1, 512]⟩
abbrev S2x2064x512 : Shape := ⟨3, ![2, 2064, 512]⟩
abbrev S_ : Shape := ⟨0, ![]⟩
abbrev S2x2x512 : Shape := ⟨3, ![2, 2, 512]⟩
abbrev S2x2066x512 : Shape := ⟨3, ![2, 2066, 512]⟩
abbrev S2064 : Shape := ⟨1, ![2064]⟩
abbrev S1x2064x1 : Shape := ⟨3, ![1, 2064, 1]⟩
abbrev S2x4x512 : Shape := ⟨3, ![2, 4, 512]⟩
abbrev S2x2068x512 : Shape := ⟨3, ![2, 2068, 512]⟩
abbrev S2x8x512 : Shape := ⟨3, ![2, 8, 512]⟩
abbrev S2x2072x512 : Shape := ⟨3, ![2, 2072, 512]⟩
abbrev S2x16x512 : Shape := ⟨3, ![2, 16, 512]⟩
abbrev S2x2080x512 : Shape := ⟨3, ![2, 2080, 512]⟩
abbrev S4128x2048 : Shape := ⟨2, ![4128, 2048]⟩
abbrev S4224x2048 : Shape := ⟨2, ![4224, 2048]⟩

abbrev nBuf : Space → Nat
  | .hbm => 178
  | .vmem => 0
  | .smem => 0
  | _ => 0

abbrev hbmTy0_0 (i : Nat) : BufTy := match i % 128 with
  | 0 => ⟨S2x2064x2048, .f32⟩
  | 1 => ⟨S2x2064x2048, .f32⟩
  | 2 => ⟨S2x2064x4x512, .f32⟩
  | 3 => ⟨S2x2064x1x512, .f32⟩
  | 4 => ⟨S2x2064x512, .f32⟩
  | 5 => ⟨S_, .f32⟩
  | 6 => ⟨S_, .f32⟩
  | 7 => ⟨S2x2064x512, .f32⟩
  | 8 => ⟨S_, .f32⟩
  | 9 => ⟨S2x2x512, .f32⟩
  | 10 => ⟨S2x2066x512, .f32⟩
  | 11 => ⟨S_, .f32⟩
  | 12 => ⟨S2x2x512, .f32⟩
  | 13 => ⟨S2x2064x512, .f32⟩
  | 14 => ⟨S2064, .i32⟩
  | 15 => ⟨S_, .i32⟩
  | 16 => ⟨S2064, .i32⟩
  | 17 => ⟨S2064, .i32⟩
  | 18 => ⟨S_, .i32⟩
  | 19 => ⟨S2064, .i32⟩
  | 20 => ⟨S2064, .i32⟩
  | 21 => ⟨S2064, .f32⟩
  | 22 => ⟨S2x2064x512, .f32⟩
  | 23 => ⟨S1x2064x1, .f32⟩
  | 24 => ⟨S2x2064x512, .f32⟩
  | 25 => ⟨S2x2064x512, .f32⟩
  | 26 => ⟨S2x2064x1x512, .f32⟩
  | 27 => ⟨S2x2064x512, .f32⟩
  | 28 => ⟨S_, .f32⟩
  | 29 => ⟨S_, .f32⟩
  | 30 => ⟨S2x2064x512, .f32⟩
  | 31 => ⟨S_, .f32⟩
  | 32 => ⟨S2x4x512, .f32⟩
  | 33 => ⟨S2x2068x512, .f32⟩
  | 34 => ⟨S_, .f32⟩
  | 35 => ⟨S2x4x512, .f32⟩
  | 36 => ⟨S2x2064x512, .f32⟩
  | 37 => ⟨S2064, .i32⟩
  | 38 => ⟨S_, .i32⟩
  | 39 => ⟨S2064, .i32⟩
  | 40 => ⟨S2064, .i32⟩
  | 41 => ⟨S_, .i32⟩
  | 42 => ⟨S2064, .i32⟩
  | 43 => ⟨S2064, .i32⟩
  | 44 => ⟨S2064, .f32⟩
  | 45 => ⟨S2x2064x512, .f32⟩
  | 46 => ⟨S1x2064x1, .f32⟩
  | 47 => ⟨S2x2064x512, .f32⟩
  | 48 => ⟨S2x2064x512, .f32⟩
  | 49 => ⟨S2x2064x1x512, .f32⟩
  | 50 => ⟨S2x2064x512, .f32⟩
  | 51 => ⟨S_, .f32⟩
  | 52 => ⟨S_, .f32⟩
  | 53 => ⟨S2x2064x512, .f32⟩
  | 54 => ⟨S_, .f32⟩
  | 55 => ⟨S2x8x512, .f32⟩
  | 56 => ⟨S2x2072x512, .f32⟩
  | 57 => ⟨S_, .f32⟩
  | 58 => ⟨S2x8x512, .f32⟩
  | 59 => ⟨S2x2064x512, .f32⟩
  | 60 => ⟨S2064, .i32⟩
  | 61 => ⟨S_, .i32⟩
  | 62 => ⟨S2064, .i32⟩
  | 63 => ⟨S2064, .i32⟩
  | 64 => ⟨S_, .i32⟩
  | 65 => ⟨S2064, .i32⟩
  | 66 => ⟨S2064, .i32⟩
  | 67 => ⟨S2064, .f32⟩
  | 68 => ⟨S2x2064x512, .f32⟩
  | 69 => ⟨S1x2064x1, .f32⟩
  | 70 => ⟨S2x2064x512, .f32⟩
  | 71 => ⟨S2x2064x512, .f32⟩
  | 72 => ⟨S2x2064x1x512, .f32⟩
  | 73 => ⟨S2x2064x512, .f32⟩
  | 74 => ⟨S_, .f32⟩
  | 75 => ⟨S_, .f32⟩
  | 76 => ⟨S2x2064x512, .f32⟩
  | 77 => ⟨S_, .f32⟩
  | 78 => ⟨S2x16x512, .f32⟩
  | 79 => ⟨S2x2080x512, .f32⟩
  | 80 => ⟨S_, .f32⟩
  | 81 => ⟨S2x16x512, .f32⟩
  | 82 => ⟨S2x2064x512, .f32⟩
  | 83 => ⟨S2064, .i32⟩
  | 84 => ⟨S_, .i32⟩
  | 85 => ⟨S2064, .i32⟩
  | 86 => ⟨S2064, .i32⟩
  | 87 => ⟨S_, .i32⟩
  | 88 => ⟨S2064, .i32⟩
  | 89 => ⟨S2064, .i32⟩
  | 90 => ⟨S2064, .f32⟩
  | 91 => ⟨S2x2064x512, .f32⟩
  | 92 => ⟨S1x2064x1, .f32⟩
  | 93 => ⟨S2x2064x512, .f32⟩
  | 94 => ⟨S2x2064x512, .f32⟩
  | 95 => ⟨S2x2064x1x512, .f32⟩
  | 96 => ⟨S2x2064x1x512, .f32⟩
  | 97 => ⟨S2x2064x1x512, .f32⟩
  | 98 => ⟨S2x2064x1x512, .f32⟩
  | 99 => ⟨S2x2064x4x512, .f32⟩
  | 100 => ⟨S2x2064x4x512, .f32⟩
  | 101 => ⟨S2x2064x2048, .f32⟩
  | 102 => ⟨S2x2064x4x512, .f32⟩
  | 103 => ⟨S2x2064x4x512, .f32⟩
  | 104 => ⟨S2x2064x1x512, .f32⟩
  | 105 => ⟨S2x2064x512, .f32⟩
  | 106 => ⟨S2x2064x1x512, .f32⟩
  | 107 => ⟨S2x2064x512, .f32⟩
  | 108 => ⟨S2x2064x1x512, .f32⟩
  | 109 => ⟨S2x2064x512, .f32⟩
  | 110 => ⟨S2x2064x1x512, .f32⟩
  | 111 => ⟨S2x2064x512, .f32⟩
  | 112 => ⟨S2x2064x512, .f32⟩
  | 113 => ⟨S2x2064x512, .f32⟩
  | 114 => ⟨S2x2064x512, .f32⟩
  | 115 => ⟨S_, .f32⟩
  | 116 => ⟨S2x2080x512, .f32⟩
  | 117 => ⟨S2x16x512, .f32⟩
  | 118 => ⟨S2x2064x512, .f32⟩
  | 119 => ⟨S2x2064x512, .f32⟩
  | 120 => ⟨S_, .f32⟩
  | 121 => ⟨S_, .f32⟩
  | 122 => ⟨S2x2064x512, .f32⟩
  | 123 => ⟨S2x2064x1x512, .f32⟩
  | 124 => ⟨S_, .f32⟩
  | 125 => ⟨S2x2064x4x512, .f32⟩
  | 126 => ⟨S2x2064x4x512, .f32⟩
  | 127 => ⟨S2x2064x512, .f32⟩
  | _ => ⟨S2x2064x2048, .f32⟩

abbrev hbmTy0_1 (i : Nat) : BufTy := match i % 128 with
  | 0 => ⟨S2x2064x512, .f32⟩
  | 1 => ⟨S2x2064x512, .f32⟩
  | 2 => ⟨S_, .f32⟩
  | 3 => ⟨S2x2072x512, .f32⟩
  | 4 => ⟨S2x8x512, .f32⟩
  | 5 => ⟨S2x2064x512, .f32⟩
  | 6 => ⟨S2x2064x512, .f32⟩
  | 7 => ⟨S_, .f32⟩
  | 8 => ⟨S_, .f32⟩
  | 9 => ⟨S2x2064x512, .f32⟩
  | 10 => ⟨S2x2064x1x512, .f32⟩
  | 11 => ⟨S_, .f32⟩
  | 12 => ⟨S2x2064x4x512, .f32⟩
  | 13 => ⟨S2x2064x4x512, .f32⟩
  | 14 => ⟨S2x2064x512, .f32⟩
  | 15 => ⟨S2x2064x512, .f32⟩
  | 16 => ⟨S2x2064x512, .f32⟩
  | 17 => ⟨S_, .f32⟩
  | 18 => ⟨S2x2068x512, .f32⟩
  | 19 => ⟨S2x4x512, .f32⟩
  | 20 => ⟨S2x2064x512, .f32⟩
  | 21 => ⟨S2x2064x512, .f32⟩
  | 22 => ⟨S_, .f32⟩
  | 23 => ⟨S_, .f32⟩
  | 24 => ⟨S2x2064x512, .f32⟩
  | 25 => ⟨S2x2064x1x512, .f32⟩
  | 26 => ⟨S_, .f32⟩
  | 27 => ⟨S2x2064x4x512, .f32⟩
  | 28 => ⟨S2x2064x4x512, .f32⟩
  | 29 => ⟨S2x2064x512, .f32⟩
  | 30 => ⟨S2x2064x512, .f32⟩
  | 31 => ⟨S2x2064x512, .f32⟩
  | 32 => ⟨S_, .f32⟩
  | 33 => ⟨S2x2066x512, .f32⟩
  | 34 => ⟨S2x2x512, .f32⟩
  | 35 => ⟨S2x2064x512, .f32⟩
  | 36 => ⟨S2x2064x512, .f32⟩
  | 37 => ⟨S_, .f32⟩
  | 38 => ⟨S_, .f32⟩
  | 39 => ⟨S2x2064x512, .f32⟩
  | 40 => ⟨S2x2064x1x512, .f32⟩
  | 41 => ⟨S_, .f32⟩
  | 42 => ⟨S2x2064x4x512, .f32⟩
  | 43 => ⟨S2x2064x4x512, .f32⟩
  | 44 => ⟨S2x2064x2048, .f32⟩
  | 45 => ⟨S4128x2048, .f32⟩
  | 46 => ⟨S_, .i32⟩
  | 47 => ⟨S_, .f32⟩
  | 48 => ⟨S4224x2048, .f32⟩
  | 49 => ⟨S4224x2048, .bf16⟩
  | _ => ⟨S2x2064x2048, .f32⟩

abbrev hbmTy (i : Nat) : BufTy := match i / 128 with
  | 0 => hbmTy0_0 i
  | 1 => hbmTy0_1 i
  | _ => ⟨S2x2064x2048, .f32⟩

abbrev bufTy : (tb : Table) → Fin (tcTables nBuf tb) → BufTy
  | .hbm, ⟨i, _⟩ => hbmTy i
  | _, _ => ⟨S2x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_call0_cst : Ref sig .tc := ⟨.hbm, 5, rfl⟩
abbrev main_call0_call0_v0 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call1_call0_cst : Ref sig .tc := ⟨.hbm, 28, rfl⟩
abbrev main_call1_call0_v0 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call2_call0_cst : Ref sig .tc := ⟨.hbm, 51, rfl⟩
abbrev main_call2_call0_v0 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call3_call0_cst : Ref sig .tc := ⟨.hbm, 74, rfl⟩
abbrev main_call3_call0_v0 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c_12 : Ref sig .tc := ⟨.hbm, 84, rfl⟩
abbrev main_v60 : Ref sig .tc := ⟨.hbm, 85, rfl⟩
abbrev main_v61 : Ref sig .tc := ⟨.hbm, 86, rfl⟩
abbrev main_c_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_14 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_call4_call0_cst : Ref sig .tc := ⟨.hbm, 120, rfl⟩
abbrev main_call4_call0_v0 : Ref sig .tc := ⟨.hbm, 121, rfl⟩
abbrev main_v93 : Ref sig .tc := ⟨.hbm, 122, rfl⟩
abbrev main_v94 : Ref sig .tc := ⟨.hbm, 123, rfl⟩
abbrev main_cst_15 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_16 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_call5_call0_cst : Ref sig .tc := ⟨.hbm, 135, rfl⟩
abbrev main_call5_call0_v0 : Ref sig .tc := ⟨.hbm, 136, rfl⟩
abbrev main_v104 : Ref sig .tc := ⟨.hbm, 137, rfl⟩
abbrev main_v105 : Ref sig .tc := ⟨.hbm, 138, rfl⟩
abbrev main_cst_17 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_18 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_call6_call0_cst : Ref sig .tc := ⟨.hbm, 150, rfl⟩
abbrev main_call6_call0_v0 : Ref sig .tc := ⟨.hbm, 151, rfl⟩
abbrev main_v115 : Ref sig .tc := ⟨.hbm, 152, rfl⟩
abbrev main_v116 : Ref sig .tc := ⟨.hbm, 153, rfl⟩
abbrev main_cst_19 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_20 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call7_call0_cst : Ref sig .tc := ⟨.hbm, 165, rfl⟩
abbrev main_call7_call0_v0 : Ref sig .tc := ⟨.hbm, 166, rfl⟩
abbrev main_v126 : Ref sig .tc := ⟨.hbm, 167, rfl⟩
abbrev main_v127 : Ref sig .tc := ⟨.hbm, 168, rfl⟩
abbrev main_cst_21 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_c_22 : Ref sig .tc := ⟨.hbm, 174, rfl⟩
abbrev main_call8_v0 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]
-- ==== KLoss.lean ====
abbrev S2x2064x4096 : Shape := ⟨3, ![2, 2064, 4096]⟩
abbrev S96x4096 : Shape := ⟨2, ![96, 4096]⟩
abbrev S1x4096 : Shape := ⟨2, ![1, 4096]⟩
abbrev S2x2048x4096 : Shape := ⟨3, ![2, 2048, 4096]⟩
abbrev S4128x4096 : Shape := ⟨2, ![4128, 4096]⟩
abbrev S4224x4096 : Shape := ⟨2, ![4224, 4096]⟩
abbrev S_ : Shape := ⟨0, ![]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 25
  | .vmem => 13
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096, .f32⟩
  | .hbm, ⟨3, _⟩ => ⟨S1x4096, .f32⟩
  | .hbm, ⟨4, _⟩ => ⟨S2x2048x4096, .f32⟩
  | .hbm, ⟨5, _⟩ => ⟨S4128x4096, .f32⟩
  | .hbm, ⟨6, _⟩ => ⟨S4224x4096, .f32⟩
  | .hbm, ⟨7, _⟩ => ⟨S_, .i32⟩
  | .hbm, ⟨8, _⟩ => ⟨S_, .f32⟩
  | .hbm, ⟨9, _⟩ => ⟨S2x2064x4096, .f32⟩
  | .hbm, ⟨10, _⟩ => ⟨S4128x4096, .f32⟩
  | .hbm, ⟨11, _⟩ => ⟨S_, .i32⟩
  | .hbm, ⟨12, _⟩ => ⟨S_, .f32⟩
  | .hbm, ⟨13, _⟩ => ⟨S4224x4096, .f32⟩
  | .hbm, ⟨14, _⟩ => ⟨S4224x4096, .f32⟩
  | .hbm, ⟨15, _⟩ => ⟨S4224x4096, .bf16⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | .local _ .vmem, ⟨10, _⟩ => ⟨S1x4096, .f32⟩
  | .local _ .vmem, ⟨11, _⟩ => ⟨S1x4096, .f32⟩
  | .local _ .vmem, ⟨12, _⟩ => ⟨S1x4096, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_cst : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_23 : BitVec 32 := 0#32
  let v73 : BitVec 1 := Scalar.cmpi .ne v72 c0_i32_23
  v73

def k0_cond2 (i : grid0.Coords) : BitVec 1 :=
  let arg0 : BitVec 32 := BitVec.ofNat 32 (i 0).val
  let c0_i32_24 : BitVec 32 := 0#32
  let v74 : BitVec 1 := Scalar.cmpi .sgt arg0 c0_i32_24
  let v75 : BitVec 32 := Scalar.extui v74
  let c0_i32_25 : BitVec 32 := 0#32
  let v76 : BitVec 1 := Scalar.cmpi .ne v75 c0_i32_25
  v76

def k0_cond3 (i : grid0.Coords) : BitVec 1 :=
  let arg0 : BitVec 32 := BitVec.ofNat 32 (i 0).val
  let c0_i32_27 : BitVec 32 := 0#32
  let v79 : BitVec 1 := Scalar.cmpi .eq arg0 c0_i32_27
  let v80 : BitVec 32 := Scalar.extui v79
  let c0_i32_28 : BitVec 32 := 0#32
  let v81 : BitVec 1 := Scalar.cmpi .ne v80 c0_i32_28
  v81

def k0_cond4 (i : grid0.Coords) : BitVec 1 :=
  let arg0 : BitVec 32 := BitVec.ofNat 32 (i 0).val
  let c0_i32_29 : BitVec 32 := 0#32
  let v82 : BitVec 1 := Scalar.cmpi .sgt arg0 c0_i32_29
  let v83 : BitVec 32 := Scalar.extui v82
  let c0_i32_30 : BitVec 32 := 0#32
  let v84 : BitVec 1 := Scalar.cmpi .ne v83 c0_i32_30
  v84

def k0_cond5 (i : grid0.Coords) : BitVec 1 :=
  let arg0 : BitVec 32 := BitVec.ofNat 32 (i 0).val
  let c0_i32_32 : BitVec 32 := 0#32
  let v88 : BitVec 1 := Scalar.cmpi .eq arg0 c0_i32_32
  let v89 : BitVec 32 := Scalar.extui v88
  let c0_i32_33 : BitVec 32 := 0#32
  let v90 : BitVec 1 := Scalar.cmpi .ne v89 c0_i32_33
  v90

def k0_cond6 (i : grid0.Coords) : BitVec 1 :=
  let arg0 : BitVec 32 := BitVec.ofNat 32 (i 0).val
  let c0_i32_34 : BitVec 32 := 0#32
  let v91 : BitVec 1 := Scalar.cmpi .sgt arg0 c0_i32_34
  let v92 : BitVec 32 := Scalar.extui v91
  let c0_i32_35 : BitVec 32 := 0#32
  let v93 : BitVec 1 := Scalar.cmpi .ne v92 c0_i32_35
  v93

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RLossIdeal.lean ====
abbrev S2x2064x4096 : Shape := ⟨3, ![2, 2064, 4096]⟩
abbrev S96x4096 : Shape := ⟨2, ![96, 4096]⟩
abbrev S1x4096 : Shape := ⟨2, ![1, 4096]⟩
abbrev S2x2048x4096 : Shape := ⟨3, ![2, 2048, 4096]⟩
abbrev S4096 : Shape := ⟨1, ![4096]⟩
abbrev S_ : Shape := ⟨0, ![]⟩
abbrev S2x2064 : Shape := ⟨2, ![2, 2064]⟩
abbrev S2x2064x1 : Shape := ⟨3, ![2, 2064, 1]⟩
abbrev S1x1x4096 : Shape := ⟨3, ![1, 1, 4096]⟩
abbrev S2x2048 : Shape := ⟨2, ![2, 2048]⟩
abbrev S4128x4096 : Shape := ⟨2, ![4128, 4096]⟩
abbrev S4224x4096 : Shape := ⟨2, ![4224, 4096]⟩

abbrev nBuf : Space → Nat
  | .hbm => 113
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096, .f32⟩
  | .hbm, ⟨3, _⟩ => ⟨S1x4096, .f32⟩
  | .hbm, ⟨4, _⟩ => ⟨S2x2048x4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S2x2064, .f32⟩
  | .hbm, ⟨9, _⟩ => ⟨S2x2064x1, .f32⟩
  | .hbm, ⟨10, _⟩ => ⟨S_, .f32⟩
  | .hbm, ⟨11, _⟩ => ⟨S2x2064x1, .f32⟩
  | .hbm, ⟨12, _⟩ => ⟨S2x2064x1, .f32⟩
  | .hbm, ⟨13, _⟩ => ⟨S2x2064x4096, .f32⟩
  | .hbm, ⟨14, _⟩ => ⟨S2x2064x4096, .f32⟩
  | .hbm, ⟨15, _⟩ => ⟨S2x2064x4096, .f32⟩
  | .hbm, ⟨16, _⟩ => ⟨S_, .f32⟩
  | .hbm, ⟨17, _⟩ => ⟨S2x2064x4096, .f32⟩
  | .hbm, ⟨18, _⟩ => ⟨S2x2064x4096, .f32⟩
  | .hbm, ⟨19, _⟩ => ⟨S_, .f32⟩
  | .hbm, ⟨20, _⟩ => ⟨S2x2064, .f32⟩
  | .hbm, ⟨21, _⟩ => ⟨S2x2064x1, .f32⟩
  | .hbm, ⟨22, _⟩ => ⟨S_, .f32⟩
  | .hbm, ⟨23, _⟩ => ⟨S2x2064x1, .f32⟩
  | .hbm, ⟨24, _⟩ => ⟨S2x2064x1, .f32⟩
  | .hbm, ⟨25, _⟩ => ⟨S_, .f32⟩
  | .hbm, ⟨26, _⟩ => ⟨S2x2064x1, .f32⟩
  | .hbm, ⟨27, _⟩ => ⟨S2x2064x1, .f32⟩
  | .hbm, ⟨28, _⟩ => ⟨S2x2064x1, .f32⟩
  | .hbm, ⟨29, _⟩ => ⟨S2x2064x1, .f32⟩
  | .hbm, ⟨30, _⟩ => ⟨S_, .f32⟩
  | .hbm, ⟨31, _⟩ => ⟨S2x2064x1, .f32⟩
  | .hbm, ⟨32, _⟩ => ⟨S2x2064x1, .f32⟩
  | .hbm, ⟨33, _⟩ => ⟨S2x2064x4096, .f32⟩
  | .hbm, ⟨34, _⟩ => ⟨S2x2064x4096, .f32⟩
  | .hbm, ⟨35, _⟩ => ⟨S1x1x4096, .f32⟩
  | .hbm, ⟨36, _⟩ => ⟨S2x2064x4096, .f32⟩
  | .hbm, ⟨37, _⟩ => ⟨S2x2064x4096, .f32⟩
  | .hbm, ⟨38, _⟩ => ⟨S1x1x4096, .f32⟩
  | .hbm, ⟨39, _⟩ => ⟨S2x2064x4096, .f32⟩
  | .hbm, ⟨40, _⟩ => ⟨S2x2064x4096, .f32⟩
  | .hbm, ⟨41, _⟩ => ⟨S2x2048x4096, .f32⟩
  | .hbm, ⟨42, _⟩ => ⟨S2x2048x4096, .f32⟩
  | .hbm, ⟨43, _⟩ => ⟨S2x2048x4096, .f32⟩
  | .hbm, ⟨44, _⟩ => ⟨S_, .f32⟩
  | .hbm, ⟨45, _⟩ => ⟨S2x2048x4096, .f32⟩
  | .hbm, ⟨46, _⟩ => ⟨S2x2048x4096, .f32⟩
  | .hbm, ⟨47, _⟩ => ⟨S_, .f32⟩
  | .hbm, ⟨48, _⟩ => ⟨S2x2048, .f32⟩
  | .hbm, ⟨49, _⟩ => ⟨S_, .f32⟩
  | .hbm, ⟨50, _⟩ => ⟨S2x2048, .f32⟩
  | .hbm, ⟨51, _⟩ => ⟨S2x2048, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x2048, .f32⟩
  | .hbm, ⟨60, _⟩ => ⟨S_, .f32⟩
  | .hbm, ⟨61, _⟩ => ⟨S2x2048, .f32⟩
  | .hbm, ⟨62, _⟩ => ⟨S2x2048, .f32⟩
  | .hbm, ⟨63, _⟩ => ⟨S2x2048x4096, .f32⟩
  | .hbm, ⟨64, _⟩ => ⟨S2x2048x4096, .f32⟩
  | .hbm, ⟨65, _⟩ => ⟨S_, .f32⟩
  | .hbm, ⟨66, _⟩ => ⟨S2x2064x4096, .f32⟩
  | .hbm, ⟨67, _⟩ => ⟨S_, .f32⟩
  | .hbm, ⟨68, _⟩ => ⟨S4096, .f32⟩
  | .hbm, ⟨69, _⟩ => ⟨S1x1x4096, .f32⟩
  | .hbm, ⟨70, _⟩ => ⟨S_, .f32⟩
  | .hbm, ⟨71, _⟩ => ⟨S4096, .f32⟩
  | .hbm, ⟨72, _⟩ => ⟨S2x2064x4096, .f32⟩
  | .hbm, ⟨73, _⟩ => ⟨S_, .f32⟩
  | .hbm, ⟨74, _⟩ => ⟨S4096, .f32⟩
  | .hbm, ⟨75, _⟩ => ⟨S1x1x4096, .f32⟩
  | .hbm, ⟨76, _⟩ => ⟨S2x2064x4096, .f32⟩
  | .hbm, ⟨77, _⟩ => ⟨S2x2064x4096, .f32⟩
  | .hbm, ⟨78, _⟩ => ⟨S_, .f32⟩
  | .hbm, ⟨79, _⟩ => ⟨S4096, .f32⟩
  | .hbm, ⟨80, _⟩ => ⟨S2x2064x4096, .f32⟩
  | .hbm, ⟨81, _⟩ => ⟨S_, .f32⟩
  | .hbm, ⟨82, _⟩ => ⟨S2x2064, .f32⟩
  | .hbm, ⟨83, _⟩ => ⟨S2x2064x1, .f32⟩
  | .hbm, ⟨84, _⟩ => ⟨S2x2064x4096, .f32⟩
  | .hbm, ⟨85, _⟩ => ⟨S2x2064x4096, .f32⟩
  | .hbm, ⟨86, _⟩ => ⟨S2x2064x1, .f32⟩
  | .hbm, ⟨87, _⟩ => ⟨S_, .f32⟩
  | .hbm, ⟨88, _⟩ => ⟨S2x2064x1, .f32⟩
  | .hbm, ⟨89, _⟩ => ⟨S2x2064x1, .f32⟩
  | .hbm, ⟨90, _⟩ => ⟨S_, .f32⟩
  | .hbm, ⟨91, _⟩ => ⟨S2x2064, .f32⟩
  | .hbm, ⟨92, _⟩ => ⟨S2x2064x4096, .f32⟩
  | .hbm, ⟨93, _⟩ => ⟨S2x2064x4096, .f32⟩
  | .hbm, ⟨94, _⟩ => ⟨S2x2064x4096, .f32⟩
  | .hbm, ⟨95, _⟩ => ⟨S2x2064x4096, .f32⟩
  | .hbm, ⟨96, _⟩ => ⟨S_, .f32⟩
  | .hbm, ⟨97, _⟩ => ⟨S2x2064, .f32⟩
  | .hbm, ⟨98, _⟩ => ⟨S2x2064x1, .f32⟩
  | .hbm, ⟨99, _⟩ => ⟨S_, .f32⟩
  | .hbm, ⟨100, _⟩ => ⟨S2x2064x1, .f32⟩
  | .hbm, ⟨101, _⟩ => ⟨S2x2064x1, .f32⟩
  | .hbm, ⟨102, _⟩ => ⟨S_, .f32⟩
  | .hbm, ⟨103, _⟩ => ⟨S2x2064, .f32⟩
  | .hbm, ⟨104, _⟩ => ⟨S2x2064x4096, .f32⟩
  | .hbm, ⟨105, _⟩ => ⟨S2x2064x4096, .f32⟩
  | .hbm, ⟨106, _⟩ => ⟨S1x4096, .f32⟩
  | .hbm, ⟨107, _⟩ => ⟨S1x4096, .f32⟩
  | .hbm, ⟨108, _⟩ => ⟨S4128x4096, .f32⟩
  | .hbm, ⟨109, _⟩ => ⟨S_, .i32⟩
  | .hbm, ⟨110, _⟩ => ⟨S_, .f32⟩
  | .hbm, ⟨111, _⟩ => ⟨S4224x4096, .f32⟩
  | .hbm, ⟨112, _⟩ => ⟨S4224x4096, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_cst_11 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_14 : Ref sig .tc := ⟨.hbm, 65, rfl⟩
abbrev main_v45 : Ref sig .tc := ⟨.hbm, 66, rfl⟩
abbrev main_cst_15 : Ref sig .tc := ⟨.hbm, 67, rfl⟩
abbrev main_v46 : Ref sig .tc := ⟨.hbm, 68, rfl⟩
abbrev main_v47 : Ref sig .tc := ⟨.hbm, 69, rfl⟩
abbrev main_cst_16 : Ref sig .tc := ⟨.hbm, 70, rfl⟩
abbrev main_v48 : Ref sig .tc := ⟨.hbm, 71, rfl⟩
abbrev main_v49 : Ref sig .tc := ⟨.hbm, 72, rfl⟩
abbrev main_cst_17 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_18 : Ref sig .tc := ⟨.hbm, 78, rfl⟩
abbrev main_v54 : Ref sig .tc := ⟨.hbm, 79, rfl⟩
abbrev main_v55 : Ref sig .tc := ⟨.hbm, 80, rfl⟩
abbrev main_cst_19 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_20 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_22 : Ref sig .tc := ⟨.hbm, 96, rfl⟩
abbrev main_v68 : Ref sig .tc := ⟨.hbm, 97, rfl⟩
abbrev main_v69 : Ref sig .tc := ⟨.hbm, 98, rfl⟩
abbrev main_cst_23 : Ref sig .tc := ⟨.hbm, 99, rfl⟩
abbrev main_v70 : Ref sig .tc := ⟨.hbm, 100, rfl⟩
abbrev main_v71 : Ref sig .tc := ⟨.hbm, 101, rfl⟩
abbrev main_cst_24 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c : Ref sig .tc := ⟨.hbm, 109, rfl⟩
abbrev main_call0_v0 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]
-- ==== KLnF.lean ====
abbrev S2x2064x4096 : Shape := ⟨3, ![2, 2064, 4096]⟩
abbrev S96x4096 : Shape := ⟨2, ![96, 4096]⟩
abbrev S1x4096 : Shape := ⟨2, ![1, 4096]⟩
abbrev S4128x4096 : Shape := ⟨2, ![4128, 4096]⟩
abbrev S4224x4096 : Shape := ⟨2, ![4224, 4096]⟩
abbrev S128x4096 : Shape := ⟨2, ![128, 4096]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S4224x4096, .f32⟩
  | .hbm, ⟨6, _⟩ => ⟨S4224x4096, .f32⟩
  | .hbm, ⟨7, _⟩ => ⟨S4224x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .bf16⟩
  | .local _ .vmem, ⟨7, _⟩ => ⟨S128x4096, .bf16⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RLnFIdeal.lean ====
abbrev S2x2064x4096 : Shape := ⟨3, ![2, 2064, 4096]⟩
abbrev S96x4096 : Shape := ⟨2, ![96, 4096]⟩
abbrev S1x4096 : Shape := ⟨2, ![1, 4096]⟩
abbrev S4128x4096 : Shape := ⟨2, ![4128, 4096]⟩
abbrev S4224x4096 : Shape := ⟨2, ![4224, 4096]⟩
abbrev S4096 : Shape := ⟨1, ![4096]⟩
abbrev S_ : Shape := ⟨0, ![]⟩
abbrev S4224 : Shape := ⟨1, ![4224]⟩
abbrev S4224x1 : Shape := ⟨2, ![4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096, .f32⟩
  | .hbm, ⟨3, _⟩ => ⟨S1x4096, .f32⟩
  | .hbm, ⟨4, _⟩ => ⟨S4128x4096, .f32⟩
  | .hbm, ⟨5, _⟩ => ⟨S4224x4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4224, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x4096, .f32⟩
  | .hbm, ⟨15, _⟩ => ⟨S4224x4096, .f32⟩
  | .hbm, ⟨16, _⟩ => ⟨S4224x4096, .f32⟩
  | .hbm, ⟨17, _⟩ => ⟨S_, .f32⟩
  | .hbm, ⟨18, _⟩ => ⟨S4224, .f32⟩
  | .hbm, ⟨19, _⟩ => ⟨S4224x1, .f32⟩
  | .hbm, ⟨20, _⟩ => ⟨S_, .f32⟩
  | .hbm, ⟨21, _⟩ => ⟨S4224x1, .f32⟩
  | .hbm, ⟨22, _⟩ => ⟨S4224x1, .f32⟩
  | .hbm, ⟨23, _⟩ => ⟨S_, .f32⟩
  | .hbm, ⟨24, _⟩ => ⟨S4224x1, .f32⟩
  | .hbm, ⟨25, _⟩ => ⟨S4224x1, .f32⟩
  | .hbm, ⟨26, _⟩ => ⟨S4224x1, .f32⟩
  | .hbm, ⟨27, _⟩ => ⟨S4224x4096, .f32⟩
  | .hbm, ⟨28, _⟩ => ⟨S4224x4096, .f32⟩
  | .hbm, ⟨29, _⟩ => ⟨S1x4096, .f32⟩
  | .hbm, ⟨30, _⟩ => ⟨S4224x4096, .f32⟩
  | .hbm, ⟨31, _⟩ => ⟨S4224x4096, .f32⟩
  | .hbm, ⟨32, _⟩ => ⟨S1x4096, .f32⟩
  | .hbm, ⟨33, _⟩ => ⟨S4224x4096, .f32⟩
  | .hbm, ⟨34, _⟩ => ⟨S4224x4096, .f32⟩
  | .hbm, ⟨35, _⟩ => ⟨S4224x4096, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== KGuF.lean ====
abbrev S2x2064x4096 : Shape := ⟨3, ![2, 2064, 4096]⟩
abbrev S96x4096 : Shape := ⟨2, ![96, 4096]⟩
abbrev S1x4096x22016 : Shape := ⟨3, ![1, 4096, 22016]⟩
abbrev S4128x4096 : Shape := ⟨2, ![4128, 4096]⟩
abbrev S4224x4096 : Shape := ⟨2, ![4224, 4096]⟩
abbrev S4096x22016 : Shape := ⟨2, ![4096, 22016]⟩
abbrev S4096x8x2752 : Shape := ⟨3, ![4096, 8, 2752]⟩
abbrev S8x4096x2752 : Shape := ⟨3, ![8, 4096, 2752]⟩
abbrev S4x2x4224x2752 : Shape := ⟨4, ![4, 2, 4224, 2752]⟩
abbrev S4x4224x2752 : Shape := ⟨3, ![4, 4224, 2752]⟩
abbrev S528x1024 : Shape := ⟨2, ![528, 1024]⟩
abbrev S1x1024x2752 : Shape := ⟨3, ![1, 1024, 2752]⟩
abbrev S1x2x528x2752 : Shape := ⟨4, ![1, 2, 528, 2752]⟩
abbrev S1x528x2752 : Shape := ⟨3, ![1, 528, 2752]⟩
abbrev S528x2752 : Shape := ⟨2, ![528, 2752]⟩
abbrev S1024x2752 : Shape := ⟨2, ![1024, 2752]⟩
abbrev S48x2752 : Shape := ⟨2, ![48, 2752]⟩
abbrev S1x1x48x2752 : Shape := ⟨4, ![1, 1, 48, 2752]⟩
abbrev S1x48x2752 : Shape := ⟨3, ![1, 48, 2752]⟩

abbrev nBuf : Space → Nat
  | .hbm => 12
  | .vmem => 12
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x22016, .f32⟩
  | .hbm, ⟨3, _⟩ => ⟨S4128x4096, .f32⟩
  | .hbm, ⟨4, _⟩ => ⟨S4224x4096, .f32⟩
  | .hbm, ⟨5, _⟩ => ⟨S4224x4096, .bf16⟩
  | .hbm, ⟨6, _⟩ => ⟨S4096x22016, .f32⟩
  | .hbm, ⟨7, _⟩ => ⟨S4096x22016, .bf16⟩
  | .hbm, ⟨8, _⟩ => ⟨S4096x8x2752, .bf16⟩
  | .hbm, ⟨9, _⟩ => ⟨S8x4096x2752, .bf16⟩
  | .hbm, ⟨10, _⟩ => ⟨S4x2x4224x2752, .bf16⟩
  | .hbm, ⟨11, _⟩ => ⟨S4x4224x2752, .bf16⟩
  | .local _ .vmem, ⟨0, _⟩ => ⟨S528x1024, .bf16⟩
  | .local _ .vmem, ⟨1, _⟩ => ⟨S528x1024, .bf16⟩
  | .local _ .vmem, ⟨2, _⟩ => ⟨S1x1024x2752, .bf16⟩
  | .local _ .vmem, ⟨3, _⟩ => ⟨S1x1024x2752, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1x2x528x2752, .bf16⟩
  | .local _ .vmem, ⟨7, _⟩ => ⟨S1x2x528x2752, .bf16⟩
  | .local _ .vmem, ⟨8, _⟩ => ⟨S1x528x2752, .bf16⟩
  | .local _ .vmem, ⟨9, _⟩ => ⟨S1x528x2752, .bf16⟩
  | .local _ .vmem, ⟨10, _⟩ => ⟨S528x2752, .f32⟩
  | .local _ .vmem, ⟨11, _⟩ => ⟨S528x2752, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  v10
def k0_off1 (k0_t1 : Fin k0_t1_loop.trips) : Fin 2 → Nat :=
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v12 : Index := Scalar.indexCast v11
  let c0 : Index := 0#32
  ![v12.toNat, 0]
def k0_off2 (k0_t1 : Fin k0_t1_loop.trips) : Fin 4 → Nat :=
  let c0_9 : Index := 0#32
  let c0_10 : Index := 0#32
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v25 : Index := Scalar.indexCast v11
  let c0_11 : Index := 0#32
  ![0, 0, v25.toNat, 0]
def k0_off3 (k0_t1 : Fin k0_t1_loop.trips) : Fin 4 → Nat :=
  let c0_12 : Index := 0#32
  let c1 : Index := 1#32
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v30 : Index := Scalar.indexCast v11
  let c0_13 : Index := 0#32
  ![0, 1, v30.toNat, 0]
def k0_off4 (k0_t1 : Fin k0_t1_loop.trips) : Fin 3 → Nat :=
  let c0_14 : Index := 0#32
  let c0_i32_4 : BitVec 32 := 0#32
  let c1_i32 : BitVec 32 := 1#32
  let arg10 : BitVec 32 := Scf.iv c0_i32_4 c1_i32 k0_t1
  let c48_i32 : BitVec 32 := 48#32
  let v10 : BitVec 32 := Scalar.muli arg10 c48_i32
  let v11 : BitVec 32 := v10
  let v36 : Index := Scalar.indexCast v11
  let c0_15 : Index := 0#32
  ![0, v36.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![v0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S528x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2x528x2752 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x528x2752 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RGuFIdeal.lean ====
abbrev S2x2064x4096 : Shape := ⟨3, ![2, 2064, 4096]⟩
abbrev S96x4096 : Shape := ⟨2, ![96, 4096]⟩
abbrev S1x4096x22016 : Shape := ⟨3, ![1, 4096, 22016]⟩
abbrev S4128x4096 : Shape := ⟨2, ![4128, 4096]⟩
abbrev S4224x4096 : Shape := ⟨2, ![4224, 4096]⟩
abbrev S4096x22016 : Shape := ⟨2, ![4096, 22016]⟩
abbrev S4224x22016 : Shape := ⟨2, ![4224, 22016]⟩
abbrev S4224x11008 : Shape := ⟨2, ![4224, 11008]⟩
abbrev S_ : Shape := ⟨0, ![]⟩
abbrev S4224x2x4x2752 : Shape := ⟨4, ![4224, 2, 4, 2752]⟩
abbrev S4x2x4224x2752 : Shape := ⟨4, ![4, 2, 4224, 2752]⟩
abbrev S4224x4x2752 : Shape := ⟨3, ![4224, 4, 2752]⟩
abbrev S4x4224x2752 : Shape := ⟨3, ![4, 4224, 2752]⟩

abbrev nBuf : Space → Nat
  | .hbm => 25
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x22016, .f32⟩
  | .hbm, ⟨3, _⟩ => ⟨S4128x4096, .f32⟩
  | .hbm, ⟨4, _⟩ => ⟨S4224x4096, .f32⟩
  | .hbm, ⟨5, _⟩ => ⟨S4096x22016, .f32⟩
  | .hbm, ⟨6, _⟩ => ⟨S4224x22016, .f32⟩
  | .hbm, ⟨7, _⟩ => ⟨S4224x11008, .f32⟩
  | .hbm, ⟨8, _⟩ => ⟨S4224x11008, .f32⟩
  | .hbm, ⟨9, _⟩ => ⟨S4224x11008, .f32⟩
  | .hbm, ⟨10, _⟩ => ⟨S4224x11008, .f32⟩
  | .hbm, ⟨11, _⟩ => ⟨S_, .f32⟩
  | .hbm, ⟨12, _⟩ => ⟨S4224x11008, .f32⟩
  | .hbm, ⟨13, _⟩ => ⟨S4224x11008, .f32⟩
  | .hbm, ⟨14, _⟩ => ⟨S_, .f32⟩
  | .hbm, ⟨15, _⟩ => ⟨S4224x11008, .f32⟩
  | .hbm, ⟨16, _⟩ => ⟨S4224x11008, .f32⟩
  | .hbm, ⟨17, _⟩ => ⟨S4224x11008, .f32⟩
  | .hbm, ⟨18, _⟩ => ⟨S4224x11008, .f32⟩
  | .hbm, ⟨19, _⟩ => ⟨S4224x2x4x2752, .f32⟩
  | .hbm, ⟨20, _⟩ => ⟨S4x2x4224x2752, .f32⟩
  | .hbm, ⟨21, _⟩ => ⟨S4x2x4224x2752, .bf16⟩
  | .hbm, ⟨22, _⟩ => ⟨S4224x4x2752, .f32⟩
  | .hbm, ⟨23, _⟩ => ⟨S4x4224x2752, .f32⟩
  | .hbm, ⟨24, _⟩ => ⟨S4x4224x2752, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== KConvF.lean ====
abbrev S2x2064x8192 : Shape := ⟨3, ![2, 2064, 8192]⟩
abbrev S96x8192 : Shape := ⟨2, ![96, 8192]⟩
abbrev S1x3x2048 : Shape := ⟨3, ![1, 3, 2048]⟩
abbrev S4128x8192 : Shape := ⟨2, ![4128, 8192]⟩
abbrev S4224x8192 : Shape := ⟨2, ![4224, 8192]⟩
abbrev S3x2048 : Shape := ⟨2, ![3, 2048]⟩
abbrev S4224x2048 : Shape := ⟨2, ![4224, 2048]⟩
abbrev S4224x128 : Shape := ⟨2, ![4224, 128]⟩
abbrev S3x128 : Shape := ⟨2, ![3, 128]⟩
abbrev S4224x1 : Shape := ⟨2, ![4224, 1]⟩
abbrev S1x128 : Shape := ⟨2, ![1, 128]⟩
abbrev S4128x2048 : Shape := ⟨2, ![4128, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2x2064x8192, .f32⟩
  | .hbm, ⟨1, _⟩ => ⟨S96x8192, .f32⟩
  | .hbm, ⟨2, _⟩ => ⟨S1x3x2048, .f32⟩
  | .hbm, ⟨3, _⟩ => ⟨S4128x8192, .f32⟩
  | .hbm, ⟨4, _⟩ => ⟨S4224x8192, .f32⟩
  | .hbm, ⟨5, _⟩ => ⟨S3x2048, .f32⟩
  | .hbm, ⟨6, _⟩ => ⟨S4224x2048, .bf16⟩
  | .hbm, ⟨7, _⟩ => ⟨S4128x2048, .bf16⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S3x128, .f32⟩
  | .local _ .vmem, ⟨7, _⟩ => ⟨S3x128, .f32⟩
  | .local _ .vmem, ⟨8, _⟩ => ⟨S4224x128, .bf16⟩
  | .local _ .vmem, ⟨9, _⟩ => ⟨S4224x128, .bf16⟩
  | _, _ => ⟨S2x2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4224x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RConvFIdeal.lean ====
abbrev S2x2064x8192 : Shape := ⟨3, ![2, 2064, 8192]⟩
abbrev S96x8192 : Shape := ⟨2, ![96, 8192]⟩
abbrev S1x3x2048 : Shape := ⟨3, ![1, 3, 2048]⟩
abbrev S2x2064x2048 : Shape := ⟨3, ![2, 2064, 2048]⟩
abbrev S3x2048 : Shape := ⟨2, ![3, 2048]⟩
abbrev S_ : Shape := ⟨0, ![]⟩
abbrev S2x2x2048 : Shape := ⟨3, ![2, 2, 2048]⟩
abbrev S2x2066x2048 : Shape := ⟨3, ![2, 2066, 2048]⟩
abbrev S1x2048 : Shape := ⟨2, ![1, 2048]⟩
abbrev S2048 : Shape := ⟨1, ![2048]⟩
abbrev S1x1x2048 : Shape := ⟨3, ![1, 1, 2048]⟩
abbrev S4128x2048 : Shape := ⟨2, ![4128, 2048]⟩

abbrev nBuf : Space → Nat
  | .hbm => 34
  | .vmem => 0
  | .smem => 0
  | _ => 0

abbrev bufTy : (tb : Table) → Fin (tcTables nBuf tb) → BufTy
  | .hbm, ⟨0, _⟩ => ⟨S2x2064x8192, .f32⟩
  | .hbm, ⟨1, _⟩ => ⟨S96x8192, .f32⟩
  | .hbm, ⟨2, _⟩ => ⟨S1x3x2048, .f32⟩
  | .hbm, ⟨3, _⟩ => ⟨S2x2064x2048, .f32⟩
  | .hbm, ⟨4, _⟩ => ⟨S2x2064x2048, .f32⟩
  | .hbm, ⟨5, _⟩ => ⟨S2x2064x2048, .f32⟩
  | .hbm, ⟨6, _⟩ => ⟨S2x2064x2048, .f32⟩
  | .hbm, ⟨7, _⟩ => ⟨S3x2048, .f32⟩
  | .hbm, ⟨8, _⟩ => ⟨S_, .f32⟩
  | .hbm, ⟨9, _⟩ => ⟨S2x2x2048, .f32⟩
  | .hbm, ⟨10, _⟩ => ⟨S2x2066x2048, .f32⟩
  | .hbm, ⟨11, _⟩ => ⟨S2x2064x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S2x2064x2048, .f32⟩
  | .hbm, ⟨16, _⟩ => ⟨S2x2064x2048, .f32⟩
  | .hbm, ⟨17, _⟩ => ⟨S2x2064x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S2x2064x2048, .f32⟩
  | .hbm, ⟨22, _⟩ => ⟨S2x2064x2048, .f32⟩
  | .hbm, ⟨23, _⟩ => ⟨S2x2064x2048, .f32⟩
  | .hbm, ⟨24, _⟩ => ⟨S2x2064x2048, .f32⟩
  | .hbm, ⟨25, _⟩ => ⟨S1x2048, .f32⟩
  | .hbm, ⟨26, _⟩ => ⟨S2048, .f32⟩
  | .hbm, ⟨27, _⟩ => ⟨S1x1x2048, .f32⟩
  | .hbm, ⟨28, _⟩ => ⟨S2x2064x2048, .f32⟩
  | .hbm, ⟨29, _⟩ => ⟨S2x2064x2048, .f32⟩
  | .hbm, ⟨30, _⟩ => ⟨S2x2064x2048, .f32⟩
  | .hbm, ⟨31, _⟩ => ⟨S2x2064x2048, .f32⟩
  | .hbm, ⟨32, _⟩ => ⟨S4128x2048, .f32⟩
  | .hbm, ⟨33, _⟩ => ⟨S4128x2048, .bf16⟩
  | _, _ => ⟨S2x2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== KPoolF.lean ====
abbrev S2x2064x8192 : Shape := ⟨3, ![2, 2064, 8192]⟩
abbrev S96x8192 : Shape := ⟨2, ![96, 8192]⟩
abbrev S4128x8192 : Shape := ⟨2, ![4128, 8192]⟩
abbrev S4224x8192 : Shape := ⟨2, ![4224, 8192]⟩
abbrev S4224x2048 : Shape := ⟨2, ![4224, 2048]⟩
abbrev S4224x128 : Shape := ⟨2, ![4224, 128]⟩
abbrev S4224x1 : Shape := ⟨2, ![4224, 1]⟩
abbrev S4128x2048 : Shape := ⟨2, ![4128, 2048]⟩

abbrev nBuf : Space → Nat
  | .hbm => 6
  | .vmem => 4
  | .smem => 0
  | _ => 0

abbrev bufTy : (tb : Table) → Fin (tcTables nBuf tb) → BufTy
  | .hbm, ⟨0, _⟩ => ⟨S2x2064x8192, .f32⟩
  | .hbm, ⟨1, _⟩ => ⟨S96x8192, .f32⟩
  | .hbm, ⟨2, _⟩ => ⟨S4128x8192, .f32⟩
  | .hbm, ⟨3, _⟩ => ⟨S4224x8192, .f32⟩
  | .hbm, ⟨4, _⟩ => ⟨S4224x2048, .bf16⟩
  | .hbm, ⟨5, _⟩ => ⟨S4128x2048, .bf16⟩
  | .local _ .vmem, ⟨0, _⟩ => ⟨S4224x128, .f32⟩
  | .local _ .vmem, ⟨1, _⟩ => ⟨S4224x128, .f32⟩
  | .local _ .vmem, ⟨2, _⟩ => ⟨S4224x128, .bf16⟩
  | .local _ .vmem, ⟨3, _⟩ => ⟨S4224x128, .bf16⟩
  | _, _ => ⟨S2x2064x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RPoolFIdeal.lean ====
abbrev S2x2064x8192 : Shape := ⟨3, ![2, 2064, 8192]⟩
abbrev S96x8192 : Shape := ⟨2, ![96, 8192]⟩
abbrev S2x2064x2048 : Shape := ⟨3, ![2, 2064, 2048]⟩
abbrev S2x2064x4x512 : Shape := ⟨4, ![2, 2064, 4, 512]⟩
abbrev S2x2064x1x512 : Shape := ⟨4, ![2, 2064, 1, 512]⟩
abbrev S2x2064x512 : Shape := ⟨3, ![2, 2064, 512]⟩
abbrev S_ : Shape := ⟨0, ![]⟩
abbrev S2x2x512 : Shape := ⟨3, ![2, 2, 512]⟩
abbrev S2x2066x512 : Shape := ⟨3, ![2, 2066, 512]⟩
abbrev S2064 : Shape := ⟨1, ![2064]⟩
abbrev S1x2064x1 : Shape := ⟨3, ![1, 2064, 1]⟩
abbrev S2x4x512 : Shape := ⟨3, ![2, 4, 512]⟩
abbrev S2x2068x512 : Shape := ⟨3, ![2, 2068, 512]⟩
abbrev S2x8x512 : Shape := ⟨3, ![2, 8, 512]⟩
abbrev S2x2072x512 : Shape := ⟨3, ![2, 2072, 512]⟩
abbrev S2x16x512 : Shape := ⟨3, ![2, 16, 512]⟩
abbrev S2x2080x512 : Shape := ⟨3, ![2, 2080, 512]⟩
abbrev S4128x2048 : Shape := ⟨2, ![4128, 2048]⟩

abbrev nBuf : Space → Nat
  | .hbm => 96
  | .vmem => 0
  | .smem => 0
  | _ => 0

abbrev bufTy : (tb : Table) → Fin (tcTables nBuf tb) → BufTy
  | .hbm, ⟨0, _⟩ => ⟨S2x2064x8192, .f32⟩
  | .hbm, ⟨1, _⟩ => ⟨S96x8192, .f32⟩
  | .hbm, ⟨2, _⟩ => ⟨S2x2064x2048, .f32⟩
  | .hbm, ⟨3, _⟩ => ⟨S2x2064x4x512, .f32⟩
  | .hbm, ⟨4, _⟩ => ⟨S2x2064x1x512, .f32⟩
  | .hbm, ⟨5, _⟩ => ⟨S2x2064x512, .f32⟩
  | .hbm, ⟨6, _⟩ => ⟨S_, .f32⟩
  | .hbm, ⟨7, _⟩ => ⟨S_, .f32⟩
  | .hbm, ⟨8, _⟩ => ⟨S2x2064x512, .f32⟩
  | .hbm, ⟨9, _⟩ => ⟨S_, .f32⟩
  | .hbm, ⟨10, _⟩ => ⟨S2x2x512, .f32⟩
  | .hbm, ⟨11, _⟩ => ⟨S2x2066x512, .f32⟩
  | .hbm, ⟨12, _⟩ => ⟨S2x2064x512, .f32⟩
  | .hbm, ⟨13, _⟩ => ⟨S2064, .i32⟩
  | .hbm, ⟨14, _⟩ => ⟨S_, .i32⟩
  | .hbm, ⟨15, _⟩ => ⟨S2064, .i32⟩
  | .hbm, ⟨16, _⟩ => ⟨S2064, .i32⟩
  | .hbm, ⟨17, _⟩ => ⟨S_, .i32⟩
  | .hbm, ⟨18, _⟩ => ⟨S2064, .i32⟩
  | .hbm, ⟨19, _⟩ => ⟨S2064, .i32⟩
  | .hbm, ⟨20, _⟩ => ⟨S2064, .f32⟩
  | .hbm, ⟨21, _⟩ => ⟨S2x2064x512, .f32⟩
  | .hbm, ⟨22, _⟩ => ⟨S1x2064x1, .f32⟩
  | .hbm, ⟨23, _⟩ => ⟨S2x2064x512, .f32⟩
  | .hbm, ⟨24, _⟩ => ⟨S2x2064x512, .f32⟩
  | .hbm, ⟨25, _⟩ => ⟨S2x2064x1x512, .f32⟩
  | .hbm, ⟨26, _⟩ => ⟨S2x2064x512, .f32⟩
  | .hbm, ⟨27, _⟩ => ⟨S_, .f32⟩
  | .hbm, ⟨28, _⟩ => ⟨S_, .f32⟩
  | .hbm, ⟨29, _⟩ => ⟨S2x2064x512, .f32⟩
  | .hbm, ⟨30, _⟩ => ⟨S_, .f32⟩
  | .hbm, ⟨31, _⟩ => ⟨S2x4x512, .f32⟩
  | .hbm, ⟨32, _⟩ => ⟨S2x2068x512, .f32⟩
  | .hbm, ⟨33, _⟩ => ⟨S2x2064x512, .f32⟩
  | .hbm, ⟨34, _⟩ => ⟨S2064, .i32⟩
  | .hbm, ⟨35, _⟩ => ⟨S_, .i32⟩
  | .hbm, ⟨36, _⟩ => ⟨S2064, .i32⟩
  | .hbm, ⟨37, _⟩ => ⟨S2064, .i32⟩
  | .hbm, ⟨38, _⟩ => ⟨S_, .i32⟩
  | .hbm, ⟨39, _⟩ => ⟨S2064, .i32⟩
  | .hbm, ⟨40, _⟩ => ⟨S2064, .i32⟩
  | .hbm, ⟨41, _⟩ => ⟨S2064, .f32⟩
  | .hbm, ⟨42, _⟩ => ⟨S2x2064x512, .f32⟩
  | .hbm, ⟨43, _⟩ => ⟨S1x2064x1, .f32⟩
  | .hbm, ⟨44, _⟩ => ⟨S2x2064x512, .f32⟩
  | .hbm, ⟨45, _⟩ => ⟨S2x2064x512, .f32⟩
  | .hbm, ⟨46, _⟩ => ⟨S2x2064x1x512, .f32⟩
  | .hbm, ⟨47, _⟩ => ⟨S2x2064x512, .f32⟩
  | .hbm, ⟨48, _⟩ => ⟨S_, .f32⟩
  | .hbm, ⟨49, _⟩ => ⟨S_, .f32⟩
  | .hbm, ⟨50, _⟩ => ⟨S2x2064x512, .f32⟩
  | .hbm, ⟨51, _⟩ => ⟨S_, .f32⟩
  | .hbm, ⟨52, _⟩ => ⟨S2x8x512, .f32⟩
  | .hbm, ⟨53, _⟩ => ⟨S2x2072x512, .f32⟩
  | .hbm, ⟨54, _⟩ => ⟨S2x2064x512, .f32⟩
  | .hbm, ⟨55, _⟩ => ⟨S2064, .i32⟩
  | .hbm, ⟨56, _⟩ => ⟨S_, .i32⟩
  | .hbm, ⟨57, _⟩ => ⟨S2064, .i32⟩
  | .hbm, ⟨58, _⟩ => ⟨S2064, .i32⟩
  | .hbm, ⟨59, _⟩ => ⟨S_, .i32⟩
  | .hbm, ⟨60, _⟩ => ⟨S2064, .i32⟩
  | .hbm, ⟨61, _⟩ => ⟨S2064, .i32⟩
  | .hbm, ⟨62, _⟩ => ⟨S2064, .f32⟩
  | .hbm, ⟨63, _⟩ => ⟨S2x2064x512, .f32⟩
  | .hbm, ⟨64, _⟩ => ⟨S1x2064x1, .f32⟩
  | .hbm, ⟨65, _⟩ => ⟨S2x2064x512, .f32⟩
  | .hbm, ⟨66, _⟩ => ⟨S2x2064x512, .f32⟩
  | .hbm, ⟨67, _⟩ => ⟨S2x2064x1x512, .f32⟩
  | .hbm, ⟨68, _⟩ => ⟨S2x2064x512, .f32⟩
  | .hbm, ⟨69, _⟩ => ⟨S_, .f32⟩
  | .hbm, ⟨70, _⟩ => ⟨S_, .f32⟩
  | .hbm, ⟨71, _⟩ => ⟨S2x2064x512, .f32⟩
  | .hbm, ⟨72, _⟩ => ⟨S_, .f32⟩
  | .hbm, ⟨73, _⟩ => ⟨S2x16x512, .f32⟩
  | .hbm, ⟨74, _⟩ => ⟨S2x2080x512, .f32⟩
  | .hbm, ⟨75, _⟩ => ⟨S2x2064x512, .f32⟩
  | .hbm, ⟨76, _⟩ => ⟨S2064, .i32⟩
  | .hbm, ⟨77, _⟩ => ⟨S_, .i32⟩
  | .hbm, ⟨78, _⟩ => ⟨S2064, .i32⟩
  | .hbm, ⟨79, _⟩ => ⟨S2064, .i32⟩
  | .hbm, ⟨80, _⟩ => ⟨S_, .i32⟩
  | .hbm, ⟨81, _⟩ => ⟨S2064, .i32⟩
  | .hbm, ⟨82, _⟩ => ⟨S2064, .i32⟩
  | .hbm, ⟨83, _⟩ => ⟨S2064, .f32⟩
  | .hbm, ⟨84, _⟩ => ⟨S2x2064x512, .f32⟩
  | .hbm, ⟨85, _⟩ => ⟨S1x2064x1, .f32⟩
  | .hbm, ⟨86, _⟩ => ⟨S2x2064x512, .f32⟩
  | .hbm, ⟨87, _⟩ => ⟨S2x2064x512, .f32⟩
  | .hbm, ⟨88, _⟩ => ⟨S2x2064x1x512, .f32⟩
  | .hbm, ⟨89, _⟩ => ⟨S2x2064x1x512, .f32⟩
  | .hbm, ⟨90, _⟩ => ⟨S2x2064x1x512, .f32⟩
  | .hbm, ⟨91, _⟩ => ⟨S2x2064x1x512, .f32⟩
  | .hbm, ⟨92, _⟩ => ⟨S2x2064x4x512, .f32⟩
  | .hbm, ⟨93, _⟩ => ⟨S2x2064x4x512, .f32⟩
  | .hbm, ⟨94, _⟩ => ⟨S4128x2048, .f32⟩
  | .hbm, ⟨95, _⟩ => ⟨S4128x2048, .bf16⟩
  | _, _ => ⟨S2x2064x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_call0_cst : Ref sig .tc := ⟨.hbm, 6, rfl⟩
abbrev main_call0_call0_v0 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call1_call0_cst : Ref sig .tc := ⟨.hbm, 27, rfl⟩
abbrev main_call1_call0_v0 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_call2_call0_cst : Ref sig .tc := ⟨.hbm, 48, rfl⟩
abbrev main_call2_call0_v0 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_call3_call0_cst : Ref sig .tc := ⟨.hbm, 69, rfl⟩
abbrev main_call3_call0_v0 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_8 : Ref sig .tc := ⟨.hbm, 77, rfl⟩
abbrev main_v57 : Ref sig .tc := ⟨.hbm, 78, rfl⟩
abbrev main_v58 : Ref sig .tc := ⟨.hbm, 79, rfl⟩
abbrev main_c_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== KMixF.lean ====
abbrev S2x2064x2048 : Shape := ⟨3, ![2, 2064, 2048]⟩
abbrev S96x2048 : Shape := ⟨2, ![96, 2048]⟩
abbrev S1x4x512x512 : Shape := ⟨4, ![1, 4, 512, 512]⟩
abbrev S1x2048 : Shape := ⟨2, ![1, 2048]⟩
abbrev S4128x2048 : Shape := ⟨2, ![4128, 2048]⟩
abbrev S4224x2048 : Shape := ⟨2, ![4224, 2048]⟩
abbrev S4x512x512 : Shape := ⟨3, ![4, 512, 512]⟩
abbrev S1408x512 : Shape := ⟨2, ![1408, 512]⟩
abbrev S1x512x512 : Shape := ⟨3, ![1, 512, 512]⟩
abbrev S1x512 : Shape := ⟨2, ![1, 512]⟩
abbrev S512x512 : Shape := ⟨2, ![512, 512]⟩

abbrev nBuf : Space → Nat
  | .hbm => 11
  | .vmem => 10
  | .smem => 0
  | _ => 0

abbrev bufTy : (tb : Table) → Fin (tcTables nBuf tb) → BufTy
  | .hbm, ⟨0, _⟩ => ⟨S2x2064x2048, .f32⟩
  | .hbm, ⟨1, _⟩ => ⟨S96x2048, .f32⟩
  | .hbm, ⟨2, _⟩ => ⟨S1x4x512x512, .f32⟩
  | .hbm, ⟨3, _⟩ => ⟨S1x2048, .f32⟩
  | .hbm, ⟨4, _⟩ => ⟨S4128x2048, .f32⟩
  | .hbm, ⟨5, _⟩ => ⟨S4224x2048, .f32⟩
  | .hbm, ⟨6, _⟩ => ⟨S4224x2048, .bf16⟩
  | .hbm, ⟨7, _⟩ => ⟨S4x512x512, .f32⟩
  | .hbm, ⟨8, _⟩ => ⟨S4x512x512, .bf16⟩
  | .hbm, ⟨9, _⟩ => ⟨S4224x2048, .f32⟩
  | .hbm, ⟨10, _⟩ => ⟨S4224x2048, .bf16⟩
  | .local _ .vmem, ⟨0, _⟩ => ⟨S1408x512, .bf16⟩
  | .local _ .vmem, ⟨1, _⟩ => ⟨S1408x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512, .f32⟩
  | .local _ .vmem, ⟨5, _⟩ => ⟨S1x512, .f32⟩
  | .local _ .vmem, ⟨6, _⟩ => ⟨S1408x512, .f32⟩
  | .local _ .vmem, ⟨7, _⟩ => ⟨S1408x512, .f32⟩
  | .local _ .vmem, ⟨8, _⟩ => ⟨S1408x512, .bf16⟩
  | .local _ .vmem, ⟨9, _⟩ => ⟨S1408x512, .bf16⟩
  | _, _ => ⟨S2x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RMixFIdeal.lean ====
abbrev S2x2064x2048 : Shape := ⟨3, ![2, 2064, 2048]⟩
abbrev S96x2048 : Shape := ⟨2, ![96, 2048]⟩
abbrev S1x4x512x512 : Shape := ⟨4, ![1, 4, 512, 512]⟩
abbrev S1x2048 : Shape := ⟨2, ![1, 2048]⟩
abbrev S4128x2048 : Shape := ⟨2, ![4128, 2048]⟩
abbrev S4224x2048 : Shape := ⟨2, ![4224, 2048]⟩
abbrev S4224x4x512 : Shape := ⟨3, ![4224, 4, 512]⟩
abbrev S4x512x512 : Shape := ⟨3, ![4, 512, 512]⟩
abbrev S4x512x4224 : Shape := ⟨3, ![4, 512, 4224]⟩
abbrev S2048 : Shape := ⟨1, ![2048]⟩

abbrev nBuf : Space → Nat
  | .hbm => 16
  | .vmem => 0
  | .smem => 0
  | _ => 0

abbrev bufTy : (tb : Table) → Fin (tcTables nBuf tb) → BufTy
  | .hbm, ⟨0, _⟩ => ⟨S2x2064x2048, .f32⟩
  | .hbm, ⟨1, _⟩ => ⟨S96x2048, .f32⟩
  | .hbm, ⟨2, _⟩ => ⟨S1x4x512x512, .f32⟩
  | .hbm, ⟨3, _⟩ => ⟨S1x2048, .f32⟩
  | .hbm, ⟨4, _⟩ => ⟨S4128x2048, .f32⟩
  | .hbm, ⟨5, _⟩ => ⟨S4224x2048, .f32⟩
  | .hbm, ⟨6, _⟩ => ⟨S4224x4x512, .f32⟩
  | .hbm, ⟨7, _⟩ => ⟨S4x512x512, .f32⟩
  | .hbm, ⟨8, _⟩ => ⟨S4x512x4224, .f32⟩
  | .hbm, ⟨9, _⟩ => ⟨S4224x4x512, .f32⟩
  | .hbm, ⟨10, _⟩ => ⟨S4224x2048, .f32⟩
  | .hbm, ⟨11, _⟩ => ⟨S2048, .f32⟩
  | .hbm, ⟨12, _⟩ => ⟨S1x2048, .f32⟩
  | .hbm, ⟨13, _⟩ => ⟨S4224x2048, .f32⟩
  | .hbm, ⟨14, _⟩ => ⟨S4224x2048, .f32⟩
  | .hbm, ⟨15, _⟩ => ⟨S4224x2048, .bf16⟩
  | _, _ => ⟨S2x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KPoolIn.lean ====
abbrev S2x2064x2048 : Shape := ⟨3, ![2, 2064, 2048]⟩
abbrev S1x4x512x512 : Shape := ⟨4, ![1, 4, 512, 512]⟩
abbrev S4128x2048 : Shape := ⟨2, ![4128, 2048]⟩
abbrev S_ : Shape := ⟨0, ![]⟩
abbrev S4224x2048 : Shape := ⟨2, ![4224, 2048]⟩
abbrev S4x512x512 : Shape := ⟨3, ![4, 512, 512]⟩
abbrev S1408x512 : Shape := ⟨2, ![1408, 512]⟩
abbrev S1x512x512 : Shape := ⟨3, ![1, 512, 512]⟩
abbrev S512x512 : Shape := ⟨2, ![512, 512]⟩

abbrev nBuf : Space → Nat
  | .hbm => 11
  | .vmem => 6
  | .smem => 0
  | _ => 0

abbrev bufTy : (tb : Table) → Fin (tcTables nBuf tb) → BufTy
  | .hbm, ⟨0, _⟩ => ⟨S2x2064x2048, .f32⟩
  | .hbm, ⟨1, _⟩ => ⟨S1x4x512x512, .f32⟩
  | .hbm, ⟨2, _⟩ => ⟨S2x2064x2048, .f32⟩
  | .hbm, ⟨3, _⟩ => ⟨S4128x2048, .f32⟩
  | .hbm, ⟨4, _⟩ => ⟨S_, .i32⟩
  | .hbm, ⟨5, _⟩ => ⟨S_, .f32⟩
  | .hbm, ⟨6, _⟩ => ⟨S4224x2048, .f32⟩
  | .hbm, ⟨7, _⟩ => ⟨S4224x2048, .bf16⟩
  | .hbm, ⟨8, _⟩ => ⟨S4x512x512, .f32⟩
  | .hbm, ⟨9, _⟩ => ⟨S4x512x512, .bf16⟩
  | .hbm, ⟨10, _⟩ => ⟨S4224x2048, .f32⟩
  | .local _ .vmem, ⟨0, _⟩ => ⟨S1408x512, .bf16⟩
  | .local _ .vmem, ⟨1, _⟩ => ⟨S1408x512, .bf16⟩
  | .local _ .vmem, ⟨2, _⟩ => ⟨S1x512x512, .bf16⟩
  | .local _ .vmem, ⟨3, _⟩ => ⟨S1x512x512, .bf16⟩
  | .local _ .vmem, ⟨4, _⟩ => ⟨S1408x512, .f32⟩
  | .local _ .vmem, ⟨5, _⟩ => ⟨S1408x512, .f32⟩
  | _, _ => ⟨S2x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RPoolInIdeal.lean ====
abbrev S2x2064x2048 : Shape := ⟨3, ![2, 2064, 2048]⟩
abbrev S1x4x512x512 : Shape := ⟨4, ![1, 4, 512, 512]⟩
abbrev S2x2064x4x512 : Shape := ⟨4, ![2, 2064, 4, 512]⟩
abbrev S4x512x512 : Shape := ⟨3, ![4, 512, 512]⟩
abbrev S4x512x2x2064 : Shape := ⟨4, ![4, 512, 2, 2064]⟩
abbrev S4x2x2064x512 : Shape := ⟨4, ![4, 2, 2064, 512]⟩
abbrev S4128x2048 : Shape := ⟨2, ![4128, 2048]⟩
abbrev S_ : Shape := ⟨0, ![]⟩
abbrev S4224x2048 : Shape := ⟨2, ![4224, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2x2064x2048, .f32⟩
  | .hbm, ⟨1, _⟩ => ⟨S1x4x512x512, .f32⟩
  | .hbm, ⟨2, _⟩ => ⟨S2x2064x2048, .f32⟩
  | .hbm, ⟨3, _⟩ => ⟨S2x2064x4x512, .f32⟩
  | .hbm, ⟨4, _⟩ => ⟨S4x512x512, .f32⟩
  | .hbm, ⟨5, _⟩ => ⟨S4x512x2x2064, .f32⟩
  | .hbm, ⟨6, _⟩ => ⟨S2x2064x4x512, .f32⟩
  | .hbm, ⟨7, _⟩ => ⟨S2x2064x2048, .f32⟩
  | .hbm, ⟨8, _⟩ => ⟨S2x2064x4x512, .f32⟩
  | .hbm, ⟨9, _⟩ => ⟨S4x512x2x2064, .f32⟩
  | .hbm, ⟨10, _⟩ => ⟨S4x2x2064x512, .f32⟩
  | .hbm, ⟨11, _⟩ => ⟨S2x2064x4x512, .f32⟩
  | .hbm, ⟨12, _⟩ => ⟨S2x2064x2048, .f32⟩
  | .hbm, ⟨13, _⟩ => ⟨S4128x2048, .f32⟩
  | .hbm, ⟨14, _⟩ => ⟨S_, .i32⟩
  | .hbm, ⟨15, _⟩ => ⟨S_, .f32⟩
  | .hbm, ⟨16, _⟩ => ⟨S4224x2048, .f32⟩
  | _, _ => ⟨S2x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KOutY.lean ====
abbrev S2x2064x4096 : Shape := ⟨3, ![2, 2064, 4096]⟩
abbrev S1x4096x4096 : Shape := ⟨3, ![1, 4096, 4096]⟩
abbrev S4128x4096 : Shape := ⟨2, ![4128, 4096]⟩
abbrev S_ : Shape := ⟨0, ![]⟩
abbrev S4224x4096 : Shape := ⟨2, ![4224, 4096]⟩
abbrev S4096x4096 : Shape := ⟨2, ![4096, 4096]⟩
abbrev S8x512x4096 : Shape := ⟨3, ![8, 512, 4096]⟩
abbrev S1408x4096 : Shape := ⟨2, ![1408, 4096]⟩
abbrev S1x512x4096 : Shape := ⟨3, ![1, 512, 4096]⟩
abbrev S1408x512 : Shape := ⟨2, ![1408, 512]⟩
abbrev S512x4096 : Shape := ⟨2, ![512, 4096]⟩

abbrev nBuf : Space → Nat
  | .hbm => 12
  | .vmem => 6
  | .smem => 0
  | _ => 0

abbrev bufTy : (tb : Table) → Fin (tcTables nBuf tb) → BufTy
  | .hbm, ⟨0, _⟩ => ⟨S2x2064x4096, .f32⟩
  | .hbm, ⟨1, _⟩ => ⟨S1x4096x4096, .f32⟩
  | .hbm, ⟨2, _⟩ => ⟨S2x2064x4096, .f32⟩
  | .hbm, ⟨3, _⟩ => ⟨S4128x4096, .f32⟩
  | .hbm, ⟨4, _⟩ => ⟨S_, .i32⟩
  | .hbm, ⟨5, _⟩ => ⟨S_, .f32⟩
  | .hbm, ⟨6, _⟩ => ⟨S4224x4096, .f32⟩
  | .hbm, ⟨7, _⟩ => ⟨S4224x4096, .bf16⟩
  | .hbm, ⟨8, _⟩ => ⟨S4096x4096, .f32⟩
  | .hbm, ⟨9, _⟩ => ⟨S8x512x4096, .f32⟩
  | .hbm, ⟨10, _⟩ => ⟨S8x512x4096, .bf16⟩
  | .hbm, ⟨11, _⟩ => ⟨S4224x4096, .f32⟩
  | .local _ .vmem, ⟨0, _⟩ => ⟨S1408x4096, .bf16⟩
  | .local _ .vmem, ⟨1, _⟩ => ⟨S1408x4096, .bf16⟩
  | .local _ .vmem, ⟨2, _⟩ => ⟨S1x512x4096, .bf16⟩
  | .local _ .vmem, ⟨3, _⟩ => ⟨S1x512x4096, .bf16⟩
  | .local _ .vmem, ⟨4, _⟩ => ⟨S1408x512, .f32⟩
  | .local _ .vmem, ⟨5, _⟩ => ⟨S1408x512, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutYIdeal.lean ====
abbrev S2x2064x4096 : Shape := ⟨3, ![2, 2064, 4096]⟩
abbrev S1x4096x4096 : Shape := ⟨3, ![1, 4096, 4096]⟩
abbrev S4096x4096 : Shape := ⟨2, ![4096, 4096]⟩
abbrev S4128x4096 : Shape := ⟨2, ![4128, 4096]⟩
abbrev S_ : Shape := ⟨0, ![]⟩
abbrev S4224x4096 : Shape := ⟨2, ![4224, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S1x4096x4096, .f32⟩
  | .hbm, ⟨2, _⟩ => ⟨S2x2064x4096, .f32⟩
  | .hbm, ⟨3, _⟩ => ⟨S4096x4096, .f32⟩
  | .hbm, ⟨4, _⟩ => ⟨S2x2064x4096, .f32⟩
  | .hbm, ⟨5, _⟩ => ⟨S2x2064x4096, .f32⟩
  | .hbm, ⟨6, _⟩ => ⟨S4128x4096, .f32⟩
  | .hbm, ⟨7, _⟩ => ⟨S_, .i32⟩
  | .hbm, ⟨8, _⟩ => ⟨S_, .f32⟩
  | .hbm, ⟨9, _⟩ => ⟨S4224x4096, .f32⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== KPoolW.lean ====
abbrev S2x2064x2048 : Shape := ⟨3, ![2, 2064, 2048]⟩
abbrev S96x2048 : Shape := ⟨2, ![96, 2048]⟩
abbrev S1x4x512x512 : Shape := ⟨4, ![1, 4, 512, 512]⟩
abbrev S4128x2048 : Shape := ⟨2, ![4128, 2048]⟩
abbrev S4224x2048 : Shape := ⟨2, ![4224, 2048]⟩
abbrev S_ : Shape := ⟨0, ![]⟩
abbrev S4x512x512 : Shape := ⟨3, ![4, 512, 512]⟩
abbrev S1408x512 : Shape := ⟨2, ![1408, 512]⟩
abbrev S1x512x512 : Shape := ⟨3, ![1, 512, 512]⟩
abbrev S512x512 : Shape := ⟨2, ![512, 512]⟩
abbrev S64x512 : Shape := ⟨2, ![64, 512]⟩
abbrev S1x64x512 : Shape := ⟨3, ![1, 64, 512]⟩

abbrev nBuf : Space → Nat
  | .hbm => 13
  | .vmem => 7
  | .smem => 0
  | _ => 0

abbrev bufTy : (tb : Table) → Fin (tcTables nBuf tb) → BufTy
  | .hbm, ⟨0, _⟩ => ⟨S2x2064x2048, .f32⟩
  | .hbm, ⟨1, _⟩ => ⟨S96x2048, .f32⟩
  | .hbm, ⟨2, _⟩ => ⟨S1x4x512x512, .f32⟩
  | .hbm, ⟨3, _⟩ => ⟨S2x2064x2048, .f32⟩
  | .hbm, ⟨4, _⟩ => ⟨S4128x2048, .f32⟩
  | .hbm, ⟨5, _⟩ => ⟨S4224x2048, .f32⟩
  | .hbm, ⟨6, _⟩ => ⟨S4224x2048, .bf16⟩
  | .hbm, ⟨7, _⟩ => ⟨S4128x2048, .f32⟩
  | .hbm, ⟨8, _⟩ => ⟨S_, .i32⟩
  | .hbm, ⟨9, _⟩ => ⟨S_, .f32⟩
  | .hbm, ⟨10, _⟩ => ⟨S4224x2048, .f32⟩
  | .hbm, ⟨11, _⟩ => ⟨S4224x2048, .bf16⟩
  | .hbm, ⟨12, _⟩ => ⟨S4x512x512, .f32⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1x512x512, .f32⟩
  | .local _ .vmem, ⟨5, _⟩ => ⟨S1x512x512, .f32⟩
  | .local _ .vmem, ⟨6, _⟩ => ⟨S512x512, .f32⟩
  | _, _ => ⟨S2x2064x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v6 : BitVec 1 := Scalar.cmpi .eq arg1 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg6 : BitVec 32 := Scf.iv c0_i32_4 c1_i32 k0_t1
  let c64_i32 : BitVec 32 := 64#32
  let v10 : BitVec 32 := Scalar.muli arg6 c64_i32
  v10
def k0_off1 (k0_t1 : Fin k0_t1_loop.trips) : Fin 2 → Nat :=
  let c0_i32_4 : BitVec 32 := 0#32
  let c1_i32 : BitVec 32 := 1#32
  let arg6 : BitVec 32 := Scf.iv c0_i32_4 c1_i32 k0_t1
  let c64_i32 : BitVec 32 := 64#32
  let v10 : BitVec 32 := Scalar.muli arg6 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg6 : BitVec 32 := Scf.iv c0_i32_4 c1_i32 k0_t1
  let c64_i32 : BitVec 32 := 64#32
  let v10 : BitVec 32 := Scalar.muli arg6 c64_i32
  let v11 : BitVec 32 := v10
  let v14 : Index := Scalar.indexCast v11
  let c0_7 : Index := 0#32
  ![0, v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RPoolWIdeal.lean ====
abbrev S2x2064x2048 : Shape := ⟨3, ![2, 2064, 2048]⟩
abbrev S96x2048 : Shape := ⟨2, ![96, 2048]⟩
abbrev S1x4x512x512 : Shape := ⟨4, ![1, 4, 512, 512]⟩
abbrev S2x2064x4x512 : Shape := ⟨4, ![2, 2064, 4, 512]⟩
abbrev S4x512x512 : Shape := ⟨3, ![4, 512, 512]⟩
abbrev S4x512x2x2064 : Shape := ⟨4, ![4, 512, 2, 2064]⟩

abbrev nBuf : Space → Nat
  | .hbm => 15
  | .vmem => 0
  | .smem => 0
  | _ => 0

abbrev bufTy : (tb : Table) → Fin (tcTables nBuf tb) → BufTy
  | .hbm, ⟨0, _⟩ => ⟨S2x2064x2048, .f32⟩
  | .hbm, ⟨1, _⟩ => ⟨S96x2048, .f32⟩
  | .hbm, ⟨2, _⟩ => ⟨S1x4x512x512, .f32⟩
  | .hbm, ⟨3, _⟩ => ⟨S2x2064x2048, .f32⟩
  | .hbm, ⟨4, _⟩ => ⟨S2x2064x4x512, .f32⟩
  | .hbm, ⟨5, _⟩ => ⟨S4x512x512, .f32⟩
  | .hbm, ⟨6, _⟩ => ⟨S4x512x2x2064, .f32⟩
  | .hbm, ⟨7, _⟩ => ⟨S2x2064x4x512, .f32⟩
  | .hbm, ⟨8, _⟩ => ⟨S2x2064x2048, .f32⟩
  | .hbm, ⟨9, _⟩ => ⟨S2x2064x4x512, .f32⟩
  | .hbm, ⟨10, _⟩ => ⟨S4x512x2x2064, .f32⟩
  | .hbm, ⟨11, _⟩ => ⟨S4x512x512, .f32⟩
  | .hbm, ⟨12, _⟩ => ⟨S4x512x512, .f32⟩
  | .hbm, ⟨13, _⟩ => ⟨S1x4x512x512, .f32⟩
  | .hbm, ⟨14, _⟩ => ⟨S4x512x512, .f32⟩
  | _, _ => ⟨S2x2064x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KProjIn.lean ====
abbrev S2x2064x4096 : Shape := ⟨3, ![2, 2064, 4096]⟩
abbrev S96x4096 : Shape := ⟨2, ![96, 4096]⟩
abbrev S1x4096x8192 : Shape := ⟨3, ![1, 4096, 8192]⟩
abbrev S4128x4096 : Shape := ⟨2, ![4128, 4096]⟩
abbrev S4224x4096 : Shape := ⟨2, ![4224, 4096]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S4224x8192 : Shape := ⟨2, ![4224, 8192]⟩
abbrev S1408x2048 : Shape := ⟨2, ![1408, 2048]⟩
abbrev S1x2048x1024 : Shape := ⟨3, ![1, 2048, 1024]⟩
abbrev S1408x1024 : Shape := ⟨2, ![1408, 1024]⟩
abbrev S2048x1024 : Shape := ⟨2, ![2048, 1024]⟩
abbrev S64x1024 : Shape := ⟨2, ![64, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x8192, .f32⟩
  | .hbm, ⟨3, _⟩ => ⟨S4128x4096, .f32⟩
  | .hbm, ⟨4, _⟩ => ⟨S4224x4096, .f32⟩
  | .hbm, ⟨5, _⟩ => ⟨S4224x4096, .bf16⟩
  | .hbm, ⟨6, _⟩ => ⟨S4096x8192, .f32⟩
  | .hbm, ⟨7, _⟩ => ⟨S4096x8x1024, .f32⟩
  | .hbm, ⟨8, _⟩ => ⟨S8x4096x1024, .f32⟩
  | .hbm, ⟨9, _⟩ => ⟨S8x4096x1024, .bf16⟩
  | .hbm, ⟨10, _⟩ => ⟨S4224x8192, .f32⟩
  | .local _ .vmem, ⟨0, _⟩ => ⟨S1408x2048, .bf16⟩
  | .local _ .vmem, ⟨1, _⟩ => ⟨S1408x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c22_i32 : BitVec 32 := 22#32
  let v9 : BitVec 32 := Scalar.addi c0_i32_4 c22_i32
  let c1_i32_5 : BitVec 32 := 1#32
  ⟨c0_i32_4, v9, c1_i32_5⟩
def k0_mult1 (k0_t1 : Fin k0_t1_loop.trips) : BitVec 32 :=
  let c0_i32_4 : BitVec 32 := 0#32
  let c1_i32_5 : BitVec 32 := 1#32
  let arg7 : BitVec 32 := Scf.iv c0_i32_4 c1_i32_5 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32_5 : BitVec 32 := 1#32
  let arg7 : BitVec 32 := Scf.iv c0_i32_4 c1_i32_5 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RProjInIdeal.lean ====
abbrev S2x2064x4096 : Shape := ⟨3, ![2, 2064, 4096]⟩
abbrev S96x4096 : Shape := ⟨2, ![96, 4096]⟩
abbrev S1x4096x8192 : Shape := ⟨3, ![1, 4096, 8192]⟩
abbrev S4128x4096 : Shape := ⟨2, ![4128, 4096]⟩
abbrev S4224x4096 : Shape := ⟨2, ![4224, 4096]⟩
abbrev S4096x8192 : Shape := ⟨2, ![4096, 8192]⟩
abbrev S4224x8192 : Shape := ⟨2, ![4224, 8192]⟩

abbrev nBuf : Space → Nat
  | .hbm => 7
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x8192, .f32⟩
  | .hbm, ⟨3, _⟩ => ⟨S4128x4096, .f32⟩
  | .hbm, ⟨4, _⟩ => ⟨S4224x4096, .f32⟩
  | .hbm, ⟨5, _⟩ => ⟨S4096x8192, .f32⟩
  | .hbm, ⟨6, _⟩ => ⟨S4224x8192, .f32⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KProjOut.lean ====
abbrev S2x2064x4096 : Shape := ⟨3, ![2, 2064, 4096]⟩
abbrev S96x4096 : Shape := ⟨2, ![96, 4096]⟩
abbrev S1x4096x4096 : Shape := ⟨3, ![1, 4096, 4096]⟩
abbrev S4128x4096 : Shape := ⟨2, ![4128, 4096]⟩
abbrev S4224x4096 : Shape := ⟨2, ![4224, 4096]⟩
abbrev S4096x4096 : Shape := ⟨2, ![4096, 4096]⟩
abbrev S8x512x4096 : Shape := ⟨3, ![8, 512, 4096]⟩
abbrev S1408x2048 : Shape := ⟨2, ![1408, 2048]⟩
abbrev S2048x1024 : Shape := ⟨2, ![2048, 1024]⟩
abbrev S1408x1024 : Shape := ⟨2, ![1408, 1024]⟩
abbrev S64x1024 : Shape := ⟨2, ![64, 1024]⟩

abbrev nBuf : Space → Nat
  | .hbm => 15
  | .vmem => 9
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x4096, .f32⟩
  | .hbm, ⟨3, _⟩ => ⟨S2x2064x4096, .f32⟩
  | .hbm, ⟨4, _⟩ => ⟨S96x4096, .f32⟩
  | .hbm, ⟨5, _⟩ => ⟨S4128x4096, .f32⟩
  | .hbm, ⟨6, _⟩ => ⟨S4224x4096, .f32⟩
  | .hbm, ⟨7, _⟩ => ⟨S4224x4096, .bf16⟩
  | .hbm, ⟨8, _⟩ => ⟨S4128x4096, .f32⟩
  | .hbm, ⟨9, _⟩ => ⟨S4224x4096, .f32⟩
  | .hbm, ⟨10, _⟩ => ⟨S4096x4096, .f32⟩
  | .hbm, ⟨11, _⟩ => ⟨S8x512x4096, .f32⟩
  | .hbm, ⟨12, _⟩ => ⟨S8x512x4096, .bf16⟩
  | .hbm, ⟨13, _⟩ => ⟨S4096x4096, .bf16⟩
  | .hbm, ⟨14, _⟩ => ⟨S4224x4096, .f32⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 2], ![false, false, false]⟩

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c22_i32 : BitVec 32 := 22#32
  let v9 : BitVec 32 := Scalar.addi c0_i32_4 c22_i32
  let c1_i32_5 : BitVec 32 := 1#32
  ⟨c0_i32_4, v9, c1_i32_5⟩
def k0_mult1 (k0_t1 : Fin k0_t1_loop.trips) : BitVec 32 :=
  let c0_i32_4 : BitVec 32 := 0#32
  let c1_i32_5 : BitVec 32 := 1#32
  let arg8 : BitVec 32 := Scf.iv c0_i32_4 c1_i32_5 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32_5 : BitVec 32 := 1#32
  let arg8 : BitVec 32 := Scf.iv c0_i32_4 c1_i32_5 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RProjOutIdeal.lean ====
abbrev S2x2064x4096 : Shape := ⟨3, ![2, 2064, 4096]⟩
abbrev S96x4096 : Shape := ⟨2, ![96, 4096]⟩
abbrev S1x4096x4096 : Shape := ⟨3, ![1, 4096, 4096]⟩
abbrev S4128x4096 : Shape := ⟨2, ![4128, 4096]⟩
abbrev S4224x4096 : Shape := ⟨2, ![4224, 4096]⟩
abbrev S4096x4096 : Shape := ⟨2, ![4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x4096, .f32⟩
  | .hbm, ⟨3, _⟩ => ⟨S2x2064x4096, .f32⟩
  | .hbm, ⟨4, _⟩ => ⟨S96x4096, .f32⟩
  | .hbm, ⟨5, _⟩ => ⟨S4128x4096, .f32⟩
  | .hbm, ⟨6, _⟩ => ⟨S4224x4096, .f32⟩
  | .hbm, ⟨7, _⟩ => ⟨S4096x4096, .f32⟩
  | .hbm, ⟨8, _⟩ => ⟨S4224x4096, .f32⟩
  | .hbm, ⟨9, _⟩ => ⟨S4128x4096, .f32⟩
  | .hbm, ⟨10, _⟩ => ⟨S4224x4096, .f32⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S4224x4096, .f32⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== KOutW.lean ====
abbrev S2x2064x4096 : Shape := ⟨3, ![2, 2064, 4096]⟩
abbrev S96x4096 : Shape := ⟨2, ![96, 4096]⟩
abbrev S1x4096x4096 : Shape := ⟨3, ![1, 4096, 4096]⟩
abbrev S4128x4096 : Shape := ⟨2, ![4128, 4096]⟩
abbrev S4224x4096 : Shape := ⟨2, ![4224, 4096]⟩
abbrev S_ : Shape := ⟨0, ![]⟩
abbrev S8x512x4096 : Shape := ⟨3, ![8, 512, 4096]⟩
abbrev S1408x512 : Shape := ⟨2, ![1408, 512]⟩
abbrev S1408x2048 : Shape := ⟨2, ![1408, 2048]⟩
abbrev S1x512x2048 : Shape := ⟨3, ![1, 512, 2048]⟩
abbrev S512x2048 : Shape := ⟨2, ![512, 2048]⟩
abbrev S64x2048 : Shape := ⟨2, ![64, 2048]⟩
abbrev S1x64x2048 : Shape := ⟨3, ![1, 64, 2048]⟩

abbrev nBuf : Space → Nat
  | .hbm => 13
  | .vmem => 7
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x4096, .f32⟩
  | .hbm, ⟨3, _⟩ => ⟨S2x2064x4096, .f32⟩
  | .hbm, ⟨4, _⟩ => ⟨S4128x4096, .f32⟩
  | .hbm, ⟨5, _⟩ => ⟨S4224x4096, .f32⟩
  | .hbm, ⟨6, _⟩ => ⟨S4224x4096, .bf16⟩
  | .hbm, ⟨7, _⟩ => ⟨S4128x4096, .f32⟩
  | .hbm, ⟨8, _⟩ => ⟨S_, .i32⟩
  | .hbm, ⟨9, _⟩ => ⟨S_, .f32⟩
  | .hbm, ⟨10, _⟩ => ⟨S4224x4096, .f32⟩
  | .hbm, ⟨11, _⟩ => ⟨S4224x4096, .bf16⟩
  | .hbm, ⟨12, _⟩ => ⟨S8x512x4096, .bf16⟩
  | .local _ .vmem, ⟨0, _⟩ => ⟨S1408x512, .bf16⟩
  | .local _ .vmem, ⟨1, _⟩ => ⟨S1408x512, .bf16⟩
  | .local _ .vmem, ⟨2, _⟩ => ⟨S1408x2048, .bf16⟩
  | .local _ .vmem, ⟨3, _⟩ => ⟨S1408x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c8_i32 : BitVec 32 := 8#32
  let v9 : BitVec 32 := Scalar.addi c0_i32_4 c8_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v15 : Index := Scalar.indexCast v11
  let c0_7 : Index := 0#32
  ![0, v15.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ROutWIdeal.lean ====
abbrev S2x2064x4096 : Shape := ⟨3, ![2, 2064, 4096]⟩
abbrev S96x4096 : Shape := ⟨2, ![96, 4096]⟩
abbrev S1x4096x4096 : Shape := ⟨3, ![1, 4096, 4096]⟩
abbrev S4096x4096 : Shape := ⟨2, ![4096, 4096]⟩
abbrev S8x512x4096 : Shape := ⟨3, ![8, 512, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x4096, .f32⟩
  | .hbm, ⟨3, _⟩ => ⟨S2x2064x4096, .f32⟩
  | .hbm, ⟨4, _⟩ => ⟨S4096x4096, .f32⟩
  | .hbm, ⟨5, _⟩ => ⟨S2x2064x4096, .f32⟩
  | .hbm, ⟨6, _⟩ => ⟨S4096x4096, .f32⟩
  | .hbm, ⟨7, _⟩ => ⟨S4096x4096, .f32⟩
  | .hbm, ⟨8, _⟩ => ⟨S1x4096x4096, .f32⟩
  | .hbm, ⟨9, _⟩ => ⟨S4096x4096, .f32⟩
  | .hbm, ⟨10, _⟩ => ⟨S8x512x4096, .f32⟩
  | .hbm, ⟨11, _⟩ => ⟨S8x512x4096, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KInW.lean ====
abbrev S2x2064x4096 : Shape := ⟨3, ![2, 2064, 4096]⟩
abbrev S96x4096 : Shape := ⟨2, ![96, 4096]⟩
abbrev S1x4096x8192 : Shape := ⟨3, ![1, 4096, 8192]⟩
abbrev S2x2064x8192 : Shape := ⟨3, ![2, 2064, 8192]⟩
abbrev S4128x4096 : Shape := ⟨2, ![4128, 4096]⟩
abbrev S4224x4096 : Shape := ⟨2, ![4224, 4096]⟩
abbrev S4128x8192 : Shape := ⟨2, ![4128, 8192]⟩
abbrev S_ : Shape := ⟨0, ![]⟩
abbrev S4224x8192 : Shape := ⟨2, ![4224, 8192]⟩
abbrev S8x4096x1024 : Shape := ⟨3, ![8, 4096, 1024]⟩
abbrev S1408x2048 : Shape := ⟨2, ![1408, 2048]⟩
abbrev S1408x1024 : Shape := ⟨2, ![1408, 1024]⟩
abbrev S1x2048x1024 : Shape := ⟨3, ![1, 2048, 1024]⟩
abbrev S2048x1024 : Shape := ⟨2, ![2048, 1024]⟩
abbrev S64x1024 : Shape := ⟨2, ![64, 1024]⟩
abbrev S1x64x1024 : Shape := ⟨3, ![1, 64, 1024]⟩

abbrev nBuf : Space → Nat
  | .hbm => 13
  | .vmem => 7
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x8192, .f32⟩
  | .hbm, ⟨3, _⟩ => ⟨S2x2064x8192, .f32⟩
  | .hbm, ⟨4, _⟩ => ⟨S4128x4096, .f32⟩
  | .hbm, ⟨5, _⟩ => ⟨S4224x4096, .f32⟩
  | .hbm, ⟨6, _⟩ => ⟨S4224x4096, .bf16⟩
  | .hbm, ⟨7, _⟩ => ⟨S4128x8192, .f32⟩
  | .hbm, ⟨8, _⟩ => ⟨S_, .i32⟩
  | .hbm, ⟨9, _⟩ => ⟨S_, .f32⟩
  | .hbm, ⟨10, _⟩ => ⟨S4224x8192, .f32⟩
  | .hbm, ⟨11, _⟩ => ⟨S4224x8192, .bf16⟩
  | .hbm, ⟨12, _⟩ => ⟨S8x4096x1024, .bf16⟩
  | .local _ .vmem, ⟨0, _⟩ => ⟨S1408x2048, .bf16⟩
  | .local _ .vmem, ⟨1, _⟩ => ⟨S1408x2048, .bf16⟩
  | .local _ .vmem, ⟨2, _⟩ => ⟨S1408x1024, .bf16⟩
  | .local _ .vmem, ⟨3, _⟩ => ⟨S1408x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S2048x1024, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c32_i32 : BitVec 32 := 32#32
  let v9 : BitVec 32 := Scalar.addi c0_i32_4 c32_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v15 : Index := Scalar.indexCast v11
  let c0_7 : Index := 0#32
  ![0, v15.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RInWIdeal.lean ====
abbrev S2x2064x4096 : Shape := ⟨3, ![2, 2064, 4096]⟩
abbrev S96x4096 : Shape := ⟨2, ![96, 4096]⟩
abbrev S1x4096x8192 : Shape := ⟨3, ![1, 4096, 8192]⟩
abbrev S2x2064x8192 : Shape := ⟨3, ![2, 2064, 8192]⟩
abbrev S4096x8192 : Shape := ⟨2, ![4096, 8192]⟩
abbrev S8192x4096 : Shape := ⟨2, ![8192, 4096]⟩
abbrev S4096x8x1024 : Shape := ⟨3, ![4096, 8, 1024]⟩
abbrev S8x4096x1024 : Shape := ⟨3, ![8, 4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x8192, .f32⟩
  | .hbm, ⟨3, _⟩ => ⟨S2x2064x8192, .f32⟩
  | .hbm, ⟨4, _⟩ => ⟨S4096x8192, .f32⟩
  | .hbm, ⟨5, _⟩ => ⟨S2x2064x8192, .f32⟩
  | .hbm, ⟨6, _⟩ => ⟨S8192x4096, .f32⟩
  | .hbm, ⟨7, _⟩ => ⟨S4096x8192, .f32⟩
  | .hbm, ⟨8, _⟩ => ⟨S1x4096x8192, .f32⟩
  | .hbm, ⟨9, _⟩ => ⟨S4096x8192, .f32⟩
  | .hbm, ⟨10, _⟩ => ⟨S4096x8x1024, .f32⟩
  | .hbm, ⟨11, _⟩ => ⟨S8x4096x1024, .f32⟩
  | .hbm, ⟨12, _⟩ => ⟨S8x4096x1024, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KInH.lean ====
abbrev S2x2064x4096 : Shape := ⟨3, ![2, 2064, 4096]⟩
abbrev S1x4096x8192 : Shape := ⟨3, ![1, 4096, 8192]⟩
abbrev S2x2064x8192 : Shape := ⟨3, ![2, 2064, 8192]⟩
abbrev S4096x8192 : Shape := ⟨2, ![4096, 8192]⟩
abbrev S4096x8x1024 : Shape := ⟨3, ![4096, 8, 1024]⟩
abbrev S8x4096x1024 : Shape := ⟨3, ![8, 4096, 1024]⟩
abbrev S4128x8192 : Shape := ⟨2, ![4128, 8192]⟩
abbrev S_ : Shape := ⟨0, ![]⟩
abbrev S4224x8192 : Shape := ⟨2, ![4224, 8192]⟩
abbrev S4128x4096 : Shape := ⟨2, ![4128, 4096]⟩
abbrev S4224x4096 : Shape := ⟨2, ![4224, 4096]⟩
abbrev S1408x1024 : Shape := ⟨2, ![1408, 1024]⟩
abbrev S1x1024x1024 : Shape := ⟨3, ![1, 1024, 1024]⟩
abbrev S1024x1024 : Shape := ⟨2, ![1024, 1024]⟩
abbrev S64x1024 : Shape := ⟨2, ![64, 1024]⟩

abbrev nBuf : Space → Nat
  | .hbm => 18
  | .vmem => 9
  | .smem => 0
  | _ => 0

abbrev bufTy : (tb : Table) → Fin (tcTables nBuf tb) → BufTy
  | .hbm, ⟨0, _⟩ => ⟨S2x2064x4096, .f32⟩
  | .hbm, ⟨1, _⟩ => ⟨S1x4096x8192, .f32⟩
  | .hbm, ⟨2, _⟩ => ⟨S2x2064x8192, .f32⟩
  | .hbm, ⟨3, _⟩ => ⟨S2x2064x4096, .f32⟩
  | .hbm, ⟨4, _⟩ => ⟨S4096x8192, .f32⟩
  | .hbm, ⟨5, _⟩ => ⟨S4096x8x1024, .f32⟩
  | .hbm, ⟨6, _⟩ => ⟨S8x4096x1024, .f32⟩
  | .hbm, ⟨7, _⟩ => ⟨S8x4096x1024, .bf16⟩
  | .hbm, ⟨8, _⟩ => ⟨S4128x8192, .f32⟩
  | .hbm, ⟨9, _⟩ => ⟨S_, .i32⟩
  | .hbm, ⟨10, _⟩ => ⟨S_, .f32⟩
  | .hbm, ⟨11, _⟩ => ⟨S4224x8192, .f32⟩
  | .hbm, ⟨12, _⟩ => ⟨S4224x8192, .bf16⟩
  | .hbm, ⟨13, _⟩ => ⟨S4128x4096, .f32⟩
  | .hbm, ⟨14, _⟩ => ⟨S_, .i32⟩
  | .hbm, ⟨15, _⟩ => ⟨S_, .f32⟩
  | .hbm, ⟨16, _⟩ => ⟨S4224x4096, .f32⟩
  | .hbm, ⟨17, _⟩ => ⟨S4224x4096, .f32⟩
  | .local _ .vmem, ⟨0, _⟩ => ⟨S1408x1024, .bf16⟩
  | .local _ .vmem, ⟨1, _⟩ => ⟨S1408x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | .local _ .vmem, ⟨7, _⟩ => ⟨S1408x1024, .f32⟩
  | .local _ .vmem, ⟨8, _⟩ => ⟨S1408x1024, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_call1_v0 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c22_i32 : BitVec 32 := 22#32
  let v9 : BitVec 32 := Scalar.addi c0_i32_4 c22_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RInHIdeal.lean ====
abbrev S2x2064x4096 : Shape := ⟨3, ![2, 2064, 4096]⟩
abbrev S1x4096x8192 : Shape := ⟨3, ![1, 4096, 8192]⟩
abbrev S2x2064x8192 : Shape := ⟨3, ![2, 2064, 8192]⟩
abbrev S_ : Shape := ⟨0, ![]⟩
abbrev S4096x8192 : Shape := ⟨2, ![4096, 8192]⟩
abbrev S4128x4096 : Shape := ⟨2, ![4128, 4096]⟩
abbrev S4224x4096 : Shape := ⟨2, ![4224, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S1x4096x8192, .f32⟩
  | .hbm, ⟨2, _⟩ => ⟨S2x2064x8192, .f32⟩
  | .hbm, ⟨3, _⟩ => ⟨S2x2064x4096, .f32⟩
  | .hbm, ⟨4, _⟩ => ⟨S_, .f32⟩
  | .hbm, ⟨5, _⟩ => ⟨S2x2064x4096, .f32⟩
  | .hbm, ⟨6, _⟩ => ⟨S2x2064x4096, .f32⟩
  | .hbm, ⟨7, _⟩ => ⟨S4096x8192, .f32⟩
  | .hbm, ⟨8, _⟩ => ⟨S2x2064x8192, .f32⟩
  | .hbm, ⟨9, _⟩ => ⟨S2x2064x4096, .f32⟩
  | .hbm, ⟨10, _⟩ => ⟨S_, .f32⟩
  | .hbm, ⟨11, _⟩ => ⟨S2x2064x4096, .f32⟩
  | .hbm, ⟨12, _⟩ => ⟨S2x2064x4096, .f32⟩
  | .hbm, ⟨13, _⟩ => ⟨S2x2064x4096, .f32⟩
  | .hbm, ⟨14, _⟩ => ⟨S4128x4096, .f32⟩
  | .hbm, ⟨15, _⟩ => ⟨S_, .i32⟩
  | .hbm, ⟨16, _⟩ => ⟨S_, .f32⟩
  | .hbm, ⟨17, _⟩ => ⟨S4224x4096, .f32⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== KDown.lean ====
abbrev S2x2064x11008 : Shape := ⟨3, ![2, 2064, 11008]⟩
abbrev S96x11008 : Shape := ⟨2, ![96, 11008]⟩
abbrev S1x11008x4096 : Shape := ⟨3, ![1, 11008, 4096]⟩
abbrev S2x2064x4096 : Shape := ⟨3, ![2, 2064, 4096]⟩
abbrev S96x4096 : Shape := ⟨2, ![96, 4096]⟩
abbrev S4128x11008 : Shape := ⟨2, ![4128, 11008]⟩
abbrev S4224x11008 : Shape := ⟨2, ![4224, 11008]⟩
abbrev S4224x4x2752 : Shape := ⟨3, ![4224, 4, 2752]⟩
abbrev S4128x4096 : Shape := ⟨2, ![4128, 4096]⟩
abbrev S4224x4096 : Shape := ⟨2, ![4224, 4096]⟩
abbrev S4x4224x2752 : Shape := ⟨3, ![4, 4224, 2752]⟩
abbrev S11008x4096 : Shape := ⟨2, ![11008, 4096]⟩
abbrev S4x2752x4096 : Shape := ⟨3, ![4, 2752, 4096]⟩
abbrev S1x704x2752 : Shape := ⟨3, ![1, 704, 2752]⟩
abbrev S1x2752x1024 : Shape := ⟨3, ![1, 2752, 1024]⟩
abbrev S704x1024 : Shape := ⟨2, ![704, 1024]⟩
abbrev S704x2752 : Shape := ⟨2, ![704, 2752]⟩
abbrev S2752x1024 : Shape := ⟨2, ![2752, 1024]⟩
abbrev S64x1024 : Shape := ⟨2, ![64, 1024]⟩

abbrev nBuf : Space → Nat
  | .hbm => 16
  | .vmem => 9
  | .smem => 0
  | _ => 0

abbrev bufTy : (tb : Table) → Fin (tcTables nBuf tb) → BufTy
  | .hbm, ⟨0, _⟩ => ⟨S2x2064x11008, .f32⟩
  | .hbm, ⟨1, _⟩ => ⟨S96x11008, .f32⟩
  | .hbm, ⟨2, _⟩ => ⟨S1x11008x4096, .f32⟩
  | .hbm, ⟨3, _⟩ => ⟨S2x2064x4096, .f32⟩
  | .hbm, ⟨4, _⟩ => ⟨S96x4096, .f32⟩
  | .hbm, ⟨5, _⟩ => ⟨S4128x11008, .f32⟩
  | .hbm, ⟨6, _⟩ => ⟨S4224x11008, .f32⟩
  | .hbm, ⟨7, _⟩ => ⟨S4224x4x2752, .f32⟩
  | .hbm, ⟨8, _⟩ => ⟨S4128x4096, .f32⟩
  | .hbm, ⟨9, _⟩ => ⟨S4224x4096, .f32⟩
  | .hbm, ⟨10, _⟩ => ⟨S4x4224x2752, .f32⟩
  | .hbm, ⟨11, _⟩ => ⟨S4x4224x2752, .bf16⟩
  | .hbm, ⟨12, _⟩ => ⟨S11008x4096, .f32⟩
  | .hbm, ⟨13, _⟩ => ⟨S4x2752x4096, .f32⟩
  | .hbm, ⟨14, _⟩ => ⟨S4x2752x4096, .bf16⟩
  | .hbm, ⟨15, _⟩ => ⟨S4224x4096, .f32⟩
  | .local _ .vmem, ⟨0, _⟩ => ⟨S1x704x2752, .bf16⟩
  | .local _ .vmem, ⟨1, _⟩ => ⟨S1x704x2752, .bf16⟩
  | .local _ .vmem, ⟨2, _⟩ => ⟨S1x2752x1024, .bf16⟩
  | .local _ .vmem, ⟨3, _⟩ => ⟨S1x2752x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | _, _ => ⟨S2x2064x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 4], ![false, false, false]⟩

def k0_cond3 (i : grid0.Coords) : BitVec 1 :=
  let arg2 : BitVec 32 := BitVec.ofNat 32 (i 2).val
  let c3_i32 : BitVec 32 := 3#32
  let v6 : BitVec 1 := Scalar.cmpi .eq arg2 c3_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x704x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RDownIdeal.lean ====
abbrev S2x2064x11008 : Shape := ⟨3, ![2, 2064, 11008]⟩
abbrev S96x11008 : Shape := ⟨2, ![96, 11008]⟩
abbrev S1x11008x4096 : Shape := ⟨3, ![1, 11008, 4096]⟩
abbrev S2x2064x4096 : Shape := ⟨3, ![2, 2064, 4096]⟩
abbrev S96x4096 : Shape := ⟨2, ![96, 4096]⟩
abbrev S4128x11008 : Shape := ⟨2, ![4128, 11008]⟩
abbrev S4224x11008 : Shape := ⟨2, ![4224, 11008]⟩
abbrev S11008x4096 : Shape := ⟨2, ![11008, 4096]⟩
abbrev S4224x4096 : Shape := ⟨2, ![4224, 4096]⟩
abbrev S_ : Shape := ⟨0, ![]⟩
abbrev S4128x4096 : Shape := ⟨2, ![4128, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x2064x11008, .f32⟩
  | .hbm, ⟨1, _⟩ => ⟨S96x11008, .f32⟩
  | .hbm, ⟨2, _⟩ => ⟨S1x11008x4096, .f32⟩
  | .hbm, ⟨3, _⟩ => ⟨S2x2064x4096, .f32⟩
  | .hbm, ⟨4, _⟩ => ⟨S96x4096, .f32⟩
  | .hbm, ⟨5, _⟩ => ⟨S4128x11008, .f32⟩
  | .hbm, ⟨6, _⟩ => ⟨S4224x11008, .f32⟩
  | .hbm, ⟨7, _⟩ => ⟨S11008x4096, .f32⟩
  | .hbm, ⟨8, _⟩ => ⟨S4224x4096, .f32⟩
  | .hbm, ⟨9, _⟩ => ⟨S_, .f32⟩
  | .hbm, ⟨10, _⟩ => ⟨S4224x4096, .f32⟩
  | .hbm, ⟨11, _⟩ => ⟨S4224x4096, .f32⟩
  | .hbm, ⟨12, _⟩ => ⟨S4128x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x4096, .f32⟩
  | _, _ => ⟨S2x2064x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]
-- ==== KBwdWd.lean ====
abbrev S2x2064x11008 : Shape := ⟨3, ![2, 2064, 11008]⟩
abbrev S96x11008 : Shape := ⟨2, ![96, 11008]⟩
abbrev S1x11008x4096 : Shape := ⟨3, ![1, 11008, 4096]⟩
abbrev S2x2064x4096 : Shape := ⟨3, ![2, 2064, 4096]⟩
abbrev S4128x11008 : Shape := ⟨2, ![4128, 11008]⟩
abbrev S4224x11008 : Shape := ⟨2, ![4224, 11008]⟩
abbrev S4224x4x2752 : Shape := ⟨3, ![4224, 4, 2752]⟩
abbrev S4x4224x2752 : Shape := ⟨3, ![4, 4224, 2752]⟩
abbrev S4128x4096 : Shape := ⟨2, ![4128, 4096]⟩
abbrev S_ : Shape := ⟨0, ![]⟩
abbrev S4224x4096 : Shape := ⟨2, ![4224, 4096]⟩
abbrev S4x2752x4096 : Shape := ⟨3, ![4, 2752, 4096]⟩
abbrev S1x1408x2752 : Shape := ⟨3, ![1, 1408, 2752]⟩
abbrev S1408x1024 : Shape := ⟨2, ![1408, 1024]⟩
abbrev S1x2752x1024 : Shape := ⟨3, ![1, 2752, 1024]⟩
abbrev S2752x1024 : Shape := ⟨2, ![2752, 1024]⟩
abbrev S1408x2752 : Shape := ⟨2, ![1408, 2752]⟩
abbrev S64x1024 : Shape := ⟨2, ![64, 1024]⟩
abbrev S1x64x1024 : Shape := ⟨3, ![1, 64, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2x2064x11008, .f32⟩
  | .hbm, ⟨1, _⟩ => ⟨S96x11008, .f32⟩
  | .hbm, ⟨2, _⟩ => ⟨S1x11008x4096, .f32⟩
  | .hbm, ⟨3, _⟩ => ⟨S2x2064x4096, .f32⟩
  | .hbm, ⟨4, _⟩ => ⟨S4128x11008, .f32⟩
  | .hbm, ⟨5, _⟩ => ⟨S4224x11008, .f32⟩
  | .hbm, ⟨6, _⟩ => ⟨S4224x4x2752, .f32⟩
  | .hbm, ⟨7, _⟩ => ⟨S4x4224x2752, .f32⟩
  | .hbm, ⟨8, _⟩ => ⟨S4x4224x2752, .bf16⟩
  | .hbm, ⟨9, _⟩ => ⟨S4128x4096, .f32⟩
  | .hbm, ⟨10, _⟩ => ⟨S_, .i32⟩
  | .hbm, ⟨11, _⟩ => ⟨S_, .f32⟩
  | .hbm, ⟨12, _⟩ => ⟨S4224x4096, .f32⟩
  | .hbm, ⟨13, _⟩ => ⟨S4224x4096, .bf16⟩
  | .hbm, ⟨14, _⟩ => ⟨S4x2752x4096, .bf16⟩
  | .local _ .vmem, ⟨0, _⟩ => ⟨S1x1408x2752, .bf16⟩
  | .local _ .vmem, ⟨1, _⟩ => ⟨S1x1408x2752, .bf16⟩
  | .local _ .vmem, ⟨2, _⟩ => ⟨S1408x1024, .bf16⟩
  | .local _ .vmem, ⟨3, _⟩ => ⟨S1408x1024, .bf16⟩
  | .local _ .vmem, ⟨4, _⟩ => ⟨S1x2752x1024, .bf16⟩
  | .local _ .vmem, ⟨5, _⟩ => ⟨S1x2752x1024, .bf16⟩
  | .local _ .vmem, ⟨6, _⟩ => ⟨S2752x1024, .f32⟩
  | _, _ => ⟨S2x2064x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 3], ![false, false, false]⟩

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c43_i32 : BitVec 32 := 43#32
  let v9 : BitVec 32 := Scalar.addi c0_i32_4 c43_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  v10
def k0_off1 (k0_t1 : Fin k0_t1_loop.trips) : Fin 2 → Nat :=
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg7 : BitVec 32 := Scf.iv c0_i32_4 c1_i32 k0_t1
  let c64_i32 : BitVec 32 := 64#32
  let v10 : BitVec 32 := Scalar.muli arg7 c64_i32
  let v11 : BitVec 32 := v10
  let v17 : Index := Scalar.indexCast v11
  let c0_7 : Index := 0#32
  ![0, v17.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1408x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RBwdWdIdeal.lean ====
abbrev S2x2064x11008 : Shape := ⟨3, ![2, 2064, 11008]⟩
abbrev S96x11008 : Shape := ⟨2, ![96, 11008]⟩
abbrev S1x11008x4096 : Shape := ⟨3, ![1, 11008, 4096]⟩
abbrev S2x2064x4096 : Shape := ⟨3, ![2, 2064, 4096]⟩
abbrev S11008x4096 : Shape := ⟨2, ![11008, 4096]⟩
abbrev S_ : Shape := ⟨0, ![]⟩
abbrev S4096x11008 : Shape := ⟨2, ![4096, 11008]⟩
abbrev S4x2752x4096 : Shape := ⟨3, ![4, 2752, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x2064x11008, .f32⟩
  | .hbm, ⟨1, _⟩ => ⟨S96x11008, .f32⟩
  | .hbm, ⟨2, _⟩ => ⟨S1x11008x4096, .f32⟩
  | .hbm, ⟨3, _⟩ => ⟨S2x2064x4096, .f32⟩
  | .hbm, ⟨4, _⟩ => ⟨S11008x4096, .f32⟩
  | .hbm, ⟨5, _⟩ => ⟨S2x2064x4096, .f32⟩
  | .hbm, ⟨6, _⟩ => ⟨S_, .f32⟩
  | .hbm, ⟨7, _⟩ => ⟨S2x2064x4096, .f32⟩
  | .hbm, ⟨8, _⟩ => ⟨S2x2064x4096, .f32⟩
  | .hbm, ⟨9, _⟩ => ⟨S_, .f32⟩
  | .hbm, ⟨10, _⟩ => ⟨S2x2064x4096, .f32⟩
  | .hbm, ⟨11, _⟩ => ⟨S2x2064x4096, .f32⟩
  | .hbm, ⟨12, _⟩ => ⟨S4096x11008, .f32⟩
  | .hbm, ⟨13, _⟩ => ⟨S11008x4096, .f32⟩
  | .hbm, ⟨14, _⟩ => ⟨S1x11008x4096, .f32⟩
  | .hbm, ⟨15, _⟩ => ⟨S11008x4096, .f32⟩
  | .hbm, ⟨16, _⟩ => ⟨S4x2752x4096, .f32⟩
  | .hbm, ⟨17, _⟩ => ⟨S4x2752x4096, .bf16⟩
  | _, _ => ⟨S2x2064x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== KBwdWgu.lean ====
abbrev S2x2064x4096 : Shape := ⟨3, ![2, 2064, 4096]⟩
abbrev S96x4096 : Shape := ⟨2, ![96, 4096]⟩
abbrev S1x4096x22016 : Shape := ⟨3, ![1, 4096, 22016]⟩
abbrev S2x2064x22016 : Shape := ⟨3, ![2, 2064, 22016]⟩
abbrev S4128x4096 : Shape := ⟨2, ![4128, 4096]⟩
abbrev S4224x4096 : Shape := ⟨2, ![4224, 4096]⟩
abbrev S4128x22016 : Shape := ⟨2, ![4128, 22016]⟩
abbrev S_ : Shape := ⟨0, ![]⟩
abbrev S4224x22016 : Shape := ⟨2, ![4224, 22016]⟩
abbrev S4224x2x4x2752 : Shape := ⟨4, ![4224, 2, 4, 2752]⟩
abbrev S4x2x4224x2752 : Shape := ⟨4, ![4, 2, 4224, 2752]⟩
abbrev S8x4096x2752 : Shape := ⟨3, ![8, 4096, 2752]⟩
abbrev S1408x1024 : Shape := ⟨2, ![1408, 1024]⟩
abbrev S1x1x1408x2752 : Shape := ⟨4, ![1, 1, 1408, 2752]⟩
abbrev S1x1024x2752 : Shape := ⟨3, ![1, 1024, 2752]⟩
abbrev S1024x2752 : Shape := ⟨2, ![1024, 2752]⟩
abbrev S1408x2752 : Shape := ⟨2, ![1408, 2752]⟩
abbrev S64x2752 : Shape := ⟨2, ![64, 2752]⟩
abbrev S1x64x2752 : Shape := ⟨3, ![1, 64, 2752]⟩

abbrev nBuf : Space → Nat
  | .hbm => 15
  | .vmem => 7
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x22016, .f32⟩
  | .hbm, ⟨3, _⟩ => ⟨S2x2064x22016, .f32⟩
  | .hbm, ⟨4, _⟩ => ⟨S4128x4096, .f32⟩
  | .hbm, ⟨5, _⟩ => ⟨S4224x4096, .f32⟩
  | .hbm, ⟨6, _⟩ => ⟨S4224x4096, .bf16⟩
  | .hbm, ⟨7, _⟩ => ⟨S4128x22016, .f32⟩
  | .hbm, ⟨8, _⟩ => ⟨S_, .i32⟩
  | .hbm, ⟨9, _⟩ => ⟨S_, .f32⟩
  | .hbm, ⟨10, _⟩ => ⟨S4224x22016, .f32⟩
  | .hbm, ⟨11, _⟩ => ⟨S4224x2x4x2752, .f32⟩
  | .hbm, ⟨12, _⟩ => ⟨S4x2x4224x2752, .f32⟩
  | .hbm, ⟨13, _⟩ => ⟨S4x2x4224x2752, .bf16⟩
  | .hbm, ⟨14, _⟩ => ⟨S8x4096x2752, .bf16⟩
  | .local _ .vmem, ⟨0, _⟩ => ⟨S1408x1024, .bf16⟩
  | .local _ .vmem, ⟨1, _⟩ => ⟨S1408x1024, .bf16⟩
  | .local _ .vmem, ⟨2, _⟩ => ⟨S1x1x1408x2752, .bf16⟩
  | .local _ .vmem, ⟨3, _⟩ => ⟨S1x1x1408x2752, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![4, 2, 4, 3], ![false, false, false, false]⟩

def k0_cond3 (i : grid0.Coords) : BitVec 1 :=
  let arg3 : BitVec 32 := BitVec.ofNat 32 (i 3).val
  let c2_i32 : BitVec 32 := 2#32
  let v6 : BitVec 1 := Scalar.cmpi .eq arg3 c2_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c16_i32 : BitVec 32 := 16#32
  let v9 : BitVec 32 := Scalar.addi c0_i32_4 c16_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def k0_off2 (k0_t1 : Fin k0_t1_loop.trips) : Fin 3 → Nat :=
  let c0_6 : Index := 0#32
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v15 : Index := Scalar.indexCast v11
  let c0_7 : Index := 0#32
  ![0, v15.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, arg2.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true, true]

abbrev stage0_1 : Fin 2 → Memref sig .tc .vmem S1x1x1408x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== RBwdWguIdeal.lean ====
abbrev S2x2064x4096 : Shape := ⟨3, ![2, 2064, 4096]⟩
abbrev S96x4096 : Shape := ⟨2, ![96, 4096]⟩
abbrev S1x4096x22016 : Shape := ⟨3, ![1, 4096, 22016]⟩
abbrev S2x2064x22016 : Shape := ⟨3, ![2, 2064, 22016]⟩
abbrev S4096x22016 : Shape := ⟨2, ![4096, 22016]⟩
abbrev S22016x4096 : Shape := ⟨2, ![22016, 4096]⟩
abbrev S4096x8x2752 : Shape := ⟨3, ![4096, 8, 2752]⟩
abbrev S8x4096x2752 : Shape := ⟨3, ![8, 4096, 2752]⟩

abbrev nBuf : Space → Nat
  | .hbm => 13
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S96x4096, .f32⟩
  | .hbm, ⟨2, _⟩ => ⟨S1x4096x22016, .f32⟩
  | .hbm, ⟨3, _⟩ => ⟨S2x2064x22016, .f32⟩
  | .hbm, ⟨4, _⟩ => ⟨S4096x22016, .f32⟩
  | .hbm, ⟨5, _⟩ => ⟨S2x2064x22016, .f32⟩
  | .hbm, ⟨6, _⟩ => ⟨S22016x4096, .f32⟩
  | .hbm, ⟨7, _⟩ => ⟨S4096x22016, .f32⟩
  | .hbm, ⟨8, _⟩ => ⟨S1x4096x22016, .f32⟩
  | .hbm, ⟨9, _⟩ => ⟨S4096x22016, .f32⟩
  | .hbm, ⟨10, _⟩ => ⟨S4096x8x2752, .f32⟩
  | .hbm, ⟨11, _⟩ => ⟨S8x4096x2752, .f32⟩
  | .hbm, ⟨12, _⟩ => ⟨S8x4096x2752, .bf16⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== KBwdDh.lean ====
abbrev S2x2064x4096 : Shape := ⟨3, ![2, 2064, 4096]⟩
abbrev S1x4096x22016 : Shape := ⟨3, ![1, 4096, 22016]⟩
abbrev S2x2064x22016 : Shape := ⟨3, ![2, 2064, 22016]⟩
abbrev S4096x22016 : Shape := ⟨2, ![4096, 22016]⟩
abbrev S4096x8x2752 : Shape := ⟨3, ![4096, 8, 2752]⟩
abbrev S8x4096x2752 : Shape := ⟨3, ![8, 4096, 2752]⟩
abbrev S4128x22016 : Shape := ⟨2, ![4128, 22016]⟩
abbrev S_ : Shape := ⟨0, ![]⟩
abbrev S4224x22016 : Shape := ⟨2, ![4224, 22016]⟩
abbrev S4224x2x4x2752 : Shape := ⟨4, ![4224, 2, 4, 2752]⟩
abbrev S4x2x4224x2752 : Shape := ⟨4, ![4, 2, 4224, 2752]⟩
abbrev S4128x4096 : Shape := ⟨2, ![4128, 4096]⟩
abbrev S4224x4096 : Shape := ⟨2, ![4224, 4096]⟩
abbrev S1x1x704x2752 : Shape := ⟨4, ![1, 1, 704, 2752]⟩
abbrev S1x1024x2752 : Shape := ⟨3, ![1, 1024, 2752]⟩
abbrev S704x1024 : Shape := ⟨2, ![704, 1024]⟩
abbrev S704x2752 : Shape := ⟨2, ![704, 2752]⟩
abbrev S1024x2752 : Shape := ⟨2, ![1024, 2752]⟩
abbrev S64x1024 : Shape := ⟨2, ![64, 1024]⟩

abbrev nBuf : Space → Nat
  | .hbm => 20
  | .vmem => 9
  | .smem => 0
  | _ => 0

abbrev bufTy : (tb : Table) → Fin (tcTables nBuf tb) → BufTy
  | .hbm, ⟨0, _⟩ => ⟨S2x2064x4096, .f32⟩
  | .hbm, ⟨1, _⟩ => ⟨S1x4096x22016, .f32⟩
  | .hbm, ⟨2, _⟩ => ⟨S2x2064x22016, .f32⟩
  | .hbm, ⟨3, _⟩ => ⟨S2x2064x4096, .f32⟩
  | .hbm, ⟨4, _⟩ => ⟨S4096x22016, .f32⟩
  | .hbm, ⟨5, _⟩ => ⟨S4096x8x2752, .f32⟩
  | .hbm, ⟨6, _⟩ => ⟨S8x4096x2752, .f32⟩
  | .hbm, ⟨7, _⟩ => ⟨S8x4096x2752, .bf16⟩
  | .hbm, ⟨8, _⟩ => ⟨S4128x22016, .f32⟩
  | .hbm, ⟨9, _⟩ => ⟨S_, .i32⟩
  | .hbm, ⟨10, _⟩ => ⟨S_, .f32⟩
  | .hbm, ⟨11, _⟩ => ⟨S4224x22016, .f32⟩
  | .hbm, ⟨12, _⟩ => ⟨S4224x2x4x2752, .f32⟩
  | .hbm, ⟨13, _⟩ => ⟨S4x2x4224x2752, .f32⟩
  | .hbm, ⟨14, _⟩ => ⟨S4x2x4224x2752, .bf16⟩
  | .hbm, ⟨15, _⟩ => ⟨S4128x4096, .f32⟩
  | .hbm, ⟨16, _⟩ => ⟨S_, .i32⟩
  | .hbm, ⟨17, _⟩ => ⟨S_, .f32⟩
  | .hbm, ⟨18, _⟩ => ⟨S4224x4096, .f32⟩
  | .hbm, ⟨19, _⟩ => ⟨S4224x4096, .f32⟩
  | .local _ .vmem, ⟨0, _⟩ => ⟨S1x1x704x2752, .bf16⟩
  | .local _ .vmem, ⟨1, _⟩ => ⟨S1x1x704x2752, .bf16⟩
  | .local _ .vmem, ⟨2, _⟩ => ⟨S1x1024x2752, .bf16⟩
  | .local _ .vmem, ⟨3, _⟩ => ⟨S1x1024x2752, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | .local _ .vmem, ⟨7, _⟩ => ⟨S704x1024, .f32⟩
  | .local _ .vmem, ⟨8, _⟩ => ⟨S704x1024, .f32⟩
  | _, _ => ⟨S2x2064x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 4, 8], ![false, false, false]⟩

def k0_cond3 (i : grid0.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_3 : BitVec 32 := 0#32
  let v8 : BitVec 1 := Scalar.cmpi .ne v7 c0_i32_3
  v8

@[reducible] def k0_t1_loop : Scf.Loop 32 :=
  let c0_i32_4 : BitVec 32 := 0#32
  let c11_i32 : BitVec 32 := 11#32
  let v9 : BitVec 32 := Scalar.addi c0_i32_4 c11_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  v10
def k0_off1 (k0_t1 : Fin k0_t1_loop.trips) : Fin 2 → Nat :=
  let c0_i32_4 : BitVec 32 := 0#32
  let c1_i32 : BitVec 32 := 1#32
  let arg8 : BitVec 32 := Scf.iv c0_i32_4 c1_i32 k0_t1
  let c64_i32 : BitVec 32 := 64#32
  let v10 : BitVec 32 := Scalar.muli arg8 c64_i32
  let v11 : BitVec 32 := v10
  let v12 : Index := Scalar.indexCast v11
  let c0 : Index := 0#32
  ![v12.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg2 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg2 c4_i32_3
  let c0_i32_4 : BitVec 32 := 0#32
  let v11 : BitVec 1 := Scalar.cmpi .sgt arg2 c0_i32_4
  let v12 : BitVec 32 := Scalar.extui v11
  let c0_i32_5 : BitVec 32 := 0#32
  let v13 : BitVec 1 := Scalar.cmpi .slt arg2 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg2 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1x704x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S704x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RBwdDhIdeal.lean ====
abbrev S2x2064x4096 : Shape := ⟨3, ![2, 2064, 4096]⟩
abbrev S1x4096x22016 : Shape := ⟨3, ![1, 4096, 22016]⟩
abbrev S2x2064x22016 : Shape := ⟨3, ![2, 2064, 22016]⟩
abbrev S_ : Shape := ⟨0, ![]⟩
abbrev S4096x22016 : Shape := ⟨2, ![4096, 22016]⟩
abbrev S4128x4096 : Shape := ⟨2, ![4128, 4096]⟩
abbrev S4224x4096 : Shape := ⟨2, ![4224, 4096]⟩

abbrev nBuf : Space → Nat
  | .hbm => 18
  | .vmem => 0
  | .smem => 0
  | _ => 0

abbrev bufTy : (tb : Table) → Fin (tcTables nBuf tb) → BufTy
  | .hbm, ⟨0, _⟩ => ⟨S2x2064x4096, .f32⟩
  | .hbm, ⟨1, _⟩ => ⟨S1x4096x22016, .f32⟩
  | .hbm, ⟨2, _⟩ => ⟨S2x2064x22016, .f32⟩
  | .hbm, ⟨3, _⟩ => ⟨S2x2064x4096, .f32⟩
  | .hbm, ⟨4, _⟩ => ⟨S_, .f32⟩
  | .hbm, ⟨5, _⟩ => ⟨S2x2064x4096, .f32⟩
  | .hbm, ⟨6, _⟩ => ⟨S2x2064x4096, .f32⟩
  | .hbm, ⟨7, _⟩ => ⟨S4096x22016, .f32⟩
  | .hbm, ⟨8, _⟩ => ⟨S2x2064x22016, .f32⟩
  | .hbm, ⟨9, _⟩ => ⟨S2x2064x4096, .f32⟩
  | .hbm, ⟨10, _⟩ => ⟨S_, .f32⟩
  | .hbm, ⟨11, _⟩ => ⟨S2x2064x4096, .f32⟩
  | .hbm, ⟨12, _⟩ => ⟨S2x2064x4096, .f32⟩
  | .hbm, ⟨13, _⟩ => ⟨S2x2064x4096, .f32⟩
  | .hbm, ⟨14, _⟩ => ⟨S4128x4096, .f32⟩
  | .hbm, ⟨15, _⟩ => ⟨S_, .i32⟩
  | .hbm, ⟨16, _⟩ => ⟨S_, .f32⟩
  | .hbm, ⟨17, _⟩ => ⟨S4224x4096, .f32⟩
  | _, _ => ⟨S2x2064x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== KSumParts.lean ====
abbrev S8x272x4096 : Shape := ⟨3, ![8, 272, 4096]⟩
abbrev S272x4096 : Shape := ⟨2, ![272, 4096]⟩
abbrev S8x16x4096 : Shape := ⟨3, ![8, 16, 4096]⟩
abbrev S16x4096 : Shape := ⟨2, ![16, 4096]⟩
abbrev S1x16x4096 : Shape := ⟨3, ![1, 16, 4096]⟩

abbrev nBuf : Space → Nat
  | .hbm => 2
  | .vmem => 4
  | .smem => 0
  | _ => 0

abbrev bufTy : (tb : Table) → Fin (tcTables nBuf tb) → BufTy
  | .hbm, ⟨0, _⟩ => ⟨S8x272x4096, .f32⟩
  | .hbm, ⟨1, _⟩ => ⟨S272x4096, .f32⟩
  | .local _ .vmem, ⟨0, _⟩ => ⟨S8x16x4096, .f32⟩
  | .local _ .vmem, ⟨1, _⟩ => ⟨S8x16x4096, .f32⟩
  | .local _ .vmem, ⟨2, _⟩ => ⟨S16x4096, .f32⟩
  | .local _ .vmem, ⟨3, _⟩ => ⟨S16x4096, .f32⟩
  | _, _ => ⟨S8x272x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RSumPartsIdeal.lean ====
abbrev S8x272x4096 : Shape := ⟨3, ![8, 272, 4096]⟩
abbrev S_ : Shape := ⟨0, ![]⟩
abbrev S272x4096 : Shape := ⟨2, ![272, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x272x4096, .f32⟩
  | .hbm, ⟨1, _⟩ => ⟨S_, .f32⟩
  | .hbm, ⟨2, _⟩ => ⟨S272x4096, .f32⟩
  | _, _ => ⟨S8x272x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KAdamB.lean ====
abbrev S8x4096x2752 : Shape := ⟨3, ![8, 4096, 2752]⟩
abbrev S4x4096x2752 : Shape := ⟨3, ![4, 4096, 2752]⟩
abbrev S3x4096x2752 : Shape := ⟨3, ![3, 4096, 2752]⟩
abbrev S1 : Shape := ⟨1, ![1]⟩
abbrev S1x4096x2752 : Shape := ⟨3, ![1, 4096, 2752]⟩
abbrev S4096x2752 : Shape := ⟨2, ![4096, 2752]⟩
abbrev S1x128x2752 : Shape := ⟨3, ![1, 128, 2752]⟩
abbrev S3x128x2752 : Shape := ⟨3, ![3, 128, 2752]⟩
abbrev S128x2752 : Shape := ⟨2, ![128, 2752]⟩

abbrev nBuf : Space → Nat
  | .hbm => 13
  | .vmem => 20
  | .smem => 2
  | _ => 0

abbrev bufTy : (tb : Table) → Fin (tcTables nBuf tb) → BufTy
  | .hbm, ⟨0, _⟩ => ⟨S8x4096x2752, .bf16⟩
  | .hbm, ⟨1, _⟩ => ⟨S4x4096x2752, .bf16⟩
  | .hbm, ⟨2, _⟩ => ⟨S3x4096x2752, .bf16⟩
  | .hbm, ⟨3, _⟩ => ⟨S1x4096x2752, .f32⟩
  | .hbm, ⟨4, _⟩ => ⟨S1x4096x2752, .f32⟩
  | .hbm, ⟨5, _⟩ => ⟨S1x4096x2752, .f32⟩
  | .hbm, ⟨6, _⟩ => ⟨S4096x2752, .f32⟩
  | .hbm, ⟨7, _⟩ => ⟨S4096x2752, .f32⟩
  | .hbm, ⟨8, _⟩ => ⟨S4096x2752, .f32⟩
  | .hbm, ⟨9, _⟩ => ⟨S4096x2752, .f32⟩
  | .hbm, ⟨10, _⟩ => ⟨S4096x2752, .f32⟩
  | .hbm, ⟨11, _⟩ => ⟨S4096x2752, .f32⟩
  | .hbm, ⟨12, _⟩ => ⟨S4096x2752, .f32⟩
  | .local _ .vmem, ⟨0, _⟩ => ⟨S1x128x2752, .bf16⟩
  | .local _ .vmem, ⟨1, _⟩ => ⟨S1x128x2752, .bf16⟩
  | .local _ .vmem, ⟨2, _⟩ => ⟨S1x128x2752, .bf16⟩
  | .local _ .vmem, ⟨3, _⟩ => ⟨S1x128x2752, .bf16⟩
  | .local _ .vmem, ⟨4, _⟩ => ⟨S3x128x2752, .bf16⟩
  | .local _ .vmem, ⟨5, _⟩ => ⟨S3x128x2752, .bf16⟩
  | .local _ .vmem, ⟨6, _⟩ => ⟨S128x2752, .f32⟩
  | .local _ .vmem, ⟨7, _⟩ => ⟨S128x2752, .f32⟩
  | .local _ .vmem, ⟨8, _⟩ => ⟨S128x2752, .f32⟩
  | .local _ .vmem, ⟨9, _⟩ => ⟨S128x2752, .f32⟩
  | .local _ .vmem, ⟨10, _⟩ => ⟨S128x2752, .f32⟩
  | .local _ .vmem, ⟨11, _⟩ => ⟨S128x2752, .f32⟩
  | .local _ .vmem, ⟨12, _⟩ => ⟨S128x2752, .f32⟩
  | .local _ .vmem, ⟨13, _⟩ => ⟨S128x2752, .f32⟩
  | .local _ .vmem, ⟨14, _⟩ => ⟨S128x2752, .f32⟩
  | .local _ .vmem, ⟨15, _⟩ => ⟨S128x2752, .f32⟩
  | .local _ .vmem, ⟨16, _⟩ => ⟨S128x2752, .f32⟩
  | .local _ .vmem, ⟨17, _⟩ => ⟨S128x2752, .f32⟩
  | .local _ .vmem, ⟨18, _⟩ => ⟨S128x2752, .f32⟩
  | .local _ .vmem, ⟨19, _⟩ => ⟨S128x2752, .f32⟩
  | .local _ .smem, ⟨0, _⟩ => ⟨S1, .i32⟩
  | .local _ .smem, ⟨1, _⟩ => ⟨S1, .i32⟩
  | _, _ => ⟨S8x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 1 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2752 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2752 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2752 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2752 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2752 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2752 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2752 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RAdamBIdeal.lean ====
abbrev S8x4096x2752 : Shape := ⟨3, ![8, 4096, 2752]⟩
abbrev S4x4096x2752 : Shape := ⟨3, ![4, 4096, 2752]⟩
abbrev S3x4096x2752 : Shape := ⟨3, ![3, 4096, 2752]⟩
abbrev S1 : Shape := ⟨1, ![1]⟩
abbrev S1x4096x2752 : Shape := ⟨3, ![1, 4096, 2752]⟩
abbrev S8 : Shape := ⟨1, ![8]⟩
abbrev S8x1x1 : Shape := ⟨3, ![8, 1, 1]⟩
abbrev S_ : Shape := ⟨0, ![]⟩
abbrev S4096x2752 : Shape := ⟨2, ![4096, 2752]⟩
abbrev S4 : Shape := ⟨1, ![4]⟩
abbrev S4x1x1 : Shape := ⟨3, ![4, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x4096x2752, .bf16⟩
  | .hbm, ⟨1, _⟩ => ⟨S4x4096x2752, .bf16⟩
  | .hbm, ⟨2, _⟩ => ⟨S3x4096x2752, .bf16⟩
  | .hbm, ⟨3, _⟩ => ⟨S1, .i32⟩
  | .hbm, ⟨4, _⟩ => ⟨S1, .i32⟩
  | .hbm, ⟨5, _⟩ => ⟨S1x4096x2752, .f32⟩
  | .hbm, ⟨6, _⟩ => ⟨S1x4096x2752, .f32⟩
  | .hbm, ⟨7, _⟩ => ⟨S1x4096x2752, .f32⟩
  | .hbm, ⟨8, _⟩ => ⟨S8, .i32⟩
  | .hbm, ⟨9, _⟩ => ⟨S8x1x1, .i32⟩
  | .hbm, ⟨10, _⟩ => ⟨S_, .i32⟩
  | .hbm, ⟨11, _⟩ => ⟨S8x1x1, .i32⟩
  | .hbm, ⟨12, _⟩ => ⟨S8x1x1, .i1⟩
  | .hbm, ⟨13, _⟩ => ⟨S8x4096x2752, .f32⟩
  | .hbm, ⟨14, _⟩ => ⟨S_, .f32⟩
  | .hbm, ⟨15, _⟩ => ⟨S_, .f32⟩
  | .hbm, ⟨16, _⟩ => ⟨S8x4096x2752, .i1⟩
  | .hbm, ⟨17, _⟩ => ⟨S8x4096x2752, .f32⟩
  | .hbm, ⟨18, _⟩ => ⟨S8x4096x2752, .f32⟩
  | .hbm, ⟨19, _⟩ => ⟨S_, .f32⟩
  | .hbm, ⟨20, _⟩ => ⟨S4096x2752, .f32⟩
  | .hbm, ⟨21, _⟩ => ⟨S4, .i32⟩
  | .hbm, ⟨22, _⟩ => ⟨S4x1x1, .i32⟩
  | .hbm, ⟨23, _⟩ => ⟨S_, .i32⟩
  | .hbm, ⟨24, _⟩ => ⟨S4x1x1, .i32⟩
  | .hbm, ⟨25, _⟩ => ⟨S4x1x1, .i1⟩
  | .hbm, ⟨26, _⟩ => ⟨S4x4096x2752, .f32⟩
  | .hbm, ⟨27, _⟩ => ⟨S_, .f32⟩
  | .hbm, ⟨28, _⟩ => ⟨S_, .f32⟩
  | .hbm, ⟨29, _⟩ => ⟨S4x4096x2752, .i1⟩
  | .hbm, ⟨30, _⟩ => ⟨S4x4096x2752, .f32⟩
  | .hbm, ⟨31, _⟩ => ⟨S4x4096x2752, .f32⟩
  | .hbm, ⟨32, _⟩ => ⟨S_, .f32⟩
  | .hbm, ⟨33, _⟩ => ⟨S4096x2752, .f32⟩
  | .hbm, ⟨34, _⟩ => ⟨S4096x2752, .f32⟩
  | .hbm, ⟨35, _⟩ => ⟨S3x4096x2752, .f32⟩
  | .hbm, ⟨36, _⟩ => ⟨S_, .f32⟩
  | .hbm, ⟨37, _⟩ => ⟨S4096x2752, .f32⟩
  | .hbm, ⟨38, _⟩ => ⟨S4096x2752, .f32⟩
  | .hbm, ⟨39, _⟩ => ⟨S4096x2752, .f32⟩
  | .hbm, ⟨40, _⟩ => ⟨S4096x2752, .f32⟩
  | .hbm, ⟨41, _⟩ => ⟨S4096x2752, .f32⟩
  | .hbm, ⟨42, _⟩ => ⟨S_, .f32⟩
  | .hbm, ⟨43, _⟩ => ⟨S4096x2752, .f32⟩
  | .hbm, ⟨44, _⟩ => ⟨S4096x2752, .f32⟩
  | .hbm, ⟨45, _⟩ => ⟨S_, .f32⟩
  | .hbm, ⟨46, _⟩ => ⟨S4096x2752, .f32⟩
  | .hbm, ⟨47, _⟩ => ⟨S4096x2752, .f32⟩
  | .hbm, ⟨48, _⟩ => ⟨S4096x2752, .f32⟩
  | .hbm, ⟨49, _⟩ => ⟨S_, .f32⟩
  | .hbm, ⟨50, _⟩ => ⟨S4096x2752, .f32⟩
  | .hbm, ⟨51, _⟩ => ⟨S4096x2752, .f32⟩
  | .hbm, ⟨52, _⟩ => ⟨S4096x2752, .f32⟩
  | .hbm, ⟨53, _⟩ => ⟨S_, .f32⟩
  | .hbm, ⟨54, _⟩ => ⟨S4096x2752, .f32⟩
  | .hbm, ⟨55, _⟩ => ⟨S4096x2752, .f32⟩
  | .hbm, ⟨56, _⟩ => ⟨S4096x2752, .f32⟩
  | .hbm, ⟨57, _⟩ => ⟨S_, .f32⟩
  | .hbm, ⟨58, _⟩ => ⟨S4096x2752, .f32⟩
  | .hbm, ⟨59, _⟩ => ⟨S4096x2752, .f32⟩
  | .hbm, ⟨60, _⟩ => ⟨S_, .f32⟩
  | .hbm, ⟨61, _⟩ => ⟨S4096x2752, .f32⟩
  | .hbm, ⟨62, _⟩ => ⟨S4096x2752, .f32⟩
  | .hbm, ⟨63, _⟩ => ⟨S4096x2752, .f32⟩
  | .hbm, ⟨64, _⟩ => ⟨S_, .f32⟩
  | .hbm, ⟨65, _⟩ => ⟨S4096x2752, .f32⟩
  | .hbm, ⟨66, _⟩ => ⟨S4096x2752, .f32⟩
  | .hbm, ⟨67, _⟩ => ⟨S4096x2752, .f32⟩
  | .hbm, ⟨68, _⟩ => ⟨S_, .f32⟩
  | .hbm, ⟨69, _⟩ => ⟨S4096x2752, .f32⟩
  | .hbm, ⟨70, _⟩ => ⟨S4096x2752, .f32⟩
  | .hbm, ⟨71, _⟩ => ⟨S4096x2752, .f32⟩
  | .hbm, ⟨72, _⟩ => ⟨S_, .f32⟩
  | .hbm, ⟨73, _⟩ => ⟨S4096x2752, .f32⟩
  | .hbm, ⟨74, _⟩ => ⟨S4096x2752, .f32⟩
  | _, _ => ⟨S8x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_8 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_12 : Ref sig .tc := ⟨.hbm, 72, rfl⟩
abbrev main_v45 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== KAddSib.lean ====
abbrev S8x4096x2752 : Shape := ⟨3, ![8, 4096, 2752]⟩
abbrev S4x4096x2752 : Shape := ⟨3, ![4, 4096, 2752]⟩
abbrev S1 : Shape := ⟨1, ![1]⟩
abbrev S3x4096x2752 : Shape := ⟨3, ![3, 4096, 2752]⟩
abbrev S1x512x2752 : Shape := ⟨3, ![1, 512, 2752]⟩
abbrev S512x2752 : Shape := ⟨2, ![512, 2752]⟩

abbrev nBuf : Space → Nat
  | .hbm => 3
  | .vmem => 6
  | .smem => 3
  | _ => 0

abbrev bufTy : (tb : Table) → Fin (tcTables nBuf tb) → BufTy
  | .hbm, ⟨0, _⟩ => ⟨S8x4096x2752, .bf16⟩
  | .hbm, ⟨1, _⟩ => ⟨S4x4096x2752, .bf16⟩
  | .hbm, ⟨2, _⟩ => ⟨S3x4096x2752, .bf16⟩
  | .local _ .vmem, ⟨0, _⟩ => ⟨S1x512x2752, .bf16⟩
  | .local _ .vmem, ⟨1, _⟩ => ⟨S1x512x2752, .bf16⟩
  | .local _ .vmem, ⟨2, _⟩ => ⟨S1x512x2752, .bf16⟩
  | .local _ .vmem, ⟨3, _⟩ => ⟨S1x512x2752, .bf16⟩
  | .local _ .vmem, ⟨4, _⟩ => ⟨S1x512x2752, .bf16⟩
  | .local _ .vmem, ⟨5, _⟩ => ⟨S1x512x2752, .bf16⟩
  | .local _ .smem, ⟨0, _⟩ => ⟨S1, .i32⟩
  | .local _ .smem, ⟨1, _⟩ => ⟨S1, .i32⟩
  | .local _ .smem, ⟨2, _⟩ => ⟨S1, .i32⟩
  | _, _ => ⟨S8x4096x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨3, ![main_arg2.idx, main_arg3.idx, main_arg4.idx], fun | 0 => main_arg2.names | 1 => main_arg3.names | 2 => main_arg4.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let c0_0 : Index := 0#32
  let v2 : BitVec 32 := pf.at 0 (Rect.unit (s := S1) ![0] S1.size inb_S1_S1_0) numel1_S1
  let c1_i32_1 : BitVec 32 := 1#32
  let v3 : BitVec 32 := Scalar.subi c1_i32_1 v2
  let v4 : BitVec 32 := Scalar.select v0 v1 v3
  let c0_i32 : BitVec 32 := 0#32
  let v5 : BitVec 1 := Scalar.cmpi .eq arg0 c0_i32
  let c0_2 : Index := 0#32
  let v6 : BitVec 32 := pf.at 1 (Rect.unit (s := S1) ![0] S1.size inb_S1_S1_0) numel1_S1
  let c0_3 : Index := 0#32
  let v7 : BitVec 32 := pf.at 1 (Rect.unit (s := S1) ![0] S1.size inb_S1_S1_0) numel1_S1
  let c1_i32_4 : BitVec 32 := 1#32
  let v8 : BitVec 32 := Scalar.subi c1_i32_4 v7
  let v9 : BitVec 32 := Scalar.select v5 v6 v8
  let c2_i32 : BitVec 32 := 2#32
  let v10 : BitVec 32 := Scalar.muli c2_i32 v4
  let v11 : BitVec 32 := Scalar.addi v10 v9
  let c2_i32_5 : BitVec 32 := 2#32
  let v12 : BitVec 32 := Scalar.muli c2_i32_5 v11
  let c0_6 : Index := 0#32
  let v13 : BitVec 32 := pf.at 2 (Rect.unit (s := S1) ![0] S1.size inb_S1_S1_0) numel1_S1
  let v14 : BitVec 32 := Scalar.addi v12 v13
  let c0_i32_7 : BitVec 32 := 0#32
  let c0_i32_8 : BitVec 32 := 0#32
  ![v14.toNat, arg1.toNat, c0_i32_7.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0 : Index := 0#32
  let v1 : BitVec 32 := pf.at 0 (Rect.unit (s := S1) ![0] S1.size inb_S1_S1_0) numel1_S1
  let c0_0 : Index := 0#32
  let v2 : BitVec 32 := pf.at 0 (Rect.unit (s := S1) ![0] S1.size inb_S1_S1_0) numel1_S1
  let c1_i32_1 : BitVec 32 := 1#32
  let v3 : BitVec 32 := Scalar.subi c1_i32_1 v2
  let v4 : BitVec 32 := Scalar.select v0 v1 v3
  let c0_i32 : BitVec 32 := 0#32
  let v5 : BitVec 1 := Scalar.cmpi .eq arg0 c0_i32
  let c0_2 : Index := 0#32
  let v6 : BitVec 32 := pf.at 1 (Rect.unit (s := S1) ![0] S1.size inb_S1_S1_0) numel1_S1
  let c0_3 : Index := 0#32
  let v7 : BitVec 32 := pf.at 1 (Rect.unit (s := S1) ![0] S1.size inb_S1_S1_0) numel1_S1
  let c1_i32_4 : BitVec 32 := 1#32
  let v8 : BitVec 32 := Scalar.subi c1_i32_4 v7
  let v9 : BitVec 32 := Scalar.select v5 v6 v8
  let c2_i32 : BitVec 32 := 2#32
  let v10 : BitVec 32 := Scalar.muli c2_i32 v4
  let v11 : BitVec 32 := Scalar.addi v10 v9
  let c0_i32_5 : BitVec 32 := 0#32
  let c0_i32_6 : BitVec 32 := 0#32
  ![v11.toNat, arg1.toNat, c0_i32_5.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RAddSibIdeal.lean ====
abbrev S8x4096x2752 : Shape := ⟨3, ![8, 4096, 2752]⟩
abbrev S4x4096x2752 : Shape := ⟨3, ![4, 4096, 2752]⟩
abbrev S1 : Shape := ⟨1, ![1]⟩
abbrev S_ : Shape := ⟨0, ![]⟩
abbrev S3 : Shape := ⟨1, ![3]⟩
abbrev S3x1x1x1 : Shape := ⟨4, ![3, 1, 1, 1]⟩
abbrev S8 : Shape := ⟨1, ![8]⟩
abbrev S1x8x1x1 : Shape := ⟨4, ![1, 8, 1, 1]⟩
abbrev S3x8x1x1 : Shape := ⟨4, ![3, 8, 1, 1]⟩
abbrev S1x8x4096x2752 : Shape := ⟨4, ![1, 8, 4096, 2752]⟩
abbrev S3x8x4096x2752 : Shape := ⟨4, ![3, 8, 4096, 2752]⟩
abbrev S3x4096x2752 : Shape := ⟨3, ![3, 4096, 2752]⟩
abbrev S4 : Shape := ⟨1, ![4]⟩
abbrev S1x4x1x1 : Shape := ⟨4, ![1, 4, 1, 1]⟩
abbrev S3x4x1x1 : Shape := ⟨4, ![3, 4, 1, 1]⟩
abbrev S1x4x4096x2752 : Shape := ⟨4, ![1, 4, 4096, 2752]⟩
abbrev S3x4x4096x2752 : Shape := ⟨4, ![3, 4, 4096, 2752]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x2752, .bf16⟩
  | .hbm, ⟨1, _⟩ => ⟨S4x4096x2752, .bf16⟩
  | .hbm, ⟨2, _⟩ => ⟨S1, .i32⟩
  | .hbm, ⟨3, _⟩ => ⟨S1, .i32⟩
  | .hbm, ⟨4, _⟩ => ⟨S1, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S1, .i32⟩
  | .hbm, ⟨31, _⟩ => ⟨S3, .i32⟩
  | .hbm, ⟨32, _⟩ => ⟨S3x1x1x1, .i32⟩
  | .hbm, ⟨33, _⟩ => ⟨S8, .i32⟩
  | .hbm, ⟨34, _⟩ => ⟨S1x8x1x1, .i32⟩
  | .hbm, ⟨35, _⟩ => ⟨S_, .i32⟩
  | .hbm, ⟨36, _⟩ => ⟨S3x1x1x1, .i32⟩
  | .hbm, ⟨37, _⟩ => ⟨S3x1x1x1, .i32⟩
  | .hbm, ⟨38, _⟩ => ⟨S_, .i32⟩
  | .hbm, ⟨39, _⟩ => ⟨S3x1x1x1, .i32⟩
  | .hbm, ⟨40, _⟩ => ⟨S3x1x1x1, .i32⟩
  | .hbm, ⟨41, _⟩ => ⟨S3x8x1x1, .i32⟩
  | .hbm, ⟨42, _⟩ => ⟨S3x8x1x1, .i32⟩
  | .hbm, ⟨43, _⟩ => ⟨S3x8x1x1, .i1⟩
  | .hbm, ⟨44, _⟩ => ⟨S8x4096x2752, .f32⟩
  | .hbm, ⟨45, _⟩ => ⟨S1x8x4096x2752, .f32⟩
  | .hbm, ⟨46, _⟩ => ⟨S_, .f32⟩
  | .hbm, ⟨47, _⟩ => ⟨S_, .f32⟩
  | .hbm, ⟨48, _⟩ => ⟨S3x8x4096x2752, .i1⟩
  | .hbm, ⟨49, _⟩ => ⟨S3x8x4096x2752, .f32⟩
  | .hbm, ⟨50, _⟩ => ⟨S3x8x4096x2752, .f32⟩
  | .hbm, ⟨51, _⟩ => ⟨S3x8x4096x2752, .f32⟩
  | .hbm, ⟨52, _⟩ => ⟨S_, .f32⟩
  | .hbm, ⟨53, _⟩ => ⟨S3x4096x2752, .f32⟩
  | .hbm, ⟨54, _⟩ => ⟨S4, .i32⟩
  | .hbm, ⟨55, _⟩ => ⟨S1x4x1x1, .i32⟩
  | .hbm, ⟨56, _⟩ => ⟨S3x4x1x1, .i32⟩
  | .hbm, ⟨57, _⟩ => ⟨S3x4x1x1, .i32⟩
  | .hbm, ⟨58, _⟩ => ⟨S3x4x1x1, .i1⟩
  | .hbm, ⟨59, _⟩ => ⟨S4x4096x2752, .f32⟩
  | .hbm, ⟨60, _⟩ => ⟨S1x4x4096x2752, .f32⟩
  | .hbm, ⟨61, _⟩ => ⟨S_, .f32⟩
  | .hbm, ⟨62, _⟩ => ⟨S_, .f32⟩
  | .hbm, ⟨63, _⟩ => ⟨S3x4x4096x2752, .i1⟩
  | .hbm, ⟨64, _⟩ => ⟨S3x4x4096x2752, .f32⟩
  | .hbm, ⟨65, _⟩ => ⟨S3x4x4096x2752, .f32⟩
  | .hbm, ⟨66, _⟩ => ⟨S3x4x4096x2752, .f32⟩
  | .hbm, ⟨67, _⟩ => ⟨S_, .f32⟩
  | .hbm, ⟨68, _⟩ => ⟨S3x4096x2752, .f32⟩
  | .hbm, ⟨69, _⟩ => ⟨S3x4096x2752, .f32⟩
  | .hbm, ⟨70, _⟩ => ⟨S3x4096x2752, .bf16⟩
  | _, _ => ⟨S8x4096x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_c_4 : Ref sig .tc := ⟨.hbm, 22, rfl⟩
abbrev main_v12 : Ref sig .tc := ⟨.hbm, 23, rfl⟩
abbrev main_v13 : Ref sig .tc := ⟨.hbm, 24, rfl⟩
abbrev main_c_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_call1_v3 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Proof.Rows.lean ====
/- The rows of a padded token matrix. The 2 sequences of 2064 positions are laid one after the other as 4128 rows, and 96 rows of
   padding follow, 4224 in all. `padded g R` is row `R` of such a matrix whose padding is zero; sums over all 4224 rows are sums over
   sequences and positions. -/
module

public import Idealize.ShloMosaic.Lib.Pipeline.ValueKit
public import Idealize.ShloMosaic.Lib.KernelVsHost
public import Idealize.ShloMosaic.Lib.WordCmp

@[expose] public section

noncomputable section

namespace Cert.Rows

/-- Row `R` of the padded matrix: the entry of sequence `R / 2064` at position `R % 2064`, zero on the padding rows. -/
def padded (g : Fin 2 → Fin 2064 → EReal) (R : ℕ) : EReal :=
  if h : R < 4128 then g ⟨R / 2064, by omega⟩ ⟨R % 2064, by omega⟩ else 0

theorem padded_pos (g : Fin 2 → Fin 2064 → EReal) {R : ℕ} (h : R < 4128) :
    padded g R = g ⟨R / 2064, by omega⟩ ⟨R % 2064, by omega⟩ := dif_pos h

theorem padded_neg (g : Fin 2 → Fin 2064 → EReal) {R : ℕ} (h : ¬R < 4128) : padded g R = 0 := dif_neg h

/-- The host's padding value, the integer zero read as a float, is zero. -/
theorem sitofp_zero : (Idealize.ShloMosaic.FloatOps.sitofp (F := Idealize.ShloMosaic.Ideal) .f32 0#32) = (0 : EReal) := by
  show (((0#32 : BitVec 32).toInt : ℝ) : EReal) = 0
  simp

/-- The sum over the padded rows is the sum over sequences and positions. -/
theorem sum_padded (g : Fin 2 → Fin 2064 → EReal) :
    ∑ R : Fin 4224, padded g R.val = ∑ b : Fin 2, ∑ l : Fin 2064, g b l := by
  have h1 : ∑ R : Fin 4224, padded g R.val = ∑ R ∈ Finset.range 4224, padded g R := Fin.sum_univ_eq_sum_range (padded g) 4224
  have h2 : ∑ R ∈ Finset.range 4224, padded g R = ∑ R ∈ Finset.range 4128, padded g R := by
    symm
    apply Finset.sum_subset
    · intro x hx; simp only [Finset.mem_range] at hx ⊢; omega
    · intro x _ hx; exact padded_neg g (by simpa using hx)
  have h3 : ∑ R ∈ Finset.range 4128, padded g R = ∑ R : Fin 4128, padded g R.val := (Fin.sum_univ_eq_sum_range (padded g) 4128).symm
  rw [h1, h2, h3, ← Fin.sum_divmod_fin (N := 4128) 2064 g]
  exact Finset.sum_congr rfl fun R _ => padded_pos g R.isLt

/-- The sum over 33 blocks of 128 rows is the sum over sequences and positions. -/
theorem sum_blocks (g : Fin 2 → Fin 2064 → EReal) :
    ∑ t : Fin 33, ∑ r : Fin 128, padded g (t.val * 128 + r.val) = ∑ b : Fin 2, ∑ l : Fin 2064, g b l := by
  rw [← sum_padded]
  exact Fin.sum_mul_add_fin 33 128 fun R : Fin 4224 => padded g R.val

/-- A product of a padded row with any other array whose live rows are those of `h` is the padded product: nothing is asked of the other
    array's padding rows. -/
theorem padded_mul (g h : Fin 2 → Fin 2064 → EReal) (R : ℕ) (y : EReal)
    (hy : ∀ hR : R < 4128, y = h ⟨R / 2064, by omega⟩ ⟨R % 2064, by omega⟩) :
    padded g R * y = padded (fun b s => g b s * h b s) R := by
  by_cases hR : R < 4128
  · rw [padded_pos _ hR, padded_pos _ hR, hy hR]
  · rw [padded_neg _ hR, padded_neg _ hR, zero_mul]

open Idealize.ShloMosaic in
/-- The host's sum over the first two axes of three, at an index of the last axis. -/
theorem sum_first_two {n0 n1 n2 : ℕ} (h : (⟨3, ![n0, n1, n2]⟩ : Shape).ReducesTo [0, 1] ⟨1, ![n2]⟩)
    (v : (⟨3, ![n0, n1, n2]⟩ : Shape).Idx → EReal) (init : EReal) (j : Fin n2) :
    Ideal.hostReduceAdd h v init (ix1 j) = init + ∑ a : Fin n0, ∑ b : Fin n1, v (ix3 a b j) := by
  have key : ∀ (a : Fin n0) (b : Fin n1) (c : Fin n2), h.drop (ix3 a b c) = ix1 j ↔ c = j := fun a b c => by
    constructor
    · intro e
      exact Fin.ext (congrArg Fin.val (congrFun e 0))
    · rintro rfl
      funext x
      apply Fin.ext
      match x with
      | ⟨0, _⟩ => rfl
  show init + _ = init + _
  congr 1
  rw [Finset.sum_filter, sum_idx3]
  refine Finset.sum_congr rfl fun a _ => Finset.sum_congr rfl fun b _ => ?_
  simp only [key, Finset.sum_ite_eq', Finset.mem_univ, if_true]

open Idealize.ShloMosaic

/-- The 2 sequences laid one after the other. -/
theorem rows_apply {C : ℕ} (X : FVec Ideal ⟨3, ![2, 2064, C]⟩ .f32) (h1 : (⟨3, ![2, 2064, C]⟩ : Shape).ShapeCasts ⟨2, ![4128, C]⟩) (R : Fin 4128) (l : Fin C) :
    shapeCast ⟨2, ![4128, C]⟩ X h1 (ix2 R l) = X (ix3 ⟨R.val / 2064, by omega⟩ ⟨R.val % 2064, by omega⟩ l) := by
  refine shapeCast_apply X h1 _ _ ?_
  rw [Shape.rowMajor_val_three, Shape.rowMajor_val_two]
  show (R.val / 2064 * 2064 + R.val % 2064) * C + l.val = R.val * C + l.val
  rw [Nat.div_add_mod']

/-- The rows of the sequences with 96 rows of zeros after them. -/
theorem padRows_apply {C : ℕ} (X : FVec Ideal ⟨3, ![2, 2064, C]⟩ .f32) (h1 : (⟨3, ![2, 2064, C]⟩ : Shape).ShapeCasts ⟨2, ![4128, C]⟩)
    (h2 : (⟨2, ![4128, C]⟩ : Shape).Pads ![0, 0] ![96, 0] ![0, 0] ⟨2, ![4224, C]⟩) (h3 : 0 < (⟨0, ![]⟩ : Shape).numel) (R : Fin 4224) (l : Fin C) :
    pad ⟨2, ![4224, C]⟩ ![0, 0] ![96, 0] ![0, 0] (shapeCast ⟨2, ![4128, C]⟩ X h1) (sitofp .f32 (constantI ⟨0, ![]⟩ 32 0#32)) h2 h3 (ix2 R l)
      = padded (fun b s => X (ix3 b s l)) R.val := by
  by_cases h : R.val < 4128
  · rw [padded_pos _ h, ← rows_apply X h1 ⟨R.val, h⟩ l]
    exact pad_apply_of_inside _ _ _ _ _ _ _ _ _ fun a => match a with
      | ⟨0, _⟩ => by show R.val = 0 + R.val * (0 + 1); omega
      | ⟨1, _⟩ => by show l.val = 0 + l.val * (0 + 1); omega
  · rw [padded_neg _ h]
    refine (pad_apply_of_not_inside _ _ _ _ _ _ _ _ 0 fun hin => h ?_).trans sitofp_zero
    have h' : (R.val - 0) / (0 + 1) < 4128 := hin.2.2
    simpa using h'

/-- The rows of the sequences with 96 other rows after them, at a row of the sequences. -/
theorem tailRows_apply {C : ℕ} (X : FVec Ideal ⟨3, ![2, 2064, C]⟩ .f32) (T : FVec Ideal ⟨2, ![96, C]⟩ .f32)
    (h1 : (⟨3, ![2, 2064, C]⟩ : Shape).ShapeCasts ⟨2, ![4128, C]⟩)
    (h2 : Shape.Concatenates [(⟨2, ![4128, C]⟩ : Shape), ⟨2, ![96, C]⟩] ⟨2, ![4224, C]⟩ 0) (R : Fin 4224) (l : Fin C) (h : R.val < 4128) :
    concatenate ⟨2, ![4224, C]⟩ 0 [⟨⟨2, ![4128, C]⟩, shapeCast ⟨2, ![4128, C]⟩ X h1⟩, ⟨⟨2, ![96, C]⟩, T⟩] h2 (ix2 R l)
      = X (ix3 ⟨R.val / 2064, by omega⟩ ⟨R.val % 2064, by omega⟩ l) := by
  rw [← rows_apply X h1 ⟨R.val, h⟩ l]
  generalize shapeCast ⟨2, ![4128, C]⟩ X h1 = Y
  pointwise
  rw [dif_pos h]
  exact congrArg Y (funext fun a => match a with
    | ⟨0, _⟩ => rfl
    | ⟨1, _⟩ => rfl)

/-- A row's position in its sequence, as the kernels count it: the padding rows carry on after the second sequence. -/
def pos (R : ℕ) : ℕ := if R < 2064 then R else R - 2064

/-- The column of positions at a row. -/
theorem select_pos (R : Fin 4224) : Scalar.select (IntOp.cmpi .sge (BitVec.ofNat 32 R.val) 2064#32) (IntOp.subi (BitVec.ofNat 32 R.val) 2064#32)
      (BitVec.ofNat 32 R.val) = BitVec.ofNat 32 (pos R.val) := by
  have hR := R.isLt
  unfold pos
  refine (if_congr (WordCmp.cmpi_sge_ofNat_eq_one_iff (w := 32) (a := R.val) (b := 2064) (by omega) (by omega)) rfl rfl).trans ?_
  by_cases h : 2064 ≤ R.val
  · rw [if_pos h, if_neg (by omega)]
    show BitVec.ofNat 32 R.val - 2064#32 = BitVec.ofNat 32 (R.val - 2064)
    apply BitVec.eq_of_toNat_eq
    simp only [BitVec.toNat_sub, BitVec.toNat_ofNat]
    omega
  · rw [if_neg h, if_pos (by omega)]

theorem pos_lt (R : Fin 4224) : pos R.val < 2160 := by
  have hR := R.isLt
  unfold pos; split <;> omega

theorem select_down {α : Type} (R : Fin 4224) (k : ℕ) (hk : k < 2064) (x y : α) :
    Scalar.select (IntOp.cmpi .sge (BitVec.ofNat 32 (pos R.val)) (BitVec.ofNat 32 k)) x y = if k ≤ pos R.val then x else y := by
  have hR := pos_lt R
  exact if_congr (WordCmp.cmpi_sge_ofNat_eq_one_iff (w := 32) (a := pos R.val) (b := k) (by omega) (by omega)) rfl rfl

theorem select_up {α : Type} (R : Fin 4224) (k : ℕ) (hk : k < 2064) (x y : α) :
    Scalar.select (IntOp.cmpi .slt (IntOp.addi (BitVec.ofNat 32 (pos R.val)) (BitVec.ofNat 32 k)) 2064#32) x y = if pos R.val + k < 2064 then x else y := by
  have hR := pos_lt R
  rw [WordCmp.addi_ofNat]
  exact if_congr (WordCmp.cmpi_slt_ofNat_eq_one_iff (w := 32) (a := pos R.val + k) (b := 2064) (by omega) (by omega)) rfl rfl

/-- The entry `k` positions earlier in the same sequence, zero before the start. -/
def before (g : Fin 2 → Fin 2064 → EReal) (k : ℕ) (b : Fin 2) (s : Fin 2064) : EReal :=
  if h : k ≤ s.val then g b ⟨s.val - k, by omega⟩ else 0

theorem before_zero (g : Fin 2 → Fin 2064 → EReal) (b : Fin 2) (s : Fin 2064) : before g 0 b s = g b s := dif_pos (Nat.zero_le _)

/-- The entry `k` positions later in the same sequence, zero past the end. -/
def after (g : Fin 2 → Fin 2064 → EReal) (k : ℕ) (b : Fin 2) (s : Fin 2064) : EReal :=
  if h : s.val + k < 2064 then g b ⟨s.val + k, h⟩ else 0

/-- Rows shifted down by `k` and masked at the start of every sequence, at a row of the sequences. -/
theorem shift_down (g : Fin 2 → Fin 2064 → EReal) (x : Fin 4224 → EReal)
    (hx : ∀ (R : Fin 4224) (h : R.val < 4128), x R = g ⟨R.val / 2064, by omega⟩ ⟨R.val % 2064, by omega⟩)
    (R : Fin 4224) (h : R.val < 4128) (k : ℕ) (q : Fin 4224) (hq : q.val = (R.val + 4224 - k) % 4224) :
    (if k ≤ pos R.val then x q else 0) = before g k ⟨R.val / 2064, by omega⟩ ⟨R.val % 2064, by omega⟩ := by
  have hp : pos R.val = R.val % 2064 := by unfold pos; split <;> omega
  unfold before
  rw [hp]
  by_cases hk : k ≤ R.val % 2064
  · have hq' : q.val = R.val - k := by omega
    rw [if_pos hk, dif_pos hk, hx q (by omega)]
    exact congrArg₂ g (Fin.ext (by show q.val / 2064 = R.val / 2064; omega)) (Fin.ext (by show q.val % 2064 = R.val % 2064 - k; omega))
  · rw [if_neg hk, dif_neg hk]

/-- Rows shifted up by `k` and masked at the end of every sequence: the padding rows become zero. -/
theorem shift_up (g : Fin 2 → Fin 2064 → EReal) (x : Fin 4224 → EReal)
    (hx : ∀ (R : Fin 4224) (h : R.val < 4128), x R = g ⟨R.val / 2064, by omega⟩ ⟨R.val % 2064, by omega⟩)
    (R : Fin 4224) (k : ℕ) (q : Fin 4224) (hq : q.val = (R.val + k) % 4224) :
    (if pos R.val + k < 2064 then x q else 0) = padded (after g k) R.val := by
  have hR := R.isLt
  by_cases h : R.val < 4128
  · have hp : pos R.val = R.val % 2064 := by unfold pos; split <;> omega
    rw [padded_pos _ h, hp]
    unfold after
    by_cases hk : R.val % 2064 + k < 2064
    · have hq' : q.val = R.val + k := by omega
      rw [if_pos hk, dif_pos hk, hx q (by omega)]
      exact congrArg₂ g (Fin.ext (by show q.val / 2064 = R.val / 2064; omega)) (Fin.ext (by show q.val % 2064 = R.val % 2064 + k; omega))
    · rw [if_neg hk, dif_neg hk]
  · rw [padded_neg _ h, if_neg (by unfold pos; split <;> omega)]

/-- Rows rotated by the number of rows less `k` are the rows `k` later, cyclically. -/
theorem rotate_up {C : ℕ} (n : BitVec 32) (k : ℕ) (hn : n.toNat = 4224 - k) (h0 : 0 < k) (hk : k < 4224) (x : FVec Ideal ⟨2, ![4224, C]⟩ .f32)
    (h : (⟨2, ![4224, C]⟩ : Shape).Rotates 0 none) (R : Fin 4224) (l : Fin C) :
    dynamicRotate 0 n none x h (ix2 R l) = x (ix2 ⟨(R.val + k) % 4224, Nat.mod_lt _ (by omega)⟩ l) :=
  dynamicRotate_apply 0 n x h _ _ fun b => match b with
    | ⟨0, _⟩ => by
      show (R.val + k) % 4224 = (R.val + 4224 - n.toNat % 4224) % 4224
      rw [hn]; omega
    | ⟨1, _⟩ => rfl

theorem padded_mul_const (g : Fin 2 → Fin 2064 → EReal) (R : ℕ) (w : EReal) : padded g R * w = padded (fun b s => g b s * w) R :=
  padded_mul g (fun _ _ => w) R w fun _ => rfl

theorem padded_add (g h : Fin 2 → Fin 2064 → EReal) (R : ℕ) : padded g R + padded h R = padded (fun b s => g b s + h b s) R := by
  by_cases hR : R < 4128
  · rw [padded_pos _ hR, padded_pos _ hR, padded_pos _ hR]
  · rw [padded_neg _ hR, padded_neg _ hR, padded_neg _ hR, add_zero]

end Cert.Rows
end
-- ==== Proof.Scale.lean ====
module

public import proofs.«01_k».proof.Proof.Gen.KScaleIdeal.Value
public import proofs.«01_k».proof.Proof.Gen.RScaleIdeal.Run
public import proofs.«01_k».proof.Defs
public import proofs.«01_k».proof.Proof.Rows
public import Idealize.ShloMosaic.Lib.Pipeline.ValueKit
public import Idealize.ShloMosaic.Lib.Claim

@[expose] public section

set_option maxRecDepth 16384

noncomputable section

namespace Cert.KScaleIdeal.RefValue
open Cert.KScaleIdeal Cert.KScaleIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem idx : ∀ t : Fin cfg0.N, win0_0.index t = ![t.val, 1] ∧ win0_1.index t = ![t.val, 0] ∧ win0_2.index t = ![0, 0]
    ∧ win0_3.index t = ![t.val, 0] ∧ win0_4.index t = ![0, 0] :=
  (by decide +kernel : ∀ t : Fin grid0.N, _)

/-- The cotangent's rows, padded with zeros. -/
def hostDy (X : FVec Ideal S2x2064x4096 .f32) : FVec Ideal S4224x4096 .f32 :=
  pad S4224x4096 ![0, 0] ![96, 0] ![0, 0] (shapeCast S4128x4096 X shapeCasts_S2x2064x4096_S4128x4096)
    (sitofp .f32 (constantI S_ 32 0#32)) pads_S4128x4096_S4224x4096_0960_000 h_S_

/-- The mixed features of every row, the padding rows included. -/
def hostY (D : FVec Ideal S2x2064x2048 .f32) (T : FVec Ideal S96x2048 .f32) (W : FVec Ideal S1x4x512x512 .f32) : FVec Ideal S4224x2048 .f32 :=
  shapeCast S4224x2048 (transpose S4224x4x512 [2, 0, 1]
    (Host.dotGeneral dot_S4x512x512_S4224x4x512_S4x512x4224_1_2_2_0_0_1 none
      (shapeCast S4x512x512 W shapeCasts_S1x4x512x512_S4x512x512 : FVec Ideal S4x512x512 .f32)
      (shapeCast S4224x4x512 (concatenate S4224x2048 0 [⟨S4128x2048, shapeCast S4128x2048 D shapeCasts_S2x2064x2048_S4128x2048⟩,
        ⟨S96x2048, T⟩] concatenates_S4128x2048_S96x2048_S4224x2048_d0) shapeCasts_S4224x2048_S4224x4x512 : FVec Ideal S4224x4x512 .f32) : FVec Ideal S4x512x4224 .f32)
     transposes_S4x512x4224_S4224x4x512_2_0_1) shapeCasts_S4224x4x512_S4224x2048

theorem V_v8 (c : Dev nD) : V m c main_v8 = hostDy (m ((c : Thread nD τ).loc main_arg4)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem V_v6 (c : Dev nD) : V m c main_v6 = hostY (m ((c : Thread nD τ).loc main_arg0)) (m ((c : Thread nD τ).loc main_arg1)) (m ((c : Thread nD τ).loc main_arg2)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem hostDy_apply (X : FVec Ideal S2x2064x4096 .f32) (R : Fin 4224) (l : Fin 4096) : hostDy X (ix2 R l)
    = padded (fun b s => X (ix3 b s l)) R.val := by
  pointwise [hostDy]
  rw [Cert.Rows.sitofp_zero]; rfl

/-- The mixed features of sequence `b` at position `s`: the pooled features of the channel's group against the group's matrix. -/
def mixed (D : FVec Ideal S2x2064x2048 .f32) (W : FVec Ideal S1x4x512x512 .f32) (l : Fin 2048) (b : Fin 2) (s : Fin 2064) : EReal :=
  ∑ k : Fin 512, W (ix4 0 ⟨l.val / 512, by omega⟩ k ⟨l.val % 512, by omega⟩) * D (ix3 b s ⟨l.val / 512 * 512 + k.val, by omega⟩)

theorem hostY_apply (D : FVec Ideal S2x2064x2048 .f32) (T : FVec Ideal S96x2048 .f32) (W : FVec Ideal S1x4x512x512 .f32) (R : Fin 4224) (l : Fin 2048)
    (h : R.val < 4128) : hostY D T W (ix2 R l) = mixed D W l ⟨R.val / 2064, by omega⟩ ⟨R.val % 2064, by omega⟩ := by
  pointwise [hostY]
  simp only [dif_pos h]
  rfl

/-- the gradient of the mixed features -/
def G0 (X3 : FVec Ideal S1x2048 .f32) (X4 : FVec Ideal S2x2064x4096 .f32) : FVec Ideal S4224x2048 .bf16 := fun j =>
  padded (fun b s => X4 (ix3 b s ⟨2048 + (j 1).val, by have := (j 1).isLt; change (j 1).val < 2048 at this; omega⟩)) (j 0).val * X3 (ix2 0 (j 1))

/-- the gradient of the scale -/
def G1 (D : FVec Ideal S2x2064x2048 .f32) (W : FVec Ideal S1x4x512x512 .f32) (X4 : FVec Ideal S2x2064x4096 .f32) : FVec Ideal S1x2048 .f32 := fun j =>
  ∑ b : Fin 2, ∑ s : Fin 2064, X4 (ix3 b s ⟨2048 + (j 1).val, by have := (j 1).isLt; change (j 1).val < 2048 at this; omega⟩) * mixed D W (j 1) b s

theorem blk_dy (c : Dev nD) (t : Fin cfg0.N) (r : Fin 128) (l : Fin 2048) : iblk m c 0 t (ix2 r l)
    = padded (fun b s => m ((c : Thread nD τ).loc main_arg4) (ix3 b s ⟨2048 + l.val, by omega⟩)) (t.val * 128 + r.val) := by
  have ht : t.val < 33 := lt_of_lt_of_eq t.isLt N_0
  blk_simp [iblk]
  refine Eq.trans (b := V m c main_v8 (ix2 ⟨t.val * 128 + r.val, by omega⟩ ⟨2048 + l.val, by omega⟩)) ?_ ?_
  · blk_ext [idx t]
  · rw [V_v8]; exact hostDy_apply _ _ _

theorem blk_y (c : Dev nD) (t : Fin cfg0.N) (r : Fin 128) (l : Fin 2048) (h : t.val * 128 + r.val < 4128) : iblk m c 1 t (ix2 r l)
    = mixed (m ((c : Thread nD τ).loc main_arg0)) (m ((c : Thread nD τ).loc main_arg2)) l
        ⟨(t.val * 128 + r.val) / 2064, by omega⟩ ⟨(t.val * 128 + r.val) % 2064, by omega⟩ := by
  have ht : t.val < 33 := lt_of_lt_of_eq t.isLt N_0
  blk_simp [iblk]
  refine Eq.trans (b := V m c main_v6 (ix2 ⟨t.val * 128 + r.val, by omega⟩ l)) ?_ ?_
  · blk_ext [idx t]
  · rw [V_v6]; exact hostY_apply _ _ _ ⟨t.val * 128 + r.val, by omega⟩ l h

theorem blk_s (c : Dev nD) (t : Fin cfg0.N) (l : Fin 2048) : iblk m c 2 t (ix2 0 l) = m ((c : Thread nD τ).loc main_arg3) (ix2 0 l) := by
  blk_ext [iblk, V, idx t]

theorem final0 (c : Dev nD) : (dats m 0 c).arrAt 3 (cfgs 0).N
    = G0 (m ((c : Thread nD τ).loc main_arg3)) (m ((c : Thread nD τ).loc main_arg4)) := by
  refine (dats m 0 c).arrAt_eq_of_covers 3 _ (by decide +kernel) fun t _ y => ?_
  have ht : t.val < 33 := lt_of_lt_of_eq t.isLt N_0
  obtain ⟨r, l, rfl⟩ : ∃ (r : Fin 128) (l : Fin 2048), y = ix2 r l := ⟨y 0, y 1, eq_ix2 y⟩
  have hout : (outsAt0 m c t.val t.isLt).1 = k0_pay2 (iblk m c 0 t) (iblk m c 2 t) := by
    by_cases h : t.val % 33 = 0
    · rw [outsAt0_A m c t h (by omega)]; frame_out
    · rw [outsAt0_B m c t h (by omega)]; frame_out
  have he : ((cfg0.win 3).blk t).view.emb (ix2 r l) = ix2 ⟨t.val * 128 + r.val, by omega⟩ l := by
    blk_ext [idx t]
  rw [he]
  blk_simp
  rw [after0_3, hout]
  pointwise [k0_pay2, k0_pay1, G0]
  rw [blk_dy, blk_s]

theorem hpay (x y) (j : S1x2048.Idx) : k0_pay3 (F := Ideal) x y j = ∑ r : Fin 128, x (ix2 r (j 1)) * y (ix2 r (j 1)) := by
  pointwise [k0_pay3, k0_pay1]
theorem hpayB (x y a) (j : S1x2048.Idx) : k0_pay4 (F := Ideal) x y a j = a j + ∑ r : Fin 128, x (ix2 r (j 1)) * y (ix2 r (j 1)) := by
  pointwise [k0_pay4, k0_pay3, k0_pay1]

theorem final1 (c : Dev nD) : (dats m 0 c).arrAt 4 (cfgs 0).N
    = G1 (m ((c : Thread nD τ).loc main_arg0)) (m ((c : Thread nD τ).loc main_arg2)) (m ((c : Thread nD τ).loc main_arg4)) := by
  refine (dats m 0 c).arrAt_eq_of_covers 4 _ (by decide +kernel) fun t hf y => ?_
  have ht : t.val < 33 := lt_of_lt_of_eq t.isLt N_0
  obtain ⟨r, l, rfl⟩ : ∃ (r : Fin 1) (l : Fin 2048), y = ix2 r l := ⟨y 0, y 1, eq_ix2 y⟩
  have he : ((cfg0.win 4).blk t).view.emb (ix2 r l) = ix2 0 l := by
    blk_ext [idx t]
  rw [he]
  blk_simp
  have hm := (flush0_4 t).mp hf
  rw [after0_4, Pipeline.eq_sum_fin_of_reset_step_apply_of_flush (fun n h => (outsAt0 m c n h).2) 33 (fun _ => 0) _
    (fun t h j => by
      have ht : t.val < 33 := lt_of_lt_of_eq t.isLt N_0
      rw [outsAt0_A m c t h (by omega)]; frame_out; rw [hpay]; exact (zero_add _).symm)
    (fun t h j => by rw [outsAt0_B m c t h (by omega)]; frame_out; rw [hpayB]) t hm _, zero_add]
  refine Eq.trans ?_ (sum_blocks fun b s => (show EReal from m ((c : Thread nD τ).loc main_arg4) (ix3 b s ⟨2048 + l.val, by omega⟩))
    * mixed (m ((c : Thread nD τ).loc main_arg0)) (m ((c : Thread nD τ).loc main_arg2)) l b s)
  refine Fin.sum_fin_congr fun s => Fin.sum_fin_congr fun r' => ?_
  have hs : (⟨33 * (t.val / 33) + s.val, Pipeline.run_point_lt_of_flush t hm s⟩ : Fin cfg0.N) = ⟨s.val, lt_of_lt_of_eq s.isLt N_0.symm⟩ :=
    Fin.ext (by show 33 * (t.val / 33) + s.val = s.val; omega)
  rw [hs]
  refine Eq.trans ?_ (padded_mul _ _ (s.val * 128 + r'.val) (iblk m c 1 ⟨s.val, lt_of_lt_of_eq s.isLt N_0.symm⟩ (ix2 r' l)) fun hR =>
    blk_y m c ⟨s.val, lt_of_lt_of_eq s.isLt N_0.symm⟩ r' l hR)
  exact congrArg₂ (· * ·) (blk_dy m c ⟨s.val, lt_of_lt_of_eq s.isLt N_0.symm⟩ r' l) rfl

end Cert.KScaleIdeal.RefValue

namespace Cert.RScaleIdeal.RefValue
open Cert.RScaleIdeal Cert.RScaleIdeal.Gen Idealize.ShloMosaic Idealize.ShloMosaic.TcCoe Idealize.SL.Sem
open Cert.Rows

/-- The reference's gradient of the mixed features, as the backward pass composes it. -/
def REF0 (X3 : FVec Ideal S1x2048 .f32) (X4 : FVec Ideal S2x2064x4096 .f32) : FVec Ideal S4224x2048 .bf16 :=
  truncf .bf16 (pad S4224x2048 ![0, 0] ![96, 0] ![0, 0] (shapeCast _ (mulf (extractStridedSlice S2x2064x2048 ![0, 0, 2048] X4 slices_S2x2064x4096_S2x2064x2048_0_0_2048) (broadcastInDim S2x2064x2048 ![0, 1, 2] bcast_S1x1x2048_S2x2064x2048_0_1_2 (broadcastInDim S1x1x2048 ![2] bcast_S2048_S1x1x2048_2 (shapeCast _ X3 shapeCasts_S1x2048_S2048)))) shapeCasts_S2x2064x2048_S4128x2048) (sitofp .f32 (constantI S_ 32 0#32)) pads_S4128x2048_S4224x2048_0960_000 h_S_) bitsLt_bf16_f32

/-- The reference's gradient of the scale. -/
def REF1 (X0 : FVec Ideal S2x2064x2048 .f32) (X2 : FVec Ideal S1x4x512x512 .f32) (X4 : FVec Ideal S2x2064x4096 .f32) : FVec Ideal S1x2048 .f32 :=
  broadcastInDim S1x2048 ![1] bcast_S2048_S1x2048_1 (Host.reduceAdd (shapeCast _ (Host.reduceAdd (mulf (shapeCast _ (transpose S2x2064x4x512 [2, 3, 0, 1] (Host.dotGeneral dot_S4x512x512_S2x2064x4x512_S4x512x2x2064_1_3_2_01_0_2 none (shapeCast _ X2 shapeCasts_S1x4x512x512_S4x512x512 : FVec Ideal S4x512x512 .f32) (shapeCast _ X0 shapeCasts_S2x2064x2048_S2x2064x4x512 : FVec Ideal S2x2064x4x512 .f32) : FVec Ideal S4x512x2x2064 .f32) transposes_S4x512x2x2064_S2x2064x4x512_2_3_0_1) shapeCasts_S2x2064x4x512_S2x2064x2048) (extractStridedSlice S2x2064x2048 ![0, 0, 2048] X4 slices_S2x2064x4096_S2x2064x2048_0_0_2048)) (constant S_ .f32 0x00000000#32) reducesTo_S2x2064x2048_S2048_d0_1 h_S_) shapeCasts_S2048_S1x1x2048) (constant S_ .f32 0x00000000#32) reducesTo_S1x1x2048_S2048_d0_1 h_S_)

theorem ref0 (X3 : FVec Ideal S1x2048 .f32) (X4 : FVec Ideal S2x2064x4096 .f32) : REF0 X3 X4 = Cert.KScaleIdeal.RefValue.G0 X3 X4 := by
  funext j
  idx_vars j
  pointwise [REF0, Cert.KScaleIdeal.RefValue.G0]
  rw [Cert.Rows.sitofp_zero]
  by_cases h : j0.val < 4128
  · rw [dif_pos h, padded_pos _ h]
  · rw [dif_neg h, padded_neg _ h, zero_mul]

theorem ref1 (X0 : FVec Ideal S2x2064x2048 .f32) (X2 : FVec Ideal S1x4x512x512 .f32) (X4 : FVec Ideal S2x2064x4096 .f32) : REF1 X0 X2 X4 = Cert.KScaleIdeal.RefValue.G1 X0 X2 X4 := by
  funext j
  idx_vars j
  pointwise [REF1, Cert.KScaleIdeal.RefValue.G1, Cert.KScaleIdeal.RefValue.mixed, sum_first_two]
  simp only [Finset.univ_unique, Finset.sum_const, Finset.card_singleton, one_smul]
  exact Finset.sum_congr rfl fun b _ => Finset.sum_congr rfl fun s _ => mul_comm _ _
end Cert.RScaleIdeal.RefValue

namespace Cert.Proof
open Idealize.ShloMosaic Idealize.ShloMosaic.TcCoe Idealize.SL.Sem

theorem algebraic_scale : Cert.algebraic_KScaleIdeal_RScaleIdeal := by
  pair_intro
  · run_from Cert.KScaleIdeal.Value.run_blocks m g
  · run_from Cert.RScaleIdeal.Value.run m' g'
    · rw [Cert.KScaleIdeal.RefValue.final0 m]

      exact Cert.RScaleIdeal.RefValue.ref0 _ _
    · rw [Cert.KScaleIdeal.RefValue.final1 m]; exact Cert.RScaleIdeal.RefValue.ref1 _ _ _
end Cert.Proof
end
-- ==== Proof.ConvMath.lean ====
/- The gradient of the gated short convolution, entry by entry. A sequence's projected features hold an output gate, an input gate and an
   input, 2048 columns each; the convolution has three taps and looks backwards only. -/
module

public import proofs.«01_k».proof.Proof.Rows

@[expose] public section

noncomputable section

namespace Cert.ConvMath
open Idealize.ShloMosaic
open Cert.Rows

/-- The gated input of the convolution. -/
def gated (X0 : FVec Ideal ⟨3, ![2, 2064, 8192]⟩ .f32) (l : Fin 2048) (b : Fin 2) (s : Fin 2064) : EReal :=
  X0 (ix3 b s ⟨2048 + l.val, by omega⟩) * X0 (ix3 b s ⟨4096 + l.val, by omega⟩)

/-- The convolution of the gated input. -/
def conv (X0 : FVec Ideal ⟨3, ![2, 2064, 8192]⟩ .f32) (X2 : FVec Ideal ⟨3, ![1, 3, 2048]⟩ .f32) (l : Fin 2048) (b : Fin 2) (s : Fin 2064) : EReal :=
  before (gated X0 l) 2 b s * X2 (ix3 0 0 l) + before (gated X0 l) 1 b s * X2 (ix3 0 1 l) + gated X0 l b s * X2 (ix3 0 2 l)

/-- The cotangent of the convolution's result. -/
def dconv (X0 : FVec Ideal ⟨3, ![2, 2064, 8192]⟩ .f32) (X3 : FVec Ideal ⟨3, ![2, 2064, 4096]⟩ .f32) (l : Fin 2048) (b : Fin 2) (s : Fin 2064) : EReal :=
  X3 (ix3 b s ⟨l.val, by omega⟩) * X0 (ix3 b s ⟨l.val, by omega⟩)

/-- The cotangent of the gated input. -/
def dgated (X0 : FVec Ideal ⟨3, ![2, 2064, 8192]⟩ .f32) (X2 : FVec Ideal ⟨3, ![1, 3, 2048]⟩ .f32) (X3 : FVec Ideal ⟨3, ![2, 2064, 4096]⟩ .f32) (l : Fin 2048) (b : Fin 2) (s : Fin 2064) : EReal :=
  dconv X0 X3 l b s * X2 (ix3 0 2 l) + after (dconv X0 X3 l) 1 b s * X2 (ix3 0 1 l) + after (dconv X0 X3 l) 2 b s * X2 (ix3 0 0 l)

/-- The gradient of the output gate. -/
def G0 (X0 : FVec Ideal ⟨3, ![2, 2064, 8192]⟩ .f32) (X2 : FVec Ideal ⟨3, ![1, 3, 2048]⟩ .f32) (X3 : FVec Ideal ⟨3, ![2, 2064, 4096]⟩ .f32) : FVec Ideal ⟨2, ![4224, 2048]⟩ .bf16 := fun j =>
  padded (fun b s => X3 (ix3 b s ⟨(j 1).val, by have := (j 1).isLt; change (j 1).val < 2048 at this; omega⟩) * conv X0 X2 (j 1) b s) (j 0).val
/-- The gradient of the input gate. -/
def G1 (X0 : FVec Ideal ⟨3, ![2, 2064, 8192]⟩ .f32) (X2 : FVec Ideal ⟨3, ![1, 3, 2048]⟩ .f32) (X3 : FVec Ideal ⟨3, ![2, 2064, 4096]⟩ .f32) : FVec Ideal ⟨2, ![4224, 2048]⟩ .bf16 := fun j =>
  padded (fun b s => dgated X0 X2 X3 (j 1) b s * X0 (ix3 b s ⟨4096 + (j 1).val, by have := (j 1).isLt; change (j 1).val < 2048 at this; omega⟩)) (j 0).val
/-- The gradient of the input. -/
def G2 (X0 : FVec Ideal ⟨3, ![2, 2064, 8192]⟩ .f32) (X2 : FVec Ideal ⟨3, ![1, 3, 2048]⟩ .f32) (X3 : FVec Ideal ⟨3, ![2, 2064, 4096]⟩ .f32) : FVec Ideal ⟨2, ![4224, 2048]⟩ .bf16 := fun j =>
  padded (fun b s => dgated X0 X2 X3 (j 1) b s * X0 (ix3 b s ⟨2048 + (j 1).val, by have := (j 1).isLt; change (j 1).val < 2048 at this; omega⟩)) (j 0).val
/-- The gradient of the taps: tap `k` reads the gated input `2 - k` positions earlier. -/
def G3 (X0 : FVec Ideal ⟨3, ![2, 2064, 8192]⟩ .f32) (X3 : FVec Ideal ⟨3, ![2, 2064, 4096]⟩ .f32) : FVec Ideal ⟨2, ![3, 2048]⟩ .f32 := fun j =>
  ∑ b : Fin 2, ∑ s : Fin 2064, dconv X0 X3 (j 1) b s * before (gated X0 (j 1)) (2 - (j 0).val) b s

end Cert.ConvMath
end
-- ==== Proof.ConvKernel.lean ====
module

public import proofs.«01_k».proof.Proof.Gen.KConvIdeal.Value
public import proofs.«01_k».proof.Proof.ConvMath
public import Idealize.ShloMosaic.Lib.Pipeline.ValueKit

@[expose] public section

set_option maxRecDepth 16384

noncomputable section

namespace Cert.KConvIdeal.RefValue
open Cert.KConvIdeal Cert.KConvIdeal.Gen Idealize.ShloMosaic Idealize.ShloMosaic.TcCoe Idealize.SL.Sem
open Idealize.ShloMosaic.Pipeline (Dat)
open Cert.Rows Cert.ConvMath

variable (m : (ℓ : Loc nD τ sig) → Buf (Elt Ideal) ℓ)

theorem idx : ∀ t : Fin cfg0.N, win0_0.index t = ![0, t.val] ∧ win0_1.index t = ![0, 16 + t.val] ∧ win0_2.index t = ![0, 32 + t.val]
    ∧ win0_3.index t = ![0, t.val] ∧ win0_4.index t = ![0, t.val] ∧ win0_5.index t = ![0, t.val] ∧ win0_6.index t = ![0, t.val]
    ∧ win0_7.index t = ![0, t.val] ∧ win0_8.index t = ![0, t.val] :=
  (by decide +kernel : ∀ t : Fin grid0.N, _)

/-- The array's column that column `l` of block `t` is. -/
def col (t : Fin cfg0.N) (l : Fin 128) : Fin 2048 := ⟨t.val * 128 + l.val, by have := lt_of_lt_of_eq t.isLt N_0; omega⟩

/-- The projected features of every row, the padding rows included. -/
def hostU (X0 : FVec Ideal S2x2064x8192 .f32) (T : FVec Ideal S96x8192 .f32) : FVec Ideal S4224x8192 .f32 :=
  concatenate S4224x8192 0 [⟨S4128x8192, shapeCast S4128x8192 X0 shapeCasts_S2x2064x8192_S4128x8192⟩, ⟨S96x8192, T⟩] concatenates_S4128x8192_S96x8192_S4224x8192_d0

/-- The cotangent's rows, padded with zeros. -/
def hostDy (X : FVec Ideal S2x2064x4096 .f32) : FVec Ideal S4224x4096 .f32 :=
  pad S4224x4096 ![0, 0] ![96, 0] ![0, 0] (shapeCast S4128x4096 X shapeCasts_S2x2064x4096_S4128x4096)
    (sitofp .f32 (constantI S_ 32 0#32)) pads_S4128x4096_S4224x4096_0960_000 h_S_

def hostW (X : FVec Ideal S1x3x2048 .f32) : FVec Ideal S3x2048 .f32 := shapeCast S3x2048 X shapeCasts_S1x3x2048_S3x2048

theorem V_v1 (c : Dev nD) : V m c main_v1 = hostU (m ((c : Thread nD τ).loc main_arg0)) (m ((c : Thread nD τ).loc main_arg1)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem V_v2 (c : Dev nD) : V m c main_v2 = hostW (m ((c : Thread nD τ).loc main_arg2)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem V_v4 (c : Dev nD) : V m c main_v4 = hostDy (m ((c : Thread nD τ).loc main_arg3)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem blk_b (c : Dev nD) (t : Fin cfg0.N) (l : Fin 128) (R : Fin 4224) (h : R.val < 4128) : iblk m c 0 t (ix2 R l)
    = m ((c : Thread nD τ).loc main_arg0) (ix3 ⟨R.val / 2064, by omega⟩ ⟨R.val % 2064, by omega⟩ ⟨(col t l).val, by omega⟩) := by
  blk_simp [iblk]
  refine Eq.trans (b := V m c main_v1 (ix2 R ⟨(col t l).val, by omega⟩)) ?_ ?_
  · blk_ext [idx t, col]
  · rw [V_v1]; exact tailRows_apply _ _ _ _ _ _ h

theorem blk_c (c : Dev nD) (t : Fin cfg0.N) (l : Fin 128) (R : Fin 4224) (h : R.val < 4128) : iblk m c 1 t (ix2 R l)
    = m ((c : Thread nD τ).loc main_arg0) (ix3 ⟨R.val / 2064, by omega⟩ ⟨R.val % 2064, by omega⟩ ⟨2048 + (col t l).val, by omega⟩) := by
  blk_simp [iblk]
  refine Eq.trans (b := V m c main_v1 (ix2 R ⟨2048 + (col t l).val, by omega⟩)) ?_ ?_
  · blk_ext [idx t, col]
  · rw [V_v1]; exact tailRows_apply _ _ _ _ _ _ h

theorem blk_x (c : Dev nD) (t : Fin cfg0.N) (l : Fin 128) (R : Fin 4224) (h : R.val < 4128) : iblk m c 2 t (ix2 R l)
    = m ((c : Thread nD τ).loc main_arg0) (ix3 ⟨R.val / 2064, by omega⟩ ⟨R.val % 2064, by omega⟩ ⟨4096 + (col t l).val, by omega⟩) := by
  blk_simp [iblk]
  refine Eq.trans (b := V m c main_v1 (ix2 R ⟨4096 + (col t l).val, by omega⟩)) ?_ ?_
  · blk_ext [idx t, col]
  · rw [V_v1]; exact tailRows_apply _ _ _ _ _ _ h

theorem blk_w (c : Dev nD) (t : Fin cfg0.N) (k : Fin 3) (l : Fin 128) : iblk m c 3 t (ix2 k l)
    = m ((c : Thread nD τ).loc main_arg2) (ix3 0 k (col t l)) := by
  blk_simp [iblk]
  refine Eq.trans (b := V m c main_v2 (ix2 k (col t l))) ?_ ?_
  · blk_ext [idx t, col]
  · rw [V_v2]; pointwise [hostW]

theorem blk_dy (c : Dev nD) (t : Fin cfg0.N) (R : Fin 4224) (l : Fin 128) : iblk m c 4 t (ix2 R l)
    = padded (fun b s => m ((c : Thread nD τ).loc main_arg3) (ix3 b s ⟨(col t l).val, by omega⟩)) R.val := by
  blk_simp [iblk]
  refine Eq.trans (b := V m c main_v4 (ix2 R ⟨(col t l).val, by omega⟩)) ?_ ?_
  · blk_ext [idx t, col]
  · rw [V_v4]; exact padRows_apply _ _ _ _ _ _

theorem pos_apply (r : Fin 4224) : k0_pay4 (ix2 r 0) = BitVec.ofNat 32 (pos r.val) := by
  pointwise [k0_pay4]
  exact select_pos r

theorem pay7 (x y : Vec Ideal S4224x128 .f32) (r : Fin 4224) (l : Fin 128) : k0_pay7 x y (ix2 r l) = x (ix2 r l) * y (ix2 r l) := by
  pointwise [k0_pay7, k0_pay6, k0_pay5]
theorem pay9 (x y : Vec Ideal S4224x128 .f32) (r : Fin 4224) (l : Fin 128) : k0_pay9 x y (ix2 r l)
    = if 2 ≤ pos r.val then (fun q : Fin 4224 => x (ix2 q l) * y (ix2 q l)) ⟨(r.val + 4224 - 2) % 4224, by omega⟩ else (0 : EReal) := by
  pointwise [k0_pay9, k0_pay7, k0_pay6, k0_pay5, pos_apply]
  exact select_down r 2 (by omega) _ _
theorem pay10 (x y : Vec Ideal S4224x128 .f32) (r : Fin 4224) (l : Fin 128) : k0_pay10 x y (ix2 r l)
    = if 1 ≤ pos r.val then (fun q : Fin 4224 => x (ix2 q l) * y (ix2 q l)) ⟨(r.val + 4224 - 1) % 4224, by omega⟩ else (0 : EReal) := by
  pointwise [k0_pay10, k0_pay7, k0_pay6, k0_pay5, pos_apply]
  exact select_down r 1 (by omega) _ _
theorem pay13 (x y : Vec Ideal S4224x128 .f32) (r : Fin 4224) (l : Fin 128) : k0_pay13 x y (ix2 r l) = x (ix2 r l) * y (ix2 r l) := by
  pointwise [k0_pay13]
theorem pay14 (x0 x4 : Vec Ideal S4224x128 .f32) (x3 : Vec Ideal S3x128 .f32) (r : Fin 4224) (l : Fin 128) :
    k0_pay14 k0_pay4 (k0_pay8 x3) (k0_pay11 x4) x0 (ix2 r l)
      = x4 (ix2 r l) * x0 (ix2 r l) * x3 (ix2 2 l)
        + (if pos r.val + 1 < 2064 then (fun q : Fin 4224 => x4 (ix2 q l) * x0 (ix2 q l)) ⟨(r.val + 1) % 4224, by omega⟩ else (0 : EReal)) * x3 (ix2 1 l)
        + (if pos r.val + 2 < 2064 then (fun q : Fin 4224 => x4 (ix2 q l) * x0 (ix2 q l)) ⟨(r.val + 2) % 4224, by omega⟩ else (0 : EReal)) * x3 (ix2 0 l) := by
  unfold k0_pay14
  have e1 := rotate_up 4223#32 1 rfl (by omega) (by omega) (k0_pay13 (k0_pay11 x4) x0) rotates_S4224x128_d0 r l
  have e2 := rotate_up 4222#32 2 rfl (by omega) (by omega) (k0_pay13 (k0_pay11 x4) x0) rotates_S4224x128_d0 r l
  generalize dynamicRotate 0 4223#32 none (k0_pay13 (k0_pay11 x4) x0) rotates_S4224x128_d0 = Q1 at e1 ⊢
  generalize dynamicRotate 0 4222#32 none (k0_pay13 (k0_pay11 x4) x0) rotates_S4224x128_d0 = Q2 at e2 ⊢
  rw [pay13] at e1 e2
  pointwise [k0_pay8, pos_apply, k0_pay13, k0_pay11, e1, e2]
  simp only [ite_mul, zero_mul]
  exact congrArg₂ (· + ·) (congrArg₂ (· + ·) rfl (select_up r 1 (by omega) _ _)) (select_up r 2 (by omega) _ _)
theorem pay12 (x1 x2 x4 : Vec Ideal S4224x128 .f32) (x3 : Vec Ideal S3x128 .f32) (r : Fin 4224) (l : Fin 128) : k0_pay12 x1 x2 x3 x4 (ix2 r l)
    = x4 (ix2 r l) * (k0_pay9 x1 x2 (ix2 r l) * x3 (ix2 0 l) + k0_pay10 x1 x2 (ix2 r l) * x3 (ix2 1 l) + k0_pay7 x1 x2 (ix2 r l) * x3 (ix2 2 l)) := by
  unfold k0_pay12
  generalize k0_pay9 x1 x2 = a
  generalize k0_pay10 x1 x2 = b
  generalize k0_pay7 x1 x2 = d
  pointwise [k0_pay8, k0_pay11]

/-- Column `l` of the five blocks holds column `j` of the arguments: the gates and the input on the sequences' rows only, the cotangent
    with zeros after them. -/
structure Reads (x0 x1 x2 x4 : Vec Ideal S4224x128 .f32) (x3 : Vec Ideal S3x128 .f32) (X0 : FVec Ideal S2x2064x8192 .f32)
    (X2 : FVec Ideal S1x3x2048 .f32) (X3 : FVec Ideal S2x2064x4096 .f32) (j : Fin 2048) (l : Fin 128) : Prop where
  b : ∀ (R : Fin 4224) (h : R.val < 4128), x0 (ix2 R l) = X0 (ix3 ⟨R.val / 2064, by omega⟩ ⟨R.val % 2064, by omega⟩ ⟨j.val, by omega⟩)
  c : ∀ (R : Fin 4224) (h : R.val < 4128), x1 (ix2 R l) = X0 (ix3 ⟨R.val / 2064, by omega⟩ ⟨R.val % 2064, by omega⟩ ⟨2048 + j.val, by omega⟩)
  x : ∀ (R : Fin 4224) (h : R.val < 4128), x2 (ix2 R l) = X0 (ix3 ⟨R.val / 2064, by omega⟩ ⟨R.val % 2064, by omega⟩ ⟨4096 + j.val, by omega⟩)
  w : ∀ k : Fin 3, x3 (ix2 k l) = X2 (ix3 0 k j)
  dy : ∀ R : Fin 4224, x4 (ix2 R l) = padded (fun b s => X3 (ix3 b s ⟨j.val, by omega⟩)) R.val

theorem reads (c : Dev nD) (t : Fin cfg0.N) (l : Fin 128) : Reads (iblk m c 0 t) (iblk m c 1 t) (iblk m c 2 t) (iblk m c 4 t) (iblk m c 3 t)
    (m ((c : Thread nD τ).loc main_arg0)) (m ((c : Thread nD τ).loc main_arg2)) (m ((c : Thread nD τ).loc main_arg3)) (col t l) l :=
  ⟨blk_b m c t l, blk_c m c t l, blk_x m c t l, fun k => blk_w m c t k l, fun R => blk_dy m c t R l⟩

namespace Reads

variable {x0 x1 x2 x4 : Vec Ideal S4224x128 .f32} {x3 : Vec Ideal S3x128 .f32} {X0 : FVec Ideal S2x2064x8192 .f32}
    {X2 : FVec Ideal S1x3x2048 .f32} {X3 : FVec Ideal S2x2064x4096 .f32} {j : Fin 2048} {l : Fin 128}

theorem gated (H : Reads x0 x1 x2 x4 x3 X0 X2 X3 j l) (R : Fin 4224) (h : R.val < 4128) :
    x1 (ix2 R l) * x2 (ix2 R l) = ConvMath.gated X0 j ⟨R.val / 2064, by omega⟩ ⟨R.val % 2064, by omega⟩ :=
  congrArg₂ (· * ·) (H.c R h) (H.x R h)

theorem dconv (H : Reads x0 x1 x2 x4 x3 X0 X2 X3 j l) (R : Fin 4224) :
    x4 (ix2 R l) * x0 (ix2 R l) = padded (ConvMath.dconv X0 X3 j) R.val :=
  (congrArg₂ (· * ·) (H.dy R) rfl).trans (padded_mul _ _ R.val _ fun hR => H.b R hR)

theorem before2 (H : Reads x0 x1 x2 x4 x3 X0 X2 X3 j l) (R : Fin 4224) (h : R.val < 4128) :
    k0_pay9 x1 x2 (ix2 R l) = before (ConvMath.gated X0 j) 2 ⟨R.val / 2064, by omega⟩ ⟨R.val % 2064, by omega⟩ :=
  (pay9 _ _ R l).trans (shift_down _ (fun q => x1 (ix2 q l) * x2 (ix2 q l)) H.gated R h 2 _ rfl)

theorem before1 (H : Reads x0 x1 x2 x4 x3 X0 X2 X3 j l) (R : Fin 4224) (h : R.val < 4128) :
    k0_pay10 x1 x2 (ix2 R l) = before (ConvMath.gated X0 j) 1 ⟨R.val / 2064, by omega⟩ ⟨R.val % 2064, by omega⟩ :=
  (pay10 _ _ R l).trans (shift_down _ (fun q => x1 (ix2 q l) * x2 (ix2 q l)) H.gated R h 1 _ rfl)

theorem before0 (H : Reads x0 x1 x2 x4 x3 X0 X2 X3 j l) (R : Fin 4224) (h : R.val < 4128) :
    k0_pay7 x1 x2 (ix2 R l) = ConvMath.gated X0 j ⟨R.val / 2064, by omega⟩ ⟨R.val % 2064, by omega⟩ :=
  (pay7 _ _ R l).trans (H.gated R h)

theorem dgated (H : Reads x0 x1 x2 x4 x3 X0 X2 X3 j l) (R : Fin 4224) :
    k0_pay14 k0_pay4 (k0_pay8 x3) (k0_pay11 x4) x0 (ix2 R l) = padded (ConvMath.dgated X0 X2 X3 j) R.val := by
  have hr : ∀ (q : Fin 4224) (h : q.val < 4128), (fun q : Fin 4224 => x4 (ix2 q l) * x0 (ix2 q l)) q
      = ConvMath.dconv X0 X3 j ⟨q.val / 2064, by omega⟩ ⟨q.val % 2064, by omega⟩ :=
    fun q h => (H.dconv q).trans (padded_pos _ h)
  refine (pay14 _ _ _ R l).trans ?_
  refine (congrArg₂ (· + ·) (congrArg₂ (· + ·) (congrArg₂ (· * ·) (H.dconv R) (H.w 2))
    (congrArg₂ (· * ·) (shift_up _ _ hr R 1 _ rfl) (H.w 1))) (congrArg₂ (· * ·) (shift_up _ _ hr R 2 _ rfl) (H.w 0))).trans ?_
  refine (congrArg₂ (· + ·) (congrArg₂ (· + ·) (padded_mul_const _ _ _) (padded_mul_const _ _ _)) (padded_mul_const _ _ _)).trans ?_
  exact (congrArg₂ (· + ·) (padded_add _ _ _) rfl).trans (padded_add _ _ _)

theorem out5 (H : Reads x0 x1 x2 x4 x3 X0 X2 X3 j l) (R : Fin 4224) : k0_pay12 x1 x2 x3 x4 (ix2 R l) = G0 X0 X2 X3 (ix2 R j) := by
  refine (pay12 _ _ _ _ R l).trans ?_
  refine (congrArg₂ (· * ·) (H.dy R) rfl).trans (padded_mul _ _ R.val _ fun h => ?_)
  exact congrArg₂ (· + ·) (congrArg₂ (· + ·) (congrArg₂ (· * ·) (H.before2 R h) (H.w 0))
    (congrArg₂ (· * ·) (H.before1 R h) (H.w 1))) (congrArg₂ (· * ·) (H.before0 R h) (H.w 2))

theorem out6 (H : Reads x0 x1 x2 x4 x3 X0 X2 X3 j l) (R : Fin 4224) :
    k0_pay15 k0_pay4 (k0_pay6 x2) (k0_pay8 x3) (k0_pay11 x4) x0 (ix2 R l) = G1 X0 X2 X3 (ix2 R j) := by
  have h : k0_pay15 k0_pay4 (k0_pay6 x2) (k0_pay8 x3) (k0_pay11 x4) x0 (ix2 R l)
      = k0_pay14 k0_pay4 (k0_pay8 x3) (k0_pay11 x4) x0 (ix2 R l) * x2 (ix2 R l) := by
    unfold k0_pay15
    generalize k0_pay14 k0_pay4 (k0_pay8 x3) (k0_pay11 x4) x0 = a
    pointwise [k0_pay6]
  exact h.trans ((congrArg₂ (· * ·) (H.dgated R) rfl).trans (padded_mul _ _ R.val _ fun h => H.x R h))

theorem out7 (H : Reads x0 x1 x2 x4 x3 X0 X2 X3 j l) (R : Fin 4224) :
    k0_pay16 k0_pay4 (k0_pay5 x1) (k0_pay8 x3) (k0_pay11 x4) x0 (ix2 R l) = G2 X0 X2 X3 (ix2 R j) := by
  have h : k0_pay16 k0_pay4 (k0_pay5 x1) (k0_pay8 x3) (k0_pay11 x4) x0 (ix2 R l)
      = k0_pay14 k0_pay4 (k0_pay8 x3) (k0_pay11 x4) x0 (ix2 R l) * x1 (ix2 R l) := by
    unfold k0_pay16
    generalize k0_pay14 k0_pay4 (k0_pay8 x3) (k0_pay11 x4) x0 = a
    pointwise [k0_pay5]
  exact h.trans ((congrArg₂ (· * ·) (H.dgated R) rfl).trans (padded_mul _ _ R.val _ fun h => H.c R h))

/-- A row of the taps' gradient: the cotangent's rows against other rows, summed. -/
theorem taps (H : Reads x0 x1 x2 x4 x3 X0 X2 X3 j l) (y : Fin 4224 → EReal) (g : Fin 2 → Fin 2064 → EReal)
    (hy : ∀ (R : Fin 4224) (h : R.val < 4128), y R = g ⟨R.val / 2064, by omega⟩ ⟨R.val % 2064, by omega⟩) :
    ∑ R : Fin 4224, x4 (ix2 R l) * x0 (ix2 R l) * y R = ∑ b : Fin 2, ∑ s : Fin 2064, ConvMath.dconv X0 X3 j b s * g b s := by
  refine Eq.trans ?_ (sum_padded _)
  refine Fin.sum_fin_congr fun R => ?_
  exact (congrArg₂ (· * ·) (H.dconv R) rfl).trans (padded_mul _ g R.val (y R) fun h => hy R h)

theorem out8_0 (H : Reads x0 x1 x2 x4 x3 X0 X2 X3 j l) :
    k0_pay1 (k0_pay17 (k0_pay9 x1 x2) (k0_pay11 x4) x0) (ix2 0 l) = G3 X0 X3 (ix2 0 j) := by
  refine Eq.trans ?_ (H.taps _ _ H.before2)
  generalize k0_pay9 x1 x2 = a
  pointwise [k0_pay1, k0_pay17, k0_pay13, k0_pay11]

theorem out8_1 (H : Reads x0 x1 x2 x4 x3 X0 X2 X3 j l) :
    k0_pay2 (k0_pay10 x1 x2) (k0_pay13 (k0_pay11 x4) x0) (ix2 0 l) = G3 X0 X3 (ix2 1 j) := by
  refine Eq.trans ?_ (H.taps _ _ H.before1)
  generalize k0_pay10 x1 x2 = a
  pointwise [k0_pay2, k0_pay13, k0_pay11]

theorem out8_2 (H : Reads x0 x1 x2 x4 x3 X0 X2 X3 j l) :
    k0_pay3 (k0_pay7 x1 x2) (k0_pay13 (k0_pay11 x4) x0) (ix2 0 l) = G3 X0 X3 (ix2 2 j) := by
  refine Eq.trans ?_ ((H.taps _ _ H.before0).trans ?_)
  · generalize k0_pay7 x1 x2 = a
    pointwise [k0_pay3, k0_pay13, k0_pay11]
  · exact Finset.sum_congr rfl fun b _ => Finset.sum_congr rfl fun s _ => congrArg _ (before_zero _ b s).symm

end Reads

theorem final5 (c : Dev nD) : (dats m 0 c).arrAt 5 (cfgs 0).N
    = G0 (m ((c : Thread nD τ).loc main_arg0)) (m ((c : Thread nD τ).loc main_arg2)) (m ((c : Thread nD τ).loc main_arg3)) := by
  refine (dats m 0 c).arrAt_eq_of_covers 5 _ (by decide +kernel) fun t _ y => ?_
  obtain ⟨R, l, rfl⟩ : ∃ (r : Fin 4224) (l : Fin 128), y = ix2 r l := ⟨y 0, y 1, eq_ix2 y⟩
  have he : ((cfg0.win 5).blk t).view.emb (ix2 R l) = ix2 R (col t l) := by
    blk_ext [idx t, col]
  rw [he]
  blk_simp
  rw [after0_5]
  frame_out
  exact (reads m c t l).out5 R

theorem final6 (c : Dev nD) : (dats m 0 c).arrAt 6 (cfgs 0).N
    = G1 (m ((c : Thread nD τ).loc main_arg0)) (m ((c : Thread nD τ).loc main_arg2)) (m ((c : Thread nD τ).loc main_arg3)) := by
  refine (dats m 0 c).arrAt_eq_of_covers 6 _ (by decide +kernel) fun t _ y => ?_
  obtain ⟨R, l, rfl⟩ : ∃ (r : Fin 4224) (l : Fin 128), y = ix2 r l := ⟨y 0, y 1, eq_ix2 y⟩
  have he : ((cfg0.win 6).blk t).view.emb (ix2 R l) = ix2 R (col t l) := by
    blk_ext [idx t, col]
  rw [he]
  blk_simp
  rw [after0_6]
  unfold_out out0_6
  frame_out
  exact (reads m c t l).out6 R

theorem final7 (c : Dev nD) : (dats m 0 c).arrAt 7 (cfgs 0).N
    = G2 (m ((c : Thread nD τ).loc main_arg0)) (m ((c : Thread nD τ).loc main_arg2)) (m ((c : Thread nD τ).loc main_arg3)) := by
  refine (dats m 0 c).arrAt_eq_of_covers 7 _ (by decide +kernel) fun t _ y => ?_
  obtain ⟨R, l, rfl⟩ : ∃ (r : Fin 4224) (l : Fin 128), y = ix2 r l := ⟨y 0, y 1, eq_ix2 y⟩
  have he : ((cfg0.win 7).blk t).view.emb (ix2 R l) = ix2 R (col t l) := by
    blk_ext [idx t, col]
  rw [he]
  blk_simp
  rw [after0_7]
  unfold_out out0_7
  frame_out
  exact (reads m c t l).out7 R

theorem row_at (k : Fin 3) (l : Fin 128) (inb) : (Rect.unit (s := S3x128) ![k.val, 0] S1x128.size inb).emb (ix2 0 l) = ix2 k l :=
  funext fun a => Fin.ext (match a with
    | ⟨0, _⟩ => by show k.val + 1 * 0 = k.val; omega
    | ⟨1, _⟩ => by show 0 + 1 * l.val = l.val; omega)

theorem row_off (k k' : Fin 3) (h : k ≠ k') (l : Fin 128) (inb) : ix2 k l ∉ (Rect.unit (s := S3x128) ![k'.val, 0] S1x128.size inb).set := by
  intro hm
  obtain ⟨x, hx⟩ := (Rect.unit (s := S3x128) ![k'.val, 0] S1x128.size inb).exists_idx_of_mem hm
  have h0 : (x 0).val < 1 := (x 0).isLt
  have h1 : k'.val + 1 * (x 0).val = k.val := congrArg Fin.val (congrFun hx 0)
  exact h (Fin.ext (by omega))

/-- Three rows stored one by one, each read where it lies. -/
theorem rows3 (w2 w1 w0 : Vec Ideal S1x128 .f32) (l : Fin 128) (G : Fin 3 → EReal) (h0 : w0 (ix2 0 l) = G 0) (h1 : w1 (ix2 0 l) = G 1)
    (h2 : w2 (ix2 0 l) = G 2) (k : Fin 3) :
    View.canon (Val := Elt Ideal) (e := .f32) [⟨r0_4, w2⟩, ⟨r0_3, w1⟩, ⟨r0_2, w0⟩] (ix2 k l) = G k := by
  match k with
  | 0 =>
    rw [View.canon_cons_of_not_mem ⟨r0_4, w2⟩ _ (row_off 0 2 (by decide) l inb_S3x128_S1x128_2_0), View.canon_cons_of_not_mem ⟨r0_3, w1⟩ _ (row_off 0 1 (by decide) l inb_S3x128_S1x128_1_0), ← row_at 0 l inb_S3x128_S1x128_0_0]
    exact (View.canon_cons_emb r0_2 w0 _ (ix2 0 l)).trans h0
  | 1 =>
    rw [View.canon_cons_of_not_mem ⟨r0_4, w2⟩ _ (row_off 1 2 (by decide) l inb_S3x128_S1x128_2_0), ← row_at 1 l inb_S3x128_S1x128_1_0]
    exact (View.canon_cons_emb r0_3 w1 _ (ix2 0 l)).trans h1
  | 2 =>
    rw [← row_at 2 l inb_S3x128_S1x128_2_0]
    exact (View.canon_cons_emb r0_4 w2 _ (ix2 0 l)).trans h2

theorem final8 (c : Dev nD) : (dats m 0 c).arrAt 8 (cfgs 0).N
    = G3 (m ((c : Thread nD τ).loc main_arg0)) (m ((c : Thread nD τ).loc main_arg3)) := by
  refine (dats m 0 c).arrAt_eq_of_covers 8 _ (by decide +kernel) fun t _ y => ?_
  obtain ⟨k, l, rfl⟩ : ∃ (r : Fin 3) (l : Fin 128), y = ix2 r l := ⟨y 0, y 1, eq_ix2 y⟩
  have he : ((cfg0.win 8).blk t).view.emb (ix2 k l) = ix2 k (col t l) := by
    blk_ext [idx t, col]
  rw [he]
  blk_simp
  rw [after0_8]
  unfold_out out0_8
  frame_out
  have H := reads m c t l
  exact rows3 _ _ _ l (fun k => G3 (m ((c : Thread nD τ).loc main_arg0)) (m ((c : Thread nD τ).loc main_arg3)) (ix2 k (col t l))) H.out8_0 H.out8_1 H.out8_2 k

end Cert.KConvIdeal.RefValue
-- ==== Proof.ConvRef.lean ====
/- The short convolution's gradient as the reference computes it: the derivative of shifted products, stage by stage. -/
module

public import proofs.«01_k».proof.Proof.Gen.RConvIdeal.Read
public import proofs.«01_k».proof.Proof.ConvMath
public import Idealize.ShloMosaic.Lib.Pipeline.ValueKit

@[expose] public section

set_option maxRecDepth 16384

noncomputable section

namespace Cert.RConvIdeal.RefValue
open Cert.RConvIdeal Cert.RConvIdeal.Gen Cert.RConvIdeal.Read Idealize.ShloMosaic Idealize.ShloMosaic.TcCoe Idealize.SL.Sem
open Cert.Rows Cert.ConvMath

variable (X0 : FVec Ideal S2x2064x8192 .f32) (X2 : FVec Ideal S1x3x2048 .f32) (X3 : FVec Ideal S2x2064x4096 .f32)

theorem stage8 (b : Fin 2) (s : Fin 2064) (l : Fin 2048) : val_main_v8 (F := Ideal) X0 (ix3 b s l) = before (gated X0 l) 2 b s := by
  pointwise [val_main_v8, val_main_v6, val_main_v5, val_main_v3, val_main_v2, val_main_v1, val_main_cst]
  unfold before
  by_cases h : s.val < 2
  · rw [dif_pos h, dif_neg (by omega)]
  · rw [dif_neg h, dif_pos (by omega)]; rfl

theorem stage14 (b : Fin 2) (s : Fin 2064) (l : Fin 2048) : val_main_v14 (F := Ideal) X0 (ix3 b s l) = before (gated X0 l) 1 b s := by
  pointwise [val_main_v14, val_main_v6, val_main_v5, val_main_v3, val_main_v2, val_main_v1, val_main_cst]
  unfold before
  by_cases h : 1 + s.val < 2
  · rw [dif_pos h, dif_neg (by omega)]
  · rw [dif_neg h, dif_pos (by omega)]
    have e : (⟨1 + s.val - 2, by omega⟩ : Fin 2064) = ⟨s.val - 1, by omega⟩ := Fin.ext (by show 1 + s.val - 2 = s.val - 1; omega)
    exact congrArg (fun q => X0 (ix3 b q ⟨2048 + l.val, by omega⟩) * X0 (ix3 b q ⟨4096 + l.val, by omega⟩)) e

theorem stage21 (b : Fin 2) (s : Fin 2064) (l : Fin 2048) : val_main_v21 (F := Ideal) X0 (ix3 b s l) = gated X0 l b s := by
  pointwise [val_main_v21, val_main_v6, val_main_v5, val_main_v3, val_main_v2, val_main_v1, val_main_cst]
  rfl

theorem stage27 (b : Fin 2) (s : Fin 2064) (l : Fin 2048) : val_main_v27 (F := Ideal) X0 X2 (ix3 b s l) = conv X0 X2 l b s := by
  have h8 := stage8 X0 b s l
  have h14 := stage14 X0 b s l
  have h21 := stage21 X0 b s l
  unfold val_main_v27 val_main_v20 val_main_v13 val_main_v19 val_main_v26
  generalize val_main_v8 (F := Ideal) X0 = Q8 at h8 ⊢
  generalize val_main_v14 (F := Ideal) X0 = Q14 at h14 ⊢
  generalize val_main_v21 (F := Ideal) X0 = Q21 at h21 ⊢
  pointwise [val_main_v25, val_main_v24, val_main_v23, val_main_v22, val_main_v18, val_main_v17, val_main_v16, val_main_v15, val_main_v12, val_main_v11, val_main_v10, val_main_v9, val_main_v4]
  rw [h8, h14, h21]
  rfl

theorem stage30 (b : Fin 2) (s : Fin 2064) (l : Fin 2048) : val_main_v30 (F := Ideal) X0 X3 (ix3 b s l) = dconv X0 X3 l b s := by
  pointwise [val_main_v30, val_main_v29, val_main_v0]
  exact mul_comm _ _

theorem stage64 (b : Fin 2) (s : Fin 2064) (l : Fin 2048) : val_main_v64 (F := Ideal) X0 X2 X3 (ix3 b s l) = dgated X0 X2 X3 l b s := by
  have h := stage30 X0 X3
  unfold val_main_v64 val_main_v62 val_main_v61 val_main_v51 val_main_v50 val_main_v40 val_main_v56 val_main_v45 val_main_v36
  generalize val_main_v30 (F := Ideal) X0 X3 = Q at h ⊢
  pointwise [val_main_v55, val_main_v44, val_main_v35, val_main_v24, val_main_v23, val_main_v22, val_main_v17, val_main_v16, val_main_v15, val_main_v11, val_main_v10, val_main_v9, val_main_v4, val_main_cst_12, val_main_cst_8, val_main_cst_4]
  unfold dgated after
  rw [h]
  refine congrArg₂ (· + ·) (congrArg₂ (· + ·) rfl ?_) ?_
  · by_cases hs : s.val + 1 < 2064
    · rw [dif_pos (by omega), dif_pos hs, h]
      exact congrArg (fun q => dconv X0 X3 l b q * X2 (ix3 0 1 l)) (Fin.ext (by show 2 + s.val - 1 = s.val + 1; omega))
    · rw [dif_neg (by omega), dif_neg hs, zero_mul]
  · by_cases hs : s.val + 2 < 2064
    · rw [dif_pos (by omega), dif_pos hs, h]
      exact congrArg (fun q => dconv X0 X3 l b q * X2 (ix3 0 0 l)) (Fin.ext (by show 2 + s.val = s.val + 2; omega))
    · rw [dif_neg (by omega), dif_neg hs, zero_mul]

theorem stage60 (k : Fin 3) (l : Fin 2048) : val_main_v77 (F := Ideal) X0 X3 (ix2 k l) = G3 X0 X3 (ix2 k l) := by
  have h8 := fun b s => stage8 X0 b s l
  have h14 := fun b s => stage14 X0 b s l
  have h21 := fun b s => stage21 X0 b s l
  have h30 := fun b s => stage30 X0 X3 b s l
  unfold val_main_v77 val_main_v65 val_main_v60 val_main_v59 val_main_v49 val_main_v48 val_main_v39 val_main_v58 val_main_v57 val_main_v54 val_main_v53 val_main_v52 val_main_v47 val_main_v46 val_main_v43 val_main_v42 val_main_v41 val_main_v38 val_main_v37 val_main_v34 val_main_v33 val_main_v32
  generalize val_main_v8 (F := Ideal) X0 = Q8 at h8 ⊢
  generalize val_main_v14 (F := Ideal) X0 = Q14 at h14 ⊢
  generalize val_main_v21 (F := Ideal) X0 = Q21 at h21 ⊢
  generalize val_main_v30 (F := Ideal) X0 X3 = Q at h30 ⊢
  pointwise [sum_first_two, val_main_cst_1, val_main_cst_2, val_main_cst_3, val_main_cst_5, val_main_cst_6, val_main_cst_7, val_main_cst_9, val_main_cst_10, val_main_cst_11]
  have one : ∀ z : EReal, ∑ _x : Fin 1, ∑ _y : Fin 1, z = z := fun z => by
    simp only [Finset.univ_unique, Finset.sum_const, Finset.card_singleton, one_smul]
  simp only [one, h8, h14, h21, h30]
  match k with
  | 0 =>
    rw [dif_neg (by decide), dif_neg (by decide), dif_pos (by decide), zero_add, zero_add]
    exact Finset.sum_congr rfl fun b _ => Finset.sum_congr rfl fun s _ => mul_comm _ _
  | 1 =>
    rw [dif_neg (by decide), dif_pos (by decide), dif_neg (by decide), zero_add, add_zero]
    exact Finset.sum_congr rfl fun b _ => Finset.sum_congr rfl fun s _ => mul_comm _ _
  | 2 =>
    rw [dif_pos (by decide), dif_neg (by decide), dif_neg (by decide), add_zero, add_zero]
    exact Finset.sum_congr rfl fun b _ => Finset.sum_congr rfl fun s _ =>
      (mul_comm _ _).trans (congrArg _ (before_zero _ b s).symm)

/-- Rows of an array with 96 rows of zeros after them. -/
theorem rows (Q : FVec Ideal S2x2064x2048 .f32) (g : Fin 2048 → Fin 2 → Fin 2064 → EReal) (hQ : ∀ b s l, Q (ix3 b s l) = g l b s) (R : Fin 4224) (l : Fin 2048) :
    truncf .bf16 (pad S4224x2048 ![0, 0] ![96, 0] ![0, 0] (shapeCast S4128x2048 Q shapeCasts_S2x2064x2048_S4128x2048) (sitofp .f32 (constantI S_ 32 0#32))
      pads_S4128x2048_S4224x2048_0960_000 h_S_) bitsLt_bf16_f32 (ix2 R l) = padded (g l) R.val := by
  refine Eq.trans (b := padded (fun b s => Q (ix3 b s l)) R.val) (padRows_apply Q _ pads_S4128x2048_S4224x2048_0960_000 h_S_ R l) ?_
  exact congrArg (fun f => padded f R.val) (funext fun b => funext fun s => hQ b s l)

theorem ref0 : val_main_v70 (F := Ideal) X0 X2 X3 = G0 X0 X2 X3 := by
  funext j
  rw [eq_ix2 j]
  refine rows _ (fun l b s => X3 (ix3 b s ⟨l.val, by omega⟩) * conv X0 X2 l b s) (fun b s l => ?_) (j 0) (j 1)
  have h := stage27 X0 X2 b s l
  unfold val_main_v31
  generalize val_main_v27 (F := Ideal) X0 X2 = Q at h ⊢
  pointwise [val_main_v29]
  rw [h]

theorem ref1 : val_main_v73 (F := Ideal) X0 X2 X3 = G1 X0 X2 X3 := by
  funext j
  rw [eq_ix2 j]
  refine rows _ (fun l b s => dgated X0 X2 X3 l b s * X0 (ix3 b s ⟨4096 + l.val, by omega⟩)) (fun b s l => ?_) (j 0) (j 1)
  have h := stage64 X0 X2 X3 b s l
  unfold val_main_v67
  generalize val_main_v64 (F := Ideal) X0 X2 X3 = Q at h ⊢
  pointwise [val_main_v2]
  rw [h]

theorem ref2 : val_main_v76 (F := Ideal) X0 X2 X3 = G2 X0 X2 X3 := by
  funext j
  rw [eq_ix2 j]
  refine rows _ (fun l b s => dgated X0 X2 X3 l b s * X0 (ix3 b s ⟨2048 + l.val, by omega⟩)) (fun b s l => ?_) (j 0) (j 1)
  have h := stage64 X0 X2 X3 b s l
  unfold val_main_v66
  generalize val_main_v64 (F := Ideal) X0 X2 X3 = Q at h ⊢
  pointwise [val_main_v1]
  rw [h]
  exact mul_comm _ _

theorem ref3 : val_main_v77 (F := Ideal) X0 X3 = G3 X0 X3 :=
  funext fun j => (congrArg _ (eq_ix2 j)).trans ((stage60 X0 X3 (j 0) (j 1)).trans (congrArg _ (eq_ix2 j).symm))

end Cert.RConvIdeal.RefValue
-- ==== Proof.Conv.lean ====
module

public import proofs.«01_k».proof.Proof.ConvKernel
public import proofs.«01_k».proof.Proof.ConvRef
public import proofs.«01_k».proof.Proof.Gen.RConvIdeal.Run
public import proofs.«01_k».proof.Defs
public import Idealize.ShloMosaic.Lib.Claim

@[expose] public section

set_option maxRecDepth 16384

noncomputable section

namespace Cert.Proof
open Idealize.ShloMosaic Idealize.ShloMosaic.TcCoe Idealize.SL.Sem

theorem algebraic_conv : Cert.algebraic_KConvIdeal_RConvIdeal := by
  pair_intro
  · run_from Cert.KConvIdeal.Value.run_blocks m g
  · run_from Cert.RConvIdeal.Value.run m' g'
    · rw [Cert.KConvIdeal.RefValue.final5 m]
      exact (Cert.RConvIdeal.Read.val_main_v70_eq (F := Ideal) _ _ _).trans (Cert.RConvIdeal.RefValue.ref0 _ _ _)
    · rw [Cert.KConvIdeal.RefValue.final6 m]
      exact (Cert.RConvIdeal.Read.val_main_v73_eq (F := Ideal) _ _ _).trans (Cert.RConvIdeal.RefValue.ref1 _ _ _)
    · rw [Cert.KConvIdeal.RefValue.final7 m]
      exact (Cert.RConvIdeal.Read.val_main_v76_eq (F := Ideal) _ _ _).trans (Cert.RConvIdeal.RefValue.ref2 _ _ _)
    · rw [Cert.KConvIdeal.RefValue.final8 m]
      exact (Cert.RConvIdeal.Read.val_main_v77_eq (F := Ideal) _ _).trans (Cert.RConvIdeal.RefValue.ref3 _ _)

end Cert.Proof
end
-- ==== Proof.RowNorm.lean ====
/- A row's normalisation and its derivative, over the reals. `centred` is the row less its mean, `rstd` one over the square root of its
   variance plus a small constant. The derivative that the kernels write out (`gradK`: the cotangent less its mean and less its component
   along the normalised row) equals the one that the chain rule gives (`gradR`), when the entries are finite. -/
module

public import Idealize.ShloMosaic.Lib.Pipeline.ValueKit

@[expose] public section

noncomputable section

namespace Cert.RowNorm
open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The width of a row. -/
def width : EReal := Ideal.ofBits .f32 0x45800000#32
/-- The constant added to the variance. -/
def eps : EReal := Ideal.ofBits .f32 0x3727C5AC#32
/-- Minus one half. -/
def mhalf : EReal := Ideal.ofBits .f32 0xBF000000#32
def two : EReal := Ideal.ofBits .f32 0x40000000#32

theorem width_eq : width = ((4096 : ℝ) : EReal) := by
  simp [width, Ideal.ofBits, Ideal.ieee]; rw [← EReal.coe_mul]; norm_num
theorem mhalf_eq : mhalf = ((-(1 / 2) : ℝ) : EReal) := by
  simp [mhalf, Ideal.ofBits, Ideal.ieee]; rw [← EReal.coe_mul]; norm_num
theorem two_eq : two = ((2 : ℝ) : EReal) := by
  simp [two, Ideal.ofBits, Ideal.ieee]; rw [← EReal.coe_mul]; norm_num
theorem eps_eq : ∃ e : ℝ, 0 < e ∧ eps = (e : EReal) := by
  refine ⟨_, ?_, by simp [eps, Ideal.ofBits, Ideal.ieee]; rfl⟩
  positivity

def mean (f : Fin 4096 → EReal) : EReal := Ideal.div (∑ l, f l) width
def centred (x : Fin 4096 → EReal) (l : Fin 4096) : EReal := x l - mean x
def var (x : Fin 4096 → EReal) : EReal := mean (fun l => centred x l * centred x l) + eps
def rstd (x : Fin 4096 → EReal) : EReal := Ideal.rsqrt (var x)
def xhat (x : Fin 4096 → EReal) (l : Fin 4096) : EReal := centred x l * rstd x

/-- The derivative as the kernels write it. -/
def gradK (x w : Fin 4096 → EReal) (l : Fin 4096) : EReal :=
  rstd x * (w l - mean w - xhat x l * mean (fun l => w l * xhat x l))

/-- The cotangent of the centred row by the chain rule, -/
def ctCentred (x w : Fin 4096 → EReal) (l : Fin 4096) : EReal :=
  w l * rstd x + Ideal.div ((∑ k, centred x k * w k) * (mhalf * Ideal.div (rstd x) (var x))) width * (two * centred x l)
/-- and of the row. -/
def gradR (x w : Fin 4096 → EReal) (l : Fin 4096) : EReal := ctCentred x w l + mean (fun k => -ctCentred x w k)

theorem mean_coe (f : Fin 4096 → ℝ) : mean (fun l => (f l : EReal)) = (((∑ l, f l) / 4096 : ℝ) : EReal) := by
  unfold mean
  rw [width_eq, ← coe_sum, Ideal.div_coe (by norm_num), ← EReal.coe_mul]
  congr 1; ring

theorem centred_coe (x : Fin 4096 → ℝ) (l : Fin 4096) :
    centred (fun l => (x l : EReal)) l = ((x l - (∑ k, x k) / 4096 : ℝ) : EReal) := by
  unfold centred; rw [mean_coe, EReal.coe_sub]

/-- The variance plus the constant is a positive real and `rstd` is the inverse of its square root. -/
theorem var_coe (x : Fin 4096 → ℝ) : ∃ v : ℝ, 0 < v ∧ var (fun l => (x l : EReal)) = (v : EReal) ∧ rstd (fun l => (x l : EReal)) = (((Real.sqrt v)⁻¹ : ℝ) : EReal) := by
  obtain ⟨e, he, hE⟩ := eps_eq
  have h : var (fun l => (x l : EReal)) = (((∑ l, (x l - (∑ k, x k) / 4096) * (x l - (∑ k, x k) / 4096)) / 4096 + e : ℝ) : EReal) := by
    unfold var
    simp only [centred_coe, ← EReal.coe_mul]
    rw [mean_coe, hE, EReal.coe_add]
  have hp : 0 < (∑ l, (x l - (∑ k, x k) / 4096) * (x l - (∑ k, x k) / 4096)) / 4096 + e :=
    add_pos_of_nonneg_of_pos (div_nonneg (Finset.sum_nonneg fun l _ => mul_self_nonneg _) (by norm_num)) he
  refine ⟨_, hp, h, ?_⟩
  unfold rstd
  rw [h, Ideal.rsqrt_coe, if_neg (not_lt.mpr hp.le), if_neg hp.ne']

theorem grad_eq (x w : Fin 4096 → EReal) (hx : ∀ l, ∃ r : ℝ, x l = r) (hw : ∀ l, ∃ r : ℝ, w l = r) (l : Fin 4096) :
    gradK x w l = gradR x w l := by
  choose X hX using hx
  choose W hW using hw
  obtain rfl : x = fun l => (X l : EReal) := funext hX
  obtain rfl : w = fun l => (W l : EReal) := funext hW
  obtain ⟨v, hv, hvar, hr⟩ := var_coe X
  have hs : Real.sqrt v ≠ 0 := (Real.sqrt_pos.mpr hv).ne'
  have hss : Real.sqrt v * Real.sqrt v = v := Real.mul_self_sqrt hv.le
  have hc0 : ∑ k, (X k - (∑ k, X k) / 4096) = 0 := by
    rw [Finset.sum_sub_distrib, Finset.sum_const, Finset.card_univ, Fintype.card_fin, nsmul_eq_mul]; push_cast; ring
  unfold gradR gradK ctCentred xhat
  simp only [hr, hvar, centred_coe, width_eq, mhalf_eq, two_eq, Ideal.div_coe (show (4096 : ℝ) ≠ 0 by norm_num), Ideal.div_coe hv.ne',
    ← EReal.coe_mul, ← EReal.coe_add, ← coe_sum, mean_coe, ← EReal.coe_sub, ← EReal.coe_neg]
  congr 1
  generalize hC : (fun k => X k - (∑ k, X k) / 4096) = C at hc0
  have hC' : ∀ k, X k - (∑ k, X k) / 4096 = C k := fun k => congrFun hC k
  simp only [hC'] at hc0 ⊢
  generalize Real.sqrt v = s at hs hss
  subst hss
  have e1 : ∑ k, W k * (C k * s⁻¹) = (∑ k, C k * W k) * s⁻¹ := by
    rw [Finset.sum_mul]; exact Finset.sum_congr rfl fun k _ => by ring
  have e2 : ∀ A : ℝ, ∑ k, -(W k * s⁻¹ + A * (2 * C k)) = -((∑ k, W k) * s⁻¹) := fun A => by
    rw [Finset.sum_neg_distrib, Finset.sum_add_distrib, ← Finset.sum_mul, ← Finset.mul_sum, ← Finset.mul_sum, hc0]; ring
  rw [e1, e2]
  field_simp
  ring

end Cert.RowNorm
end
-- ==== Proof.LnMath.lean ====
/- The gradient of the layer norm, entry by entry: of the rows, of the gain and of the shift. -/
module

public import proofs.«01_k».proof.Proof.Rows
public import proofs.«01_k».proof.Proof.RowNorm

@[expose] public section

noncomputable section

namespace Cert.LnMath
open Idealize.ShloMosaic
open Cert.Rows Cert.RowNorm

/-- The row of sequence `b` at position `s`. -/
def row (X : FVec Ideal ⟨3, ![2, 2064, 4096]⟩ .f32) (b : Fin 2) (s : Fin 2064) (l : Fin 4096) : EReal := X (ix3 b s l)

/-- The cotangent of the normalised row. -/
def ct (X2 : FVec Ideal ⟨2, ![1, 4096]⟩ .f32) (X4 : FVec Ideal ⟨3, ![2, 2064, 4096]⟩ .f32) (b : Fin 2) (s : Fin 2064) (l : Fin 4096) : EReal :=
  X4 (ix3 b s l) * X2 (ix2 0 l)

/-- The gradient of the rows. -/
def G0 (X0 : FVec Ideal ⟨3, ![2, 2064, 4096]⟩ .f32) (X2 : FVec Ideal ⟨2, ![1, 4096]⟩ .f32) (X4 : FVec Ideal ⟨3, ![2, 2064, 4096]⟩ .f32) : FVec Ideal ⟨2, ![4224, 4096]⟩ .f32 := fun j =>
  padded (fun b s => gradK (row X0 b s) (ct X2 X4 b s) (j 1)) (j 0).val

/-- The gradient of the gain. -/
def G2 (X0 X4 : FVec Ideal ⟨3, ![2, 2064, 4096]⟩ .f32) : FVec Ideal ⟨2, ![1, 4096]⟩ .f32 := fun j =>
  ∑ b : Fin 2, ∑ s : Fin 2064, X4 (ix3 b s (j 1)) * xhat (row X0 b s) (j 1)

/-- The gradient of the shift. -/
def G3 (X4 : FVec Ideal ⟨3, ![2, 2064, 4096]⟩ .f32) : FVec Ideal ⟨2, ![1, 4096]⟩ .f32 := fun j =>
  ∑ b : Fin 2, ∑ s : Fin 2064, X4 (ix3 b s (j 1))

/-- A row whose cotangent is zero has gradient zero, whatever it holds. -/
theorem gradK_zero (x w : Fin 4096 → EReal) (hw : ∀ l, w l = 0) (l : Fin 4096) : gradK x w l = 0 := by
  obtain rfl : w = fun _ => 0 := funext hw
  have hm : mean (fun _ => 0) = 0 := mean_coe (fun _ => 0) |>.trans (by simp)
  unfold gradK
  simp only [zero_mul, hm, mul_zero, sub_zero]

end Cert.LnMath
end
-- ==== Proof.LnKernel.lean ====
/- What the kernel of the layer norm's gradient leaves in its four results. -/
module

public import proofs.«01_k».proof.Proof.Gen.KLnIdeal.Value
public import proofs.«01_k».proof.Proof.LnMath
public import Idealize.ShloMosaic.Lib.Pipeline.ValueKit

@[expose] public section

set_option maxRecDepth 16384

noncomputable section

namespace Cert.KLnIdeal.RefValue
open Cert.KLnIdeal Cert.KLnIdeal.Gen Idealize.ShloMosaic Idealize.ShloMosaic.TcCoe Idealize.SL.Sem
open Idealize.ShloMosaic.Pipeline (Dat)
open Cert.Rows Cert.RowNorm Cert.LnMath

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- The row of the array that row `r` of block `t` is. -/
def grow (t : Fin cfg0.N) (r : Fin 128) : Fin 4224 := ⟨t.val * 128 + r.val, by have := lt_of_lt_of_eq t.isLt N_0; omega⟩

/-- The rows with the other rows after them. -/
def hostX (X0 : FVec Ideal S2x2064x4096 .f32) (T : FVec Ideal S96x4096 .f32) : FVec Ideal S4224x4096 .f32 :=
  concatenate S4224x4096 0 [⟨S4128x4096, shapeCast S4128x4096 X0 shapeCasts_S2x2064x4096_S4128x4096⟩, ⟨S96x4096, T⟩] concatenates_S4128x4096_S96x4096_S4224x4096_d0

/-- The cotangent's rows, padded with zeros. -/
def hostDy (X : FVec Ideal S2x2064x4096 .f32) : FVec Ideal S4224x4096 .f32 :=
  pad S4224x4096 ![0, 0] ![96, 0] ![0, 0] (shapeCast S4128x4096 X shapeCasts_S2x2064x4096_S4128x4096)
    (sitofp .f32 (constantI S_ 32 0#32)) pads_S4128x4096_S4224x4096_0960_000 h_S_

theorem V_v1 (c : Dev nD) : V m c main_v1 = hostX (m ((c : Thread nD τ).loc main_arg0)) (m ((c : Thread nD τ).loc main_arg1)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem V_v3 (c : Dev nD) : V m c main_v3 = hostDy (m ((c : Thread nD τ).loc main_arg4)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem blk_x (c : Dev nD) (t : Fin cfg0.N) (r : Fin 128) (l : Fin 4096) (h : (grow t r).val < 4128) : iblk m c 0 t (ix2 r l)
    = row (m ((c : Thread nD τ).loc main_arg0)) ⟨(grow t r).val / 2064, by omega⟩ ⟨(grow t r).val % 2064, by omega⟩ l := by
  blk_simp [iblk]
  refine Eq.trans (b := V m c main_v1 (ix2 (grow t r) l)) ?_ ?_
  · blk_ext [idx t, grow]
  · rw [V_v1]; exact tailRows_apply _ _ _ _ _ _ h

theorem blk_dy (c : Dev nD) (t : Fin cfg0.N) (r : Fin 128) (l : Fin 4096) : iblk m c 1 t (ix2 r l)
    = padded (fun b s => m ((c : Thread nD τ).loc main_arg4) (ix3 b s l)) (grow t r).val := by
  blk_simp [iblk]
  refine Eq.trans (b := V m c main_v3 (ix2 (grow t r) l)) ?_ ?_
  · blk_ext [idx t, grow]
  · rw [V_v3]; exact padRows_apply _ _ _ _ _ _

theorem blk_g (c : Dev nD) (t : Fin cfg0.N) (l : Fin 4096) : iblk m c 2 t (ix2 0 l) = m ((c : Thread nD τ).loc main_arg2) (ix2 0 l) := by
  blk_ext [iblk, V, idx t]

/-- Row `r` of the blocks is row `R` of the arguments. -/
structure Reads (x dy : Vec Ideal S128x4096 .f32) (g : Vec Ideal S1x4096 .f32) (X0 : FVec Ideal S2x2064x4096 .f32)
    (X2 : FVec Ideal S1x4096 .f32) (X4 : FVec Ideal S2x2064x4096 .f32) (R : Fin 4224) (r : Fin 128) : Prop where
  x : ∀ (l : Fin 4096) (h : R.val < 4128), x (ix2 r l) = row X0 ⟨R.val / 2064, by omega⟩ ⟨R.val % 2064, by omega⟩ l
  dy : ∀ l : Fin 4096, dy (ix2 r l) = padded (fun b s => X4 (ix3 b s l)) R.val
  g : ∀ l : Fin 4096, g (ix2 0 l) = X2 (ix2 0 l)

theorem reads (c : Dev nD) (t : Fin cfg0.N) (r : Fin 128) : Reads (iblk m c 0 t) (iblk m c 1 t) (iblk m c 2 t)
    (m ((c : Thread nD τ).loc main_arg0)) (m ((c : Thread nD τ).loc main_arg2)) (m ((c : Thread nD τ).loc main_arg4)) (grow t r) r :=
  ⟨blk_x m c t r, blk_dy m c t r, blk_g m c t⟩

theorem pay5 (x : Vec Ideal S128x4096 .f32) (r : Fin 128) (l : Fin 4096) : k0_pay5 x (ix2 r l) = centred (fun l => x (ix2 r l)) l := by
  pointwise [k0_pay5]
  rfl

theorem pay6 (x : Vec Ideal S128x4096 .f32) (r : Fin 128) : k0_pay6 x (ix2 r 0) = rstd (fun l => x (ix2 r l)) := by
  unfold k0_pay6
  have h := pay5 x r
  generalize k0_pay5 x = Q at h ⊢
  pointwise
  simp only [h]
  rfl

theorem pay7 (x : Vec Ideal S128x4096 .f32) (r : Fin 128) (l : Fin 4096) : k0_pay7 x (ix2 r l) = xhat (fun l => x (ix2 r l)) l := by
  unfold k0_pay7
  have h := pay5 x r l
  have h' := pay6 x r
  generalize k0_pay5 x = Q at h ⊢
  generalize k0_pay6 x = Q' at h' ⊢
  pointwise
  rw [h, h']; rfl

theorem pay9 (x dy : Vec Ideal S128x4096 .f32) (g : Vec Ideal S1x4096 .f32) (r : Fin 128) (l : Fin 4096) :
    k0_pay9 x dy g (ix2 r l) = gradK (fun l => x (ix2 r l)) (fun l => dy (ix2 r l) * g (ix2 0 l)) l := by
  unfold k0_pay9
  have h := pay7 x r
  have h' := pay6 x r
  generalize k0_pay7 x = Q at h ⊢
  generalize k0_pay6 x = Q' at h' ⊢
  pointwise [k0_pay8]
  simp only [h, h']
  rfl

theorem Reads.out {x dy : Vec Ideal S128x4096 .f32} {g : Vec Ideal S1x4096 .f32} {X0 : FVec Ideal S2x2064x4096 .f32}
    {X2 : FVec Ideal S1x4096 .f32} {X4 : FVec Ideal S2x2064x4096 .f32} {R : Fin 4224} {r : Fin 128} (H : Reads x dy g X0 X2 X4 R r) (l : Fin 4096) :
    k0_pay9 x dy g (ix2 r l) = G0 X0 X2 X4 (ix2 R l) := by
  rw [pay9]
  by_cases h : R.val < 4128
  · refine Eq.trans ?_ (padded_pos _ h).symm
    refine congrFun (congrArg₂ gradK (funext fun l => H.x l h) (funext fun l => ?_)) l
    exact congrArg₂ (· * ·) ((H.dy l).trans (padded_pos _ h)) (H.g l)
  · refine Eq.trans ?_ (padded_neg _ h).symm
    refine gradK_zero _ _ (fun l => ?_) l
    rw [(H.dy l).trans (padded_neg _ h), zero_mul]

theorem hout (c : Dev nD) (t : Fin cfg0.N) : (outsAt0 m c t.val t.isLt).1 = k0_pay9 (iblk m c 0 t) (iblk m c 1 t) (iblk m c 2 t) := by
  have ht : t.val < 33 := lt_of_lt_of_eq t.isLt N_0
  by_cases h : t.val % 33 = 0
  · rw [outsAt0_A m c t h (by omega) h (by omega)]; frame_out
  · rw [outsAt0_B m c t h (by omega) h (by omega)]; frame_out

theorem hout' (c : Dev nD) (t : Fin cfg0.N) : (outsAt0 m c t.val t.isLt).2.1 = k0_pay10 (iblk m c 0 t) (iblk m c 1 t) (iblk m c 2 t) := by
  have ht : t.val < 33 := lt_of_lt_of_eq t.isLt N_0
  by_cases h : t.val % 33 = 0
  · rw [outsAt0_A m c t h (by omega) h (by omega)]; frame_out
  · rw [outsAt0_B m c t h (by omega) h (by omega)]; frame_out

theorem final3 (c : Dev nD) : (dats m 0 c).arrAt 3 (cfgs 0).N
    = G0 (m ((c : Thread nD τ).loc main_arg0)) (m ((c : Thread nD τ).loc main_arg2)) (m ((c : Thread nD τ).loc main_arg4)) := by
  refine (dats m 0 c).arrAt_eq_of_covers 3 _ (by decide +kernel) fun t _ y => ?_
  obtain ⟨r, l, rfl⟩ : ∃ (r : Fin 128) (l : Fin 4096), y = ix2 r l := ⟨y 0, y 1, eq_ix2 y⟩
  have he : ((cfg0.win 3).blk t).view.emb (ix2 r l) = ix2 (grow t r) l := by
    blk_ext [idx t, grow]
  rw [he]
  blk_simp
  rw [after0_3, hout]
  exact (reads m c t r).out l

theorem final4 (c : Dev nD) : (dats m 0 c).arrAt 4 (cfgs 0).N
    = (G0 (m ((c : Thread nD τ).loc main_arg0)) (m ((c : Thread nD τ).loc main_arg2)) (m ((c : Thread nD τ).loc main_arg4)) : FVec Ideal S4224x4096 .bf16) := by
  refine (dats m 0 c).arrAt_eq_of_covers 4 _ (by decide +kernel) fun t _ y => ?_
  obtain ⟨r, l, rfl⟩ : ∃ (r : Fin 128) (l : Fin 4096), y = ix2 r l := ⟨y 0, y 1, eq_ix2 y⟩
  have he : ((cfg0.win 4).blk t).view.emb (ix2 r l) = ix2 (grow t r) l := by
    blk_ext [idx t, grow]
  rw [he]
  blk_simp
  rw [after0_4, hout']
  exact (reads m c t r).out l

theorem hpay3 (y : Vec Ideal S128x4096 .f32) (j : S1x4096.Idx) : k0_pay3 (F := Ideal) (k0_pay8 y) j = ∑ r : Fin 128, y (ix2 r (j 1)) := by
  pointwise [k0_pay3, k0_pay8]
theorem hpay4 (y : Vec Ideal S128x4096 .f32) (a : Vec Ideal S1x4096 .f32) (j : S1x4096.Idx) : k0_pay4 (F := Ideal) (k0_pay8 y) a j = a j + ∑ r : Fin 128, y (ix2 r (j 1)) := by
  pointwise [k0_pay4, k0_pay3, k0_pay8]
theorem hpay1 (x y : Vec Ideal S128x4096 .f32) (j : S1x4096.Idx) : k0_pay1 (F := Ideal) (k0_pay7 x) (k0_pay8 y) j
    = ∑ r : Fin 128, y (ix2 r (j 1)) * xhat (fun l => x (ix2 r l)) (j 1) := by
  have h := fun r => pay7 x r (j 1)
  generalize k0_pay7 x = Q at h ⊢
  pointwise [k0_pay1, k0_pay8]
  exact Finset.sum_congr rfl fun r _ => congrArg _ (h r)
theorem hpay2 (x y : Vec Ideal S128x4096 .f32) (a : Vec Ideal S1x4096 .f32) (j : S1x4096.Idx) : k0_pay2 (F := Ideal) (k0_pay7 x) (k0_pay8 y) a j
    = a j + ∑ r : Fin 128, y (ix2 r (j 1)) * xhat (fun l => x (ix2 r l)) (j 1) := by
  rw [← hpay1]
  pointwise [k0_pay2]

theorem final6 (c : Dev nD) : (dats m 0 c).arrAt 6 (cfgs 0).N = G3 (m ((c : Thread nD τ).loc main_arg4)) := by
  refine (dats m 0 c).arrAt_eq_of_covers 6 _ (by decide +kernel) fun t hf y => ?_
  have ht : t.val < 33 := lt_of_lt_of_eq t.isLt N_0
  obtain ⟨r, l, rfl⟩ : ∃ (r : Fin 1) (l : Fin 4096), y = ix2 r l := ⟨y 0, y 1, eq_ix2 y⟩
  have he : ((cfg0.win 6).blk t).view.emb (ix2 r l) = ix2 0 l := by
    blk_ext [idx t]
  rw [he]
  blk_simp
  have hm := (flush0_6 t).mp hf
  rw [after0_6, Pipeline.eq_sum_fin_of_reset_step_apply_of_flush (fun n h => (outsAt0 m c n h).2.2.2) 33 (fun _ => 0) _
    (fun t h j => by
      have ht : t.val < 33 := lt_of_lt_of_eq t.isLt N_0
      rw [outsAt0_A m c t h (by omega) h (by omega)]; frame_out; rw [hpay3]; exact (zero_add _).symm)
    (fun t h j => by rw [outsAt0_B m c t h (by omega) h (by omega)]; frame_out; rw [hpay4]) t hm _, zero_add]
  refine Eq.trans ?_ (sum_blocks fun b s => (show EReal from m ((c : Thread nD τ).loc main_arg4) (ix3 b s l)))
  refine Fin.sum_fin_congr fun s => Fin.sum_fin_congr fun r' => ?_
  have hs : (⟨33 * (t.val / 33) + s.val, Pipeline.run_point_lt_of_flush t hm s⟩ : Fin cfg0.N) = ⟨s.val, lt_of_lt_of_eq s.isLt N_0.symm⟩ :=
    Fin.ext (by show 33 * (t.val / 33) + s.val = s.val; omega)
  rw [hs]
  exact (reads m c ⟨s.val, lt_of_lt_of_eq s.isLt N_0.symm⟩ r').dy l

theorem final5 (c : Dev nD) : (dats m 0 c).arrAt 5 (cfgs 0).N = G2 (m ((c : Thread nD τ).loc main_arg0)) (m ((c : Thread nD τ).loc main_arg4)) := by
  refine (dats m 0 c).arrAt_eq_of_covers 5 _ (by decide +kernel) fun t hf y => ?_
  have ht : t.val < 33 := lt_of_lt_of_eq t.isLt N_0
  obtain ⟨r, l, rfl⟩ : ∃ (r : Fin 1) (l : Fin 4096), y = ix2 r l := ⟨y 0, y 1, eq_ix2 y⟩
  have he : ((cfg0.win 5).blk t).view.emb (ix2 r l) = ix2 0 l := by
    blk_ext [idx t]
  rw [he]
  blk_simp
  have hm := (flush0_5 t).mp hf
  rw [after0_5, Pipeline.eq_sum_fin_of_reset_step_apply_of_flush (fun n h => (outsAt0 m c n h).2.2.1) 33 (fun _ => 0) _
    (fun t h j => by
      have ht : t.val < 33 := lt_of_lt_of_eq t.isLt N_0
      rw [outsAt0_A m c t h (by omega) h (by omega)]; frame_out; rw [hpay1]; exact (zero_add _).symm)
    (fun t h j => by rw [outsAt0_B m c t h (by omega) h (by omega)]; frame_out; rw [hpay2]) t hm _, zero_add]
  refine Eq.trans ?_ (sum_blocks fun b s => (show EReal from m ((c : Thread nD τ).loc main_arg4) (ix3 b s l))
    * xhat (row (m ((c : Thread nD τ).loc main_arg0)) b s) l)
  refine Fin.sum_fin_congr fun s => Fin.sum_fin_congr fun r' => ?_
  have hs : (⟨33 * (t.val / 33) + s.val, Pipeline.run_point_lt_of_flush t hm s⟩ : Fin cfg0.N) = ⟨s.val, lt_of_lt_of_eq s.isLt N_0.symm⟩ :=
    Fin.ext (by show 33 * (t.val / 33) + s.val = s.val; omega)
  rw [hs]
  have H := reads m c ⟨s.val, lt_of_lt_of_eq s.isLt N_0.symm⟩ r'
  refine Eq.trans ?_ (padded_mul _ _ (s.val * 128 + r'.val) _ fun hR => congrFun (congrArg xhat (funext fun l => H.x l hR)) l)
  exact congrArg₂ (· * ·) (H.dy l) rfl

end Cert.KLnIdeal.RefValue
-- ==== Proof.Finite.lean ====
/- Reading the preconditions: an array whose absolute values are all below infinity holds real numbers. -/
module

public import Idealize.ShloMosaic.Lib.Pipeline.ValueKit
public import Idealize.ShloMosaic.Lib.ReduceAll
public import Idealize.ShloMosaic.Lib.Affine

@[expose] public section

noncomputable section

namespace Cert.Finite
open Idealize.ShloMosaic

/-- An extended real whose absolute value is below infinity is a real number. -/
theorem real_of_abs_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x using EReal.rec with
  | coe r => exact ⟨r, rfl⟩
  | bot => simp [Ideal.cmp] at h
  | top => simp [Ideal.cmp] at h

/-- Every entry is a real number. -/
def All {s : Shape} (X : FVec Ideal s .f32) : Prop := ∀ i, ∃ r : ℝ, X i = (r : EReal)

instance : Subsingleton (Shape.Idx ⟨0, ![]⟩) := ⟨fun _ _ => funext fun a => a.elim0⟩

theorem all_of_reduce {s : Shape} {axes : List (Fin s.rank)} (X : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (e : Host.reduce IntOp.andi (cmpf .olt (Host.absf X) (broadcastInDim s ![] hb (constant ⟨0, ![]⟩ .f32 0x7F800000#32)))
      (constantI ⟨0, ![]⟩ 1 1#1) hr hu j = 1#1) : All X := fun i =>
  real_of_abs_lt _ (Host.reduce_andi_all _ _ hr hu j e i)

theorem of_andi {s : Shape} (a b : IVec s 1) (j : s.Idx) (e : andi a b j = 1#1) : a j = 1#1 ∧ b j = 1#1 := by
  have h : a j &&& b j = 1#1 := e
  generalize a j = x at h ⊢
  generalize b j = y at h ⊢
  revert x y; decide

end Cert.Finite
end
-- ==== Proof.LnRef.lean ====
/- The reference's gradient of the layer norm, read entry by entry. -/
module

public import proofs.«01_k».proof.Proof.Gen.RLnIdeal.Read
public import proofs.«01_k».proof.Proof.Gen.Pre_finite_ln
public import proofs.«01_k».proof.Proof.LnMath
public import proofs.«01_k».proof.Proof.Finite
public import Idealize.ShloMosaic.Lib.Pipeline.ValueKit

@[expose] public section

set_option maxRecDepth 16384

noncomputable section

namespace Cert.RLnIdeal.RefValue
open Cert.RLnIdeal Cert.RLnIdeal.Gen Cert.RLnIdeal.Read Idealize.ShloMosaic Idealize.ShloMosaic.TcCoe Idealize.SL.Sem
open Cert.Rows Cert.RowNorm Cert.LnMath Cert.Finite

variable (X0 X4 : FVec Ideal S2x2064x4096 .f32) (X2 : FVec Ideal S1x4096 .f32)

theorem stage7 (b : Fin 2) (s : Fin 2064) (l : Fin 4096) : val_main_v7 (F := Ideal) X0 (ix3 b s l) = centred (row X0 b s) l := by
  pointwise [val_main_v7, val_main_v6, val_main_v5, val_main_v4, val_main_v3, val_main_v2, val_main_cst, val_main_cst_0]
  rfl

theorem stage16 (b : Fin 2) (s : Fin 2064) : val_main_v16 (F := Ideal) X0 (ix3 b s 0) = var (row X0 b s) := by
  have h := stage7 X0 b s
  unfold val_main_v16 val_main_v14 val_main_v12 val_main_v11 val_main_v8
  generalize val_main_v7 (F := Ideal) X0 = Q at h ⊢
  pointwise [val_main_v13, val_main_v15, val_main_cst_2, val_main_cst_3, val_main_cst_4]
  simp only [h]
  rfl

theorem stage17 (b : Fin 2) (s : Fin 2064) : val_main_v17 (F := Ideal) X0 (ix3 b s 0) = rstd (row X0 b s) := by
  have h := stage16 X0 b s
  unfold val_main_v17
  generalize val_main_v16 (F := Ideal) X0 = Q at h ⊢
  pointwise
  rw [h]; rfl

theorem stage22 (b : Fin 2) (s : Fin 2064) (l : Fin 4096) : val_main_v22 (F := Ideal) X0 (ix3 b s l) = xhat (row X0 b s) l := by
  have h := stage7 X0 b s l
  have h' := stage17 X0 b s
  unfold val_main_v22 val_main_v21
  generalize val_main_v7 (F := Ideal) X0 = Q at h ⊢
  generalize val_main_v17 (F := Ideal) X0 = Q' at h' ⊢
  pointwise
  rw [h, h']; rfl

theorem stage37 (b : Fin 2) (s : Fin 2064) (l : Fin 4096) : val_main_v37 (F := Ideal) X2 X4 (ix3 b s l) = ct X2 X4 b s l := by
  pointwise [val_main_v37, val_main_v36, val_main_v29, val_main_v23, val_main_v0]
  rfl

/-- The cotangent of the centred row. -/
theorem stage50 (b : Fin 2) (s : Fin 2064) (l : Fin 4096) : val_main_v50 (F := Ideal) X0 X2 X4 (ix3 b s l) = ctCentred (row X0 b s) (ct X2 X4 b s) l := by
  have h7 := stage7 X0 b s
  have h16 : ∀ k : Fin 1, val_main_v16 (F := Ideal) X0 (ix3 b s k) = var (row X0 b s) := fun k => Subsingleton.elim 0 k ▸ stage16 X0 b s
  have h17 : ∀ k : Fin 1, val_main_v17 (F := Ideal) X0 (ix3 b s k) = rstd (row X0 b s) := fun k => Subsingleton.elim 0 k ▸ stage17 X0 b s
  have h37 := stage37 X4 X2 b s
  unfold val_main_v50 val_main_v49 val_main_v48 val_main_v47 val_main_v46 val_main_v44 val_main_v43 val_main_v42 val_main_v41 val_main_v40 val_main_v39 val_main_v20 val_main_v18 val_main_v10
  generalize val_main_v7 (F := Ideal) X0 = Q7 at h7 ⊢
  generalize val_main_v16 (F := Ideal) X0 = Q16 at h16 ⊢
  generalize val_main_v17 (F := Ideal) X0 = Q17 at h17 ⊢
  generalize val_main_v37 (F := Ideal) X2 X4 = Q37 at h37 ⊢
  pointwise [val_main_v9, val_main_v19, val_main_v45, val_main_cst_1, val_main_cst_5, val_main_cst_10, val_main_cst_11, val_main_cst_12]
  simp only [h7, h16, h17, h37, Finset.univ_unique, Finset.sum_const, Finset.card_singleton, one_smul]
  rfl

theorem stage58 (b : Fin 2) (s : Fin 2064) (l : Fin 4096) : val_main_v58 (F := Ideal) X0 X2 X4 (ix3 b s l) = gradR (row X0 b s) (ct X2 X4 b s) l := by
  have h := stage50 X0 X4 X2 b s
  unfold val_main_v58 val_main_v57 val_main_v56 val_main_v55 val_main_v53 val_main_v52 val_main_v51
  generalize val_main_v50 (F := Ideal) X0 X2 X4 = Q at h ⊢
  pointwise [val_main_v54, val_main_cst_13, val_main_cst_14, val_main_cst_15]
  simp only [h, Finset.univ_unique, Finset.sum_const, Finset.card_singleton, one_smul]
  rfl

theorem ref0 (h0 : All X0) (h2 : All X2) (h4 : All X4) : val_main_v62 (F := Ideal) X0 X2 X4 = G0 X0 X2 X4 := by
  funext j
  idx_vars j
  unfold val_main_v62 val_main_v61
  have h := stage58 X0 X4 X2
  generalize val_main_v58 (F := Ideal) X0 X2 X4 = Q at h ⊢
  refine (padRows_apply Q _ pads_S4128x4096_S4224x4096_0960_000 h_S_ j0 j1).trans ?_
  refine congrFun (congrArg padded (funext fun b => funext fun s => ?_)) _
  refine (h b s j1).trans (grad_eq _ _ (fun l => h0 _) (fun l => ?_) j1).symm
  obtain ⟨p, hp⟩ := h4 (ix3 b s l)
  obtain ⟨q, hq⟩ := h2 (ix2 0 l)
  exact ⟨p * q, by show X4 (ix3 b s l) * X2 (ix2 0 l) = _; rw [hp, hq, ← EReal.coe_mul]⟩

theorem ref1 (h0 : All X0) (h2 : All X2) (h4 : All X4) : val_main_v63 (F := Ideal) X0 X2 X4 = (G0 X0 X2 X4 : FVec Ideal S4224x4096 .bf16) := by
  unfold val_main_v63
  rw [ref0 X0 X4 X2 h0 h2 h4]
  funext j
  pointwise

theorem ref2 : val_main_v60 (F := Ideal) X0 X4 = G2 X0 X4 := by
  funext j
  idx_vars j
  unfold val_main_v60 val_main_v38 val_main_v35 val_main_v34 val_main_v33
  have h := fun b s => stage22 X0 b s j1
  generalize val_main_v22 (F := Ideal) X0 = Q at h ⊢
  pointwise [val_main_v29, val_main_cst_8, val_main_cst_9, sum_first_two]
  simp only [h, Finset.univ_unique, Finset.sum_const, Finset.card_singleton, one_smul]
  exact Finset.sum_congr rfl fun b _ => Finset.sum_congr rfl fun s _ => mul_comm _ _

theorem ref3 : val_main_v59 (F := Ideal) X4 = G3 X4 := by
  funext j
  idx_vars j
  pointwise [val_main_v59, val_main_v32, val_main_v31, val_main_v30, val_main_cst_6, val_main_cst_7, sum_first_two]
  simp only [Finset.univ_unique, Finset.sum_const, Finset.card_singleton, one_smul]
  rfl

/-- What the precondition says. -/
theorem finite (X1 : FVec Ideal ⟨2, ![96, 4096]⟩ .f32) (X3 : FVec Ideal S1x4096 .f32)
    (h : Cert.Pre_finite_ln.fn (F := Ideal) X0 X1 X2 X3 X4 = fun _ => 1#1) : All X0 ∧ All X2 ∧ All X4 := by
  have h' := congrFun h (fun a => a.elim0)
  dsimp only [Cert.Pre_finite_ln.fn] at h'
  obtain ⟨h1, h3⟩ := of_andi _ _ _ h'
  obtain ⟨h1, h2⟩ := of_andi _ _ _ h1
  exact ⟨all_of_reduce _ _ _ _ _ h1, all_of_reduce _ _ _ _ _ h2, all_of_reduce _ _ _ _ _ h3⟩

end Cert.RLnIdeal.RefValue
-- ==== Proof.Ln.lean ====
/- The layer norm's gradient: the kernel's four results are the reference's. -/
module

public import proofs.«01_k».proof.Proof.LnKernel
public import proofs.«01_k».proof.Proof.LnRef
public import proofs.«01_k».proof.Proof.Gen.RLnIdeal.Run
public import proofs.«01_k».proof.Defs
public import Idealize.ShloMosaic.Lib.Claim

@[expose] public section

set_option maxRecDepth 16384

namespace Cert.Proof
open Idealize.ShloMosaic Idealize.ShloMosaic.TcCoe Idealize.SL.Sem

theorem algebraic_ln : Cert.algebraic_KLnIdeal_RLnIdeal_pre_finite_ln := by
  pair_intro
  · run_from Cert.KLnIdeal.Value.run_blocks m g
  · run_from Cert.RLnIdeal.Value.run m' g'
    · obtain ⟨h0, h2, h4⟩ := Cert.RLnIdeal.RefValue.finite _ _ _ _ _ (hpre c)
      rw [Cert.KLnIdeal.RefValue.final3 m]
      rw [Cert.RLnIdeal.Read.val_main_v62_eq (F := Ideal) m' c, (hagree c).1, (hagree c).2.2.1, (hagree c).2.2.2.2]
      exact Cert.RLnIdeal.RefValue.ref0 _ _ _ h0 h2 h4
    · obtain ⟨h0, h2, h4⟩ := Cert.RLnIdeal.RefValue.finite _ _ _ _ _ (hpre c)
      rw [Cert.KLnIdeal.RefValue.final4 m]
      rw [Cert.RLnIdeal.Read.val_main_v63_eq (F := Ideal) m' c, (hagree c).1, (hagree c).2.2.1, (hagree c).2.2.2.2]
      exact Cert.RLnIdeal.RefValue.ref1 _ _ _ h0 h2 h4
    · rw [Cert.KLnIdeal.RefValue.final5 m]
      exact (Cert.RLnIdeal.Read.val_main_v60_eq (F := Ideal) _ _).trans (Cert.RLnIdeal.RefValue.ref2 _ _)
    · rw [Cert.KLnIdeal.RefValue.final6 m]
      exact (Cert.RLnIdeal.Read.val_main_v59_eq (F := Ideal) _).trans (Cert.RLnIdeal.RefValue.ref3 _)

end Cert.Proof
-- ==== Proof.DguMath.lean ====
/- The gradient of a gated feed-forward layer up to its gate and up products: with `a` the cotangent against the second matrix, `g` and `u`
   the gate and the up product and `s` the logistic of `g`, the gradient of the up product is `½·a·(g·s)` and that of the gate is
   `½·a·u·(s + g·s·(1−s))`. -/
module

public import proofs.«01_k».proof.Proof.Rows
public import proofs.«01_k».proof.Proof.RowNorm
public import proofs.«01_k».proof.Proof.Finite

@[expose] public section

noncomputable section

namespace Cert.DguMath
open Idealize.ShloMosaic Cert.Rows Cert.Finite

def half : EReal := Ideal.ofBits .f32 0x3F000000#32
theorem half_eq : half = ((1 / 2 : ℝ) : EReal) := by
  simp [half, Ideal.ofBits, Ideal.ieee]; rw [← EReal.coe_mul]; norm_num
theorem one_eq : (1 : EReal) = ((1 : ℝ) : EReal) := EReal.coe_one.symm

/-- The logistic function. -/
def sgm (g : EReal) : EReal := Ideal.div 1 (1 + Ideal.exp (-g))

/-- The gradients of the gate and of the up product, as the kernel writes them. -/
def dgate (a g u : EReal) : EReal := half * a * u * (sgm g + g * sgm g * (1 - sgm g))
def dup (a g : EReal) : EReal := half * a * (g * sgm g)

/-- The logistic of a real is real. -/
theorem sig_real (g : ℝ) : ∃ s : ℝ, sgm (g : EReal) = (s : EReal) := by
  refine ⟨1 * (1 / (1 + Real.exp (-g))), ?_⟩
  have h : (1 + Real.exp (-g) : ℝ) ≠ 0 := by positivity
  unfold sgm
  rw [one_eq, ← EReal.coe_neg]
  show Ideal.div _ (_ + ((Real.exp (-g) : ℝ) : EReal)) = _
  rw [← EReal.coe_add, Ideal.div_coe h, ← EReal.coe_mul]

/-- The chain rule's form of the gate's gradient, at reals. -/
theorem dgate_eq (a g u : ℝ) : (half * (a : EReal)) * u * sgm g + g * ((half * (a : EReal)) * u) * (sgm g * (1 - sgm g)) = dgate a g u := by
  obtain ⟨s, hs⟩ := sig_real g
  unfold dgate
  rw [hs, half_eq, one_eq]
  simp only [← EReal.coe_mul, ← EReal.coe_sub, ← EReal.coe_add]
  congr 1; ring

theorem dgate_zero (a g u : EReal) (h : a = 0) : dgate a g u = 0 := by unfold dgate; rw [h, mul_zero, zero_mul, zero_mul]
theorem dup_zero (a g : EReal) (h : a = 0) : dup a g = 0 := by unfold dup; rw [h, mul_zero, zero_mul]

variable (X0 X4 : FVec Ideal ⟨3, ![2, 2064, 4096]⟩ .f32) (X2 : FVec Ideal ⟨3, ![1, 4096, 22016]⟩ .f32) (X3 : FVec Ideal ⟨3, ![1, 11008, 4096]⟩ .f32)

/-- Column `f` of the first product, the gates first and then the up products. -/
def lin (f : Fin 22016) (b : Fin 2) (s : Fin 2064) : EReal := ∑ d : Fin 4096, X0 (ix3 b s d) * X2 (ix3 0 d f)
/-- The cotangent against the second matrix. -/
def cot (f : Fin 11008) (b : Fin 2) (s : Fin 2064) : EReal := ∑ d : Fin 4096, X4 (ix3 b s d) * X3 (ix3 0 f d)

/-- The gradient of column `f` of the gates (`i = 0`) or of the up products. -/
def grad (i : Fin 2) (f : Fin 11008) (b : Fin 2) (s : Fin 2064) : EReal :=
  if i = 0 then dgate (cot X4 X3 f b s) (lin X0 X2 ⟨f.val, by omega⟩ b s) (lin X0 X2 ⟨11008 + f.val, by omega⟩ b s)
  else dup (cot X4 X3 f b s) (lin X0 X2 ⟨f.val, by omega⟩ b s)

/-- The result: 4 shards of 2752 columns, gates and up products, by row. -/
def G (j : (⟨4, ![4, 2, 4224, 2752]⟩ : Shape).Idx) : EReal :=
  padded (grad X0 X4 X2 X3 (j 1) ⟨(j 0).val * 2752 + (j 3).val, by
    have h0 : (j 0).val < 4 := (j 0).isLt
    have h3 : (j 3).val < 2752 := (j 3).isLt
    omega⟩) (j 2).val

variable {X0 X4 X2 X3}

theorem lin_real (h0 : All X0) (h2 : All X2) (f : Fin 22016) (b : Fin 2) (s : Fin 2064) : ∃ r : ℝ, lin X0 X2 f b s = r := by
  choose x hx using h0
  choose w hw using h2
  refine ⟨∑ d : Fin 4096, x (ix3 b s d) * w (ix3 0 d f), ?_⟩
  unfold lin
  simp only [hx, hw, ← EReal.coe_mul, ← Cert.RowNorm.coe_sum]

theorem cot_real (h4 : All X4) (h3 : All X3) (f : Fin 11008) (b : Fin 2) (s : Fin 2064) : (∃ r : ℝ, cot X4 X3 f b s = r)
    ∧ ∑ d : Fin 4096, half * X4 (ix3 b s d) * X3 (ix3 0 f d) = half * cot X4 X3 f b s := by
  choose x hx using h4
  choose w hw using h3
  unfold cot
  simp only [hx, hw, half_eq, ← EReal.coe_mul, ← Cert.RowNorm.coe_sum]
  refine ⟨⟨_, rfl⟩, ?_⟩
  congr 1
  rw [Finset.mul_sum]
  exact Finset.sum_congr rfl fun d _ => by ring

end Cert.DguMath
end
-- ==== Proof.DguLoop.lean ====
/- The last part of the feed-forward gradient's kernel: from the finished product, the gradients of 64 rows a trip. -/
module

public import proofs.«01_k».proof.Proof.Gen.KDguIdeal.Frame
public import proofs.«01_k».proof.Proof.DguMath
public import Idealize.ShloMosaic.Lib.Pipeline.ValueKit

@[expose] public section

set_option maxRecDepth 16384

noncomputable section

namespace Cert.KDguIdeal.RefValue
open Cert.KDguIdeal Cert.KDguIdeal.Gen Idealize.ShloMosaic Idealize.ShloMosaic.TcCoe Idealize.SL.Sem
open Cert.Rows Cert.DguMath

theorem pay7 (a : Vec Ideal S64x2752 .f32) (g u : Vec Ideal S1x1x64x2752 .bf16) (q : Fin 64) (l : Fin 2752) :
    k0_pay7 a g u (ix4 0 0 q l) = dgate (a (ix2 q l)) (g (ix4 0 0 q l)) (u (ix4 0 0 q l)) := by
  pointwise [k0_pay7, k0_pay6, k0_pay5, k0_pay4, k0_pay3]
  rw [zero_sub]
  rfl

theorem pay8 (a : Vec Ideal S64x2752 .f32) (g : Vec Ideal S1x1x64x2752 .bf16) (q : Fin 64) (l : Fin 2752) :
    k0_pay8 a g (ix4 0 0 q l) = dup (a (ix2 q l)) (g (ix4 0 0 q l)) := by
  pointwise [k0_pay8, k0_pay6, k0_pay5, k0_pay4, k0_pay3]
  rw [zero_sub]
  rfl

/-- What the loop writes: both gradients at every row, from the product in scratch and the gate and up products. -/
def tileG (A : Vec Ideal S704x2752 .f32) (U : Vec Ideal S1x2x704x2752 .bf16) (y : S1x2x704x2752.Idx) : EReal :=
  if (y 1).val = 0 then dgate (A (ix2 (y 2) (y 3))) (U (ix4 0 0 (y 2) (y 3))) (U (ix4 0 1 (y 2) (y 3)))
  else dup (A (ix2 (y 2) (y 3))) (U (ix4 0 0 (y 2) (y 3)))

theorem off1 : ∀ k : Fin k0_t1_loop.trips, k0_off1 k = ![64 * k.val, 0] := by decide +kernel
theorem off2 : ∀ k : Fin k0_t1_loop.trips, k0_off2 k = ![0, 0, 64 * k.val, 0] := by decide +kernel
theorem off3 : ∀ k : Fin k0_t1_loop.trips, k0_off3 k = ![0, 1, 64 * k.val, 0] := by decide +kernel

/-- Row `q` of trip `k`. -/
def trow (k : Fin k0_t1_loop.trips) (q : Fin 64) : Fin 704 := ⟨64 * k.val + q.val, by have := Nat.lt_of_lt_of_le k.isLt k0_t1_abs.2.1; omega⟩

theorem emb1 (k : Fin k0_t1_loop.trips) (q : Fin 64) (l : Fin 2752) (inb) :
    (Rect.unit (s := S704x2752) (k0_off1 k) ![64, 2752] inb).emb (ix2 q l) = ix2 (trow k q) l := by
  funext a; apply Fin.ext
  match a with
  | ⟨0, _⟩ => show k0_off1 k 0 + 1 * q.val = 64 * k.val + q.val; rw [off1]; show 64 * k.val + 1 * q.val = _; omega
  | ⟨1, _⟩ => show k0_off1 k 1 + 1 * l.val = l.val; rw [off1]; show 0 + 1 * l.val = _; omega

theorem emb2 (k : Fin k0_t1_loop.trips) (q : Fin 64) (l : Fin 2752) (inb) :
    (Rect.unit (s := S1x2x704x2752) (k0_off2 k) ![1, 1, 64, 2752] inb).emb (ix4 0 0 q l) = ix4 0 0 (trow k q) l := by
  funext a; apply Fin.ext
  match a with
  | ⟨0, _⟩ => show k0_off2 k 0 + 1 * 0 = 0; rw [off2]; rfl
  | ⟨1, _⟩ => show k0_off2 k 1 + 1 * 0 = 0; rw [off2]; rfl
  | ⟨2, _⟩ => show k0_off2 k 2 + 1 * q.val = 64 * k.val + q.val; rw [off2]; show 64 * k.val + 1 * q.val = _; omega
  | ⟨3, _⟩ => show k0_off2 k 3 + 1 * l.val = l.val; rw [off2]; show 0 + 1 * l.val = _; omega

theorem emb3 (k : Fin k0_t1_loop.trips) (q : Fin 64) (l : Fin 2752) (inb) :
    (Rect.unit (s := S1x2x704x2752) (k0_off3 k) ![1, 1, 64, 2752] inb).emb (ix4 0 0 q l) = ix4 0 1 (trow k q) l := by
  funext a; apply Fin.ext
  match a with
  | ⟨0, _⟩ => show k0_off3 k 0 + 1 * 0 = 0; rw [off3]; rfl
  | ⟨1, _⟩ => show k0_off3 k 1 + 1 * 0 = 1; rw [off3]; rfl
  | ⟨2, _⟩ => show k0_off3 k 2 + 1 * q.val = 64 * k.val + q.val; rw [off3]; show 64 * k.val + 1 * q.val = _; omega
  | ⟨3, _⟩ => show k0_off3 k 3 + 1 * l.val = l.val; rw [off3]; show 0 + 1 * l.val = _; omega

/-- An index of a trip's piece. -/
theorem piece_idx (x : S1x1x64x2752.Idx) : ∃ (q : Fin 64) (l : Fin 2752), x = ix4 0 0 q l := ⟨x 2, x 3, by
  funext a; apply Fin.ext
  match a with
  | ⟨0, _⟩ => have := (x 0).isLt; change (x 0).val < 1 at this; show (x 0).val = 0; omega
  | ⟨1, _⟩ => have := (x 1).isLt; change (x 1).val < 1 at this; show (x 1).val = 0; omega
  | ⟨2, _⟩ => rfl
  | ⟨3, _⟩ => rfl⟩

theorem tileG_0 (A : FVec Ideal S704x2752 .f32) (U : FVec Ideal S1x2x704x2752 .bf16) (r : Fin 704) (l : Fin 2752) :
    tileG A U (ix4 0 0 r l) = dgate (A (ix2 r l)) (U (ix4 0 0 r l)) (U (ix4 0 1 r l)) := if_pos rfl

section Trips
variable (c : Dev nD) (i : grid0.Coords) (arg3 : Memref sig .tc .vmem S704x1024 .bf16) (harg3 : arg3.IsWhole) (arg4 : Memref sig .tc .vmem S1x2752x1024 .bf16) (harg4 : arg4.IsWhole) (arg5 : Memref sig .tc .vmem S1x2x704x2752 .bf16) (harg5 : arg5.IsWhole) (arg6 : Memref sig .tc .vmem S1x2x704x2752 .bf16) (harg6 : arg6.IsWhole) (arg7 : Memref sig .tc .vmem S704x2752 .f32) (harg7 : arg7.IsWhole) (h3 : k0_cond3 i = 1#1)
  (X5 : BufTy.Contents (Elt Ideal) arg5.view.ty) (X7 : BufTy.Contents (Elt Ideal) arg7.view.ty)

theorem trip_pieces (k : Fin k0_t1_loop.trips) :
    ∀ p ∈ tripL_k0_t1 (F := Ideal) Variants.none c none i arg3 harg3 arg4 harg4 arg5 harg5 arg6 harg6 arg7 harg7 h3 X5 X7 k, ∀ x : p.1.shape.Idx,
      p.2 x = tileG (arg7.view.read (Elt Ideal) X7) (arg5.view.read (Elt Ideal) X5) (p.1.emb x) := by
  unfold tripL_k0_t1 trip_k0_t1
  dsimp only
  intro p hp x
  rcases List.mem_cons.mp hp with rfl | hp
  · obtain ⟨q, l, rfl⟩ := piece_idx x
    unfold trip_k0_t1.sl.r
    refine (pay8 _ _ q l).trans ?_
    dsimp only
    rw [emb3]
    exact congrArg₂ dup (congrArg (arg7.view.read (Elt Ideal) X7) (emb1 k q l _)) (congrArg (arg5.view.read (Elt Ideal) X5) (emb2 k q l _))
  · rcases List.mem_singleton.mp hp with rfl
    obtain ⟨q, l, rfl⟩ := piece_idx x
    refine (pay7 _ _ _ q l).trans ?_
    dsimp only
    rw [emb2]
    refine Eq.trans ?_ (tileG_0 _ _ _ _).symm
    exact congr (congrArg₂ dgate (congrArg (arg7.view.read (Elt Ideal) X7) (emb1 k q l _)) (congrArg (arg5.view.read (Elt Ideal) X5) (emb2 k q l _)))
      (congrArg (arg5.view.read (Elt Ideal) X5) (emb3 k q l _))

theorem loop_pieces (n : ℕ) (hn : n ≤ k0_t1_loop.trips) :
    ∀ p ∈ pb_k0_t1 (F := Ideal) Variants.none c none i arg3 harg3 arg4 harg4 arg5 harg5 arg6 harg6 arg7 harg7 h3 X5 X7 n, ∀ x : p.1.shape.Idx,
      p.2 x = tileG (arg7.view.read (Elt Ideal) X7) (arg5.view.read (Elt Ideal) X5) (p.1.emb x) := by
  induction n with
  | zero => intro p hp; exact absurd hp List.not_mem_nil
  | succ n ih =>
    intro p hp
    have e := pb_k0_t1_succ (F := Ideal) Variants.none c none i arg3 harg3 arg4 harg4 arg5 harg5 arg6 harg6 arg7 harg7 h3 X5 X7 ⟨n, hn⟩
    rcases List.mem_append.mp (e ▸ hp) with hp | hp
    · exact trip_pieces c i arg3 harg3 arg4 harg4 arg5 harg5 arg6 harg6 arg7 harg7 h3 X5 X7 ⟨n, hn⟩ p hp
    · exact ih (Nat.le_of_succ_le hn) p hp
end Trips

section Last
variable (c : Dev nD) (i : grid0.Coords) (arg3 : Memref sig .tc .vmem S704x1024 .bf16) (harg3 : arg3.IsWhole) (arg4 : Memref sig .tc .vmem S1x2752x1024 .bf16) (harg4 : arg4.IsWhole) (arg5 : Memref sig .tc .vmem S1x2x704x2752 .bf16) (harg5 : arg5.IsWhole) (arg6 : Memref sig .tc .vmem S1x2x704x2752 .bf16) (harg6 : arg6.IsWhole) (arg7 : Memref sig .tc .vmem S704x2752 .f32) (harg7 : arg7.IsWhole) (hc0 : ¬cond0_0 i) (hc1 : cond0_1 i) (hc2 : cond0_2 i)
    (x0 : FVec Ideal S704x1024 .bf16) (x1 : FVec Ideal S1x2752x1024 .bf16) (x2 : FVec Ideal S1x2x704x2752 .bf16) (xs : FVec Ideal S704x2752 .f32)

/-- The pieces of the last step of a contraction are the loop's, from the product the step before and this step add up to. -/
theorem last_pieces : ∀ p ∈ (kernelRun0_C (F := Ideal) c i arg3 harg3 arg4 harg4 arg5 harg5 arg6 harg6 arg7 harg7 hc0 hc1 hc2 x0 x1 x2 xs).1, ∀ x : p.1.shape.Idx,
    p.2 x = tileG (k0_pay2 (F := Ideal) xs x0 x1) x2 (p.1.emb x) := by
  unfold kernelRun0_C
  dsimp only
  intro p hp x
  refine (loop_pieces c i arg3 harg3 arg4 harg4 arg5 harg5 arg6 harg6 _ _ _ _ _ _ (le_refl _) p hp x).trans ?_
  rw [harg5.read_unread]
  congr 1
  unfold kernelRun0_C.sl.HS0_1
  rw [View.read_writes_junk_eq_canon]
  frame_out

theorem out_C (y : S1x2x704x2752.Idx) :
    out0_C_3 (F := Ideal) c i arg3 harg3 arg4 harg4 arg5 harg5 arg6 harg6 arg7 harg7 hc0 hc1 hc2 x0 x1 x2 xs y = tileG (k0_pay2 (F := Ideal) xs x0 x1) x2 y := by
  unfold out0_C_3
  rw [View.read_writes_junk_apply_eq_canon]
  exact View.canon_apply_of_pieces _ _ (last_pieces c i arg3 harg3 arg4 harg4 arg5 harg5 arg6 harg6 arg7 harg7 hc0 hc1 hc2 x0 x1 x2 xs) y
    (cover0_C_3 (F := Ideal) c i arg3 harg3 arg4 harg4 arg5 harg5 arg6 harg6 arg7 harg7 hc0 hc1 hc2 x0 x1 x2 xs y)
end Last

end Cert.KDguIdeal.RefValue
end
-- ==== Proof.DguHost.lean ====
/- What the host prepares for the kernel of the feed-forward gradient, and where its blocks lie. -/
module

public import proofs.«01_k».proof.Proof.Gen.KDguIdeal.Value
public import proofs.«01_k».proof.Proof.DguLoop
public import Idealize.ShloMosaic.Lib.Pipeline.ValueKit

@[expose] public section

set_option maxRecDepth 16384

noncomputable section

namespace Cert.KDguIdeal.RefValue
open Cert.KDguIdeal Cert.KDguIdeal.Gen Idealize.ShloMosaic Idealize.ShloMosaic.TcCoe Idealize.SL.Sem
open Idealize.ShloMosaic.Pipeline (Dat)
open Cert.Rows Cert.DguMath

variable (m : (ℓ : Loc nD τ sig) → Buf (Elt Ideal) ℓ)

theorem idx : ∀ t : Fin cfg0.N, win0_0.index t = ![t.val / 16, t.val % 4] ∧ win0_1.index t = ![t.val / 4 % 4, 0, t.val % 4]
    ∧ win0_2.index t = ![t.val / 4 % 4, 0, t.val / 16, 0] ∧ win0_3.index t = ![t.val / 4 % 4, 0, t.val / 16, 0] :=
  (by decide +kernel : ∀ t : Fin grid0.N, _)

theorem N_lt (t : Fin cfg0.N) : t.val < 96 := lt_of_lt_of_eq t.isLt N_0

/-- The row of the array that row `r` of block `t` is, -/
def grow (t : Fin cfg0.N) (r : Fin 704) : Fin 4224 := ⟨t.val / 16 * 704 + r.val, by have := N_lt t; omega⟩
/-- its shard, -/
def gs (t : Fin cfg0.N) : Fin 4 := ⟨t.val / 4 % 4, Nat.mod_lt _ (by omega)⟩
/-- its column of the second matrix, -/
def gcol (t : Fin cfg0.N) (f : Fin 2752) : Fin 11008 := ⟨(gs t).val * 2752 + f.val, by have := (gs t).isLt; omega⟩
/-- and the place in the contraction. -/
def gk (t : Fin cfg0.N) (k : Fin 1024) : Fin 4096 := ⟨t.val % 4 * 1024 + k.val, by omega⟩

/-! ## What the host prepares -/

/-- The cotangent's rows, padded with zeros. -/
def hostDp (X : FVec Ideal S2x2064x4096 .f32) : FVec Ideal S4224x4096 .bf16 :=
  truncf .bf16 (pad S4224x4096 ![0, 0] ![96, 0] ![0, 0] (shapeCast S4128x4096 X shapeCasts_S2x2064x4096_S4128x4096)
    (sitofp .f32 (constantI S_ 32 0#32)) pads_S4128x4096_S4224x4096_0960_000 h_S_) bitsLt_bf16_f32

/-- The second matrix by shards. -/
def hostWd (W : FVec Ideal S1x11008x4096 .f32) : FVec Ideal S4x2752x4096 .bf16 :=
  truncf .bf16 (shapeCast S4x2752x4096 (shapeCast S11008x4096 W shapeCasts_S1x11008x4096_S11008x4096) shapeCasts_S11008x4096_S4x2752x4096) bitsLt_bf16_f32

/-- The rows with the other rows after them. -/
def hostH (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The first product by shards, of any rows. -/
def hostGu (H : FVec Ideal S4224x4096 .f32) (W : FVec Ideal S1x4096x22016 .f32) : FVec Ideal S4x2x4224x2752 .bf16 :=
  truncf .bf16 (transpose S4x2x4224x2752 [1, 0, 2, 3] (shapeCast S2x4x4224x2752 (transpose S8x4224x2752 [0, 2, 1]
    (Host.dotGeneral dot_S8x4096x2752_S4224x4096_S8x2752x4224_1_1_02_0_n_n none
      (transpose S8x4096x2752 [1, 0, 2] (shapeCast S4096x8x2752 (shapeCast S4096x22016 W shapeCasts_S1x4096x22016_S4096x22016)
        shapeCasts_S4096x22016_S4096x8x2752) transposes_S4096x8x2752_S8x4096x2752_1_0_2 : FVec Ideal S8x4096x2752 .f32) H : FVec Ideal S8x2752x4224 .f32)
    transposes_S8x2752x4224_S8x4224x2752_0_2_1) shapeCasts_S8x4224x2752_S2x4x4224x2752) transposes_S2x4x4224x2752_S4x2x4224x2752_1_0_2_3) bitsLt_bf16_f32

theorem hostWd_apply (W : FVec Ideal S1x11008x4096 .f32) (s : Fin 4) (f : Fin 2752) (d : Fin 4096) :
    hostWd W (ix3 s f d) = W (ix3 0 ⟨s.val * 2752 + f.val, by omega⟩ d) := by
  pointwise [hostWd]

theorem hostGu_apply (H : FVec Ideal S4224x4096 .f32) (W : FVec Ideal S1x4096x22016 .f32) (s : Fin 4) (i : Fin 2) (R : Fin 4224) (f : Fin 2752) :
    hostGu H W (ix4 s i R f) = ∑ d : Fin 4096, H (ix2 R d) * W (ix3 0 d ⟨i.val * 11008 + (s.val * 2752 + f.val), by omega⟩) := by
  pointwise [hostGu]
  refine Finset.sum_congr rfl fun d _ => (mul_comm _ _).trans (congrArg (H (ix2 R d) * ·) (congrArg W (congrArg (ix3 0 d) (Fin.ext ?_))))
  show (i.val * 4 + s.val) * 2752 + f.val = i.val * 11008 + (s.val * 2752 + f.val)
  omega

/-- Its columns of the rows of the sequences. -/
theorem hostGu_lin (X : FVec Ideal S2x2064x4096 .f32) (T : FVec Ideal S96x4096 .f32) (W : FVec Ideal S1x4096x22016 .f32) (s : Fin 4) (i : Fin 2)
    (R : Fin 4224) (f : Fin 2752) (h : R.val < 4128) : hostGu (hostH X T) W (ix4 s i R f)
      = lin X W ⟨i.val * 11008 + (s.val * 2752 + f.val), by omega⟩ ⟨R.val / 2064, by omega⟩ ⟨R.val % 2064, by omega⟩ := by
  rw [hostGu_apply]
  exact Finset.sum_congr rfl fun d _ => congrArg₂ (· * ·) (tailRows_apply _ _ _ _ _ _ h) rfl

theorem V_v15 (c : Dev nD) : V m c main_v15 = hostDp (m ((c : Thread nD τ).loc main_arg4)) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  rfl

theorem V_v12 (c : Dev nD) : V m c main_v12 = hostWd (m ((c : Thread nD τ).loc main_arg3)) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  rfl

theorem V_v9 (c : Dev nD) : V m c main_v9 = hostGu (hostH (m ((c : Thread nD τ).loc main_arg0)) (m ((c : Thread nD τ).loc main_arg1))) (m ((c : Thread nD τ).loc main_arg2)) := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  rfl

end Cert.KDguIdeal.RefValue
end
-- ==== Proof.DguBlocks.lean ====
/- What the blocks of the feed-forward gradient's kernel hold. -/
module

public import proofs.«01_k».proof.Proof.DguHost
public import Idealize.ShloMosaic.Lib.Pipeline.ValueKit

@[expose] public section

set_option maxRecDepth 16384

noncomputable section

namespace Cert.KDguIdeal.RefValue
open Cert.KDguIdeal Cert.KDguIdeal.Gen Idealize.ShloMosaic Idealize.ShloMosaic.TcCoe Idealize.SL.Sem
open Idealize.ShloMosaic.Pipeline (Dat)
open Cert.Rows Cert.DguMath

variable (m : (ℓ : Loc nD τ sig) → Buf (Elt Ideal) ℓ)

theorem blk_dp (c : Dev nD) (t : Fin cfg0.N) (r : Fin 704) (k : Fin 1024) : iblk m c 0 t (ix2 r k)
    = padded (fun b s => m ((c : Thread nD τ).loc main_arg4) (ix3 b s (gk t k))) (grow t r).val := by
  blk_simp [iblk]
  refine Eq.trans (b := V m c main_v15 (ix2 (grow t r) (gk t k))) ?_ ?_
  · blk_ext [idx t, grow, gk]
  · rw [V_v15]; exact padRows_apply _ _ pads_S4128x4096_S4224x4096_0960_000 h_S_ _ _

/-- The place in the second matrix. -/
theorem emb_wd (t : Fin cfg0.N) (f : Fin 2752) (k : Fin 1024) : ((cfg0.win 1).blk t).view.emb (ix3 0 f k) = ix3 (gs t) f (gk t k) := by
  have e := (idx t).2.1
  funext a; apply Fin.ext
  match a with
  | ⟨0, _⟩ =>
    show win0_1.index t 0 * 1 + 1 * 0 = t.val / 4 % 4
    rw [e]; show t.val / 4 % 4 * 1 + 0 = _; omega
  | ⟨1, _⟩ =>
    show win0_1.index t 1 * 2752 + 1 * f.val = f.val
    rw [e]; show 0 * 2752 + 1 * f.val = _; omega
  | ⟨2, _⟩ =>
    show win0_1.index t 2 * 1024 + 1 * k.val = t.val % 4 * 1024 + k.val
    rw [e]; show t.val % 4 * 1024 + 1 * k.val = _; omega

/-- A block of it, read from any contents of the buffers. -/
theorem read_wd (c : Dev nD) (X : (b : Ref sig .tc) → Buf (Elt Ideal) ((c : Thread nD τ).loc b)) (t : Fin cfg0.N) (y : S1x2752x1024.Idx) :
    ((cfg0.win 1).blk t).view.read (Elt Ideal) (X (Pipeline.arrRef spec0 1)) y = X main_v12 (((cfg0.win 1).blk t).view.emb y) := rfl

theorem blk_wd (c : Dev nD) (t : Fin cfg0.N) (f : Fin 2752) (k : Fin 1024) : iblk m c 1 t (ix3 0 f k)
    = m ((c : Thread nD τ).loc main_arg3) (ix3 0 (gcol t f) (gk t k)) := by
  refine (read_wd c (V m c) t _).trans ((congrArg (V m c main_v12) (emb_wd t f k)).trans ?_)
  rw [V_v12]
  exact hostWd_apply _ _ _ _

theorem blk_gu (c : Dev nD) (t : Fin cfg0.N) (i : Fin 2) (r : Fin 704) (f : Fin 2752) (h : (grow t r).val < 4128) : iblk m c 2 t (ix4 0 i r f)
    = lin (m ((c : Thread nD τ).loc main_arg0)) (m ((c : Thread nD τ).loc main_arg2)) ⟨i.val * 11008 + (gcol t f).val, by omega⟩
        ⟨(grow t r).val / 2064, by omega⟩ ⟨(grow t r).val % 2064, by omega⟩ := by
  blk_simp [iblk]
  refine Eq.trans (b := V m c main_v9 (ix4 (gs t) i (grow t r) f)) ?_ ?_
  · blk_ext [idx t, grow, gs]
  · rw [V_v9]; exact hostGu_lin _ _ _ (gs t) i (grow t r) f h

end Cert.KDguIdeal.RefValue
end
-- ==== Proof.DguAcc.lean ====
/- The product of the feed-forward gradient's kernel, summed over its four parts. -/
module

public import proofs.«01_k».proof.Proof.DguBlocks
public import Idealize.ShloMosaic.Lib.Pipeline.ValueKit
public import Idealize.ShloMosaic.Lib.Pipeline.ReadBack

@[expose] public section

set_option maxRecDepth 16384

noncomputable section

namespace Cert.KDguIdeal.RefValue
open Cert.KDguIdeal Cert.KDguIdeal.Gen Idealize.ShloMosaic Idealize.ShloMosaic.TcCoe Idealize.SL.Sem
open Idealize.ShloMosaic.Pipeline (Dat)
open Cert.Rows Cert.DguMath

variable (m : (ℓ : Loc nD τ sig) → Buf (Elt Ideal) ℓ)

/-! ## The product, summed over its four parts -/

theorem pay1_of (x0 : FVec Ideal S704x1024 .bf16) (x1 : FVec Ideal S1x2752x1024 .bf16) (r : Fin 704) (f : Fin 2752) (a b : Fin 1024 → EReal)
    (h0 : ∀ k, x0 (ix2 r k) = a k) (h1 : ∀ k, x1 (ix3 0 f k) = b k) : k0_pay1 (F := Ideal) x0 x1 (ix2 r f) = ∑ k, a k * b k := by
  pointwise [k0_pay1]
  exact Finset.sum_congr rfl fun k _ => congrArg₂ (· * ·) (h0 k) (h1 k)

theorem pay2_of (xs : FVec Ideal S704x2752 .f32) (x0 : FVec Ideal S704x1024 .bf16) (x1 : FVec Ideal S1x2752x1024 .bf16) (r : Fin 704) (f : Fin 2752)
    (a b : Fin 1024 → EReal) (h0 : ∀ k, x0 (ix2 r k) = a k) (h1 : ∀ k, x1 (ix3 0 f k) = b k) :
    k0_pay2 (F := Ideal) xs x0 x1 (ix2 r f) = xs (ix2 r f) + ∑ k, a k * b k := by
  pointwise [k0_pay2]
  exact congrArg (xs (ix2 r f) + ·) (Finset.sum_congr rfl fun k _ => congrArg₂ (· * ·) (h0 k) (h1 k))

/-- What step `t` adds. -/
def term (c : Dev nD) (t : Fin cfg0.N) (y : S704x2752.Idx) : EReal :=
  ∑ k : Fin 1024, padded (fun b s => m ((c : Thread nD τ).loc main_arg4) (ix3 b s (gk t k))) (grow t (y 0)).val
    * (show EReal from m ((c : Thread nD τ).loc main_arg3) (ix3 0 (gcol t (y 1)) (gk t k)))

theorem pay1_term (c : Dev nD) (t : Fin cfg0.N) (y : S704x2752.Idx) : k0_pay1 (F := Ideal) (iblk m c 0 t) (iblk m c 1 t) y = term m c t y := by
  obtain ⟨r, f, rfl⟩ : ∃ (r : Fin 704) (f : Fin 2752), y = ix2 r f := ⟨y 0, y 1, eq_ix2 y⟩
  exact pay1_of _ _ r f _ _ (fun k => blk_dp m c t r k) (fun k => blk_wd m c t f k)

theorem pay2_term (c : Dev nD) (t : Fin cfg0.N) (xs : FVec Ideal S704x2752 .f32) (y : S704x2752.Idx) :
    k0_pay2 (F := Ideal) xs (iblk m c 0 t) (iblk m c 1 t) y = xs y + term m c t y := by
  obtain ⟨r, f, rfl⟩ : ∃ (r : Fin 704) (f : Fin 2752), y = ix2 r f := ⟨y 0, y 1, eq_ix2 y⟩
  exact pay2_of xs _ _ r f _ _ (fun k => blk_dp m c t r k) (fun k => blk_wd m c t f k)

theorem scr_first (c : Dev nD) (t : Fin cfg0.N) (h : t.val % 4 = 0) :
    (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 4 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]; frame_out; simp only [read_unread_whole]
  · rw [outsAt0_B m c t h (by omega) h3]; frame_out; simp only [read_unread_whole]

/-- After the last step: the whole product. -/
theorem scr_last (c : Dev nD) (t : Fin cfg0.N) (h : t.val % 4 = 3) (r : Fin 704) (f : Fin 2752) : (outsAt0 m c t.val t.isLt).2 (ix2 r f)
    = padded (cot (m ((c : Thread nD τ).loc main_arg4)) (m ((c : Thread nD τ).loc main_arg3)) (gcol t f)) (grow t r).val := by
  rw [Pipeline.eq_sum_fin_of_reset_step_apply_of_flush (fun n h => (outsAt0 m c n h).2) 4 (fun _ => (0 : EReal)) (term m c)
    (fun t h j => by rw [scr_first m c t h, pay1_term]; exact (zero_add _).symm)
    (fun t h j => by rw [scr_next m c t h, pay2_term]) t h _, zero_add]
  have ht := N_lt t
  refine (Finset.sum_congr rfl fun s _ => ?_).trans ((Fin.sum_mul_add_fin 4 1024 fun d : Fin 4096 =>
    padded (fun b s => m ((c : Thread nD τ).loc main_arg4) (ix3 b s d)) (grow t r).val
      * (show EReal from m ((c : Thread nD τ).loc main_arg3) (ix3 0 (gcol t f) d))).trans ?_)
  · refine Finset.sum_congr rfl fun k _ => ?_
    have hs := s.isLt
    have hlt := Pipeline.run_point_lt_of_flush t h s
    have e1 : gk ⟨4 * (t.val / 4) + s.val, hlt⟩ k = ⟨s.val * 1024 + k.val, by omega⟩ :=
      Fin.ext (by show (4 * (t.val / 4) + s.val) % 4 * 1024 + k.val = s.val * 1024 + k.val; omega)
    have e2 : grow ⟨4 * (t.val / 4) + s.val, hlt⟩ r = grow t r :=
      Fin.ext (by show (4 * (t.val / 4) + s.val) / 16 * 704 + r.val = t.val / 16 * 704 + r.val; omega)
    have e3 : gcol ⟨4 * (t.val / 4) + s.val, hlt⟩ f = gcol t f :=
      Fin.ext (by show (4 * (t.val / 4) + s.val) / 4 % 4 * 2752 + f.val = t.val / 4 % 4 * 2752 + f.val; omega)
    show padded (fun b s' => m ((c : Thread nD τ).loc main_arg4) (ix3 b s' (gk ⟨4 * (t.val / 4) + s.val, hlt⟩ k))) (grow ⟨4 * (t.val / 4) + s.val, hlt⟩ r).val
      * (show EReal from m ((c : Thread nD τ).loc main_arg3) (ix3 0 (gcol ⟨4 * (t.val / 4) + s.val, hlt⟩ f) (gk ⟨4 * (t.val / 4) + s.val, hlt⟩ k))) = _
    rw [e1, e2, e3]
  · by_cases hR : (grow t r).val < 4128
    · rw [padded_pos _ hR]
      exact Finset.sum_congr rfl fun d _ => congrArg₂ (· * ·) (padded_pos _ hR) rfl
    · rw [padded_neg _ hR]
      exact Finset.sum_eq_zero fun d _ => by rw [padded_neg _ hR, zero_mul]

end Cert.KDguIdeal.RefValue
end
-- ==== Proof.DguKernel.lean ====
/- What the kernel of the feed-forward gradient leaves in its result. -/
module

public import proofs.«01_k».proof.Proof.DguAcc
public import proofs.«01_k».proof.Proof.DguLoop
public import Idealize.ShloMosaic.Lib.Pipeline.ValueKit

@[expose] public section

set_option maxRecDepth 16384

noncomputable section

namespace Cert.KDguIdeal.RefValue
open Cert.KDguIdeal Cert.KDguIdeal.Gen Idealize.ShloMosaic Idealize.ShloMosaic.TcCoe Idealize.SL.Sem
open Idealize.ShloMosaic.Pipeline (Dat)
open Cert.Rows Cert.DguMath

variable (m : (ℓ : Loc nD τ sig) → Buf (Elt Ideal) ℓ)

/-- A tile is the gradient wherever its product is the padded cotangent and its rows of the sequences hold the two products. -/
theorem tile_eq (A : FVec Ideal S704x2752 .f32) (U : FVec Ideal S1x2x704x2752 .bf16) (X0 X4 : FVec Ideal S2x2064x4096 .f32)
    (X2 : FVec Ideal S1x4096x22016 .f32) (X3 : FVec Ideal S1x11008x4096 .f32) (s : Fin 4) (i : Fin 2) (R : Fin 4224) (f : Fin 2752) (q : Fin 704)
    (hA : A (ix2 q f) = padded (cot X4 X3 ⟨s.val * 2752 + f.val, by omega⟩) R.val)
    (hU : ∀ (i : Fin 2) (h : R.val < 4128), U (ix4 0 i q f) = lin X0 X2 ⟨i.val * 11008 + (s.val * 2752 + f.val), by omega⟩
      ⟨R.val / 2064, by omega⟩ ⟨R.val % 2064, by omega⟩) :
    tileG A U (ix4 0 i q f) = G X0 X4 X2 X3 (ix4 s i R f) := by
  show (if i.val = 0 then dgate (A (ix2 q f)) (U (ix4 0 0 q f)) (U (ix4 0 1 q f)) else dup (A (ix2 q f)) (U (ix4 0 0 q f)))
    = padded (grad X0 X4 X2 X3 i ⟨s.val * 2752 + f.val, by omega⟩) R.val
  by_cases hR : R.val < 4128
  · rw [padded_pos _ hR] at hA
    rw [padded_pos _ hR, hA, hU 0 hR, hU 1 hR]
    unfold grad
    have e0 : (⟨(0 : Fin 2).val * 11008 + (s.val * 2752 + f.val), by simp; omega⟩ : Fin 22016) = ⟨s.val * 2752 + f.val, by omega⟩ :=
      Fin.ext (by simp)
    have e1 : (⟨(1 : Fin 2).val * 11008 + (s.val * 2752 + f.val), by simp; omega⟩ : Fin 22016) = ⟨11008 + (s.val * 2752 + f.val), by omega⟩ :=
      Fin.ext (by simp)
    rw [e0, e1]
    match i with
    | ⟨0, _⟩ => rfl
    | ⟨1, _⟩ => rfl
  · rw [padded_neg _ hR] at hA ⊢
    match i with
    | ⟨0, _⟩ => exact dgate_zero _ _ _ hA
    | ⟨1, _⟩ => exact dup_zero _ _ hA

theorem final3 (c : Dev nD) : (dats m 0 c).arrAt 3 cfg0.N = G (m ((c : Thread nD τ).loc main_arg0)) (m ((c : Thread nD τ).loc main_arg4))
    (m ((c : Thread nD τ).loc main_arg2)) (m ((c : Thread nD τ).loc main_arg3)) := by
  refine (dats m 0 c).arrAt_eq_of_covers 3 _ (by decide +kernel) fun t hf y => ?_
  obtain ⟨i, q, f, rfl⟩ : ∃ (i : Fin 2) (q : Fin 704) (f : Fin 2752), y = ix4 0 i q f := ⟨y 1, y 2, y 3, by
    funext a; apply Fin.ext
    match a with
    | ⟨0, _⟩ => have := (y 0).isLt; change (y 0).val < 1 at this; show (y 0).val = 0; omega
    | ⟨1, _⟩ => rfl
    | ⟨2, _⟩ => rfl
    | ⟨3, _⟩ => rfl⟩
  have he : ((cfg0.win 3).blk t).view.emb (ix4 0 i q f) = ix4 (gs t) i (grow t q) f := by blk_ext [idx t, gs, grow]
  have h3 := (flush0_3 t).mp hf
  rw [he]
  blk_simp
  rw [after0_3, outsAt0_C m c t (by omega) (by omega) h3]
  dsimp only
  rw [out_C]
  refine tile_eq _ _ _ _ _ _ (gs t) i (grow t q) f q ?_ fun i h => blk_gu m c t i q f h
  rw [← scr_next m c t (by omega)]
  exact scr_last m c t h3 q f

end Cert.KDguIdeal.RefValue
end
-- ==== Proof.DguRef.lean ====
/- The reference's gradient of the feed-forward product, read entry by entry. -/
module

public import proofs.«01_k».proof.Proof.Gen.RDguIdeal.Read
public import proofs.«01_k».proof.Proof.Gen.Pre_finite_dgu
public import proofs.«01_k».proof.Proof.DguMath
public import proofs.«01_k».proof.Proof.Finite
public import Idealize.ShloMosaic.Lib.Pipeline.ValueKit

@[expose] public section

set_option maxRecDepth 16384

noncomputable section

namespace Cert.RDguIdeal.RefValue
open Cert.RDguIdeal Cert.RDguIdeal.Gen Cert.RDguIdeal.Read Idealize.ShloMosaic Idealize.ShloMosaic.TcCoe Idealize.SL.Sem
open Cert.Rows Cert.DguMath Cert.Finite

variable (X0 X4 : FVec Ideal S2x2064x4096 .f32) (X2 : FVec Ideal S1x4096x22016 .f32) (X3 : FVec Ideal S1x11008x4096 .f32)

theorem stage1 (b : Fin 2) (s : Fin 2064) (f : Fin 22016) : val_main_v1 (F := Ideal) X0 X2 (ix3 b s f) = lin X0 X2 f b s := by
  pointwise [val_main_v1, val_main_v0]
  rfl

theorem stage3 (b : Fin 2) (s : Fin 2064) (f : Fin 11008) : val_main_v3 (F := Ideal) X0 X2 (ix3 b s f) = lin X0 X2 ⟨f.val, by omega⟩ b s := by
  have h := stage1 X0 X2 b s ⟨f.val, by omega⟩
  unfold val_main_v3
  generalize val_main_v1 (F := Ideal) X0 X2 = Q at h ⊢
  pointwise
  exact h

theorem stage4 (b : Fin 2) (s : Fin 2064) (f : Fin 11008) : val_main_v4 (F := Ideal) X0 X2 (ix3 b s f) = lin X0 X2 ⟨11008 + f.val, by omega⟩ b s := by
  have h := stage1 X0 X2 b s ⟨11008 + f.val, by omega⟩
  unfold val_main_v4
  generalize val_main_v1 (F := Ideal) X0 X2 = Q at h ⊢
  pointwise
  exact h

theorem stage5_2 (b : Fin 2) (s : Fin 2064) (f : Fin 11008) : val_main_v5_2 (F := Ideal) X0 X2 (ix3 b s f) = sgm (lin X0 X2 ⟨f.val, by omega⟩ b s) := by
  have h := stage3 X0 X2 b s f
  unfold val_main_v5_2 val_main_call0_v3 val_main_call0_v1 val_main_call0_v0
  generalize val_main_v3 (F := Ideal) X0 X2 = Q at h ⊢
  pointwise [val_main_call0_v4, val_main_call0_v2, val_main_call0_cst, val_main_call0_cst_0]
  rw [h]
  rfl

theorem stage14 (b : Fin 2) (s : Fin 2064) (f : Fin 11008) :
    val_main_v14 (F := Ideal) X3 X4 (ix3 b s f) = ∑ d : Fin 4096, half * X4 (ix3 b s d) * X3 (ix3 0 f d) := by
  pointwise [val_main_v14, val_main_v11, val_main_v10, val_main_v2, val_main_cst_0]
  rfl

/-- The up product's gradient. -/
theorem stage15 (h4 : All X4) (h3 : All X3) (b : Fin 2) (s : Fin 2064) (f : Fin 11008) :
    val_main_v15 (F := Ideal) X0 X2 X3 X4 (ix3 b s f) = grad X0 X4 X2 X3 1 f b s := by
  have h3' := stage3 X0 X2 b s f
  have h5 := stage5_2 X0 X2 b s f
  have h14 := (stage14 X4 X3 b s f).trans (cot_real h4 h3 f b s).2
  rw [val_main_v15_apply, val_main_v5_0_apply, h3', h5, h14]
  exact mul_comm (G := EReal) _ _

/-- The gate's. -/
theorem stage17 (h0 : All X0) (h2 : All X2) (h4 : All X4) (h3 : All X3) (b : Fin 2) (s : Fin 2064) (f : Fin 11008) :
    val_main_v17 (F := Ideal) X0 X2 X3 X4 (ix3 b s f) = grad X0 X4 X2 X3 0 f b s := by
  have e3 := stage3 X0 X2 b s f
  have e4 := stage4 X0 X2 b s f
  have e5 := stage5_2 X0 X2 b s f
  have e14 := (stage14 X4 X3 b s f).trans (cot_real h4 h3 f b s).2
  obtain ⟨g, hg⟩ := lin_real h0 h2 ⟨f.val, by omega⟩ b s
  obtain ⟨u, hu⟩ := lin_real h0 h2 ⟨11008 + f.val, by omega⟩ b s
  obtain ⟨⟨a, ha⟩, -⟩ := cot_real h4 h3 f b s
  rw [val_main_v17_apply, val_main_call1_v1_apply, val_main_call1_v2_apply, val_main_call1_v0_apply, val_main_v16_apply, val_main_v5_1_apply,
    val_main_call0_v7_apply, e3, e4, e5, e14]
  have e6 : val_main_call0_v6 (F := Ideal) (ix3 b s f) = 1 := by pointwise [val_main_call0_v6, val_main_call0_cst_1]
  rw [e6]
  show (half * cot X4 X3 f b s) * lin X0 X2 ⟨11008 + f.val, by omega⟩ b s * sgm (lin X0 X2 ⟨f.val, by omega⟩ b s)
    + lin X0 X2 ⟨f.val, by omega⟩ b s * ((half * cot X4 X3 f b s) * lin X0 X2 ⟨11008 + f.val, by omega⟩ b s)
      * (sgm (lin X0 X2 ⟨f.val, by omega⟩ b s) * (1 - sgm (lin X0 X2 ⟨f.val, by omega⟩ b s)))
    = dgate (cot X4 X3 f b s) (lin X0 X2 ⟨f.val, by omega⟩ b s) (lin X0 X2 ⟨11008 + f.val, by omega⟩ b s)
  rw [hg, hu, ha]
  exact dgate_eq a g u

/-- The two side by side, as rows and shards. -/
theorem stage19 (h0 : All X0) (h2 : All X2) (h4 : All X4) (h3 : All X3) (R : Fin 4128) (i : Fin 2) (s : Fin 4) (f : Fin 2752) :
    val_main_v19 (F := Ideal) X0 X2 X3 X4 (ix4 R i s f)
      = grad X0 X4 X2 X3 i ⟨s.val * 2752 + f.val, by omega⟩ ⟨R.val / 2064, by omega⟩ ⟨R.val % 2064, by omega⟩ := by
  have e17 := stage17 X0 X4 X2 X3 h0 h2 h4 h3 ⟨R.val / 2064, by omega⟩ ⟨R.val % 2064, by omega⟩ ⟨s.val * 2752 + f.val, by omega⟩
  have e15 := stage15 X0 X4 X2 X3 h4 h3 ⟨R.val / 2064, by omega⟩ ⟨R.val % 2064, by omega⟩ ⟨s.val * 2752 + f.val, by omega⟩
  unfold val_main_v19 val_main_v18
  generalize val_main_v17 (F := Ideal) X0 X2 X3 X4 = P at e17 ⊢
  generalize val_main_v15 (F := Ideal) X0 X2 X3 X4 = Q at e15 ⊢
  match i with
  | ⟨0, _⟩ =>
    refine Eq.trans ?_ e17
    pointwise
    rw [dif_pos (by omega)]
  | ⟨1, _⟩ =>
    refine Eq.trans ?_ e15
    pointwise
    rw [dif_neg (by omega)]
    exact congrArg Q (congrArg (ix3 _ _) (Fin.ext (by show 11008 + s.val * 2752 + f.val - 11008 = s.val * 2752 + f.val; omega)))

/-- Rows of zeros after the rows. -/
theorem pad_rows (Q : FVec Ideal S4128x2x4x2752 .f32) (R : Fin 4224) (i : Fin 2) (s : Fin 4) (f : Fin 2752) (g : Fin 2 → Fin 2064 → EReal)
    (h : ∀ hR : R.val < 4128, Q (ix4 ⟨R.val, hR⟩ i s f) = g ⟨R.val / 2064, by omega⟩ ⟨R.val % 2064, by omega⟩) :
    pad S4224x2x4x2752 ![0, 0, 0, 0] ![96, 0, 0, 0] ![0, 0, 0, 0] Q (sitofp .f32 (constantI S_ 32 0#32))
      pads_S4128x2x4x2752_S4224x2x4x2752_0960_000_000_000 h_S_ (ix4 R i s f) = padded g R.val := by
  by_cases hR : R.val < 4128
  · rw [padded_pos _ hR, ← h hR]
    exact pad_apply_of_inside _ _ _ _ _ _ _ _ _ fun a => match a with
      | ⟨0, _⟩ => by show R.val = 0 + R.val * (0 + 1); omega
      | ⟨1, _⟩ => by show i.val = 0 + i.val * (0 + 1); omega
      | ⟨2, _⟩ => by show s.val = 0 + s.val * (0 + 1); omega
      | ⟨3, _⟩ => by show f.val = 0 + f.val * (0 + 1); omega
  · rw [padded_neg _ hR]
    refine (pad_apply_of_not_inside _ _ _ _ _ _ _ _ 0 fun hin => hR ?_).trans Cert.Rows.sitofp_zero
    have h' : (R.val - 0) / (0 + 1) < 4128 := hin.2.2
    simpa using h'

theorem ref (h0 : All X0) (h2 : All X2) (h4 : All X4) (h3 : All X3) : val_main_v22 (F := Ideal) X0 X2 X3 X4 = G X0 X4 X2 X3 := by
  funext j
  idx_vars j
  have h := stage19 X0 X4 X2 X3 h0 h2 h4 h3
  unfold val_main_v22 val_main_v21 val_main_v20
  generalize val_main_v19 (F := Ideal) X0 X2 X3 X4 = Q at h ⊢
  show _ = padded (grad X0 X4 X2 X3 j1 ⟨j0.val * 2752 + j3.val, by omega⟩) j2.val
  refine Eq.trans ?_ (pad_rows Q j2 j1 j0 j3 _ fun hR => h ⟨j2.val, hR⟩ j1 j0 j3)
  pointwise
  rfl

/-- What the precondition says. -/
theorem finite (X1 : FVec Ideal ⟨2, ![96, 4096]⟩ .f32)
    (h : Cert.Pre_finite_dgu.fn (F := Ideal) X0 X1 X2 X3 X4 = fun _ => 1#1) : All X0 ∧ All X2 ∧ All X3 ∧ All X4 := by
  have h' := congrFun h (fun a => a.elim0)
  dsimp only [Cert.Pre_finite_dgu.fn, Cert.Pre_finite_dgu.fn_part1] at h'
  obtain ⟨h1, h4⟩ := of_andi _ _ _ h'
  obtain ⟨h1, h3⟩ := of_andi _ _ _ h1
  obtain ⟨h1, h2⟩ := of_andi _ _ _ h1
  exact ⟨all_of_reduce _ _ _ _ _ h1, all_of_reduce _ _ _ _ _ h2, all_of_reduce _ _ _ _ _ h3, all_of_reduce _ _ _ _ _ h4⟩

end Cert.RDguIdeal.RefValue
-- ==== Proof.Dgu.lean ====
/- The gradient of the feed-forward layer's gates: the kernel's result is the reference's. -/
module

public import proofs.«01_k».proof.Proof.DguKernel
public import proofs.«01_k».proof.Proof.DguRef
public import proofs.«01_k».proof.Proof.Gen.RDguIdeal.Run
public import proofs.«01_k».proof.Defs
public import Idealize.ShloMosaic.Lib.Claim

@[expose] public section

set_option maxRecDepth 16384

namespace Cert.Proof
open Idealize.ShloMosaic Idealize.ShloMosaic.TcCoe Idealize.SL.Sem

theorem algebraic_dgu : Cert.algebraic_KDguIdeal_RDguIdeal_pre_finite_dgu := by
  pair_intro
  · run_from Cert.KDguIdeal.Value.run_blocks m g
  · run_from Cert.RDguIdeal.Value.run m' g'
    · obtain ⟨h0, h2, h3, h4⟩ := Cert.RDguIdeal.RefValue.finite _ _ _ _ _ (hpre c)
      rw [Cert.KDguIdeal.RefValue.final3 m]
      rw [Cert.RDguIdeal.Read.val_main_v22_eq (F := Ideal) m' c, (hagree c).1, (hagree c).2.2.1, (hagree c).2.2.2.1, (hagree c).2.2.2.2]
      exact Cert.RDguIdeal.RefValue.ref _ _ _ _ h0 h2 h4 h3

end Cert.Proof
-- ==== Proof.PoolMath.lean ====
/- Window sums along a sequence of 2064 positions, zero past its end. The gradient of a trailing window mean is the sum, over the window
   that starts at a position, of the cotangents divided by their counts; the forward pass writes the mean as a difference of two prefix
   sums, whose derivative is a difference of two suffix sums. -/
module

public import proofs.«01_k».proof.Proof.Rows
public import proofs.«01_k».proof.Proof.Finite

@[expose] public section

noncomputable section

namespace Cert.PoolMath
open Idealize.ShloMosaic Cert.Rows Cert.Finite Finset

/-- The sum of `w` terms from `s` on. -/
def wsum {M : Type} [AddCommMonoid M] (q : ℕ → M) (w s : ℕ) : M := ∑ k ∈ range w, q (s + k)

theorem wsum_add {M : Type} [AddCommMonoid M] (q : ℕ → M) (w v s : ℕ) : wsum q (w + v) s = wsum q w s + wsum q v (s + w) := by
  unfold wsum
  rw [sum_range_add]
  simp only [Nat.add_assoc]

theorem wsum_one {M : Type} [AddCommMonoid M] (q : ℕ → M) (s : ℕ) : wsum q 1 s = q s := by simp [wsum]

theorem wsum_past {M : Type} [AddCommMonoid M] (q : ℕ → M) (h : ∀ t, 2064 ≤ t → q t = 0) (w s : ℕ) (hs : 2064 ≤ s) : wsum q w s = 0 :=
  sum_eq_zero fun k _ => h _ (by omega)

theorem wsum_coe (q : ℕ → ℝ) (w s : ℕ) : wsum (fun t => (q t : EReal)) w s = ((wsum q w s : ℝ) : EReal) := by
  unfold wsum
  induction w with
  | zero => simp
  | succ w ih => rw [sum_range_succ, sum_range_succ, ih]; exact (EReal.coe_add _ _).symm

/-- A window twice as long is the window and the one after it. -/
theorem wsum_double (q : Fin 2 → ℕ → EReal) (h : ∀ b t, 2064 ≤ t → q b t = 0) (w : ℕ) (b : Fin 2) (s : Fin 2064) :
    wsum (q b) w s.val + after (fun b s => wsum (q b) w s.val) w b s = wsum (q b) (w + w) s.val := by
  rw [wsum_add]
  unfold after
  split
  · rfl
  · rw [wsum_past (q b) (h b) w (s.val + w) (by omega)]

/-- The suffix sum of a sequence less the same sequence `w` later is the sum over the window of length `w`. -/
theorem suffix_diff (q : ℕ → ℝ) (h : ∀ t, 2064 ≤ t → q t = 0) (w s : ℕ) : ∑ n ∈ range 2064, (q (s + n) - q (s + n + w)) = wsum q w s := by
  rw [sum_sub_distrib]
  have h1 := wsum_add q 2064 w s
  have h2 := wsum_add q w 2064 s
  rw [wsum_past q h w (s + 2064) (by omega), add_zero, Nat.add_comm 2064 w, h2] at h1
  have e : ∑ n ∈ range 2064, q (s + n + w) = wsum q 2064 (s + w) := sum_congr rfl fun n _ => congrArg q (by omega)
  rw [e]
  show wsum q 2064 s - wsum q 2064 (s + w) = _
  linarith

theorem suffix_window (q : ℕ → EReal) (hq : ∀ t, ∃ r : ℝ, q t = r) (h : ∀ t, 2064 ≤ t → q t = 0) (w s : ℕ) :
    ∑ n : Fin 2064, (if s + n.val < 2064 then q (s + n.val) + (if s + n.val + w < 2064 then -q (s + n.val + w) else 0) else 0) = wsum q w s := by
  obtain ⟨r, hr⟩ := Classical.axiomOfChoice hq
  obtain rfl : q = fun t => (r t : EReal) := funext hr
  have h' : ∀ t, 2064 ≤ t → r t = 0 := fun t ht => EReal.coe_eq_zero.1 (h t ht)
  rw [Fin.sum_univ_eq_sum_range (fun n => if s + n < 2064 then (r (s + n) : EReal) + (if s + n + w < 2064 then -(r (s + n + w) : EReal) else 0) else 0) 2064, wsum_coe, ← suffix_diff r h' w s]
  refine Eq.trans (sum_congr rfl fun n _ => ?_) (wsum_coe (fun n => r (s + n) - r (s + n + w)) 2064 0 |>.trans ?_)
  · show _ = ((r (s + (0 + n)) - r (s + (0 + n) + w) : ℝ) : EReal)
    rw [Nat.zero_add]
    by_cases h1 : s + n < 2064
    · rw [if_pos h1, EReal.coe_sub, sub_eq_add_neg]
      by_cases h2 : s + n + w < 2064
      · rw [if_pos h2]
      · rw [if_neg h2, h' (s + n + w) (by omega)]; simp
    · rw [if_neg h1, h' (s + n) (by omega), h' (s + n + w) (by omega)]; simp
  · refine congrArg _ (sum_congr rfl fun n _ => ?_)
    show r (s + (0 + n)) - r (s + (0 + n) + w) = _
    rw [Nat.zero_add]

/-- How many positions the window of length `w` that ends at `t` holds, as a float. -/
def cnt (w t : ℕ) : EReal := FloatOps.sitofp (F := Ideal) .f32 (IntOp.minsi (IntOp.addi (BitVec.ofNat 32 t) 1#32) (BitVec.ofNat 32 w))

theorem cnt_eq (w t : ℕ) (hw : w < 32) (ht : t < 2160) : cnt w t = ((min (t + 1) w : ℕ) : ℝ) := by
  unfold cnt
  have e : IntOp.minsi (IntOp.addi (BitVec.ofNat 32 t) 1#32) (BitVec.ofNat 32 w) = BitVec.ofNat 32 (min (t + 1) w) := by
    rw [show (1#32 : BitVec 32) = BitVec.ofNat 32 1 from rfl, WordCmp.addi_ofNat]
    unfold IntOp.minsi
    have h1 : (BitVec.ofNat 32 (t + 1)).toInt = ((t + 1 : ℕ) : ℤ) := by
      rw [BitVec.toInt_eq_toNat_of_lt (by rw [BitVec.toNat_ofNat]; omega), BitVec.toNat_ofNat]; omega
    have h2 : (BitVec.ofNat 32 w).toInt = ((w : ℕ) : ℤ) := by
      rw [BitVec.toInt_eq_toNat_of_lt (by rw [BitVec.toNat_ofNat]; omega), BitVec.toNat_ofNat]; omega
    simp only [BitVec.slt, h1, h2, decide_eq_true_eq, Nat.cast_lt]
    split <;> congr 1 <;> omega
  rw [e]
  show (((BitVec.ofNat 32 (min (t + 1) w)).toInt : ℝ) : EReal) = _
  rw [BitVec.toInt_eq_toNat_of_lt (by rw [BitVec.toNat_ofNat]; omega), BitVec.toNat_ofNat, Nat.mod_eq_of_lt (by omega)]
  rfl

/-- The window's length in the group that channel `c` lies in. -/
def width (c : Fin 2048) : ℕ := 2 * 2 ^ (c.val / 512)

/-- The cotangent at position `t` of channel `c` over its count, zero past the end. -/
def quot (X : FVec Ideal ⟨3, ![2, 2064, 2048]⟩ .f32) (c : Fin 2048) (w : ℕ) (b : Fin 2) (t : ℕ) : EReal :=
  if h : t < 2064 then Ideal.div (X (ix3 b ⟨t, h⟩ c)) (cnt w t) else 0

theorem quot_past (X : FVec Ideal ⟨3, ![2, 2064, 2048]⟩ .f32) (c : Fin 2048) (w : ℕ) (b : Fin 2) (t : ℕ) (h : 2064 ≤ t) : quot X c w b t = 0 :=
  dif_neg (by omega)

theorem quot_real (X : FVec Ideal ⟨3, ![2, 2064, 2048]⟩ .f32) (hX : All X) (c : Fin 2048) (w : ℕ) (hw : w < 32) (h0 : 0 < w) (b : Fin 2) (t : ℕ) :
    ∃ r : ℝ, quot X c w b t = r := by
  unfold quot
  split
  · next h =>
    obtain ⟨x, hx⟩ := hX (ix3 b ⟨t, h⟩ c)
    rw [hx, cnt_eq w t hw (by omega), Ideal.div_coe (by exact_mod_cast (show min (t + 1) w ≠ 0 by omega))]
    exact ⟨_, (EReal.coe_mul _ _).symm⟩
  · exact ⟨0, rfl⟩

/-- The gradient of the pooled features less the features themselves: the padding rows are zero. -/
def G (X : FVec Ideal ⟨3, ![2, 2064, 2048]⟩ .f32) : FVec Ideal ⟨2, ![4224, 2048]⟩ .bf16 := fun i =>
  padded (fun b s => (wsum (quot X (i 1) (width (i 1)) b) (width (i 1)) s.val - X (ix3 b s (i 1)) : EReal)) (i 0).val

end Cert.PoolMath
end
-- ==== Proof.PoolKernel.lean ====
/- The pooling's backward kernel, read block by block. -/
module

public import proofs.«01_k».proof.Proof.Gen.KPoolIdeal.Value
public import proofs.«01_k».proof.Proof.PoolMath
public import Idealize.ShloMosaic.Lib.Pipeline.ValueKit

@[expose] public section

set_option maxRecDepth 16384

noncomputable section

namespace Cert.KPoolIdeal.RefValue
open Cert.KPoolIdeal Cert.KPoolIdeal.Gen Idealize.ShloMosaic Idealize.ShloMosaic.TcCoe Idealize.SL.Sem
open Idealize.ShloMosaic.Pipeline (Dat)
open Cert.Rows Cert.PoolMath

variable (m : (ℓ : Loc nD τ sig) → Buf (Elt Ideal) ℓ)

theorem idx : ∀ t : Fin cfg0.N, win0_0.index t = ![0, t.val] ∧ win0_1.index t = ![0, t.val] :=
  (by decide +kernel : ∀ t : Fin grid0.N, _)

theorem coord : ∀ t : Fin cfg0.N, (grid0.coords t 0).val = t.val := (by decide +kernel : ∀ t : Fin grid0.N, _)

/-- The array's column that column `l` of block `t` is. -/
def col (t : Fin cfg0.N) (l : Fin 128) : Fin 2048 := ⟨t.val * 128 + l.val, by have := lt_of_lt_of_eq t.isLt N_0; omega⟩

/-- The cotangent's rows, padded with zeros. -/
def hostDd (X : FVec Ideal S2x2064x2048 .f32) : FVec Ideal S4224x2048 .f32 :=
  pad S4224x2048 ![0, 0] ![96, 0] ![0, 0] (shapeCast S4128x2048 X shapeCasts_S2x2064x2048_S4128x2048)
    (sitofp .f32 (constantI S_ 32 0#32)) pads_S4128x2048_S4224x2048_0960_000 h_S_

theorem V_v1 (c : Dev nD) : V m c main_v1 = hostDd (m ((c : Thread nD τ).loc main_arg1)) := by
  unfold V
  simp only [hostOps0, hostOps0_1, List.flatten_cons, List.flatten_nil, List.append_nil, List.cons_append, List.nil_append, StableHlo.TRef.binary, StableHlo.TRef.unary, StableHlo.TRef.toBuf, StableHlo.TRef.ofBuf, cast_eq]
  after_results
  rfl

theorem hostDd_apply (X : FVec Ideal S2x2064x2048 .f32) (R : Fin 4224) (l : Fin 2048) : hostDd X (ix2 R l)
    = padded (fun b s => X (ix3 b s l)) R.val := by
  pointwise [hostDd]
  rw [Cert.Rows.sitofp_zero]; rfl

theorem pos_apply (r : Fin 4224) (z : Fin 1) : k0_pay2 (ix2 r z) = BitVec.ofNat 32 (pos r.val) := by
  pointwise [k0_pay2]
  exact select_pos r

/-- The block's rows `k` later, zero past the end of a sequence. -/
def up (k n : BitVec 32) (X : FVec Ideal S4224x128 .f32) : FVec Ideal S4224x128 .f32 :=
  select (broadcastTo S4224x128 (shapeCast S4224x1 (cmpi .slt (addi k0_pay2 (broadcast S4224x1 k)) (broadcast S4224x1 2064#32)) shapeCasts_S4224x1_S4224x1)
    broadcasts_S4224x1_S4224x128) (dynamicRotate 0 n none X rotates_S4224x128_d0) (broadcast S4224x128 (Scalar.ofBits .f32 0x00000000#32))

/-- The group a block of columns lies in, as the kernel computes it. -/
def word (a : BitVec 32) : BitVec 32 :=
  Scalar.select (Scalar.andi (Scalar.cmpi .ne (Scalar.subi (Scalar.extui (Scalar.cmpi .sgt a 0#32)) (Scalar.extui (Scalar.cmpi .slt a 0#32))) (Scalar.subi (Scalar.extui (Scalar.cmpi .sgt 4#32 0#32)) (Scalar.extui (Scalar.cmpi .slt 4#32 0#32)))) (Scalar.cmpi .ne (Scalar.remsi a 4#32) 0#32)) (Scalar.subi (Scalar.divsi a 4#32) 1#32) (Scalar.divsi a 4#32)

theorem word_eq : ∀ n : Fin 16, word (BitVec.ofNat 32 n.val) = BitVec.ofNat 32 (n.val / 4) := by decide +kernel

theorem shl_eq : ∀ n : Fin 16, Scalar.shli 2#32 (BitVec.ofNat 32 (n.val / 4)) = BitVec.ofNat 32 (2 * 2 ^ (n.val / 4)) := by decide +kernel

theorem up_apply (n : BitVec 32) (k : ℕ) (hn : n.toNat = 4224 - k) (h0 : 0 < k) (hk : k < 2064) (X : FVec Ideal S4224x128 .f32)
    (g : Fin 2 → Fin 2064 → EReal) (l : Fin 128) (hX : ∀ R : Fin 4224, X (ix2 R l) = padded g R.val) (R : Fin 4224) :
    up (BitVec.ofNat 32 k) n X (ix2 R l) = padded (after g k) R.val := by
  have e := rotate_up n k hn h0 (by omega) X rotates_S4224x128_d0 R l
  unfold up
  generalize dynamicRotate 0 n none X rotates_S4224x128_d0 = Q at e ⊢
  pointwise [pos_apply, e]
  refine (select_up R k hk _ _).trans ?_
  exact shift_up g (fun q => X (ix2 q l)) (fun q h => (hX q).trans (padded_pos _ h)) R k _ rfl

/-- A block plus its rows `k` later: windows of length `k` become windows of length `2 k`. -/
theorem twice (n : BitVec 32) (k : ℕ) (hn : n.toNat = 4224 - k) (h0 : 0 < k) (hk : k < 2064) (X : FVec Ideal S4224x128 .f32)
    (q : Fin 2 → ℕ → EReal) (h : ∀ b t, 2064 ≤ t → q b t = 0) (l : Fin 128) (hX : ∀ R : Fin 4224, X (ix2 R l) = padded (fun b s => wsum (q b) k s.val) R.val) (R : Fin 4224) :
    addf X (up (BitVec.ofNat 32 k) n X) (ix2 R l) = padded (fun b s => wsum (q b) (k + k) s.val) R.val := by
  show X (ix2 R l) + up (BitVec.ofNat 32 k) n X (ix2 R l) = (_ : EReal)
  rw [up_apply n k hn h0 hk X _ l hX R, hX R]
  refine (padded_add _ _ _).trans ?_
  exact congrArg (fun g => padded g R.val) (funext fun b => funext fun s => wsum_double q h k b s)

theorem pay4_apply (i : grid0.Coords) (x : Vec Ideal S4224x128 .f32) (w : ℕ)
    (hw : Scalar.shli 2#32 (word (BitVec.ofNat 32 (i 0).val)) = BitVec.ofNat 32 w) (R : Fin 4224) (l : Fin 128) :
    k0_pay4 (F := Ideal) i x (ix2 R l) = Ideal.div (x (ix2 R l)) (cnt w (pos R.val)) := by
  have e : k0_pay4 (F := Ideal) i x = divf (k0_pay3 x) (broadcastTo S4224x128 (sitofp .f32 (minsi (addi k0_pay2 (broadcast S4224x1 1#32))
      (broadcast S4224x1 (Scalar.shli 2#32 (word (BitVec.ofNat 32 (i 0).val)))))) broadcasts_S4224x1_S4224x128) := rfl
  rw [e, hw]
  pointwise [k0_pay3, pos_apply]
  rfl

/-- The selection among the four windows. -/
theorem pay1_eq (i : grid0.Coords) (x : Vec Ideal S4224x128 .f32) (v : BitVec 32) :
    k0_pay1 (F := Ideal) v k0_pay2 (k0_pay3 x) (k0_pay4 i x) (k0_pay5 i x) =
      (let s1 := addf (k0_pay4 (F := Ideal) i x) (up 1#32 4223#32 (k0_pay4 i x))
       let s2 := addf s1 (up 2#32 4222#32 s1)
       let s3 := addf s2 (up 4#32 4220#32 s2)
       let s4 := addf s3 (up 8#32 4216#32 s3)
       truncf .bf16 (subf (Scalar.select (Scalar.cmpi .eq v 0#32) s1 (Scalar.select (Scalar.cmpi .eq v 1#32) s2 (Scalar.select (Scalar.cmpi .eq v 2#32) s3 s4))) (k0_pay3 x)) bitsLt_bf16_f32) := rfl

theorem block (i : grid0.Coords) (n : Fin 16) (hn : (i 0).val = n.val) (x : Vec Ideal S4224x128 .f32) (X : FVec Ideal S2x2064x2048 .f32) (c : Fin 2048)
    (hc : c.val / 512 = n.val / 4) (l : Fin 128) (hx : ∀ R : Fin 4224, x (ix2 R l) = padded (fun b s => X (ix3 b s c)) R.val) (R : Fin 4224) :
    k0_pay1 (F := Ideal) (word (BitVec.ofNat 32 (i 0).val)) k0_pay2 (k0_pay3 x) (k0_pay4 i x) (k0_pay5 i x) (ix2 R l)
      = padded (fun b s => (wsum (quot X c (width c) b) (width c) s.val - X (ix3 b s c) : EReal)) R.val := by
  have hw : Scalar.shli 2#32 (word (BitVec.ofNat 32 (i 0).val)) = BitVec.ofNat 32 (width c) := by
    rw [hn, word_eq n, shl_eq n, width, hc]
  have hg : width c < 32 ∧ 0 < width c := by
    unfold width
    have : c.val / 512 < 4 := by omega
    interval_cases c.val / 512 <;> decide
  have h0 : ∀ b t, 2064 ≤ t → quot X c (width c) b t = 0 := fun b t => quot_past X c _ b t
  have a1 : ∀ R : Fin 4224, k0_pay4 (F := Ideal) i x (ix2 R l) = padded (fun b s => wsum (quot X c (width c) b) 1 s.val) R.val := by
    intro R
    have hR := R.isLt
    rw [pay4_apply i x (width c) hw R l, hx R]
    by_cases h : R.val < 4128
    · rw [padded_pos _ h, padded_pos _ h, wsum_one]
      unfold quot
      rw [dif_pos (show R.val % 2064 < 2064 by omega), show pos R.val = R.val % 2064 by unfold pos; split <;> omega]
    · rw [padded_neg _ h, padded_neg _ h, cnt_eq _ _ hg.1 (pos_lt R), Ideal.div_coe (by exact_mod_cast (show min (pos R.val + 1) (width c) ≠ 0 by omega)), zero_mul]
  have a2 := twice 4223#32 1 rfl (by omega) (by omega) _ _ h0 l a1
  have a4 := twice 4222#32 2 rfl (by omega) (by omega) _ _ h0 l a2
  have a8 := twice 4220#32 4 rfl (by omega) (by omega) _ _ h0 l a4
  have a16 := twice 4216#32 8 rfl (by omega) (by omega) _ _ h0 l a8
  rw [pay1_eq, hn, word_eq n]
  have fin : ∀ (S : FVec Ideal S4224x128 .f32), S (ix2 R l) = padded (fun b s => wsum (quot X c (width c) b) (width c) s.val) R.val →
      truncf .bf16 (subf S (k0_pay3 x)) bitsLt_bf16_f32 (ix2 R l) = padded (fun b s => (wsum (quot X c (width c) b) (width c) s.val - X (ix3 b s c) : EReal)) R.val := by
    intro S hS
    pointwise [k0_pay3]
    rw [hS, hx R]
    by_cases h : R.val < 4128
    · rw [padded_pos _ h, padded_pos _ h, padded_pos _ h]
    · rw [padded_neg _ h, padded_neg _ h, padded_neg _ h]; exact sub_zero (0 : EReal)
  have hn4 : n.val / 4 < 4 := by omega
  have hw' : width c = 2 * 2 ^ (n.val / 4) := by rw [width, hc]
  interval_cases hh : n.val / 4
  · exact fin _ ((a2 R).trans (by rw [show width c = 1 + 1 from hw'.trans (by norm_num)]))
  · exact fin _ ((a4 R).trans (by rw [show width c = 2 + 2 from hw'.trans (by norm_num)]))
  · exact fin _ ((a8 R).trans (by rw [show width c = 4 + 4 from hw'.trans (by norm_num)]))
  · exact fin _ ((a16 R).trans (by rw [show width c = 8 + 8 from hw'.trans (by norm_num)]))

theorem blk_dd (c : Dev nD) (t : Fin cfg0.N) (R : Fin 4224) (l : Fin 128) :
    iblk m c 0 t (ix2 R l) = padded (fun b s => (m ((c : Thread nD τ).loc main_arg1) : FVec Ideal S2x2064x2048 .f32) (ix3 b s (col t l))) R.val := by
  blk_simp [iblk]
  refine Eq.trans (b := V m c main_v1 (ix2 R (col t l))) ?_ ?_
  · blk_ext [idx t, col]
  · rw [V_v1]; exact hostDd_apply _ _ _

theorem final1 (c : Dev nD) : (dats m 0 c).arrAt 1 (cfgs 0).N = G (m ((c : Thread nD τ).loc main_arg1)) := by
  refine (dats m 0 c).arrAt_eq_of_covers 1 _ (by decide +kernel) fun t _ y => ?_
  obtain ⟨R, l, rfl⟩ : ∃ (r : Fin 4224) (l : Fin 128), y = ix2 r l := ⟨y 0, y 1, eq_ix2 y⟩
  have he : ((cfg0.win 1).blk t).view.emb (ix2 R l) = ix2 R (col t l) := by
    blk_ext [idx t, col]
  rw [he]
  blk_simp
  rw [after0_1]
  have hN := lt_of_lt_of_eq t.isLt N_0
  have hb := block (grid0.coords t) ⟨t.val, hN⟩ (coord t) (iblk m c 0 t) (m ((c : Thread nD τ).loc main_arg1)) (col t l)
    (by show (t.val * 128 + l.val) / 512 = t.val / 4; omega) l (fun R => blk_dd m c t R l) R
  generalize iblk m c 0 t = x at hb ⊢
  unfold out0_1
  frame_out
  exact hb

end Cert.KPoolIdeal.RefValue
end
-- ==== Proof.Window.lean ====
/- Running sums over the positions of a sequence, and shifts made by padding and slicing, read at an index. -/
module

public import proofs.«01_k».proof.Proof.Rows

@[expose] public section

noncomputable section

namespace Cert.Window
open Idealize.ShloMosaic

theorem foldl_add {ι : Type} (l : List ι) (f : ι → EReal) (v : EReal) : l.foldl (fun r n => r + f n) v = v + (l.map f).sum := by
  induction l generalizing v with
  | nil => simp
  | cons a l ih => rw [List.foldl_cons, ih, List.map_cons, List.sum_cons, add_assoc]

set_option maxRecDepth 16384

theorem numel3 : (⟨3, ![1, 2064, 1]⟩ : Shape).numel = 2064 := by decide

theorem symm3 (n : Fin (⟨3, ![1, 2064, 1]⟩ : Shape).numel) : (⟨3, ![1, 2064, 1]⟩ : Shape).rowMajor.symm n = ix3 0 (n.cast numel3) 0 :=
  ((⟨3, ![1, 2064, 1]⟩ : Shape).rowMajor.symm_apply_eq).2 (Fin.ext (by
    rw [Shape.rowMajor_val_three]
    show n.val = (0 * 2064 + n.val) * 1 + 0
    omega))

/-- A sum over a window of 2064 positions, padded with zeros. -/
theorem window_sum {B C : ℕ} (lo hi : ℕ) (X : FVec Ideal ⟨3, ![B, 2064, C]⟩ .f32) (v : FVec Ideal ⟨0, ![]⟩ .f32) (hv : ∀ i, v i = (0 : EReal))
    (h : (⟨3, ![B, 2064, C]⟩ : Shape).ReduceWindows ![1, 2064, 1] ![1, 1, 1] ![0, lo, 0] ![0, hi, 0] ⟨3, ![B, 2064, C]⟩)
    (hu : 0 < (⟨0, ![]⟩ : Shape).numel) (b : Fin B) (s : Fin 2064) (l : Fin C) :
    Host.reduceWindowAdd ![1, 2064, 1] ![1, 1, 1] ![0, lo, 0] ![0, hi, 0] X v h hu (ix3 b s l)
      = ∑ n : Fin 2064, if hn : lo ≤ s.val + n.val ∧ s.val + n.val - lo < 2064 then X (ix3 b ⟨s.val + n.val - lo, hn.2⟩ l) else (0 : EReal) := by
  simp only [Host.reduceWindowAdd, Ideal.hostReduceWindowAdd_def, Ideal.hostReduceWindowAdd, Host.reduceWindow]
  rw [hv, foldl_add]
  rw [zero_add, ← Fin.sum_univ_def]
  refine (Fintype.sum_equiv (finCongr numel3) _ _ fun n => ?_)
  have h0 : ((⟨3, ![1, 2064, 1]⟩ : Shape).rowMajor.symm n 0).val = 0 := by rw [symm3]; rfl
  have h1 : ((⟨3, ![1, 2064, 1]⟩ : Shape).rowMajor.symm n 1).val = n.val := by rw [symm3]; rfl
  have h2 : ((⟨3, ![1, 2064, 1]⟩ : Shape).rowMajor.symm n 2).val = 0 := by rw [symm3]; rfl
  split
  · next hin =>
    have h1' := hin 1
    change lo ≤ s.val * 1 + ((⟨3, ![1, 2064, 1]⟩ : Shape).rowMajor.symm n 1).val
      ∧ s.val * 1 + ((⟨3, ![1, 2064, 1]⟩ : Shape).rowMajor.symm n 1).val - lo < 2064 at h1'
    rw [h1, Nat.mul_one] at h1'
    refine Eq.trans ?_ (dif_pos h1').symm
    refine congrArg X (funext fun a => Fin.ext ?_)
    match a with
    | ⟨0, _⟩ => show b.val * 1 + ((⟨3, ![1, 2064, 1]⟩ : Shape).rowMajor.symm n 0).val - 0 = b.val; omega
    | ⟨1, _⟩ => show s.val * 1 + ((⟨3, ![1, 2064, 1]⟩ : Shape).rowMajor.symm n 1).val - lo = s.val + n.val - lo; omega
    | ⟨2, _⟩ => show l.val * 1 + ((⟨3, ![1, 2064, 1]⟩ : Shape).rowMajor.symm n 2).val - 0 = l.val; omega
  · next hin =>
    refine Eq.symm (dif_neg (c := lo ≤ s.val + n.val ∧ s.val + n.val - lo < 2064) fun hn => hin fun a => ?_)
    match a with
    | ⟨0, _⟩ =>
      show 0 ≤ b.val * 1 + ((⟨3, ![1, 2064, 1]⟩ : Shape).rowMajor.symm n 0).val ∧ b.val * 1 + ((⟨3, ![1, 2064, 1]⟩ : Shape).rowMajor.symm n 0).val - 0 < B
      have := b.isLt; omega
    | ⟨1, _⟩ =>
      show lo ≤ s.val * 1 + ((⟨3, ![1, 2064, 1]⟩ : Shape).rowMajor.symm n 1).val ∧ s.val * 1 + ((⟨3, ![1, 2064, 1]⟩ : Shape).rowMajor.symm n 1).val - lo < 2064
      rw [h1, Nat.mul_one]; exact hn
    | ⟨2, _⟩ =>
      show 0 ≤ l.val * 1 + ((⟨3, ![1, 2064, 1]⟩ : Shape).rowMajor.symm n 2).val ∧ l.val * 1 + ((⟨3, ![1, 2064, 1]⟩ : Shape).rowMajor.symm n 2).val - 0 < C
      have := l.isLt; omega

/-- Zeros after the last position, then the first `w` positions dropped: the entry `w` later, zero past the end. -/
theorem shift_later {B C : ℕ} (w : ℕ) (Q : FVec Ideal ⟨3, ![B, 2064, C]⟩ .f32) (v : FVec Ideal ⟨0, ![]⟩ .f32) (hv : ∀ i, v i = (0 : EReal))
    (h : (⟨3, ![B, 2064, C]⟩ : Shape).Pads ![0, 0, 0] ![0, w, 0] ![0, 0, 0] ⟨3, ![B, 2064 + w, C]⟩) (hu : 0 < (⟨0, ![]⟩ : Shape).numel)
    (hs : (⟨3, ![B, 2064 + w, C]⟩ : Shape).Slices ![0, w, 0] ⟨3, ![B, 2064, C]⟩) (b : Fin B) (s : Fin 2064) (l : Fin C) :
    extractStridedSlice ⟨3, ![B, 2064, C]⟩ ![0, w, 0] (pad ⟨3, ![B, 2064 + w, C]⟩ ![0, 0, 0] ![0, w, 0] ![0, 0, 0] Q v h hu) hs (ix3 b s l)
      = if hn : s.val + w < 2064 then Q (ix3 b ⟨s.val + w, hn⟩ l) else (0 : EReal) := by
  refine (extractStridedSlice_apply ![0, w, 0] _ hs (ix3 b s l) (ix3 b ⟨s.val + w, by omega⟩ l) (fun a => match a with
    | ⟨0, _⟩ => by show b.val = 0 + b.val; omega
    | ⟨1, _⟩ => by show s.val + w = w + s.val; omega
    | ⟨2, _⟩ => by show l.val = 0 + l.val; omega)).trans ?_
  split
  · next hn =>
    exact pad_apply_of_inside _ _ _ _ _ _ _ _ _ fun a => match a with
      | ⟨0, _⟩ => by show b.val = 0 + b.val * (0 + 1); omega
      | ⟨1, _⟩ => by show s.val + w = 0 + (s.val + w) * (0 + 1); omega
      | ⟨2, _⟩ => by show l.val = 0 + l.val * (0 + 1); omega
  · next hn =>
    refine (pad_apply_of_not_inside _ _ _ _ _ _ _ _ 1 fun hin => hn ?_).trans (hv _)
    have h' : (s.val + w - 0) / (0 + 1) < 2064 := hin.2.2
    simpa using h'

end Cert.Window
end
-- ==== Proof.PoolRef.lean ====
/- The pooling's gradient as the reference computes it: the derivative of a difference of prefix sums, stage by stage. -/
module

public import proofs.«01_k».proof.Proof.Gen.RPoolIdeal.Read
public import proofs.«01_k».proof.Proof.Gen.Pre_finite_pool
public import proofs.«01_k».proof.Proof.PoolMath
public import proofs.«01_k».proof.Proof.Window
public import Idealize.ShloMosaic.Lib.Pipeline.ValueKit

@[expose] public section

set_option maxRecDepth 16384

noncomputable section

namespace Cert.RPoolIdeal.RefValue
open Cert.RPoolIdeal Cert.RPoolIdeal.Gen Cert.RPoolIdeal.Read Idealize.ShloMosaic Idealize.ShloMosaic.TcCoe Idealize.SL.Sem
open Cert.Rows Cert.PoolMath Cert.Finite Cert.Window

variable (X1 : FVec Ideal S2x2064x2048 .f32)

/-- The channel that column `l` of group `g` is. -/
def ch (g : Fin 4) (l : Fin 512) : Fin 2048 := ⟨g.val * 512 + l.val, by omega⟩

theorem width_ch (g : Fin 4) (l : Fin 512) : width (ch g l) = 2 * 2 ^ g.val := by
  unfold width ch
  rw [show (g.val * 512 + l.val) / 512 = g.val by omega]

theorem cnt_swap (w t : ℕ) : FloatOps.sitofp (F := Ideal) .f32 (IntOp.minsi (IntOp.addi 1#32 (BitVec.ofNat 32 t)) (BitVec.ofNat 32 w)) = cnt w t := by
  unfold cnt IntOp.addi
  rw [BitVec.add_comm]

theorem zero_const (i : S_.Idx) : (constant (F := Ideal) S_ .f32 0x00000000#32) i = (0 : EReal) := by
  pointwise

/-- The suffix sum of the quotients less the quotients `w` later is a window sum. -/
theorem group_sum (hX : All X1) (w : ℕ) (hw : w < 32) (h0 : 0 < w) (g : Fin 4) (Q Y : FVec Ideal S2x2064x512 .f32)
    (hQ : ∀ b s l, Q (ix3 b s l) = quot X1 (ch g l) w b s.val)
    (hY : ∀ b (s : Fin 2064) l, Y (ix3 b s l) = (Q (ix3 b s l) + (if h : s.val + w < 2064 then Host.negf Q (ix3 b ⟨s.val + w, h⟩ l) else (0 : EReal)) : EReal))
    (v : FVec Ideal S_ .f32) (hv : ∀ i, v i = (0 : EReal)) (b : Fin 2) (s : Fin 2064) (l : Fin 512) :
    Host.reduceWindowAdd ![1, 2064, 1] ![1, 1, 1] ![0, 0, 0] ![0, 2063, 0] Y v
      reduceWindows_S2x2064x512_S2x2064x512_w1s1p0_0_w2064s1p0_2063_w1s1p0_0 h_S_ (ix3 b s l) = wsum (quot X1 (ch g l) w b) w s.val := by
  refine (window_sum 0 2063 Y v hv _ _ b s l).trans ?_
  rw [← suffix_window (quot X1 (ch g l) w b) (quot_real X1 hX _ w hw h0 b) (quot_past X1 _ w b) w s.val]
  refine Finset.sum_congr rfl fun n _ => ?_
  by_cases h : s.val + n.val < 2064
  · rw [if_pos h]
    refine (dif_pos (c := 0 ≤ s.val + n.val ∧ s.val + n.val - 0 < 2064) ⟨by omega, h⟩).trans ?_
    refine (hY b ⟨s.val + n.val, h⟩ l).trans (congrArg₂ (fun x y : EReal => x + y) (hQ _ _ _) ?_)
    by_cases h' : s.val + n.val + w < 2064
    · rw [if_pos h', dif_pos h']
      exact congrArg (fun x : EReal => -x) (hQ b ⟨s.val + n.val + w, h'⟩ l)
    · rw [if_neg h', dif_neg h']
  · rw [if_neg h]
    exact dif_neg (c := 0 ≤ s.val + n.val ∧ s.val + n.val - 0 < 2064) fun hn => h hn.2

/-- One group among zeros. -/
theorem pad_group (g k : ℕ) (hg : g + k = 3) (Q : FVec Ideal S2x2064x1x512 .f32) (v : FVec Ideal S_ .f32) (hv : ∀ i, v i = (0 : EReal))
    (h : S2x2064x1x512.Pads ![0, 0, g, 0] ![0, 0, k, 0] ![0, 0, 0, 0] S2x2064x4x512) (b : Fin 2) (s : Fin 2064) (j : Fin 4) (l : Fin 512) :
    pad S2x2064x4x512 ![0, 0, g, 0] ![0, 0, k, 0] ![0, 0, 0, 0] Q v h h_S_ (ix4 b s j l) = if j.val = g then Q (ix4 b s 0 l) else (0 : EReal) := by
  by_cases hj : j.val = g
  · rw [if_pos hj]
    exact pad_apply_of_inside _ _ _ _ _ _ _ _ _ fun a => match a with
      | ⟨0, _⟩ => by show b.val = 0 + b.val * (0 + 1); omega
      | ⟨1, _⟩ => by show s.val = 0 + s.val * (0 + 1); omega
      | ⟨2, _⟩ => by show j.val = g + 0 * (0 + 1); omega
      | ⟨3, _⟩ => by show l.val = 0 + l.val * (0 + 1); omega
  · rw [if_neg hj]
    refine (pad_apply_of_not_inside _ _ _ _ _ _ _ _ 2 fun hin => hj ?_).trans (hv _)
    have h1 : g ≤ j.val := hin.1
    have h2 : (j.val - g) / (0 + 1) < 1 := hin.2.2
    rw [Nat.zero_add, Nat.div_one] at h2
    omega

theorem q3 (b : Fin 2) (s : Fin 2064) (l : Fin 512) : val_main_v87 (F := Ideal) X1 (ix3 b s l) = quot X1 (ch 3 l) 16 b s.val := by
  pointwise [val_main_v87, val_main_v86, val_main_v85, val_main_v84, val_main_v76, val_main_v66, val_main_v64, val_main_v63, val_main_v62, val_main_v61, val_main_v60, val_main_v59]
  unfold quot
  rw [dif_pos s.isLt, ← cnt_swap]
  rfl

theorem s3 (hX : All X1) (b : Fin 2) (s : Fin 2064) (l : Fin 512) :
    val_main_v93 (F := Ideal) X1 (ix3 b s l) = wsum (quot X1 (ch 3 l) 16 b) 16 s.val := by
  have hq := q3 X1
  unfold val_main_v93 val_main_v92 val_main_v91 val_main_v89 val_main_v88
  generalize val_main_v87 (F := Ideal) X1 = Q at hq ⊢
  refine group_sum X1 hX 16 (by omega) (by omega) 3 Q _ hq (fun b s l => ?_) _ (fun i => ?_) b s l
  · exact congrArg (fun x : EReal => Q (ix3 b s l) + x) (shift_later 16 (Host.negf Q) _ zero_const _ _ _ b s l)
  · pointwise [val_main_call4_call0_v0, val_main_call4_call0_cst]

theorem p3 (hX : All X1) (b : Fin 2) (s : Fin 2064) (j : Fin 4) (l : Fin 512) :
    val_main_v95 (F := Ideal) X1 (ix4 b s j l) = if j.val = 3 then wsum (quot X1 (ch 3 l) 16 b) 16 s.val else (0 : EReal) := by
  have h := s3 X1 hX b s l
  unfold val_main_v95
  refine (pad_group 3 0 rfl _ _ zero_const _ b s j l).trans ?_
  rw [← h]
  unfold val_main_v94
  generalize val_main_v93 (F := Ideal) X1 = Q
  pointwise

theorem q2 (b : Fin 2) (s : Fin 2064) (l : Fin 512) : val_main_v98 (F := Ideal) X1 (ix3 b s l) = quot X1 (ch 2 l) 8 b s.val := by
  pointwise [val_main_v98, val_main_v97, val_main_v83, val_main_v82, val_main_v76, val_main_v49, val_main_v47, val_main_v46, val_main_v45, val_main_v44, val_main_v43, val_main_v42]
  unfold quot
  rw [dif_pos s.isLt, ← cnt_swap]
  rfl

theorem s2 (hX : All X1) (b : Fin 2) (s : Fin 2064) (l : Fin 512) :
    val_main_v104 (F := Ideal) X1 (ix3 b s l) = wsum (quot X1 (ch 2 l) 8 b) 8 s.val := by
  have hq := q2 X1
  unfold val_main_v104 val_main_v103 val_main_v102 val_main_v100 val_main_v99
  generalize val_main_v98 (F := Ideal) X1 = Q at hq ⊢
  refine group_sum X1 hX 8 (by omega) (by omega) 2 Q _ hq (fun b s l => ?_) _ (fun i => ?_) b s l
  · exact congrArg (fun x : EReal => Q (ix3 b s l) + x) (shift_later 8 (Host.negf Q) _ zero_const _ _ _ b s l)
  · pointwise [val_main_call5_call0_v0, val_main_call5_call0_cst]

theorem p2 (hX : All X1) (b : Fin 2) (s : Fin 2064) (j : Fin 4) (l : Fin 512) :
    val_main_v106 (F := Ideal) X1 (ix4 b s j l) = if j.val = 2 then wsum (quot X1 (ch 2 l) 8 b) 8 s.val else (0 : EReal) := by
  have h := s2 X1 hX b s l
  unfold val_main_v106
  refine (pad_group 2 1 rfl _ _ zero_const _ b s j l).trans ?_
  rw [← h]
  unfold val_main_v105
  generalize val_main_v104 (F := Ideal) X1 = Q
  pointwise

theorem q1 (b : Fin 2) (s : Fin 2064) (l : Fin 512) : val_main_v109 (F := Ideal) X1 (ix3 b s l) = quot X1 (ch 1 l) 4 b s.val := by
  pointwise [val_main_v109, val_main_v108, val_main_v81, val_main_v80, val_main_v76, val_main_v32, val_main_v30, val_main_v29, val_main_v28, val_main_v27, val_main_v26, val_main_v25]
  unfold quot
  rw [dif_pos s.isLt, ← cnt_swap]
  rfl

theorem s1 (hX : All X1) (b : Fin 2) (s : Fin 2064) (l : Fin 512) :
    val_main_v115 (F := Ideal) X1 (ix3 b s l) = wsum (quot X1 (ch 1 l) 4 b) 4 s.val := by
  have hq := q1 X1
  unfold val_main_v115 val_main_v114 val_main_v113 val_main_v111 val_main_v110
  generalize val_main_v109 (F := Ideal) X1 = Q at hq ⊢
  refine group_sum X1 hX 4 (by omega) (by omega) 1 Q _ hq (fun b s l => ?_) _ (fun i => ?_) b s l
  · exact congrArg (fun x : EReal => Q (ix3 b s l) + x) (shift_later 4 (Host.negf Q) _ zero_const _ _ _ b s l)
  · pointwise [val_main_call6_call0_v0, val_main_call6_call0_cst]

theorem p1 (hX : All X1) (b : Fin 2) (s : Fin 2064) (j : Fin 4) (l : Fin 512) :
    val_main_v117 (F := Ideal) X1 (ix4 b s j l) = if j.val = 1 then wsum (quot X1 (ch 1 l) 4 b) 4 s.val else (0 : EReal) := by
  have h := s1 X1 hX b s l
  unfold val_main_v117
  refine (pad_group 1 2 rfl _ _ zero_const _ b s j l).trans ?_
  rw [← h]
  unfold val_main_v116
  generalize val_main_v115 (F := Ideal) X1 = Q
  pointwise

theorem q0 (b : Fin 2) (s : Fin 2064) (l : Fin 512) : val_main_v120 (F := Ideal) X1 (ix3 b s l) = quot X1 (ch 0 l) 2 b s.val := by
  pointwise [val_main_v120, val_main_v119, val_main_v79, val_main_v78, val_main_v76, val_main_v15, val_main_v13, val_main_v12, val_main_v11, val_main_v10, val_main_v9, val_main_v8]
  unfold quot
  rw [dif_pos s.isLt, ← cnt_swap, show ch 0 l = ⟨l.val, by omega⟩ from Fin.ext (by show 0 * 512 + l.val = l.val; omega)]
  rfl

theorem s0 (hX : All X1) (b : Fin 2) (s : Fin 2064) (l : Fin 512) :
    val_main_v126 (F := Ideal) X1 (ix3 b s l) = wsum (quot X1 (ch 0 l) 2 b) 2 s.val := by
  have hq := q0 X1
  unfold val_main_v126 val_main_v125 val_main_v124 val_main_v122 val_main_v121
  generalize val_main_v120 (F := Ideal) X1 = Q at hq ⊢
  refine group_sum X1 hX 2 (by omega) (by omega) 0 Q _ hq (fun b s l => ?_) _ (fun i => ?_) b s l
  · exact congrArg (fun x : EReal => Q (ix3 b s l) + x) (shift_later 2 (Host.negf Q) _ zero_const _ _ _ b s l)
  · pointwise [val_main_call7_call0_v0, val_main_call7_call0_cst]

theorem p0 (hX : All X1) (b : Fin 2) (s : Fin 2064) (j : Fin 4) (l : Fin 512) :
    val_main_v128 (F := Ideal) X1 (ix4 b s j l) = if j.val = 0 then wsum (quot X1 (ch 0 l) 2 b) 2 s.val else (0 : EReal) := by
  have h := s0 X1 hX b s l
  unfold val_main_v128
  refine (pad_group 0 3 rfl _ _ zero_const _ b s j l).trans ?_
  rw [← h]
  unfold val_main_v127
  generalize val_main_v126 (F := Ideal) X1 = Q
  pointwise

theorem stage129 (hX : All X1) (b : Fin 2) (s : Fin 2064) (j : Fin 4) (l : Fin 512) :
    val_main_v129 (F := Ideal) X1 (ix4 b s j l)
      = (wsum (quot X1 (ch j l) (width (ch j l)) b) (width (ch j l)) s.val - X1 (ix3 b s (ch j l)) : EReal) := by
  have h3 := p3 X1 hX b s j l
  have h2 := p2 X1 hX b s j l
  have h1 := p1 X1 hX b s j l
  have h0 := p0 X1 hX b s j l
  unfold val_main_v129 val_main_v118 val_main_v107 val_main_v96
  generalize val_main_v95 (F := Ideal) X1 = Q3 at h3 ⊢
  generalize val_main_v106 (F := Ideal) X1 = Q2 at h2 ⊢
  generalize val_main_v117 (F := Ideal) X1 = Q1 at h1 ⊢
  generalize val_main_v128 (F := Ideal) X1 = Q0 at h0 ⊢
  pointwise [val_main_v77, val_main_v76, h3, h2, h1, h0]
  rw [width_ch]
  refine Eq.trans ?_ (add_comm (-X1 (ix3 b s (ch j l)) : EReal) _)
  refine Eq.trans (b := (((((-X1 (ix3 b s (ch j l)) : EReal) + if j.val = 3 then wsum (quot X1 (ch 3 l) 16 b) 16 s.val else 0)
    + if j.val = 2 then wsum (quot X1 (ch 2 l) 8 b) 8 s.val else 0) + if j.val = 1 then wsum (quot X1 (ch 1 l) 4 b) 4 s.val else 0)
    + if j.val = 0 then wsum (quot X1 (ch 0 l) 2 b) 2 s.val else 0)) rfl ?_
  match j with
  | 0 => simp
  | 1 => simp
  | 2 => simp
  | 3 => simp

theorem ref (hX : All X1) : val_main_v133 (F := Ideal) X1 = G X1 := by
  funext j
  idx_vars j
  have h := stage129 X1 hX
  have hp := padRows_apply (C := 2048) (val_main_v130 (F := Ideal) X1) shapeCasts_S2x2064x2048_S4128x2048 pads_S4128x2048_S4224x2048_0960_000 h_S_ j0 j1
  refine Eq.trans hp ?_
  unfold val_main_v130
  generalize val_main_v129 (F := Ideal) X1 = Q at h ⊢
  refine congrArg (fun g => padded g j0.val) (funext fun b => funext fun s => ?_)
  pointwise
  refine (h b s ⟨j1.val / 512, by omega⟩ ⟨j1.val % 512, by omega⟩).trans ?_
  rw [show ch ⟨j1.val / 512, by omega⟩ ⟨j1.val % 512, by omega⟩ = j1 from Fin.ext (by show j1.val / 512 * 512 + j1.val % 512 = j1.val; omega)]

/-- What the precondition says. -/
theorem finite (X0 : FVec Ideal S2x2064x2048 .f32)
    (h : Cert.Pre_finite_pool.fn (F := Ideal) X0 X1 = fun _ => 1#1) : All X1 := by
  have h' := congrFun h (fun a => a.elim0)
  dsimp only [Cert.Pre_finite_pool.fn] at h'
  exact all_of_reduce _ _ _ _ _ h'

end Cert.RPoolIdeal.RefValue
end
-- ==== Proof.Pool.lean ====
/- The gradient of the pooling: the kernel's result is the reference's. -/
module

public import proofs.«01_k».proof.Proof.PoolKernel
public import proofs.«01_k».proof.Proof.PoolRef
public import proofs.«01_k».proof.Proof.Gen.RPoolIdeal.Run
public import proofs.«01_k».proof.Defs
public import Idealize.ShloMosaic.Lib.Claim

@[expose] public section

set_option maxRecDepth 16384

namespace Cert.Proof
open Idealize.ShloMosaic Idealize.ShloMosaic.TcCoe Idealize.SL.Sem

theorem algebraic_pool : Cert.algebraic_KPoolIdeal_RPoolIdeal_pre_finite_pool := by
  pair_intro
  · run_from Cert.KPoolIdeal.Value.run_blocks m g
  · run_from Cert.RPoolIdeal.Value.run m' g'
    · have h1 := Cert.RPoolIdeal.RefValue.finite _ _ (hpre c)
      rw [Cert.KPoolIdeal.RefValue.final1 m]
      rw [Cert.RPoolIdeal.Read.val_main_v133_eq (F := Ideal) m' c, (hagree c).2]
      exact Cert.RPoolIdeal.RefValue.ref _ h1

end Cert.Proof
-- ==== Proof.LossMath.lean ====
/- The squared loss of the normalised rows and its gradient, entry by entry. The first 16 positions of every sequence carry no target. -/
module

public import proofs.«01_k».proof.Proof.Rows
public import proofs.«01_k».proof.Proof.RowNorm

@[expose] public section

noncomputable section

namespace Cert.LossMath
open Idealize.ShloMosaic
open Cert.Rows Cert.RowNorm

abbrev Acts := FVec Ideal ⟨3, ![2, 2064, 4096]⟩ .f32
abbrev Vecs := FVec Ideal ⟨2, ![1, 4096]⟩ .f32
abbrev Target := FVec Ideal ⟨3, ![2, 2048, 4096]⟩ .f32

/-- The row of sequence `b` at position `s`. -/
def row (X : Acts) (b : Fin 2) (s : Fin 2064) (l : Fin 4096) : EReal := X (ix3 b s l)

/-- The entry 16 positions earlier, zero at the first 16 positions. -/
def shifted (f : Fin 2048 → EReal) (s : Fin 2064) : EReal := if h : 16 ≤ s.val then f ⟨s.val - 16, by omega⟩ else 0

/-- The normalised row, scaled and shifted. -/
def out (X0 : Acts) (X2 X3 : Vecs) (b : Fin 2) (s : Fin 2064) (l : Fin 4096) : EReal :=
  xhat (row X0 b s) l * X2 (ix2 0 l) + X3 (ix2 0 l)

/-- What the output misses the target by. -/
def err (X0 : Acts) (X2 X3 : Vecs) (X4 : Target) (l : Fin 4096) (b : Fin 2) (s : Fin 2064) : EReal :=
  if h : 16 ≤ s.val then out X0 X2 X3 b s l - X4 (ix3 b ⟨s.val - 16, by omega⟩ l) else 0

/-- One over the width. -/
def inv : EReal := Ideal.ofBits .f32 0x39800000#32
def half : EReal := Ideal.ofBits .f32 0x3F000000#32

theorem inv_eq : inv = ((1 / 4096 : ℝ) : EReal) := by
  simp [inv, Ideal.ofBits, Ideal.ieee]; rw [← EReal.coe_mul]; norm_num
theorem half_eq : half = ((1 / 2 : ℝ) : EReal) := by
  simp [half, Ideal.ofBits, Ideal.ieee]; rw [← EReal.coe_mul]; norm_num

/-- The cotangent of the output. -/
def dy (X0 : Acts) (X2 X3 : Vecs) (X4 : Target) (l : Fin 4096) (b : Fin 2) (s : Fin 2064) : EReal := err X0 X2 X3 X4 l b s * inv

/-- The cotangent of the normalised row. -/
def ct (X0 : Acts) (X2 X3 : Vecs) (X4 : Target) (b : Fin 2) (s : Fin 2064) (l : Fin 4096) : EReal := dy X0 X2 X3 X4 l b s * X2 (ix2 0 l)

/-- The derivative of half the square, divided by the width: the two ways of writing it. -/
theorem dy_eq (e : EReal) : Ideal.div half width * (two * e) = e * inv := by
  rw [width_eq, Ideal.div_coe (by norm_num), half_eq, two_eq, inv_eq, ← mul_assoc, ← EReal.coe_mul, ← EReal.coe_mul, mul_comm]
  norm_num

/-- The gradient of the rows. -/
def G0 (X0 : Acts) (X2 X3 : Vecs) (X4 : Target) : FVec Ideal ⟨2, ![4224, 4096]⟩ .f32 := fun j =>
  padded (fun b s => gradK (row X0 b s) (ct X0 X2 X3 X4 b s) (j 1)) (j 0).val
/-- The gradient of the gain. -/
def G2 (X0 : Acts) (X2 X3 : Vecs) (X4 : Target) : Vecs := fun j => ∑ b : Fin 2, ∑ s : Fin 2064, dy X0 X2 X3 X4 (j 1) b s * xhat (row X0 b s) (j 1)
/-- The gradient of the shift. -/
def G3 (X0 : Acts) (X2 X3 : Vecs) (X4 : Target) : Vecs := fun j => ∑ b : Fin 2, ∑ s : Fin 2064, dy X0 X2 X3 X4 (j 1) b s
/-- The squares, summed over the rows. -/
def SQ (X0 : Acts) (X2 X3 : Vecs) (X4 : Target) : Vecs := fun j => ∑ b : Fin 2, ∑ s : Fin 2064, err X0 X2 X3 X4 (j 1) b s * err X0 X2 X3 X4 (j 1) b s

/-- A row whose cotangent is zero has gradient zero, whatever it holds. -/
theorem gradK_zero (x w : Fin 4096 → EReal) (hw : ∀ l, w l = 0) (l : Fin 4096) : gradK x w l = 0 := by
  obtain rfl : w = fun _ => 0 := funext hw
  have hm : mean (fun _ => 0) = 0 := mean_coe (fun _ => 0) |>.trans (by simp)
  unfold gradK
  simp only [zero_mul, hm, mul_zero, sub_zero]

theorem xhat_real (x : Fin 4096 → EReal) (hx : ∀ l, ∃ r : ℝ, x l = r) (l : Fin 4096) : ∃ r : ℝ, xhat x l = r := by
  choose X hX using hx
  obtain rfl : x = fun l => (X l : EReal) := funext hX
  obtain ⟨v, hv, hvar, hr⟩ := var_coe X
  exact ⟨_, by unfold xhat; rw [centred_coe, hr, ← EReal.coe_mul]⟩

theorem err_real (X0 : Acts) (X2 X3 : Vecs) (X4 : Target) (h0 : ∀ i, ∃ r : ℝ, X0 i = r) (h2 : ∀ i, ∃ r : ℝ, X2 i = r)
    (h3 : ∀ i, ∃ r : ℝ, X3 i = r) (h4 : ∀ i, ∃ r : ℝ, X4 i = r) (l : Fin 4096) (b : Fin 2) (s : Fin 2064) : ∃ r : ℝ, err X0 X2 X3 X4 l b s = r := by
  unfold err
  split
  · obtain ⟨p, hp⟩ := xhat_real (row X0 b s) (fun l => h0 _) l
    obtain ⟨q, hq⟩ := h2 (ix2 0 l)
    obtain ⟨u, hu⟩ := h3 (ix2 0 l)
    obtain ⟨v, hv⟩ := h4 (ix3 b ⟨s.val - 16, by omega⟩ l)
    exact ⟨p * q + u - v, by unfold out; rw [hp, hq, hu, hv, EReal.coe_sub, EReal.coe_add, EReal.coe_mul]⟩
  · exact ⟨0, rfl⟩

/-- The sum over the positions that carry a target is the sum over all of them of what is zero elsewhere. -/
theorem sum_shifted (f : Fin 2048 → EReal) : ∑ s : Fin 2064, shifted f s = ∑ s : Fin 2048, f s := by
  have e : ∑ s : Fin (16 + 2048), shifted f s = ∑ s : Fin 2048, f s := by
    rw [Fin.sum_univ_add]
    refine (congrArg₂ (· + ·) (Finset.sum_eq_zero fun s _ => ?_) (Finset.sum_congr rfl fun s _ => ?_)).trans (zero_add _)
    · exact dif_neg (by show ¬16 ≤ s.val; omega)
    · exact (dif_pos (by show 16 ≤ 16 + s.val; omega)).trans (congrArg f (Fin.ext (by show 16 + s.val - 16 = s.val; omega)))
  exact e

/-- The loss: the sum of all squares, halved and divided by the width, is half the sum over the rows of the mean square. -/
theorem loss_eq (e : Fin 4096 → Fin 2 → Fin 2064 → EReal) (he : ∀ l b s, ∃ r : ℝ, e l b s = r) :
    Ideal.div (half * ∑ l, ∑ b, ∑ s, e l b s * e l b s) width = half * ∑ b, ∑ s, Ideal.div (∑ l, e l b s * e l b s) width := by
  choose E hE using he
  simp only [hE, half_eq, width_eq, Ideal.div_coe (show (4096 : ℝ) ≠ 0 by norm_num), ← EReal.coe_mul, ← coe_sum]
  congr 1
  have hs : ∑ l, ∑ b, ∑ s, E l b s * E l b s = ∑ b, ∑ s, ∑ l, E l b s * E l b s := by
    rw [Finset.sum_comm]
    exact Finset.sum_congr rfl fun b _ => Finset.sum_comm
  rw [hs]
  simp only [← Finset.sum_mul]
  ring

/-- Sixteen rows of the padding value before every sequence. -/
theorem padFront_apply (X : Target) (v : FVec Ideal ⟨0, ![]⟩ .f32) (hv : ∀ i, v i = 0)
    (h2 : (⟨3, ![2, 2048, 4096]⟩ : Shape).Pads ![0, 16, 0] ![0, 0, 0] ![0, 0, 0] ⟨3, ![2, 2064, 4096]⟩) (h3 : 0 < (⟨0, ![]⟩ : Shape).numel)
    (b : Fin 2) (s : Fin 2064) (l : Fin 4096) :
    pad ⟨3, ![2, 2064, 4096]⟩ ![0, 16, 0] ![0, 0, 0] ![0, 0, 0] X v h2 h3 (ix3 b s l) = shifted (fun s' => X (ix3 b s' l)) s := by
  unfold shifted
  by_cases h : 16 ≤ s.val
  · rw [dif_pos h]
    exact pad_apply_of_inside _ _ _ _ _ _ _ _ _ fun a => match a with
      | ⟨0, _⟩ => by show b.val = 0 + b.val * (0 + 1); omega
      | ⟨1, _⟩ => by show s.val = 16 + (s.val - 16) * (0 + 1); omega
      | ⟨2, _⟩ => by show l.val = 0 + l.val * (0 + 1); omega
  · rw [dif_neg h]
    refine (pad_apply_of_not_inside _ _ _ _ _ _ _ _ 1 fun hin => h ?_).trans (hv _)
    exact hin.1

end Cert.LossMath
end
-- ==== Proof.LossKernel.lean ====
/- What the kernel of the loss and its gradient leaves in its five arrays. -/
module

public import proofs.«01_k».proof.Proof.Gen.KLossIdeal.Frame
public import proofs.«01_k».proof.Proof.LossMath
public import Idealize.ShloMosaic.Lib.Pipeline.ValueKit

@[expose] public section

set_option maxRecDepth 16384

noncomputable section

namespace Cert.KLossIdeal.RefValue
open Cert.KLossIdeal Cert.KLossIdeal.Gen Idealize.ShloMosaic Idealize.ShloMosaic.TcCoe Idealize.SL.Sem
open Idealize.ShloMosaic.Pipeline (Dat)
open Cert.Rows Cert.RowNorm Cert.LossMath

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, _)

theorem coord : ∀ t : Fin cfg0.N, (grid0.coords t 0).val = t.val := (by decide +kernel : ∀ t : Fin grid0.N, _)

/-- The row of the array that row `r` of block `t` is. -/
def grow (t : Fin cfg0.N) (r : Fin 128) : Fin 4224 := ⟨t.val * 128 + r.val, by have := lt_of_lt_of_eq t.isLt N_0; omega⟩

/-- The rows with the other rows after them. -/
def hostX (X0 : FVec Ideal S2x2064x4096 .f32) (T : FVec Ideal S96x4096 .f32) : FVec Ideal S4224x4096 .f32 :=
  concatenate S4224x4096 0 [⟨S4128x4096, shapeCast S4128x4096 X0 shapeCasts_S2x2064x4096_S4128x4096⟩, ⟨S96x4096, T⟩] concatenates_S4128x4096_S96x4096_S4224x4096_d0

/-- The target's rows, with zeros where there is none. -/
def hostT (X : FVec Ideal S2x2048x4096 .f32) : FVec Ideal S4224x4096 .f32 :=
  pad S4224x4096 ![0, 0] ![96, 0] ![0, 0] (shapeCast S4128x4096 (pad S2x2064x4096 ![0, 16, 0] ![0, 0, 0] ![0, 0, 0] X
    (sitofp .f32 (constantI S_ 32 0#32)) pads_S2x2048x4096_S2x2064x4096_000_1600_000 h_S_) shapeCasts_S2x2064x4096_S4128x4096)
    (sitofp .f32 (constantI S_ 32 0#32)) pads_S4128x4096_S4224x4096_0960_000 h_S_

theorem V_v1 (c : Dev nD) : V m c main_v1 = hostX (m ((c : Thread nD τ).loc main_arg0)) (m ((c : Thread nD τ).loc main_arg1)) := by
  unfold V V0
  simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
  after_results
  rfl

theorem V_v4 (c : Dev nD) : V m c main_v4 = hostT (m ((c : Thread nD τ).loc main_arg4)) := by
  unfold V V0
  simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
  after_results
  rfl

theorem blk_x (c : Dev nD) (t : Fin cfg0.N) (r : Fin 128) (l : Fin 4096) (h : (grow t r).val < 4128) : iblk m c 0 t (ix2 r l)
    = row (m ((c : Thread nD τ).loc main_arg0)) ⟨(grow t r).val / 2064, by omega⟩ ⟨(grow t r).val % 2064, by omega⟩ l := by
  blk_simp [iblk]
  refine Eq.trans (b := V m c main_v1 (ix2 (grow t r) l)) ?_ ?_
  · blk_ext [idx t, grow]
  · rw [V_v1]; exact tailRows_apply _ _ _ _ _ _ h

theorem blk_t (c : Dev nD) (t : Fin cfg0.N) (r : Fin 128) (l : Fin 4096) : iblk m c 1 t (ix2 r l)
    = padded (fun b s => shifted (fun s' => m ((c : Thread nD τ).loc main_arg4) (ix3 b s' l)) s) (grow t r).val := by
  blk_simp [iblk]
  refine Eq.trans (b := V m c main_v4 (ix2 (grow t r) l)) ?_ ?_
  · blk_ext [idx t, grow]
  · rw [V_v4]
    refine (padRows_apply _ _ _ _ _ _).trans (congrFun (congrArg padded (funext fun b => funext fun s => ?_)) _)
    exact padFront_apply _ _ (fun _ => Cert.Rows.sitofp_zero) _ _ b s l

theorem blk_g (c : Dev nD) (t : Fin cfg0.N) (l : Fin 4096) : iblk m c 2 t (ix2 0 l) = m ((c : Thread nD τ).loc main_arg2) (ix2 0 l) := by
  blk_ext [iblk, V, idx t]

theorem blk_b (c : Dev nD) (t : Fin cfg0.N) (l : Fin 4096) : iblk m c 3 t (ix2 0 l) = m ((c : Thread nD τ).loc main_arg3) (ix2 0 l) := by
  blk_ext [iblk, V, idx t]

/-- Row `r` of the blocks is row `R` of the arguments. -/
structure Reads (x y : Vec Ideal S128x4096 .f32) (g b : Vec Ideal S1x4096 .f32) (X0 : Acts) (X2 X3 : Vecs) (X4 : Target)
    (R : Fin 4224) (r : Fin 128) : Prop where
  x : ∀ (l : Fin 4096) (h : R.val < 4128), x (ix2 r l) = row X0 ⟨R.val / 2064, by omega⟩ ⟨R.val % 2064, by omega⟩ l
  y : ∀ l : Fin 4096, y (ix2 r l) = padded (fun b s => shifted (fun s' => X4 (ix3 b s' l)) s) R.val
  g : ∀ l : Fin 4096, g (ix2 0 l) = X2 (ix2 0 l)
  b : ∀ l : Fin 4096, b (ix2 0 l) = X3 (ix2 0 l)

theorem reads (c : Dev nD) (t : Fin cfg0.N) (r : Fin 128) : Reads (iblk m c 0 t) (iblk m c 1 t) (iblk m c 2 t) (iblk m c 3 t)
    (m ((c : Thread nD τ).loc main_arg0)) (m ((c : Thread nD τ).loc main_arg2)) (m ((c : Thread nD τ).loc main_arg3))
    (m ((c : Thread nD τ).loc main_arg4)) (grow t r) r :=
  ⟨blk_x m c t r, blk_t m c t r, blk_g m c t, blk_b m c t⟩

theorem pay4 (x : Vec Ideal S128x4096 .f32) (r : Fin 128) (l : Fin 4096) : k0_pay4 x (ix2 r l) = centred (fun l => x (ix2 r l)) l := by
  pointwise [k0_pay4]
  rfl

theorem pay5 (x : Vec Ideal S128x4096 .f32) (r : Fin 128) : k0_pay5 x (ix2 r 0) = rstd (fun l => x (ix2 r l)) := by
  unfold k0_pay5
  have h := pay4 x r
  generalize k0_pay4 x = Q at h ⊢
  pointwise
  simp only [h]
  rfl

theorem pay6 (x : Vec Ideal S128x4096 .f32) (r : Fin 128) (l : Fin 4096) : k0_pay6 x (ix2 r l) = xhat (fun l => x (ix2 r l)) l := by
  unfold k0_pay6
  have h := pay4 x r l
  have h' := pay5 x r
  generalize k0_pay4 x = Q at h ⊢
  generalize k0_pay5 x = Q' at h' ⊢
  pointwise
  rw [h, h']; rfl

theorem pay8 (x y : Vec Ideal S128x4096 .f32) (g b : Vec Ideal S1x4096 .f32) (r : Fin 128) (l : Fin 4096) :
    k0_pay8 x g b y (ix2 r l) = xhat (fun l => x (ix2 r l)) l * g (ix2 0 l) + b (ix2 0 l) - y (ix2 r l) := by
  unfold k0_pay8
  have h := pay6 x r l
  generalize k0_pay6 x = Q at h ⊢
  pointwise
  rw [h]

/-- The mask: the rows of the sequences from the seventeenth position on. -/
theorem mask {α : Type} (R : Fin 4224) (x y : α) :
    Scalar.select (IntOp.andi (IntOp.cmpi .slt (BitVec.ofNat 32 R.val) 4128#32) (IntOp.cmpi .sge (BitVec.ofNat 32 (pos R.val)) 16#32)) x y
      = if R.val < 4128 ∧ 16 ≤ pos R.val then x else y := by
  have hR := R.isLt
  have hp := pos_lt R
  have h1 := WordCmp.cmpi_slt_ofNat_eq_one_iff (w := 32) (a := R.val) (b := 4128) (by omega) (by omega)
  have h2 := WordCmp.cmpi_sge_ofNat_eq_one_iff (w := 32) (a := pos R.val) (b := 16) (by omega) (by omega)
  refine if_congr (Iff.trans ?_ (and_congr h1 h2)) rfl rfl
  show IntOp.cmpi .slt (BitVec.ofNat 32 R.val) 4128#32 &&& IntOp.cmpi .sge (BitVec.ofNat 32 (pos R.val)) 16#32 = 1#1 ↔ _
  generalize IntOp.cmpi .slt (BitVec.ofNat 32 R.val) 4128#32 = p
  generalize IntOp.cmpi .sge (BitVec.ofNat 32 (pos R.val)) 16#32 = q
  revert p q; decide

theorem row_word (t : Fin cfg0.N) (r : Fin 128) :
    IntOp.addi (IntOp.muli (BitVec.ofNat 32 (grid0.coords t 0).val) 128#32) (BitVec.ofNat 32 r.val) = BitVec.ofNat 32 (grow t r).val := by
  rw [coord t]
  show IntOp.addi (IntOp.muli (BitVec.ofNat 32 t.val) (BitVec.ofNat 32 128)) _ = _
  rw [WordCmp.muli_ofNat, WordCmp.addi_ofNat]; rfl

theorem pay9 (t : Fin cfg0.N) (e : FVec Ideal S128x4096 .f32) (r : Fin 128) (l : Fin 4096) :
    k0_pay9 (k0_pay7 (grid0.coords t)) e (ix2 r l) = if (grow t r).val < 4128 ∧ 16 ≤ pos (grow t r).val then e (ix2 r l) else 0 := by
  rw [← mask, ← select_pos, ← row_word]
  pointwise [k0_pay9, k0_pay7]
  rfl

/-- The error at a row. -/
theorem Reads.err {x y : Vec Ideal S128x4096 .f32} {g b : Vec Ideal S1x4096 .f32} {X0 : Acts} {X2 X3 : Vecs} {X4 : Target}
    {t : Fin cfg0.N} {r : Fin 128} (H : Reads x y g b X0 X2 X3 X4 (grow t r) r) (l : Fin 4096) :
    k0_pay9 (k0_pay7 (grid0.coords t)) (k0_pay8 x g b y) (ix2 r l) = padded (LossMath.err X0 X2 X3 X4 l) (grow t r).val := by
  rw [pay9, pay8]
  generalize grow t r = R at H
  by_cases h : R.val < 4128
  · have hp : pos R.val = R.val % 2064 := by unfold pos; split <;> omega
    rw [padded_pos _ h, hp, H.g, H.b, H.y, padded_pos _ h]
    unfold LossMath.err shifted
    by_cases hs : 16 ≤ R.val % 2064
    · rw [if_pos ⟨h, hs⟩, dif_pos hs, dif_pos hs]
      refine congrArg (fun z => z * _ + _ - _) (congrFun (congrArg xhat (funext fun l => H.x l h)) l)
    · rw [if_neg (fun hh => hs hh.2), dif_neg hs]
  · rw [padded_neg _ h, if_neg (fun hh => h hh.1)]

theorem pay10 (v : IVec S128x1 1) (e : FVec Ideal S128x4096 .f32) (r : Fin 128) (l : Fin 4096) :
    k0_pay10 v e (ix2 r l) = k0_pay9 v e (ix2 r l) * inv := by
  unfold k0_pay10
  generalize k0_pay9 v e = Q
  pointwise
  rfl

/-- The cotangent of the output at a row. -/
theorem Reads.dy {x y : Vec Ideal S128x4096 .f32} {g b : Vec Ideal S1x4096 .f32} {X0 : Acts} {X2 X3 : Vecs} {X4 : Target}
    {t : Fin cfg0.N} {r : Fin 128} (H : Reads x y g b X0 X2 X3 X4 (grow t r) r) (l : Fin 4096) :
    k0_pay10 (k0_pay7 (grid0.coords t)) (k0_pay8 x g b y) (ix2 r l) = padded (LossMath.dy X0 X2 X3 X4 l) (grow t r).val := by
  rw [pay10, H.err, padded_mul_const]; rfl

theorem pay11 (x : Vec Ideal S128x4096 .f32) (g : Vec Ideal S1x4096 .f32) (v : IVec S128x1 1) (e : FVec Ideal S128x4096 .f32) (r : Fin 128) (l : Fin 4096) :
    k0_pay11 (k0_pay5 x) (k0_pay6 x) g v e (ix2 r l) = gradK (fun l => x (ix2 r l)) (fun l => k0_pay10 v e (ix2 r l) * g (ix2 0 l)) l := by
  unfold k0_pay11
  have h := pay6 x r
  have h' := pay5 x r
  generalize k0_pay6 x = Q at h ⊢
  generalize k0_pay5 x = Q' at h' ⊢
  generalize k0_pay10 v e = D
  pointwise
  simp only [h, h']
  rfl

theorem Reads.out {x y : Vec Ideal S128x4096 .f32} {g b : Vec Ideal S1x4096 .f32} {X0 : Acts} {X2 X3 : Vecs} {X4 : Target}
    {t : Fin cfg0.N} {r : Fin 128} (H : Reads x y g b X0 X2 X3 X4 (grow t r) r) (l : Fin 4096) :
    k0_pay11 (k0_pay5 x) (k0_pay6 x) g (k0_pay7 (grid0.coords t)) (k0_pay8 x g b y) (ix2 r l) = G0 X0 X2 X3 X4 (ix2 (grow t r) l) := by
  rw [pay11]
  by_cases h : (grow t r).val < 4128
  · refine Eq.trans ?_ (padded_pos _ h).symm
    refine congrFun (congrArg₂ gradK (funext fun l => H.x l h) (funext fun l => ?_)) l
    exact congrArg₂ (· * ·) ((H.dy l).trans (padded_pos _ h)) (H.g l)
  · refine Eq.trans ?_ (padded_neg _ h).symm
    refine gradK_zero _ _ (fun l => ?_) l
    rw [(H.dy l).trans (padded_neg _ h), zero_mul]

/-- The sums over the rows of a block. -/
theorem rows_sum (w : FVec Ideal S128x4096 .f32) (v : IVec S128x1 1) (e : FVec Ideal S128x4096 .f32) (j : S1x4096.Idx) :
    k0_pay13 (F := Ideal) w v e j = ∑ r : Fin 128, k0_pay10 v e (ix2 r (j 1)) * w (ix2 r (j 1)) := by
  unfold k0_pay13
  generalize k0_pay10 v e = D
  pointwise
theorem rows_sum' (w : FVec Ideal S128x4096 .f32) (v : IVec S128x1 1) (e : FVec Ideal S128x4096 .f32) (a : Vec Ideal S1x4096 .f32) (j : S1x4096.Idx) :
    k0_pay14 (F := Ideal) w v e a j = a j + ∑ r : Fin 128, k0_pay10 v e (ix2 r (j 1)) * w (ix2 r (j 1)) := by
  rw [← rows_sum]
  pointwise [k0_pay14]
theorem rows_shift (v : IVec S128x1 1) (e : FVec Ideal S128x4096 .f32) (j : S1x4096.Idx) :
    k0_pay15 (F := Ideal) v e j = ∑ r : Fin 128, k0_pay10 v e (ix2 r (j 1)) := by
  unfold k0_pay15
  generalize k0_pay10 v e = D
  pointwise
theorem rows_shift' (v : IVec S128x1 1) (e : FVec Ideal S128x4096 .f32) (a : Vec Ideal S1x4096 .f32) (j : S1x4096.Idx) :
    k0_pay1 (F := Ideal) (k0_pay15 v e) a j = a j + ∑ r : Fin 128, k0_pay10 v e (ix2 r (j 1)) := by
  rw [← rows_shift]
  pointwise [k0_pay1]
theorem rows_sq (e : FVec Ideal S128x4096 .f32) (j : S1x4096.Idx) :
    k0_pay2 (F := Ideal) e j = ∑ r : Fin 128, e (ix2 r (j 1)) * e (ix2 r (j 1)) := by
  pointwise [k0_pay2]
theorem rows_sq' (e : FVec Ideal S128x4096 .f32) (a : Vec Ideal S1x4096 .f32) (j : S1x4096.Idx) :
    k0_pay3 (F := Ideal) e a j = a j + ∑ r : Fin 128, e (ix2 r (j 1)) * e (ix2 r (j 1)) := by
  rw [← rows_sq]
  pointwise [k0_pay3]

theorem hout (c : Dev nD) (t : Fin cfg0.N) : (outsAt0 m c t.val t.isLt).1
    = k0_pay11 (k0_pay5 (iblk m c 0 t)) (k0_pay6 (iblk m c 0 t)) (iblk m c 2 t) (k0_pay7 (grid0.coords t))
      (k0_pay8 (iblk m c 0 t) (iblk m c 2 t) (iblk m c 3 t) (iblk m c 1 t)) := by
  have ht : t.val < 33 := lt_of_lt_of_eq t.isLt N_0
  by_cases h : t.val % 33 = 0
  · rw [outsAt0_A m c t h (by omega) h (by omega) h (by omega)]; frame_out
  · rw [outsAt0_B m c t h (by omega) h (by omega) h (by omega)]; frame_out

theorem hout' (c : Dev nD) (t : Fin cfg0.N) : (outsAt0 m c t.val t.isLt).2.1
    = k0_pay12 (k0_pay5 (iblk m c 0 t)) (k0_pay6 (iblk m c 0 t)) (iblk m c 2 t) (k0_pay7 (grid0.coords t))
      (k0_pay8 (iblk m c 0 t) (iblk m c 2 t) (iblk m c 3 t) (iblk m c 1 t)) := by
  have ht : t.val < 33 := lt_of_lt_of_eq t.isLt N_0
  by_cases h : t.val % 33 = 0
  · rw [outsAt0_A m c t h (by omega) h (by omega) h (by omega)]; frame_out
  · rw [outsAt0_B m c t h (by omega) h (by omega) h (by omega)]; frame_out

theorem final4 (c : Dev nD) : (dats m 0 c).arrAt 4 (cfgs 0).N
    = G0 (m ((c : Thread nD τ).loc main_arg0)) (m ((c : Thread nD τ).loc main_arg2)) (m ((c : Thread nD τ).loc main_arg3)) (m ((c : Thread nD τ).loc main_arg4)) := by
  refine (dats m 0 c).arrAt_eq_of_covers 4 _ (by decide +kernel) fun t _ y => ?_
  obtain ⟨r, l, rfl⟩ : ∃ (r : Fin 128) (l : Fin 4096), y = ix2 r l := ⟨y 0, y 1, eq_ix2 y⟩
  have he : ((cfg0.win 4).blk t).view.emb (ix2 r l) = ix2 (grow t r) l := by
    blk_ext [idx t, grow]
  rw [he]
  blk_simp
  rw [after0_4, hout]
  exact (reads m c t r).out l

theorem final5 (c : Dev nD) : (dats m 0 c).arrAt 5 (cfgs 0).N
    = (G0 (m ((c : Thread nD τ).loc main_arg0)) (m ((c : Thread nD τ).loc main_arg2)) (m ((c : Thread nD τ).loc main_arg3)) (m ((c : Thread nD τ).loc main_arg4)) : FVec Ideal S4224x4096 .bf16) := by
  refine (dats m 0 c).arrAt_eq_of_covers 5 _ (by decide +kernel) fun t _ y => ?_
  obtain ⟨r, l, rfl⟩ : ∃ (r : Fin 128) (l : Fin 4096), y = ix2 r l := ⟨y 0, y 1, eq_ix2 y⟩
  have he : ((cfg0.win 5).blk t).view.emb (ix2 r l) = ix2 (grow t r) l := by
    blk_ext [idx t, grow]
  rw [he]
  blk_simp
  rw [after0_5, hout']
  exact (reads m c t r).out l

/-- A window that every point adds to and the last point writes back: the points are those of the grid in order. -/
theorem point (t s : ℕ) (ht : t < 33) : 33 * (t / 33) + s = s := by omega

theorem final6 (c : Dev nD) : (dats m 0 c).arrAt 6 (cfgs 0).N
    = G2 (m ((c : Thread nD τ).loc main_arg0)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have ht : t.val < 33 := lt_of_lt_of_eq t.isLt N_0
  obtain ⟨r, l, rfl⟩ : ∃ (r : Fin 1) (l : Fin 4096), y = ix2 r l := ⟨y 0, y 1, eq_ix2 y⟩
  have he : ((cfg0.win 6).blk t).view.emb (ix2 r l) = ix2 0 l := by
    blk_ext [idx t]
  rw [he]
  blk_simp
  have hm := (flush0_6 t).mp hf
  rw [after0_6, Pipeline.eq_sum_fin_of_reset_step_apply_of_flush (fun n h => (outsAt0 m c n h).2.2.1) 33 (fun _ => 0) _
    (fun t h j => by
      have ht : t.val < 33 := lt_of_lt_of_eq t.isLt N_0
      rw [outsAt0_A m c t h (by omega) h (by omega) h (by omega)]; frame_out; rw [rows_sum]; exact (zero_add _).symm)
    (fun t h j => by
      rw [outsAt0_B m c t h (by omega) h (by omega) h (by omega)]; frame_out; rw [rows_sum']) t hm _, zero_add]
  refine Eq.trans ?_ (sum_blocks fun b s => LossMath.dy (m ((c : Thread nD τ).loc main_arg0)) (m ((c : Thread nD τ).loc main_arg2))
    (m ((c : Thread nD τ).loc main_arg3)) (m ((c : Thread nD τ).loc main_arg4)) l b s * xhat (row (m ((c : Thread nD τ).loc main_arg0)) b s) l)
  refine Fin.sum_fin_congr fun s => Fin.sum_fin_congr fun r' => ?_
  have hs : (⟨33 * (t.val / 33) + s.val, Pipeline.run_point_lt_of_flush t hm s⟩ : Fin cfg0.N) = ⟨s.val, lt_of_lt_of_eq s.isLt N_0.symm⟩ :=
    Fin.ext (point t.val s.val ht)
  rw [hs]
  have H := reads m c ⟨s.val, lt_of_lt_of_eq s.isLt N_0.symm⟩ r'
  refine Eq.trans ?_ (padded_mul _ _ (s.val * 128 + r'.val) _ fun hR => congrFun (congrArg xhat (funext fun l => H.x l hR)) l)
  exact congrArg₂ (· * ·) (H.dy l) (pay6 _ r' l)

theorem final7 (c : Dev nD) : (dats m 0 c).arrAt 7 (cfgs 0).N
    = G3 (m ((c : Thread nD τ).loc main_arg0)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have ht : t.val < 33 := lt_of_lt_of_eq t.isLt N_0
  obtain ⟨r, l, rfl⟩ : ∃ (r : Fin 1) (l : Fin 4096), y = ix2 r l := ⟨y 0, y 1, eq_ix2 y⟩
  have he : ((cfg0.win 7).blk t).view.emb (ix2 r l) = ix2 0 l := by
    blk_ext [idx t]
  rw [he]
  blk_simp
  have hm := (flush0_7 t).mp hf
  rw [after0_7, Pipeline.eq_sum_fin_of_reset_step_apply_of_flush (fun n h => (outsAt0 m c n h).2.2.2.1) 33 (fun _ => 0) _
    (fun t h j => by
      have ht : t.val < 33 := lt_of_lt_of_eq t.isLt N_0
      rw [outsAt0_A m c t h (by omega) h (by omega) h (by omega)]; frame_out; rw [rows_shift]; exact (zero_add _).symm)
    (fun t h j => by
      rw [outsAt0_B m c t h (by omega) h (by omega) h (by omega)]; frame_out; rw [rows_shift']) t hm _, zero_add]
  refine Eq.trans ?_ (sum_blocks fun b s => LossMath.dy (m ((c : Thread nD τ).loc main_arg0)) (m ((c : Thread nD τ).loc main_arg2))
    (m ((c : Thread nD τ).loc main_arg3)) (m ((c : Thread nD τ).loc main_arg4)) l b s)
  refine Fin.sum_fin_congr fun s => Fin.sum_fin_congr fun r' => ?_
  have hs : (⟨33 * (t.val / 33) + s.val, Pipeline.run_point_lt_of_flush t hm s⟩ : Fin cfg0.N) = ⟨s.val, lt_of_lt_of_eq s.isLt N_0.symm⟩ :=
    Fin.ext (point t.val s.val ht)
  rw [hs]
  exact (reads m c ⟨s.val, lt_of_lt_of_eq s.isLt N_0.symm⟩ r').dy l

theorem final8 (c : Dev nD) : (dats m 0 c).arrAt 8 (cfgs 0).N
    = SQ (m ((c : Thread nD τ).loc main_arg0)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have ht : t.val < 33 := lt_of_lt_of_eq t.isLt N_0
  obtain ⟨r, l, rfl⟩ : ∃ (r : Fin 1) (l : Fin 4096), y = ix2 r l := ⟨y 0, y 1, eq_ix2 y⟩
  have he : ((cfg0.win 8).blk t).view.emb (ix2 r l) = ix2 0 l := by
    blk_ext [idx t]
  rw [he]
  blk_simp
  have hm := (flush0_8 t).mp hf
  rw [after0_8, Pipeline.eq_sum_fin_of_reset_step_apply_of_flush (fun n h => (outsAt0 m c n h).2.2.2.2) 33 (fun _ => 0) _
    (fun t h j => by
      have ht : t.val < 33 := lt_of_lt_of_eq t.isLt N_0
      rw [outsAt0_A m c t h (by omega) h (by omega) h (by omega)]; frame_out; rw [rows_sq]; exact (zero_add _).symm)
    (fun t h j => by
      rw [outsAt0_B m c t h (by omega) h (by omega) h (by omega)]; frame_out; rw [rows_sq']) t hm _, zero_add]
  refine Eq.trans ?_ (sum_blocks fun b s => LossMath.err (m ((c : Thread nD τ).loc main_arg0)) (m ((c : Thread nD τ).loc main_arg2))
    (m ((c : Thread nD τ).loc main_arg3)) (m ((c : Thread nD τ).loc main_arg4)) l b s * LossMath.err (m ((c : Thread nD τ).loc main_arg0)) (m ((c : Thread nD τ).loc main_arg2))
    (m ((c : Thread nD τ).loc main_arg3)) (m ((c : Thread nD τ).loc main_arg4)) l b s)
  refine Fin.sum_fin_congr fun s => Fin.sum_fin_congr fun r' => ?_
  have hs : (⟨33 * (t.val / 33) + s.val, Pipeline.run_point_lt_of_flush t hm s⟩ : Fin cfg0.N) = ⟨s.val, lt_of_lt_of_eq s.isLt N_0.symm⟩ :=
    Fin.ext (point t.val s.val ht)
  rw [hs]
  have H := (reads m c ⟨s.val, lt_of_lt_of_eq s.isLt N_0.symm⟩ r').err l
  refine Eq.trans ?_ (padded_mul _ _ (s.val * 128 + r'.val) _ fun hR => H.trans (padded_pos _ hR))
  exact congrArg (· * _) H

/-- The loss: the squares summed over the columns too, halved and divided by the width. -/
def total (X0 : Acts) (X2 X3 : Vecs) (X4 : Target) : FVec Ideal S_ .f32 := fun _ => Ideal.div (half * ∑ l, SQ X0 X2 X3 X4 (ix2 0 l)) width

theorem tail (c : Dev nD) : Pipeline.afterTail₀ cfgs (dats m) 0 (V0 m) [hostOps1] c main_v8
    = total (m ((c : Thread nD τ).loc main_arg0)) (m ((c : Thread nD τ).loc main_arg2)) (m ((c : Thread nD τ).loc main_arg3)) (m ((c : Thread nD τ).loc main_arg4)) := by
  have e : Pipeline.withArrays (cfgs 0).spec c (V0 m c) (fun w => (dats m 0 c).arrAt w (cfgs 0).N) (Proc.devRef .tc main_v5_4)
      = SQ (m ((c : Thread nD τ).loc main_arg0)) (m ((c : Thread nD τ).loc main_arg2)) (m ((c : Thread nD τ).loc main_arg3)) (m ((c : Thread nD τ).loc main_arg4)) :=
    (Pipeline.withArrays_arr (cfgs 0).spec (by decide) c _ _ 8).trans (final8 m c)
  unfold Pipeline.afterTail₀
  simp only [hostOps1, List.flatten_cons, List.flatten_nil, List.append_nil]
  after_results
  rw [e]
  unfold total
  generalize SQ _ _ _ _ = Q
  funext j
  pointwise
  exact congrArg (fun s => Ideal.div (half * s) width) (Fintype.sum_unique _)

/-- The run: the loss, the four arrays of gradients, and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v8)
        = total (m ((c : Thread nD τ).loc main_arg0)) (m ((c : Thread nD τ).loc main_arg2)) (m ((c : Thread nD τ).loc main_arg3)) (m ((c : Thread nD τ).loc main_arg4))
      ∧ r.2.mem ((c.tc : Thread nD τ).loc main_v5_0)
        = G0 (m ((c : Thread nD τ).loc main_arg0)) (m ((c : Thread nD τ).loc main_arg2)) (m ((c : Thread nD τ).loc main_arg3)) (m ((c : Thread nD τ).loc main_arg4))
      ∧ r.2.mem ((c.tc : Thread nD τ).loc main_v5_1)
        = (G0 (m ((c : Thread nD τ).loc main_arg0)) (m ((c : Thread nD τ).loc main_arg2)) (m ((c : Thread nD τ).loc main_arg3)) (m ((c : Thread nD τ).loc main_arg4)) : FVec Ideal S4224x4096 .bf16)
      ∧ r.2.mem ((c.tc : Thread nD τ).loc main_v5_2)
        = G2 (m ((c : Thread nD τ).loc main_arg0)) (m ((c : Thread nD τ).loc main_arg2)) (m ((c : Thread nD τ).loc main_arg3)) (m ((c : Thread nD τ).loc main_arg4))
      ∧ r.2.mem ((c.tc : Thread nD τ).loc main_v5_3)
        = G3 (m ((c : Thread nD τ).loc main_arg0)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  θ_run_mono (θ_run_and (unchanged m ρ) (run_main m ρ)) fun r h c =>
    ⟨((h.2 c).2 main_v8 (Pipeline.mem_restRefs_of main_v8 (by decide) (by decide))).trans (tail m c),
      ((h.2 c).1 4).trans (final4 m c), ((h.2 c).1 5).trans (final5 m c), ((h.2 c).1 6).trans (final6 m c), ((h.2 c).1 7).trans (final7 m c), h.1 c⟩

end Cert.KLossIdeal.RefValue
-- ==== Proof.LossRef.lean ====
/- The reference's loss and its gradient, read entry by entry. -/
module

public import proofs.«01_k».proof.Proof.Gen.RLossIdeal.Read
public import proofs.«01_k».proof.Proof.Gen.Pre_finite_loss
public import proofs.«01_k».proof.Proof.LossMath
public import proofs.«01_k».proof.Proof.Finite
public import Idealize.ShloMosaic.Lib.Pipeline.ValueKit

@[expose] public section

set_option maxRecDepth 16384

noncomputable section

namespace Cert.RLossIdeal.RefValue
open Cert.RLossIdeal Cert.RLossIdeal.Gen Cert.RLossIdeal.Read Idealize.ShloMosaic Idealize.ShloMosaic.TcCoe Idealize.SL.Sem
open Cert.Rows Cert.RowNorm Cert.LossMath Cert.Finite

variable (X0 : Acts) (X2 X3 : Vecs) (X4 : Target)

theorem stage7 (b : Fin 2) (s : Fin 2064) (l : Fin 4096) : val_main_v7 (F := Ideal) X0 (ix3 b s l) = centred (row X0 b s) l := by
  pointwise [val_main_v7, val_main_v6, val_main_v5, val_main_v4, val_main_v3, val_main_v2, val_main_cst, val_main_cst_0]
  rfl

theorem stage16 (b : Fin 2) (s : Fin 2064) : val_main_v16 (F := Ideal) X0 (ix3 b s 0) = var (row X0 b s) := by
  have h := stage7 X0 b s
  unfold val_main_v16 val_main_v14 val_main_v12 val_main_v11 val_main_v8
  generalize val_main_v7 (F := Ideal) X0 = Q at h ⊢
  pointwise [val_main_v13, val_main_v15, val_main_cst_2, val_main_cst_3, val_main_cst_4]
  simp only [h]
  rfl

theorem stage17 (b : Fin 2) (s : Fin 2064) : val_main_v17 (F := Ideal) X0 (ix3 b s 0) = rstd (row X0 b s) := by
  have h := stage16 X0 b s
  unfold val_main_v17
  generalize val_main_v16 (F := Ideal) X0 = Q at h ⊢
  pointwise
  rw [h]; rfl

theorem stage22 (b : Fin 2) (s : Fin 2064) (l : Fin 4096) : val_main_v22 (F := Ideal) X0 (ix3 b s l) = xhat (row X0 b s) l := by
  have h := stage7 X0 b s l
  have h' := stage17 X0 b s
  unfold val_main_v22 val_main_v21
  generalize val_main_v7 (F := Ideal) X0 = Q at h ⊢
  generalize val_main_v17 (F := Ideal) X0 = Q' at h' ⊢
  pointwise
  rw [h, h']; rfl

theorem stage28 (b : Fin 2) (s : Fin 2064) (l : Fin 4096) : val_main_v28 (F := Ideal) X0 X2 X3 (ix3 b s l) = out X0 X2 X3 b s l := by
  have h := stage22 X0 b s l
  unfold val_main_v28 val_main_v25
  generalize val_main_v22 (F := Ideal) X0 = Q at h ⊢
  pointwise [val_main_v24, val_main_v23, val_main_v0, val_main_v27, val_main_v26, val_main_v1]
  rw [h]; rfl

/-- The position that carries target `s`. -/
def at16 (s : Fin 2048) : Fin 2064 := ⟨16 + s.val, by omega⟩

theorem stage30 (b : Fin 2) (s : Fin 2048) (l : Fin 4096) :
    val_main_v30 (F := Ideal) X0 X2 X3 X4 (ix3 b s l) = out X0 X2 X3 b (at16 s) l - X4 (ix3 b s l) := by
  have h := stage28 X0 X2 X3 b (at16 s) l
  unfold val_main_v30 val_main_v29
  generalize val_main_v28 (F := Ideal) X0 X2 X3 = Q at h ⊢
  rw [← h]
  pointwise
  rfl

theorem err_at (b : Fin 2) (s : Fin 2048) (l : Fin 4096) : val_main_v30 (F := Ideal) X0 X2 X3 X4 (ix3 b s l) = err X0 X2 X3 X4 l b (at16 s) := by
  rw [stage30]
  refine Eq.trans ?_ (dif_pos (show 16 ≤ 16 + s.val by omega)).symm
  refine congrArg (fun s' => out X0 X2 X3 b (at16 s) l - X4 (ix3 b s' l)) (Fin.ext ?_)
  show s.val = 16 + s.val - 16
  omega

theorem stage44 (b : Fin 2) (s : Fin 2048) (l : Fin 4096) : val_main_v44 (F := Ideal) X0 X2 X3 X4 (ix3 b s l) = dy X0 X2 X3 X4 l b (at16 s) := by
  have h := err_at X0 X2 X3 X4 b s l
  unfold val_main_v44 val_main_v33
  generalize val_main_v30 (F := Ideal) X0 X2 X3 X4 = Q at h ⊢
  pointwise [val_main_v43, val_main_v42, val_main_v41, val_main_v40, val_main_v39, val_main_v32, val_main_cst_6, val_main_cst_11, val_main_cst_12, val_main_cst_13]
  rw [h]
  exact dy_eq _

theorem stage45 (b : Fin 2) (s : Fin 2064) (l : Fin 4096) : val_main_v45 (F := Ideal) X0 X2 X3 X4 (ix3 b s l) = dy X0 X2 X3 X4 l b s := by
  have h := fun s => stage44 X0 X2 X3 X4 b s l
  unfold val_main_v45
  generalize val_main_v44 (F := Ideal) X0 X2 X3 X4 = Q at h ⊢
  refine (padFront_apply Q _ (fun i => ?_) _ _ b s l).trans ?_
  · pointwise [val_main_cst_14]
  · unfold shifted
    by_cases hs : 16 ≤ s.val
    · rw [dif_pos hs]
      refine (h _).trans ?_
      exact congrArg (dy X0 X2 X3 X4 l b) (Fin.ext (by show 16 + (s.val - 16) = s.val; omega))
    · rw [dif_neg hs]
      unfold dy err
      rw [dif_neg hs, zero_mul]

theorem stage53 (b : Fin 2) (s : Fin 2064) (l : Fin 4096) : val_main_v53 (F := Ideal) X0 X2 X3 X4 (ix3 b s l) = ct X0 X2 X3 X4 b s l := by
  have h := stage45 X0 X2 X3 X4 b s l
  unfold val_main_v53
  generalize val_main_v45 (F := Ideal) X0 X2 X3 X4 = Q at h ⊢
  pointwise [val_main_v52, val_main_v23, val_main_v0]
  rw [h]; rfl

/-- The cotangent of the centred row. -/
theorem stage66 (b : Fin 2) (s : Fin 2064) (l : Fin 4096) : val_main_v66 (F := Ideal) X0 X2 X3 X4 (ix3 b s l) = ctCentred (row X0 b s) (ct X0 X2 X3 X4 b s) l := by
  have h7 := stage7 X0 b s
  have h16 : ∀ k : Fin 1, val_main_v16 (F := Ideal) X0 (ix3 b s k) = var (row X0 b s) := fun k => Subsingleton.elim 0 k ▸ stage16 X0 b s
  have h17 : ∀ k : Fin 1, val_main_v17 (F := Ideal) X0 (ix3 b s k) = rstd (row X0 b s) := fun k => Subsingleton.elim 0 k ▸ stage17 X0 b s
  have h53 := stage53 X0 X2 X3 X4 b s
  unfold val_main_v66 val_main_v65 val_main_v64 val_main_v63 val_main_v62 val_main_v60 val_main_v59 val_main_v58 val_main_v57 val_main_v56 val_main_v55 val_main_v20 val_main_v18 val_main_v10
  generalize val_main_v7 (F := Ideal) X0 = Q7 at h7 ⊢
  generalize val_main_v16 (F := Ideal) X0 = Q16 at h16 ⊢
  generalize val_main_v17 (F := Ideal) X0 = Q17 at h17 ⊢
  generalize val_main_v53 (F := Ideal) X0 X2 X3 X4 = Q53 at h53 ⊢
  pointwise [val_main_v9, val_main_v19, val_main_v61, val_main_cst_1, val_main_cst_5, val_main_cst_19, val_main_cst_20, val_main_cst_21]
  simp only [h7, h16, h17, h53, Finset.univ_unique, Finset.sum_const, Finset.card_singleton, one_smul]
  rfl

theorem stage74 (b : Fin 2) (s : Fin 2064) (l : Fin 4096) : val_main_v74 (F := Ideal) X0 X2 X3 X4 (ix3 b s l) = gradR (row X0 b s) (ct X0 X2 X3 X4 b s) l := by
  have h := stage66 X0 X2 X3 X4 b s
  unfold val_main_v74 val_main_v73 val_main_v72 val_main_v71 val_main_v69 val_main_v68 val_main_v67
  generalize val_main_v66 (F := Ideal) X0 X2 X3 X4 = Q at h ⊢
  pointwise [val_main_v70, val_main_cst_22, val_main_cst_23, val_main_cst_24]
  simp only [h, Finset.univ_unique, Finset.sum_const, Finset.card_singleton, one_smul]
  rfl

theorem ref1 (h0 : All X0) (h2 : All X2) (h3 : All X3) (h4 : All X4) : val_main_v78 (F := Ideal) X0 X2 X3 X4 = G0 X0 X2 X3 X4 := by
  funext j
  idx_vars j
  unfold val_main_v78 val_main_v77
  have h := stage74 X0 X2 X3 X4
  generalize val_main_v74 (F := Ideal) X0 X2 X3 X4 = Q at h ⊢
  refine (padRows_apply Q _ pads_S4128x4096_S4224x4096_0960_000 h_S_ j0 j1).trans ?_
  refine congrFun (congrArg padded (funext fun b => funext fun s => ?_)) _
  refine (h b s j1).trans (grad_eq _ _ (fun l => h0 _) (fun l => ?_) j1).symm
  obtain ⟨p, hp⟩ := err_real X0 X2 X3 X4 h0 h2 h3 h4 l b s
  obtain ⟨q, hq⟩ := h2 (ix2 0 l)
  exact ⟨p * (1 / 4096) * q, by unfold ct dy; rw [hp, hq, inv_eq, ← EReal.coe_mul, ← EReal.coe_mul]⟩

theorem ref2 (h0 : All X0) (h2 : All X2) (h3 : All X3) (h4 : All X4) : val_main_v79 (F := Ideal) X0 X2 X3 X4 = (G0 X0 X2 X3 X4 : FVec Ideal S4224x4096 .bf16) := by
  unfold val_main_v79
  rw [ref1 X0 X2 X3 X4 h0 h2 h3 h4]
  funext j
  pointwise

theorem ref3 : val_main_v76 (F := Ideal) X0 X2 X3 X4 = G2 X0 X2 X3 X4 := by
  funext j
  idx_vars j
  unfold val_main_v76 val_main_v54 val_main_v51 val_main_v50 val_main_v49
  have h := fun b s => stage22 X0 b s j1
  have h' := fun b s => stage45 X0 X2 X3 X4 b s j1
  generalize val_main_v22 (F := Ideal) X0 = Q at h ⊢
  generalize val_main_v45 (F := Ideal) X0 X2 X3 X4 = Q' at h' ⊢
  pointwise [val_main_cst_17, val_main_cst_18, sum_first_two]
  simp only [h, h', Finset.univ_unique, Finset.sum_const, Finset.card_singleton, one_smul]
  exact Finset.sum_congr rfl fun b _ => Finset.sum_congr rfl fun s _ => mul_comm _ _

theorem ref4 : val_main_v75 (F := Ideal) X0 X2 X3 X4 = G3 X0 X2 X3 X4 := by
  funext j
  idx_vars j
  unfold val_main_v75 val_main_v48 val_main_v47 val_main_v46
  have h' := fun b s => stage45 X0 X2 X3 X4 b s j1
  generalize val_main_v45 (F := Ideal) X0 X2 X3 X4 = Q' at h' ⊢
  pointwise [val_main_cst_15, val_main_cst_16, sum_first_two]
  simp only [h', Finset.univ_unique, Finset.sum_const, Finset.card_singleton, one_smul]
  rfl

/-- The loss, as the kernel's host lines finish it. -/
theorem ref0 (h0 : All X0) (h2 : All X2) (h3 : All X3) (h4 : All X4) (j : S_.Idx) : val_main_v38 (F := Ideal) X0 X2 X3 X4 j
    = Ideal.div (half * ∑ l, SQ X0 X2 X3 X4 (ix2 0 l)) width := by
  refine Eq.trans ?_ (loss_eq (err X0 X2 X3 X4) (err_real X0 X2 X3 X4 h0 h2 h3 h4)).symm
  have h := err_at X0 X2 X3 X4
  unfold val_main_v38 val_main_v37 val_main_v36 val_main_v34 val_main_v31
  generalize val_main_v30 (F := Ideal) X0 X2 X3 X4 = Q at h ⊢
  pointwise [val_main_v35, val_main_cst_7, val_main_cst_8, val_main_cst_9, val_main_cst_10]
  refine congrArg (half * ·) (Finset.sum_congr rfl fun b _ => ?_)
  refine (sum_shifted _).symm.trans (Finset.sum_congr rfl fun s _ => ?_)
  unfold shifted
  by_cases hs : 16 ≤ s.val
  · rw [dif_pos hs]
    simp only [h]
    have e : at16 ⟨s.val - 16, by omega⟩ = s := Fin.ext (by show 16 + (s.val - 16) = s.val; omega)
    rw [e]; rfl
  · rw [dif_neg hs]
    have e : ∀ l, err X0 X2 X3 X4 l b s = 0 := fun l => dif_neg hs
    simp only [e, mul_zero, Finset.sum_const_zero]
    rw [width_eq, Ideal.div_coe (by norm_num), zero_mul]

/-- What the precondition says. -/
theorem finite (X1 : FVec Ideal ⟨2, ![96, 4096]⟩ .f32)
    (h : Cert.Pre_finite_loss.fn (F := Ideal) X0 X1 X2 X3 X4 = fun _ => 1#1) : All X0 ∧ All X2 ∧ All X3 ∧ All X4 := by
  have h' := congrFun h (fun a => a.elim0)
  dsimp only [Cert.Pre_finite_loss.fn, Cert.Pre_finite_loss.fn_part1] at h'
  obtain ⟨h1, h4⟩ := of_andi _ _ _ h'
  obtain ⟨h1, h3⟩ := of_andi _ _ _ h1
  obtain ⟨h1, h2⟩ := of_andi _ _ _ h1
  exact ⟨all_of_reduce _ _ _ _ _ h1, all_of_reduce _ _ _ _ _ h2, all_of_reduce _ _ _ _ _ h3, all_of_reduce _ _ _ _ _ h4⟩

end Cert.RLossIdeal.RefValue
-- ==== Proof.Loss.lean ====
/- The loss and its gradient: the kernel's five results are the reference's. -/
module

public import proofs.«01_k».proof.Proof.LossKernel
public import proofs.«01_k».proof.Proof.LossRef
public import proofs.«01_k».proof.Proof.Gen.RLossIdeal.Run
public import proofs.«01_k».proof.Defs
public import Idealize.ShloMosaic.Lib.Claim

@[expose] public section

set_option maxRecDepth 16384

namespace Cert.Proof
open Idealize.ShloMosaic Idealize.ShloMosaic.TcCoe Idealize.SL.Sem

theorem algebraic_loss : Cert.algebraic_KLossIdeal_RLossIdeal_pre_finite_loss := by
  pair_intro
  · run_from Cert.KLossIdeal.RefValue.run m g
  · run_from Cert.RLossIdeal.Value.run m' g'
    · obtain ⟨h0, h2, h3, h4⟩ := Cert.RLossIdeal.RefValue.finite _ _ _ _ _ (hpre c)
      rw [Cert.RLossIdeal.Read.val_main_v38_eq (F := Ideal) m' c, (hagree c).1, (hagree c).2.2.1, (hagree c).2.2.2.1, (hagree c).2.2.2.2]
      exact funext fun j => Cert.RLossIdeal.RefValue.ref0 _ _ _ _ h0 h2 h3 h4 j
    · obtain ⟨h0, h2, h3, h4⟩ := Cert.RLossIdeal.RefValue.finite _ _ _ _ _ (hpre c)
      rw [Cert.RLossIdeal.Read.val_main_v78_eq (F := Ideal) m' c, (hagree c).1, (hagree c).2.2.1, (hagree c).2.2.2.1, (hagree c).2.2.2.2]
      exact Cert.RLossIdeal.RefValue.ref1 _ _ _ _ h0 h2 h3 h4
    · obtain ⟨h0, h2, h3, h4⟩ := Cert.RLossIdeal.RefValue.finite _ _ _ _ _ (hpre c)
      rw [Cert.RLossIdeal.Read.val_main_v79_eq (F := Ideal) m' c, (hagree c).1, (hagree c).2.2.1, (hagree c).2.2.2.1, (hagree c).2.2.2.2]
      exact Cert.RLossIdeal.RefValue.ref2 _ _ _ _ h0 h2 h3 h4
    · rw [Cert.RLossIdeal.Read.val_main_v76_eq (F := Ideal) m' c, (hagree c).1, (hagree c).2.2.1, (hagree c).2.2.2.1, (hagree c).2.2.2.2]
      exact Cert.RLossIdeal.RefValue.ref3 _ _ _ _
    · refine Eq.trans ?_ (Cert.RLossIdeal.RefValue.ref4 _ _ _ _)
      exact Cert.RLossIdeal.Read.val_main_v75_eq (F := Ideal) _ _ _ _

end Cert.Proof
-- ==== Proof.LnF.lean ====
/- The layer norm of the forward pass: every row of the sequences, and of the rows after them, normalised, scaled and shifted. -/
module

public import proofs.«01_k».proof.Proof.Gen.KLnFIdeal.Value
public import proofs.«01_k».proof.Proof.Gen.RLnFIdeal.Run
public import proofs.«01_k».proof.Proof.Gen.RLnFIdeal.Read
public import proofs.«01_k».proof.Defs
public import proofs.«01_k».proof.Proof.Rows
public import proofs.«01_k».proof.Proof.RowNorm
public import Idealize.ShloMosaic.Lib.Pipeline.ValueKit
public import Idealize.ShloMosaic.Lib.Claim

@[expose] public section

set_option maxRecDepth 16384

noncomputable section

namespace Cert.KLnFIdeal.RefValue
open Cert.KLnFIdeal Cert.KLnFIdeal.Gen Idealize.ShloMosaic Idealize.ShloMosaic.TcCoe Idealize.SL.Sem
open Idealize.ShloMosaic.Pipeline (Dat)
open Cert.Rows Cert.RowNorm

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The row of the array that row `r` of block `t` is. -/
def grow (t : Fin cfg0.N) (r : Fin 128) : Fin 4224 := ⟨t.val * 128 + r.val, by have := lt_of_lt_of_eq t.isLt N_0; omega⟩

/-- The rows with the other rows after them. -/
def hostX (X0 : FVec Ideal S2x2064x4096 .f32) (T : FVec Ideal S96x4096 .f32) : FVec Ideal S4224x4096 .f32 :=
  concatenate S4224x4096 0 [⟨S4128x4096, shapeCast S4128x4096 X0 shapeCasts_S2x2064x4096_S4128x4096⟩, ⟨S96x4096, T⟩] concatenates_S4128x4096_S96x4096_S4224x4096_d0

/-- Every row normalised, scaled and shifted. -/
def normed (X : FVec Ideal S4224x4096 .f32) (g b : FVec Ideal S1x4096 .f32) : FVec Ideal S4224x4096 .f32 := fun j =>
  xhat (fun l => X (ix2 (j 0) l)) (j 1) * g (ix2 0 (j 1)) + b (ix2 0 (j 1))

theorem V_v1 (c : Dev nD) : V m c main_v1 = hostX (m ((c : Thread nD τ).loc main_arg0)) (m ((c : Thread nD τ).loc main_arg1)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results
  rfl

theorem blk_x (c : Dev nD) (t : Fin cfg0.N) (r : Fin 128) (l : Fin 4096) : iblk m c 0 t (ix2 r l)
    = hostX (m ((c : Thread nD τ).loc main_arg0)) (m ((c : Thread nD τ).loc main_arg1)) (ix2 (grow t r) l) := by
  blk_simp [iblk]
  refine Eq.trans (b := V m c main_v1 (ix2 (grow t r) l)) ?_ ?_
  · blk_ext [idx t, grow]
  · rw [V_v1]

theorem blk_g (c : Dev nD) (t : Fin cfg0.N) (l : Fin 4096) : iblk m c 1 t (ix2 0 l) = m ((c : Thread nD τ).loc main_arg2) (ix2 0 l) := by
  blk_ext [iblk, V, idx t]

theorem blk_b (c : Dev nD) (t : Fin cfg0.N) (l : Fin 4096) : iblk m c 2 t (ix2 0 l) = m ((c : Thread nD τ).loc main_arg3) (ix2 0 l) := by
  blk_ext [iblk, V, idx t]

theorem pay1 (x : Vec Ideal S128x4096 .f32) (g b : Vec Ideal S1x4096 .f32) (r : Fin 128) (l : Fin 4096) :
    k0_pay1 x g b (ix2 r l) = xhat (fun l => x (ix2 r l)) l * g (ix2 0 l) + b (ix2 0 l) := by
  pointwise [k0_pay1]
  rfl

theorem pay2 (x : Vec Ideal S128x4096 .f32) (g b : Vec Ideal S1x4096 .f32) (r : Fin 128) (l : Fin 4096) :
    k0_pay2 x g b (ix2 r l) = xhat (fun l => x (ix2 r l)) l * g (ix2 0 l) + b (ix2 0 l) := by
  rw [← pay1]
  pointwise [k0_pay2]

/-- The blocks' rows, normalised. -/
theorem block (c : Dev nD) (t : Fin cfg0.N) (r : Fin 128) (l : Fin 4096) :
    xhat (fun l => iblk m c 0 t (ix2 r l)) l * (show EReal from iblk m c 1 t (ix2 0 l)) + (show EReal from iblk m c 2 t (ix2 0 l))
      = normed (hostX (m ((c : Thread nD τ).loc main_arg0)) (m ((c : Thread nD τ).loc main_arg1))) (m ((c : Thread nD τ).loc main_arg2))
          (m ((c : Thread nD τ).loc main_arg3)) (ix2 (grow t r) l) := by
  rw [show (fun l => iblk m c 0 t (ix2 r l)) = _ from funext fun l => blk_x m c t r l, blk_g, blk_b]
  rfl

theorem final3 (c : Dev nD) : (dats m 0 c).arrAt 3 (cfgs 0).N
    = normed (hostX (m ((c : Thread nD τ).loc main_arg0)) (m ((c : Thread nD τ).loc main_arg1))) (m ((c : Thread nD τ).loc main_arg2)) (m ((c : Thread nD τ).loc main_arg3)) := by
  refine (dats m 0 c).arrAt_eq_of_covers 3 _ (by decide +kernel) fun t _ y => ?_
  obtain ⟨r, l, rfl⟩ : ∃ (r : Fin 128) (l : Fin 4096), y = ix2 r l := ⟨y 0, y 1, eq_ix2 y⟩
  have he : ((cfg0.win 3).blk t).view.emb (ix2 r l) = ix2 (grow t r) l := by
    blk_ext [idx t, grow]
  rw [he]
  blk_simp
  rw [after0_3, ← block, ← pay1]
  unfold out0_3
  frame_out

theorem final4 (c : Dev nD) : (dats m 0 c).arrAt 4 (cfgs 0).N
    = (normed (hostX (m ((c : Thread nD τ).loc main_arg0)) (m ((c : Thread nD τ).loc main_arg1))) (m ((c : Thread nD τ).loc main_arg2)) (m ((c : Thread nD τ).loc main_arg3)) : FVec Ideal S4224x4096 .bf16) := by
  refine (dats m 0 c).arrAt_eq_of_covers 4 _ (by decide +kernel) fun t _ y => ?_
  obtain ⟨r, l, rfl⟩ : ∃ (r : Fin 128) (l : Fin 4096), y = ix2 r l := ⟨y 0, y 1, eq_ix2 y⟩
  have he : ((cfg0.win 4).blk t).view.emb (ix2 r l) = ix2 (grow t r) l := by
    blk_ext [idx t, grow]
  rw [he]
  blk_simp
  rw [after0_4]
  have hb : k0_pay2 (F := Ideal) (iblk m c 0 t) (iblk m c 1 t) (iblk m c 2 t) (ix2 r l) = normed (hostX (m ((c : Thread nD τ).loc main_arg0)) (m ((c : Thread nD τ).loc main_arg1)))
      (m ((c : Thread nD τ).loc main_arg2)) (m ((c : Thread nD τ).loc main_arg3)) (ix2 (grow t r) l) := (pay2 _ _ _ r l).trans (block m c t r l)
  refine Eq.trans ?_ hb
  unfold out0_4
  frame_out

end Cert.KLnFIdeal.RefValue

namespace Cert.RLnFIdeal.RefValue
open Cert.RLnFIdeal Cert.RLnFIdeal.Gen Cert.RLnFIdeal.Read Idealize.ShloMosaic Idealize.ShloMosaic.TcCoe Idealize.SL.Sem
open Cert.Rows Cert.RowNorm
open Cert.KLnFIdeal.RefValue (hostX normed)

variable (X0 : FVec Ideal S2x2064x4096 .f32) (X1 : FVec Ideal S96x4096 .f32) (X2 X3 : FVec Ideal S1x4096 .f32)

theorem stage9 (R : Fin 4224) (l : Fin 4096) : val_main_v9 (F := Ideal) X0 X1 (ix2 R l) = centred (fun l => hostX X0 X1 (ix2 R l)) l := by
  have h : val_main_v1 (F := Ideal) X0 X1 = hostX X0 X1 := rfl
  unfold val_main_v9 val_main_v8 val_main_v7 val_main_v5 val_main_v4
  rw [h]
  generalize hostX X0 X1 = X
  pointwise [val_main_v6, val_main_cst, val_main_cst_0]
  rfl

theorem stage17 (R : Fin 4224) : val_main_v17 (F := Ideal) X0 X1 (ix2 R 0) = rstd (fun l => hostX X0 X1 (ix2 R l)) := by
  have h := stage9 X0 X1 R
  unfold val_main_v17 val_main_v16 val_main_v14 val_main_v12 val_main_v11 val_main_v10
  generalize val_main_v9 (F := Ideal) X0 X1 = Q at h ⊢
  pointwise [val_main_v13, val_main_v15, val_main_cst_1, val_main_cst_2, val_main_cst_3]
  simp only [h]
  rfl

theorem ref25 : val_main_v25 (F := Ideal) X0 X1 X2 X3 = normed (hostX X0 X1) X2 X3 := by
  funext j
  idx_vars j
  have h := stage9 X0 X1 j0 j1
  have h' := stage17 X0 X1 j0
  unfold val_main_v25 val_main_v22 val_main_v19 val_main_v18
  generalize val_main_v9 (F := Ideal) X0 X1 = Q at h ⊢
  generalize val_main_v17 (F := Ideal) X0 X1 = Q' at h' ⊢
  pointwise [val_main_v21, val_main_v20, val_main_v2, val_main_v24, val_main_v23, val_main_v3]
  rw [h, h']; rfl

theorem ref26 : val_main_v26 (F := Ideal) X0 X1 X2 X3 = (normed (hostX X0 X1) X2 X3 : FVec Ideal S4224x4096 .bf16) := by
  unfold val_main_v26
  rw [ref25]
  funext j
  pointwise

end Cert.RLnFIdeal.RefValue

namespace Cert.Proof
open Idealize.ShloMosaic Idealize.ShloMosaic.TcCoe Idealize.SL.Sem

theorem algebraic_lnf : Cert.algebraic_KLnFIdeal_RLnFIdeal := by
  pair_intro
  · run_from Cert.KLnFIdeal.Value.run_blocks m g
  · run_from Cert.RLnFIdeal.Value.run m' g'
    · rw [Cert.KLnFIdeal.RefValue.final3 m]
      refine Eq.trans ?_ (Cert.RLnFIdeal.RefValue.ref25 _ _ _ _)
      exact Cert.RLnFIdeal.Read.val_main_v25_eq (F := Ideal) _ _ _ _
    · rw [Cert.KLnFIdeal.RefValue.final4 m]
      refine Eq.trans ?_ (Cert.RLnFIdeal.RefValue.ref26 _ _ _ _)
      exact Cert.RLnFIdeal.Read.val_main_v26_eq (F := Ideal) _ _ _ _
end Cert.Proof
end
-- ==== Proof.GufAcc.lean ====
/- The gate and up products of the gated feed-forward's first kernel, summed over their four parts. -/
module

public import proofs.«01_k».proof.Proof.Gen.KGuFIdeal.Frame
public import proofs.«01_k».proof.Proof.Rows
public import Idealize.ShloMosaic.Lib.Pipeline.ValueKit
public import Idealize.ShloMosaic.Lib.Pipeline.ReadBack

@[expose] public section

set_option maxRecDepth 16384

noncomputable section

namespace Cert.KGuFIdeal.RefValue
open Cert.KGuFIdeal Cert.KGuFIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem idx : ∀ t : Fin cfg0.N, win0_0.index t = ![t.val / 16, t.val % 4] ∧ win0_1.index t = ![t.val / 4 % 4, t.val % 4, 0]
    ∧ win0_2.index t = ![t.val / 4 % 4 + 4, t.val % 4, 0] ∧ win0_3.index t = ![t.val / 4 % 4, 0, t.val / 16, 0]
    ∧ win0_4.index t = ![t.val / 4 % 4, t.val / 16, 0] :=
  (by decide +kernel : ∀ t : Fin grid0.N, _)

theorem N_lt (t : Fin cfg0.N) : t.val < 128 := lt_of_lt_of_eq t.isLt N_0

/-- The row of the array that row `r` of block `t` is, -/
def grow (t : Fin cfg0.N) (r : Fin 528) : Fin 4224 := ⟨t.val / 16 * 528 + r.val, by have := N_lt t; omega⟩
/-- its shard, -/
def gs (t : Fin cfg0.N) : Fin 4 := ⟨t.val / 4 % 4, Nat.mod_lt _ (by omega)⟩
/-- the column of the first matrix, of a gate (`w = 0`) or of an up product, -/
def gcol (w : Fin 2) (t : Fin cfg0.N) (f : Fin 2752) : Fin 22016 := ⟨w.val * 11008 + (gs t).val * 2752 + f.val, by have := (gs t).isLt; omega⟩
/-- and the place in the contraction. -/
def gk (t : Fin cfg0.N) (k : Fin 1024) : Fin 4096 := ⟨t.val % 4 * 1024 + k.val, by omega⟩

/-- The features of every row, the padding rows included. -/
def hostH (X0 : FVec Ideal S2x2064x4096 .f32) (T : FVec Ideal S96x4096 .f32) : FVec Ideal S4224x4096 .bf16 :=
  truncf .bf16 (concatenate S4224x4096 0 [⟨S4128x4096, shapeCast S4128x4096 X0 shapeCasts_S2x2064x4096_S4128x4096⟩, ⟨S96x4096, T⟩]
    concatenates_S4128x4096_S96x4096_S4224x4096_d0) bitsLt_bf16_f32

/-- The matrix by shards: four of the gates and four of the up products. -/
def hostW (W : FVec Ideal S1x4096x22016 .f32) : FVec Ideal S8x4096x2752 .bf16 :=
  transpose S8x4096x2752 [1, 0, 2] (shapeCast S4096x8x2752 (truncf .bf16 (shapeCast S4096x22016 W shapeCasts_S1x4096x22016_S4096x22016) bitsLt_bf16_f32)
    shapeCasts_S4096x22016_S4096x8x2752) transposes_S4096x8x2752_S8x4096x2752_1_0_2

theorem hostW_apply (W : FVec Ideal S1x4096x22016 .f32) (n : Fin 8) (d : Fin 4096) (f : Fin 2752) (k : Fin 22016) (hk : k.val = n.val * 2752 + f.val) :
    hostW W (ix3 n d f) = W (ix3 0 d k) := by
  obtain ⟨k, hk'⟩ := k
  change k = n.val * 2752 + f.val at hk
  subst hk
  pointwise [hostW]

theorem V_v2 (c : Dev nD) : V m c main_v2 = hostH (m ((c : Thread nD τ).loc main_arg0)) (m ((c : Thread nD τ).loc main_arg1)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results
  rfl

theorem V_v6 (c : Dev nD) : V m c main_v6 = hostW (m ((c : Thread nD τ).loc main_arg2)) := by
  unfold V
  simp only [hostOps0, List.flatten_cons, List.flatten_nil, List.append_nil, List.cons_append, List.nil_append, StableHlo.TRef.binary, StableHlo.TRef.unary, StableHlo.TRef.toBuf, StableHlo.TRef.ofBuf, cast_eq]
  after_results
  rfl

theorem blk_h (c : Dev nD) (t : Fin cfg0.N) (r : Fin 528) (k : Fin 1024) : iblk m c 0 t (ix2 r k)
    = hostH (m ((c : Thread nD τ).loc main_arg0)) (m ((c : Thread nD τ).loc main_arg1)) (ix2 (grow t r) (gk t k)) := by
  blk_simp [iblk]
  refine Eq.trans (b := V m c main_v2 (ix2 (grow t r) (gk t k))) ?_ ?_
  · blk_ext [idx t, grow, gk]
  · rw [V_v2]

/-- A block of the matrix, read from any contents of the buffers. -/
theorem read_g (c : Dev nD) (X : (b : Ref sig .tc) → Buf (Elt Ideal) ((c : Thread nD τ).loc b)) (t : Fin cfg0.N) (y : S1x1024x2752.Idx) :
    ((cfg0.win 1).blk t).view.read (Elt Ideal) (X (Pipeline.arrRef spec0 1)) y = X main_v6 (((cfg0.win 1).blk t).view.emb y) := rfl

theorem read_u (c : Dev nD) (X : (b : Ref sig .tc) → Buf (Elt Ideal) ((c : Thread nD τ).loc b)) (t : Fin cfg0.N) (y : S1x1024x2752.Idx) :
    ((cfg0.win 2).blk t).view.read (Elt Ideal) (X (Pipeline.arrRef spec0 2)) y = X main_v6 (((cfg0.win 2).blk t).view.emb y) := rfl

theorem emb_g (t : Fin cfg0.N) (k : Fin 1024) (f : Fin 2752) :
    ((cfg0.win 1).blk t).view.emb (ix3 0 k f) = ix3 (⟨t.val / 4 % 4, by omega⟩ : Fin 8) (gk t k) f := by
  have e := (idx t).2.1
  funext a; apply Fin.ext
  match a with
  | ⟨0, _⟩ =>
    show win0_1.index t 0 * 1 + 1 * 0 = t.val / 4 % 4
    rw [e]; show t.val / 4 % 4 * 1 + 0 = _; omega
  | ⟨1, _⟩ =>
    show win0_1.index t 1 * 1024 + 1 * k.val = t.val % 4 * 1024 + k.val
    rw [e]; show t.val % 4 * 1024 + 1 * k.val = _; omega
  | ⟨2, _⟩ =>
    show win0_1.index t 2 * 2752 + 1 * f.val = f.val
    rw [e]; show 0 * 2752 + 1 * f.val = _; omega

theorem emb_u (t : Fin cfg0.N) (k : Fin 1024) (f : Fin 2752) :
    ((cfg0.win 2).blk t).view.emb (ix3 0 k f) = ix3 (⟨t.val / 4 % 4 + 4, by omega⟩ : Fin 8) (gk t k) f := by
  have e := (idx t).2.2.1
  funext a; apply Fin.ext
  match a with
  | ⟨0, _⟩ =>
    show win0_2.index t 0 * 1 + 1 * 0 = t.val / 4 % 4 + 4
    rw [e]; show (t.val / 4 % 4 + 4) * 1 + 0 = _; omega
  | ⟨1, _⟩ =>
    show win0_2.index t 1 * 1024 + 1 * k.val = t.val % 4 * 1024 + k.val
    rw [e]; show t.val % 4 * 1024 + 1 * k.val = _; omega
  | ⟨2, _⟩ =>
    show win0_2.index t 2 * 2752 + 1 * f.val = f.val
    rw [e]; show 0 * 2752 + 1 * f.val = _; omega

/-- The block of the matrix that the gate's product takes (`w = 0`), or the up product's. -/
def wblk (c : Dev nD) (w : Fin 2) (t : Fin cfg0.N) : FVec Ideal S1x1024x2752 .bf16 := match w with
  | 0 => iblk m c 1 t
  | 1 => iblk m c 2 t

theorem blk_w (c : Dev nD) (w : Fin 2) (t : Fin cfg0.N) (k : Fin 1024) (f : Fin 2752) : wblk m c w t (ix3 0 k f)
    = m ((c : Thread nD τ).loc main_arg2) (ix3 0 (gk t k) (gcol w t f)) := by
  match w with
  | 0 =>
    refine (read_g c (V m c) t _).trans ((congrArg (V m c main_v6) (emb_g t k f)).trans ?_)
    rw [V_v6]
    exact hostW_apply _ _ _ _ _ (by show 0 * 11008 + t.val / 4 % 4 * 2752 + f.val = t.val / 4 % 4 * 2752 + f.val; omega)
  | 1 =>
    refine (read_u c (V m c) t _).trans ((congrArg (V m c main_v6) (emb_u t k f)).trans ?_)
    rw [V_v6]
    exact hostW_apply _ _ _ _ _ (by show 1 * 11008 + t.val / 4 % 4 * 2752 + f.val = (t.val / 4 % 4 + 4) * 2752 + f.val; omega)

/-! ## The products, summed over their four parts -/

theorem pay1_of (x0 : FVec Ideal S528x1024 .bf16) (x1 : FVec Ideal S1x1024x2752 .bf16) (r : Fin 528) (f : Fin 2752) (a b : Fin 1024 → EReal)
    (h0 : ∀ k, x0 (ix2 r k) = a k) (h1 : ∀ k, x1 (ix3 0 k f) = b k) : k0_pay1 (F := Ideal) x0 x1 (ix2 r f) = ∑ k, a k * b k := by
  pointwise [k0_pay1]
  exact Finset.sum_congr rfl fun k _ => congrArg₂ (· * ·) (h0 k) (h1 k)

theorem pay3_of (xs : FVec Ideal S528x2752 .f32) (x0 : FVec Ideal S528x1024 .bf16) (x1 : FVec Ideal S1x1024x2752 .bf16) (r : Fin 528) (f : Fin 2752)
    (a b : Fin 1024 → EReal) (h0 : ∀ k, x0 (ix2 r k) = a k) (h1 : ∀ k, x1 (ix3 0 k f) = b k) :
    k0_pay3 (F := Ideal) xs x0 x1 (ix2 r f) = xs (ix2 r f) + ∑ k, a k * b k := by
  pointwise [k0_pay3]
  exact congrArg (xs (ix2 r f) + ·) (Finset.sum_congr rfl fun k _ => congrArg₂ (· * ·) (h0 k) (h1 k))

/-- A row of the features against a column of the matrix. -/
def dot (H : FVec Ideal S4224x4096 .bf16) (W : FVec Ideal S1x4096x22016 .f32) (R : Fin 4224) (n : Fin 22016) : EReal :=
  ∑ d : Fin 4096, H (ix2 R d) * W (ix3 0 d n)

/-- What step `t` adds. -/
def term (c : Dev nD) (w : Fin 2) (t : Fin cfg0.N) (y : S528x2752.Idx) : EReal :=
  ∑ k : Fin 1024, hostH (m ((c : Thread nD τ).loc main_arg0)) (m ((c : Thread nD τ).loc main_arg1)) (ix2 (grow t (y 0)) (gk t k))
    * (show EReal from m ((c : Thread nD τ).loc main_arg2) (ix3 0 (gk t k) (gcol w t (y 1))))

theorem pay1_term (c : Dev nD) (w : Fin 2) (t : Fin cfg0.N) (y : S528x2752.Idx) : k0_pay1 (F := Ideal) (iblk m c 0 t) (wblk m c w t) y = term m c w t y := by
  obtain ⟨r, f, rfl⟩ : ∃ (r : Fin 528) (f : Fin 2752), y = ix2 r f := ⟨y 0, y 1, eq_ix2 y⟩
  exact pay1_of _ _ r f _ _ (fun k => blk_h m c t r k) (fun k => blk_w m c w t k f)

theorem pay3_term (c : Dev nD) (w : Fin 2) (t : Fin cfg0.N) (xs : FVec Ideal S528x2752 .f32) (y : S528x2752.Idx) :
    k0_pay3 (F := Ideal) xs (iblk m c 0 t) (wblk m c w t) y = xs y + term m c w t y := by
  obtain ⟨r, f, rfl⟩ : ∃ (r : Fin 528) (f : Fin 2752), y = ix2 r f := ⟨y 0, y 1, eq_ix2 y⟩
  exact pay3_of xs _ _ r f _ _ (fun k => blk_h m c t r k) (fun k => blk_w m c w t k f)

/-- The scratch the gate's product is summed in (`w = 0`), or the up product's. -/
def scr (c : Dev nD) (w : Fin 2) (n : ℕ) (h : n < cfg0.N) : FVec Ideal S528x2752 .f32 := match w with
  | 0 => (outsAt0 m c n h).2.2.1
  | 1 => (outsAt0 m c n h).2.2.2

theorem scr_first (c : Dev nD) (w : Fin 2) (t : Fin cfg0.N) (h : t.val % 4 = 0) : scr m c w t.val t.isLt = k0_pay1 (iblk m c 0 t) (wblk m c w t) := by
  match w with
  | 0 => show (outsAt0 m c t.val t.isLt).2.2.1 = k0_pay1 (iblk m c 0 t) (iblk m c 1 t); rw [outsAt0_A m c t h (by omega) (by omega)]; frame_out
  | 1 => show (outsAt0 m c t.val t.isLt).2.2.2 = k0_pay2 (iblk m c 0 t) (iblk m c 2 t); rw [outsAt0_A m c t h (by omega) (by omega)]; frame_out

theorem scr_next (c : Dev nD) (w : Fin 2) (t : Fin cfg0.N) (h : ¬t.val % 4 = 0) : scr m c w t.val t.isLt
    = k0_pay3 (scr m c w (t.val - 1) (Nat.lt_of_le_of_lt (Nat.sub_le _ _) t.isLt)) (iblk m c 0 t) (wblk m c w t) := by
  match w with
  | 0 =>
    show (outsAt0 m c t.val t.isLt).2.2.1 = k0_pay3 (outsAt0 m c (t.val - 1) _).2.2.1 (iblk m c 0 t) (iblk m c 1 t)
    by_cases h3 : t.val % 4 = 3
    · rw [outsAt0_C m c t h (by omega) h3]; frame_out; simp only [read_unread_whole]
    · rw [outsAt0_B m c t h (by omega) h3]; frame_out; simp only [read_unread_whole]
  | 1 =>
    show (outsAt0 m c t.val t.isLt).2.2.2 = k0_pay4 (outsAt0 m c (t.val - 1) _).2.2.2 (iblk m c 0 t) (iblk m c 2 t)
    by_cases h3 : t.val % 4 = 3
    · rw [outsAt0_C m c t h (by omega) h3]; frame_out; simp only [read_unread_whole]
    · rw [outsAt0_B m c t h (by omega) h3]; frame_out; simp only [read_unread_whole]

/-- After the last step: the whole product. -/
theorem scr_last (c : Dev nD) (w : Fin 2) (t : Fin cfg0.N) (h : t.val % 4 = 3) (r : Fin 528) (f : Fin 2752) : scr m c w t.val t.isLt (ix2 r f)
    = dot (hostH (m ((c : Thread nD τ).loc main_arg0)) (m ((c : Thread nD τ).loc main_arg1))) (m ((c : Thread nD τ).loc main_arg2)) (grow t r) (gcol w t f) := by
  rw [Pipeline.eq_sum_fin_of_reset_step_apply_of_flush (fun n h => scr m c w n h) 4 (fun _ => (0 : EReal)) (term m c w)
    (fun t h j => by rw [scr_first m c w t h, pay1_term]; exact (zero_add _).symm)
    (fun t h j => by rw [scr_next m c w t h, pay3_term]) t h _, zero_add]
  have ht := N_lt t
  refine (Finset.sum_congr rfl fun s _ => ?_).trans (Fin.sum_mul_add_fin 4 1024 fun d : Fin 4096 =>
    hostH (m ((c : Thread nD τ).loc main_arg0)) (m ((c : Thread nD τ).loc main_arg1)) (ix2 (grow t r) d)
      * (show EReal from m ((c : Thread nD τ).loc main_arg2) (ix3 0 d (gcol w t f))))
  refine Finset.sum_congr rfl fun k _ => ?_
  have hs := s.isLt
  have hlt := Pipeline.run_point_lt_of_flush t h s
  have e1 : gk ⟨4 * (t.val / 4) + s.val, hlt⟩ k = ⟨s.val * 1024 + k.val, by omega⟩ :=
    Fin.ext (by show (4 * (t.val / 4) + s.val) % 4 * 1024 + k.val = s.val * 1024 + k.val; omega)
  have e2 : grow ⟨4 * (t.val / 4) + s.val, hlt⟩ r = grow t r :=
    Fin.ext (by show (4 * (t.val / 4) + s.val) / 16 * 528 + r.val = t.val / 16 * 528 + r.val; omega)
  have e3 : gcol w ⟨4 * (t.val / 4) + s.val, hlt⟩ f = gcol w t f :=
    Fin.ext (by show w.val * 11008 + (4 * (t.val / 4) + s.val) / 4 % 4 * 2752 + f.val = w.val * 11008 + t.val / 4 % 4 * 2752 + f.val; omega)
  show hostH (m ((c : Thread nD τ).loc main_arg0)) (m ((c : Thread nD τ).loc main_arg1)) (ix2 (grow ⟨4 * (t.val / 4) + s.val, hlt⟩ r) (gk ⟨4 * (t.val / 4) + s.val, hlt⟩ k))
    * (show EReal from m ((c : Thread nD τ).loc main_arg2) (ix3 0 (gk ⟨4 * (t.val / 4) + s.val, hlt⟩ k) (gcol w ⟨4 * (t.val / 4) + s.val, hlt⟩ f))) = _
  rw [e1, e2, e3]

end Cert.KGuFIdeal.RefValue
end
-- ==== Proof.GufLoop.lean ====
/- The last part of the gated feed-forward's first kernel: from the finished gate and up products, both of them and the gated product, 48
   rows a trip. -/
module

public import proofs.«01_k».proof.Proof.Gen.KGuFIdeal.Frame
public import proofs.«01_k».proof.Proof.DguMath
public import Idealize.ShloMosaic.Lib.Pipeline.ValueKit

@[expose] public section

set_option maxRecDepth 16384

noncomputable section

namespace Cert.KGuFIdeal.RefValue
open Cert.KGuFIdeal Cert.KGuFIdeal.Gen Idealize.ShloMosaic Idealize.ShloMosaic.TcCoe Idealize.SL.Sem
open Cert.Rows Cert.DguMath

/-- The gated product. -/
def gact (g u : EReal) : EReal := g * sgm g * u

theorem pay5 (a : Vec Ideal S48x2752 .f32) (q : Fin 48) (l : Fin 2752) : k0_pay5 a (ix4 0 0 q l) = a (ix2 q l) := by
  pointwise [k0_pay5]

theorem pay7 (a b : Vec Ideal S48x2752 .f32) (q : Fin 48) (l : Fin 2752) : k0_pay7 a b (ix3 0 q l) = gact (a (ix2 q l)) (b (ix2 q l)) := by
  pointwise [k0_pay7]
  rw [zero_sub]
  rfl

/-- What the loop writes into the first result: the two products. -/
def tileG (A B : Vec Ideal S528x2752 .f32) (y : S1x2x528x2752.Idx) : EReal := if (y 1).val = 0 then A (ix2 (y 2) (y 3)) else B (ix2 (y 2) (y 3))

/-- What the loop writes into the second: the gated product. -/
def tileA (A B : Vec Ideal S528x2752 .f32) (y : S1x528x2752.Idx) : EReal := gact (A (ix2 (y 1) (y 2))) (B (ix2 (y 1) (y 2)))

theorem off1 : ∀ k : Fin k0_t1_loop.trips, k0_off1 k = ![48 * k.val, 0] := by decide +kernel
theorem off2 : ∀ k : Fin k0_t1_loop.trips, k0_off2 k = ![0, 0, 48 * k.val, 0] := by decide +kernel
theorem off3 : ∀ k : Fin k0_t1_loop.trips, k0_off3 k = ![0, 1, 48 * k.val, 0] := by decide +kernel
theorem off4 : ∀ k : Fin k0_t1_loop.trips, k0_off4 k = ![0, 48 * k.val, 0] := by decide +kernel

/-- Row `q` of trip `k`. -/
def trow (k : Fin k0_t1_loop.trips) (q : Fin 48) : Fin 528 := ⟨48 * k.val + q.val, by have := Nat.lt_of_lt_of_le k.isLt k0_t1_abs.2.1; omega⟩

theorem emb1 (k : Fin k0_t1_loop.trips) (q : Fin 48) (l : Fin 2752) (inb) :
    (Rect.unit (s := S528x2752) (k0_off1 k) ![48, 2752] inb).emb (ix2 q l) = ix2 (trow k q) l := by
  funext a; apply Fin.ext
  match a with
  | ⟨0, _⟩ => show k0_off1 k 0 + 1 * q.val = 48 * k.val + q.val; rw [off1]; show 48 * k.val + 1 * q.val = _; omega
  | ⟨1, _⟩ => show k0_off1 k 1 + 1 * l.val = l.val; rw [off1]; show 0 + 1 * l.val = _; omega

theorem emb2 (k : Fin k0_t1_loop.trips) (q : Fin 48) (l : Fin 2752) (inb) :
    (Rect.unit (s := S1x2x528x2752) (k0_off2 k) ![1, 1, 48, 2752] inb).emb (ix4 0 0 q l) = ix4 0 0 (trow k q) l := by
  funext a; apply Fin.ext
  match a with
  | ⟨0, _⟩ => show k0_off2 k 0 + 1 * 0 = 0; rw [off2]; rfl
  | ⟨1, _⟩ => show k0_off2 k 1 + 1 * 0 = 0; rw [off2]; rfl
  | ⟨2, _⟩ => show k0_off2 k 2 + 1 * q.val = 48 * k.val + q.val; rw [off2]; show 48 * k.val + 1 * q.val = _; omega
  | ⟨3, _⟩ => show k0_off2 k 3 + 1 * l.val = l.val; rw [off2]; show 0 + 1 * l.val = _; omega

theorem emb3 (k : Fin k0_t1_loop.trips) (q : Fin 48) (l : Fin 2752) (inb) :
    (Rect.unit (s := S1x2x528x2752) (k0_off3 k) ![1, 1, 48, 2752] inb).emb (ix4 0 0 q l) = ix4 0 1 (trow k q) l := by
  funext a; apply Fin.ext
  match a with
  | ⟨0, _⟩ => show k0_off3 k 0 + 1 * 0 = 0; rw [off3]; rfl
  | ⟨1, _⟩ => show k0_off3 k 1 + 1 * 0 = 1; rw [off3]; rfl
  | ⟨2, _⟩ => show k0_off3 k 2 + 1 * q.val = 48 * k.val + q.val; rw [off3]; show 48 * k.val + 1 * q.val = _; omega
  | ⟨3, _⟩ => show k0_off3 k 3 + 1 * l.val = l.val; rw [off3]; show 0 + 1 * l.val = _; omega

theorem emb4 (k : Fin k0_t1_loop.trips) (q : Fin 48) (l : Fin 2752) (inb) :
    (Rect.unit (s := S1x528x2752) (k0_off4 k) ![1, 48, 2752] inb).emb (ix3 0 q l) = ix3 0 (trow k q) l := by
  funext a; apply Fin.ext
  match a with
  | ⟨0, _⟩ => show k0_off4 k 0 + 1 * 0 = 0; rw [off4]; rfl
  | ⟨1, _⟩ => show k0_off4 k 1 + 1 * q.val = 48 * k.val + q.val; rw [off4]; show 48 * k.val + 1 * q.val = _; omega
  | ⟨2, _⟩ => show k0_off4 k 2 + 1 * l.val = l.val; rw [off4]; show 0 + 1 * l.val = _; omega

/-- An index of a trip's piece of the first result, -/
theorem idx4 (x : S1x1x48x2752.Idx) : ∃ (q : Fin 48) (l : Fin 2752), x = ix4 0 0 q l := ⟨x 2, x 3, by
  funext a; apply Fin.ext
  match a with
  | ⟨0, _⟩ => have := (x 0).isLt; change (x 0).val < 1 at this; show (x 0).val = 0; omega
  | ⟨1, _⟩ => have := (x 1).isLt; change (x 1).val < 1 at this; show (x 1).val = 0; omega
  | ⟨2, _⟩ => rfl
  | ⟨3, _⟩ => rfl⟩

/-- and of the second. -/
theorem idx3 (x : S1x48x2752.Idx) : ∃ (q : Fin 48) (l : Fin 2752), x = ix3 0 q l := ⟨x 1, x 2, by
  funext a; apply Fin.ext
  match a with
  | ⟨0, _⟩ => have := (x 0).isLt; change (x 0).val < 1 at this; show (x 0).val = 0; omega
  | ⟨1, _⟩ => rfl
  | ⟨2, _⟩ => rfl⟩

section Trips
variable (c : Dev nD) (i : grid0.Coords) (arg3 : Memref sig .tc .vmem S528x1024 .bf16) (harg3 : arg3.IsWhole) (arg4 : Memref sig .tc .vmem S1x1024x2752 .bf16) (harg4 : arg4.IsWhole) (arg5 : Memref sig .tc .vmem S1x1024x2752 .bf16) (harg5 : arg5.IsWhole)
    (arg6 : Memref sig .tc .vmem S1x2x528x2752 .bf16) (harg6 : arg6.IsWhole) (arg7 : Memref sig .tc .vmem S1x528x2752 .bf16) (harg7 : arg7.IsWhole)
    (arg8 : Memref sig .tc .vmem S528x2752 .f32) (harg8 : arg8.IsWhole) (arg9 : Memref sig .tc .vmem S528x2752 .f32) (harg9 : arg9.IsWhole) (h3 : k0_cond3 i = 1#1)
  (X8 : BufTy.Contents (Elt Ideal) arg8.view.ty) (X9 : BufTy.Contents (Elt Ideal) arg9.view.ty)

theorem trip_pieces3 (k : Fin k0_t1_loop.trips) :
    ∀ p ∈ (tripL_k0_t1 (F := Ideal) Variants.none c none i arg3 harg3 arg4 harg4 arg5 harg5 arg6 harg6 arg7 harg7 arg8 harg8 arg9 harg9 h3 X8 X9 k).1, ∀ x : p.1.shape.Idx,
      p.2 x = tileG (arg8.view.read (Elt Ideal) X8) (arg9.view.read (Elt Ideal) X9) (p.1.emb x) := by
  unfold tripL_k0_t1 trip_k0_t1
  dsimp only
  intro p hp x
  rcases List.mem_cons.mp hp with rfl | hp
  · obtain ⟨q, l, rfl⟩ := idx4 x
    refine (pay5 _ q l).trans ?_
    dsimp only
    rw [emb3]
    exact congrArg (arg9.view.read (Elt Ideal) X9) (emb1 k q l _)
  · rcases List.mem_singleton.mp hp with rfl
    obtain ⟨q, l, rfl⟩ := idx4 x
    refine (pay5 _ q l).trans ?_
    dsimp only
    rw [emb2]
    exact congrArg (arg8.view.read (Elt Ideal) X8) (emb1 k q l _)

theorem trip_pieces4 (k : Fin k0_t1_loop.trips) :
    ∀ p ∈ (tripL_k0_t1 (F := Ideal) Variants.none c none i arg3 harg3 arg4 harg4 arg5 harg5 arg6 harg6 arg7 harg7 arg8 harg8 arg9 harg9 h3 X8 X9 k).2, ∀ x : p.1.shape.Idx,
      p.2 x = tileA (arg8.view.read (Elt Ideal) X8) (arg9.view.read (Elt Ideal) X9) (p.1.emb x) := by
  unfold tripL_k0_t1 trip_k0_t1
  dsimp only
  intro p hp x
  rcases List.mem_singleton.mp hp with rfl
  obtain ⟨q, l, rfl⟩ := idx3 x
  refine (pay7 _ _ q l).trans ?_
  dsimp only
  rw [emb4]
  exact congrArg₂ gact (congrArg (arg8.view.read (Elt Ideal) X8) (emb1 k q l _)) (congrArg (arg9.view.read (Elt Ideal) X9) (emb1 k q l _))

theorem loop_pieces (n : ℕ) (hn : n ≤ k0_t1_loop.trips) :
    (∀ p ∈ (pb_k0_t1 (F := Ideal) Variants.none c none i arg3 harg3 arg4 harg4 arg5 harg5 arg6 harg6 arg7 harg7 arg8 harg8 arg9 harg9 h3 X8 X9 n).1, ∀ x : p.1.shape.Idx,
      p.2 x = tileG (arg8.view.read (Elt Ideal) X8) (arg9.view.read (Elt Ideal) X9) (p.1.emb x))
    ∧ ∀ p ∈ (pb_k0_t1 (F := Ideal) Variants.none c none i arg3 harg3 arg4 harg4 arg5 harg5 arg6 harg6 arg7 harg7 arg8 harg8 arg9 harg9 h3 X8 X9 n).2, ∀ x : p.1.shape.Idx,
      p.2 x = tileA (arg8.view.read (Elt Ideal) X8) (arg9.view.read (Elt Ideal) X9) (p.1.emb x) := by
  induction n with
  | zero => exact ⟨fun p hp => absurd hp List.not_mem_nil, fun p hp => absurd hp List.not_mem_nil⟩
  | succ n ih =>
    obtain ⟨ih3, ih4⟩ := ih (Nat.le_of_succ_le hn)
    rw [pb_k0_t1_succ (F := Ideal) Variants.none c none i arg3 harg3 arg4 harg4 arg5 harg5 arg6 harg6 arg7 harg7 arg8 harg8 arg9 harg9 h3 X8 X9 ⟨n, hn⟩]
    refine ⟨fun p hp => ?_, fun p hp => ?_⟩
    · rcases List.mem_append.mp hp with hp | hp
      · exact trip_pieces3 c i arg3 harg3 arg4 harg4 arg5 harg5 arg6 harg6 arg7 harg7 arg8 harg8 arg9 harg9 h3 X8 X9 ⟨n, hn⟩ p hp
      · exact ih3 p hp
    · rcases List.mem_append.mp hp with hp | hp
      · exact trip_pieces4 c i arg3 harg3 arg4 harg4 arg5 harg5 arg6 harg6 arg7 harg7 arg8 harg8 arg9 harg9 h3 X8 X9 ⟨n, hn⟩ p hp
      · exact ih4 p hp
end Trips

section Last
variable (c : Dev nD) (i : grid0.Coords) (arg3 : Memref sig .tc .vmem S528x1024 .bf16) (harg3 : arg3.IsWhole) (arg4 : Memref sig .tc .vmem S1x1024x2752 .bf16) (harg4 : arg4.IsWhole) (arg5 : Memref sig .tc .vmem S1x1024x2752 .bf16) (harg5 : arg5.IsWhole)
    (arg6 : Memref sig .tc .vmem S1x2x528x2752 .bf16) (harg6 : arg6.IsWhole) (arg7 : Memref sig .tc .vmem S1x528x2752 .bf16) (harg7 : arg7.IsWhole)
    (arg8 : Memref sig .tc .vmem S528x2752 .f32) (harg8 : arg8.IsWhole) (arg9 : Memref sig .tc .vmem S528x2752 .f32) (harg9 : arg9.IsWhole) (hc0 : ¬cond0_0 i) (hc1 : cond0_1 i) (hc2 : cond0_2 i)
    (x0 : FVec Ideal S528x1024 .bf16) (x1 x2 : FVec Ideal S1x1024x2752 .bf16) (xs0 xs1 : FVec Ideal S528x2752 .f32)

/-- The pieces of the last step of a contraction are the loop's, from the products the step before and this step add up to. -/
theorem last_pieces : (∀ p ∈ (kernelRun0_C (F := Ideal) c i arg3 harg3 arg4 harg4 arg5 harg5 arg6 harg6 arg7 harg7 arg8 harg8 arg9 harg9 hc0 hc1 hc2 x0 x1 x2 xs0 xs1).1, ∀ x : p.1.shape.Idx,
      p.2 x = tileG (k0_pay3 (F := Ideal) xs0 x0 x1) (k0_pay3 (F := Ideal) xs1 x0 x2) (p.1.emb x))
    ∧ ∀ p ∈ (kernelRun0_C (F := Ideal) c i arg3 harg3 arg4 harg4 arg5 harg5 arg6 harg6 arg7 harg7 arg8 harg8 arg9 harg9 hc0 hc1 hc2 x0 x1 x2 xs0 xs1).2.1, ∀ x : p.1.shape.Idx,
      p.2 x = tileA (k0_pay3 (F := Ideal) xs0 x0 x1) (k0_pay3 (F := Ideal) xs1 x0 x2) (p.1.emb x) := by
  unfold kernelRun0_C
  dsimp only
  refine ⟨fun p hp x => ?_, fun p hp x => ?_⟩
  · refine ((loop_pieces c i arg3 harg3 arg4 harg4 arg5 harg5 arg6 harg6 arg7 harg7 arg8 harg8 arg9 harg9 _ _ _ _ (le_refl _)).1 p hp x).trans ?_
    refine congrArg₂ (fun a b => tileG a b (p.1.emb x)) ?_ ?_
    · unfold kernelRun0_C.sl.HS0_1
      rw [View.read_writes_junk_eq_canon]
      frame_out
    · unfold kernelRun0_C.sl.HS1_1
      rw [View.read_writes_junk_eq_canon]
      frame_out
      rfl
  · refine ((loop_pieces c i arg3 harg3 arg4 harg4 arg5 harg5 arg6 harg6 arg7 harg7 arg8 harg8 arg9 harg9 _ _ _ _ (le_refl _)).2 p hp x).trans ?_
    refine congrArg₂ (fun a b => tileA a b (p.1.emb x)) ?_ ?_
    · unfold kernelRun0_C.sl.HS0_1
      rw [View.read_writes_junk_eq_canon]
      frame_out
    · unfold kernelRun0_C.sl.HS1_1
      rw [View.read_writes_junk_eq_canon]
      frame_out
      rfl

theorem out_C_3 (y : S1x2x528x2752.Idx) :
    out0_C_3 (F := Ideal) c i arg3 harg3 arg4 harg4 arg5 harg5 arg6 harg6 arg7 harg7 arg8 harg8 arg9 harg9 hc0 hc1 hc2 x0 x1 x2 xs0 xs1 y = tileG (k0_pay3 (F := Ideal) xs0 x0 x1) (k0_pay3 (F := Ideal) xs1 x0 x2) y := by
  unfold out0_C_3
  rw [View.read_writes_junk_apply_eq_canon]
  exact View.canon_apply_of_pieces _ _ (last_pieces c i arg3 harg3 arg4 harg4 arg5 harg5 arg6 harg6 arg7 harg7 arg8 harg8 arg9 harg9 hc0 hc1 hc2 x0 x1 x2 xs0 xs1).1 y
    (cover0_C_3 (F := Ideal) c i arg3 harg3 arg4 harg4 arg5 harg5 arg6 harg6 arg7 harg7 arg8 harg8 arg9 harg9 hc0 hc1 hc2 x0 x1 x2 xs0 xs1 y)

theorem out_C_4 (y : S1x528x2752.Idx) :
    out0_C_4 (F := Ideal) c i arg3 harg3 arg4 harg4 arg5 harg5 arg6 harg6 arg7 harg7 arg8 harg8 arg9 harg9 hc0 hc1 hc2 x0 x1 x2 xs0 xs1 y = tileA (k0_pay3 (F := Ideal) xs0 x0 x1) (k0_pay3 (F := Ideal) xs1 x0 x2) y := by
  unfold out0_C_4
  rw [View.read_writes_junk_apply_eq_canon]
  exact View.canon_apply_of_pieces _ _ (last_pieces c i arg3 harg3 arg4 harg4 arg5 harg5 arg6 harg6 arg7 harg7 arg8 harg8 arg9 harg9 hc0 hc1 hc2 x0 x1 x2 xs0 xs1).2 y
    (cover0_C_4 (F := Ideal) c i arg3 harg3 arg4 harg4 arg5 harg5 arg6 harg6 arg7 harg7 arg8 harg8 arg9 harg9 hc0 hc1 hc2 x0 x1 x2 xs0 xs1 y)

end Last

end Cert.KGuFIdeal.RefValue
end
-- ==== Proof.GuF.lean ====
/- The gated feed-forward's gate and up products with the gated product: the kernel's two results are the reference's. -/
module

public import proofs.«01_k».proof.Proof.GufAcc
public import proofs.«01_k».proof.Proof.GufLoop
public import proofs.«01_k».proof.Proof.Gen.KGuFIdeal.Value
public import proofs.«01_k».proof.Proof.Gen.RGuFIdeal.Run
public import proofs.«01_k».proof.Proof.Gen.RGuFIdeal.Read
public import proofs.«01_k».proof.Defs
public import Idealize.ShloMosaic.Lib.Pipeline.ValueKit
public import Idealize.ShloMosaic.Lib.Claim

@[expose] public section

set_option maxRecDepth 16384

noncomputable section

namespace Cert.KGuFIdeal.RefValue
open Cert.KGuFIdeal Cert.KGuFIdeal.Gen Idealize.ShloMosaic Idealize.ShloMosaic.TcCoe Idealize.SL.Sem
open Idealize.ShloMosaic.Pipeline (Dat)
open Cert.Rows

variable (m : (ℓ : Loc nD τ sig) → Buf (Elt Ideal) ℓ)

/-- The two products by shard. -/
def GU (H : FVec Ideal S4224x4096 .bf16) (W : FVec Ideal S1x4096x22016 .f32) : FVec Ideal S4x2x4224x2752 .bf16 := fun j =>
  dot H W (j 2) ⟨(j 1).val * 11008 + (j 0).val * 2752 + (j 3).val, by
    have h0 : (j 0).val < 4 := (j 0).isLt
    have h1 : (j 1).val < 2 := (j 1).isLt
    have h3 : (j 3).val < 2752 := (j 3).isLt
    omega⟩

/-- The gated product by shard. -/
def ACT (H : FVec Ideal S4224x4096 .bf16) (W : FVec Ideal S1x4096x22016 .f32) : FVec Ideal S4x4224x2752 .bf16 := fun j =>
  gact (GU H W (ix4 (j 0) 0 (j 1) (j 2))) (GU H W (ix4 (j 0) 1 (j 1) (j 2)))

theorem tileG_sum (A : Fin 2 → FVec Ideal S528x2752 .f32) (i : Fin 2) (q : Fin 528) (f : Fin 2752) : tileG (A 0) (A 1) (ix4 0 i q f) = A i (ix2 q f) := by
  match i with
  | 0 => rfl
  | 1 => rfl

theorem final3 (c : Dev nD) : (dats m 0 c).arrAt 3 cfg0.N
    = GU (hostH (m ((c : Thread nD τ).loc main_arg0)) (m ((c : Thread nD τ).loc main_arg1))) (m ((c : Thread nD τ).loc main_arg2)) := by
  refine (dats m 0 c).arrAt_eq_of_covers 3 _ (by decide +kernel) fun t hf y => ?_
  obtain ⟨i, q, f, rfl⟩ : ∃ (i : Fin 2) (q : Fin 528) (f : Fin 2752), y = ix4 0 i q f := ⟨y 1, y 2, y 3, by
    funext a; apply Fin.ext
    match a with
    | ⟨0, _⟩ => have := (y 0).isLt; change (y 0).val < 1 at this; show (y 0).val = 0; omega
    | ⟨1, _⟩ => rfl
    | ⟨2, _⟩ => rfl
    | ⟨3, _⟩ => rfl⟩
  have he : ((cfg0.win 3).blk t).view.emb (ix4 0 i q f) = ix4 (gs t) i (grow t q) f := by blk_ext [idx t, gs, grow]
  have h3 := (flush0_3 t).mp hf
  rw [he]
  blk_simp
  rw [after0_3, outsAt0_C m c t (by omega) (by omega) h3]
  dsimp only
  rw [out_C_3]
  refine (congrArg₂ (fun A B => tileG A B (ix4 0 i q f)) (scr_next m c 0 t (by omega)).symm (scr_next m c 1 t (by omega)).symm).trans ?_
  exact (tileG_sum (fun w => scr m c w t.val t.isLt) i q f).trans (scr_last m c i t h3 q f)

theorem final4 (c : Dev nD) : (dats m 0 c).arrAt 4 cfg0.N
    = ACT (hostH (m ((c : Thread nD τ).loc main_arg0)) (m ((c : Thread nD τ).loc main_arg1))) (m ((c : Thread nD τ).loc main_arg2)) := by
  refine (dats m 0 c).arrAt_eq_of_covers 4 _ (by decide +kernel) fun t hf y => ?_
  obtain ⟨q, f, rfl⟩ : ∃ (q : Fin 528) (f : Fin 2752), y = ix3 0 q f := ⟨y 1, y 2, by
    funext a; apply Fin.ext
    match a with
    | ⟨0, _⟩ => have := (y 0).isLt; change (y 0).val < 1 at this; show (y 0).val = 0; omega
    | ⟨1, _⟩ => rfl
    | ⟨2, _⟩ => rfl⟩
  have he : ((cfg0.win 4).blk t).view.emb (ix3 0 q f) = ix3 (gs t) (grow t q) f := by blk_ext [idx t, gs, grow]
  have h3 := (flush0_4 t).mp hf
  rw [he]
  blk_simp
  rw [after0_4, outsAt0_C m c t (by omega) (by omega) h3]
  dsimp only
  rw [out_C_4]
  refine (congrArg₂ (fun A B => tileA A B (ix3 0 q f)) (scr_next m c 0 t (by omega)).symm (scr_next m c 1 t (by omega)).symm).trans ?_
  exact congrArg₂ gact (scr_last m c 0 t h3 q f) (scr_last m c 1 t h3 q f)

end Cert.KGuFIdeal.RefValue

namespace Cert.RGuFIdeal.RefValue
open Cert.RGuFIdeal Cert.RGuFIdeal.Gen Cert.RGuFIdeal.Read Idealize.ShloMosaic Idealize.ShloMosaic.TcCoe Idealize.SL.Sem
open Cert.Rows
open Cert.KGuFIdeal.RefValue (GU ACT dot hostH gact)

variable (X0 : FVec Ideal S2x2064x4096 .f32) (X1 : FVec Ideal S96x4096 .f32) (X2 : FVec Ideal S1x4096x22016 .f32)

theorem stage3 (R : Fin 4224) (n : Fin 22016) : val_main_v3 (F := Ideal) X0 X1 X2 (ix2 R n) = dot (hostH X0 X1) X2 R n := by
  have e : val_main_v1 (F := Ideal) X0 X1 = hostH X0 X1 := rfl
  unfold val_main_v3
  rw [e]
  generalize hostH X0 X1 = H
  pointwise [val_main_v2]
  rfl

theorem ref10 : val_main_v10 (F := Ideal) X0 X1 X2 = GU (hostH X0 X1) X2 := by
  have h := stage3 X0 X1 X2
  unfold val_main_v10 val_main_v9 val_main_v8
  generalize val_main_v3 (F := Ideal) X0 X1 X2 = Q at h ⊢
  funext j
  idx_vars j
  pointwise
  refine (h _ _).trans (congrArg (dot _ X2 j2) (Fin.ext ?_))
  dsimp only [ix4]

theorem ref13 : val_main_v13 (F := Ideal) X0 X1 X2 = ACT (hostH X0 X1) X2 := by
  have h := stage3 X0 X1 X2
  unfold val_main_v13 val_main_v12 val_main_v11 val_main_v7 val_main_v6 val_main_call0_v5 val_main_call0_v3 val_main_call0_v1 val_main_call0_v0 val_main_v5 val_main_v4
  generalize val_main_v3 (F := Ideal) X0 X1 X2 = Q at h ⊢
  funext j
  idx_vars j
  pointwise [val_main_call0_v4, val_main_call0_v2, val_main_call0_cst, val_main_call0_cst_0]
  have h0 : ∀ n : Fin 22016, n.val = j0.val * 2752 + j2.val → Q (ix2 j1 n) = GU (hostH X0 X1) X2 (ix4 j0 0 j1 j2) := fun n hn =>
    (h _ _).trans (congrArg (dot _ X2 j1) (Fin.ext (by rw [hn]; show _ = 0 * 11008 + j0.val * 2752 + j2.val; omega)))
  have h1 : ∀ n : Fin 22016, n.val = 11008 + (j0.val * 2752 + j2.val) → Q (ix2 j1 n) = GU (hostH X0 X1) X2 (ix4 j0 1 j1 j2) := fun n hn =>
    (h _ _).trans (congrArg (dot _ X2 j1) (Fin.ext (by rw [hn]; show _ = 1 * 11008 + j0.val * 2752 + j2.val; omega)))
  rw [h0 _ rfl, h1 _ rfl]
  rfl

end Cert.RGuFIdeal.RefValue

namespace Cert.Proof
open Idealize.ShloMosaic Idealize.ShloMosaic.TcCoe Idealize.SL.Sem

theorem algebraic_guf : Cert.algebraic_KGuFIdeal_RGuFIdeal := by
  pair_intro
  · run_from Cert.KGuFIdeal.Value.run_blocks m g
  · run_from Cert.RGuFIdeal.Value.run m' g'
    · rw [Cert.KGuFIdeal.RefValue.final3 m]
      refine Eq.trans ?_ (Cert.RGuFIdeal.RefValue.ref10 _ _ _)
      exact Cert.RGuFIdeal.Read.val_main_v10_eq (F := Ideal) _ _ _
    · rw [Cert.KGuFIdeal.RefValue.final4 m]
      refine Eq.trans ?_ (Cert.RGuFIdeal.RefValue.ref13 _ _ _)
      exact Cert.RGuFIdeal.Read.val_main_v13_eq (F := Ideal) _ _ _
end Cert.Proof
end
-- ==== Proof.ConvF.lean ====
/- The gated short convolution of the forward pass. The kernel shifts whole columns and masks the start of every sequence; at a row of a
   sequence that is the convolution over the sequence. -/
module

public import proofs.«01_k».proof.Proof.Gen.KConvFIdeal.Frame
public import proofs.«01_k».proof.Proof.Gen.RConvFIdeal.Run
public import proofs.«01_k».proof.Proof.Gen.RConvFIdeal.Read
public import proofs.«01_k».proof.Defs
public import proofs.«01_k».proof.Proof.ConvMath
public import Idealize.ShloMosaic.Lib.Pipeline.ValueKit
public import Idealize.ShloMosaic.Lib.Claim

@[expose] public section

set_option maxRecDepth 16384

noncomputable section

namespace Cert.KConvFIdeal.RefValue
open Cert.KConvFIdeal Cert.KConvFIdeal.Gen Idealize.ShloMosaic Idealize.ShloMosaic.TcCoe Idealize.SL.Sem
open Idealize.ShloMosaic.Pipeline (Dat)
open Cert.Rows Cert.ConvMath

variable (m : (ℓ : Loc nD τ sig) → Buf (Elt Ideal) ℓ)

theorem idx : ∀ t : Fin cfg0.N, win0_0.index t = ![0, t.val] ∧ win0_1.index t = ![0, 16 + t.val] ∧ win0_2.index t = ![0, 32 + t.val]
    ∧ win0_3.index t = ![0, t.val] ∧ win0_4.index t = ![0, t.val] :=
  (by decide +kernel : ∀ t : Fin grid0.N, _)

/-- The array's column that column `l` of block `t` is. -/
def col (t : Fin cfg0.N) (l : Fin 128) : Fin 2048 := ⟨t.val * 128 + l.val, by have := lt_of_lt_of_eq t.isLt N_0; omega⟩

/-- The projected features of every row, the padding rows included. -/
def hostU (X0 : FVec Ideal S2x2064x8192 .f32) (T : FVec Ideal S96x8192 .f32) : FVec Ideal S4224x8192 .f32 :=
  concatenate S4224x8192 0 [⟨S4128x8192, shapeCast S4128x8192 X0 shapeCasts_S2x2064x8192_S4128x8192⟩, ⟨S96x8192, T⟩] concatenates_S4128x8192_S96x8192_S4224x8192_d0

theorem V_v1 (c : Dev nD) : V m c main_v1 = hostU (m ((c : Thread nD τ).loc main_arg0)) (m ((c : Thread nD τ).loc main_arg1)) := by
  unfold V V0
  simp only [hostOps0, List.flatten_cons, List.flatten_nil, List.append_nil, List.cons_append, List.nil_append, StableHlo.TRef.binary, StableHlo.TRef.unary, StableHlo.TRef.toBuf, StableHlo.TRef.ofBuf, cast_eq]
  after_results
  rfl

theorem V_v2 (c : Dev nD) : V m c main_v2 = shapeCast S3x2048 (m ((c : Thread nD τ).loc main_arg2)) shapeCasts_S1x3x2048_S3x2048 := by
  unfold V V0
  simp only [hostOps0, List.flatten_cons, List.flatten_nil, List.append_nil, List.cons_append, List.nil_append, StableHlo.TRef.binary, StableHlo.TRef.unary, StableHlo.TRef.toBuf, StableHlo.TRef.ofBuf, cast_eq]
  after_results
  rfl

theorem taps_apply (X : FVec Ideal S1x3x2048 .f32) (k : Fin 3) (l : Fin 2048) : shapeCast S3x2048 X shapeCasts_S1x3x2048_S3x2048 (ix2 k l) = X (ix3 0 k l) := by
  pointwise

theorem blk_b (c : Dev nD) (t : Fin cfg0.N) (l : Fin 128) (R : Fin 4224) : iblk m c 0 t (ix2 R l)
    = hostU (m ((c : Thread nD τ).loc main_arg0)) (m ((c : Thread nD τ).loc main_arg1)) (ix2 R ⟨(col t l).val, by omega⟩) := by
  blk_simp [iblk]
  refine Eq.trans (b := V m c main_v1 (ix2 R ⟨(col t l).val, by omega⟩)) ?_ ?_
  · blk_ext [idx t, col]
  · rw [V_v1]

theorem blk_c (c : Dev nD) (t : Fin cfg0.N) (l : Fin 128) (R : Fin 4224) : iblk m c 1 t (ix2 R l)
    = hostU (m ((c : Thread nD τ).loc main_arg0)) (m ((c : Thread nD τ).loc main_arg1)) (ix2 R ⟨2048 + (col t l).val, by omega⟩) := by
  blk_simp [iblk]
  refine Eq.trans (b := V m c main_v1 (ix2 R ⟨2048 + (col t l).val, by omega⟩)) ?_ ?_
  · blk_ext [idx t, col]
  · rw [V_v1]

theorem blk_x (c : Dev nD) (t : Fin cfg0.N) (l : Fin 128) (R : Fin 4224) : iblk m c 2 t (ix2 R l)
    = hostU (m ((c : Thread nD τ).loc main_arg0)) (m ((c : Thread nD τ).loc main_arg1)) (ix2 R ⟨4096 + (col t l).val, by omega⟩) := by
  blk_simp [iblk]
  refine Eq.trans (b := V m c main_v1 (ix2 R ⟨4096 + (col t l).val, by omega⟩)) ?_ ?_
  · blk_ext [idx t, col]
  · rw [V_v1]

theorem blk_w (c : Dev nD) (t : Fin cfg0.N) (k : Fin 3) (l : Fin 128) : iblk m c 3 t (ix2 k l)
    = m ((c : Thread nD τ).loc main_arg2) (ix3 0 k (col t l)) := by
  blk_simp [iblk]
  refine Eq.trans (b := V m c main_v2 (ix2 k (col t l))) ?_ ?_
  · blk_ext [idx t, col]
  · rw [V_v2]; exact taps_apply _ _ _

/-- What the kernel computes at a row of a column: the gated column shifted down by two rows and by one, masked at the start of every
    sequence, against the taps. -/
def entry (b x y : Fin 4224 → EReal) (w : Fin 3 → EReal) (r : Fin 4224) : EReal :=
  b r * ((if 2 ≤ pos r.val then (fun q => x q * y q) (⟨(r.val + 4224 - 2) % 4224, by omega⟩ : Fin 4224) else 0) * w 0
    + (if 1 ≤ pos r.val then (fun q => x q * y q) (⟨(r.val + 4224 - 1) % 4224, by omega⟩ : Fin 4224) else 0) * w 1 + x r * y r * w 2)

theorem pay1 (x y b : Vec Ideal S4224x128 .f32) (w : Vec Ideal S3x128 .f32) (r : Fin 4224) (l : Fin 128) : k0_pay1 x y w b (ix2 r l)
    = entry (fun R => b (ix2 R l)) (fun R => x (ix2 R l)) (fun R => y (ix2 R l)) (fun k => w (ix2 k l)) r := by
  pointwise [k0_pay1, select_pos]
  unfold entry
  simp only [ite_mul, zero_mul]
  exact congrArg (b (ix2 r l) * ·) (congrArg (· + x (ix2 r l) * y (ix2 r l) * w (ix2 2 l)) (congrArg₂ (· + ·) (select_down r 2 (by omega) _ _) (select_down r 1 (by omega) _ _)))

/-- The kernel's array. -/
def ARR (U : FVec Ideal S4224x8192 .f32) (W : FVec Ideal S1x3x2048 .f32) : FVec Ideal S4224x2048 .bf16 := fun j =>
  entry (fun R => U (ix2 R ⟨(j 1).val, by have := (j 1).isLt; change (j 1).val < 2048 at this; omega⟩))
    (fun R => U (ix2 R ⟨2048 + (j 1).val, by have := (j 1).isLt; change (j 1).val < 2048 at this; omega⟩))
    (fun R => U (ix2 R ⟨4096 + (j 1).val, by have := (j 1).isLt; change (j 1).val < 2048 at this; omega⟩)) (fun k => W (ix3 0 k (j 1))) (j 0)

theorem final4 (c : Dev nD) : (dats m 0 c).arrAt 4 (cfgs 0).N
    = ARR (hostU (m ((c : Thread nD τ).loc main_arg0)) (m ((c : Thread nD τ).loc main_arg1))) (m ((c : Thread nD τ).loc main_arg2)) := by
  refine (dats m 0 c).arrAt_eq_of_covers 4 _ (by decide +kernel) fun t _ y => ?_
  obtain ⟨r, l, rfl⟩ : ∃ (r : Fin 4224) (l : Fin 128), y = ix2 r l := ⟨y 0, y 1, eq_ix2 y⟩
  have he : ((cfg0.win 4).blk t).view.emb (ix2 r l) = ix2 r (col t l) := by
    blk_ext [idx t, col]
  rw [he]
  blk_simp
  rw [after0_4]
  have hb : k0_pay1 (F := Ideal) (iblk m c 1 t) (iblk m c 2 t) (iblk m c 3 t) (iblk m c 0 t) (ix2 r l)
      = ARR (hostU (m ((c : Thread nD τ).loc main_arg0)) (m ((c : Thread nD τ).loc main_arg1))) (m ((c : Thread nD τ).loc main_arg2)) (ix2 r (col t l)) := by
    refine (pay1 _ _ _ _ r l).trans ?_
    rw [show (fun R => iblk m c 0 t (ix2 R l)) = _ from funext fun R => blk_b m c t l R, show (fun R => iblk m c 1 t (ix2 R l)) = _ from funext fun R => blk_c m c t l R,
      show (fun R => iblk m c 2 t (ix2 R l)) = _ from funext fun R => blk_x m c t l R, show (fun k => iblk m c 3 t (ix2 k l)) = _ from funext fun k => blk_w m c t k l]
    rfl
  refine Eq.trans ?_ hb
  generalize iblk m c 0 t = x0
  generalize iblk m c 1 t = x1
  generalize iblk m c 2 t = x2
  generalize iblk m c 3 t = x3
  unfold out0_4
  frame_out

/-- The convolution at the sequences' rows. -/
def OUT (X0 : FVec Ideal S2x2064x8192 .f32) (X2 : FVec Ideal S1x3x2048 .f32) : FVec Ideal S4128x2048 .bf16 := fun j =>
  X0 (ix3 ⟨(j 0).val / 2064, by have := (j 0).isLt; change (j 0).val < 4128 at this; omega⟩ ⟨(j 0).val % 2064, by omega⟩
      ⟨(j 1).val, by have := (j 1).isLt; change (j 1).val < 2048 at this; omega⟩)
    * conv X0 X2 (j 1) ⟨(j 0).val / 2064, by have := (j 0).isLt; change (j 0).val < 4128 at this; omega⟩ ⟨(j 0).val % 2064, by omega⟩

theorem ARR_rows (X0 : FVec Ideal S2x2064x8192 .f32) (T : FVec Ideal S96x8192 .f32) (X2 : FVec Ideal S1x3x2048 .f32) (R : Fin 4128) (l : Fin 2048) :
    ARR (hostU X0 T) X2 (ix2 ⟨R.val, by omega⟩ l) = OUT X0 X2 (ix2 R l) := by
  have hu : ∀ (q : Fin 4224) (h : q.val < 4128) (k : Fin 8192), hostU X0 T (ix2 q k) = X0 (ix3 ⟨q.val / 2064, by omega⟩ ⟨q.val % 2064, by omega⟩ k) :=
    fun q h k => tailRows_apply _ _ _ _ _ _ h
  have hg : ∀ (q : Fin 4224) (h : q.val < 4128), (fun q : Fin 4224 => hostU X0 T (ix2 q ⟨2048 + l.val, by omega⟩) * hostU X0 T (ix2 q ⟨4096 + l.val, by omega⟩)) q
      = gated X0 l ⟨q.val / 2064, by omega⟩ ⟨q.val % 2064, by omega⟩ := fun q h => congrArg₂ (· * ·) (hu q h _) (hu q h _)
  have hR : R.val < 4128 := R.isLt
  exact congrArg₂ (· * ·) (hu ⟨R.val, by omega⟩ hR _) (congrArg₂ (· + ·) (congrArg₂ (· + ·)
    (congrArg (· * _) (shift_down _ _ hg ⟨R.val, by omega⟩ hR 2 _ rfl)) (congrArg (· * _) (shift_down _ _ hg ⟨R.val, by omega⟩ hR 1 _ rfl)))
    (congrArg (· * _) (hg ⟨R.val, by omega⟩ hR)))

theorem tail (c : Dev nD) : Pipeline.afterTail₀ cfgs (dats m) 0 (V0 m) [hostOps1] c main_v4
    = OUT (m ((c : Thread nD τ).loc main_arg0)) (m ((c : Thread nD τ).loc main_arg2)) := by
  have e : Pipeline.withArrays (cfgs 0).spec c (V0 m c) (fun w => (dats m 0 c).arrAt w (cfgs 0).N) (Proc.devRef .tc main_v3)
      = ARR (hostU (m ((c : Thread nD τ).loc main_arg0)) (m ((c : Thread nD τ).loc main_arg1))) (m ((c : Thread nD τ).loc main_arg2)) :=
    ((dats m 0 c).withArrays_arrAt sharedIn0 _ (A_eq m c) 4).trans (final4 m c)
  unfold Pipeline.afterTail₀
  simp only [hostOps1, List.flatten_cons, List.flatten_nil, List.append_nil]
  after_results
  rw [e]
  funext j
  idx_vars j
  refine Eq.trans ?_ (ARR_rows _ (m ((c : Thread nD τ).loc main_arg1)) _ j0 j1)
  generalize ARR _ _ = Q
  pointwise

/-- The run: the convolution at the sequences' rows, and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v4) = OUT (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  θ_run_mono (θ_run_and (unchanged m ρ) (run_main m ρ)) fun r h c =>
    ⟨((h.2 c).2 main_v4 (Pipeline.mem_restRefs_of main_v4 (by decide) (by decide))).trans (tail m c), h.1 c⟩

end Cert.KConvFIdeal.RefValue

namespace Cert.RConvFIdeal.RefValue
open Cert.RConvFIdeal Cert.RConvFIdeal.Gen Cert.RConvFIdeal.Read Idealize.ShloMosaic Idealize.ShloMosaic.TcCoe Idealize.SL.Sem
open Cert.Rows Cert.ConvMath
open Cert.KConvFIdeal.RefValue (OUT)

variable (X0 : FVec Ideal S2x2064x8192 .f32) (X2 : FVec Ideal S1x3x2048 .f32)

theorem stage7 (b : Fin 2) (s : Fin 2064) (l : Fin 2048) : val_main_v7 (F := Ideal) X0 (ix3 b s l) = before (gated X0 l) 2 b s := by
  pointwise [val_main_v7, val_main_v6, val_main_v5, val_main_v3, val_main_v2, val_main_v1, val_main_cst]
  unfold before
  by_cases h : s.val < 2
  · rw [dif_pos h, dif_neg (by omega)]
  · rw [dif_neg h, dif_pos (by omega)]; rfl

theorem stage13 (b : Fin 2) (s : Fin 2064) (l : Fin 2048) : val_main_v13 (F := Ideal) X0 (ix3 b s l) = before (gated X0 l) 1 b s := by
  pointwise [val_main_v13, val_main_v6, val_main_v5, val_main_v3, val_main_v2, val_main_v1, val_main_cst]
  unfold before
  by_cases h : 1 + s.val < 2
  · rw [dif_pos h, dif_neg (by omega)]
  · rw [dif_neg h, dif_pos (by omega)]
    exact congrArg (gated X0 l b) (show (⟨1 + s.val - 2, by omega⟩ : Fin 2064) = ⟨s.val - 1, by omega⟩ from Fin.ext (by show 1 + s.val - 2 = s.val - 1; omega))

theorem stage20 (b : Fin 2) (s : Fin 2064) (l : Fin 2048) : val_main_v20 (F := Ideal) X0 (ix3 b s l) = gated X0 l b s := by
  pointwise [val_main_v20, val_main_v6, val_main_v5, val_main_v3, val_main_v2, val_main_v1, val_main_cst]
  rfl

theorem stage26 (b : Fin 2) (s : Fin 2064) (l : Fin 2048) : val_main_v26 (F := Ideal) X0 X2 (ix3 b s l) = conv X0 X2 l b s := by
  have h7 := stage7 X0 b s l
  have h13 := stage13 X0 b s l
  have h20 := stage20 X0 b s l
  unfold val_main_v26 val_main_v19 val_main_v12 val_main_v18 val_main_v25
  generalize val_main_v7 (F := Ideal) X0 = Q7 at h7 ⊢
  generalize val_main_v13 (F := Ideal) X0 = Q13 at h13 ⊢
  generalize val_main_v20 (F := Ideal) X0 = Q20 at h20 ⊢
  pointwise [val_main_v24, val_main_v23, val_main_v22, val_main_v21, val_main_v17, val_main_v16, val_main_v15, val_main_v14, val_main_v11, val_main_v10, val_main_v9, val_main_v8, val_main_v4]
  rw [h7, h13, h20]
  rfl

theorem ref29 : val_main_v29 (F := Ideal) X0 X2 = OUT X0 X2 := by
  have h := stage26 X0 X2
  unfold val_main_v29 val_main_v28 val_main_v27
  generalize val_main_v26 (F := Ideal) X0 X2 = Q at h ⊢
  funext j
  idx_vars j
  pointwise [val_main_v0]
  rw [h]
  rfl

end Cert.RConvFIdeal.RefValue

namespace Cert.Proof
open Idealize.ShloMosaic Idealize.ShloMosaic.TcCoe Idealize.SL.Sem

theorem algebraic_convf : Cert.algebraic_KConvFIdeal_RConvFIdeal := by
  pair_intro
  · run_from Cert.KConvFIdeal.RefValue.run m g
  · run_from Cert.RConvFIdeal.Value.run m' g'
    · refine Eq.trans ?_ (Cert.RConvFIdeal.RefValue.ref29 _ _)
      exact Cert.RConvFIdeal.Read.val_main_v29_eq (F := Ideal) _ _
end Cert.Proof
end
-- ==== Proof.PoolF.lean ====
/- The causal window mean of the forward pass. The kernel makes the windows' sums by repeated doubling of shifted columns; the reference
   takes a difference of two prefix sums. Over the reals both are the sum of the window that ends at a position. -/
module

public import proofs.«01_k».proof.Proof.Gen.KPoolFIdeal.Frame
public import proofs.«01_k».proof.Proof.Gen.RPoolFIdeal.Run
public import proofs.«01_k».proof.Proof.Gen.RPoolFIdeal.Read
public import proofs.«01_k».proof.Proof.Gen.Pre_finite_poolf
public import proofs.«01_k».proof.Defs
public import proofs.«01_k».proof.Proof.PoolMath
public import proofs.«01_k».proof.Proof.Window
public import Idealize.ShloMosaic.Lib.Pipeline.ValueKit
public import Idealize.ShloMosaic.Lib.Claim

@[expose] public section

set_option maxRecDepth 16384

noncomputable section

namespace Cert.PoolFMath
open Idealize.ShloMosaic Cert.Rows Cert.PoolMath Cert.Finite Finset

/-- The sum of the `w` terms that end at `s`, of those that there are. -/
def tsum {M : Type} [AddCommMonoid M] (q : ℕ → M) (w s : ℕ) : M := ∑ k ∈ range w, if k ≤ s then q (s - k) else 0

theorem tsum_add {M : Type} [AddCommMonoid M] (q : ℕ → M) (w v s : ℕ) : tsum q (w + v) s = tsum q w s + if w ≤ s then tsum q v (s - w) else 0 := by
  unfold tsum
  rw [sum_range_add]
  congr 1
  split
  · refine sum_congr rfl fun k _ => ?_
    rw [Nat.sub_sub]
    exact if_congr (by omega) rfl rfl
  · exact sum_eq_zero fun k _ => if_neg (by omega)

theorem tsum_one {M : Type} [AddCommMonoid M] (q : ℕ → M) (s : ℕ) : tsum q 1 s = q s := by simp [tsum]

theorem tsum_long {M : Type} [AddCommMonoid M] (q : ℕ → M) (w s : ℕ) (hs : s < 2064) : tsum q (2064 + w) s = tsum q 2064 s := by
  rw [tsum_add, if_neg (by omega), add_zero]

theorem tsum_coe (q : ℕ → ℝ) (w s : ℕ) : tsum (fun t => (q t : EReal)) w s = ((tsum q w s : ℝ) : EReal) := by
  unfold tsum
  induction w with
  | zero => simp
  | succ w ih =>
    rw [sum_range_succ, sum_range_succ, ih, EReal.coe_add]
    congr 1
    split <;> rfl

/-- The difference of two prefix sums of a finite sequence is the sum of the window between them. -/
theorem prefix_diff (q : ℕ → EReal) (hq : ∀ t, ∃ r : ℝ, q t = r) (w s : ℕ) (hs : s < 2064) :
    tsum q 2064 s - (if w ≤ s then tsum q 2064 (s - w) else 0) = tsum q w s := by
  obtain ⟨r, hr⟩ := Classical.axiomOfChoice hq
  obtain rfl : q = fun t => (r t : EReal) := funext hr
  have e : tsum r 2064 s = tsum r w s + if w ≤ s then tsum r 2064 (s - w) else 0 := by
    rw [← tsum_add, Nat.add_comm, tsum_long r w s hs]
  simp only [tsum_coe]
  rw [e, show (if w ≤ s then ((tsum r 2064 (s - w) : ℝ) : EReal) else 0) = (((if w ≤ s then tsum r 2064 (s - w) else 0) : ℝ) : EReal) by split <;> rfl,
    ← EReal.coe_sub, add_sub_cancel_right]

/-- The feature at position `t` of a pooled channel. -/
def feat (X : FVec Ideal ⟨3, ![2, 2064, 8192]⟩ .f32) (c : Fin 2048) (b : Fin 2) (t : ℕ) : EReal :=
  if h : t < 2064 then X (ix3 b ⟨t, h⟩ ⟨6144 + c.val, by omega⟩) else 0

theorem feat_real (X : FVec Ideal ⟨3, ![2, 2064, 8192]⟩ .f32) (hX : All X) (c : Fin 2048) (b : Fin 2) (t : ℕ) : ∃ r : ℝ, feat X c b t = r := by
  unfold feat
  split
  · exact hX _
  · exact ⟨0, rfl⟩

/-- The window mean less the feature, at the sequences' rows. -/
def OUT (X : FVec Ideal ⟨3, ![2, 2064, 8192]⟩ .f32) : FVec Ideal ⟨2, ![4128, 2048]⟩ .bf16 := fun j =>
  Ideal.div (tsum (feat X (j 1) ⟨(j 0).val / 2064, by have := (j 0).isLt; change (j 0).val < 4128 at this; omega⟩) (width (j 1)) ((j 0).val % 2064))
      (cnt (width (j 1)) ((j 0).val % 2064))
    - feat X (j 1) ⟨(j 0).val / 2064, by have := (j 0).isLt; change (j 0).val < 4128 at this; omega⟩ ((j 0).val % 2064)

/-- A column plus the column `k` rows down, masked at the start of every sequence. -/
def addDown (k : ℕ) (x : Fin 4224 → EReal) (R : Fin 4224) : EReal :=
  x R + if k ≤ pos R.val then x ⟨(R.val + 4224 - k) % 4224, Nat.mod_lt _ (by omega)⟩ else 0

/-- The doublings: after `g` of them a window holds `2 ^ g` rows. -/
def dbl : ℕ → (Fin 4224 → EReal) → Fin 4224 → EReal
  | 0, x => x
  | g + 1, x => addDown (2 ^ g) (dbl g x)

theorem dbl_rows (q : Fin 2 → ℕ → EReal) (x : Fin 4224 → EReal)
    (hx : ∀ (R : Fin 4224) (h : R.val < 4128), x R = q ⟨R.val / 2064, by omega⟩ (R.val % 2064)) (g : ℕ) :
    ∀ (R : Fin 4224) (h : R.val < 4128), dbl g x R = tsum (q ⟨R.val / 2064, by omega⟩) (2 ^ g) (R.val % 2064) := by
  induction g with
  | zero => intro R h; rw [pow_zero, tsum_one]; exact hx R h
  | succ g ih =>
    intro R h
    rw [show 2 ^ (g + 1) = 2 ^ g + 2 ^ g by omega, tsum_add]
    refine congrArg₂ (fun a b : EReal => a + b) (ih R h) ?_
    exact shift_down (fun b s => tsum (q b) (2 ^ g) s.val) (dbl g x) ih R h (2 ^ g) _ rfl

/-- What the kernel computes at a row of a column of group `g`. -/
def entry (g : ℕ) (x : Fin 4224 → EReal) (R : Fin 4224) : EReal := Ideal.div (dbl (g + 1) x R) (cnt (2 * 2 ^ g) (pos R.val)) - x R

end Cert.PoolFMath

namespace Cert.KPoolFIdeal.RefValue
open Cert.KPoolFIdeal Cert.KPoolFIdeal.Gen Idealize.ShloMosaic Idealize.ShloMosaic.TcCoe Idealize.SL.Sem
open Idealize.ShloMosaic.Pipeline (Dat)
open Cert.Rows Cert.PoolMath Cert.PoolFMath

variable (m : (ℓ : Loc nD τ sig) → Buf (Elt Ideal) ℓ)

theorem idx : ∀ t : Fin cfg0.N, win0_0.index t = ![0, 48 + t.val] ∧ win0_1.index t = ![0, t.val] :=
  (by decide +kernel : ∀ t : Fin grid0.N, _)

theorem coord : ∀ t : Fin cfg0.N, (grid0.coords t 0).val = t.val := (by decide +kernel : ∀ t : Fin grid0.N, _)

/-- The array's column that column `l` of block `t` is. -/
def col (t : Fin cfg0.N) (l : Fin 128) : Fin 2048 := ⟨t.val * 128 + l.val, by have := lt_of_lt_of_eq t.isLt N_0; omega⟩

/-- The projected features of every row, the padding rows included. -/
def hostU (X0 : FVec Ideal S2x2064x8192 .f32) (T : FVec Ideal S96x8192 .f32) : FVec Ideal S4224x8192 .f32 :=
  concatenate S4224x8192 0 [⟨S4128x8192, shapeCast S4128x8192 X0 shapeCasts_S2x2064x8192_S4128x8192⟩, ⟨S96x8192, T⟩] concatenates_S4128x8192_S96x8192_S4224x8192_d0

theorem V_v1 (c : Dev nD) : V m c main_v1 = hostU (m ((c : Thread nD τ).loc main_arg0)) (m ((c : Thread nD τ).loc main_arg1)) := by
  unfold V V0
  simp only [hostOps0, List.flatten_cons, List.flatten_nil, List.append_nil, List.cons_append, List.nil_append, StableHlo.TRef.binary, StableHlo.TRef.unary, StableHlo.TRef.toBuf, StableHlo.TRef.ofBuf, cast_eq]
  after_results
  rfl

theorem blk_u (c : Dev nD) (t : Fin cfg0.N) (l : Fin 128) (R : Fin 4224) : iblk m c 0 t (ix2 R l)
    = hostU (m ((c : Thread nD τ).loc main_arg0)) (m ((c : Thread nD τ).loc main_arg1)) (ix2 R ⟨6144 + (col t l).val, by omega⟩) := by
  blk_simp [iblk]
  refine Eq.trans (b := V m c main_v1 (ix2 R ⟨6144 + (col t l).val, by omega⟩)) ?_ ?_
  · blk_ext [idx t, col]
  · rw [V_v1]

theorem pos_apply (r : Fin 4224) (z : Fin 1) : k0_pay2 (ix2 r z) = BitVec.ofNat 32 (pos r.val) := by
  pointwise [k0_pay2]
  exact select_pos r

/-- The block's rows `k` earlier, zero before the start of a sequence. -/
def down (k : BitVec 32) (X : FVec Ideal S4224x128 .f32) : FVec Ideal S4224x128 .f32 :=
  select (broadcastTo S4224x128 (shapeCast S4224x1 (cmpi .sge k0_pay2 (broadcast S4224x1 k)) shapeCasts_S4224x1_S4224x1)
    broadcasts_S4224x1_S4224x128) (dynamicRotate 0 k none X rotates_S4224x128_d0) (broadcast S4224x128 (Scalar.ofBits .f32 0x00000000#32))

theorem rotate_down (n : BitVec 32) (k : ℕ) (hn : n.toNat = k) (hk : k < 4224) (x : FVec Ideal S4224x128 .f32) (R : Fin 4224) (l : Fin 128) :
    dynamicRotate 0 n none x rotates_S4224x128_d0 (ix2 R l) = x (ix2 ⟨(R.val + 4224 - k) % 4224, Nat.mod_lt _ (by omega)⟩ l) :=
  dynamicRotate_apply 0 n x _ _ _ fun b => match b with
    | ⟨0, _⟩ => by
      show (R.val + 4224 - k) % 4224 = (R.val + 4224 - n.toNat % 4224) % 4224
      rw [hn, Nat.mod_eq_of_lt hk]
    | ⟨1, _⟩ => rfl

/-- One doubling. -/
theorem step (g : ℕ) (hg : 2 ^ g < 2064) (X : FVec Ideal S4224x128 .f32) (x : Fin 4224 → EReal) (l : Fin 128)
    (hX : ∀ R : Fin 4224, X (ix2 R l) = dbl g x R) (R : Fin 4224) : addf X (down (BitVec.ofNat 32 (2 ^ g)) X) (ix2 R l) = dbl (g + 1) x R := by
  have e := rotate_down (BitVec.ofNat 32 (2 ^ g)) (2 ^ g) ((BitVec.toNat_ofNat _ _).trans (Nat.mod_eq_of_lt (lt_trans hg (by norm_num)))) (by omega) X R l
  unfold down
  generalize dynamicRotate 0 (BitVec.ofNat 32 (2 ^ g)) none X rotates_S4224x128_d0 = Q at e ⊢
  pointwise [pos_apply, e]
  refine congrArg₂ (fun a b : EReal => a + b) (hX R) ?_
  refine (select_down R (2 ^ g) hg _ _).trans ?_
  rw [hX]

/-- The group a block of columns lies in, as the kernel computes it. -/
def word (a : BitVec 32) : BitVec 32 :=
  Scalar.select (Scalar.andi (Scalar.cmpi .ne (Scalar.subi (Scalar.extui (Scalar.cmpi .sgt a 0#32)) (Scalar.extui (Scalar.cmpi .slt a 0#32))) (Scalar.subi (Scalar.extui (Scalar.cmpi .sgt 4#32 0#32)) (Scalar.extui (Scalar.cmpi .slt 4#32 0#32)))) (Scalar.cmpi .ne (Scalar.remsi a 4#32) 0#32)) (Scalar.subi (Scalar.divsi a 4#32) 1#32) (Scalar.divsi a 4#32)

theorem word_eq : ∀ n : Fin 16, word (BitVec.ofNat 32 n.val) = BitVec.ofNat 32 (n.val / 4) := by decide +kernel

/-- The block: the selected sum over its count, less the features. -/
theorem pay1_eq (x : Vec Ideal S4224x128 .f32) (v : BitVec 32) :
    k0_pay1 (F := Ideal) v k0_pay2 (k0_pay3 x) (k0_pay4 x) (k0_pay5 x) 4#32 =
      (let s1 := addf (k0_pay3 (F := Ideal) x) (down 1#32 (k0_pay3 x))
       let s2 := addf s1 (down 2#32 s1)
       let s3 := addf s2 (down 4#32 s2)
       let s4 := addf s3 (down 8#32 s3)
       truncf .bf16 (subf (divf (Scalar.select (Scalar.cmpi .eq v 0#32) s1 (Scalar.select (Scalar.cmpi .eq v 1#32) s2 (Scalar.select (Scalar.cmpi .eq v 2#32) s3 s4)))
         (broadcastTo S4224x128 (sitofp .f32 (minsi (addi k0_pay2 (broadcast S4224x1 1#32)) (broadcast S4224x1 (Scalar.shli 2#32 v)))) broadcasts_S4224x1_S4224x128))
         (k0_pay3 x)) bitsLt_bf16_f32) := rfl

theorem block (g : Fin 4) (x : Vec Ideal S4224x128 .f32) (R : Fin 4224) (l : Fin 128) :
    k0_pay1 (F := Ideal) (BitVec.ofNat 32 g.val) k0_pay2 (k0_pay3 x) (k0_pay4 x) (k0_pay5 x) 4#32 (ix2 R l) = entry g.val (fun R => x (ix2 R l)) R := by
  have a0 : ∀ R : Fin 4224, k0_pay3 (F := Ideal) x (ix2 R l) = dbl 0 (fun R => x (ix2 R l)) R := by
    intro R
    pointwise [k0_pay3]
    rfl
  have a1 := step 0 (by norm_num) _ _ l a0
  have a2 := step 1 (by norm_num) _ _ l a1
  have a3 := step 2 (by norm_num) _ _ l a2
  have a4 := step 3 (by norm_num) _ _ l a3
  have hw : Scalar.shli 2#32 (BitVec.ofNat 32 g.val) = BitVec.ofNat 32 (2 * 2 ^ g.val) := by revert g; decide +kernel
  have fin : ∀ (S : FVec Ideal S4224x128 .f32), S (ix2 R l) = dbl (g.val + 1) (fun R => x (ix2 R l)) R →
      truncf .bf16 (subf (divf S (broadcastTo S4224x128 (sitofp .f32 (minsi (addi k0_pay2 (broadcast S4224x1 1#32)) (broadcast S4224x1 (Scalar.shli 2#32 (BitVec.ofNat 32 g.val)))))
        broadcasts_S4224x1_S4224x128)) (k0_pay3 x)) bitsLt_bf16_f32 (ix2 R l) = entry g.val (fun R => x (ix2 R l)) R := by
    intro S hS
    rw [hw]
    pointwise [k0_pay3, pos_apply]
    rw [hS]
    rfl
  rw [pay1_eq]
  match g with
  | 0 => exact fin _ (a1 R)
  | 1 => exact fin _ (a2 R)
  | 2 => exact fin _ (a3 R)
  | 3 => exact fin _ (a4 R)

/-- The kernel's array. -/
def ARR (U : FVec Ideal S4224x8192 .f32) : FVec Ideal S4224x2048 .bf16 := fun j =>
  entry ((j 1).val / 512) (fun R => U (ix2 R ⟨6144 + (j 1).val, by have := (j 1).isLt; change (j 1).val < 2048 at this; omega⟩)) (j 0)

theorem final1 (c : Dev nD) : (dats m 0 c).arrAt 1 (cfgs 0).N
    = ARR (hostU (m ((c : Thread nD τ).loc main_arg0)) (m ((c : Thread nD τ).loc main_arg1))) := by
  refine (dats m 0 c).arrAt_eq_of_covers 1 _ (by decide +kernel) fun t _ y => ?_
  obtain ⟨r, l, rfl⟩ : ∃ (r : Fin 4224) (l : Fin 128), y = ix2 r l := ⟨y 0, y 1, eq_ix2 y⟩
  have he : ((cfg0.win 1).blk t).view.emb (ix2 r l) = ix2 r (col t l) := by
    blk_ext [idx t, col]
  rw [he]
  blk_simp
  rw [after0_1]
  have hN := lt_of_lt_of_eq t.isLt N_0
  have hb : k0_pay1 (F := Ideal) (word (BitVec.ofNat 32 (grid0.coords t 0).val)) k0_pay2 (k0_pay3 (iblk m c 0 t)) (k0_pay4 (iblk m c 0 t)) (k0_pay5 (iblk m c 0 t)) 4#32 (ix2 r l)
      = ARR (hostU (m ((c : Thread nD τ).loc main_arg0)) (m ((c : Thread nD τ).loc main_arg1))) (ix2 r (col t l)) := by
    rw [coord t, word_eq ⟨t.val, hN⟩]
    refine (block ⟨t.val / 4, by omega⟩ _ r l).trans ?_
    rw [show (fun R => iblk m c 0 t (ix2 R l)) = _ from funext fun R => blk_u m c t l R]
    exact congrArg (fun g => entry g _ r) (show t.val / 4 = (t.val * 128 + l.val) / 512 by omega)
  refine Eq.trans ?_ hb
  generalize iblk m c 0 t = x0
  unfold out0_1
  frame_out
  rfl

theorem ARR_rows (X0 : FVec Ideal S2x2064x8192 .f32) (T : FVec Ideal S96x8192 .f32) (R : Fin 4128) (l : Fin 2048) :
    ARR (hostU X0 T) (ix2 ⟨R.val, by omega⟩ l) = OUT X0 (ix2 R l) := by
  have hu : ∀ (q : Fin 4224) (h : q.val < 4128), hostU X0 T (ix2 q ⟨6144 + l.val, by omega⟩) = feat X0 l ⟨q.val / 2064, by omega⟩ (q.val % 2064) :=
    fun q h => by
      unfold feat
      rw [dif_pos (show q.val % 2064 < 2064 by omega)]
      exact tailRows_apply _ _ _ _ _ _ h
  have hR : R.val < 4128 := R.isLt
  have hd := dbl_rows (feat X0 l) _ hu (l.val / 512 + 1) ⟨R.val, by omega⟩ hR
  have hw : 2 ^ (l.val / 512 + 1) = width l := by unfold width; rw [pow_succ, Nat.mul_comm]
  have hp : pos R.val = R.val % 2064 := by unfold pos; split <;> omega
  rw [hw] at hd
  show entry (l.val / 512) _ _ = _
  unfold entry
  refine congrArg₂ (fun a b : EReal => a - b) (congrArg₂ Ideal.div hd ?_) (hu ⟨R.val, by omega⟩ hR)
  show cnt (2 * 2 ^ (l.val / 512)) (pos R.val) = cnt (width l) (R.val % 2064)
  rw [hp]
  rfl

theorem tail (c : Dev nD) : Pipeline.afterTail₀ cfgs (dats m) 0 (V0 m) [hostOps1] c main_v3 = OUT (m ((c : Thread nD τ).loc main_arg0)) := by
  have e : Pipeline.withArrays (cfgs 0).spec c (V0 m c) (fun w => (dats m 0 c).arrAt w (cfgs 0).N) (Proc.devRef .tc main_v2)
      = ARR (hostU (m ((c : Thread nD τ).loc main_arg0)) (m ((c : Thread nD τ).loc main_arg1))) :=
    (Pipeline.withArrays_arr (cfgs 0).spec (by decide) c _ _ 1).trans (final1 m c)
  unfold Pipeline.afterTail₀
  simp only [hostOps1, List.flatten_cons, List.flatten_nil, List.append_nil]
  after_results
  rw [e]
  funext j
  idx_vars j
  refine Eq.trans ?_ (ARR_rows _ (m ((c : Thread nD τ).loc main_arg1)) j0 j1)
  generalize ARR _ = Q
  pointwise

/-- The run: the pooled features at the sequences' rows, and the arguments unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v3) = OUT (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (unchanged m ρ) (run_main m ρ)) fun r h c =>
    ⟨((h.2 c).2 main_v3 (Pipeline.mem_restRefs_of main_v3 (by decide) (by decide))).trans (tail m c), h.1 c⟩

end Cert.KPoolFIdeal.RefValue

namespace Cert.RPoolFIdeal.RefValue
open Cert.RPoolFIdeal Cert.RPoolFIdeal.Gen Cert.RPoolFIdeal.Read Idealize.ShloMosaic Idealize.ShloMosaic.TcCoe Idealize.SL.Sem
open Cert.Rows Cert.PoolMath Cert.Finite Cert.Window Cert.PoolFMath

variable (X0 : FVec Ideal S2x2064x8192 .f32)

/-- The channel that column `l` of group `g` is. -/
def ch (g : Fin 4) (l : Fin 512) : Fin 2048 := ⟨g.val * 512 + l.val, by omega⟩

/-- A running sum along a sequence. -/
theorem prefix_sum (Q : FVec Ideal S2x2064x512 .f32) (q : ℕ → EReal) (b : Fin 2) (l : Fin 512) (hQ : ∀ s : Fin 2064, Q (ix3 b s l) = q s.val)
    (v : FVec Ideal S_ .f32) (hv : ∀ i, v i = (0 : EReal)) (s : Fin 2064) :
    Host.reduceWindowAdd ![1, 2064, 1] ![1, 1, 1] ![0, 2063, 0] ![0, 0, 0] Q v
      reduceWindows_S2x2064x512_S2x2064x512_w1s1p0_0_w2064s1p2063_0_w1s1p0_0 h_S_ (ix3 b s l) = tsum q 2064 s.val := by
  refine (window_sum 2063 0 Q v hv _ _ b s l).trans ?_
  unfold Cert.PoolFMath.tsum
  rw [← Finset.sum_range_reflect, Finset.sum_range]
  refine Finset.sum_congr rfl fun n _ => ?_
  by_cases h : 2063 ≤ s.val + n.val
  · rw [dif_pos ⟨h, by omega⟩, if_pos (by omega)]
    refine (hQ _).trans (congrArg q ?_)
    show s.val + n.val - 2063 = s.val - (2064 - 1 - n.val)
    omega
  · rw [dif_neg fun hn => h hn.1, if_neg (by omega)]

/-- Zeros before the first position, then the last `w` positions dropped: the entry `w` earlier, zero before the start. -/
theorem shift_earlier (w N : ℕ) (hN : N = w + 2064) (Z : FVec Ideal ⟨3, ![2, w, 512]⟩ .f32) (hZ : ∀ i, Z i = (0 : EReal)) (P : FVec Ideal S2x2064x512 .f32)
    (h : Shape.Concatenates [(⟨3, ![2, w, 512]⟩ : Shape), S2x2064x512] ⟨3, ![2, N, 512]⟩ 1)
    (hs : (⟨3, ![2, N, 512]⟩ : Shape).Slices ![0, 0, 0] S2x2064x512) (b : Fin 2) (s : Fin 2064) (l : Fin 512) :
    extractStridedSlice S2x2064x512 ![0, 0, 0] (concatenate ⟨3, ![2, N, 512]⟩ 1 [⟨⟨3, ![2, w, 512]⟩, Z⟩, ⟨S2x2064x512, P⟩] h) hs (ix3 b s l)
      = if hw : w ≤ s.val then P (ix3 b ⟨s.val - w, by omega⟩ l) else (0 : EReal) := by
  refine (extractStridedSlice_apply ![0, 0, 0] _ hs (ix3 b s l) (ix3 b ⟨s.val, by omega⟩ l) (fun a => match a with
    | ⟨0, _⟩ => by show b.val = 0 + b.val; omega
    | ⟨1, _⟩ => by show s.val = 0 + s.val; omega
    | ⟨2, _⟩ => by show l.val = 0 + l.val; omega)).trans ?_
  split
  · next hw =>
    exact concatenate_pair_apply_right 1 Z P h _ rfl rfl (ix3 b ⟨s.val - w, by omega⟩ l) (fun a ha => match a with
      | ⟨0, _⟩ => rfl
      | ⟨1, _⟩ => absurd rfl ha
      | ⟨2, _⟩ => rfl) (by show s.val - w + w = s.val; omega)
  · next hw =>
    exact (concatenate_pair_apply_left 1 Z P h _ rfl (ix3 b ⟨s.val, by omega⟩ l) fun a => match a with
      | ⟨0, _⟩ => rfl
      | ⟨1, _⟩ => rfl
      | ⟨2, _⟩ => rfl).trans (hZ _)

/-- One group: the difference of the prefix sums over the count is the window's mean. -/
theorem group (hX : All X0) (g : Fin 4) (w N : ℕ) (hN : N = w + 2064) (Q C : FVec Ideal S2x2064x512 .f32)
    (hQ : ∀ b (s : Fin 2064) l, Q (ix3 b s l) = feat X0 (ch g l) b s.val) (hC : ∀ b (s : Fin 2064) l, C (ix3 b s l) = cnt w s.val)
    (v : FVec Ideal S_ .f32) (hv : ∀ i, v i = (0 : EReal)) (Z : FVec Ideal ⟨3, ![2, w, 512]⟩ .f32) (hZ : ∀ i, Z i = (0 : EReal))
    (h : Shape.Concatenates [(⟨3, ![2, w, 512]⟩ : Shape), S2x2064x512] ⟨3, ![2, N, 512]⟩ 1)
    (hs : (⟨3, ![2, N, 512]⟩ : Shape).Slices ![0, 0, 0] S2x2064x512) (P : FVec Ideal S2x2064x512 .f32)
    (hP : P = Host.reduceWindowAdd ![1, 2064, 1] ![1, 1, 1] ![0, 2063, 0] ![0, 0, 0] Q v reduceWindows_S2x2064x512_S2x2064x512_w1s1p0_0_w2064s1p2063_0_w1s1p0_0 h_S_)
    (b : Fin 2) (s : Fin 2064) (l : Fin 512) :
    Host.divf (subf P (extractStridedSlice S2x2064x512 ![0, 0, 0] (concatenate ⟨3, ![2, N, 512]⟩ 1 [⟨⟨3, ![2, w, 512]⟩, Z⟩, ⟨S2x2064x512, P⟩] h) hs)) C (ix3 b s l)
      = Ideal.div (tsum (feat X0 (ch g l) b) w s.val) (cnt w s.val) := by
  have p : ∀ s : Fin 2064, P (ix3 b s l) = tsum (feat X0 (ch g l) b) 2064 s.val := fun s => by
    rw [hP]; exact prefix_sum Q (feat X0 (ch g l) b) b l (fun s => hQ b s l) v hv s
  have e := shift_earlier w N hN Z hZ P h hs b s l
  refine congrArg₂ Ideal.div ?_ (hC b s l)
  refine Eq.trans (congrArg₂ (fun x y : EReal => x - y) (p s) (e.trans ?_)) (prefix_diff _ (feat_real X0 hX _ b) w s.val s.isLt)
  by_cases hw : w ≤ s.val
  · rw [dif_pos hw, if_pos hw]; exact p _
  · rw [dif_neg hw, if_neg hw]

theorem cnt_swap (w t : ℕ) : FloatOps.sitofp (F := Ideal) .f32 (IntOp.minsi (IntOp.addi 1#32 (BitVec.ofNat 32 t)) (BitVec.ofNat 32 w)) = cnt w t := by
  unfold cnt IntOp.addi
  rw [BitVec.add_comm]

theorem feat_pos (c : Fin 2048) (b : Fin 2) (s : Fin 2064) (k : Fin 8192) (hk : k.val = 6144 + c.val) : X0 (ix3 b s k) = feat X0 c b s.val := by
  unfold feat
  rw [dif_pos s.isLt, show k = ⟨6144 + c.val, by omega⟩ from Fin.ext hk]

theorem stage1 (b : Fin 2) (s : Fin 2064) (g : Fin 4) (l : Fin 512) : val_main_v1 (F := Ideal) X0 (ix4 b s g l) = feat X0 (ch g l) b s.val := by
  pointwise [val_main_v1, val_main_v0]
  exact feat_pos X0 _ b s _ rfl

theorem group0 (hX : All X0) (b : Fin 2) (s : Fin 2064) (l : Fin 512) :
    val_main_v17 (F := Ideal) X0 (ix3 b s l) = Ideal.div (tsum (feat X0 (ch 0 l) b) 2 s.val) (cnt 2 s.val) := by
  have hQ : ∀ b (s : Fin 2064) l, val_main_v3 (F := Ideal) X0 (ix3 b s l) = feat X0 (ch 0 l) b s.val := by
    intro b s l
    refine Eq.trans ?_ (stage1 X0 b s 0 l)
    unfold val_main_v3 val_main_v2
    generalize val_main_v1 (F := Ideal) X0 = Q
    pointwise
  have hC : ∀ b (s : Fin 2064) l, val_main_v16 (F := Ideal) (ix3 b s l) = cnt 2 s.val := by
    intro b s l
    pointwise [val_main_v16, val_main_v15, val_main_v16, val_main_v13, val_main_v12, val_main_v10, val_main_v9, val_main_v8, val_main_v11, val_main_c, val_main_c_0]
    exact cnt_swap 2 s.val
  have hv : ∀ i, val_main_call0_call0_v0 (F := Ideal) i = (0 : EReal) := fun i => by
    pointwise [val_main_call0_call0_v0, val_main_call0_call0_cst]
  have hZ : ∀ i, val_main_v5 (F := Ideal) i = (0 : EReal) := fun i => by
    idx_vars i
    pointwise [val_main_v5, val_main_cst]
  obtain ⟨P, hP⟩ : ∃ P, P = val_main_v4 (F := Ideal) X0 := ⟨_, rfl⟩
  unfold val_main_v17 val_main_v14 val_main_v7 val_main_v6
  rw [← hP]
  unfold val_main_v4 at hP
  generalize val_main_v3 (F := Ideal) X0 = Q at hQ hP
  generalize val_main_v16 (F := Ideal) = C at hC ⊢
  generalize val_main_v5 (F := Ideal) = Z at hZ ⊢
  generalize val_main_call0_call0_v0 (F := Ideal) = v at hv hP
  exact group X0 hX 0 2 2066 rfl Q C hQ hC v hv Z hZ _ _ P hP b s l

theorem group1 (hX : All X0) (b : Fin 2) (s : Fin 2064) (l : Fin 512) :
    val_main_v33 (F := Ideal) X0 (ix3 b s l) = Ideal.div (tsum (feat X0 (ch 1 l) b) 4 s.val) (cnt 4 s.val) := by
  have hQ : ∀ b (s : Fin 2064) l, val_main_v19 (F := Ideal) X0 (ix3 b s l) = feat X0 (ch 1 l) b s.val := by
    intro b s l
    refine Eq.trans ?_ (stage1 X0 b s 1 l)
    unfold val_main_v19 val_main_v18
    generalize val_main_v1 (F := Ideal) X0 = Q
    pointwise
  have hC : ∀ b (s : Fin 2064) l, val_main_v32 (F := Ideal) (ix3 b s l) = cnt 4 s.val := by
    intro b s l
    pointwise [val_main_v32, val_main_v31, val_main_v32, val_main_v29, val_main_v28, val_main_v26, val_main_v25, val_main_v24, val_main_v27, val_main_c_2, val_main_c_3]
    exact cnt_swap 4 s.val
  have hv : ∀ i, val_main_call1_call0_v0 (F := Ideal) i = (0 : EReal) := fun i => by
    pointwise [val_main_call1_call0_v0, val_main_call1_call0_cst]
  have hZ : ∀ i, val_main_v21 (F := Ideal) i = (0 : EReal) := fun i => by
    idx_vars i
    pointwise [val_main_v21, val_main_cst_1]
  obtain ⟨P, hP⟩ : ∃ P, P = val_main_v20 (F := Ideal) X0 := ⟨_, rfl⟩
  unfold val_main_v33 val_main_v30 val_main_v23 val_main_v22
  rw [← hP]
  unfold val_main_v20 at hP
  generalize val_main_v19 (F := Ideal) X0 = Q at hQ hP
  generalize val_main_v32 (F := Ideal) = C at hC ⊢
  generalize val_main_v21 (F := Ideal) = Z at hZ ⊢
  generalize val_main_call1_call0_v0 (F := Ideal) = v at hv hP
  exact group X0 hX 1 4 2068 rfl Q C hQ hC v hv Z hZ _ _ P hP b s l

theorem group2 (hX : All X0) (b : Fin 2) (s : Fin 2064) (l : Fin 512) :
    val_main_v49 (F := Ideal) X0 (ix3 b s l) = Ideal.div (tsum (feat X0 (ch 2 l) b) 8 s.val) (cnt 8 s.val) := by
  have hQ : ∀ b (s : Fin 2064) l, val_main_v35 (F := Ideal) X0 (ix3 b s l) = feat X0 (ch 2 l) b s.val := by
    intro b s l
    refine Eq.trans ?_ (stage1 X0 b s 2 l)
    unfold val_main_v35 val_main_v34
    generalize val_main_v1 (F := Ideal) X0 = Q
    pointwise
  have hC : ∀ b (s : Fin 2064) l, val_main_v48 (F := Ideal) (ix3 b s l) = cnt 8 s.val := by
    intro b s l
    pointwise [val_main_v48, val_main_v47, val_main_v48, val_main_v45, val_main_v44, val_main_v42, val_main_v41, val_main_v40, val_main_v43, val_main_c_5, val_main_c_6]
    exact cnt_swap 8 s.val
  have hv : ∀ i, val_main_call2_call0_v0 (F := Ideal) i = (0 : EReal) := fun i => by
    pointwise [val_main_call2_call0_v0, val_main_call2_call0_cst]
  have hZ : ∀ i, val_main_v37 (F := Ideal) i = (0 : EReal) := fun i => by
    idx_vars i
    pointwise [val_main_v37, val_main_cst_4]
  obtain ⟨P, hP⟩ : ∃ P, P = val_main_v36 (F := Ideal) X0 := ⟨_, rfl⟩
  unfold val_main_v49 val_main_v46 val_main_v39 val_main_v38
  rw [← hP]
  unfold val_main_v36 at hP
  generalize val_main_v35 (F := Ideal) X0 = Q at hQ hP
  generalize val_main_v48 (F := Ideal) = C at hC ⊢
  generalize val_main_v37 (F := Ideal) = Z at hZ ⊢
  generalize val_main_call2_call0_v0 (F := Ideal) = v at hv hP
  exact group X0 hX 2 8 2072 rfl Q C hQ hC v hv Z hZ _ _ P hP b s l

theorem group3 (hX : All X0) (b : Fin 2) (s : Fin 2064) (l : Fin 512) :
    val_main_v65 (F := Ideal) X0 (ix3 b s l) = Ideal.div (tsum (feat X0 (ch 3 l) b) 16 s.val) (cnt 16 s.val) := by
  have hQ : ∀ b (s : Fin 2064) l, val_main_v51 (F := Ideal) X0 (ix3 b s l) = feat X0 (ch 3 l) b s.val := by
    intro b s l
    refine Eq.trans ?_ (stage1 X0 b s 3 l)
    unfold val_main_v51 val_main_v50
    generalize val_main_v1 (F := Ideal) X0 = Q
    pointwise
  have hC : ∀ b (s : Fin 2064) l, val_main_v64 (F := Ideal) (ix3 b s l) = cnt 16 s.val := by
    intro b s l
    pointwise [val_main_v64, val_main_v63, val_main_v64, val_main_v61, val_main_v60, val_main_v58, val_main_v57, val_main_v56, val_main_v59, val_main_c_8, val_main_c_9]
    exact cnt_swap 16 s.val
  have hv : ∀ i, val_main_call3_call0_v0 (F := Ideal) i = (0 : EReal) := fun i => by
    pointwise [val_main_call3_call0_v0, val_main_call3_call0_cst]
  have hZ : ∀ i, val_main_v53 (F := Ideal) i = (0 : EReal) := fun i => by
    idx_vars i
    pointwise [val_main_v53, val_main_cst_7]
  obtain ⟨P, hP⟩ : ∃ P, P = val_main_v52 (F := Ideal) X0 := ⟨_, rfl⟩
  unfold val_main_v65 val_main_v62 val_main_v55 val_main_v54
  rw [← hP]
  unfold val_main_v52 at hP
  generalize val_main_v51 (F := Ideal) X0 = Q at hQ hP
  generalize val_main_v64 (F := Ideal) = C at hC ⊢
  generalize val_main_v53 (F := Ideal) = Z at hZ ⊢
  generalize val_main_call3_call0_v0 (F := Ideal) = v at hv hP
  exact group X0 hX 3 16 2080 rfl Q C hQ hC v hv Z hZ _ _ P hP b s l

theorem stage71 (hX : All X0) (b : Fin 2) (s : Fin 2064) (g : Fin 4) (l : Fin 512) : val_main_v71 (F := Ideal) X0 (ix4 b s g l)
    = (Ideal.div (tsum (feat X0 (ch g l) b) (2 * 2 ^ g.val) s.val) (cnt (2 * 2 ^ g.val) s.val) - feat X0 (ch g l) b s.val : EReal) := by
  have h0 := group0 X0 hX b s l
  have h1 := group1 X0 hX b s l
  have h2 := group2 X0 hX b s l
  have h3 := group3 X0 hX b s l
  have hf := stage1 X0 b s g l
  unfold val_main_v71 val_main_v70 val_main_v66 val_main_v67 val_main_v68 val_main_v69
  generalize val_main_v1 (F := Ideal) X0 = Y at hf ⊢
  generalize val_main_v17 (F := Ideal) X0 = Q0 at h0 ⊢
  generalize val_main_v33 (F := Ideal) X0 = Q1 at h1 ⊢
  generalize val_main_v49 (F := Ideal) X0 = Q2 at h2 ⊢
  generalize val_main_v65 (F := Ideal) X0 = Q3 at h3 ⊢
  refine congrArg₂ (fun x y : EReal => x - y) ?_ hf
  match g with
  | 0 => refine Eq.trans ?_ h0; pointwise
  | 1 => refine Eq.trans ?_ h1; pointwise
  | 2 => refine Eq.trans ?_ h2; pointwise
  | 3 => refine Eq.trans ?_ h3; pointwise

theorem ref73 (hX : All X0) : val_main_v73 (F := Ideal) X0 = OUT X0 := by
  have h := stage71 X0 hX
  unfold val_main_v73 val_main_v72
  generalize val_main_v71 (F := Ideal) X0 = Q at h ⊢
  funext j
  idx_vars j
  pointwise
  refine (h ⟨j0.val / 2064, by omega⟩ ⟨j0.val % 2064, by omega⟩ ⟨j1.val / 512, by omega⟩ ⟨j1.val % 512, by omega⟩).trans ?_
  rw [show ch ⟨j1.val / 512, by omega⟩ ⟨j1.val % 512, by omega⟩ = j1 from Fin.ext (by show j1.val / 512 * 512 + j1.val % 512 = j1.val; omega)]
  rfl

/-- What the precondition says. -/
theorem finite (X1 : FVec Ideal S96x8192 .f32) (h : Cert.Pre_finite_poolf.fn (F := Ideal) X0 X1 = fun _ => 1#1) : All X0 := by
  have h' := congrFun h (fun a => a.elim0)
  dsimp only [Cert.Pre_finite_poolf.fn] at h'
  exact all_of_reduce _ _ _ _ _ h'

end Cert.RPoolFIdeal.RefValue

namespace Cert.Proof
open Idealize.ShloMosaic Idealize.ShloMosaic.TcCoe Idealize.SL.Sem

theorem algebraic_poolf : Cert.algebraic_KPoolFIdeal_RPoolFIdeal_pre_finite_poolf := by
  pair_intro
  · run_from Cert.KPoolFIdeal.RefValue.run m g
  · run_from Cert.RPoolFIdeal.Value.run m' g'
    · have h1 := Cert.RPoolFIdeal.RefValue.finite _ _ (hpre c)
      rw [Cert.RPoolFIdeal.Read.val_main_v73_eq (F := Ideal) m' c, (hagree c).1]
      exact Cert.RPoolFIdeal.RefValue.ref73 _ h1
end Cert.Proof
end
-- ==== Proof.MixF.lean ====
/- The pooled features' channel mixing: every group's features against the group's matrix, and the product scaled channel by channel. -/
module

public import proofs.«01_k».proof.Proof.Gen.KMixFIdeal.Value
public import proofs.«01_k».proof.Proof.Gen.RMixFIdeal.Run
public import proofs.«01_k».proof.Proof.Gen.RMixFIdeal.Read
public import proofs.«01_k».proof.Defs
public import proofs.«01_k».proof.Proof.Rows
public import Idealize.ShloMosaic.Lib.Pipeline.ValueKit
public import Idealize.ShloMosaic.Lib.Claim

@[expose] public section

set_option maxRecDepth 16384

noncomputable section

namespace Cert.KMixFIdeal.RefValue
open Cert.KMixFIdeal Cert.KMixFIdeal.Gen Idealize.ShloMosaic Idealize.ShloMosaic.TcCoe Idealize.SL.Sem
open Idealize.ShloMosaic.Pipeline (Dat)
open Cert.Rows

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![0, t.val % 4]
    ∧ win0_3.index t = ![t.val / 4, t.val % 4] ∧ win0_4.index t = ![t.val / 4, t.val % 4] :=
  (by decide +kernel : ∀ t : Fin grid0.N, _)

/-- The row of the array that row `r` of block `t` is, the group of the block, and the channel that column `l` of it is. -/
def grow (t : Fin cfg0.N) (r : Fin 1408) : Fin 4224 := ⟨t.val / 4 * 1408 + r.val, by have := lt_of_lt_of_eq t.isLt N_0; omega⟩
def grp (t : Fin cfg0.N) : Fin 4 := ⟨t.val % 4, by omega⟩
def chan (g : Fin 4) (l : Fin 512) : Fin 2048 := ⟨g.val * 512 + l.val, by omega⟩

/-- The rows with the other rows after them. -/
def hostX (X0 : FVec Ideal S2x2064x2048 .f32) (T : FVec Ideal S96x2048 .f32) : FVec Ideal S4224x2048 .f32 :=
  concatenate S4224x2048 0 [⟨S4128x2048, shapeCast S4128x2048 X0 shapeCasts_S2x2064x2048_S4128x2048⟩, ⟨S96x2048, T⟩] concatenates_S4128x2048_S96x2048_S4224x2048_d0

/-- Channel `l` of group `g` of a row: the row's features of the group against a column of the group's matrix. -/
def mixed (X : FVec Ideal S4224x2048 .f32) (W : FVec Ideal S1x4x512x512 .f32) (R : Fin 4224) (g : Fin 4) (l : Fin 512) : EReal :=
  ∑ k : Fin 512, X (ix2 R (chan g k)) * W (ix4 0 g k l)

def MIX (X : FVec Ideal S4224x2048 .f32) (W : FVec Ideal S1x4x512x512 .f32) : FVec Ideal S4224x2048 .f32 := fun j =>
  mixed X W (j 0) ⟨(j 1).val / 512, by have := (j 1).isLt; change (j 1).val < 2048 at this; omega⟩ ⟨(j 1).val % 512, by omega⟩

theorem MIX_apply (X : FVec Ideal S4224x2048 .f32) (W : FVec Ideal S1x4x512x512 .f32) (R : Fin 4224) (g : Fin 4) (l : Fin 512) :
    MIX X W (ix2 R (chan g l)) = mixed X W R g l :=
  congr (congrArg (mixed X W R) (Fin.ext (by show (g.val * 512 + l.val) / 512 = g.val; omega))) (Fin.ext (by show (g.val * 512 + l.val) % 512 = l.val; omega))

/-- The product scaled. -/
def SCALED (X : FVec Ideal S4224x2048 .f32) (W : FVec Ideal S1x4x512x512 .f32) (S : FVec Ideal S1x2048 .f32) : FVec Ideal S4224x2048 .bf16 := fun j =>
  MIX X W j * S (ix2 0 (j 1))

/-- The arrays that the lines before the call leave for it. -/
theorem staged (c : Dev nD) : V m c main_v2 = truncf .bf16 (hostX (m ((c : Thread nD τ).loc main_arg0)) (m ((c : Thread nD τ).loc main_arg1))) bitsLt_bf16_f32
    ∧ V m c main_v4 = truncf .bf16 (shapeCast S4x512x512 (m ((c : Thread nD τ).loc main_arg2)) shapeCasts_S1x4x512x512_S4x512x512 : FVec Ideal S4x512x512 .f32) bitsLt_bf16_f32 := by
  refine ⟨?_, ?_⟩
  all_goals
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results
    rfl

theorem groups_apply (W : FVec Ideal S1x4x512x512 .f32) (g : Fin 4) (k l : Fin 512) :
    (truncf .bf16 (shapeCast S4x512x512 W shapeCasts_S1x4x512x512_S4x512x512 : FVec Ideal S4x512x512 .f32) bitsLt_bf16_f32 : FVec Ideal S4x512x512 .bf16) (ix3 g k l)
      = W (ix4 0 g k l) := by
  pointwise

theorem blk_x (c : Dev nD) (t : Fin cfg0.N) (r : Fin 1408) (l : Fin 512) : iblk m c 0 t (ix2 r l)
    = hostX (m ((c : Thread nD τ).loc main_arg0)) (m ((c : Thread nD τ).loc main_arg1)) (ix2 (grow t r) (chan (grp t) l)) := by
  blk_simp [iblk]
  refine Eq.trans (b := V m c main_v2 (ix2 (grow t r) (chan (grp t) l))) ?_ ?_
  · blk_ext [idx t, grow, chan, grp]
  · rw [(staged m c).1]; rfl

theorem blk_w (c : Dev nD) (t : Fin cfg0.N) (k l : Fin 512) : iblk m c 1 t (ix3 0 k l)
    = m ((c : Thread nD τ).loc main_arg2) (ix4 0 (grp t) k l) := by
  blk_simp [iblk]
  refine Eq.trans (b := V m c main_v4 (ix3 (grp t) k l)) ?_ ?_
  · blk_ext [idx t, grp]
  · rw [(staged m c).2]; exact groups_apply _ _ _ _

theorem blk_s (c : Dev nD) (t : Fin cfg0.N) (l : Fin 512) : iblk m c 2 t (ix2 0 l) = m ((c : Thread nD τ).loc main_arg3) (ix2 0 (chan (grp t) l)) := by
  blk_ext [iblk, V, idx t, chan, grp]

theorem pay1 (x : Vec Ideal S1408x512 .bf16) (w : Vec Ideal S1x512x512 .bf16) (r : Fin 1408) (l : Fin 512) :
    k0_pay1 x w (ix2 r l) = ∑ k : Fin 512, (show EReal from x (ix2 r k)) * (show EReal from w (ix3 0 k l)) := by
  pointwise [k0_pay1]

theorem pay2 (x : Vec Ideal S1408x512 .bf16) (w : Vec Ideal S1x512x512 .bf16) (s : Vec Ideal S1x512 .f32) (r : Fin 1408) (l : Fin 512) :
    k0_pay2 x w s (ix2 r l) = (show EReal from k0_pay1 x w (ix2 r l)) * (show EReal from s (ix2 0 l)) := by
  unfold k0_pay2
  generalize k0_pay1 x w = Q
  pointwise

/-- A block of the product. -/
theorem block (c : Dev nD) (t : Fin cfg0.N) (r : Fin 1408) (l : Fin 512) : k0_pay1 (F := Ideal) (iblk m c 0 t) (iblk m c 1 t) (ix2 r l)
    = MIX (hostX (m ((c : Thread nD τ).loc main_arg0)) (m ((c : Thread nD τ).loc main_arg1))) (m ((c : Thread nD τ).loc main_arg2)) (ix2 (grow t r) (chan (grp t) l)) := by
  rw [MIX_apply, pay1]
  exact Finset.sum_congr rfl fun k _ => congrArg₂ (· * ·) (blk_x m c t r k) (blk_w m c t k l)

theorem final3 (c : Dev nD) : (dats m 0 c).arrAt 3 (cfgs 0).N
    = MIX (hostX (m ((c : Thread nD τ).loc main_arg0)) (m ((c : Thread nD τ).loc main_arg1))) (m ((c : Thread nD τ).loc main_arg2)) := by
  refine (dats m 0 c).arrAt_eq_of_covers 3 _ (by decide +kernel) fun t _ y => ?_
  obtain ⟨r, l, rfl⟩ : ∃ (r : Fin 1408) (l : Fin 512), y = ix2 r l := ⟨y 0, y 1, eq_ix2 y⟩
  have he : ((cfg0.win 3).blk t).view.emb (ix2 r l) = ix2 (grow t r) (chan (grp t) l) := by
    blk_ext [idx t, grow, chan, grp]
  rw [he]
  blk_simp
  rw [after0_3, ← block]
  unfold out0_3
  frame_out

theorem final4 (c : Dev nD) : (dats m 0 c).arrAt 4 (cfgs 0).N
    = SCALED (hostX (m ((c : Thread nD τ).loc main_arg0)) (m ((c : Thread nD τ).loc main_arg1))) (m ((c : Thread nD τ).loc main_arg2)) (m ((c : Thread nD τ).loc main_arg3)) := by
  refine (dats m 0 c).arrAt_eq_of_covers 4 _ (by decide +kernel) fun t _ y => ?_
  obtain ⟨r, l, rfl⟩ : ∃ (r : Fin 1408) (l : Fin 512), y = ix2 r l := ⟨y 0, y 1, eq_ix2 y⟩
  have he : ((cfg0.win 4).blk t).view.emb (ix2 r l) = ix2 (grow t r) (chan (grp t) l) := by
    blk_ext [idx t, grow, chan, grp]
  rw [he]
  blk_simp
  rw [after0_4]
  have hb : k0_pay2 (F := Ideal) (iblk m c 0 t) (iblk m c 1 t) (iblk m c 2 t) (ix2 r l) = SCALED (hostX (m ((c : Thread nD τ).loc main_arg0)) (m ((c : Thread nD τ).loc main_arg1))) (m ((c : Thread nD τ).loc main_arg2)) (m ((c : Thread nD τ).loc main_arg3)) (ix2 (grow t r) (chan (grp t) l)) :=
    (pay2 _ _ _ r l).trans (congrArg₂ (· * ·) (block m c t r l) (blk_s m c t l))
  refine Eq.trans ?_ hb
  unfold out0_4
  frame_out

end Cert.KMixFIdeal.RefValue

namespace Cert.RMixFIdeal.RefValue
open Cert.RMixFIdeal Cert.RMixFIdeal.Gen Cert.RMixFIdeal.Read Idealize.ShloMosaic Idealize.ShloMosaic.TcCoe Idealize.SL.Sem
open Cert.Rows
open Cert.KMixFIdeal.RefValue (hostX mixed MIX SCALED)

variable (X0 : FVec Ideal S2x2064x2048 .f32) (X1 : FVec Ideal S96x2048 .f32) (X2 : FVec Ideal S1x4x512x512 .f32) (X3 : FVec Ideal S1x2048 .f32)

theorem ref6 : val_main_v6 (F := Ideal) X0 X1 X2 = MIX (hostX X0 X1) X2 := by
  have h : val_main_v1 (F := Ideal) X0 X1 = hostX X0 X1 := rfl
  unfold val_main_v6 val_main_v5 val_main_v4 val_main_v2
  rw [h]
  generalize hostX X0 X1 = X
  funext j
  idx_vars j
  pointwise [val_main_v3, MIX, mixed]
  exact Finset.sum_congr rfl fun k _ => mul_comm (G := EReal) _ _

theorem ref11 : val_main_v11 (F := Ideal) X0 X1 X2 X3 = SCALED (hostX X0 X1) X2 X3 := by
  unfold val_main_v11 val_main_v10
  rw [ref6]
  unfold SCALED
  generalize MIX (hostX X0 X1) X2 = Q
  funext j
  idx_vars j
  pointwise [val_main_v9, val_main_v8, val_main_v7]

end Cert.RMixFIdeal.RefValue

namespace Cert.Proof
open Idealize.ShloMosaic Idealize.ShloMosaic.TcCoe Idealize.SL.Sem

theorem algebraic_mixf : Cert.algebraic_KMixFIdeal_RMixFIdeal := by
  pair_intro
  · run_from Cert.KMixFIdeal.Value.run_blocks m g
  · run_from Cert.RMixFIdeal.Value.run m' g'
    · rw [Cert.KMixFIdeal.RefValue.final3 m]
      refine Eq.trans ?_ (Cert.RMixFIdeal.RefValue.ref6 _ _ _)
      exact Cert.RMixFIdeal.Read.val_main_v6_eq (F := Ideal) _ _ _
    · rw [Cert.KMixFIdeal.RefValue.final4 m]
      refine Eq.trans ?_ (Cert.RMixFIdeal.RefValue.ref11 _ _ _ _)
      exact Cert.RMixFIdeal.Read.val_main_v11_eq (F := Ideal) _ _ _ _
end Cert.Proof
end
-- ==== Proof.Product.lean ====
/- What the matrix products share: a product summed over several grid steps, an epilogue that copies the rows of the sum tile by tile in a
   counted loop, and sums over padded rows. -/
module

public import proofs.«01_k».proof.Proof.Rows
public import Idealize.ShloMosaic.Lib.Pipeline.ValueKit

@[expose] public section

noncomputable section

namespace Cert.Product
open Idealize.ShloMosaic Cert.Rows

/-! ## Counted loops -/

/-- If every trip's pieces have a property, so have the pieces of all trips together. -/
theorem pieces_of_trips {α : Type*} {N : ℕ} (pb : ℕ → List α) (L : Fin N → List α) (h0 : pb 0 = [])
    (hs : ∀ k : Fin N, pb (k.val + 1) = L k ++ pb k.val) (Q : α → Prop) (h : ∀ k, ∀ p ∈ L k, Q p) : ∀ p ∈ pb N, Q p := by
  have key : ∀ n, n ≤ N → ∀ p ∈ pb n, Q p := by
    intro n
    induction n with
    | zero => intro _ p hp; rw [h0] at hp; exact absurd hp List.not_mem_nil
    | succ n ih =>
      intro hn p hp
      rw [hs ⟨n, hn⟩] at hp
      rcases List.mem_append.mp hp with hp | hp
      · exact h ⟨n, hn⟩ p hp
      · exact ih (Nat.le_of_succ_le hn) p hp
  exact key N (le_refl _)

/-- Row `q` of a tile of rows of a matrix that begins at row `o`. -/
theorem tile_emb2 {M n a : ℕ} (off : Fin 2 → ℕ) (o : ℕ) (ho : off = ![o, 0]) (inb) (q : Fin a) (l : Fin n) (R : Fin M) (hR : R.val = o + q.val) :
    (Rect.unit (s := ⟨2, ![M, n]⟩) off ![a, n] inb).emb (ix2 q l) = ix2 R l := by
  subst ho
  funext x; apply Fin.ext
  match x with
  | ⟨0, _⟩ => show o + 1 * q.val = R.val; omega
  | ⟨1, _⟩ => show 0 + 1 * l.val = l.val; omega

/-- The same of the only matrix of a stack. -/
theorem tile_emb3 {M n a : ℕ} (off : Fin 3 → ℕ) (o : ℕ) (ho : off = ![0, o, 0]) (inb) (q : Fin a) (l : Fin n) (R : Fin M) (hR : R.val = o + q.val) :
    (Rect.unit (s := ⟨3, ![1, M, n]⟩) off ![1, a, n] inb).emb (ix3 0 q l) = ix3 0 R l := by
  subst ho
  funext x; apply Fin.ext
  match x with
  | ⟨0, _⟩ => rfl
  | ⟨1, _⟩ => show o + 1 * q.val = R.val; omega
  | ⟨2, _⟩ => show 0 + 1 * l.val = l.val; omega

/-- An index of a stack of one matrix. -/
theorem idx_one {a n : ℕ} (x : (⟨3, ![1, a, n]⟩ : Shape).Idx) : ∃ (q : Fin a) (l : Fin n), x = ix3 0 q l := ⟨x 1, x 2, by
  funext i; apply Fin.ext
  match i with
  | ⟨0, _⟩ => have := (x 0).isLt; change (x 0).val < 1 at this; show (x 0).val = 0; omega
  | ⟨1, _⟩ => rfl
  | ⟨2, _⟩ => rfl⟩

/-! ## Sums over grid steps -/

theorem place_lt {nk bk K : ℕ} [NeZero nk] (hK : K = nk * bk) (n : ℕ) (k : Fin bk) : n % nk * bk + k.val < K := by
  subst hK
  have h : n % nk + 1 ≤ nk := Nat.mod_lt _ (NeZero.pos nk)
  calc n % nk * bk + k.val < n % nk * bk + bk := Nat.add_lt_add_left k.isLt _
    _ = (n % nk + 1) * bk := by rw [Nat.succ_mul]
    _ ≤ nk * bk := Nat.mul_le_mul_right _ h

/-- A sum in scratch over the `nk` steps of a run, each adding a sum over its own `bk` places of a contraction, is after the last step the sum over
    the contraction. What is summed (`G`) depends on the run alone. -/
theorem summed {N nk bk K : ℕ} [NeZero nk] (hK : K = nk * bk) {ι : Type} (scr : (n : ℕ) → n < N → ι → EReal) (G : ℕ → ι → Fin K → EReal)
    (hfirst : ∀ t : Fin N, t.val % nk = 0 → ∀ y, scr t.val t.isLt y = ∑ k : Fin bk, G (t.val / nk) y ⟨t.val % nk * bk + k.val, place_lt hK t.val k⟩)
    (hnext : ∀ t : Fin N, ¬t.val % nk = 0 → ∀ y, scr t.val t.isLt y = scr (t.val - 1) (Nat.lt_of_le_of_lt (Nat.sub_le _ _) t.isLt) y
      + ∑ k : Fin bk, G (t.val / nk) y ⟨t.val % nk * bk + k.val, place_lt hK t.val k⟩)
    (t : Fin N) (h : t.val % nk = nk - 1) (y : ι) : scr t.val t.isLt y = ∑ d : Fin K, G (t.val / nk) y d := by
  rw [Pipeline.eq_sum_fin_of_reset_step_apply_of_flush scr nk (fun _ => (0 : EReal))
    (fun t y => ∑ k : Fin bk, G (t.val / nk) y ⟨t.val % nk * bk + k.val, place_lt hK t.val k⟩)
    (fun t h j => by rw [hfirst t h j]; exact (zero_add _).symm) hnext t h y, zero_add]
  refine (Finset.sum_congr rfl fun s _ => ?_).trans (Fin.sum_mul_add_fin nk bk (G (t.val / nk) y) hK)
  have hs := s.isLt
  have e : (nk * (t.val / nk) + s.val) / nk = t.val / nk := by
    rw [Nat.mul_add_div (NeZero.pos nk), Nat.div_eq_of_lt hs, Nat.add_zero]
  have e' : (nk * (t.val / nk) + s.val) % nk = s.val := by
    rw [Nat.mul_add_mod, Nat.mod_eq_of_lt hs]
  refine Finset.sum_congr rfl fun k _ => ?_
  show G ((nk * (t.val / nk) + s.val) / nk) y _ = _
  rw [e]
  exact congrArg (G (t.val / nk) y) (Fin.ext (by show (nk * (t.val / nk) + s.val) % nk * bk + k.val = _; rw [e']))

/-! ## Padded rows -/

/-- A contraction over rows, one factor of which is zero on the padding rows, is the sum over sequences and positions. -/
theorem sum_mul_padded (g h : Fin 2 → Fin 2064 → EReal) (y : Fin 4224 → EReal)
    (hy : ∀ (R : Fin 4224) (hR : R.val < 4128), y R = h ⟨R.val / 2064, by omega⟩ ⟨R.val % 2064, by omega⟩) :
    ∑ R : Fin 4224, y R * padded g R.val = ∑ b : Fin 2, ∑ s : Fin 2064, h b s * g b s := by
  rw [← sum_padded]
  refine Finset.sum_congr rfl fun R _ => ?_
  rw [mul_comm (G := EReal), padded_mul g h R.val (y R) (hy R)]
  exact congrFun (congrArg padded (funext fun b => funext fun s => mul_comm (G := EReal) _ _)) _

/-- A product with a padded matrix has zero rows of its own. -/
theorem padded_sum_mul {n : ℕ} (g : Fin n → Fin 2 → Fin 2064 → EReal) (w : Fin n → EReal) (R : ℕ) :
    padded (fun b s => ∑ k, g k b s * w k) R = ∑ k, padded (g k) R * w k := by
  by_cases h : R < 4128
  · simp only [padded_pos _ h]
  · simp only [padded_neg _ h, zero_mul, Finset.sum_const_zero]

/-! ## Halves -/

/-- Half of a sum is the sum of the halves, whatever is summed. -/
theorem half_sum {n : ℕ} (f : Fin n → EReal) : Ideal.ofBits .f32 0x3F000000#32 * ∑ i, f i = ∑ i, Ideal.ofBits .f32 0x3F000000#32 * f i := by
  have e : Ideal.ofBits .f32 0x3F000000#32 = ((1 / 2 : ℝ) : EReal) := by
    simp [Ideal.ofBits, Ideal.ieee]; rw [← EReal.coe_mul]; norm_num
  rw [e]
  have key : ∀ s : Finset (Fin n), ((1 / 2 : ℝ) : EReal) * ∑ i ∈ s, f i = ∑ i ∈ s, ((1 / 2 : ℝ) : EReal) * f i := by
    intro s
    induction s using Finset.induction_on with
    | empty => simp
    | insert a s ha ih =>
      rw [Finset.sum_insert ha, Finset.sum_insert ha, ← ih]
      exact EReal.left_distrib_of_nonneg_of_ne_top (by exact_mod_cast (by norm_num : (0 : ℝ) ≤ 1 / 2)) (EReal.coe_ne_top _) _ _
  exact key Finset.univ

end Cert.Product
end
-- ==== Proof.PoolIn.lean ====
/- The channel mixing's backward for its input: every group's cotangents against the rows of the group's matrix. -/
module

public import proofs.«01_k».proof.Proof.Gen.KPoolInIdeal.Value
public import proofs.«01_k».proof.Proof.Gen.RPoolInIdeal.Run
public import proofs.«01_k».proof.Proof.Gen.RPoolInIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KPoolInIdeal.RefValue
open Cert.KPoolInIdeal Cert.KPoolInIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val / 4, t.val % 4] ∧ win0_1.index t = ![t.val % 4, 0, 0] ∧ win0_2.index t = ![t.val / 4, t.val % 4] :=
  (by decide +kernel : ∀ t : Fin grid0.N, _)

/-- The row of the array that row `r` of block `t` is, the group of the block, and the channel that column `l` of a group is. -/
def grow (t : Fin cfg0.N) (r : Fin 1408) : Fin 4224 := ⟨t.val / 4 * 1408 + r.val, by have := lt_of_lt_of_eq t.isLt N_0; omega⟩
def grp (t : Fin cfg0.N) : Fin 4 := ⟨t.val % 4, by omega⟩
def chan (g : Fin 4) (l : Fin 512) : Fin 2048 := ⟨g.val * 512 + l.val, by omega⟩

/-- Channel `l` of group `g` of a row: the row's cotangents of the group against a row of the group's matrix. -/
def mixed (DY : FVec Ideal S2x2064x2048 .f32) (W : FVec Ideal S1x4x512x512 .f32) (R : Fin 4224) (g : Fin 4) (l : Fin 512) : EReal :=
  ∑ k : Fin 512, padded (fun b s => DY (ix3 b s (chan g k))) R.val * W (ix4 0 g l k)

def MIX (DY : FVec Ideal S2x2064x2048 .f32) (W : FVec Ideal S1x4x512x512 .f32) : FVec Ideal S4224x2048 .f32 := fun j =>
  mixed DY W (j 0) ⟨(j 1).val / 512, by have := (j 1).isLt; change (j 1).val < 2048 at this; omega⟩ ⟨(j 1).val % 512, by omega⟩

theorem MIX_apply (DY : FVec Ideal S2x2064x2048 .f32) (W : FVec Ideal S1x4x512x512 .f32) (R : Fin 4224) (g : Fin 4) (l : Fin 512) :
    MIX DY W (ix2 R (chan g l)) = mixed DY W R g l :=
  congr (congrArg (mixed DY W R) (Fin.ext (by show (g.val * 512 + l.val) / 512 = g.val; omega))) (Fin.ext (by show (g.val * 512 + l.val) % 512 = l.val; omega))

/-- The cotangents' rows, zeros after them. -/
def hostDy (DY : FVec Ideal S2x2064x2048 .f32) : FVec Ideal S4224x2048 .f32 :=
  pad S4224x2048 ![0, 0] ![96, 0] ![0, 0] (shapeCast S4128x2048 DY shapeCasts_S2x2064x2048_S4128x2048) (sitofp .f32 (constantI S_ 32 0#32)) pads_S4128x2048_S4224x2048_0960_000 h_S_

/-- The arrays that the lines before the call leave for it. -/
theorem staged (c : Dev nD) : V m c main_v2 = truncf .bf16 (hostDy (m ((c : Thread nD τ).loc main_arg2))) bitsLt_bf16_f32
    ∧ V m c main_v4 = truncf .bf16 (shapeCast S4x512x512 (m ((c : Thread nD τ).loc main_arg1)) shapeCasts_S1x4x512x512_S4x512x512 : FVec Ideal S4x512x512 .f32) bitsLt_bf16_f32 := by
  refine ⟨?_, ?_⟩
  all_goals
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results
    rfl

theorem groups_apply (W : FVec Ideal S1x4x512x512 .f32) (g : Fin 4) (k l : Fin 512) :
    (truncf .bf16 (shapeCast S4x512x512 W shapeCasts_S1x4x512x512_S4x512x512 : FVec Ideal S4x512x512 .f32) bitsLt_bf16_f32 : FVec Ideal S4x512x512 .bf16) (ix3 g k l)
      = W (ix4 0 g k l) := by
  pointwise

theorem blk_y (c : Dev nD) (t : Fin cfg0.N) (r : Fin 1408) (k : Fin 512) : iblk m c 0 t (ix2 r k)
    = padded (fun b s => m ((c : Thread nD τ).loc main_arg2) (ix3 b s (chan (grp t) k))) (grow t r).val := by
  blk_simp [iblk]
  refine Eq.trans (b := V m c main_v2 (ix2 (grow t r) (chan (grp t) k))) ?_ ?_
  · blk_ext [idx t, grow, chan, grp]
  · rw [(staged m c).1]; exact padRows_apply _ _ pads_S4128x2048_S4224x2048_0960_000 h_S_ _ _

theorem blk_w (c : Dev nD) (t : Fin cfg0.N) (l k : Fin 512) : iblk m c 1 t (ix3 0 l k) = m ((c : Thread nD τ).loc main_arg1) (ix4 0 (grp t) l k) := by
  blk_simp [iblk]
  refine Eq.trans (b := V m c main_v4 (ix3 (grp t) l k)) ?_ ?_
  · blk_ext [idx t, grp]
  · rw [(staged m c).2]; exact groups_apply _ _ _ _

theorem pay1 (x : Vec Ideal S1408x512 .bf16) (w : Vec Ideal S1x512x512 .bf16) (r : Fin 1408) (l : Fin 512) :
    k0_pay1 x w (ix2 r l) = ∑ k : Fin 512, (show EReal from x (ix2 r k)) * (show EReal from w (ix3 0 l k)) := by
  pointwise [k0_pay1]

theorem final2 (c : Dev nD) : (dats m 0 c).arrAt 2 (cfgs 0).N = MIX (m ((c : Thread nD τ).loc main_arg2)) (m ((c : Thread nD τ).loc main_arg1)) := by
  refine (dats m 0 c).arrAt_eq_of_covers 2 _ (by decide +kernel) fun t _ y => ?_
  obtain ⟨r, l, rfl⟩ : ∃ (r : Fin 1408) (l : Fin 512), y = ix2 r l := ⟨y 0, y 1, eq_ix2 y⟩
  have he : ((cfg0.win 2).blk t).view.emb (ix2 r l) = ix2 (grow t r) (chan (grp t) l) := by
    blk_ext [idx t, grow, chan, grp]
  rw [he, MIX_apply]
  blk_simp
  rw [after0_2]
  refine Eq.trans ?_ ((pay1 (iblk m c 0 t) (iblk m c 1 t) r l).trans (Finset.sum_congr rfl fun k _ => congrArg₂ (· * ·) (blk_y m c t r k) (blk_w m c t l k)))
  unfold out0_2
  frame_out

end Cert.KPoolInIdeal.RefValue

namespace Cert.RPoolInIdeal.RefValue
open Cert.RPoolInIdeal Cert.RPoolInIdeal.Gen Cert.RPoolInIdeal.Read Idealize.ShloMosaic Idealize.ShloMosaic.TcCoe Idealize.SL.Sem
open Cert.Rows Cert.Product
open Cert.KPoolInIdeal.RefValue (mixed MIX MIX_apply chan)

variable (X1 : FVec Ideal S1x4x512x512 .f32) (X2 : FVec Ideal S2x2064x2048 .f32)

theorem stage9 (b : Fin 2) (s : Fin 2064) (g : Fin 4) (l : Fin 512) : val_main_v9 (F := Ideal) X1 X2 (ix3 b s (chan g l))
    = ∑ k : Fin 512, X2 (ix3 b s (chan g k)) * X1 (ix4 0 g l k) := by
  pointwise [val_main_v9, val_main_v8, val_main_v7, val_main_v6, val_main_v5, val_main_v1]
  have e1 : (chan g l).val / 512 = g.val := by show (g.val * 512 + l.val) / 512 = g.val; omega
  have e2 : (chan g l).val % 512 = l.val := by show (g.val * 512 + l.val) % 512 = l.val; omega
  simp only [e1, e2]
  rfl

theorem ref11 : val_main_v11 (F := Ideal) X1 X2 = MIX X2 X1 := by
  have h := stage9 X1 X2
  unfold val_main_v11 val_main_v10
  generalize val_main_v9 (F := Ideal) X1 X2 = Q at h ⊢
  funext j
  obtain ⟨R, i, rfl⟩ : ∃ (R : Fin 4224) (i : Fin 2048), j = ix2 R i := ⟨j 0, j 1, eq_ix2 j⟩
  obtain ⟨g, l, rfl⟩ : ∃ (g : Fin 4) (l : Fin 512), i = chan g l := ⟨⟨i.val / 512, by omega⟩, ⟨i.val % 512, by omega⟩, Fin.ext (by show i.val = i.val / 512 * 512 + i.val % 512; omega)⟩
  refine (padRows_apply Q _ pads_S4128x2048_S4224x2048_0960_000 h_S_ R (chan g l)).trans ?_
  rw [MIX_apply]
  refine Eq.trans ?_ (padded_sum_mul _ _ _)
  exact congrFun (congrArg padded (funext fun b => funext fun s => h b s g l)) _

end Cert.RPoolInIdeal.RefValue

namespace Cert.Proof
open Idealize.ShloMosaic Idealize.ShloMosaic.TcCoe Idealize.SL.Sem

theorem algebraic_poolin : Cert.algebraic_KPoolInIdeal_RPoolInIdeal := by
  pair_intro
  · run_from Cert.KPoolInIdeal.Value.run_blocks m g
  · run_from Cert.RPoolInIdeal.Value.run m' g'
    rw [Cert.KPoolInIdeal.RefValue.final2 m]
    refine Eq.trans ?_ (Cert.RPoolInIdeal.RefValue.ref11 _ _)
    exact Cert.RPoolInIdeal.Read.val_main_v11_eq (F := Ideal) _ _
end Cert.Proof
end
-- ==== Proof.OutY.lean ====
/- The mixer's output product's backward for its input: every row's cotangents against the rows of the matrix. -/
module

public import proofs.«01_k».proof.Proof.Gen.KOutYIdeal.Value
public import proofs.«01_k».proof.Proof.Gen.ROutYIdeal.Run
public import proofs.«01_k».proof.Proof.Gen.ROutYIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KOutYIdeal.RefValue
open Cert.KOutYIdeal Cert.KOutYIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val / 8, 0] ∧ win0_1.index t = ![t.val % 8, 0, 0] ∧ win0_2.index t = ![t.val / 8, t.val % 8] :=
  (by decide +kernel : ∀ t : Fin grid0.N, _)

/-- The row of the array that row `r` of block `t` is, the shard of the block, and the column that column `l` of it is. -/
def grow (t : Fin cfg0.N) (r : Fin 1408) : Fin 4224 := ⟨t.val / 8 * 1408 + r.val, by have := lt_of_lt_of_eq t.isLt N_0; omega⟩
def gs (t : Fin cfg0.N) : Fin 8 := ⟨t.val % 8, by omega⟩
def gcol (t : Fin cfg0.N) (l : Fin 512) : Fin 4096 := ⟨t.val % 8 * 512 + l.val, by omega⟩

/-- Every row's cotangents against every row of the matrix. -/
def DY (DP : FVec Ideal S2x2064x4096 .f32) (W : FVec Ideal S1x4096x4096 .f32) : FVec Ideal S4224x4096 .f32 := fun j =>
  ∑ k : Fin 4096, padded (fun b s => DP (ix3 b s k)) (j 0).val * W (ix3 0 (j 1) k)

/-- The cotangents' rows, zeros after them. -/
def hostDp (DP : FVec Ideal S2x2064x4096 .f32) : FVec Ideal S4224x4096 .f32 :=
  pad S4224x4096 ![0, 0] ![96, 0] ![0, 0] (shapeCast S4128x4096 DP shapeCasts_S2x2064x4096_S4128x4096) (sitofp .f32 (constantI S_ 32 0#32)) pads_S4128x4096_S4224x4096_0960_000 h_S_

/-- The matrix by shards. -/
def hostW (W : FVec Ideal S1x4096x4096 .f32) : FVec Ideal S8x512x4096 .f32 :=
  shapeCast S8x512x4096 (shapeCast S4096x4096 W shapeCasts_S1x4096x4096_S4096x4096) shapeCasts_S4096x4096_S8x512x4096

theorem hostW_apply (W : FVec Ideal S1x4096x4096 .f32) (n : Fin 8) (l : Fin 512) (d : Fin 4096) (k : Fin 4096) (hk : k.val = n.val * 512 + l.val) :
    hostW W (ix3 n l d) = W (ix3 0 k d) := by
  obtain ⟨k, hk'⟩ := k
  change k = n.val * 512 + l.val at hk
  subst hk
  pointwise [hostW]

/-- The arrays that the lines before the call leave for it. -/
theorem staged (c : Dev nD) : V m c main_v2 = truncf .bf16 (hostDp (m ((c : Thread nD τ).loc main_arg2))) bitsLt_bf16_f32
    ∧ V m c main_v5 = truncf .bf16 (hostW (m ((c : Thread nD τ).loc main_arg1))) bitsLt_bf16_f32 := by
  refine ⟨?_, ?_⟩
  all_goals
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results
    rfl

theorem blk_y (c : Dev nD) (t : Fin cfg0.N) (r : Fin 1408) (k : Fin 4096) : iblk m c 0 t (ix2 r k)
    = padded (fun b s => m ((c : Thread nD τ).loc main_arg2) (ix3 b s k)) (grow t r).val := by
  blk_simp [iblk]
  refine Eq.trans (b := V m c main_v2 (ix2 (grow t r) k)) ?_ ?_
  · blk_ext [idx t, grow]
  · rw [(staged m c).1]; exact padRows_apply _ _ pads_S4128x4096_S4224x4096_0960_000 h_S_ _ _

/-- A block of an array of the matrix's shape. -/
theorem read_w (Y : FVec Ideal S8x512x4096 .bf16) (t : Fin cfg0.N) (l : Fin 512) (k : Fin 4096) : ((cfg0.win 1).blk t).view.read (Elt Ideal) Y (ix3 0 l k) = Y (ix3 (gs t) l k) := by
  blk_simp
  blk_ext [idx t, gs]

theorem blk_w (c : Dev nD) (t : Fin cfg0.N) (l : Fin 512) (k : Fin 4096) : iblk m c 1 t (ix3 0 l k) = m ((c : Thread nD τ).loc main_arg1) (ix3 0 (gcol t l) k) := by
  refine (read_w (V m c main_v5) t l k).trans ?_
  rw [(staged m c).2]; exact hostW_apply _ _ _ _ _ rfl

theorem pay1 (x : Vec Ideal S1408x4096 .bf16) (w : Vec Ideal S1x512x4096 .bf16) (r : Fin 1408) (l : Fin 512) :
    k0_pay1 x w (ix2 r l) = ∑ k : Fin 4096, (show EReal from x (ix2 r k)) * (show EReal from w (ix3 0 l k)) := by
  pointwise [k0_pay1]

theorem final2 (c : Dev nD) : (dats m 0 c).arrAt 2 (cfgs 0).N = DY (m ((c : Thread nD τ).loc main_arg2)) (m ((c : Thread nD τ).loc main_arg1)) := by
  refine (dats m 0 c).arrAt_eq_of_covers 2 _ (by decide +kernel) fun t _ y => ?_
  obtain ⟨r, l, rfl⟩ : ∃ (r : Fin 1408) (l : Fin 512), y = ix2 r l := ⟨y 0, y 1, eq_ix2 y⟩
  have he : ((cfg0.win 2).blk t).view.emb (ix2 r l) = ix2 (grow t r) (gcol t l) := by
    blk_ext [idx t, grow, gcol]
  rw [he]
  blk_simp
  rw [after0_2]
  refine Eq.trans ?_ ((pay1 (iblk m c 0 t) (iblk m c 1 t) r l).trans (Finset.sum_congr rfl fun k _ => congrArg₂ (· * ·) (blk_y m c t r k) (blk_w m c t l k)))
  unfold out0_2
  frame_out

end Cert.KOutYIdeal.RefValue

namespace Cert.ROutYIdeal.RefValue
open Cert.ROutYIdeal Cert.ROutYIdeal.Gen Cert.ROutYIdeal.Read Idealize.ShloMosaic Idealize.ShloMosaic.TcCoe Idealize.SL.Sem
open Cert.Rows Cert.Product
open Cert.KOutYIdeal.RefValue (DY)

variable (X1 : FVec Ideal S1x4096x4096 .f32) (X2 : FVec Ideal S2x2064x4096 .f32)

theorem stage2 (b : Fin 2) (s : Fin 2064) (l : Fin 4096) : val_main_v2 (F := Ideal) X1 X2 (ix3 b s l) = ∑ k : Fin 4096, X2 (ix3 b s k) * X1 (ix3 0 l k) := by
  pointwise [val_main_v2, val_main_v0]

theorem ref4 : val_main_v4 (F := Ideal) X1 X2 = DY X2 X1 := by
  have h := stage2 X1 X2
  unfold val_main_v4 val_main_v3
  generalize val_main_v2 (F := Ideal) X1 X2 = Q at h ⊢
  funext j
  obtain ⟨R, l, rfl⟩ : ∃ (R : Fin 4224) (l : Fin 4096), j = ix2 R l := ⟨j 0, j 1, eq_ix2 j⟩
  refine (padRows_apply Q _ pads_S4128x4096_S4224x4096_0960_000 h_S_ R l).trans ?_
  refine Eq.trans ?_ (padded_sum_mul _ _ _)
  exact congrFun (congrArg padded (funext fun b => funext fun s => h b s l)) _

end Cert.ROutYIdeal.RefValue

namespace Cert.Proof
open Idealize.ShloMosaic Idealize.ShloMosaic.TcCoe Idealize.SL.Sem

theorem algebraic_outy : Cert.algebraic_KOutYIdeal_ROutYIdeal := by
  pair_intro
  · run_from Cert.KOutYIdeal.Value.run_blocks m g
  · run_from Cert.ROutYIdeal.Value.run m' g'
    rw [Cert.KOutYIdeal.RefValue.final2 m]
    refine Eq.trans ?_ (Cert.ROutYIdeal.RefValue.ref4 _ _)
    exact Cert.ROutYIdeal.Read.val_main_v4_eq (F := Ideal) _ _
end Cert.Proof
end
-- ==== Proof.PoolW.lean ====
/- The channel mixing's backward for its matrices: the averaged channels of all rows against the rows' cotangents, summed over three blocks
   of rows, for each group of channels. -/
module

public import proofs.«01_k».proof.Proof.Gen.KPoolWIdeal.Value
public import proofs.«01_k».proof.Proof.Gen.RPoolWIdeal.Run
public import proofs.«01_k».proof.Proof.Gen.RPoolWIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KPoolWIdeal.RefValue
open Cert.KPoolWIdeal Cert.KPoolWIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val % 3, t.val / 3 % 4] ∧ win0_1.index t = ![t.val % 3, t.val / 3 % 4] ∧ win0_2.index t = ![t.val / 3 % 4, 0, 0] :=
  (by decide +kernel : ∀ t : Fin grid0.N, _)

/-- The row of the array that row `r` of a block is, and, for the run `q`, its part of the result and the two columns that are contracted. -/
def grow (t : Fin cfg0.N) (r : Fin 1408) : Fin 4224 := ⟨t.val % 3 * 1408 + r.val, by omega⟩
def gs (q : ℕ) : Fin 4 := ⟨q % 4, by omega⟩
def gc (q : ℕ) (p : Fin 512) : Fin 2048 := ⟨q % 4 * 512 + p.val, by omega⟩
def gf (q : ℕ) (l : Fin 512) : Fin 2048 := ⟨q % 4 * 512 + l.val, by omega⟩

/-- The channels of every row, the padding rows included. -/
def hostX (X : FVec Ideal S2x2064x2048 .f32) (T : FVec Ideal S96x2048 .f32) : FVec Ideal S4224x2048 .f32 :=
  concatenate S4224x2048 0 [⟨S4128x2048, shapeCast S4128x2048 X shapeCasts_S2x2064x2048_S4128x2048⟩, ⟨S96x2048, T⟩] concatenates_S4128x2048_S96x2048_S4224x2048_d0

/-- The cotangents' rows, zeros after them. -/
def hostCt (C : FVec Ideal S2x2064x2048 .f32) : FVec Ideal S4224x2048 .f32 :=
  pad S4224x2048 ![0, 0] ![96, 0] ![0, 0] (shapeCast S4128x2048 C shapeCasts_S2x2064x2048_S4128x2048) (sitofp .f32 (constantI S_ 32 0#32)) pads_S4128x2048_S4224x2048_0960_000 h_S_

/-- The arrays that the lines before the call leave for it. -/
theorem staged (c : Dev nD) : V m c main_v2 = truncf .bf16 (hostX (m ((c : Thread nD τ).loc main_arg0)) (m ((c : Thread nD τ).loc main_arg1))) bitsLt_bf16_f32
    ∧ V m c main_v5 = truncf .bf16 (hostCt (m ((c : Thread nD τ).loc main_arg3))) bitsLt_bf16_f32 := by
  refine ⟨?_, ?_⟩
  all_goals
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums: a row's channel times the row's cotangent. -/
def G (c : Dev nD) (q : ℕ) (y : S512x512.Idx) (d : Fin 4224) : EReal :=
  hostX (m ((c : Thread nD τ).loc main_arg0)) (m ((c : Thread nD τ).loc main_arg1)) (ix2 d (gc q (y 0)))
    * padded (fun b s => m ((c : Thread nD τ).loc main_arg3) (ix3 b s (gf q (y 1)))) d.val

theorem blk_x (c : Dev nD) (t : Fin cfg0.N) (r : Fin 1408) (p : Fin 512) : iblk m c 0 t (ix2 r p)
    = hostX (m ((c : Thread nD τ).loc main_arg0)) (m ((c : Thread nD τ).loc main_arg1)) (ix2 (grow t r) (gc (t.val / 3) p)) := by
  blk_simp [iblk]
  refine Eq.trans (b := V m c main_v2 (ix2 (grow t r) (gc (t.val / 3) p))) ?_ ?_
  · blk_ext [idx t, grow, gc]
  · rw [(staged m c).1]; rfl

theorem blk_d (c : Dev nD) (t : Fin cfg0.N) (r : Fin 1408) (l : Fin 512) : iblk m c 1 t (ix2 r l)
    = padded (fun b s => m ((c : Thread nD τ).loc main_arg3) (ix3 b s (gf (t.val / 3) l))) (grow t r).val := by
  blk_simp [iblk]
  refine Eq.trans (b := V m c main_v5 (ix2 (grow t r) (gf (t.val / 3) l))) ?_ ?_
  · blk_ext [idx t, grow, gf]
  · rw [(staged m c).2]; exact padRows_apply _ _ pads_S4128x2048_S4224x2048_0960_000 h_S_ _ _

theorem pay1 (x : FVec Ideal S1408x512 .bf16) (d : FVec Ideal S1408x512 .bf16) (p : Fin 512) (l : Fin 512) :
    k0_pay1 (F := Ideal) x d (ix2 p l) = ∑ r : Fin 1408, x (ix2 r p) * d (ix2 r l) := by
  pointwise [k0_pay1]

theorem pay2 (a : FVec Ideal S512x512 .f32) (x : FVec Ideal S1408x512 .bf16) (d : FVec Ideal S1408x512 .bf16) (p : Fin 512) (l : Fin 512) :
    k0_pay2 (F := Ideal) a x d (ix2 p l) = a (ix2 p l) + ∑ r : Fin 1408, x (ix2 r p) * d (ix2 r l) := by
  pointwise [k0_pay2]

/-- What step `t` adds. -/
theorem step (c : Dev nD) (t : Fin cfg0.N) (p : Fin 512) (l : Fin 512) :
    (∑ r : Fin 1408, (show EReal from iblk m c 0 t (ix2 r p)) * (show EReal from iblk m c 1 t (ix2 r l)))
      = ∑ r : Fin 1408, G m c (t.val / 3) (ix2 p l) ⟨t.val % 3 * 1408 + r.val, place_lt (nk := 3) rfl t.val r⟩ :=
  Finset.sum_congr rfl fun r _ => congrArg₂ (· * ·) (blk_x m c t r p) (blk_d m c t r l)

theorem scr_first (c : Dev nD) (t : Fin cfg0.N) (h : t.val % 3 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 3 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 3 = 2
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 3 = 2) (y : S512x512.Idx) : (outsAt0 m c t.val t.isLt).2 y = ∑ d : Fin 4224, G m c (t.val / 3) y d := by
  refine summed (nk := 3) (bk := 1408) rfl (fun n h => (outsAt0 m c n h).2) (G m c) (fun t h y => ?_) (fun t h y => ?_) t h y
  · obtain ⟨p, l, rfl⟩ : ∃ (p : Fin 512) (l : Fin 512), y = ix2 p l := ⟨y 0, y 1, eq_ix2 y⟩
    show (outsAt0 m c t.val t.isLt).2 (ix2 p l) = _
    rw [scr_first m c t h]
    exact (pay1 _ _ p l).trans (step m c t p l)
  · obtain ⟨p, l, rfl⟩ : ∃ (p : Fin 512) (l : Fin 512), y = ix2 p l := ⟨y 0, y 1, eq_ix2 y⟩
    show (outsAt0 m c t.val t.isLt).2 (ix2 p l) = _
    rw [scr_next m c t h]
    exact (pay2 _ _ _ p l).trans (congrArg (_ + ·) (step m c t p l))

/-- Row `q` of trip `k` of the loop that writes the sum out. -/
def trow (k : Fin k0_t1_loop.trips) (q : Fin 64) : Fin 512 := ⟨64 * k.val + q.val, by have := Nat.lt_of_lt_of_le k.isLt k0_t1_abs.2.1; omega⟩

theorem off1 : ∀ k : Fin k0_t1_loop.trips, k0_off1 k = ![64 * k.val, 0] := by decide +kernel
theorem off2 : ∀ k : Fin k0_t1_loop.trips, k0_off2 k = ![0, 64 * k.val, 0] := by decide +kernel

theorem pay3 (a : Vec Ideal S64x512 .f32) (q : Fin 64) (l : Fin 512) : k0_pay3 a (ix3 0 q l) = a (ix2 q l) := by
  pointwise [k0_pay3]

/-- What the loop writes: the sum's rows. -/
def tile (A : Vec Ideal S512x512 .f32) (y : S1x512x512.Idx) : EReal := A (ix2 (y 1) (y 2))

section Last
variable (c : Dev nD) (i : grid0.Coords) (arg2 : Memref sig .tc .vmem S1408x512 .bf16) (harg2 : arg2.IsWhole) (arg3 : Memref sig .tc .vmem S1408x512 .bf16) (harg3 : arg3.IsWhole) (arg4 : Memref sig .tc .vmem S1x512x512 .f32) (harg4 : arg4.IsWhole) (arg5 : Memref sig .tc .vmem S512x512 .f32) (harg5 : arg5.IsWhole)

theorem trip_pieces (h3 : k0_cond3 i = 1#1) (X : BufTy.Contents (Elt Ideal) arg5.view.ty) (k : Fin k0_t1_loop.trips) :
    ∀ p ∈ tripL_k0_t1 (F := Ideal) Variants.none c none i arg2 harg2 arg3 harg3 arg4 harg4 arg5 harg5 h3 X k, ∀ x : p.1.shape.Idx,
      p.2 x = tile (arg5.view.read (Elt Ideal) X) (p.1.emb x) := by
  unfold tripL_k0_t1 trip_k0_t1
  dsimp only
  intro p hp x
  rcases List.mem_singleton.mp hp with rfl
  obtain ⟨q, l, rfl⟩ := idx_one x
  dsimp only
  refine (pay3 _ q l).trans ?_
  rw [tile_emb3 _ _ (off2 k) _ q l (trow k q) rfl]
  exact congrArg (fun z => arg5.view.read (Elt Ideal) X z) (tile_emb2 _ _ (off1 k) _ q l (trow k q) rfl)

/-- The pieces of the last step of a run, from the sum the steps before and this step add up to. -/
theorem last_pieces (hc0 : ¬cond0_0 i) (hc1 : cond0_1 i) (hc2 : cond0_2 i) (x0 : FVec Ideal S1408x512 .bf16) (x1 : FVec Ideal S1408x512 .bf16) (xs0 : FVec Ideal S512x512 .f32) :
    ∀ p ∈ (kernelRun0_C (F := Ideal) c i arg2 harg2 arg3 harg3 arg4 harg4 arg5 harg5 hc0 hc1 hc2 x0 x1 xs0).1, ∀ x : p.1.shape.Idx, p.2 x = tile (k0_pay2 (F := Ideal) xs0 x0 x1) (p.1.emb x) := by
  unfold kernelRun0_C
  dsimp only
  intro p hp x
  refine (pieces_of_trips (pb_k0_t1 (F := Ideal) Variants.none c none i arg2 harg2 arg3 harg3 arg4 harg4 arg5 harg5 _ _) (tripL_k0_t1 (F := Ideal) Variants.none c none i arg2 harg2 arg3 harg3 arg4 harg4 arg5 harg5 _ _) rfl
    (fun k => pb_k0_t1_succ (F := Ideal) Variants.none c none i arg2 harg2 arg3 harg3 arg4 harg4 arg5 harg5 _ _ k) _ (trip_pieces c i arg2 harg2 arg3 harg3 arg4 harg4 arg5 harg5 _ _) p hp x).trans ?_
  refine congrArg (fun A => tile A (p.1.emb x)) ?_
  unfold kernelRun0_C.sl.HS0_1
  rw [View.read_writes_junk_eq_canon]
  frame_out

theorem out_C (hc0 : ¬cond0_0 i) (hc1 : cond0_1 i) (hc2 : cond0_2 i) (x0 : FVec Ideal S1408x512 .bf16) (x1 : FVec Ideal S1408x512 .bf16) (xs0 : FVec Ideal S512x512 .f32) (y : S1x512x512.Idx) :
    out0_C_2 (F := Ideal) c i arg2 harg2 arg3 harg3 arg4 harg4 arg5 harg5 hc0 hc1 hc2 x0 x1 xs0 y = tile (k0_pay2 (F := Ideal) xs0 x0 x1) y := by
  unfold out0_C_2
  rw [View.read_writes_junk_apply_eq_canon]
  exact View.canon_apply_of_pieces _ _ (last_pieces c i arg2 harg2 arg3 harg3 arg4 harg4 arg5 harg5 hc0 hc1 hc2 x0 x1 xs0) y
    (cover0_C_2 (F := Ideal) c i arg2 harg2 arg3 harg3 arg4 harg4 arg5 harg5 hc0 hc1 hc2 x0 x1 xs0 y)
end Last

/-- The gradient by shards. -/
def DW (X : FVec Ideal S2x2064x2048 .f32) (T : FVec Ideal S96x2048 .f32) (C : FVec Ideal S2x2064x2048 .f32) : FVec Ideal S4x512x512 .f32 := fun j =>
  ∑ d : Fin 4224, hostX X T (ix2 d (⟨(j 0).val * 512 + (j 1).val, by have h0 := (j 0).isLt; have h1 := (j 1).isLt; have h2 := (j 2).isLt; change (j 0).val < 4 at h0; change (j 1).val < 512 at h1; change (j 2).val < 512 at h2; omega⟩ : Fin 2048))
    * padded (fun b s => C (ix3 b s (⟨(j 0).val * 512 + (j 2).val, by have h0 := (j 0).isLt; have h1 := (j 1).isLt; have h2 := (j 2).isLt; change (j 0).val < 4 at h0; change (j 1).val < 512 at h1; change (j 2).val < 512 at h2; omega⟩ : Fin 2048))) d.val

theorem final2 (c : Dev nD) : (dats m 0 c).arrAt 2 (cfgs 0).N
    = DW (m ((c : Thread nD τ).loc main_arg0)) (m ((c : Thread nD τ).loc main_arg1)) (m ((c : Thread nD τ).loc main_arg3)) := by
  refine (dats m 0 c).arrAt_eq_of_covers 2 _ (by decide +kernel) fun t hf y => ?_
  have h3 := (flush0_2 t).mp hf
  obtain ⟨p, l, rfl⟩ := idx_one y
  have he : ((cfg0.win 2).blk t).view.emb (ix3 0 p l) = ix3 (gs (t.val / 3)) p l := by
    blk_ext [idx t, gs, gc, gf]
  rw [he]
  blk_simp
  rw [after0_2, outsAt0_C m c t (by omega) (by omega) h3]
  dsimp only
  rw [out_C]
  have hl := scr_last m c t h3 (ix2 p l)
  rw [scr_next m c t (by omega)] at hl
  exact hl

end Cert.KPoolWIdeal.RefValue

namespace Cert.RPoolWIdeal.RefValue
open Cert.RPoolWIdeal Cert.RPoolWIdeal.Gen Cert.RPoolWIdeal.Read Idealize.ShloMosaic Idealize.ShloMosaic.TcCoe Idealize.SL.Sem
open Cert.Rows Cert.Product
open Cert.KPoolWIdeal.RefValue (hostX DW)

variable (X0 : FVec Ideal S2x2064x2048 .f32) (X3 : FVec Ideal S2x2064x2048 .f32) (X1 : FVec Ideal S96x2048 .f32)

theorem stage10 (n : Fin 4) (p : Fin 512) (f : Fin 512) (k : Fin 2048) (hk : k.val = n.val * 512 + p.val) (i : Fin 2048) (hi : i.val = n.val * 512 + f.val) : val_main_v10 (F := Ideal) X0 X3 (ix3 n p f)
    = ∑ b : Fin 2, ∑ s : Fin 2064, X0 (ix3 b s k) * X3 (ix3 b s i) := by
  obtain ⟨k, k'⟩ := k
  change k = n.val * 512 + p.val at hk
  subst hk
  obtain ⟨i, i'⟩ := i
  change i = n.val * 512 + f.val at hi
  subst hi
  pointwise [val_main_v10, val_main_v9, val_main_v8, val_main_v7, val_main_v6, val_main_v5, val_main_v0]
  exact Finset.sum_congr rfl fun _ _ => Finset.sum_congr rfl fun _ _ => mul_comm (G := EReal) _ _

theorem ref10 : val_main_v10 (F := Ideal) X0 X3 = DW X0 X1 X3 := by
  funext j
  obtain ⟨n, p, f, rfl⟩ : ∃ (n : Fin 4) (p : Fin 512) (f : Fin 512), j = ix3 n p f := ⟨j 0, j 1, j 2, eq_ix3 j⟩
  refine (stage10 X0 X3 n p f ⟨n.val * 512 + p.val, by omega⟩ rfl ⟨n.val * 512 + f.val, by omega⟩ rfl).trans ?_
  exact (sum_mul_padded (fun b s => X3 (ix3 b s (⟨n.val * 512 + f.val, by omega⟩ : Fin 2048))) (fun b s => X0 (ix3 b s (⟨n.val * 512 + p.val, by omega⟩ : Fin 2048)))
    (fun d => hostX X0 X1 (ix2 d (⟨n.val * 512 + p.val, by omega⟩ : Fin 2048))) fun R hR => tailRows_apply _ _ _ _ _ _ hR).symm
end Cert.RPoolWIdeal.RefValue

namespace Cert.Proof
open Idealize.ShloMosaic Idealize.ShloMosaic.TcCoe Idealize.SL.Sem

theorem algebraic_poolw : Cert.algebraic_KPoolWIdeal_RPoolWIdeal := by
  pair_intro
  · run_from Cert.KPoolWIdeal.Value.run_blocks m g
  · run_from Cert.RPoolWIdeal.Value.run m' g'
    rw [Cert.KPoolWIdeal.RefValue.final2 m]
    refine Eq.trans ?_ (Cert.RPoolWIdeal.RefValue.ref10 _ _ _)
    exact Cert.RPoolWIdeal.Read.val_main_v10_eq (F := Ideal) _ _
end Cert.Proof
end
-- ==== Proof.Epilogue.lean ====
/- A matrix product on padded rows with a multiple of other padded rows added to it. -/
module

public import proofs.«01_k».proof.Proof.Product

@[expose] public section

noncomputable section

namespace Cert.Product
open Idealize.ShloMosaic Cert.Rows

/-- A multiple of rows and a product of other rows are, on padded rows, those of the padded rows. -/
theorem padded_add_product {n : ℕ} (a : EReal) (x : Fin 2 → Fin 2064 → EReal) (g : Fin n → Fin 2 → Fin 2064 → EReal) (w : Fin n → EReal) (R : ℕ) :
    padded (fun b s => a * x b s + ∑ k, g k b s * w k) R = a * padded x R + ∑ k, padded (g k) R * w k := by
  by_cases h : R < 4128
  · simp only [padded_pos _ h]
  · simp only [padded_neg _ h, mul_zero, zero_mul, Finset.sum_const_zero, add_zero]

/-- Rounding to a narrower type keeps an idealized entry. -/
theorem truncf_at {s : Shape} (X : FVec Ideal s .f32) (h : FTy.bf16.bits < FTy.f32.bits) (i : s.Idx) : truncf .bf16 X h i = X i := rfl

end Cert.Product
end
-- ==== Proof.ProjIn.lean ====
/- The mixer's input product: every row against the columns of the matrix, summed over two halves of the features. -/
module

public import proofs.«01_k».proof.Proof.Gen.KProjInIdeal.Value
public import proofs.«01_k».proof.Proof.Gen.RProjInIdeal.Run
public import proofs.«01_k».proof.Proof.Gen.RProjInIdeal.Read
public import proofs.«01_k».proof.Defs
public import proofs.«01_k».proof.Proof.Epilogue
public import Idealize.ShloMosaic.Lib.Pipeline.ValueKit
public import Idealize.ShloMosaic.Lib.Pipeline.ReadBack
public import Idealize.ShloMosaic.Lib.Claim

@[expose] public section

set_option maxRecDepth 16384

noncomputable section

namespace Cert.KProjInIdeal.RefValue
open Cert.KProjInIdeal Cert.KProjInIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val / 2 / 8 % 3, t.val % 2] ∧ win0_1.index t = ![t.val / 2 % 8, t.val % 2, 0] ∧ win0_2.index t = ![t.val / 2 / 8 % 3, t.val / 2 % 8] :=
  (by decide +kernel : ∀ t : Fin grid0.N, _)

/-- For the run `q`, the row and the column of the result that row `r` and column `l` of its block are; the place of the contraction that place
    `p` of step `t` is; the shard of the step. -/
def grow (q : ℕ) (r : Fin 1408) : Fin 4224 := ⟨q / 8 % 3 * 1408 + r.val, by omega⟩
def gcol (q : ℕ) (l : Fin 1024) : Fin 8192 := ⟨q % 8 * 1024 + l.val, by omega⟩
def gk (t : Fin cfg0.N) (p : Fin 2048) : Fin 4096 := ⟨t.val % 2 * 2048 + p.val, by omega⟩
def gn (t : Fin cfg0.N) : Fin 8 := ⟨t.val / 2 % 8, by omega⟩

/-- The product's rows, the padding rows included. -/
def hostX (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The matrix by shards. -/
def hostW (W : FVec Ideal S1x4096x8192 .f32) : FVec Ideal S8x4096x1024 .f32 :=
  transpose S8x4096x1024 [1, 0, 2] (shapeCast S4096x8x1024 (shapeCast S4096x8192 W shapeCasts_S1x4096x8192_S4096x8192) shapeCasts_S4096x8192_S4096x8x1024) transposes_S4096x8x1024_S8x4096x1024_1_0_2

theorem hostW_apply (W : FVec Ideal S1x4096x8192 .f32) (n : Fin 8) (d : Fin 4096) (p : Fin 1024) (k : Fin 8192) (hk : k.val = n.val * 1024 + p.val) :
    hostW W (ix3 n d p) = W (ix3 0 d k) := by
  obtain ⟨k, hk'⟩ := k
  change k = n.val * 1024 + p.val at hk
  subst hk
  pointwise [hostW]

/-- The arrays that the lines before the call leave for it. -/
theorem staged (c : Dev nD) : V m c main_v2 = truncf .bf16 (hostX (m ((c : Thread nD τ).loc main_arg0)) (m ((c : Thread nD τ).loc main_arg1))) bitsLt_bf16_f32
    ∧ V m c main_v6 = truncf .bf16 (hostW (m ((c : Thread nD τ).loc main_arg2))) bitsLt_bf16_f32 := by
  refine ⟨?_, ?_⟩
  all_goals
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums. -/
def G (c : Dev nD) (q : ℕ) (y : S1408x1024.Idx) (d : Fin 4096) : EReal :=
  hostX (m ((c : Thread nD τ).loc main_arg0)) (m ((c : Thread nD τ).loc main_arg1)) (ix2 (grow q (y 0)) d) * m ((c : Thread nD τ).loc main_arg2) (ix3 0 d (gcol q (y 1)))

theorem blk_x (c : Dev nD) (t : Fin cfg0.N) (r : Fin 1408) (p : Fin 2048) : iblk m c 0 t (ix2 r p)
    = hostX (m ((c : Thread nD τ).loc main_arg0)) (m ((c : Thread nD τ).loc main_arg1)) (ix2 (grow (t.val / 2) r) (gk t p)) := by
  blk_simp [iblk]
  refine Eq.trans (b := V m c main_v2 (ix2 (grow (t.val / 2) r) (gk t p))) ?_ ?_
  · blk_ext [idx t, grow, gk]
  · rw [(staged m c).1]; exact truncf_at _ _ _

/-- A block of an array of the matrix's shape. -/
theorem read_w (Y : FVec Ideal S8x4096x1024 .bf16) (t : Fin cfg0.N) (p : Fin 2048) (l : Fin 1024) : ((cfg0.win 1).blk t).view.read (Elt Ideal) Y (ix3 0 p l) = Y (ix3 (gn t) (gk t p) l) := by
  blk_simp
  blk_ext [idx t, gcol, gk, gn]

theorem blk_w (c : Dev nD) (t : Fin cfg0.N) (p : Fin 2048) (l : Fin 1024) : iblk m c 1 t (ix3 0 p l)
    = m ((c : Thread nD τ).loc main_arg2) (ix3 0 (gk t p) (gcol (t.val / 2) l)) := by
  refine (read_w (V m c main_v6) t p l).trans ?_
  rw [(staged m c).2]; exact (truncf_at _ _ _).trans (hostW_apply (m ((c : Thread nD τ).loc main_arg2)) (gn t) (gk t p) l (gcol (t.val / 2) l) (by rfl))

theorem pay1 (x : FVec Ideal S1408x2048 .bf16) (w : FVec Ideal S1x2048x1024 .bf16) (r : Fin 1408) (l : Fin 1024) :
    k0_pay1 (F := Ideal) x w (ix2 r l) = ∑ p : Fin 2048, x (ix2 r p) * w (ix3 0 p l) := by
  pointwise [k0_pay1]

theorem pay2 (a : FVec Ideal S1408x1024 .f32) (x : FVec Ideal S1408x2048 .bf16) (w : FVec Ideal S1x2048x1024 .bf16) (r : Fin 1408) (l : Fin 1024) :
    k0_pay2 (F := Ideal) a x w (ix2 r l) = a (ix2 r l) + ∑ p : Fin 2048, x (ix2 r p) * w (ix3 0 p l) := by
  pointwise [k0_pay2]

/-- What step `t` adds. -/
theorem step (c : Dev nD) (t : Fin cfg0.N) (r : Fin 1408) (l : Fin 1024) :
    (∑ p : Fin 2048, (show EReal from iblk m c 0 t (ix2 r p)) * (show EReal from iblk m c 1 t (ix3 0 p l)))
      = ∑ p : Fin 2048, G m c (t.val / 2) (ix2 r l) ⟨t.val % 2 * 2048 + p.val, place_lt (nk := 2) rfl t.val p⟩ :=
  Finset.sum_congr rfl fun p _ => congrArg₂ (· * ·) (blk_x m c t r p) (blk_w m c t p l)

theorem scr_first (c : Dev nD) (t : Fin cfg0.N) (h : t.val % 2 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 2 = 0) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h (by omega) (by omega)]; frame_out; simp only [read_unread_whole]

/-- After the last step of a run the scratch holds the whole contraction. -/
theorem scr_last (c : Dev nD) (t : Fin cfg0.N) (h : t.val % 2 = 1) (y : S1408x1024.Idx) : (outsAt0 m c t.val t.isLt).2 y = ∑ d : Fin 4096, G m c (t.val / 2) y d := by
  refine summed (nk := 2) (bk := 2048) rfl (fun n h => (outsAt0 m c n h).2) (G m c) (fun t h y => ?_) (fun t h y => ?_) t h y
  · obtain ⟨r, l, rfl⟩ : ∃ (r : Fin 1408) (l : Fin 1024), y = ix2 r l := ⟨y 0, y 1, eq_ix2 y⟩
    show (outsAt0 m c t.val t.isLt).2 (ix2 r l) = _
    rw [scr_first m c t h]
    exact (pay1 _ _ r l).trans (step m c t r l)
  · obtain ⟨r, l, rfl⟩ : ∃ (r : Fin 1408) (l : Fin 1024), y = ix2 r l := ⟨y 0, y 1, eq_ix2 y⟩
    show (outsAt0 m c t.val t.isLt).2 (ix2 r l) = _
    rw [scr_next m c t h]
    exact (pay2 _ _ _ r l).trans (congrArg (_ + ·) (step m c t r l))

/-- Row `q` of trip `k` of the loop that writes the sum out. -/
def trow (k : Fin k0_t1_loop.trips) (q : Fin 64) : Fin 1408 := ⟨64 * k.val + q.val, by have := Nat.lt_of_lt_of_le k.isLt k0_t1_abs.2.1; omega⟩

theorem off1 : ∀ k : Fin k0_t1_loop.trips, k0_off1 k = ![64 * k.val, 0] := by decide +kernel

/-- What the loop writes at an entry. -/
def tile (A : Vec Ideal S1408x1024 .f32) (y : S1408x1024.Idx) : EReal := A y

section Last
variable (c : Dev nD) (i : grid0.Coords) (arg3 : Memref sig .tc .vmem S1408x2048 .bf16) (harg3 : arg3.IsWhole) (arg4 : Memref sig .tc .vmem S1x2048x1024 .bf16) (harg4 : arg4.IsWhole) (arg5 : Memref sig .tc .vmem S1408x1024 .f32) (harg5 : arg5.IsWhole) (arg6 : Memref sig .tc .vmem S1408x1024 .f32) (harg6 : arg6.IsWhole)

theorem trip_pieces (h3 : k0_cond3 i = 1#1) (X : BufTy.Contents (Elt Ideal) arg6.view.ty) (k : Fin k0_t1_loop.trips) :
    ∀ p ∈ tripL_k0_t1 (F := Ideal) Variants.none c none i arg3 harg3 arg4 harg4 arg5 harg5 arg6 harg6 h3 X k, ∀ x : p.1.shape.Idx,
      p.2 x = tile (arg6.view.read (Elt Ideal) X) (p.1.emb x) := by
  unfold tripL_k0_t1 trip_k0_t1
  dsimp only
  intro p hp x
  rcases List.mem_singleton.mp hp with rfl
  obtain ⟨q, l, rfl⟩ : ∃ (q : Fin 64) (l : Fin 1024), x = ix2 q l := ⟨x 0, x 1, eq_ix2 x⟩
  dsimp only
  rfl

/-- The pieces of the last step of a run, from the sum the steps before and this step add up to. -/
theorem last_pieces (hc0 : ¬cond0_0 i) (hc1 : cond0_1 i) (hc2 : cond0_2 i) (x0 : FVec Ideal S1408x2048 .bf16) (x1 : FVec Ideal S1x2048x1024 .bf16) (xs0 : FVec Ideal S1408x1024 .f32) :
    ∀ p ∈ (kernelRun0_B (F := Ideal) c i arg3 harg3 arg4 harg4 arg5 harg5 arg6 harg6 hc0 hc1 hc2 x0 x1 xs0).1, ∀ x : p.1.shape.Idx, p.2 x = tile (k0_pay2 (F := Ideal) xs0 x0 x1) (p.1.emb x) := by
  unfold kernelRun0_B
  dsimp only
  intro p hp x
  refine (pieces_of_trips (pb_k0_t1 (F := Ideal) Variants.none c none i arg3 harg3 arg4 harg4 arg5 harg5 arg6 harg6 _ _) (tripL_k0_t1 (F := Ideal) Variants.none c none i arg3 harg3 arg4 harg4 arg5 harg5 arg6 harg6 _ _) rfl
    (fun k => pb_k0_t1_succ (F := Ideal) Variants.none c none i arg3 harg3 arg4 harg4 arg5 harg5 arg6 harg6 _ _ k) _ (trip_pieces c i arg3 harg3 arg4 harg4 arg5 harg5 arg6 harg6 _ _) p hp x).trans ?_
  refine congrArg (fun A => tile A (p.1.emb x)) ?_
  unfold kernelRun0_B.sl.HS0_1
  rw [View.read_writes_junk_eq_canon]
  frame_out

theorem out_last (hc0 : ¬cond0_0 i) (hc1 : cond0_1 i) (hc2 : cond0_2 i) (x0 : FVec Ideal S1408x2048 .bf16) (x1 : FVec Ideal S1x2048x1024 .bf16) (xs0 : FVec Ideal S1408x1024 .f32) (y : S1408x1024.Idx) :
    out0_B_2 (F := Ideal) c i arg3 harg3 arg4 harg4 arg5 harg5 arg6 harg6 hc0 hc1 hc2 x0 x1 xs0 y = tile (k0_pay2 (F := Ideal) xs0 x0 x1) y := by
  unfold out0_B_2
  rw [View.read_writes_junk_apply_eq_canon]
  exact View.canon_apply_of_pieces _ _ (last_pieces c i arg3 harg3 arg4 harg4 arg5 harg5 arg6 harg6 hc0 hc1 hc2 x0 x1 xs0) y
    (cover0_B_2 (F := Ideal) c i arg3 harg3 arg4 harg4 arg5 harg5 arg6 harg6 hc0 hc1 hc2 x0 x1 xs0 y)
end Last

/-- The result: the product of every row and the matrix. -/
def RES (X : FVec Ideal S2x2064x4096 .f32) (T : FVec Ideal S96x4096 .f32) (W : FVec Ideal S1x4096x8192 .f32) : FVec Ideal S4224x8192 .f32 := fun j =>
  ∑ d : Fin 4096, hostX X T (ix2 (j 0) d) * W (ix3 0 d (j 1))

theorem final2 (c : Dev nD) : (dats m 0 c).arrAt 2 (cfgs 0).N
    = RES (m ((c : Thread nD τ).loc main_arg0)) (m ((c : Thread nD τ).loc main_arg1)) (m ((c : Thread nD τ).loc main_arg2)) := by
  refine (dats m 0 c).arrAt_eq_of_covers 2 _ (by decide +kernel) fun t hf y => ?_
  have h3 := (flush0_2 t).mp hf
  obtain ⟨r, l, rfl⟩ : ∃ (r : Fin 1408) (l : Fin 1024), y = ix2 r l := ⟨y 0, y 1, eq_ix2 y⟩
  have he : ((cfg0.win 2).blk t).view.emb (ix2 r l) = ix2 (grow (t.val / 2) r) (gcol (t.val / 2) l) := by
    blk_ext [idx t, grow, gcol]
  rw [he]
  blk_simp
  rw [after0_2, outsAt0_B m c t (by omega) (by omega) h3]
  dsimp only
  rw [out_last]
  have hl := scr_last m c t h3 (ix2 r l)
  rw [scr_next m c t (by omega)] at hl
  exact hl

end Cert.KProjInIdeal.RefValue

namespace Cert.RProjInIdeal.RefValue
open Cert.RProjInIdeal Cert.RProjInIdeal.Gen Cert.RProjInIdeal.Read Idealize.ShloMosaic Idealize.ShloMosaic.TcCoe Idealize.SL.Sem
open Cert.Rows Cert.Product
open Cert.KProjInIdeal.RefValue (RES hostX)

variable (X0 : FVec Ideal S2x2064x4096 .f32) (X1 : FVec Ideal S96x4096 .f32) (X2 : FVec Ideal S1x4096x8192 .f32)

theorem ref : val_main_v3 (F := Ideal) X0 X1 X2 = RES X0 X1 X2 := by
  have e1 : val_main_v1 (F := Ideal) X0 X1 = hostX X0 X1 := rfl
  unfold val_main_v3 RES
  rw [e1]
  generalize hostX X0 X1 = Y
  funext j
  obtain ⟨R, l, rfl⟩ : ∃ (R : Fin 4224) (l : Fin 8192), j = ix2 R l := ⟨j 0, j 1, eq_ix2 j⟩
  pointwise [val_main_v2]

end Cert.RProjInIdeal.RefValue

namespace Cert.Proof
open Idealize.ShloMosaic Idealize.ShloMosaic.TcCoe Idealize.SL.Sem

theorem algebraic_projin : Cert.algebraic_KProjInIdeal_RProjInIdeal := by
  pair_intro
  · run_from Cert.KProjInIdeal.Value.run_blocks m g
  · run_from Cert.RProjInIdeal.Value.run m' g'
    rw [Cert.KProjInIdeal.RefValue.final2 m]
    refine Eq.trans ?_ (Cert.RProjInIdeal.RefValue.ref _ _ _)
    exact Cert.RProjInIdeal.Read.val_main_v3_eq (F := Ideal) _ _ _
end Cert.Proof
end
-- ==== Proof.ProjOut.lean ====
/- The mixer's output product, with a multiple of the rows that entered the mixer: every row against the columns of the matrix, summed over two
   halves of the channels. -/
module

public import proofs.«01_k».proof.Proof.Gen.KProjOutIdeal.Value
public import proofs.«01_k».proof.Proof.Gen.RProjOutIdeal.Run
public import proofs.«01_k».proof.Proof.Gen.RProjOutIdeal.Read
public import proofs.«01_k».proof.Defs
public import proofs.«01_k».proof.Proof.Epilogue
public import Idealize.ShloMosaic.Lib.Pipeline.ValueKit
public import Idealize.ShloMosaic.Lib.Pipeline.ReadBack
public import Idealize.ShloMosaic.Lib.Claim

@[expose] public section

set_option maxRecDepth 16384

noncomputable section

namespace Cert.KProjOutIdeal.RefValue
open Cert.KProjOutIdeal Cert.KProjOutIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val / 2 / 4 % 3, t.val % 2] ∧ win0_1.index t = ![t.val % 2, t.val / 2 % 4] ∧ win0_2.index t = ![t.val / 2 / 4 % 3, t.val / 2 % 4] ∧ win0_3.index t = ![t.val / 2 / 4 % 3, t.val / 2 % 4] :=
  (by decide +kernel : ∀ t : Fin grid0.N, _)

/-- For the run `q`, the row and the column of the result that row `r` and column `l` of its block are; the place of the contraction that place
    `p` of step `t` is; the shard of the step. -/
def grow (q : ℕ) (r : Fin 1408) : Fin 4224 := ⟨q / 4 % 3 * 1408 + r.val, by omega⟩
def gcol (q : ℕ) (l : Fin 1024) : Fin 4096 := ⟨q % 4 * 1024 + l.val, by omega⟩
def gk (t : Fin cfg0.N) (p : Fin 2048) : Fin 4096 := ⟨t.val % 2 * 2048 + p.val, by omega⟩

/-- The product's rows, the padding rows included. -/
def hostX (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The matrix: its shards one after another. -/
def hostW (W : FVec Ideal S1x4096x4096 .f32) : FVec Ideal S4096x4096 .bf16 :=
  shapeCast S4096x4096 (truncf .bf16 (shapeCast S8x512x4096 (shapeCast S4096x4096 W shapeCasts_S1x4096x4096_S4096x4096) shapeCasts_S4096x4096_S8x512x4096) bitsLt_bf16_f32) shapeCasts_S8x512x4096_S4096x4096

theorem hostW_apply (W : FVec Ideal S1x4096x4096 .f32) (d k : Fin 4096) : hostW W (ix2 d k) = W (ix3 0 d k) := by
  pointwise [hostW]

/-- The arrays that the lines before the call leave for it. -/
theorem staged (c : Dev nD) : V m c main_v2 = truncf .bf16 (hostX (m ((c : Thread nD τ).loc main_arg0)) (m ((c : Thread nD τ).loc main_arg1))) bitsLt_bf16_f32
    ∧ V m c main_v8 = hostW (m ((c : Thread nD τ).loc main_arg2))
    ∧ V m c main_v4 = hostX (m ((c : Thread nD τ).loc main_arg3)) (m ((c : Thread nD τ).loc main_arg4)) := by
  refine ⟨?_, ?_, ?_⟩
  all_goals
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums. -/
def G (c : Dev nD) (q : ℕ) (y : S1408x1024.Idx) (d : Fin 4096) : EReal :=
  hostX (m ((c : Thread nD τ).loc main_arg0)) (m ((c : Thread nD τ).loc main_arg1)) (ix2 (grow q (y 0)) d) * m ((c : Thread nD τ).loc main_arg2) (ix3 0 d (gcol q (y 1)))

theorem blk_x (c : Dev nD) (t : Fin cfg0.N) (r : Fin 1408) (p : Fin 2048) : iblk m c 0 t (ix2 r p)
    = hostX (m ((c : Thread nD τ).loc main_arg0)) (m ((c : Thread nD τ).loc main_arg1)) (ix2 (grow (t.val / 2) r) (gk t p)) := by
  blk_simp [iblk]
  refine Eq.trans (b := V m c main_v2 (ix2 (grow (t.val / 2) r) (gk t p))) ?_ ?_
  · blk_ext [idx t, grow, gk]
  · rw [(staged m c).1]; exact truncf_at _ _ _

/-- A block of an array of the matrix's shape. -/
theorem read_w (Y : FVec Ideal S4096x4096 .bf16) (t : Fin cfg0.N) (p : Fin 2048) (l : Fin 1024) : ((cfg0.win 1).blk t).view.read (Elt Ideal) Y (ix2 p l) = Y (ix2 (gk t p) (gcol (t.val / 2) l)) := by
  blk_simp
  blk_ext [idx t, gcol, gk]

theorem blk_w (c : Dev nD) (t : Fin cfg0.N) (p : Fin 2048) (l : Fin 1024) : iblk m c 1 t (ix2 p l)
    = m ((c : Thread nD τ).loc main_arg2) (ix3 0 (gk t p) (gcol (t.val / 2) l)) := by
  refine (read_w (V m c main_v8) t p l).trans ?_
  rw [(staged m c).2.1]; exact hostW_apply _ _ _

theorem blk_h (c : Dev nD) (t : Fin cfg0.N) (r : Fin 1408) (l : Fin 1024) : iblk m c 2 t (ix2 r l)
    = hostX (m ((c : Thread nD τ).loc main_arg3)) (m ((c : Thread nD τ).loc main_arg4)) (ix2 (grow (t.val / 2) r) (gcol (t.val / 2) l)) := by
  blk_simp [iblk]
  refine Eq.trans (b := V m c main_v4 (ix2 (grow (t.val / 2) r) (gcol (t.val / 2) l))) ?_ ?_
  · blk_ext [idx t, grow, gcol]
  · rw [(staged m c).2.2]

theorem pay1 (x : FVec Ideal S1408x2048 .bf16) (w : FVec Ideal S2048x1024 .bf16) (r : Fin 1408) (l : Fin 1024) :
    k0_pay1 (F := Ideal) x w (ix2 r l) = ∑ p : Fin 2048, x (ix2 r p) * w (ix2 p l) := by
  pointwise [k0_pay1]

theorem pay2 (a : FVec Ideal S1408x1024 .f32) (x : FVec Ideal S1408x2048 .bf16) (w : FVec Ideal S2048x1024 .bf16) (r : Fin 1408) (l : Fin 1024) :
    k0_pay2 (F := Ideal) a x w (ix2 r l) = a (ix2 r l) + ∑ p : Fin 2048, x (ix2 r p) * w (ix2 p l) := by
  pointwise [k0_pay2]

/-- What step `t` adds. -/
theorem step (c : Dev nD) (t : Fin cfg0.N) (r : Fin 1408) (l : Fin 1024) :
    (∑ p : Fin 2048, (show EReal from iblk m c 0 t (ix2 r p)) * (show EReal from iblk m c 1 t (ix2 p l)))
      = ∑ p : Fin 2048, G m c (t.val / 2) (ix2 r l) ⟨t.val % 2 * 2048 + p.val, place_lt (nk := 2) rfl t.val p⟩ :=
  Finset.sum_congr rfl fun p _ => congrArg₂ (· * ·) (blk_x m c t r p) (blk_w m c t p l)

theorem scr_first (c : Dev nD) (t : Fin cfg0.N) (h : t.val % 2 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 2 = 0) : (outsAt0 m c t.val t.isLt).2
    = k0_pay2 (outsAt0 m c (t.val - 1) (Nat.lt_of_le_of_lt (Nat.sub_le _ _) t.isLt)).2 (iblk m c 0 t) (iblk m c 1 t) := by
  rw [outsAt0_B m c t h (by omega) (by omega)]; frame_out; simp only [read_unread_whole]

/-- After the last step of a run the scratch holds the whole contraction. -/
theorem scr_last (c : Dev nD) (t : Fin cfg0.N) (h : t.val % 2 = 1) (y : S1408x1024.Idx) : (outsAt0 m c t.val t.isLt).2 y = ∑ d : Fin 4096, G m c (t.val / 2) y d := by
  refine summed (nk := 2) (bk := 2048) rfl (fun n h => (outsAt0 m c n h).2) (G m c) (fun t h y => ?_) (fun t h y => ?_) t h y
  · obtain ⟨r, l, rfl⟩ : ∃ (r : Fin 1408) (l : Fin 1024), y = ix2 r l := ⟨y 0, y 1, eq_ix2 y⟩
    show (outsAt0 m c t.val t.isLt).2 (ix2 r l) = _
    rw [scr_first m c t h]
    exact (pay1 _ _ r l).trans (step m c t r l)
  · obtain ⟨r, l, rfl⟩ : ∃ (r : Fin 1408) (l : Fin 1024), y = ix2 r l := ⟨y 0, y 1, eq_ix2 y⟩
    show (outsAt0 m c t.val t.isLt).2 (ix2 r l) = _
    rw [scr_next m c t h]
    exact (pay2 _ _ _ r l).trans (congrArg (_ + ·) (step m c t r l))

/-- Row `q` of trip `k` of the loop that writes the sum out. -/
def trow (k : Fin k0_t1_loop.trips) (q : Fin 64) : Fin 1408 := ⟨64 * k.val + q.val, by have := Nat.lt_of_lt_of_le k.isLt k0_t1_abs.2.1; omega⟩

theorem off1 : ∀ k : Fin k0_t1_loop.trips, k0_off1 k = ![64 * k.val, 0] := by decide +kernel

theorem pay3 (a h : Vec Ideal S64x1024 .f32) (q : Fin 64) (l : Fin 1024) : k0_pay3 a h (ix2 q l) = Ideal.ofBits .f32 0x3F9837F0#32 * h (ix2 q l) + a (ix2 q l) := by
  pointwise [k0_pay3]

/-- What the loop writes at an entry. -/
def tile (A H : Vec Ideal S1408x1024 .f32) (y : S1408x1024.Idx) : EReal := Ideal.ofBits .f32 0x3F9837F0#32 * H y + A y

section Last
variable (c : Dev nD) (i : grid0.Coords) (arg3 : Memref sig .tc .vmem S1408x2048 .bf16) (harg3 : arg3.IsWhole) (arg4 : Memref sig .tc .vmem S2048x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .f32) (harg7 : arg7.IsWhole)

theorem trip_pieces (h3 : k0_cond3 i = 1#1) (XH : BufTy.Contents (Elt Ideal) arg5.view.ty) (X : BufTy.Contents (Elt Ideal) arg7.view.ty) (k : Fin k0_t1_loop.trips) :
    ∀ p ∈ tripL_k0_t1 (F := Ideal) Variants.none c none i arg3 harg3 arg4 harg4 arg5 harg5 arg6 harg6 arg7 harg7 h3 XH X k, ∀ x : p.1.shape.Idx,
      p.2 x = tile (arg7.view.read (Elt Ideal) X) (arg5.view.read (Elt Ideal) XH) (p.1.emb x) := by
  unfold tripL_k0_t1 trip_k0_t1
  dsimp only
  intro p hp x
  rcases List.mem_singleton.mp hp with rfl
  obtain ⟨q, l, rfl⟩ : ∃ (q : Fin 64) (l : Fin 1024), x = ix2 q l := ⟨x 0, x 1, eq_ix2 x⟩
  dsimp only
  refine (pay3 _ _ q l).trans ?_
  rfl

/-- The pieces of the last step of a run, from the sum the steps before and this step add up to. -/
theorem last_pieces (hc0 : ¬cond0_0 i) (hc1 : cond0_1 i) (hc2 : cond0_2 i) (x0 : FVec Ideal S1408x2048 .bf16) (x1 : FVec Ideal S2048x1024 .bf16) (x2 : FVec Ideal S1408x1024 .f32) (xs0 : FVec Ideal S1408x1024 .f32) :
    ∀ p ∈ (kernelRun0_B (F := Ideal) c i arg3 harg3 arg4 harg4 arg5 harg5 arg6 harg6 arg7 harg7 hc0 hc1 hc2 x0 x1 x2 xs0).1, ∀ x : p.1.shape.Idx, p.2 x = tile (k0_pay2 (F := Ideal) xs0 x0 x1) x2 (p.1.emb x) := by
  unfold kernelRun0_B
  dsimp only
  intro p hp x
  refine (pieces_of_trips (pb_k0_t1 (F := Ideal) Variants.none c none i arg3 harg3 arg4 harg4 arg5 harg5 arg6 harg6 arg7 harg7 _ _ _) (tripL_k0_t1 (F := Ideal) Variants.none c none i arg3 harg3 arg4 harg4 arg5 harg5 arg6 harg6 arg7 harg7 _ _ _) rfl
    (fun k => pb_k0_t1_succ (F := Ideal) Variants.none c none i arg3 harg3 arg4 harg4 arg5 harg5 arg6 harg6 arg7 harg7 _ _ _ k) _ (trip_pieces c i arg3 harg3 arg4 harg4 arg5 harg5 arg6 harg6 arg7 harg7 _ _ _) p hp x).trans ?_
  refine congrArg₂ (fun A H => tile A H (p.1.emb x)) ?_ ?_
  · unfold kernelRun0_B.sl.HS0_1
    rw [View.read_writes_junk_eq_canon]
    frame_out
  · rw [harg5.read_unread]

theorem out_last (hc0 : ¬cond0_0 i) (hc1 : cond0_1 i) (hc2 : cond0_2 i) (x0 : FVec Ideal S1408x2048 .bf16) (x1 : FVec Ideal S2048x1024 .bf16) (x2 : FVec Ideal S1408x1024 .f32) (xs0 : FVec Ideal S1408x1024 .f32) (y : S1408x1024.Idx) :
    out0_B_3 (F := Ideal) c i arg3 harg3 arg4 harg4 arg5 harg5 arg6 harg6 arg7 harg7 hc0 hc1 hc2 x0 x1 x2 xs0 y = tile (k0_pay2 (F := Ideal) xs0 x0 x1) x2 y := by
  unfold out0_B_3
  rw [View.read_writes_junk_apply_eq_canon]
  exact View.canon_apply_of_pieces _ _ (last_pieces c i arg3 harg3 arg4 harg4 arg5 harg5 arg6 harg6 arg7 harg7 hc0 hc1 hc2 x0 x1 x2 xs0) y
    (cover0_B_3 (F := Ideal) c i arg3 harg3 arg4 harg4 arg5 harg5 arg6 harg6 arg7 harg7 hc0 hc1 hc2 x0 x1 x2 xs0 y)
end Last

/-- The result: the product of every row and the matrix, a multiple of the added row. -/
def RES (X : FVec Ideal S2x2064x4096 .f32) (T : FVec Ideal S96x4096 .f32) (W : FVec Ideal S1x4096x4096 .f32) (H : FVec Ideal S2x2064x4096 .f32) (S : FVec Ideal S96x4096 .f32) : FVec Ideal S4224x4096 .f32 := fun j =>
  Ideal.ofBits .f32 0x3F9837F0#32 * hostX H S (ix2 (j 0) (j 1)) + ∑ d : Fin 4096, hostX X T (ix2 (j 0) d) * W (ix3 0 d (j 1))

theorem final3 (c : Dev nD) : (dats m 0 c).arrAt 3 (cfgs 0).N
    = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t hf y => ?_
  have h3 := (flush0_3 t).mp hf
  obtain ⟨r, l, rfl⟩ : ∃ (r : Fin 1408) (l : Fin 1024), y = ix2 r l := ⟨y 0, y 1, eq_ix2 y⟩
  have he : ((cfg0.win 3).blk t).view.emb (ix2 r l) = ix2 (grow (t.val / 2) r) (gcol (t.val / 2) l) := by
    blk_ext [idx t, grow, gcol]
  rw [he]
  blk_simp
  rw [after0_3, outsAt0_B m c t (by omega) (by omega) h3]
  dsimp only
  rw [out_last]
  have hl := scr_last m c t h3 (ix2 r l)
  rw [scr_next m c t (by omega)] at hl
  exact congrArg₂ (fun a b => Ideal.ofBits .f32 0x3F9837F0#32 * a + b) (blk_h m c t r l) hl

end Cert.KProjOutIdeal.RefValue

namespace Cert.RProjOutIdeal.RefValue
open Cert.RProjOutIdeal Cert.RProjOutIdeal.Gen Cert.RProjOutIdeal.Read Idealize.ShloMosaic Idealize.ShloMosaic.TcCoe Idealize.SL.Sem
open Cert.Rows Cert.Product
open Cert.KProjOutIdeal.RefValue (RES hostX)

variable (X0 X3 : FVec Ideal S2x2064x4096 .f32) (X1 X4 : FVec Ideal S96x4096 .f32) (X2 : FVec Ideal S1x4096x4096 .f32)

theorem ref : val_main_v8 (F := Ideal) X0 X1 X2 X3 X4 = RES X0 X1 X2 X3 X4 := by
  have e1 : val_main_v1 (F := Ideal) X0 X1 = hostX X0 X1 := rfl
  have e5 : val_main_v5 (F := Ideal) X3 X4 = hostX X3 X4 := rfl
  unfold val_main_v8 val_main_v7 val_main_v3 RES
  rw [e1, e5]
  generalize hostX X0 X1 = Y
  generalize hostX X3 X4 = Z
  funext j
  obtain ⟨R, l, rfl⟩ : ∃ (R : Fin 4224) (l : Fin 4096), j = ix2 R l := ⟨j 0, j 1, eq_ix2 j⟩
  pointwise [val_main_v2, val_main_v6, val_main_cst]

end Cert.RProjOutIdeal.RefValue

namespace Cert.Proof
open Idealize.ShloMosaic Idealize.ShloMosaic.TcCoe Idealize.SL.Sem

theorem algebraic_projout : Cert.algebraic_KProjOutIdeal_RProjOutIdeal := by
  pair_intro
  · run_from Cert.KProjOutIdeal.Value.run_blocks m g
  · run_from Cert.RProjOutIdeal.Value.run m' g'
    rw [Cert.KProjOutIdeal.RefValue.final3 m, (hagree c).2.2.2.1, (hagree c).2.2.2.2]
    refine Eq.trans ?_ (Cert.RProjOutIdeal.RefValue.ref _ _ _ _ _)
    exact Cert.RProjOutIdeal.Read.val_main_v8_eq (F := Ideal) _ _ _ _ _
end Cert.Proof
end
-- ==== Proof.OutW.lean ====
/- The mixer's output product's backward for its matrix: the channels of all rows against the rows' cotangents, summed over three blocks of
   rows, for each of the matrix's shards. -/
module

public import proofs.«01_k».proof.Proof.Gen.KOutWIdeal.Value
public import proofs.«01_k».proof.Proof.Gen.ROutWIdeal.Run
public import proofs.«01_k».proof.Proof.Gen.ROutWIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KOutWIdeal.RefValue
open Cert.KOutWIdeal Cert.KOutWIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val % 3, t.val / 3 / 2 % 8] ∧ win0_1.index t = ![t.val % 3, t.val / 3 % 2] ∧ win0_2.index t = ![t.val / 3 / 2 % 8, 0, t.val / 3 % 2] :=
  (by decide +kernel : ∀ t : Fin grid0.N, _)

/-- The row of the array that row `r` of a block is, and, for the run `q`, its part of the result and the two columns that are contracted. -/
def grow (t : Fin cfg0.N) (r : Fin 1408) : Fin 4224 := ⟨t.val % 3 * 1408 + r.val, by omega⟩
def gs (q : ℕ) : Fin 8 := ⟨q / 2 % 8, by omega⟩
def gc (q : ℕ) (p : Fin 512) : Fin 4096 := ⟨q / 2 % 8 * 512 + p.val, by omega⟩
def gf (q : ℕ) (l : Fin 2048) : Fin 4096 := ⟨q % 2 * 2048 + l.val, by omega⟩

/-- The channels of every row, the padding rows included. -/
def hostX (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The cotangents' rows, zeros after them. -/
def hostCt (C : FVec Ideal S2x2064x4096 .f32) : FVec Ideal S4224x4096 .f32 :=
  pad S4224x4096 ![0, 0] ![96, 0] ![0, 0] (shapeCast S4128x4096 C shapeCasts_S2x2064x4096_S4128x4096) (sitofp .f32 (constantI S_ 32 0#32)) pads_S4128x4096_S4224x4096_0960_000 h_S_

/-- The arrays that the lines before the call leave for it. -/
theorem staged (c : Dev nD) : V m c main_v2 = truncf .bf16 (hostX (m ((c : Thread nD τ).loc main_arg0)) (m ((c : Thread nD τ).loc main_arg1))) bitsLt_bf16_f32
    ∧ V m c main_v5 = truncf .bf16 (hostCt (m ((c : Thread nD τ).loc main_arg3))) bitsLt_bf16_f32 := by
  refine ⟨?_, ?_⟩
  all_goals
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums: a row's channel times the row's cotangent. -/
def G (c : Dev nD) (q : ℕ) (y : S512x2048.Idx) (d : Fin 4224) : EReal :=
  hostX (m ((c : Thread nD τ).loc main_arg0)) (m ((c : Thread nD τ).loc main_arg1)) (ix2 d (gc q (y 0)))
    * padded (fun b s => m ((c : Thread nD τ).loc main_arg3) (ix3 b s (gf q (y 1)))) d.val

theorem blk_x (c : Dev nD) (t : Fin cfg0.N) (r : Fin 1408) (p : Fin 512) : iblk m c 0 t (ix2 r p)
    = hostX (m ((c : Thread nD τ).loc main_arg0)) (m ((c : Thread nD τ).loc main_arg1)) (ix2 (grow t r) (gc (t.val / 3) p)) := by
  blk_simp [iblk]
  refine Eq.trans (b := V m c main_v2 (ix2 (grow t r) (gc (t.val / 3) p))) ?_ ?_
  · blk_ext [idx t, grow, gc]
  · rw [(staged m c).1]; rfl

theorem blk_d (c : Dev nD) (t : Fin cfg0.N) (r : Fin 1408) (l : Fin 2048) : iblk m c 1 t (ix2 r l)
    = padded (fun b s => m ((c : Thread nD τ).loc main_arg3) (ix3 b s (gf (t.val / 3) l))) (grow t r).val := by
  blk_simp [iblk]
  refine Eq.trans (b := V m c main_v5 (ix2 (grow t r) (gf (t.val / 3) l))) ?_ ?_
  · blk_ext [idx t, grow, gf]
  · rw [(staged m c).2]; exact padRows_apply _ _ pads_S4128x4096_S4224x4096_0960_000 h_S_ _ _

theorem pay1 (x : FVec Ideal S1408x512 .bf16) (d : FVec Ideal S1408x2048 .bf16) (p : Fin 512) (l : Fin 2048) :
    k0_pay1 (F := Ideal) x d (ix2 p l) = ∑ r : Fin 1408, x (ix2 r p) * d (ix2 r l) := by
  pointwise [k0_pay1]

theorem pay2 (a : FVec Ideal S512x2048 .f32) (x : FVec Ideal S1408x512 .bf16) (d : FVec Ideal S1408x2048 .bf16) (p : Fin 512) (l : Fin 2048) :
    k0_pay2 (F := Ideal) a x d (ix2 p l) = a (ix2 p l) + ∑ r : Fin 1408, x (ix2 r p) * d (ix2 r l) := by
  pointwise [k0_pay2]

/-- What step `t` adds. -/
theorem step (c : Dev nD) (t : Fin cfg0.N) (p : Fin 512) (l : Fin 2048) :
    (∑ r : Fin 1408, (show EReal from iblk m c 0 t (ix2 r p)) * (show EReal from iblk m c 1 t (ix2 r l)))
      = ∑ r : Fin 1408, G m c (t.val / 3) (ix2 p l) ⟨t.val % 3 * 1408 + r.val, place_lt (nk := 3) rfl t.val r⟩ :=
  Finset.sum_congr rfl fun r _ => congrArg₂ (· * ·) (blk_x m c t r p) (blk_d m c t r l)

theorem scr_first (c : Dev nD) (t : Fin cfg0.N) (h : t.val % 3 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 3 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 3 = 2
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 3 = 2) (y : S512x2048.Idx) : (outsAt0 m c t.val t.isLt).2 y = ∑ d : Fin 4224, G m c (t.val / 3) y d := by
  refine summed (nk := 3) (bk := 1408) rfl (fun n h => (outsAt0 m c n h).2) (G m c) (fun t h y => ?_) (fun t h y => ?_) t h y
  · obtain ⟨p, l, rfl⟩ : ∃ (p : Fin 512) (l : Fin 2048), y = ix2 p l := ⟨y 0, y 1, eq_ix2 y⟩
    show (outsAt0 m c t.val t.isLt).2 (ix2 p l) = _
    rw [scr_first m c t h]
    exact (pay1 _ _ p l).trans (step m c t p l)
  · obtain ⟨p, l, rfl⟩ : ∃ (p : Fin 512) (l : Fin 2048), y = ix2 p l := ⟨y 0, y 1, eq_ix2 y⟩
    show (outsAt0 m c t.val t.isLt).2 (ix2 p l) = _
    rw [scr_next m c t h]
    exact (pay2 _ _ _ p l).trans (congrArg (_ + ·) (step m c t p l))

/-- Row `q` of trip `k` of the loop that writes the sum out. -/
def trow (k : Fin k0_t1_loop.trips) (q : Fin 64) : Fin 512 := ⟨64 * k.val + q.val, by have := Nat.lt_of_lt_of_le k.isLt k0_t1_abs.2.1; omega⟩

theorem off1 : ∀ k : Fin k0_t1_loop.trips, k0_off1 k = ![64 * k.val, 0] := by decide +kernel
theorem off2 : ∀ k : Fin k0_t1_loop.trips, k0_off2 k = ![0, 64 * k.val, 0] := by decide +kernel

theorem pay3 (a : Vec Ideal S64x2048 .f32) (q : Fin 64) (l : Fin 2048) : k0_pay3 a (ix3 0 q l) = a (ix2 q l) := by
  pointwise [k0_pay3]

/-- What the loop writes: the sum's rows, rounded. -/
def tile (A : Vec Ideal S512x2048 .f32) (y : S1x512x2048.Idx) : EReal := A (ix2 (y 1) (y 2))

section Last
variable (c : Dev nD) (i : grid0.Coords) (arg3 : Memref sig .tc .vmem S1408x512 .bf16) (harg3 : arg3.IsWhole) (arg4 : Memref sig .tc .vmem S1408x2048 .bf16) (harg4 : arg4.IsWhole) (arg5 : Memref sig .tc .vmem S1x512x2048 .bf16) (harg5 : arg5.IsWhole) (arg6 : Memref sig .tc .vmem S512x2048 .f32) (harg6 : arg6.IsWhole)

theorem trip_pieces (h3 : k0_cond3 i = 1#1) (X : BufTy.Contents (Elt Ideal) arg6.view.ty) (k : Fin k0_t1_loop.trips) :
    ∀ p ∈ tripL_k0_t1 (F := Ideal) Variants.none c none i arg3 harg3 arg4 harg4 arg5 harg5 arg6 harg6 h3 X k, ∀ x : p.1.shape.Idx,
      p.2 x = tile (arg6.view.read (Elt Ideal) X) (p.1.emb x) := by
  unfold tripL_k0_t1 trip_k0_t1
  dsimp only
  intro p hp x
  rcases List.mem_singleton.mp hp with rfl
  obtain ⟨q, l, rfl⟩ := idx_one x
  dsimp only
  refine (pay3 _ q l).trans ?_
  rw [tile_emb3 _ _ (off2 k) _ q l (trow k q) rfl]
  exact congrArg (fun z => arg6.view.read (Elt Ideal) X z) (tile_emb2 _ _ (off1 k) _ q l (trow k q) rfl)

/-- The pieces of the last step of a run, from the sum the steps before and this step add up to. -/
theorem last_pieces (hc0 : ¬cond0_0 i) (hc1 : cond0_1 i) (hc2 : cond0_2 i) (x0 : FVec Ideal S1408x512 .bf16) (x1 : FVec Ideal S1408x2048 .bf16) (xs0 : FVec Ideal S512x2048 .f32) :
    ∀ p ∈ (kernelRun0_C (F := Ideal) c i arg3 harg3 arg4 harg4 arg5 harg5 arg6 harg6 hc0 hc1 hc2 x0 x1 xs0).1, ∀ x : p.1.shape.Idx, p.2 x = tile (k0_pay2 (F := Ideal) xs0 x0 x1) (p.1.emb x) := by
  unfold kernelRun0_C
  dsimp only
  intro p hp x
  refine (pieces_of_trips (pb_k0_t1 (F := Ideal) Variants.none c none i arg3 harg3 arg4 harg4 arg5 harg5 arg6 harg6 _ _) (tripL_k0_t1 (F := Ideal) Variants.none c none i arg3 harg3 arg4 harg4 arg5 harg5 arg6 harg6 _ _) rfl
    (fun k => pb_k0_t1_succ (F := Ideal) Variants.none c none i arg3 harg3 arg4 harg4 arg5 harg5 arg6 harg6 _ _ k) _ (trip_pieces c i arg3 harg3 arg4 harg4 arg5 harg5 arg6 harg6 _ _) p hp x).trans ?_
  refine congrArg (fun A => tile A (p.1.emb x)) ?_
  unfold kernelRun0_C.sl.HS0_1
  rw [View.read_writes_junk_eq_canon]
  frame_out

theorem out_C (hc0 : ¬cond0_0 i) (hc1 : cond0_1 i) (hc2 : cond0_2 i) (x0 : FVec Ideal S1408x512 .bf16) (x1 : FVec Ideal S1408x2048 .bf16) (xs0 : FVec Ideal S512x2048 .f32) (y : S1x512x2048.Idx) :
    out0_C_2 (F := Ideal) c i arg3 harg3 arg4 harg4 arg5 harg5 arg6 harg6 hc0 hc1 hc2 x0 x1 xs0 y = tile (k0_pay2 (F := Ideal) xs0 x0 x1) y := by
  unfold out0_C_2
  rw [View.read_writes_junk_apply_eq_canon]
  exact View.canon_apply_of_pieces _ _ (last_pieces c i arg3 harg3 arg4 harg4 arg5 harg5 arg6 harg6 hc0 hc1 hc2 x0 x1 xs0) y
    (cover0_C_2 (F := Ideal) c i arg3 harg3 arg4 harg4 arg5 harg5 arg6 harg6 hc0 hc1 hc2 x0 x1 xs0 y)
end Last

/-- The gradient by shards. -/
def DW (X : FVec Ideal S2x2064x4096 .f32) (T : FVec Ideal S96x4096 .f32) (C : FVec Ideal S2x2064x4096 .f32) : FVec Ideal S8x512x4096 .bf16 := fun j =>
  ∑ d : Fin 4224, hostX X T (ix2 d (⟨(j 0).val * 512 + (j 1).val, by have h0 := (j 0).isLt; have h1 := (j 1).isLt; have h2 := (j 2).isLt; change (j 0).val < 8 at h0; change (j 1).val < 512 at h1; change (j 2).val < 4096 at h2; omega⟩ : Fin 4096))
    * padded (fun b s => C (ix3 b s (j 2))) d.val

theorem final2 (c : Dev nD) : (dats m 0 c).arrAt 2 (cfgs 0).N
    = DW (m ((c : Thread nD τ).loc main_arg0)) (m ((c : Thread nD τ).loc main_arg1)) (m ((c : Thread nD τ).loc main_arg3)) := by
  refine (dats m 0 c).arrAt_eq_of_covers 2 _ (by decide +kernel) fun t hf y => ?_
  have h3 := (flush0_2 t).mp hf
  obtain ⟨p, l, rfl⟩ := idx_one y
  have he : ((cfg0.win 2).blk t).view.emb (ix3 0 p l) = ix3 (gs (t.val / 3)) p (gf (t.val / 3) l) := by
    blk_ext [idx t, gs, gc, gf]
  rw [he]
  blk_simp
  rw [after0_2, outsAt0_C m c t (by omega) (by omega) h3]
  dsimp only
  rw [out_C]
  have hl := scr_last m c t h3 (ix2 p l)
  rw [scr_next m c t (by omega)] at hl
  exact hl

end Cert.KOutWIdeal.RefValue

namespace Cert.ROutWIdeal.RefValue
open Cert.ROutWIdeal Cert.ROutWIdeal.Gen Cert.ROutWIdeal.Read Idealize.ShloMosaic Idealize.ShloMosaic.TcCoe Idealize.SL.Sem
open Cert.Rows Cert.Product
open Cert.KOutWIdeal.RefValue (hostX DW)

variable (X0 : FVec Ideal S2x2064x4096 .f32) (X3 : FVec Ideal S2x2064x4096 .f32) (X1 : FVec Ideal S96x4096 .f32)

theorem stage7 (n : Fin 8) (p : Fin 512) (f : Fin 4096) (k : Fin 4096) (hk : k.val = n.val * 512 + p.val) : val_main_v7 (F := Ideal) X0 X3 (ix3 n p f)
    = ∑ b : Fin 2, ∑ s : Fin 2064, X0 (ix3 b s k) * X3 (ix3 b s f) := by
  obtain ⟨k, k'⟩ := k
  change k = n.val * 512 + p.val at hk
  subst hk
  pointwise [val_main_v7, val_main_v6, val_main_v5, val_main_v4, val_main_v3, val_main_v2]
  exact Finset.sum_congr rfl fun _ _ => Finset.sum_congr rfl fun _ _ => mul_comm (G := EReal) _ _

theorem ref7 : val_main_v7 (F := Ideal) X0 X3 = DW X0 X1 X3 := by
  funext j
  obtain ⟨n, p, f, rfl⟩ : ∃ (n : Fin 8) (p : Fin 512) (f : Fin 4096), j = ix3 n p f := ⟨j 0, j 1, j 2, eq_ix3 j⟩
  refine (stage7 X0 X3 n p f ⟨n.val * 512 + p.val, by omega⟩ rfl).trans ?_
  exact (sum_mul_padded (fun b s => X3 (ix3 b s f)) (fun b s => X0 (ix3 b s (⟨n.val * 512 + p.val, by omega⟩ : Fin 4096))) (fun d => hostX X0 X1 (ix2 d (⟨n.val * 512 + p.val, by omega⟩ : Fin 4096)))
    fun R hR => tailRows_apply _ _ _ _ _ _ hR).symm
end Cert.ROutWIdeal.RefValue

namespace Cert.Proof
open Idealize.ShloMosaic Idealize.ShloMosaic.TcCoe Idealize.SL.Sem

theorem algebraic_outw : Cert.algebraic_KOutWIdeal_ROutWIdeal := by
  pair_intro
  · run_from Cert.KOutWIdeal.Value.run_blocks m g
  · run_from Cert.ROutWIdeal.Value.run m' g'
    rw [Cert.KOutWIdeal.RefValue.final2 m]
    refine Eq.trans ?_ (Cert.ROutWIdeal.RefValue.ref7 _ _ _)
    exact Cert.ROutWIdeal.Read.val_main_v7_eq (F := Ideal) _ _
end Cert.Proof
end
-- ==== Proof.InW.lean ====
/- The mixer's input product's backward for its matrix: the features of all rows against the rows' cotangents, summed over three blocks of
   rows, for each of the matrix's shards. -/
module

public import proofs.«01_k».proof.Proof.Gen.KInWIdeal.Value
public import proofs.«01_k».proof.Proof.Gen.RInWIdeal.Run
public import proofs.«01_k».proof.Proof.Gen.RInWIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KInWIdeal.RefValue
open Cert.KInWIdeal Cert.KInWIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val % 3, t.val / 3 % 2] ∧ win0_1.index t = ![t.val % 3, t.val / 3 / 2 % 8] ∧ win0_2.index t = ![t.val / 3 / 2 % 8, t.val / 3 % 2, 0] :=
  (by decide +kernel : ∀ t : Fin grid0.N, _)

/-- The row of the array that row `r` of a block is, and, for the run `q`, its part of the result and the two columns that are contracted. -/
def grow (t : Fin cfg0.N) (r : Fin 1408) : Fin 4224 := ⟨t.val % 3 * 1408 + r.val, by omega⟩
def gs (q : ℕ) : Fin 8 := ⟨q / 2 % 8, by omega⟩
def gc (q : ℕ) (p : Fin 2048) : Fin 4096 := ⟨q % 2 * 2048 + p.val, by omega⟩
def gf (q : ℕ) (l : Fin 1024) : Fin 8192 := ⟨q / 2 % 8 * 1024 + l.val, by omega⟩

/-- The features of every row, the padding rows included. -/
def hostX (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The cotangents' rows, zeros after them. -/
def hostCt (C : FVec Ideal S2x2064x8192 .f32) : FVec Ideal S4224x8192 .f32 :=
  pad S4224x8192 ![0, 0] ![96, 0] ![0, 0] (shapeCast S4128x8192 C shapeCasts_S2x2064x8192_S4128x8192) (sitofp .f32 (constantI S_ 32 0#32)) pads_S4128x8192_S4224x8192_0960_000 h_S_

/-- The arrays that the lines before the call leave for it. -/
theorem staged (c : Dev nD) : V m c main_v2 = truncf .bf16 (hostX (m ((c : Thread nD τ).loc main_arg0)) (m ((c : Thread nD τ).loc main_arg1))) bitsLt_bf16_f32
    ∧ V m c main_v5 = truncf .bf16 (hostCt (m ((c : Thread nD τ).loc main_arg3))) bitsLt_bf16_f32 := by
  refine ⟨?_, ?_⟩
  all_goals
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums: a row's feature times the row's cotangent. -/
def G (c : Dev nD) (q : ℕ) (y : S2048x1024.Idx) (d : Fin 4224) : EReal :=
  hostX (m ((c : Thread nD τ).loc main_arg0)) (m ((c : Thread nD τ).loc main_arg1)) (ix2 d (gc q (y 0)))
    * padded (fun b s => m ((c : Thread nD τ).loc main_arg3) (ix3 b s (gf q (y 1)))) d.val

theorem blk_x (c : Dev nD) (t : Fin cfg0.N) (r : Fin 1408) (p : Fin 2048) : iblk m c 0 t (ix2 r p)
    = hostX (m ((c : Thread nD τ).loc main_arg0)) (m ((c : Thread nD τ).loc main_arg1)) (ix2 (grow t r) (gc (t.val / 3) p)) := by
  blk_simp [iblk]
  refine Eq.trans (b := V m c main_v2 (ix2 (grow t r) (gc (t.val / 3) p))) ?_ ?_
  · blk_ext [idx t, grow, gc]
  · rw [(staged m c).1]; rfl

theorem blk_d (c : Dev nD) (t : Fin cfg0.N) (r : Fin 1408) (l : Fin 1024) : iblk m c 1 t (ix2 r l)
    = padded (fun b s => m ((c : Thread nD τ).loc main_arg3) (ix3 b s (gf (t.val / 3) l))) (grow t r).val := by
  blk_simp [iblk]
  refine Eq.trans (b := V m c main_v5 (ix2 (grow t r) (gf (t.val / 3) l))) ?_ ?_
  · blk_ext [idx t, grow, gf]
  · rw [(staged m c).2]; exact padRows_apply _ _ pads_S4128x8192_S4224x8192_0960_000 h_S_ _ _

theorem pay1 (x : FVec Ideal S1408x2048 .bf16) (d : FVec Ideal S1408x1024 .bf16) (p : Fin 2048) (l : Fin 1024) :
    k0_pay1 (F := Ideal) x d (ix2 p l) = ∑ r : Fin 1408, x (ix2 r p) * d (ix2 r l) := by
  pointwise [k0_pay1]

theorem pay2 (a : FVec Ideal S2048x1024 .f32) (x : FVec Ideal S1408x2048 .bf16) (d : FVec Ideal S1408x1024 .bf16) (p : Fin 2048) (l : Fin 1024) :
    k0_pay2 (F := Ideal) a x d (ix2 p l) = a (ix2 p l) + ∑ r : Fin 1408, x (ix2 r p) * d (ix2 r l) := by
  pointwise [k0_pay2]

/-- What step `t` adds. -/
theorem step (c : Dev nD) (t : Fin cfg0.N) (p : Fin 2048) (l : Fin 1024) :
    (∑ r : Fin 1408, (show EReal from iblk m c 0 t (ix2 r p)) * (show EReal from iblk m c 1 t (ix2 r l)))
      = ∑ r : Fin 1408, G m c (t.val / 3) (ix2 p l) ⟨t.val % 3 * 1408 + r.val, place_lt (nk := 3) rfl t.val r⟩ :=
  Finset.sum_congr rfl fun r _ => congrArg₂ (· * ·) (blk_x m c t r p) (blk_d m c t r l)

theorem scr_first (c : Dev nD) (t : Fin cfg0.N) (h : t.val % 3 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 3 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 3 = 2
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 3 = 2) (y : S2048x1024.Idx) : (outsAt0 m c t.val t.isLt).2 y = ∑ d : Fin 4224, G m c (t.val / 3) y d := by
  refine summed (nk := 3) (bk := 1408) rfl (fun n h => (outsAt0 m c n h).2) (G m c) (fun t h y => ?_) (fun t h y => ?_) t h y
  · obtain ⟨p, l, rfl⟩ : ∃ (p : Fin 2048) (l : Fin 1024), y = ix2 p l := ⟨y 0, y 1, eq_ix2 y⟩
    show (outsAt0 m c t.val t.isLt).2 (ix2 p l) = _
    rw [scr_first m c t h]
    exact (pay1 _ _ p l).trans (step m c t p l)
  · obtain ⟨p, l, rfl⟩ : ∃ (p : Fin 2048) (l : Fin 1024), y = ix2 p l := ⟨y 0, y 1, eq_ix2 y⟩
    show (outsAt0 m c t.val t.isLt).2 (ix2 p l) = _
    rw [scr_next m c t h]
    exact (pay2 _ _ _ p l).trans (congrArg (_ + ·) (step m c t p l))

/-- Row `q` of trip `k` of the loop that writes the sum out. -/
def trow (k : Fin k0_t1_loop.trips) (q : Fin 64) : Fin 2048 := ⟨64 * k.val + q.val, by have := Nat.lt_of_lt_of_le k.isLt k0_t1_abs.2.1; omega⟩

theorem off1 : ∀ k : Fin k0_t1_loop.trips, k0_off1 k = ![64 * k.val, 0] := by decide +kernel
theorem off2 : ∀ k : Fin k0_t1_loop.trips, k0_off2 k = ![0, 64 * k.val, 0] := by decide +kernel

theorem pay3 (a : Vec Ideal S64x1024 .f32) (q : Fin 64) (l : Fin 1024) : k0_pay3 a (ix3 0 q l) = a (ix2 q l) := by
  pointwise [k0_pay3]

/-- What the loop writes: the sum's rows, rounded. -/
def tile (A : Vec Ideal S2048x1024 .f32) (y : S1x2048x1024.Idx) : EReal := A (ix2 (y 1) (y 2))

section Last
variable (c : Dev nD) (i : grid0.Coords) (arg3 : Memref sig .tc .vmem S1408x2048 .bf16) (harg3 : arg3.IsWhole) (arg4 : Memref sig .tc .vmem S1408x1024 .bf16) (harg4 : arg4.IsWhole) (arg5 : Memref sig .tc .vmem S1x2048x1024 .bf16) (harg5 : arg5.IsWhole) (arg6 : Memref sig .tc .vmem S2048x1024 .f32) (harg6 : arg6.IsWhole)

theorem trip_pieces (h3 : k0_cond3 i = 1#1) (X : BufTy.Contents (Elt Ideal) arg6.view.ty) (k : Fin k0_t1_loop.trips) :
    ∀ p ∈ tripL_k0_t1 (F := Ideal) Variants.none c none i arg3 harg3 arg4 harg4 arg5 harg5 arg6 harg6 h3 X k, ∀ x : p.1.shape.Idx,
      p.2 x = tile (arg6.view.read (Elt Ideal) X) (p.1.emb x) := by
  unfold tripL_k0_t1 trip_k0_t1
  dsimp only
  intro p hp x
  rcases List.mem_singleton.mp hp with rfl
  obtain ⟨q, l, rfl⟩ := idx_one x
  dsimp only
  refine (pay3 _ q l).trans ?_
  rw [tile_emb3 _ _ (off2 k) _ q l (trow k q) rfl]
  exact congrArg (fun z => arg6.view.read (Elt Ideal) X z) (tile_emb2 _ _ (off1 k) _ q l (trow k q) rfl)

/-- The pieces of the last step of a run, from the sum the steps before and this step add up to. -/
theorem last_pieces (hc0 : ¬cond0_0 i) (hc1 : cond0_1 i) (hc2 : cond0_2 i) (x0 : FVec Ideal S1408x2048 .bf16) (x1 : FVec Ideal S1408x1024 .bf16) (xs0 : FVec Ideal S2048x1024 .f32) :
    ∀ p ∈ (kernelRun0_C (F := Ideal) c i arg3 harg3 arg4 harg4 arg5 harg5 arg6 harg6 hc0 hc1 hc2 x0 x1 xs0).1, ∀ x : p.1.shape.Idx, p.2 x = tile (k0_pay2 (F := Ideal) xs0 x0 x1) (p.1.emb x) := by
  unfold kernelRun0_C
  dsimp only
  intro p hp x
  refine (pieces_of_trips (pb_k0_t1 (F := Ideal) Variants.none c none i arg3 harg3 arg4 harg4 arg5 harg5 arg6 harg6 _ _) (tripL_k0_t1 (F := Ideal) Variants.none c none i arg3 harg3 arg4 harg4 arg5 harg5 arg6 harg6 _ _) rfl
    (fun k => pb_k0_t1_succ (F := Ideal) Variants.none c none i arg3 harg3 arg4 harg4 arg5 harg5 arg6 harg6 _ _ k) _ (trip_pieces c i arg3 harg3 arg4 harg4 arg5 harg5 arg6 harg6 _ _) p hp x).trans ?_
  refine congrArg (fun A => tile A (p.1.emb x)) ?_
  unfold kernelRun0_C.sl.HS0_1
  rw [View.read_writes_junk_eq_canon]
  frame_out

theorem out_C (hc0 : ¬cond0_0 i) (hc1 : cond0_1 i) (hc2 : cond0_2 i) (x0 : FVec Ideal S1408x2048 .bf16) (x1 : FVec Ideal S1408x1024 .bf16) (xs0 : FVec Ideal S2048x1024 .f32) (y : S1x2048x1024.Idx) :
    out0_C_2 (F := Ideal) c i arg3 harg3 arg4 harg4 arg5 harg5 arg6 harg6 hc0 hc1 hc2 x0 x1 xs0 y = tile (k0_pay2 (F := Ideal) xs0 x0 x1) y := by
  unfold out0_C_2
  rw [View.read_writes_junk_apply_eq_canon]
  exact View.canon_apply_of_pieces _ _ (last_pieces c i arg3 harg3 arg4 harg4 arg5 harg5 arg6 harg6 hc0 hc1 hc2 x0 x1 xs0) y
    (cover0_C_2 (F := Ideal) c i arg3 harg3 arg4 harg4 arg5 harg5 arg6 harg6 hc0 hc1 hc2 x0 x1 xs0 y)
end Last

/-- The gradient by shards. -/
def DW (X : FVec Ideal S2x2064x4096 .f32) (T : FVec Ideal S96x4096 .f32) (C : FVec Ideal S2x2064x8192 .f32) : FVec Ideal S8x4096x1024 .bf16 := fun j =>
  ∑ d : Fin 4224, hostX X T (ix2 d (j 1))
    * padded (fun b s => C (ix3 b s (⟨(j 0).val * 1024 + (j 2).val, by have h0 := (j 0).isLt; have h1 := (j 1).isLt; have h2 := (j 2).isLt; change (j 0).val < 8 at h0; change (j 1).val < 4096 at h1; change (j 2).val < 1024 at h2; omega⟩ : Fin 8192))) d.val

theorem final2 (c : Dev nD) : (dats m 0 c).arrAt 2 (cfgs 0).N
    = DW (m ((c : Thread nD τ).loc main_arg0)) (m ((c : Thread nD τ).loc main_arg1)) (m ((c : Thread nD τ).loc main_arg3)) := by
  refine (dats m 0 c).arrAt_eq_of_covers 2 _ (by decide +kernel) fun t hf y => ?_
  have h3 := (flush0_2 t).mp hf
  obtain ⟨p, l, rfl⟩ := idx_one y
  have he : ((cfg0.win 2).blk t).view.emb (ix3 0 p l) = ix3 (gs (t.val / 3)) (gc (t.val / 3) p) l := by
    blk_ext [idx t, gs, gc, gf]
  rw [he]
  blk_simp
  rw [after0_2, outsAt0_C m c t (by omega) (by omega) h3]
  dsimp only
  rw [out_C]
  have hl := scr_last m c t h3 (ix2 p l)
  rw [scr_next m c t (by omega)] at hl
  exact hl

end Cert.KInWIdeal.RefValue

namespace Cert.RInWIdeal.RefValue
open Cert.RInWIdeal Cert.RInWIdeal.Gen Cert.RInWIdeal.Read Idealize.ShloMosaic Idealize.ShloMosaic.TcCoe Idealize.SL.Sem
open Cert.Rows Cert.Product
open Cert.KInWIdeal.RefValue (hostX DW)

variable (X0 : FVec Ideal S2x2064x4096 .f32) (X3 : FVec Ideal S2x2064x8192 .f32) (X1 : FVec Ideal S96x4096 .f32)

theorem stage8 (n : Fin 8) (p : Fin 4096) (f : Fin 1024) (k : Fin 8192) (hk : k.val = n.val * 1024 + f.val) : val_main_v8 (F := Ideal) X0 X3 (ix3 n p f)
    = ∑ b : Fin 2, ∑ s : Fin 2064, X0 (ix3 b s p) * X3 (ix3 b s k) := by
  obtain ⟨k, k'⟩ := k
  change k = n.val * 1024 + f.val at hk
  subst hk
  pointwise [val_main_v8, val_main_v7, val_main_v6, val_main_v5, val_main_v4, val_main_v3, val_main_v2]
  exact Finset.sum_congr rfl fun _ _ => Finset.sum_congr rfl fun _ _ => mul_comm (G := EReal) _ _

theorem ref8 : val_main_v8 (F := Ideal) X0 X3 = DW X0 X1 X3 := by
  funext j
  obtain ⟨n, p, f, rfl⟩ : ∃ (n : Fin 8) (p : Fin 4096) (f : Fin 1024), j = ix3 n p f := ⟨j 0, j 1, j 2, eq_ix3 j⟩
  refine (stage8 X0 X3 n p f ⟨n.val * 1024 + f.val, by omega⟩ rfl).trans ?_
  exact (sum_mul_padded (fun b s => X3 (ix3 b s (⟨n.val * 1024 + f.val, by omega⟩ : Fin 8192))) (fun b s => X0 (ix3 b s p)) (fun d => hostX X0 X1 (ix2 d p))
    fun R hR => tailRows_apply _ _ _ _ _ _ hR).symm
end Cert.RInWIdeal.RefValue

namespace Cert.Proof
open Idealize.ShloMosaic Idealize.ShloMosaic.TcCoe Idealize.SL.Sem

theorem algebraic_inw : Cert.algebraic_KInWIdeal_RInWIdeal := by
  pair_intro
  · run_from Cert.KInWIdeal.Value.run_blocks m g
  · run_from Cert.RInWIdeal.Value.run m' g'
    rw [Cert.KInWIdeal.RefValue.final2 m]
    refine Eq.trans ?_ (Cert.RInWIdeal.RefValue.ref8 _ _ _)
    exact Cert.RInWIdeal.Read.val_main_v8_eq (F := Ideal) _ _
end Cert.Proof
end
-- ==== Proof.InH.lean ====
/- The mixer's input product's backward for its input, with a multiple of the cotangents of the rows that entered the mixer: every row's
   cotangents against the rows of the matrix, summed over its eight shards. -/
module

public import proofs.«01_k».proof.Proof.Gen.KInHIdeal.Value
public import proofs.«01_k».proof.Proof.Gen.RInHIdeal.Run
public import proofs.«01_k».proof.Proof.Gen.RInHIdeal.Read
public import proofs.«01_k».proof.Defs
public import proofs.«01_k».proof.Proof.Epilogue
public import Idealize.ShloMosaic.Lib.Pipeline.ValueKit
public import Idealize.ShloMosaic.Lib.Pipeline.ReadBack
public import Idealize.ShloMosaic.Lib.Claim

@[expose] public section

set_option maxRecDepth 16384

noncomputable section

namespace Cert.KInHIdeal.RefValue
open Cert.KInHIdeal Cert.KInHIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val / 8 / 4 % 3, t.val % 8] ∧ win0_1.index t = ![t.val % 8, t.val / 8 % 4, 0] ∧ win0_2.index t = ![t.val / 8 / 4 % 3, t.val / 8 % 4] ∧ win0_3.index t = ![t.val / 8 / 4 % 3, t.val / 8 % 4] :=
  (by decide +kernel : ∀ t : Fin grid0.N, _)

/-- For the run `q`, the row and the column of the result that row `r` and column `l` of its block are; the place of the contraction that place
    `p` of step `t` is; the shard of the step. -/
def grow (q : ℕ) (r : Fin 1408) : Fin 4224 := ⟨q / 4 % 3 * 1408 + r.val, by omega⟩
def gcol (q : ℕ) (l : Fin 1024) : Fin 4096 := ⟨q % 4 * 1024 + l.val, by omega⟩
def gk (t : Fin cfg0.N) (p : Fin 1024) : Fin 8192 := ⟨t.val % 8 * 1024 + p.val, by omega⟩
def gn (t : Fin cfg0.N) : Fin 8 := ⟨t.val % 8, by omega⟩

/-- The product's rows, zeros after them. -/
def hostX (X : FVec Ideal S2x2064x8192 .f32) : FVec Ideal S4224x8192 .f32 :=
  pad S4224x8192 ![0, 0] ![96, 0] ![0, 0] (shapeCast S4128x8192 X shapeCasts_S2x2064x8192_S4128x8192) (sitofp .f32 (constantI S_ 32 0#32)) pads_S4128x8192_S4224x8192_0960_000 h_S_

/-- The added rows, zeros after them. -/
def hostH (X : FVec Ideal S2x2064x4096 .f32) : FVec Ideal S4224x4096 .f32 :=
  pad S4224x4096 ![0, 0] ![96, 0] ![0, 0] (shapeCast S4128x4096 X shapeCasts_S2x2064x4096_S4128x4096) (sitofp .f32 (constantI S_ 32 0#32)) pads_S4128x4096_S4224x4096_0960_000 h_S_

/-- The matrix by shards. -/
def hostW (W : FVec Ideal S1x4096x8192 .f32) : FVec Ideal S8x4096x1024 .f32 :=
  transpose S8x4096x1024 [1, 0, 2] (shapeCast S4096x8x1024 (shapeCast S4096x8192 W shapeCasts_S1x4096x8192_S4096x8192) shapeCasts_S4096x8192_S4096x8x1024) transposes_S4096x8x1024_S8x4096x1024_1_0_2

theorem hostW_apply (W : FVec Ideal S1x4096x8192 .f32) (n : Fin 8) (d : Fin 4096) (p : Fin 1024) (k : Fin 8192) (hk : k.val = n.val * 1024 + p.val) :
    hostW W (ix3 n d p) = W (ix3 0 d k) := by
  obtain ⟨k, hk'⟩ := k
  change k = n.val * 1024 + p.val at hk
  subst hk
  pointwise [hostW]

/-- The arrays that the lines before the call leave for it. -/
theorem staged (c : Dev nD) : V m c main_v6 = truncf .bf16 (hostX (m ((c : Thread nD τ).loc main_arg2))) bitsLt_bf16_f32
    ∧ V m c main_v3 = truncf .bf16 (hostW (m ((c : Thread nD τ).loc main_arg1))) bitsLt_bf16_f32
    ∧ V m c main_v8 = hostH (m ((c : Thread nD τ).loc main_arg3)) := by
  refine ⟨?_, ?_, ?_⟩
  all_goals
    unfold V
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums. -/
def G (c : Dev nD) (q : ℕ) (y : S1408x1024.Idx) (d : Fin 8192) : EReal :=
  padded (fun b s => m ((c : Thread nD τ).loc main_arg2) (ix3 b s d)) (grow q (y 0)).val * m ((c : Thread nD τ).loc main_arg1) (ix3 0 (gcol q (y 1)) d)

theorem blk_x (c : Dev nD) (t : Fin cfg0.N) (r : Fin 1408) (p : Fin 1024) : iblk m c 0 t (ix2 r p)
    = padded (fun b s => m ((c : Thread nD τ).loc main_arg2) (ix3 b s (gk t p))) (grow (t.val / 8) r).val := by
  blk_simp [iblk]
  refine Eq.trans (b := V m c main_v6 (ix2 (grow (t.val / 8) r) (gk t p))) ?_ ?_
  · blk_ext [idx t, grow, gk]
  · rw [(staged m c).1]; exact padRows_apply _ _ pads_S4128x8192_S4224x8192_0960_000 h_S_ _ _

/-- A block of an array of the matrix's shape. -/
theorem read_w (Y : FVec Ideal S8x4096x1024 .bf16) (t : Fin cfg0.N) (p : Fin 1024) (l : Fin 1024) : ((cfg0.win 1).blk t).view.read (Elt Ideal) Y (ix3 0 l p) = Y (ix3 (gn t) (gcol (t.val / 8) l) p) := by
  blk_simp
  blk_ext [idx t, gcol, gk, gn]

theorem blk_w (c : Dev nD) (t : Fin cfg0.N) (p : Fin 1024) (l : Fin 1024) : iblk m c 1 t (ix3 0 l p)
    = m ((c : Thread nD τ).loc main_arg1) (ix3 0 (gcol (t.val / 8) l) (gk t p)) := by
  refine (read_w (V m c main_v3) t p l).trans ?_
  rw [(staged m c).2.1]; exact (truncf_at _ _ _).trans (hostW_apply (m ((c : Thread nD τ).loc main_arg1)) (gn t) (gcol (t.val / 8) l) p (gk t p) (by rfl))

theorem blk_h (c : Dev nD) (t : Fin cfg0.N) (r : Fin 1408) (l : Fin 1024) : iblk m c 2 t (ix2 r l)
    = padded (fun b s => m ((c : Thread nD τ).loc main_arg3) (ix3 b s (gcol (t.val / 8) l))) (grow (t.val / 8) r).val := by
  blk_simp [iblk]
  refine Eq.trans (b := V m c main_v8 (ix2 (grow (t.val / 8) r) (gcol (t.val / 8) l))) ?_ ?_
  · blk_ext [idx t, grow, gcol]
  · rw [(staged m c).2.2]; exact padRows_apply _ _ pads_S4128x4096_S4224x4096_0960_000 h_S_ _ _

theorem pay1 (x : FVec Ideal S1408x1024 .bf16) (w : FVec Ideal S1x1024x1024 .bf16) (r : Fin 1408) (l : Fin 1024) :
    k0_pay1 (F := Ideal) x w (ix2 r l) = ∑ p : Fin 1024, x (ix2 r p) * w (ix3 0 l p) := by
  pointwise [k0_pay1]

theorem pay2 (a : FVec Ideal S1408x1024 .f32) (x : FVec Ideal S1408x1024 .bf16) (w : FVec Ideal S1x1024x1024 .bf16) (r : Fin 1408) (l : Fin 1024) :
    k0_pay2 (F := Ideal) a x w (ix2 r l) = a (ix2 r l) + ∑ p : Fin 1024, x (ix2 r p) * w (ix3 0 l p) := by
  pointwise [k0_pay2]

/-- What step `t` adds. -/
theorem step (c : Dev nD) (t : Fin cfg0.N) (r : Fin 1408) (l : Fin 1024) :
    (∑ p : Fin 1024, (show EReal from iblk m c 0 t (ix2 r p)) * (show EReal from iblk m c 1 t (ix3 0 l p)))
      = ∑ p : Fin 1024, G m c (t.val / 8) (ix2 r l) ⟨t.val % 8 * 1024 + p.val, place_lt (nk := 8) rfl t.val p⟩ :=
  Finset.sum_congr rfl fun p _ => congrArg₂ (· * ·) (blk_x m c t r p) (blk_w m c t p l)

theorem scr_first (c : Dev nD) (t : Fin cfg0.N) (h : t.val % 8 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 8 = 7
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 8 = 7) (y : S1408x1024.Idx) : (outsAt0 m c t.val t.isLt).2 y = ∑ d : Fin 8192, G m c (t.val / 8) y d := by
  refine summed (nk := 8) (bk := 1024) rfl (fun n h => (outsAt0 m c n h).2) (G m c) (fun t h y => ?_) (fun t h y => ?_) t h y
  · obtain ⟨r, l, rfl⟩ : ∃ (r : Fin 1408) (l : Fin 1024), y = ix2 r l := ⟨y 0, y 1, eq_ix2 y⟩
    show (outsAt0 m c t.val t.isLt).2 (ix2 r l) = _
    rw [scr_first m c t h]
    exact (pay1 _ _ r l).trans (step m c t r l)
  · obtain ⟨r, l, rfl⟩ : ∃ (r : Fin 1408) (l : Fin 1024), y = ix2 r l := ⟨y 0, y 1, eq_ix2 y⟩
    show (outsAt0 m c t.val t.isLt).2 (ix2 r l) = _
    rw [scr_next m c t h]
    exact (pay2 _ _ _ r l).trans (congrArg (_ + ·) (step m c t r l))

/-- Row `q` of trip `k` of the loop that writes the sum out. -/
def trow (k : Fin k0_t1_loop.trips) (q : Fin 64) : Fin 1408 := ⟨64 * k.val + q.val, by have := Nat.lt_of_lt_of_le k.isLt k0_t1_abs.2.1; omega⟩

theorem off1 : ∀ k : Fin k0_t1_loop.trips, k0_off1 k = ![64 * k.val, 0] := by decide +kernel

theorem pay3 (a h : Vec Ideal S64x1024 .f32) (q : Fin 64) (l : Fin 1024) : k0_pay3 a h (ix2 q l) = Ideal.ofBits .f32 0x3F9837F0#32 * h (ix2 q l) + a (ix2 q l) := by
  pointwise [k0_pay3]

/-- What the loop writes at an entry. -/
def tile (A H : Vec Ideal S1408x1024 .f32) (y : S1408x1024.Idx) : EReal := Ideal.ofBits .f32 0x3F9837F0#32 * H y + A y

section Last
variable (c : Dev nD) (i : grid0.Coords) (arg3 : Memref sig .tc .vmem S1408x1024 .bf16) (harg3 : arg3.IsWhole) (arg4 : Memref sig .tc .vmem S1x1024x1024 .bf16) (harg4 : arg4.IsWhole) (arg5 : Memref sig .tc .vmem S1408x1024 .f32) (harg5 : arg5.IsWhole) (arg6 : Memref sig .tc .vmem S1408x1024 .f32) (harg6 : arg6.IsWhole) (arg7 : Memref sig .tc .vmem S1408x1024 .f32) (harg7 : arg7.IsWhole)

theorem trip_pieces (h3 : k0_cond3 i = 1#1) (XH : BufTy.Contents (Elt Ideal) arg5.view.ty) (X : BufTy.Contents (Elt Ideal) arg7.view.ty) (k : Fin k0_t1_loop.trips) :
    ∀ p ∈ tripL_k0_t1 (F := Ideal) Variants.none c none i arg3 harg3 arg4 harg4 arg5 harg5 arg6 harg6 arg7 harg7 h3 XH X k, ∀ x : p.1.shape.Idx,
      p.2 x = tile (arg7.view.read (Elt Ideal) X) (arg5.view.read (Elt Ideal) XH) (p.1.emb x) := by
  unfold tripL_k0_t1 trip_k0_t1
  dsimp only
  intro p hp x
  rcases List.mem_singleton.mp hp with rfl
  obtain ⟨q, l, rfl⟩ : ∃ (q : Fin 64) (l : Fin 1024), x = ix2 q l := ⟨x 0, x 1, eq_ix2 x⟩
  dsimp only
  refine (pay3 _ _ q l).trans ?_
  rfl

/-- The pieces of the last step of a run, from the sum the steps before and this step add up to. -/
theorem last_pieces (hc0 : ¬cond0_0 i) (hc1 : cond0_1 i) (hc2 : cond0_2 i) (x0 : FVec Ideal S1408x1024 .bf16) (x1 : FVec Ideal S1x1024x1024 .bf16) (x2 : FVec Ideal S1408x1024 .f32) (xs0 : FVec Ideal S1408x1024 .f32) :
    ∀ p ∈ (kernelRun0_C (F := Ideal) c i arg3 harg3 arg4 harg4 arg5 harg5 arg6 harg6 arg7 harg7 hc0 hc1 hc2 x0 x1 x2 xs0).1, ∀ x : p.1.shape.Idx, p.2 x = tile (k0_pay2 (F := Ideal) xs0 x0 x1) x2 (p.1.emb x) := by
  unfold kernelRun0_C
  dsimp only
  intro p hp x
  refine (pieces_of_trips (pb_k0_t1 (F := Ideal) Variants.none c none i arg3 harg3 arg4 harg4 arg5 harg5 arg6 harg6 arg7 harg7 _ _ _) (tripL_k0_t1 (F := Ideal) Variants.none c none i arg3 harg3 arg4 harg4 arg5 harg5 arg6 harg6 arg7 harg7 _ _ _) rfl
    (fun k => pb_k0_t1_succ (F := Ideal) Variants.none c none i arg3 harg3 arg4 harg4 arg5 harg5 arg6 harg6 arg7 harg7 _ _ _ k) _ (trip_pieces c i arg3 harg3 arg4 harg4 arg5 harg5 arg6 harg6 arg7 harg7 _ _ _) p hp x).trans ?_
  refine congrArg₂ (fun A H => tile A H (p.1.emb x)) ?_ ?_
  · unfold kernelRun0_C.sl.HS0_1
    rw [View.read_writes_junk_eq_canon]
    frame_out
  · rw [harg5.read_unread]

theorem out_last (hc0 : ¬cond0_0 i) (hc1 : cond0_1 i) (hc2 : cond0_2 i) (x0 : FVec Ideal S1408x1024 .bf16) (x1 : FVec Ideal S1x1024x1024 .bf16) (x2 : FVec Ideal S1408x1024 .f32) (xs0 : FVec Ideal S1408x1024 .f32) (y : S1408x1024.Idx) :
    out0_C_3 (F := Ideal) c i arg3 harg3 arg4 harg4 arg5 harg5 arg6 harg6 arg7 harg7 hc0 hc1 hc2 x0 x1 x2 xs0 y = tile (k0_pay2 (F := Ideal) xs0 x0 x1) x2 y := by
  unfold out0_C_3
  rw [View.read_writes_junk_apply_eq_canon]
  exact View.canon_apply_of_pieces _ _ (last_pieces c i arg3 harg3 arg4 harg4 arg5 harg5 arg6 harg6 arg7 harg7 hc0 hc1 hc2 x0 x1 x2 xs0) y
    (cover0_C_3 (F := Ideal) c i arg3 harg3 arg4 harg4 arg5 harg5 arg6 harg6 arg7 harg7 hc0 hc1 hc2 x0 x1 x2 xs0 y)
end Last

/-- The result: the product of every row and the matrix, a multiple of the added row. -/
def RES (X : FVec Ideal S2x2064x8192 .f32) (W : FVec Ideal S1x4096x8192 .f32) (H : FVec Ideal S2x2064x4096 .f32) : FVec Ideal S4224x4096 .f32 := fun j =>
  Ideal.ofBits .f32 0x3F9837F0#32 * padded (fun b s => H (ix3 b s (j 1))) (j 0).val + ∑ d : Fin 8192, padded (fun b s => X (ix3 b s d)) (j 0).val * W (ix3 0 (j 1) d)

theorem final3 (c : Dev nD) : (dats m 0 c).arrAt 3 (cfgs 0).N
    = RES (m ((c : Thread nD τ).loc main_arg2)) (m ((c : Thread nD τ).loc main_arg1)) (m ((c : Thread nD τ).loc main_arg3)) := by
  refine (dats m 0 c).arrAt_eq_of_covers 3 _ (by decide +kernel) fun t hf y => ?_
  have h3 := (flush0_3 t).mp hf
  obtain ⟨r, l, rfl⟩ : ∃ (r : Fin 1408) (l : Fin 1024), y = ix2 r l := ⟨y 0, y 1, eq_ix2 y⟩
  have he : ((cfg0.win 3).blk t).view.emb (ix2 r l) = ix2 (grow (t.val / 8) r) (gcol (t.val / 8) l) := by
    blk_ext [idx t, grow, gcol]
  rw [he]
  blk_simp
  rw [after0_3, outsAt0_C m c t (by omega) (by omega) h3]
  dsimp only
  rw [out_last]
  have hl := scr_last m c t h3 (ix2 r l)
  rw [scr_next m c t (by omega)] at hl
  exact congrArg₂ (fun a b => Ideal.ofBits .f32 0x3F9837F0#32 * a + b) (blk_h m c t r l) hl

end Cert.KInHIdeal.RefValue

namespace Cert.RInHIdeal.RefValue
open Cert.RInHIdeal Cert.RInHIdeal.Gen Cert.RInHIdeal.Read Idealize.ShloMosaic Idealize.ShloMosaic.TcCoe Idealize.SL.Sem
open Cert.Rows Cert.Product
open Cert.KInHIdeal.RefValue (RES)

variable (X1 : FVec Ideal S1x4096x8192 .f32) (X2 : FVec Ideal S2x2064x8192 .f32) (X3 : FVec Ideal S2x2064x4096 .f32)

theorem stage7 (b : Fin 2) (s : Fin 2064) (l : Fin 4096) : val_main_v7 (F := Ideal) X1 X2 X3 (ix3 b s l)
    = Ideal.ofBits .f32 0x3F9837F0#32 * X3 (ix3 b s l) + ∑ k : Fin 8192, X2 (ix3 b s k) * X1 (ix3 0 l k) := by
  pointwise [val_main_v7, val_main_v4, val_main_v6, val_main_v5, val_main_v2, val_main_cst_0]
  exact add_comm (G := EReal) _ _

theorem ref : val_main_v9 (F := Ideal) X1 X2 X3 = RES X2 X1 X3 := by
  have h := stage7 X1 X2 X3
  unfold val_main_v9 val_main_v8
  generalize val_main_v7 (F := Ideal) X1 X2 X3 = Q at h ⊢
  funext j
  obtain ⟨R, l, rfl⟩ : ∃ (R : Fin 4224) (l : Fin 4096), j = ix2 R l := ⟨j 0, j 1, eq_ix2 j⟩
  refine (padRows_apply Q _ pads_S4128x4096_S4224x4096_0960_000 h_S_ R l).trans ?_
  refine Eq.trans ?_ (padded_add_product _ _ _ _ _)
  exact congrFun (congrArg padded (funext fun b => funext fun s => h b s l)) _

end Cert.RInHIdeal.RefValue

namespace Cert.Proof
open Idealize.ShloMosaic Idealize.ShloMosaic.TcCoe Idealize.SL.Sem

theorem algebraic_inh : Cert.algebraic_KInHIdeal_RInHIdeal := by
  pair_intro
  · run_from Cert.KInHIdeal.Value.run_blocks m g
  · run_from Cert.RInHIdeal.Value.run m' g'
    rw [Cert.KInHIdeal.RefValue.final3 m]
    refine Eq.trans ?_ (Cert.RInHIdeal.RefValue.ref _ _ _)
    exact Cert.RInHIdeal.Read.val_main_v9_eq (F := Ideal) _ _ _
end Cert.Proof
end
-- ==== Proof.Down.lean ====
/- The gated feed-forward's second product, halved, with a multiple of the rows that entered the feed-forward: every row against the columns of the
   matrix, summed over its four shards. -/
module

public import proofs.«01_k».proof.Proof.Gen.KDownIdeal.Value
public import proofs.«01_k».proof.Proof.Gen.RDownIdeal.Run
public import proofs.«01_k».proof.Proof.Gen.RDownIdeal.Read
public import proofs.«01_k».proof.Defs
public import proofs.«01_k».proof.Proof.Epilogue
public import Idealize.ShloMosaic.Lib.Pipeline.ValueKit
public import Idealize.ShloMosaic.Lib.Pipeline.ReadBack
public import Idealize.ShloMosaic.Lib.Claim

@[expose] public section

set_option maxRecDepth 16384

noncomputable section

namespace Cert.KDownIdeal.RefValue
open Cert.KDownIdeal Cert.KDownIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val % 4, t.val / 4 / 4 % 6, 0] ∧ win0_1.index t = ![t.val % 4, 0, t.val / 4 % 4] ∧ win0_2.index t = ![t.val / 4 / 4 % 6, t.val / 4 % 4] ∧ win0_3.index t = ![t.val / 4 / 4 % 6, t.val / 4 % 4] :=
  (by decide +kernel : ∀ t : Fin grid0.N, _)

/-- For the run `q`, the row and the column of the result that row `r` and column `l` of its block are; the place of the contraction that place
    `p` of step `t` is; the shard of the step. -/
def grow (q : ℕ) (r : Fin 704) : Fin 4224 := ⟨q / 4 % 6 * 704 + r.val, by omega⟩
def gcol (q : ℕ) (l : Fin 1024) : Fin 4096 := ⟨q % 4 * 1024 + l.val, by omega⟩
def gk (t : Fin cfg0.N) (p : Fin 2752) : Fin 11008 := ⟨t.val % 4 * 2752 + p.val, by omega⟩
def gn (t : Fin cfg0.N) : Fin 4 := ⟨t.val % 4, by omega⟩

/-- The product's rows, the padding rows included. -/
def hostX (X : FVec Ideal S2x2064x11008 .f32) (T : FVec Ideal S96x11008 .f32) : FVec Ideal S4224x11008 .f32 :=
  concatenate S4224x11008 0 [⟨S4128x11008, shapeCast S4128x11008 X shapeCasts_S2x2064x11008_S4128x11008⟩, ⟨S96x11008, T⟩] concatenates_S4128x11008_S96x11008_S4224x11008_d0

/-- The added rows, the padding rows included. -/
def hostH (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The matrix by shards. -/
def hostW (W : FVec Ideal S1x11008x4096 .f32) : FVec Ideal S4x2752x4096 .f32 :=
  shapeCast S4x2752x4096 (shapeCast S11008x4096 W shapeCasts_S1x11008x4096_S11008x4096) shapeCasts_S11008x4096_S4x2752x4096

theorem hostW_apply (W : FVec Ideal S1x11008x4096 .f32) (n : Fin 4) (p : Fin 2752) (l : Fin 4096) (k : Fin 11008) (hk : k.val = n.val * 2752 + p.val) :
    hostW W (ix3 n p l) = W (ix3 0 k l) := by
  obtain ⟨k, hk'⟩ := k
  change k = n.val * 2752 + p.val at hk
  subst hk
  pointwise [hostW]

/-- The rows by shards. -/
def shards (X : FVec Ideal S4224x11008 .f32) : FVec Ideal S4x4224x2752 .f32 :=
  transpose S4x4224x2752 [1, 0, 2] (shapeCast S4224x4x2752 X shapeCasts_S4224x11008_S4224x4x2752) transposes_S4224x4x2752_S4x4224x2752_1_0_2

theorem shards_apply (X : FVec Ideal S4224x11008 .f32) (n : Fin 4) (R : Fin 4224) (p : Fin 2752) (k : Fin 11008) (hk : k.val = n.val * 2752 + p.val) :
    shards X (ix3 n R p) = X (ix2 R k) := by
  obtain ⟨k, hk'⟩ := k
  change k = n.val * 2752 + p.val at hk
  subst hk
  pointwise [shards]

/-- The arrays that the lines before the call leave for it. -/
theorem staged (c : Dev nD) : V m c main_v6 = truncf .bf16 (shards (hostX (m ((c : Thread nD τ).loc main_arg0)) (m ((c : Thread nD τ).loc main_arg1)))) bitsLt_bf16_f32
    ∧ V m c main_v9 = truncf .bf16 (hostW (m ((c : Thread nD τ).loc main_arg2))) bitsLt_bf16_f32
    ∧ V m c main_v4 = hostH (m ((c : Thread nD τ).loc main_arg3)) (m ((c : Thread nD τ).loc main_arg4)) := by
  refine ⟨?_, ?_, ?_⟩
  all_goals
    unfold V
    simp only [hostOps0, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums. -/
def G (c : Dev nD) (q : ℕ) (y : S704x1024.Idx) (d : Fin 11008) : EReal :=
  hostX (m ((c : Thread nD τ).loc main_arg0)) (m ((c : Thread nD τ).loc main_arg1)) (ix2 (grow q (y 0)) d) * m ((c : Thread nD τ).loc main_arg2) (ix3 0 d (gcol q (y 1)))

theorem blk_x (c : Dev nD) (t : Fin cfg0.N) (r : Fin 704) (p : Fin 2752) : iblk m c 0 t (ix3 0 r p)
    = hostX (m ((c : Thread nD τ).loc main_arg0)) (m ((c : Thread nD τ).loc main_arg1)) (ix2 (grow (t.val / 4) r) (gk t p)) := by
  blk_simp [iblk]
  refine Eq.trans (b := V m c main_v6 (ix3 (gn t) (grow (t.val / 4) r) p)) ?_ ?_
  · blk_ext [idx t, grow, gk, gn]
  · rw [(staged m c).1]; exact (truncf_at _ _ _).trans (shards_apply (hostX (m ((c : Thread nD τ).loc main_arg0)) (m ((c : Thread nD τ).loc main_arg1))) (gn t) (grow (t.val / 4) r) p (gk t p) (by rfl))

/-- A block of an array of the matrix's shape. -/
theorem read_w (Y : FVec Ideal S4x2752x4096 .bf16) (t : Fin cfg0.N) (p : Fin 2752) (l : Fin 1024) : ((cfg0.win 1).blk t).view.read (Elt Ideal) Y (ix3 0 p l) = Y (ix3 (gn t) p (gcol (t.val / 4) l)) := by
  blk_simp
  blk_ext [idx t, gcol, gk, gn]

theorem blk_w (c : Dev nD) (t : Fin cfg0.N) (p : Fin 2752) (l : Fin 1024) : iblk m c 1 t (ix3 0 p l)
    = m ((c : Thread nD τ).loc main_arg2) (ix3 0 (gk t p) (gcol (t.val / 4) l)) := by
  refine (read_w (V m c main_v9) t p l).trans ?_
  rw [(staged m c).2.1]; exact (truncf_at _ _ _).trans (hostW_apply (m ((c : Thread nD τ).loc main_arg2)) (gn t) p (gcol (t.val / 4) l) (gk t p) (by rfl))

theorem blk_h (c : Dev nD) (t : Fin cfg0.N) (r : Fin 704) (l : Fin 1024) : iblk m c 2 t (ix2 r l)
    = hostH (m ((c : Thread nD τ).loc main_arg3)) (m ((c : Thread nD τ).loc main_arg4)) (ix2 (grow (t.val / 4) r) (gcol (t.val / 4) l)) := by
  blk_simp [iblk]
  refine Eq.trans (b := V m c main_v4 (ix2 (grow (t.val / 4) r) (gcol (t.val / 4) l))) ?_ ?_
  · blk_ext [idx t, grow, gcol]
  · rw [(staged m c).2.2]

theorem pay1 (x : FVec Ideal S1x704x2752 .bf16) (w : FVec Ideal S1x2752x1024 .bf16) (r : Fin 704) (l : Fin 1024) :
    k0_pay1 (F := Ideal) x w (ix2 r l) = ∑ p : Fin 2752, x (ix3 0 r p) * w (ix3 0 p l) := by
  pointwise [k0_pay1]

theorem pay2 (a : FVec Ideal S704x1024 .f32) (x : FVec Ideal S1x704x2752 .bf16) (w : FVec Ideal S1x2752x1024 .bf16) (r : Fin 704) (l : Fin 1024) :
    k0_pay2 (F := Ideal) a x w (ix2 r l) = a (ix2 r l) + ∑ p : Fin 2752, x (ix3 0 r p) * w (ix3 0 p l) := by
  pointwise [k0_pay2]

/-- What step `t` adds. -/
theorem step (c : Dev nD) (t : Fin cfg0.N) (r : Fin 704) (l : Fin 1024) :
    (∑ p : Fin 2752, (show EReal from iblk m c 0 t (ix3 0 r p)) * (show EReal from iblk m c 1 t (ix3 0 p l)))
      = ∑ p : Fin 2752, G m c (t.val / 4) (ix2 r l) ⟨t.val % 4 * 2752 + p.val, place_lt (nk := 4) rfl t.val p⟩ :=
  Finset.sum_congr rfl fun p _ => congrArg₂ (· * ·) (blk_x m c t r p) (blk_w m c t p l)

theorem scr_first (c : Dev nD) (t : Fin cfg0.N) (h : t.val % 4 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 4 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 4 = 3
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 4 = 3) (y : S704x1024.Idx) : (outsAt0 m c t.val t.isLt).2 y = ∑ d : Fin 11008, G m c (t.val / 4) y d := by
  refine summed (nk := 4) (bk := 2752) rfl (fun n h => (outsAt0 m c n h).2) (G m c) (fun t h y => ?_) (fun t h y => ?_) t h y
  · obtain ⟨r, l, rfl⟩ : ∃ (r : Fin 704) (l : Fin 1024), y = ix2 r l := ⟨y 0, y 1, eq_ix2 y⟩
    show (outsAt0 m c t.val t.isLt).2 (ix2 r l) = _
    rw [scr_first m c t h]
    exact (pay1 _ _ r l).trans (step m c t r l)
  · obtain ⟨r, l, rfl⟩ : ∃ (r : Fin 704) (l : Fin 1024), y = ix2 r l := ⟨y 0, y 1, eq_ix2 y⟩
    show (outsAt0 m c t.val t.isLt).2 (ix2 r l) = _
    rw [scr_next m c t h]
    exact (pay2 _ _ _ r l).trans (congrArg (_ + ·) (step m c t r l))

/-- Row `q` of trip `k` of the loop that writes the sum out. -/
def trow (k : Fin k0_t1_loop.trips) (q : Fin 64) : Fin 704 := ⟨64 * k.val + q.val, by have := Nat.lt_of_lt_of_le k.isLt k0_t1_abs.2.1; omega⟩

theorem off1 : ∀ k : Fin k0_t1_loop.trips, k0_off1 k = ![64 * k.val, 0] := by decide +kernel

theorem pay3 (a h : Vec Ideal S64x1024 .f32) (q : Fin 64) (l : Fin 1024) : k0_pay3 a h (ix2 q l) = Ideal.ofBits .f32 0x3F9837F0#32 * h (ix2 q l) + Ideal.ofBits .f32 0x3F000000#32 * a (ix2 q l) := by
  pointwise [k0_pay3]

/-- What the loop writes at an entry. -/
def tile (A H : Vec Ideal S704x1024 .f32) (y : S704x1024.Idx) : EReal := Ideal.ofBits .f32 0x3F9837F0#32 * H y + Ideal.ofBits .f32 0x3F000000#32 * A y

section Last
variable (c : Dev nD) (i : grid0.Coords) (arg3 : Memref sig .tc .vmem S1x704x2752 .bf16) (harg3 : arg3.IsWhole) (arg4 : Memref sig .tc .vmem S1x2752x1024 .bf16) (harg4 : arg4.IsWhole) (arg5 : Memref sig .tc .vmem S704x1024 .f32) (harg5 : arg5.IsWhole) (arg6 : Memref sig .tc .vmem S704x1024 .f32) (harg6 : arg6.IsWhole) (arg7 : Memref sig .tc .vmem S704x1024 .f32) (harg7 : arg7.IsWhole)

theorem trip_pieces (h3 : k0_cond3 i = 1#1) (XH : BufTy.Contents (Elt Ideal) arg5.view.ty) (X : BufTy.Contents (Elt Ideal) arg7.view.ty) (k : Fin k0_t1_loop.trips) :
    ∀ p ∈ tripL_k0_t1 (F := Ideal) Variants.none c none i arg3 harg3 arg4 harg4 arg5 harg5 arg6 harg6 arg7 harg7 h3 XH X k, ∀ x : p.1.shape.Idx,
      p.2 x = tile (arg7.view.read (Elt Ideal) X) (arg5.view.read (Elt Ideal) XH) (p.1.emb x) := by
  unfold tripL_k0_t1 trip_k0_t1
  dsimp only
  intro p hp x
  rcases List.mem_singleton.mp hp with rfl
  obtain ⟨q, l, rfl⟩ : ∃ (q : Fin 64) (l : Fin 1024), x = ix2 q l := ⟨x 0, x 1, eq_ix2 x⟩
  dsimp only
  refine (pay3 _ _ q l).trans ?_
  rfl

/-- The pieces of the last step of a run, from the sum the steps before and this step add up to. -/
theorem last_pieces (hc0 : ¬cond0_0 i) (hc1 : cond0_1 i) (hc2 : cond0_2 i) (x0 : FVec Ideal S1x704x2752 .bf16) (x1 : FVec Ideal S1x2752x1024 .bf16) (x2 : FVec Ideal S704x1024 .f32) (xs0 : FVec Ideal S704x1024 .f32) :
    ∀ p ∈ (kernelRun0_C (F := Ideal) c i arg3 harg3 arg4 harg4 arg5 harg5 arg6 harg6 arg7 harg7 hc0 hc1 hc2 x0 x1 x2 xs0).1, ∀ x : p.1.shape.Idx, p.2 x = tile (k0_pay2 (F := Ideal) xs0 x0 x1) x2 (p.1.emb x) := by
  unfold kernelRun0_C
  dsimp only
  intro p hp x
  refine (pieces_of_trips (pb_k0_t1 (F := Ideal) Variants.none c none i arg3 harg3 arg4 harg4 arg5 harg5 arg6 harg6 arg7 harg7 _ _ _) (tripL_k0_t1 (F := Ideal) Variants.none c none i arg3 harg3 arg4 harg4 arg5 harg5 arg6 harg6 arg7 harg7 _ _ _) rfl
    (fun k => pb_k0_t1_succ (F := Ideal) Variants.none c none i arg3 harg3 arg4 harg4 arg5 harg5 arg6 harg6 arg7 harg7 _ _ _ k) _ (trip_pieces c i arg3 harg3 arg4 harg4 arg5 harg5 arg6 harg6 arg7 harg7 _ _ _) p hp x).trans ?_
  refine congrArg₂ (fun A H => tile A H (p.1.emb x)) ?_ ?_
  · unfold kernelRun0_C.sl.HS0_1
    rw [View.read_writes_junk_eq_canon]
    frame_out
  · rw [harg5.read_unread]

theorem out_last (hc0 : ¬cond0_0 i) (hc1 : cond0_1 i) (hc2 : cond0_2 i) (x0 : FVec Ideal S1x704x2752 .bf16) (x1 : FVec Ideal S1x2752x1024 .bf16) (x2 : FVec Ideal S704x1024 .f32) (xs0 : FVec Ideal S704x1024 .f32) (y : S704x1024.Idx) :
    out0_C_3 (F := Ideal) c i arg3 harg3 arg4 harg4 arg5 harg5 arg6 harg6 arg7 harg7 hc0 hc1 hc2 x0 x1 x2 xs0 y = tile (k0_pay2 (F := Ideal) xs0 x0 x1) x2 y := by
  unfold out0_C_3
  rw [View.read_writes_junk_apply_eq_canon]
  exact View.canon_apply_of_pieces _ _ (last_pieces c i arg3 harg3 arg4 harg4 arg5 harg5 arg6 harg6 arg7 harg7 hc0 hc1 hc2 x0 x1 x2 xs0) y
    (cover0_C_3 (F := Ideal) c i arg3 harg3 arg4 harg4 arg5 harg5 arg6 harg6 arg7 harg7 hc0 hc1 hc2 x0 x1 x2 xs0 y)
end Last

/-- The result: the product of every row and the matrix, a multiple of the added row. -/
def RES (X : FVec Ideal S2x2064x11008 .f32) (T : FVec Ideal S96x11008 .f32) (W : FVec Ideal S1x11008x4096 .f32) (H : FVec Ideal S2x2064x4096 .f32) (S : FVec Ideal S96x4096 .f32) : FVec Ideal S4224x4096 .f32 := fun j =>
  Ideal.ofBits .f32 0x3F9837F0#32 * hostH H S (ix2 (j 0) (j 1)) + Ideal.ofBits .f32 0x3F000000#32 * (∑ d : Fin 11008, hostX X T (ix2 (j 0) d) * W (ix3 0 d (j 1)))

theorem final3 (c : Dev nD) : (dats m 0 c).arrAt 3 (cfgs 0).N
    = RES (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 3 _ (by decide +kernel) fun t hf y => ?_
  have h3 := (flush0_3 t).mp hf
  obtain ⟨r, l, rfl⟩ : ∃ (r : Fin 704) (l : Fin 1024), y = ix2 r l := ⟨y 0, y 1, eq_ix2 y⟩
  have he : ((cfg0.win 3).blk t).view.emb (ix2 r l) = ix2 (grow (t.val / 4) r) (gcol (t.val / 4) l) := by
    blk_ext [idx t, grow, gcol]
  rw [he]
  blk_simp
  rw [after0_3, outsAt0_C m c t (by omega) (by omega) h3]
  dsimp only
  rw [out_last]
  have hl := scr_last m c t h3 (ix2 r l)
  rw [scr_next m c t (by omega)] at hl
  exact congrArg₂ (fun a b => Ideal.ofBits .f32 0x3F9837F0#32 * a + Ideal.ofBits .f32 0x3F000000#32 * b) (blk_h m c t r l) hl

end Cert.KDownIdeal.RefValue

namespace Cert.RDownIdeal.RefValue
open Cert.RDownIdeal Cert.RDownIdeal.Gen Cert.RDownIdeal.Read Idealize.ShloMosaic Idealize.ShloMosaic.TcCoe Idealize.SL.Sem
open Cert.Rows Cert.Product
open Cert.KDownIdeal.RefValue (RES hostX hostH)

variable (X0 : FVec Ideal S2x2064x11008 .f32) (X1 : FVec Ideal S96x11008 .f32) (X2 : FVec Ideal S1x11008x4096 .f32) (X3 : FVec Ideal S2x2064x4096 .f32)
  (X4 : FVec Ideal S96x4096 .f32)

theorem ref : val_main_v10 (F := Ideal) X0 X1 X2 X3 X4 = RES X0 X1 X2 X3 X4 := by
  have e1 : val_main_v1 (F := Ideal) X0 X1 = hostX X0 X1 := rfl
  have e7 : val_main_v7 (F := Ideal) X3 X4 = hostH X3 X4 := rfl
  unfold val_main_v10 val_main_v9 val_main_v5 val_main_v3 RES
  rw [e1, e7]
  generalize hostX X0 X1 = Y
  generalize hostH X3 X4 = Z
  funext j
  obtain ⟨R, l, rfl⟩ : ∃ (R : Fin 4224) (l : Fin 4096), j = ix2 R l := ⟨j 0, j 1, eq_ix2 j⟩
  pointwise [val_main_v2, val_main_v4, val_main_v8, val_main_cst, val_main_cst_0]

end Cert.RDownIdeal.RefValue

namespace Cert.Proof
open Idealize.ShloMosaic Idealize.ShloMosaic.TcCoe Idealize.SL.Sem

theorem algebraic_down : Cert.algebraic_KDownIdeal_RDownIdeal := by
  pair_intro
  · run_from Cert.KDownIdeal.Value.run_blocks m g
  · run_from Cert.RDownIdeal.Value.run m' g'
    rw [Cert.KDownIdeal.RefValue.final3 m, (hagree c).2.2.2.1, (hagree c).2.2.2.2]
    refine Eq.trans ?_ (Cert.RDownIdeal.RefValue.ref _ _ _ _ _)
    exact Cert.RDownIdeal.Read.val_main_v10_eq (F := Ideal) _ _ _ _ _
end Cert.Proof
end
-- ==== Proof.BwdWd.lean ====
/- The gated feed-forward's backward for its second matrix: the gated products of all rows against the rows' cotangents, summed over three
   blocks of rows and halved, for each of the matrix's shards. -/
module

public import proofs.«01_k».proof.Proof.Gen.KBwdWdIdeal.Value
public import proofs.«01_k».proof.Proof.Gen.RBwdWdIdeal.Run
public import proofs.«01_k».proof.Proof.Gen.RBwdWdIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KBwdWdIdeal.RefValue
open Cert.KBwdWdIdeal Cert.KBwdWdIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val / 3 / 4 % 4, t.val % 3, 0] ∧ win0_1.index t = ![t.val % 3, t.val / 3 % 4] ∧ win0_2.index t = ![t.val / 3 / 4 % 4, 0, t.val / 3 % 4] :=
  (by decide +kernel : ∀ t : Fin grid0.N, _)

/-- The row of the array that row `r` of a block is, and, for the run `q`, its part of the result and the two columns that are contracted. -/
def grow (t : Fin cfg0.N) (r : Fin 1408) : Fin 4224 := ⟨t.val % 3 * 1408 + r.val, by omega⟩
def gs (q : ℕ) : Fin 4 := ⟨q / 4 % 4, by omega⟩
def gc (q : ℕ) (p : Fin 2752) : Fin 11008 := ⟨q / 4 % 4 * 2752 + p.val, by omega⟩
def gf (q : ℕ) (l : Fin 1024) : Fin 4096 := ⟨q % 4 * 1024 + l.val, by omega⟩

/-- The gated products of every row, the padding rows included. -/
def hostX (X : FVec Ideal S2x2064x11008 .f32) (T : FVec Ideal S96x11008 .f32) : FVec Ideal S4224x11008 .f32 :=
  concatenate S4224x11008 0 [⟨S4128x11008, shapeCast S4128x11008 X shapeCasts_S2x2064x11008_S4128x11008⟩, ⟨S96x11008, T⟩] concatenates_S4128x11008_S96x11008_S4224x11008_d0

/-- The cotangents' rows, zeros after them. -/
def hostCt (C : FVec Ideal S2x2064x4096 .f32) : FVec Ideal S4224x4096 .f32 :=
  pad S4224x4096 ![0, 0] ![96, 0] ![0, 0] (shapeCast S4128x4096 C shapeCasts_S2x2064x4096_S4128x4096) (sitofp .f32 (constantI S_ 32 0#32)) pads_S4128x4096_S4224x4096_0960_000 h_S_

/-- The rows by shards. -/
def shards (X : FVec Ideal S4224x11008 .f32) : FVec Ideal S4x4224x2752 .f32 :=
  transpose S4x4224x2752 [1, 0, 2] (shapeCast S4224x4x2752 X shapeCasts_S4224x11008_S4224x4x2752) transposes_S4224x4x2752_S4x4224x2752_1_0_2

theorem shards_apply (X : FVec Ideal S4224x11008 .f32) (n : Fin 4) (R : Fin 4224) (p : Fin 2752) (k : Fin 11008) (hk : k.val = n.val * 2752 + p.val) :
    shards X (ix3 n R p) = X (ix2 R k) := by
  obtain ⟨k, hk'⟩ := k
  change k = n.val * 2752 + p.val at hk
  subst hk
  pointwise [shards]

/-- The arrays that the lines before the call leave for it. -/
theorem staged (c : Dev nD) : V m c main_v4 = truncf .bf16 (shards (hostX (m ((c : Thread nD τ).loc main_arg0)) (m ((c : Thread nD τ).loc main_arg1)))) bitsLt_bf16_f32
    ∧ V m c main_v7 = truncf .bf16 (hostCt (m ((c : Thread nD τ).loc main_arg3))) bitsLt_bf16_f32 := by
  refine ⟨?_, ?_⟩
  all_goals
    unfold V
    simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums: a row's gated product times the row's cotangent. -/
def G (c : Dev nD) (q : ℕ) (y : S2752x1024.Idx) (d : Fin 4224) : EReal :=
  hostX (m ((c : Thread nD τ).loc main_arg0)) (m ((c : Thread nD τ).loc main_arg1)) (ix2 d (gc q (y 0)))
    * padded (fun b s => m ((c : Thread nD τ).loc main_arg3) (ix3 b s (gf q (y 1)))) d.val

theorem blk_x (c : Dev nD) (t : Fin cfg0.N) (r : Fin 1408) (p : Fin 2752) : iblk m c 0 t (ix3 0 r p)
    = hostX (m ((c : Thread nD τ).loc main_arg0)) (m ((c : Thread nD τ).loc main_arg1)) (ix2 (grow t r) (gc (t.val / 3) p)) := by
  blk_simp [iblk]
  refine Eq.trans (b := V m c main_v4 (ix3 (⟨t.val / 3 / 4 % 4, by omega⟩ : Fin 4) (grow t r) p)) ?_ ?_
  · blk_ext [idx t, grow, gc]
  · rw [(staged m c).1]; exact shards_apply (hostX (m ((c : Thread nD τ).loc main_arg0)) (m ((c : Thread nD τ).loc main_arg1))) (⟨t.val / 3 / 4 % 4, by omega⟩ : Fin 4) (grow t r) p (gc (t.val / 3) p) (by rfl)

theorem blk_d (c : Dev nD) (t : Fin cfg0.N) (r : Fin 1408) (l : Fin 1024) : iblk m c 1 t (ix2 r l)
    = padded (fun b s => m ((c : Thread nD τ).loc main_arg3) (ix3 b s (gf (t.val / 3) l))) (grow t r).val := by
  blk_simp [iblk]
  refine Eq.trans (b := V m c main_v7 (ix2 (grow t r) (gf (t.val / 3) l))) ?_ ?_
  · blk_ext [idx t, grow, gf]
  · rw [(staged m c).2]; exact padRows_apply _ _ pads_S4128x4096_S4224x4096_0960_000 h_S_ _ _

theorem pay1 (x : FVec Ideal S1x1408x2752 .bf16) (d : FVec Ideal S1408x1024 .bf16) (p : Fin 2752) (l : Fin 1024) :
    k0_pay1 (F := Ideal) x d (ix2 p l) = ∑ r : Fin 1408, x (ix3 0 r p) * d (ix2 r l) := by
  pointwise [k0_pay1]

theorem pay2 (a : FVec Ideal S2752x1024 .f32) (x : FVec Ideal S1x1408x2752 .bf16) (d : FVec Ideal S1408x1024 .bf16) (p : Fin 2752) (l : Fin 1024) :
    k0_pay2 (F := Ideal) a x d (ix2 p l) = a (ix2 p l) + ∑ r : Fin 1408, x (ix3 0 r p) * d (ix2 r l) := by
  pointwise [k0_pay2]

/-- What step `t` adds. -/
theorem step (c : Dev nD) (t : Fin cfg0.N) (p : Fin 2752) (l : Fin 1024) :
    (∑ r : Fin 1408, (show EReal from iblk m c 0 t (ix3 0 r p)) * (show EReal from iblk m c 1 t (ix2 r l)))
      = ∑ r : Fin 1408, G m c (t.val / 3) (ix2 p l) ⟨t.val % 3 * 1408 + r.val, place_lt (nk := 3) rfl t.val r⟩ :=
  Finset.sum_congr rfl fun r _ => congrArg₂ (· * ·) (blk_x m c t r p) (blk_d m c t r l)

theorem scr_first (c : Dev nD) (t : Fin cfg0.N) (h : t.val % 3 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 3 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 3 = 2
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 3 = 2) (y : S2752x1024.Idx) : (outsAt0 m c t.val t.isLt).2 y = ∑ d : Fin 4224, G m c (t.val / 3) y d := by
  refine summed (nk := 3) (bk := 1408) rfl (fun n h => (outsAt0 m c n h).2) (G m c) (fun t h y => ?_) (fun t h y => ?_) t h y
  · obtain ⟨p, l, rfl⟩ : ∃ (p : Fin 2752) (l : Fin 1024), y = ix2 p l := ⟨y 0, y 1, eq_ix2 y⟩
    show (outsAt0 m c t.val t.isLt).2 (ix2 p l) = _
    rw [scr_first m c t h]
    exact (pay1 _ _ p l).trans (step m c t p l)
  · obtain ⟨p, l, rfl⟩ : ∃ (p : Fin 2752) (l : Fin 1024), y = ix2 p l := ⟨y 0, y 1, eq_ix2 y⟩
    show (outsAt0 m c t.val t.isLt).2 (ix2 p l) = _
    rw [scr_next m c t h]
    exact (pay2 _ _ _ p l).trans (congrArg (_ + ·) (step m c t p l))

/-- Row `q` of trip `k` of the loop that writes the sum out. -/
def trow (k : Fin k0_t1_loop.trips) (q : Fin 64) : Fin 2752 := ⟨64 * k.val + q.val, by have := Nat.lt_of_lt_of_le k.isLt k0_t1_abs.2.1; omega⟩

theorem off1 : ∀ k : Fin k0_t1_loop.trips, k0_off1 k = ![64 * k.val, 0] := by decide +kernel
theorem off2 : ∀ k : Fin k0_t1_loop.trips, k0_off2 k = ![0, 64 * k.val, 0] := by decide +kernel

theorem pay3 (a : Vec Ideal S64x1024 .f32) (q : Fin 64) (l : Fin 1024) : k0_pay3 a (ix3 0 q l) = Ideal.ofBits .f32 0x3F000000#32 * a (ix2 q l) := by
  pointwise [k0_pay3]

/-- What the loop writes: half of the sum's rows, rounded. -/
def tile (A : Vec Ideal S2752x1024 .f32) (y : S1x2752x1024.Idx) : EReal := Ideal.ofBits .f32 0x3F000000#32 * A (ix2 (y 1) (y 2))

section Last
variable (c : Dev nD) (i : grid0.Coords) (arg3 : Memref sig .tc .vmem S1x1408x2752 .bf16) (harg3 : arg3.IsWhole) (arg4 : Memref sig .tc .vmem S1408x1024 .bf16) (harg4 : arg4.IsWhole) (arg5 : Memref sig .tc .vmem S1x2752x1024 .bf16) (harg5 : arg5.IsWhole) (arg6 : Memref sig .tc .vmem S2752x1024 .f32) (harg6 : arg6.IsWhole)

theorem trip_pieces (h3 : k0_cond3 i = 1#1) (X : BufTy.Contents (Elt Ideal) arg6.view.ty) (k : Fin k0_t1_loop.trips) :
    ∀ p ∈ tripL_k0_t1 (F := Ideal) Variants.none c none i arg3 harg3 arg4 harg4 arg5 harg5 arg6 harg6 h3 X k, ∀ x : p.1.shape.Idx,
      p.2 x = tile (arg6.view.read (Elt Ideal) X) (p.1.emb x) := by
  unfold tripL_k0_t1 trip_k0_t1
  dsimp only
  intro p hp x
  rcases List.mem_singleton.mp hp with rfl
  obtain ⟨q, l, rfl⟩ := idx_one x
  dsimp only
  refine (pay3 _ q l).trans ?_
  rw [tile_emb3 _ _ (off2 k) _ q l (trow k q) rfl]
  exact congrArg (fun z => Ideal.ofBits .f32 0x3F000000#32 * arg6.view.read (Elt Ideal) X z) (tile_emb2 _ _ (off1 k) _ q l (trow k q) rfl)

/-- The pieces of the last step of a run, from the sum the steps before and this step add up to. -/
theorem last_pieces (hc0 : ¬cond0_0 i) (hc1 : cond0_1 i) (hc2 : cond0_2 i) (x0 : FVec Ideal S1x1408x2752 .bf16) (x1 : FVec Ideal S1408x1024 .bf16) (xs0 : FVec Ideal S2752x1024 .f32) :
    ∀ p ∈ (kernelRun0_C (F := Ideal) c i arg3 harg3 arg4 harg4 arg5 harg5 arg6 harg6 hc0 hc1 hc2 x0 x1 xs0).1, ∀ x : p.1.shape.Idx, p.2 x = tile (k0_pay2 (F := Ideal) xs0 x0 x1) (p.1.emb x) := by
  unfold kernelRun0_C
  dsimp only
  intro p hp x
  refine (pieces_of_trips (pb_k0_t1 (F := Ideal) Variants.none c none i arg3 harg3 arg4 harg4 arg5 harg5 arg6 harg6 _ _) (tripL_k0_t1 (F := Ideal) Variants.none c none i arg3 harg3 arg4 harg4 arg5 harg5 arg6 harg6 _ _) rfl
    (fun k => pb_k0_t1_succ (F := Ideal) Variants.none c none i arg3 harg3 arg4 harg4 arg5 harg5 arg6 harg6 _ _ k) _ (trip_pieces c i arg3 harg3 arg4 harg4 arg5 harg5 arg6 harg6 _ _) p hp x).trans ?_
  refine congrArg (fun A => tile A (p.1.emb x)) ?_
  unfold kernelRun0_C.sl.HS0_1
  rw [View.read_writes_junk_eq_canon]
  frame_out

theorem out_C (hc0 : ¬cond0_0 i) (hc1 : cond0_1 i) (hc2 : cond0_2 i) (x0 : FVec Ideal S1x1408x2752 .bf16) (x1 : FVec Ideal S1408x1024 .bf16) (xs0 : FVec Ideal S2752x1024 .f32) (y : S1x2752x1024.Idx) :
    out0_C_2 (F := Ideal) c i arg3 harg3 arg4 harg4 arg5 harg5 arg6 harg6 hc0 hc1 hc2 x0 x1 xs0 y = tile (k0_pay2 (F := Ideal) xs0 x0 x1) y := by
  unfold out0_C_2
  rw [View.read_writes_junk_apply_eq_canon]
  exact View.canon_apply_of_pieces _ _ (last_pieces c i arg3 harg3 arg4 harg4 arg5 harg5 arg6 harg6 hc0 hc1 hc2 x0 x1 xs0) y
    (cover0_C_2 (F := Ideal) c i arg3 harg3 arg4 harg4 arg5 harg5 arg6 harg6 hc0 hc1 hc2 x0 x1 xs0 y)
end Last

/-- The gradient, halved, by shards. -/
def DW (X : FVec Ideal S2x2064x11008 .f32) (T : FVec Ideal S96x11008 .f32) (C : FVec Ideal S2x2064x4096 .f32) : FVec Ideal S4x2752x4096 .bf16 := fun j =>
  Ideal.ofBits .f32 0x3F000000#32 * ∑ d : Fin 4224, hostX X T (ix2 d (⟨(j 0).val * 2752 + (j 1).val, by have h0 := (j 0).isLt; have h1 := (j 1).isLt; have h2 := (j 2).isLt; change (j 0).val < 4 at h0; change (j 1).val < 2752 at h1; change (j 2).val < 4096 at h2; omega⟩ : Fin 11008))
    * padded (fun b s => C (ix3 b s (j 2))) d.val

theorem final2 (c : Dev nD) : (dats m 0 c).arrAt 2 (cfgs 0).N
    = DW (m ((c : Thread nD τ).loc main_arg0)) (m ((c : Thread nD τ).loc main_arg1)) (m ((c : Thread nD τ).loc main_arg3)) := by
  refine (dats m 0 c).arrAt_eq_of_covers 2 _ (by decide +kernel) fun t hf y => ?_
  have h3 := (flush0_2 t).mp hf
  obtain ⟨p, l, rfl⟩ := idx_one y
  have he : ((cfg0.win 2).blk t).view.emb (ix3 0 p l) = ix3 (gs (t.val / 3)) p (gf (t.val / 3) l) := by
    blk_ext [idx t, gs, gc, gf]
  rw [he]
  blk_simp
  rw [after0_2, outsAt0_C m c t (by omega) (by omega) h3]
  dsimp only
  rw [out_C]
  have hl := scr_last m c t h3 (ix2 p l)
  rw [scr_next m c t (by omega)] at hl
  exact congrArg (_ * ·) hl

end Cert.KBwdWdIdeal.RefValue

namespace Cert.RBwdWdIdeal.RefValue
open Cert.RBwdWdIdeal Cert.RBwdWdIdeal.Gen Cert.RBwdWdIdeal.Read Idealize.ShloMosaic Idealize.ShloMosaic.TcCoe Idealize.SL.Sem
open Cert.Rows Cert.Product
open Cert.KBwdWdIdeal.RefValue (hostX DW)

variable (X0 : FVec Ideal S2x2064x11008 .f32) (X3 : FVec Ideal S2x2064x4096 .f32) (X1 : FVec Ideal S96x11008 .f32)

theorem stage11 (n : Fin 4) (p : Fin 2752) (f : Fin 4096) (k : Fin 11008) (hk : k.val = n.val * 2752 + p.val) : val_main_v11 (F := Ideal) X0 X3 (ix3 n p f)
    = ∑ b : Fin 2, ∑ s : Fin 2064, X0 (ix3 b s k) * (Ideal.ofBits .f32 0x3F000000#32 * X3 (ix3 b s f)) := by
  obtain ⟨k, k'⟩ := k
  change k = n.val * 2752 + p.val at hk
  subst hk
  pointwise [val_main_v11, val_main_v10, val_main_v9, val_main_v8, val_main_v7, val_main_v6, val_main_v5, val_main_v4, val_main_cst_0]
  exact Finset.sum_congr rfl fun _ _ => Finset.sum_congr rfl fun _ _ => mul_comm (G := EReal) _ _

theorem ref11 : val_main_v11 (F := Ideal) X0 X3 = DW X0 X1 X3 := by
  funext j
  obtain ⟨n, p, f, rfl⟩ : ∃ (n : Fin 4) (p : Fin 2752) (f : Fin 4096), j = ix3 n p f := ⟨j 0, j 1, j 2, eq_ix3 j⟩
  refine (stage11 X0 X3 n p f ⟨n.val * 2752 + p.val, by omega⟩ rfl).trans ?_
  refine Eq.trans ?_ (congrArg (_ * ·) (sum_mul_padded (fun b s => X3 (ix3 b s f)) (fun b s => X0 (ix3 b s (⟨n.val * 2752 + p.val, by omega⟩ : Fin 11008)))
    (fun d => hostX X0 X1 (ix2 d (⟨n.val * 2752 + p.val, by omega⟩ : Fin 11008))) fun R hR => tailRows_apply _ _ _ _ _ _ hR).symm)
  rw [half_sum]
  exact Finset.sum_congr rfl fun b _ => (Finset.sum_congr rfl fun s _ => mul_left_comm (G := EReal) _ _ _).trans (half_sum _).symm
end Cert.RBwdWdIdeal.RefValue

namespace Cert.Proof
open Idealize.ShloMosaic Idealize.ShloMosaic.TcCoe Idealize.SL.Sem

theorem algebraic_bwdwd : Cert.algebraic_KBwdWdIdeal_RBwdWdIdeal := by
  pair_intro
  · run_from Cert.KBwdWdIdeal.Value.run_blocks m g
  · run_from Cert.RBwdWdIdeal.Value.run m' g'
    rw [Cert.KBwdWdIdeal.RefValue.final2 m]
    refine Eq.trans ?_ (Cert.RBwdWdIdeal.RefValue.ref11 _ _ _)
    exact Cert.RBwdWdIdeal.Read.val_main_v11_eq (F := Ideal) _ _
end Cert.Proof
end
-- ==== Proof.BwdWgu.lean ====
/- The gated feed-forward's backward for its first matrix: the features of all rows against the rows' cotangents of the gate and up products,
   summed over three blocks of rows, for each of the matrix's shards. -/
module

public import proofs.«01_k».proof.Proof.Gen.KBwdWguIdeal.Value
public import proofs.«01_k».proof.Proof.Gen.RBwdWguIdeal.Run
public import proofs.«01_k».proof.Proof.Gen.RBwdWguIdeal.Read
public import proofs.«01_k».proof.Defs
public import proofs.«01_k».proof.Proof.Product
public import Idealize.ShloMosaic.Lib.Pipeline.ValueKit
public import Idealize.ShloMosaic.Lib.Pipeline.ReadBack
public import Idealize.ShloMosaic.Lib.Claim

@[expose] public section

set_option maxRecDepth 16384

noncomputable section

namespace Cert.KBwdWguIdeal.RefValue
open Cert.KBwdWguIdeal Cert.KBwdWguIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val % 3, t.val / 3 % 4] ∧ win0_1.index t = ![t.val / 3 / 8 % 4, t.val / 3 / 4 % 2, t.val % 3, 0] ∧ win0_2.index t = ![t.val / 3 / 4 % 2 * 4 + t.val / 3 / 8 % 4, t.val / 3 % 4, 0] :=
  (by decide +kernel : ∀ t : Fin grid0.N, _)

/-- The row of the array that row `r` of a block is, and, for the run `q`, its part of the result and the two columns that are contracted. -/
def grow (t : Fin cfg0.N) (r : Fin 1408) : Fin 4224 := ⟨t.val % 3 * 1408 + r.val, by omega⟩
def gs (q : ℕ) : Fin 8 := ⟨q / 4 % 2 * 4 + q / 8 % 4, by omega⟩
def gc (q : ℕ) (p : Fin 1024) : Fin 4096 := ⟨q % 4 * 1024 + p.val, by omega⟩
def gf (q : ℕ) (l : Fin 2752) : Fin 22016 := ⟨(q / 4 % 2 * 4 + q / 8 % 4) * 2752 + l.val, by omega⟩

/-- The features of every row, the padding rows included. -/
def hostX (X : FVec Ideal S2x2064x4096 .f32) (T : FVec Ideal S96x4096 .f32) : FVec Ideal S4224x4096 .f32 :=
  concatenate S4224x4096 0 [⟨S4128x4096, shapeCast S4128x4096 X shapeCasts_S2x2064x4096_S4128x4096⟩, ⟨S96x4096, T⟩] concatenates_S4128x4096_S96x4096_S4224x4096_d0

/-- The cotangents' rows, zeros after them. -/
def hostCt (C : FVec Ideal S2x2064x22016 .f32) : FVec Ideal S4224x22016 .f32 :=
  pad S4224x22016 ![0, 0] ![96, 0] ![0, 0] (shapeCast S4128x22016 C shapeCasts_S2x2064x22016_S4128x22016) (sitofp .f32 (constantI S_ 32 0#32)) pads_S4128x22016_S4224x22016_0960_000 h_S_

theorem V_v2 (c : Dev nD) : V m c main_v2 = truncf .bf16 (hostX (m ((c : Thread nD τ).loc main_arg0)) (m ((c : Thread nD τ).loc main_arg1))) bitsLt_bf16_f32 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  rfl

/-- The rows by shards, the gates' and the up products'. -/
def shards (X : FVec Ideal S4224x22016 .f32) : FVec Ideal S4x2x4224x2752 .f32 :=
  transpose S4x2x4224x2752 [2, 1, 0, 3] (shapeCast S4224x2x4x2752 X shapeCasts_S4224x22016_S4224x2x4x2752) transposes_S4224x2x4x2752_S4x2x4224x2752_2_1_0_3

theorem shards_apply (X : FVec Ideal S4224x22016 .f32) (n : Fin 4) (w : Fin 2) (R : Fin 4224) (p : Fin 2752) (k : Fin 22016) (hk : k.val = (w.val * 4 + n.val) * 2752 + p.val) :
    shards X (ix4 n w R p) = X (ix2 R k) := by
  obtain ⟨k, hk'⟩ := k
  change k = (w.val * 4 + n.val) * 2752 + p.val at hk
  subst hk
  pointwise [shards]
  exact congrArg X (congrArg (ix2 R) (Fin.ext (by show w.val * 11008 + n.val * 2752 + p.val = (w.val * 4 + n.val) * 2752 + p.val; omega)))

theorem V_v7 (c : Dev nD) : V m c main_v7 = truncf .bf16 (shards (hostCt (m ((c : Thread nD τ).loc main_arg3)))) bitsLt_bf16_f32 := by
  unfold V
  simp only [hostOps0, hostOps0_1, hostOps0_2, List.flatten_cons, List.flatten_nil, List.append_nil, List.cons_append, List.nil_append, StableHlo.TRef.binary, StableHlo.TRef.unary, StableHlo.TRef.toBuf, StableHlo.TRef.ofBuf, cast_eq]
  after_results
  rfl

/-- What the contraction of run `q` sums: a row's feature times the row's cotangent. -/
def G (c : Dev nD) (q : ℕ) (y : S1024x2752.Idx) (d : Fin 4224) : EReal :=
  hostX (m ((c : Thread nD τ).loc main_arg0)) (m ((c : Thread nD τ).loc main_arg1)) (ix2 d (gc q (y 0)))
    * padded (fun b s => m ((c : Thread nD τ).loc main_arg3) (ix3 b s (gf q (y 1)))) d.val

theorem blk_x (c : Dev nD) (t : Fin cfg0.N) (r : Fin 1408) (p : Fin 1024) : iblk m c 0 t (ix2 r p)
    = hostX (m ((c : Thread nD τ).loc main_arg0)) (m ((c : Thread nD τ).loc main_arg1)) (ix2 (grow t r) (gc (t.val / 3) p)) := by
  blk_simp [iblk]
  refine Eq.trans (b := V m c main_v2 (ix2 (grow t r) (gc (t.val / 3) p))) ?_ ?_
  · blk_ext [idx t, grow, gc]
  · rw [V_v2]; rfl

/-- A block of the cotangents. -/
def ctBlk (c : Dev nD) (t : Fin cfg0.N) : FVec Ideal S1x1x1408x2752 .bf16 := iblk m c 1 t

theorem blk_d (c : Dev nD) (t : Fin cfg0.N) (r : Fin 1408) (l : Fin 2752) : ctBlk m c t (ix4 0 0 r l)
    = padded (fun b s => m ((c : Thread nD τ).loc main_arg3) (ix3 b s (gf (t.val / 3) l))) (grow t r).val := by
  unfold ctBlk
  blk_simp [iblk]
  refine Eq.trans (b := V m c main_v7 (ix4 (⟨t.val / 3 / 8 % 4, by omega⟩ : Fin 4) (⟨t.val / 3 / 4 % 2, by omega⟩ : Fin 2) (grow t r) l)) ?_ ?_
  · blk_ext [idx t, grow, gf]
  · rw [V_v7]; exact (shards_apply _ (⟨t.val / 3 / 8 % 4, by omega⟩ : Fin 4) (⟨t.val / 3 / 4 % 2, by omega⟩ : Fin 2) (grow t r) l (gf (t.val / 3) l) (by rfl)).trans (padRows_apply _ _ pads_S4128x22016_S4224x22016_0960_000 h_S_ _ _)

theorem pay1 (x : FVec Ideal S1408x1024 .bf16) (d : FVec Ideal S1x1x1408x2752 .bf16) (p : Fin 1024) (l : Fin 2752) :
    k0_pay1 (F := Ideal) x d (ix2 p l) = ∑ r : Fin 1408, x (ix2 r p) * d (ix4 0 0 r l) := by
  pointwise [k0_pay1]

theorem pay2 (a : FVec Ideal S1024x2752 .f32) (x : FVec Ideal S1408x1024 .bf16) (d : FVec Ideal S1x1x1408x2752 .bf16) (p : Fin 1024) (l : Fin 2752) :
    k0_pay2 (F := Ideal) a x d (ix2 p l) = a (ix2 p l) + ∑ r : Fin 1408, x (ix2 r p) * d (ix4 0 0 r l) := by
  pointwise [k0_pay2]

/-- What step `t` adds. -/
theorem step (c : Dev nD) (t : Fin cfg0.N) (p : Fin 1024) (l : Fin 2752) :
    (∑ r : Fin 1408, (show EReal from iblk m c 0 t (ix2 r p)) * (show EReal from ctBlk m c t (ix4 0 0 r l)))
      = ∑ r : Fin 1408, G m c (t.val / 3) (ix2 p l) ⟨t.val % 3 * 1408 + r.val, place_lt (nk := 3) rfl t.val r⟩ :=
  Finset.sum_congr rfl fun r _ => congrArg₂ (· * ·) (blk_x m c t r p) (blk_d m c t r l)

theorem scr_first (c : Dev nD) (t : Fin cfg0.N) (h : t.val % 3 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 3 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 3 = 2
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 3 = 2) (y : S1024x2752.Idx) : (outsAt0 m c t.val t.isLt).2 y = ∑ d : Fin 4224, G m c (t.val / 3) y d := by
  refine summed (nk := 3) (bk := 1408) rfl (fun n h => (outsAt0 m c n h).2) (G m c) (fun t h y => ?_) (fun t h y => ?_) t h y
  · obtain ⟨p, l, rfl⟩ : ∃ (p : Fin 1024) (l : Fin 2752), y = ix2 p l := ⟨y 0, y 1, eq_ix2 y⟩
    show (outsAt0 m c t.val t.isLt).2 (ix2 p l) = _
    rw [scr_first m c t h]
    exact (pay1 _ _ p l).trans (step m c t p l)
  · obtain ⟨p, l, rfl⟩ : ∃ (p : Fin 1024) (l : Fin 2752), y = ix2 p l := ⟨y 0, y 1, eq_ix2 y⟩
    show (outsAt0 m c t.val t.isLt).2 (ix2 p l) = _
    rw [scr_next m c t h]
    exact (pay2 _ _ _ p l).trans (congrArg (_ + ·) (step m c t p l))

/-- Row `q` of trip `k` of the loop that writes the sum out. -/
def trow (k : Fin k0_t1_loop.trips) (q : Fin 64) : Fin 1024 := ⟨64 * k.val + q.val, by have := Nat.lt_of_lt_of_le k.isLt k0_t1_abs.2.1; omega⟩

theorem off1 : ∀ k : Fin k0_t1_loop.trips, k0_off1 k = ![64 * k.val, 0] := by decide +kernel
theorem off2 : ∀ k : Fin k0_t1_loop.trips, k0_off2 k = ![0, 64 * k.val, 0] := by decide +kernel

theorem pay3 (a : Vec Ideal S64x2752 .f32) (q : Fin 64) (l : Fin 2752) : k0_pay3 a (ix3 0 q l) = a (ix2 q l) := by
  pointwise [k0_pay3]

/-- What the loop writes: the sum's rows, rounded. -/
def tile (A : Vec Ideal S1024x2752 .f32) (y : S1x1024x2752.Idx) : EReal := A (ix2 (y 1) (y 2))

section Last
variable (c : Dev nD) (i : grid0.Coords) (arg4 : Memref sig .tc .vmem S1408x1024 .bf16) (harg4 : arg4.IsWhole) (arg5 : Memref sig .tc .vmem S1x1x1408x2752 .bf16) (harg5 : arg5.IsWhole) (arg6 : Memref sig .tc .vmem S1x1024x2752 .bf16) (harg6 : arg6.IsWhole) (arg7 : Memref sig .tc .vmem S1024x2752 .f32) (harg7 : arg7.IsWhole)

theorem trip_pieces (h3 : k0_cond3 i = 1#1) (X : BufTy.Contents (Elt Ideal) arg7.view.ty) (k : Fin k0_t1_loop.trips) :
    ∀ p ∈ tripL_k0_t1 (F := Ideal) Variants.none c none i arg4 harg4 arg5 harg5 arg6 harg6 arg7 harg7 h3 X k, ∀ x : p.1.shape.Idx,
      p.2 x = tile (arg7.view.read (Elt Ideal) X) (p.1.emb x) := by
  unfold tripL_k0_t1 trip_k0_t1
  dsimp only
  intro p hp x
  rcases List.mem_singleton.mp hp with rfl
  obtain ⟨q, l, rfl⟩ := idx_one x
  dsimp only
  refine (pay3 _ q l).trans ?_
  rw [tile_emb3 _ _ (off2 k) _ q l (trow k q) rfl]
  exact congrArg (fun z => arg7.view.read (Elt Ideal) X z) (tile_emb2 _ _ (off1 k) _ q l (trow k q) rfl)

/-- The pieces of the last step of a run, from the sum the steps before and this step add up to. -/
theorem last_pieces (hc0 : ¬cond0_0 i) (hc1 : cond0_1 i) (hc2 : cond0_2 i) (x0 : FVec Ideal S1408x1024 .bf16) (x1 : FVec Ideal S1x1x1408x2752 .bf16) (xs0 : FVec Ideal S1024x2752 .f32) :
    ∀ p ∈ (kernelRun0_C (F := Ideal) c i arg4 harg4 arg5 harg5 arg6 harg6 arg7 harg7 hc0 hc1 hc2 x0 x1 xs0).1, ∀ x : p.1.shape.Idx, p.2 x = tile (k0_pay2 (F := Ideal) xs0 x0 x1) (p.1.emb x) := by
  unfold kernelRun0_C
  dsimp only
  intro p hp x
  refine (pieces_of_trips (pb_k0_t1 (F := Ideal) Variants.none c none i arg4 harg4 arg5 harg5 arg6 harg6 arg7 harg7 _ _) (tripL_k0_t1 (F := Ideal) Variants.none c none i arg4 harg4 arg5 harg5 arg6 harg6 arg7 harg7 _ _) rfl
    (fun k => pb_k0_t1_succ (F := Ideal) Variants.none c none i arg4 harg4 arg5 harg5 arg6 harg6 arg7 harg7 _ _ k) _ (trip_pieces c i arg4 harg4 arg5 harg5 arg6 harg6 arg7 harg7 _ _) p hp x).trans ?_
  refine congrArg (fun A => tile A (p.1.emb x)) ?_
  unfold kernelRun0_C.sl.HS0_1
  rw [View.read_writes_junk_eq_canon]
  frame_out

theorem out_C (hc0 : ¬cond0_0 i) (hc1 : cond0_1 i) (hc2 : cond0_2 i) (x0 : FVec Ideal S1408x1024 .bf16) (x1 : FVec Ideal S1x1x1408x2752 .bf16) (xs0 : FVec Ideal S1024x2752 .f32) (y : S1x1024x2752.Idx) :
    out0_C_2 (F := Ideal) c i arg4 harg4 arg5 harg5 arg6 harg6 arg7 harg7 hc0 hc1 hc2 x0 x1 xs0 y = tile (k0_pay2 (F := Ideal) xs0 x0 x1) y := by
  unfold out0_C_2
  rw [View.read_writes_junk_apply_eq_canon]
  exact View.canon_apply_of_pieces _ _ (last_pieces c i arg4 harg4 arg5 harg5 arg6 harg6 arg7 harg7 hc0 hc1 hc2 x0 x1 xs0) y
    (cover0_C_2 (F := Ideal) c i arg4 harg4 arg5 harg5 arg6 harg6 arg7 harg7 hc0 hc1 hc2 x0 x1 xs0 y)
end Last

/-- The gradient by shards. -/
def DW (X : FVec Ideal S2x2064x4096 .f32) (T : FVec Ideal S96x4096 .f32) (C : FVec Ideal S2x2064x22016 .f32) : FVec Ideal S8x4096x2752 .bf16 := fun j =>
  ∑ d : Fin 4224, hostX X T (ix2 d (j 1))
    * padded (fun b s => C (ix3 b s (⟨(j 0).val * 2752 + (j 2).val, by have h0 := (j 0).isLt; have h1 := (j 1).isLt; have h2 := (j 2).isLt; change (j 0).val < 8 at h0; change (j 1).val < 4096 at h1; change (j 2).val < 2752 at h2; omega⟩ : Fin 22016))) d.val

theorem final2 (c : Dev nD) : (dats m 0 c).arrAt 2 (cfgs 0).N
    = DW (m ((c : Thread nD τ).loc main_arg0)) (m ((c : Thread nD τ).loc main_arg1)) (m ((c : Thread nD τ).loc main_arg3)) := by
  refine (dats m 0 c).arrAt_eq_of_covers 2 _ (by decide +kernel) fun t hf y => ?_
  have h3 := (flush0_2 t).mp hf
  obtain ⟨p, l, rfl⟩ := idx_one y
  have he : ((cfg0.win 2).blk t).view.emb (ix3 0 p l) = ix3 (gs (t.val / 3)) (gc (t.val / 3) p) l := by
    blk_ext [idx t, gs, gc, gf]
  rw [he]
  blk_simp
  rw [after0_2, outsAt0_C m c t (by omega) (by omega) h3]
  dsimp only
  rw [out_C]
  have hl := scr_last m c t h3 (ix2 p l)
  rw [scr_next m c t (by omega)] at hl
  exact hl

end Cert.KBwdWguIdeal.RefValue

namespace Cert.RBwdWguIdeal.RefValue
open Cert.RBwdWguIdeal Cert.RBwdWguIdeal.Gen Cert.RBwdWguIdeal.Read Idealize.ShloMosaic Idealize.ShloMosaic.TcCoe Idealize.SL.Sem
open Cert.Rows Cert.Product
open Cert.KBwdWguIdeal.RefValue (hostX DW)

variable (X0 : FVec Ideal S2x2064x4096 .f32) (X3 : FVec Ideal S2x2064x22016 .f32) (X1 : FVec Ideal S96x4096 .f32)

theorem stage8 (n : Fin 8) (p : Fin 4096) (f : Fin 2752) (k : Fin 22016) (hk : k.val = n.val * 2752 + f.val) : val_main_v8 (F := Ideal) X0 X3 (ix3 n p f)
    = ∑ b : Fin 2, ∑ s : Fin 2064, X0 (ix3 b s p) * X3 (ix3 b s k) := by
  obtain ⟨k, k'⟩ := k
  change k = n.val * 2752 + f.val at hk
  subst hk
  pointwise [val_main_v8, val_main_v7, val_main_v6, val_main_v5, val_main_v4, val_main_v3, val_main_v2]
  exact Finset.sum_congr rfl fun _ _ => Finset.sum_congr rfl fun _ _ => mul_comm (G := EReal) _ _

theorem ref8 : val_main_v8 (F := Ideal) X0 X3 = DW X0 X1 X3 := by
  funext j
  obtain ⟨n, p, f, rfl⟩ : ∃ (n : Fin 8) (p : Fin 4096) (f : Fin 2752), j = ix3 n p f := ⟨j 0, j 1, j 2, eq_ix3 j⟩
  refine (stage8 X0 X3 n p f ⟨n.val * 2752 + f.val, by omega⟩ rfl).trans ?_
  exact (sum_mul_padded (fun b s => X3 (ix3 b s (⟨n.val * 2752 + f.val, by omega⟩ : Fin 22016))) (fun b s => X0 (ix3 b s p)) (fun d => hostX X0 X1 (ix2 d p))
    fun R hR => tailRows_apply _ _ _ _ _ _ hR).symm
end Cert.RBwdWguIdeal.RefValue

namespace Cert.Proof
open Idealize.ShloMosaic Idealize.ShloMosaic.TcCoe Idealize.SL.Sem

theorem algebraic_bwdwgu : Cert.algebraic_KBwdWguIdeal_RBwdWguIdeal := by
  pair_intro
  · run_from Cert.KBwdWguIdeal.Value.run_blocks m g
  · run_from Cert.RBwdWguIdeal.Value.run m' g'
    rw [Cert.KBwdWguIdeal.RefValue.final2 m]
    refine Eq.trans ?_ (Cert.RBwdWguIdeal.RefValue.ref8 _ _ _)
    exact Cert.RBwdWguIdeal.Read.val_main_v8_eq (F := Ideal) _ _
end Cert.Proof
end
-- ==== Proof.BwdDh.lean ====
/- The gated feed-forward's first products' backward for their input, with a multiple of the cotangents of the rows that entered the feed-forward:
   every row's cotangents against the rows of the matrix, summed over its eight shards. -/
module

public import proofs.«01_k».proof.Proof.Gen.KBwdDhIdeal.Value
public import proofs.«01_k».proof.Proof.Gen.RBwdDhIdeal.Run
public import proofs.«01_k».proof.Proof.Gen.RBwdDhIdeal.Read
public import proofs.«01_k».proof.Defs
public import proofs.«01_k».proof.Proof.Epilogue
public import Idealize.ShloMosaic.Lib.Pipeline.ValueKit
public import Idealize.ShloMosaic.Lib.Pipeline.ReadBack
public import Idealize.ShloMosaic.Lib.Claim

@[expose] public section

set_option maxRecDepth 16384

noncomputable section

namespace Cert.KBwdDhIdeal.RefValue
open Cert.KBwdDhIdeal Cert.KBwdDhIdeal.Gen Idealize.ShloMosaic Idealize.ShloMosaic.TcCoe Idealize.SL.Sem
open Idealize.ShloMosaic.Pipeline (Dat)
open Cert.Rows Cert.Product

variable (m : (ℓ : Loc nD τ sig) → Buf (Elt Ideal) ℓ)

theorem idx : ∀ t : Fin cfg0.N, win0_0.index t = ![t.val % 8 % 4, t.val % 8 / 4, t.val / 8 / 4 % 6, 0] ∧ win0_1.index t = ![t.val % 8, t.val / 8 % 4, 0] ∧ win0_2.index t = ![t.val / 8 / 4 % 6, t.val / 8 % 4] ∧ win0_3.index t = ![t.val / 8 / 4 % 6, t.val / 8 % 4] :=
  (by decide +kernel : ∀ t : Fin grid0.N, _)

/-- For the run `q`, the row and the column of the result that row `r` and column `l` of its block are; the place of the contraction that place
    `p` of step `t` is; the shard of the step. -/
def grow (q : ℕ) (r : Fin 704) : Fin 4224 := ⟨q / 4 % 6 * 704 + r.val, by omega⟩
def gcol (q : ℕ) (l : Fin 1024) : Fin 4096 := ⟨q % 4 * 1024 + l.val, by omega⟩
def gk (t : Fin cfg0.N) (p : Fin 2752) : Fin 22016 := ⟨t.val % 8 * 2752 + p.val, by omega⟩
def gn (t : Fin cfg0.N) : Fin 8 := ⟨t.val % 8, by omega⟩

/-- The product's rows, zeros after them. -/
def hostX (X : FVec Ideal S2x2064x22016 .f32) : FVec Ideal S4224x22016 .f32 :=
  pad S4224x22016 ![0, 0] ![96, 0] ![0, 0] (shapeCast S4128x22016 X shapeCasts_S2x2064x22016_S4128x22016) (sitofp .f32 (constantI S_ 32 0#32)) pads_S4128x22016_S4224x22016_0960_000 h_S_

/-- The added rows, zeros after them. -/
def hostH (X : FVec Ideal S2x2064x4096 .f32) : FVec Ideal S4224x4096 .f32 :=
  pad S4224x4096 ![0, 0] ![96, 0] ![0, 0] (shapeCast S4128x4096 X shapeCasts_S2x2064x4096_S4128x4096) (sitofp .f32 (constantI S_ 32 0#32)) pads_S4128x4096_S4224x4096_0960_000 h_S_

/-- The matrix by shards. -/
def hostW (W : FVec Ideal S1x4096x22016 .f32) : FVec Ideal S8x4096x2752 .f32 :=
  transpose S8x4096x2752 [1, 0, 2] (shapeCast S4096x8x2752 (shapeCast S4096x22016 W shapeCasts_S1x4096x22016_S4096x22016) shapeCasts_S4096x22016_S4096x8x2752) transposes_S4096x8x2752_S8x4096x2752_1_0_2

theorem hostW_apply (W : FVec Ideal S1x4096x22016 .f32) (n : Fin 8) (d : Fin 4096) (p : Fin 2752) (k : Fin 22016) (hk : k.val = n.val * 2752 + p.val) :
    hostW W (ix3 n d p) = W (ix3 0 d k) := by
  obtain ⟨k, hk'⟩ := k
  change k = n.val * 2752 + p.val at hk
  subst hk
  pointwise [hostW]

/-- The rows by shards, the gates' and the up products'. -/
def shards (X : FVec Ideal S4224x22016 .f32) : FVec Ideal S4x2x4224x2752 .f32 :=
  transpose S4x2x4224x2752 [2, 1, 0, 3] (shapeCast S4224x2x4x2752 X shapeCasts_S4224x22016_S4224x2x4x2752) transposes_S4224x2x4x2752_S4x2x4224x2752_2_1_0_3

theorem shards_apply (X : FVec Ideal S4224x22016 .f32) (n : Fin 4) (w : Fin 2) (R : Fin 4224) (p : Fin 2752) (k : Fin 22016) (hk : k.val = (w.val * 4 + n.val) * 2752 + p.val) :
    shards X (ix4 n w R p) = X (ix2 R k) := by
  obtain ⟨k, hk'⟩ := k
  change k = (w.val * 4 + n.val) * 2752 + p.val at hk
  subst hk
  pointwise [shards]
  exact congrArg X (congrArg (ix2 R) (Fin.ext (by show w.val * 11008 + n.val * 2752 + p.val = (w.val * 4 + n.val) * 2752 + p.val; omega)))

/-- A block of the product's rows. -/
def rowBlk (c : Dev nD) (t : Fin cfg0.N) : FVec Ideal S1x1x704x2752 .bf16 := iblk m c 0 t

/-- The arrays that the lines before the call leave for it. -/
theorem staged (c : Dev nD) : V m c main_v8 = truncf .bf16 (shards (hostX (m ((c : Thread nD τ).loc main_arg2)))) bitsLt_bf16_f32
    ∧ V m c main_v3 = truncf .bf16 (hostW (m ((c : Thread nD τ).loc main_arg1))) bitsLt_bf16_f32
    ∧ V m c main_v10 = hostH (m ((c : Thread nD τ).loc main_arg3)) := by
  refine ⟨?_, ?_, ?_⟩
  all_goals
    unfold V
    simp only [hostOps0, hostOps0_1, hostOps0_2, hostOps0_3, List.flatten_cons, List.flatten_nil, List.append_nil, List.cons_append, List.nil_append, StableHlo.TRef.binary, StableHlo.TRef.unary, StableHlo.TRef.toBuf, StableHlo.TRef.ofBuf, cast_eq]
    after_results
    rfl

/-- What the contraction of run `q` sums. -/
def G (c : Dev nD) (q : ℕ) (y : S704x1024.Idx) (d : Fin 22016) : EReal :=
  padded (fun b s => m ((c : Thread nD τ).loc main_arg2) (ix3 b s d)) (grow q (y 0)).val * m ((c : Thread nD τ).loc main_arg1) (ix3 0 (gcol q (y 1)) d)

theorem blk_x (c : Dev nD) (t : Fin cfg0.N) (r : Fin 704) (p : Fin 2752) : rowBlk m c t (ix4 0 0 r p)
    = padded (fun b s => m ((c : Thread nD τ).loc main_arg2) (ix3 b s (gk t p))) (grow (t.val / 8) r).val := by
  unfold rowBlk
  blk_simp [iblk]
  refine Eq.trans (b := V m c main_v8 (ix4 (⟨t.val % 8 % 4, by omega⟩ : Fin 4) (⟨t.val % 8 / 4, by omega⟩ : Fin 2) (grow (t.val / 8) r) p)) ?_ ?_
  · blk_ext [idx t, grow, gk]
  · rw [(staged m c).1]; exact ((truncf_at _ _ _).trans (shards_apply (hostX (m ((c : Thread nD τ).loc main_arg2))) (⟨t.val % 8 % 4, by omega⟩ : Fin 4) (⟨t.val % 8 / 4, by omega⟩ : Fin 2) (grow (t.val / 8) r) p (gk t p)
      (by show t.val % 8 * 2752 + p.val = (t.val % 8 / 4 * 4 + t.val % 8 % 4) * 2752 + p.val; rw [Nat.div_add_mod']))).trans (padRows_apply _ _ pads_S4128x22016_S4224x22016_0960_000 h_S_ _ _)

/-- A block of an array of the matrix's shape. -/
theorem read_w (Y : FVec Ideal S8x4096x2752 .bf16) (t : Fin cfg0.N) (p : Fin 2752) (l : Fin 1024) : ((cfg0.win 1).blk t).view.read (Elt Ideal) Y (ix3 0 l p) = Y (ix3 (gn t) (gcol (t.val / 8) l) p) := by
  blk_simp
  blk_ext [idx t, gcol, gk, gn]

theorem blk_w (c : Dev nD) (t : Fin cfg0.N) (p : Fin 2752) (l : Fin 1024) : iblk m c 1 t (ix3 0 l p)
    = m ((c : Thread nD τ).loc main_arg1) (ix3 0 (gcol (t.val / 8) l) (gk t p)) := by
  refine (read_w (V m c main_v3) t p l).trans ?_
  rw [(staged m c).2.1]; exact (truncf_at _ _ _).trans (hostW_apply (m ((c : Thread nD τ).loc main_arg1)) (gn t) (gcol (t.val / 8) l) p (gk t p) (by rfl))

theorem blk_h (c : Dev nD) (t : Fin cfg0.N) (r : Fin 704) (l : Fin 1024) : iblk m c 2 t (ix2 r l)
    = padded (fun b s => m ((c : Thread nD τ).loc main_arg3) (ix3 b s (gcol (t.val / 8) l))) (grow (t.val / 8) r).val := by
  blk_simp [iblk]
  refine Eq.trans (b := V m c main_v10 (ix2 (grow (t.val / 8) r) (gcol (t.val / 8) l))) ?_ ?_
  · blk_ext [idx t, grow, gcol]
  · rw [(staged m c).2.2]; exact padRows_apply _ _ pads_S4128x4096_S4224x4096_0960_000 h_S_ _ _

theorem pay1 (x : FVec Ideal S1x1x704x2752 .bf16) (w : FVec Ideal S1x1024x2752 .bf16) (r : Fin 704) (l : Fin 1024) :
    k0_pay1 (F := Ideal) x w (ix2 r l) = ∑ p : Fin 2752, x (ix4 0 0 r p) * w (ix3 0 l p) := by
  pointwise [k0_pay1]

theorem pay2 (a : FVec Ideal S704x1024 .f32) (x : FVec Ideal S1x1x704x2752 .bf16) (w : FVec Ideal S1x1024x2752 .bf16) (r : Fin 704) (l : Fin 1024) :
    k0_pay2 (F := Ideal) a x w (ix2 r l) = a (ix2 r l) + ∑ p : Fin 2752, x (ix4 0 0 r p) * w (ix3 0 l p) := by
  pointwise [k0_pay2]

/-- What step `t` adds. -/
theorem step (c : Dev nD) (t : Fin cfg0.N) (r : Fin 704) (l : Fin 1024) :
    (∑ p : Fin 2752, (show EReal from rowBlk m c t (ix4 0 0 r p)) * (show EReal from iblk m c 1 t (ix3 0 l p)))
      = ∑ p : Fin 2752, G m c (t.val / 8) (ix2 r l) ⟨t.val % 8 * 2752 + p.val, place_lt (nk := 8) rfl t.val p⟩ :=
  Finset.sum_congr rfl fun p _ => congrArg₂ (· * ·) (blk_x m c t r p) (blk_w m c t p l)

theorem scr_first (c : Dev nD) (t : Fin cfg0.N) (h : t.val % 8 = 0) : (outsAt0 m c t.val t.isLt).2 = k0_pay1 (iblk m c 0 t) (iblk m c 1 t) := by
  rw [outsAt0_A m c t h (by omega) (by omega)]; frame_out

theorem scr_next (c : Dev nD) (t : Fin cfg0.N) (h : ¬t.val % 8 = 0) : (outsAt0 m c t.val t.isLt).2
    = k0_pay2 (outsAt0 m c (t.val - 1) (Nat.lt_of_le_of_lt (Nat.sub_le _ _) t.isLt)).2 (iblk m c 0 t) (iblk m c 1 t) := by
  by_cases h3 : t.val % 8 = 7
  · rw [outsAt0_C m c t h (by omega) h3]; frame_out; simp only [read_unread_whole]
  · rw [outsAt0_B m c t h (by omega) h3]; frame_out; simp only [read_unread_whole]

/-- After the last step of a run the scratch holds the whole contraction. -/
theorem scr_last (c : Dev nD) (t : Fin cfg0.N) (h : t.val % 8 = 7) (y : S704x1024.Idx) : (outsAt0 m c t.val t.isLt).2 y = ∑ d : Fin 22016, G m c (t.val / 8) y d := by
  refine summed (nk := 8) (bk := 2752) rfl (fun n h => (outsAt0 m c n h).2) (G m c) (fun t h y => ?_) (fun t h y => ?_) t h y
  · obtain ⟨r, l, rfl⟩ : ∃ (r : Fin 704) (l : Fin 1024), y = ix2 r l := ⟨y 0, y 1, eq_ix2 y⟩
    show (outsAt0 m c t.val t.isLt).2 (ix2 r l) = _
    rw [scr_first m c t h]
    exact (pay1 _ _ r l).trans (step m c t r l)
  · obtain ⟨r, l, rfl⟩ : ∃ (r : Fin 704) (l : Fin 1024), y = ix2 r l := ⟨y 0, y 1, eq_ix2 y⟩
    show (outsAt0 m c t.val t.isLt).2 (ix2 r l) = _
    rw [scr_next m c t h]
    exact (pay2 _ _ _ r l).trans (congrArg (_ + ·) (step m c t r l))

/-- Row `q` of trip `k` of the loop that writes the sum out. -/
def trow (k : Fin k0_t1_loop.trips) (q : Fin 64) : Fin 704 := ⟨64 * k.val + q.val, by have := Nat.lt_of_lt_of_le k.isLt k0_t1_abs.2.1; omega⟩

theorem off1 : ∀ k : Fin k0_t1_loop.trips, k0_off1 k = ![64 * k.val, 0] := by decide +kernel

theorem pay3 (a h : Vec Ideal S64x1024 .f32) (q : Fin 64) (l : Fin 1024) : k0_pay3 a h (ix2 q l) = Ideal.ofBits .f32 0x3F9837F0#32 * h (ix2 q l) + a (ix2 q l) := by
  pointwise [k0_pay3]

/-- What the loop writes at an entry. -/
def tile (A H : Vec Ideal S704x1024 .f32) (y : S704x1024.Idx) : EReal := Ideal.ofBits .f32 0x3F9837F0#32 * H y + A y

section Last
variable (c : Dev nD) (i : grid0.Coords) (arg3 : Memref sig .tc .vmem S1x1x704x2752 .bf16) (harg3 : arg3.IsWhole) (arg4 : Memref sig .tc .vmem S1x1024x2752 .bf16) (harg4 : arg4.IsWhole) (arg5 : Memref sig .tc .vmem S704x1024 .f32) (harg5 : arg5.IsWhole) (arg6 : Memref sig .tc .vmem S704x1024 .f32) (harg6 : arg6.IsWhole) (arg7 : Memref sig .tc .vmem S704x1024 .f32) (harg7 : arg7.IsWhole)

theorem trip_pieces (h3 : k0_cond3 i = 1#1) (XH : BufTy.Contents (Elt Ideal) arg5.view.ty) (X : BufTy.Contents (Elt Ideal) arg7.view.ty) (k : Fin k0_t1_loop.trips) :
    ∀ p ∈ tripL_k0_t1 (F := Ideal) Variants.none c none i arg3 harg3 arg4 harg4 arg5 harg5 arg6 harg6 arg7 harg7 h3 XH X k, ∀ x : p.1.shape.Idx,
      p.2 x = tile (arg7.view.read (Elt Ideal) X) (arg5.view.read (Elt Ideal) XH) (p.1.emb x) := by
  unfold tripL_k0_t1 trip_k0_t1
  dsimp only
  intro p hp x
  rcases List.mem_singleton.mp hp with rfl
  obtain ⟨q, l, rfl⟩ : ∃ (q : Fin 64) (l : Fin 1024), x = ix2 q l := ⟨x 0, x 1, eq_ix2 x⟩
  dsimp only
  refine (pay3 _ _ q l).trans ?_
  rfl

/-- The pieces of the last step of a run, from the sum the steps before and this step add up to. -/
theorem last_pieces (hc0 : ¬cond0_0 i) (hc1 : cond0_1 i) (hc2 : cond0_2 i) (x0 : FVec Ideal S1x1x704x2752 .bf16) (x1 : FVec Ideal S1x1024x2752 .bf16) (x2 : FVec Ideal S704x1024 .f32) (xs0 : FVec Ideal S704x1024 .f32) :
    ∀ p ∈ (kernelRun0_C (F := Ideal) c i arg3 harg3 arg4 harg4 arg5 harg5 arg6 harg6 arg7 harg7 hc0 hc1 hc2 x0 x1 x2 xs0).1, ∀ x : p.1.shape.Idx, p.2 x = tile (k0_pay2 (F := Ideal) xs0 x0 x1) x2 (p.1.emb x) := by
  unfold kernelRun0_C
  dsimp only
  intro p hp x
  refine (pieces_of_trips (pb_k0_t1 (F := Ideal) Variants.none c none i arg3 harg3 arg4 harg4 arg5 harg5 arg6 harg6 arg7 harg7 _ _ _) (tripL_k0_t1 (F := Ideal) Variants.none c none i arg3 harg3 arg4 harg4 arg5 harg5 arg6 harg6 arg7 harg7 _ _ _) rfl
    (fun k => pb_k0_t1_succ (F := Ideal) Variants.none c none i arg3 harg3 arg4 harg4 arg5 harg5 arg6 harg6 arg7 harg7 _ _ _ k) _ (trip_pieces c i arg3 harg3 arg4 harg4 arg5 harg5 arg6 harg6 arg7 harg7 _ _ _) p hp x).trans ?_
  refine congrArg₂ (fun A H => tile A H (p.1.emb x)) ?_ ?_
  · unfold kernelRun0_C.sl.HS0_1
    rw [View.read_writes_junk_eq_canon]
    frame_out
  · rw [harg5.read_unread]

theorem out_last (hc0 : ¬cond0_0 i) (hc1 : cond0_1 i) (hc2 : cond0_2 i) (x0 : FVec Ideal S1x1x704x2752 .bf16) (x1 : FVec Ideal S1x1024x2752 .bf16) (x2 : FVec Ideal S704x1024 .f32) (xs0 : FVec Ideal S704x1024 .f32) (y : S704x1024.Idx) :
    out0_C_3 (F := Ideal) c i arg3 harg3 arg4 harg4 arg5 harg5 arg6 harg6 arg7 harg7 hc0 hc1 hc2 x0 x1 x2 xs0 y = tile (k0_pay2 (F := Ideal) xs0 x0 x1) x2 y := by
  unfold out0_C_3
  rw [View.read_writes_junk_apply_eq_canon]
  exact View.canon_apply_of_pieces _ _ (last_pieces c i arg3 harg3 arg4 harg4 arg5 harg5 arg6 harg6 arg7 harg7 hc0 hc1 hc2 x0 x1 x2 xs0) y
    (cover0_C_3 (F := Ideal) c i arg3 harg3 arg4 harg4 arg5 harg5 arg6 harg6 arg7 harg7 hc0 hc1 hc2 x0 x1 x2 xs0 y)
end Last

/-- The result: the product of every row and the matrix, a multiple of the added row. -/
def RES (X : FVec Ideal S2x2064x22016 .f32) (W : FVec Ideal S1x4096x22016 .f32) (H : FVec Ideal S2x2064x4096 .f32) : FVec Ideal S4224x4096 .f32 := fun j =>
  Ideal.ofBits .f32 0x3F9837F0#32 * padded (fun b s => H (ix3 b s (j 1))) (j 0).val + ∑ d : Fin 22016, padded (fun b s => X (ix3 b s d)) (j 0).val * W (ix3 0 (j 1) d)

theorem final3 (c : Dev nD) : (dats m 0 c).arrAt 3 (cfgs 0).N
    = RES (m ((c : Thread nD τ).loc main_arg2)) (m ((c : Thread nD τ).loc main_arg1)) (m ((c : Thread nD τ).loc main_arg3)) := by
  refine (dats m 0 c).arrAt_eq_of_covers 3 _ (by decide +kernel) fun t hf y => ?_
  have h3 := (flush0_3 t).mp hf
  obtain ⟨r, l, rfl⟩ : ∃ (r : Fin 704) (l : Fin 1024), y = ix2 r l := ⟨y 0, y 1, eq_ix2 y⟩
  have he : ((cfg0.win 3).blk t).view.emb (ix2 r l) = ix2 (grow (t.val / 8) r) (gcol (t.val / 8) l) := by
    blk_ext [idx t, grow, gcol]
  rw [he]
  blk_simp
  rw [after0_3, outsAt0_C m c t (by omega) (by omega) h3]
  dsimp only
  rw [out_last]
  have hl := scr_last m c t h3 (ix2 r l)
  rw [scr_next m c t (by omega)] at hl
  exact congrArg₂ (fun a b => Ideal.ofBits .f32 0x3F9837F0#32 * a + b) (blk_h m c t r l) hl

end Cert.KBwdDhIdeal.RefValue

namespace Cert.RBwdDhIdeal.RefValue
open Cert.RBwdDhIdeal Cert.RBwdDhIdeal.Gen Cert.RBwdDhIdeal.Read Idealize.ShloMosaic Idealize.ShloMosaic.TcCoe Idealize.SL.Sem
open Cert.Rows Cert.Product
open Cert.KBwdDhIdeal.RefValue (RES)

variable (X1 : FVec Ideal S1x4096x22016 .f32) (X2 : FVec Ideal S2x2064x22016 .f32) (X3 : FVec Ideal S2x2064x4096 .f32)

theorem stage7 (b : Fin 2) (s : Fin 2064) (l : Fin 4096) : val_main_v7 (F := Ideal) X1 X2 X3 (ix3 b s l)
    = Ideal.ofBits .f32 0x3F9837F0#32 * X3 (ix3 b s l) + ∑ k : Fin 22016, X2 (ix3 b s k) * X1 (ix3 0 l k) := by
  pointwise [val_main_v7, val_main_v4, val_main_v6, val_main_v5, val_main_v2, val_main_cst_0]
  exact add_comm (G := EReal) _ _

theorem ref : val_main_v9 (F := Ideal) X1 X2 X3 = RES X2 X1 X3 := by
  have h := stage7 X1 X2 X3
  unfold val_main_v9 val_main_v8
  generalize val_main_v7 (F := Ideal) X1 X2 X3 = Q at h ⊢
  funext j
  obtain ⟨R, l, rfl⟩ : ∃ (R : Fin 4224) (l : Fin 4096), j = ix2 R l := ⟨j 0, j 1, eq_ix2 j⟩
  refine (padRows_apply Q _ pads_S4128x4096_S4224x4096_0960_000 h_S_ R l).trans ?_
  refine Eq.trans ?_ (padded_add_product _ _ _ _ _)
  exact congrFun (congrArg padded (funext fun b => funext fun s => h b s l)) _

end Cert.RBwdDhIdeal.RefValue

namespace Cert.Proof
open Idealize.ShloMosaic Idealize.ShloMosaic.TcCoe Idealize.SL.Sem

theorem algebraic_bwddh : Cert.algebraic_KBwdDhIdeal_RBwdDhIdeal := by
  pair_intro
  · run_from Cert.KBwdDhIdeal.Value.run_blocks m g
  · run_from Cert.RBwdDhIdeal.Value.run m' g'
    rw [Cert.KBwdDhIdeal.RefValue.final3 m]
    refine Eq.trans ?_ (Cert.RBwdDhIdeal.RefValue.ref _ _ _)
    exact Cert.RBwdDhIdeal.Read.val_main_v9_eq (F := Ideal) _ _ _
end Cert.Proof
end
-- ==== Proof.SumParts.lean ====
/- The sum of the small gradients that the devices gathered: entry by entry, the sum of the eight devices' arrays. -/
module

public import proofs.«01_k».proof.Proof.Gen.KSumPartsIdeal.Value
public import proofs.«01_k».proof.Proof.Gen.RSumPartsIdeal.Run
public import proofs.«01_k».proof.Proof.Gen.RSumPartsIdeal.Read
public import proofs.«01_k».proof.Defs
public import Idealize.ShloMosaic.Lib.Pipeline.ValueKit
public import Idealize.ShloMosaic.Lib.Pipeline.ReadBack
public import Idealize.ShloMosaic.Lib.Claim

@[expose] public section

set_option maxRecDepth 16384

noncomputable section

namespace Cert.KSumPartsIdeal.RefValue
open Cert.KSumPartsIdeal Cert.KSumPartsIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![0, t.val, 0] ∧ win0_1.index t = ![t.val, 0] :=
  (by decide +kernel : ∀ t : Fin grid0.N, _)

/-- The row of the array that row `r` of block `t` is. -/
def grow (t : Fin cfg0.N) (r : Fin 16) : Fin 272 := ⟨t.val * 16 + r.val, by have := lt_of_lt_of_eq t.isLt N_0; omega⟩

/-- The sum of the devices' arrays. -/
def total (X : FVec Ideal S8x272x4096 .f32) : FVec Ideal S272x4096 .f32 := fun j => ∑ k : Fin 8, X (ix3 k (j 0) (j 1))

theorem blk_x (c : Dev nD) (t : Fin cfg0.N) (k : Fin 8) (r : Fin 16) (l : Fin 4096) : iblk m c 0 t (ix3 k r l)
    = m ((c : Thread nD τ).loc main_arg0) (ix3 k (grow t r) l) := by
  blk_simp [iblk]
  blk_ext [idx t, grow]

/-- What the loop leaves is the sum. -/
theorem out_apply (x : Vec Ideal S8x16x4096 .f32) (r : Fin 16) (l : Fin 4096) : out0_1 x (ix2 r l) = ∑ k : Fin 8, (show EReal from x (ix3 k r l)) := by
  rw [Fin.sum_univ_eight]
  unfold out0_1
  frame_out
  pointwise [k0_pay1]

theorem final1 (c : Dev nD) : (dats m 0 c).arrAt 1 (cfgs 0).N = total (m ((c : Thread nD τ).loc main_arg0)) := by
  refine (dats m 0 c).arrAt_eq_of_covers 1 _ (by decide +kernel) fun t _ y => ?_
  obtain ⟨r, l, rfl⟩ : ∃ (r : Fin 16) (l : Fin 4096), y = ix2 r l := ⟨y 0, y 1, eq_ix2 y⟩
  have he : ((cfg0.win 1).blk t).view.emb (ix2 r l) = ix2 (grow t r) l := by
    blk_ext [idx t, grow]
  rw [he]
  blk_simp
  rw [after0_1]
  exact (out_apply (iblk m c 0 t) r l).trans (Finset.sum_congr rfl fun k _ => blk_x m c t k r l)

end Cert.KSumPartsIdeal.RefValue

namespace Cert.RSumPartsIdeal.RefValue
open Cert.RSumPartsIdeal Cert.RSumPartsIdeal.Gen Cert.RSumPartsIdeal.Read Idealize.ShloMosaic Idealize.ShloMosaic.TcCoe Idealize.SL.Sem
open Cert.KSumPartsIdeal.RefValue (total)

theorem ref0 (X : FVec Ideal S8x272x4096 .f32) : val_main_v0 (F := Ideal) X = total X := by
  funext j
  rw [val_main_v0_apply]
  refine (congrArg (· + _) (show val_main_cst (F := Ideal) (Shape.Idx.first h_S_) = 0 from by simp [val_main_cst_apply])).trans ?_
  rw [zero_add]
  exact Finset.sum_congr rfl fun k _ => congrArg X (eq_ix3 _)

end Cert.RSumPartsIdeal.RefValue

namespace Cert.Proof
open Idealize.ShloMosaic Idealize.ShloMosaic.TcCoe Idealize.SL.Sem
open Cert.KSumPartsIdeal.RefValue (total)

theorem algebraic_sumparts : Cert.algebraic_KSumPartsIdeal_RSumPartsIdeal := by
  intro m g m' g' _ hagree
  refine ⟨fun c => total (m ((c.tc : Thread Cert.KSumPartsIdeal.nD Cert.KSumPartsIdeal.τ).loc Cert.KSumPartsIdeal.main_arg0)), ?_, ?_⟩
  · exact (θ_run _ _ _).mono (fun r h c => ⟨(h c).1.trans (Cert.KSumPartsIdeal.RefValue.final1 m c), (h c).2⟩) (Cert.KSumPartsIdeal.Value.run_blocks m g)
  · refine (θ_run _ _ _).mono (fun r h c => ⟨(h c).1.trans ?_, (h c).2⟩) (Cert.RSumPartsIdeal.Value.run m' g')
    refine (Cert.RSumPartsIdeal.Read.val_main_v0_eq (F := Ideal) _).trans ?_
    refine (Cert.RSumPartsIdeal.RefValue.ref0 _).trans ?_
    exact congrArg total (hagree c)
end Cert.Proof
end
-- ==== Proof.AdamB.lean ====
/- A matrix's gradient summed over the devices, and its optimiser step (`_adamw_big`): the kernel reads the blocks of the
   device's own part and of its sibling's part at the places it is given. -/
module

public import proofs.«01_k».proof.Defs
public import proofs.«01_k».proof.Proof.Gen.KAdamB
public import proofs.«01_k».proof.Proof.Gen.KAdamB.Frame
public import proofs.«01_k».proof.Proof.Gen.KAdamBIdeal
public import proofs.«01_k».proof.Proof.Gen.KAdamBIdeal.Frame
public import proofs.«01_k».proof.Proof.Gen.RAdamBIdeal
public import proofs.«01_k».proof.Proof.Gen.RAdamBIdeal.Run
public import proofs.«01_k».proof.Proof.Gen.RAdamBIdeal.Read
public import proofs.«01_k».proof.Proof.Gen.Pre_placed
public import Idealize.ShloMosaic.Lib.StableHlo.Predicate
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Placed
open Idealize.ShloMosaic Cert.Pre_placed

theorem one (x y : S1.Idx) : x = y := by
  funext a
  fin_cases a
  exact Subsingleton.elim (α := Fin 1) _ _

/-- The precondition says of the two places what it should: they lie on the mesh. -/
theorem words {F : FTy → Type} [FloatOps F] (a0 : FVec F S8x4096x2752 .bf16) (a1 : FVec F S4x4096x2752 .bf16) (a2 : FVec F S3x4096x2752 .bf16)
    (d c : IVec S1 32) (a5 a6 a7 : FVec F S1x4096x2752 .f32) (h : Cert.Pre_placed.fn a0 a1 a2 d c a5 a6 a7 = fun _ => 1#1) (i : S1.Idx) :
    (d i).toNat < 8 ∧ (c i).toNat < 4 := by
  have e := congrFun h (fun a => a.elim0)
  have hs : ∀ (x : IVec S1 32) (j : S_.Idx), shapeCast S_ x Cert.Pre_placed.Facts.shapeCasts_S1_S_ j = x i := fun x j => congrArg x (one _ _)
  simp only [Cert.Pre_placed.fn, constantI, cmpi, andi, hs] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e
  have h0 : (0#32 : BitVec 32).toInt = 0 := by decide
  have h8 : (8#32 : BitVec 32).toInt = 8 := by decide
  have h4 : (4#32 : BitVec 32).toInt = 4 := by decide
  have t1 := BitVec.toInt_eq_toNat_cond (d i)
  have t2 := BitVec.toInt_eq_toNat_cond (c i)
  have l1 := (d i).isLt
  have l2 := (c i).isLt
  split at t1 <;> split at t2 <;> omega
end Cert.Placed

namespace Cert.KAdamBIdeal.RefValue
open Cert.KAdamBIdeal Cert.KAdamBIdeal.Gen Idealize.ShloMosaic Idealize.ShloMosaic.TcCoe Idealize.SL.Sem
open Idealize.ShloMosaic.Pipeline (Dat)

variable {F : FTy → Type} [FloatOps F] (m : (ℓ : Loc nD τ sig) → Buf (Elt Ideal) ℓ)

theorem coord : ∀ t : Fin grid0.N, (grid0.coords t 0).val = t.val := by decide +kernel

theorem fits0 : ∀ (k : Fin 8) (t : Fin 32), ∃ h : (∀ a, ((![k.val, t.val, 0] : Fin 3 → Nat) a + 1) * S1x128x2752.size a ≤ S8x4096x2752.size a),
    EltTy.bits .bf16 = 32 ∨ (Rect.block (s := S8x4096x2752) S1x128x2752.size ![k.val, t.val, 0] h).WholeWords (EltTy.packing .bf16) := by decide +kernel

theorem fits1 : ∀ (k : Fin 4) (t : Fin 32), ∃ h : (∀ a, ((![k.val, t.val, 0] : Fin 3 → Nat) a + 1) * S1x128x2752.size a ≤ S4x4096x2752.size a),
    EltTy.bits .bf16 = 32 ∨ (Rect.block (s := S4x4096x2752) S1x128x2752.size ![k.val, t.val, 0] h).WholeWords (EltTy.packing .bf16) := by decide +kernel

/-- The blocks' places: the two words, the grid's step. -/
theorem place0 (pf : pre0.Contents (Elt F)) (i : grid0.Coords) (x : S1.Idx) : cc0_transform_0 Facts₀.inb_S1_S1_0 Facts₀.numel1_S1 pf i = ![(pf 0 x : BitVec 32).toNat, (i 0).val, 0] := by
  have hi : (i 0).val < 32 := (i 0).isLt
  have hx : ∀ y : S1.Idx, (pf 0 y : BitVec 32) = pf 0 x := fun y => congrArg (pf 0) (Cert.Placed.one y x)
  unfold cc0_transform_0
  simp only [Pipeline.Prefetch.Contents.at]
  refine congrArg₂ (fun a b => (![a, b, 0] : Fin 3 → Nat)) (congrArg BitVec.toNat (hx _)) ?_
  rw [BitVec.toNat_ofNat]; omega

theorem place1 (pf : pre0.Contents (Elt F)) (i : grid0.Coords) (x : S1.Idx) : cc0_transform_1 Facts₀.inb_S1_S1_0 Facts₀.numel1_S1 pf i = ![(pf 1 x : BitVec 32).toNat, (i 0).val, 0] := by
  have hi : (i 0).val < 32 := (i 0).isLt
  have hx : ∀ y : S1.Idx, (pf 1 y : BitVec 32) = pf 1 x := fun y => congrArg (pf 1) (Cert.Placed.one y x)
  unfold cc0_transform_1
  simp only [Pipeline.Prefetch.Contents.at]
  refine congrArg₂ (fun a b => (![a, b, 0] : Fin 3 → Nat)) (congrArg BitVec.toNat (hx _)) ?_
  rw [BitVec.toNat_ofNat]; omega

theorem ok_of_words (pf : pre0.Contents (Elt F)) (x : S1.Idx) (h : (pf 0 x : BitVec 32).toNat < 8 ∧ (pf 1 x : BitVec 32).toNat < 4) : ok0 pf := by
  unfold ok0
  refine ⟨fun i => ?_, fun i => ?_⟩
  · rw [place0 pf i x]
    exact fits0 ⟨_, h.1⟩ (i 0)
  · rw [place1 pf i x]
    exact fits1 ⟨_, h.2⟩ (i 0)

theorem ok_of_pre (h : Cert.Pre_KAdamBIdeal m) : Ok m := by
  have hw := Cert.Placed.words _ _ _ _ _ _ _ _ (h 0) (ix1 0)
  refine ok_of_words _ (ix1 0) ?_
  have e0 : (tbl m 0 (ix1 0) : BitVec 32) = m (((0 : Dev nD) : Thread nD τ).loc main_arg3) (ix1 0) := congrFun (V_main_arg3 m 0) _
  have e1 : (tbl m 1 (ix1 0) : BitVec 32) = m (((0 : Dev nD) : Thread nD τ).loc main_arg4) (ix1 0) := congrFun (V_main_arg4 m 0) _
  rw [e0, e1]
  exact hw

/-- An entry of the summed gradient, and the entries of the step: the two running means, the change. -/
def gE (a b c0 c1 c2 : EReal) : EReal := a + b + c0 + c1 + c2
def mE (m g : EReal) : EReal := Ideal.ofBits .f32 0x3F666666#32 * m + Ideal.ofBits .f32 0x3DCCCCCD#32 * g
def vE (v g : EReal) : EReal := Ideal.ofBits .f32 0x3F7FBE77#32 * v + Ideal.ofBits .f32 0x3A83126F#32 * (g * g)
def dE (w m v : EReal) : EReal := Ideal.ofBits .f32 0xBA83126F#32 * (Ideal.div (Ideal.div m (Ideal.ofBits .f32 0x3F26BD02#32))
  (Ideal.sqrt (Ideal.div v (Ideal.ofBits .f32 0x3C231ACC#32)) + Ideal.ofBits .f32 0x322BCC77#32) + Ideal.ofBits .f32 0x3C23D70A#32 * w)

/-- The arrays of them: the gradient at the places `d` and `p`, the running means and the change of a gradient `g`. -/
def G (X0 : FVec Ideal S8x4096x2752 .bf16) (X1 : FVec Ideal S4x4096x2752 .bf16) (X2 : FVec Ideal S3x4096x2752 .bf16) (d : Fin 8) (p : Fin 4) : FVec Ideal S4096x2752 .f32 := fun j =>
  gE (X0 (ix3 d (j 0) (j 1))) (X1 (ix3 p (j 0) (j 1))) (X2 (ix3 0 (j 0) (j 1))) (X2 (ix3 1 (j 0) (j 1))) (X2 (ix3 2 (j 0) (j 1)))
def MM (g : FVec Ideal S4096x2752 .f32) (X : FVec Ideal S1x4096x2752 .f32) : FVec Ideal S4096x2752 .f32 := fun j => mE (X (ix3 0 (j 0) (j 1))) (g j)
def VV (g : FVec Ideal S4096x2752 .f32) (X : FVec Ideal S1x4096x2752 .f32) : FVec Ideal S4096x2752 .f32 := fun j => vE (X (ix3 0 (j 0) (j 1))) (g j)
def DD (g : FVec Ideal S4096x2752 .f32) (W M X : FVec Ideal S1x4096x2752 .f32) : FVec Ideal S4096x2752 .f32 := fun j =>
  dE (W (ix3 0 (j 0) (j 1))) (MM g M j) (VV g X j)

theorem ld0 (x2 : Vec Ideal S3x128x2752 .bf16) (r : Fin 128) (l : Fin 2752) : View.ld x2 (Rect.unit ![0, 0, 0] ![1, 128, 2752] Facts₀.inb_S3x128x2752_S1x128x2752_0_0_0) (ix3 0 r l) = x2 (ix3 0 r l) := by
  pointwise
theorem ld1 (x2 : Vec Ideal S3x128x2752 .bf16) (r : Fin 128) (l : Fin 2752) : View.ld x2 (Rect.unit ![1, 0, 0] ![1, 128, 2752] Facts₀.inb_S3x128x2752_S1x128x2752_1_0_0) (ix3 0 r l) = x2 (ix3 1 r l) := by
  pointwise
theorem ld2 (x2 : Vec Ideal S3x128x2752 .bf16) (r : Fin 128) (l : Fin 2752) : View.ld x2 (Rect.unit ![2, 0, 0] ![1, 128, 2752] Facts₀.inb_S3x128x2752_S1x128x2752_2_0_0) (ix3 0 r l) = x2 (ix3 2 r l) := by
  pointwise

theorem pay_g (v0 v3 v7 v11 v15 : FVec Ideal S1x128x2752 .bf16) (r : Fin 128) (l : Fin 2752) : k0_pay3 (F := Ideal) v0 v3 v7 v11 v15 (ix2 r l)
    = gE (v0 (ix3 0 r l)) (v3 (ix3 0 r l)) (v7 (ix3 0 r l)) (v11 (ix3 0 r l)) (v15 (ix3 0 r l)) := by
  unfold gE
  pointwise [k0_pay3]
theorem pay_m (v0 v3 v7 v11 v15 : FVec Ideal S1x128x2752 .bf16) (a : FVec Ideal S128x2752 .f32) (r : Fin 128) (l : Fin 2752) : k0_pay5 (F := Ideal) v0 v3 v7 v11 v15 a (ix2 r l)
    = mE (a (ix2 r l)) (gE (v0 (ix3 0 r l)) (v3 (ix3 0 r l)) (v7 (ix3 0 r l)) (v11 (ix3 0 r l)) (v15 (ix3 0 r l))) := by
  unfold mE gE
  pointwise [k0_pay5, k0_pay3]
theorem pay_v (v0 v3 v7 v11 v15 : FVec Ideal S1x128x2752 .bf16) (a : FVec Ideal S128x2752 .f32) (r : Fin 128) (l : Fin 2752) : k0_pay1 (F := Ideal) (k0_pay6 a) (k0_pay7 v0 v3 v7 v11 v15) k0_pay8 (ix2 r l)
    = vE (a (ix2 r l)) (gE (v0 (ix3 0 r l)) (v3 (ix3 0 r l)) (v7 (ix3 0 r l)) (v11 (ix3 0 r l)) (v15 (ix3 0 r l))) := by
  rw [← pay_g]
  unfold vE
  pointwise [k0_pay1, k0_pay6, k0_pay7, k0_pay8]
theorem pay_d (a b c d e : FVec Ideal S128x2752 .f32) (r : Fin 128) (l : Fin 2752) : k0_pay2 (F := Ideal) (k0_pay4 a) b c d e (ix2 r l)
    = dE (a (ix2 r l)) (b (ix2 r l)) (k0_pay1 (F := Ideal) c d e (ix2 r l)) := by
  unfold dE
  pointwise [k0_pay2, k0_pay4]

section out
variable (c : Dev nD) (i : grid0.Coords) (a3 : Memref sig .tc .vmem S1x128x2752 .bf16) (h3 : a3.IsWhole) (a4 : Memref sig .tc .vmem S1x128x2752 .bf16) (h4 : a4.IsWhole) (a5 : Memref sig .tc .vmem S3x128x2752 .bf16) (h5 : a5.IsWhole) (a6 : Memref sig .tc .vmem S128x2752 .f32) (h6 : a6.IsWhole) (a7 : Memref sig .tc .vmem S128x2752 .f32) (h7 : a7.IsWhole) (a8 : Memref sig .tc .vmem S128x2752 .f32) (h8 : a8.IsWhole) (a9 : Memref sig .tc .vmem S128x2752 .f32) (h9 : a9.IsWhole) (a10 : Memref sig .tc .vmem S128x2752 .f32) (h10 : a10.IsWhole) (a11 : Memref sig .tc .vmem S128x2752 .f32) (h11 : a11.IsWhole) (a12 : Memref sig .tc .vmem S128x2752 .f32) (h12 : a12.IsWhole) (x0 x1 : Vec Ideal S1x128x2752 .bf16) (x2 : Vec Ideal S3x128x2752 .bf16) (x3 x4 x5 : Vec Ideal S128x2752 .f32) (T0 : TbBuf0 (F := Ideal) c tbM0_0) (T1 : TbBuf0 (F := Ideal) c tbM0_1)

theorem out6 (r : Fin 128) (l : Fin 2752) : out0_A_6 (F := Ideal) c i a3 h3 a4 h4 a5 h5 a6 h6 a7 h7 a8 h8 a9 h9 a10 h10 a11 h11 a12 h12 x0 x1 x2 x3 x4 x5 T0 T1 (ix2 r l)
    = gE (x0 (ix3 0 r l)) (x1 (ix3 0 r l)) (x2 (ix3 0 r l)) (x2 (ix3 1 r l)) (x2 (ix3 2 r l)) := by
  frame_out
  rw [pay_g, ld0, ld1, ld2]
theorem out8 (r : Fin 128) (l : Fin 2752) : out0_A_8 (F := Ideal) c i a3 h3 a4 h4 a5 h5 a6 h6 a7 h7 a8 h8 a9 h9 a10 h10 a11 h11 a12 h12 x0 x1 x2 x3 x4 x5 T0 T1 (ix2 r l)
    = mE (x4 (ix2 r l)) (gE (x0 (ix3 0 r l)) (x1 (ix3 0 r l)) (x2 (ix3 0 r l)) (x2 (ix3 1 r l)) (x2 (ix3 2 r l))) := by
  frame_out
  rw [pay_m, ld0, ld1, ld2]
theorem out9 (r : Fin 128) (l : Fin 2752) : out0_A_9 (F := Ideal) c i a3 h3 a4 h4 a5 h5 a6 h6 a7 h7 a8 h8 a9 h9 a10 h10 a11 h11 a12 h12 x0 x1 x2 x3 x4 x5 T0 T1 (ix2 r l)
    = vE (x5 (ix2 r l)) (gE (x0 (ix3 0 r l)) (x1 (ix3 0 r l)) (x2 (ix3 0 r l)) (x2 (ix3 1 r l)) (x2 (ix3 2 r l))) := by
  frame_out
  rw [pay_v, ld0, ld1, ld2]
theorem out7 (r : Fin 128) (l : Fin 2752) : out0_A_7 (F := Ideal) c i a3 h3 a4 h4 a5 h5 a6 h6 a7 h7 a8 h8 a9 h9 a10 h10 a11 h11 a12 h12 x0 x1 x2 x3 x4 x5 T0 T1 (ix2 r l)
    = dE (x3 (ix2 r l)) (mE (x4 (ix2 r l)) (gE (x0 (ix3 0 r l)) (x1 (ix3 0 r l)) (x2 (ix3 0 r l)) (x2 (ix3 1 r l)) (x2 (ix3 2 r l))))
      (vE (x5 (ix2 r l)) (gE (x0 (ix3 0 r l)) (x1 (ix3 0 r l)) (x2 (ix3 0 r l)) (x2 (ix3 1 r l)) (x2 (ix3 2 r l)))) := by
  frame_out
  rw [pay_d, pay_m, pay_v, ld0, ld1, ld2]
end out

variable (hO : Ok m)

/-- The row of the array that row `r` of block `t` is. -/
def grow (t : Fin (cfgM m hO).N) (r : Fin 128) : Fin 4096 := ⟨t.val * 128 + r.val, by have := lt_of_lt_of_eq t.isLt N_0; omega⟩

theorem pos3 : ∀ t : Fin grid0.N, cc0_transform_3 (grid0.coords t) = ![t.val, 0] := by decide +kernel
theorem pos2 : ∀ t : Fin grid0.N, cc0_transform_2 (grid0.coords t) = ![0, t.val, 0] := by decide +kernel

theorem row_val (t : Fin (cfgM m hO).N) (r : Fin 128) (l : Fin 2752) (f : Fin 2 → Nat) (e : f = ![t.val, 0]) (a : Fin 2) :
    f a * S128x2752.size a + 1 * (ix2 r l a).val = (ix2 (grow m hO t r) l a).val := by
  rw [e]
  fin_cases a
  · show t.val * 128 + 1 * r.val = t.val * 128 + r.val; omega
  · show 0 * 2752 + 1 * l.val = l.val; omega

theorem part_val (t : Fin (cfgM m hO).N) (r : Fin 128) (l : Fin 2752) {n : Nat} (q : Fin n) (f : Fin 3 → Nat) (e : f = ![q.val, t.val, 0]) (a : Fin 3) :
    f a * S1x128x2752.size a + 1 * (ix3 (0 : Fin 1) r l a).val = (ix3 q (grow m hO t r) l a).val := by
  rw [e]
  fin_cases a
  · show q.val * 1 + 1 * 0 = q.val; omega
  · show t.val * 128 + 1 * r.val = t.val * 128 + r.val; omega
  · show 0 * 2752 + 1 * l.val = l.val; omega

theorem emb3 (t : Fin (cfgM m hO).N) (r : Fin 128) (l : Fin 2752) : (((cfgM m hO).win 3).blk t).view.emb (ix2 r l) = ix2 (grow m hO t r) l :=
  funext fun a => Fin.ext (row_val m hO t r l _ (pos3 t) a)

theorem emb0 (d : Fin 8) (hd : (tbl m 0 (ix1 0) : BitVec 32).toNat = d.val) (t : Fin (cfgM m hO).N) (r : Fin 128) (l : Fin 2752) : (((cfgM m hO).win 0).blk t).view.emb (ix3 0 r l) = ix3 d (grow m hO t r) l :=
  funext fun a => Fin.ext (part_val m hO t r l d _ (by rw [← hd, ← coord t]; exact place0 (tbl m) (grid0.coords t) (ix1 0)) a)
theorem emb1 (p : Fin 4) (hp : (tbl m 1 (ix1 0) : BitVec 32).toNat = p.val) (t : Fin (cfgM m hO).N) (r : Fin 128) (l : Fin 2752) : (((cfgM m hO).win 1).blk t).view.emb (ix3 0 r l) = ix3 p (grow m hO t r) l :=
  funext fun a => Fin.ext (part_val m hO t r l p _ (by rw [← hp, ← coord t]; exact place1 (tbl m) (grid0.coords t) (ix1 0)) a)
theorem emb2 (t : Fin (cfgM m hO).N) (q : Fin 3) (r : Fin 128) (l : Fin 2752) : (((cfgM m hO).win 2).blk t).view.emb (ix3 q r l) = ix3 q (grow m hO t r) l := by
  have e := pos2 t
  funext a
  apply Fin.ext
  show cc0_transform_2 (grid0.coords t) a * S3x128x2752.size a + 1 * (ix3 q r l a).val = (ix3 q (grow m hO t r) l a).val
  rw [e]
  fin_cases a
  · show 0 * 3 + 1 * q.val = q.val; omega
  · show t.val * 128 + 1 * r.val = t.val * 128 + r.val; omega
  · show 0 * 2752 + 1 * l.val = l.val; omega

theorem gE_congr {a b c0 c1 c2 a' b' c0' c1' c2' : EReal} (h : a = a') (h1 : b = b') (h2 : c0 = c0') (h3 : c1 = c1') (h4 : c2 = c2') : gE a b c0 c1 c2 = gE a' b' c0' c1' c2' := by
  subst h h1 h2 h3 h4; rfl
theorem dE_congr {w m v w' m' v' : EReal} (h : w = w') (h1 : m = m') (h2 : v = v') : dE w m v = dE w' m' v' := by
  subst h h1 h2; rfl

theorem V_v0 (c : Dev nD) : V m c main_v0 = shapeCast S4096x2752 (m ((c : Thread nD τ).loc main_arg5)) Facts₀.shapeCasts_S1x4096x2752_S4096x2752 := by
  unfold V
  after_results
  rfl
theorem V_v1 (c : Dev nD) : V m c main_v1 = shapeCast S4096x2752 (m ((c : Thread nD τ).loc main_arg6)) Facts₀.shapeCasts_S1x4096x2752_S4096x2752 := by
  unfold V
  after_results
  rfl
theorem V_v2 (c : Dev nD) : V m c main_v2 = shapeCast S4096x2752 (m ((c : Thread nD τ).loc main_arg7)) Facts₀.shapeCasts_S1x4096x2752_S4096x2752 := by
  unfold V
  after_results
  rfl

theorem weights (X : FVec Ideal S1x4096x2752 .f32) (a : Fin 4096) (l : Fin 2752) : shapeCast S4096x2752 X Facts₀.shapeCasts_S1x4096x2752_S4096x2752 (ix2 a l) = X (ix3 0 a l) := by
  pointwise

theorem blk0 (d : Fin 8) (hd : (tbl m 0 (ix1 0) : BitVec 32).toNat = d.val) (c : Dev nD) (t : Fin (cfgM m hO).N) (r : Fin 128) (l : Fin 2752) : iblk m hO c 0 t (ix3 0 r l)
    = m ((c : Thread nD τ).loc main_arg0) (ix3 d (grow m hO t r) l) := by
  blk_simp [iblk]
  refine (congrArg (V m c main_arg0) (emb0 m hO d hd t r l)).trans ?_
  exact congrFun (V_main_arg0 m c) _
theorem blk1 (p : Fin 4) (hp : (tbl m 1 (ix1 0) : BitVec 32).toNat = p.val) (c : Dev nD) (t : Fin (cfgM m hO).N) (r : Fin 128) (l : Fin 2752) : iblk m hO c 1 t (ix3 0 r l)
    = m ((c : Thread nD τ).loc main_arg1) (ix3 p (grow m hO t r) l) := by
  blk_simp [iblk]
  refine (congrArg (V m c main_arg1) (emb1 m hO p hp t r l)).trans ?_
  exact congrFun (V_main_arg1 m c) _
theorem blk2 (c : Dev nD) (t : Fin (cfgM m hO).N) (q : Fin 3) (r : Fin 128) (l : Fin 2752) : iblk m hO c 2 t (ix3 q r l)
    = m ((c : Thread nD τ).loc main_arg2) (ix3 q (grow m hO t r) l) := by
  blk_simp [iblk]
  refine (congrArg (V m c main_arg2) (emb2 m hO t q r l)).trans ?_
  exact congrFun (V_main_arg2 m c) _
theorem blk3 (c : Dev nD) (t : Fin (cfgM m hO).N) (r : Fin 128) (l : Fin 2752) : iblk m hO c 3 t (ix2 r l)
    = m ((c : Thread nD τ).loc main_arg5) (ix3 0 (grow m hO t r) l) := by
  blk_simp [iblk]
  refine (congrArg (V m c main_v0) (emb3 m hO t r l)).trans ?_
  exact (congrFun (V_v0 m c) _).trans (weights _ _ _)
theorem blk4 (c : Dev nD) (t : Fin (cfgM m hO).N) (r : Fin 128) (l : Fin 2752) : iblk m hO c 4 t (ix2 r l)
    = m ((c : Thread nD τ).loc main_arg6) (ix3 0 (grow m hO t r) l) := by
  blk_simp [iblk]
  refine (congrArg (V m c main_v1) (emb3 m hO t r l)).trans ?_
  exact (congrFun (V_v1 m c) _).trans (weights _ _ _)
theorem blk5 (c : Dev nD) (t : Fin (cfgM m hO).N) (r : Fin 128) (l : Fin 2752) : iblk m hO c 5 t (ix2 r l)
    = m ((c : Thread nD τ).loc main_arg7) (ix3 0 (grow m hO t r) l) := by
  blk_simp [iblk]
  refine (congrArg (V m c main_v2) (emb3 m hO t r l)).trans ?_
  exact (congrFun (V_v2 m c) _).trans (weights _ _ _)

/-- Every output's blocks tile its array. -/
theorem cov : ∀ w : Fin 10, 6 ≤ w.val → ((cfgM m hO).win w).Covers
  | 0, h | 1, h | 2, h | 3, h | 4, h | 5, h => absurd h (by decide)
  | 6, _ | 7, _ | 8, _ | 9, _ => by
    refine ⟨(show ∀ a : Fin 2, 0 < S128x2752.size a from by decide), fun β => ?_⟩
    have h0 : (β (0 : Fin 2)).val < 32 := lt_of_lt_of_eq (β (0 : Fin 2)).isLt (show (4096 + 128 - 1) / 128 = 32 by decide)
    have h1 : (β (1 : Fin 2)).val < 1 := lt_of_lt_of_eq (β (1 : Fin 2)).isLt (show (2752 + 2752 - 1) / 2752 = 1 by decide)
    refine ⟨⟨(β (0 : Fin 2)).val, lt_of_lt_of_eq h0 N_0.symm⟩, ?_, fun a => ⟨?_, Or.inl ?_⟩⟩
    · first | exact flush0_6 (adm m hO) _ | exact flush0_7 (adm m hO) _ | exact flush0_8 (adm m hO) _ | exact flush0_9 (adm m hO) _
    · refine (congrFun (pos3 _) a).trans ?_
      fin_cases a
      · rfl
      · show 0 = (β (1 : Fin 2)).val; omega
    · rfl

/-- A block of rows equals an array's at its place where it does so row by row. -/
theorem by_rows (t : Fin (cfgM m hO).N) (x : Vec Ideal S128x2752 .f32) (A : FVec Ideal S4096x2752 .f32) (h : ∀ r l, x (ix2 r l) = A (ix2 (grow m hO t r) l))
    (y : S128x2752.Idx) : x y = A ((((cfgM m hO).win 3).blk t).view.emb y) := by
  obtain ⟨r, l, rfl⟩ : ∃ (r : Fin 128) (l : Fin 2752), y = ix2 r l := ⟨y 0, y 1, eq_ix2 y⟩
  exact (h r l).trans (congrArg A (emb3 m hO t r l)).symm

-- What the kernel leaves: the summed gradient at the two places, the change, the running means.
variable (c : Dev nD) (d : Fin 8) (hd : (tbl m 0 (ix1 0) : BitVec 32).toNat = d.val) (p : Fin 4) (hp : (tbl m 1 (ix1 0) : BitVec 32).toNat = p.val)
/-- The summed gradient of the launch's arrays. -/
abbrev grad : FVec Ideal S4096x2752 .f32 := G (m ((c : Thread nD τ).loc main_arg0)) (m ((c : Thread nD τ).loc main_arg1)) (m ((c : Thread nD τ).loc main_arg2)) d p

include hd hp
theorem summed_at (t : Fin (cfgM m hO).N) (r : Fin 128) (l : Fin 2752) : gE (iblk m hO c 0 t (ix3 0 r l)) (iblk m hO c 1 t (ix3 0 r l)) (iblk m hO c 2 t (ix3 0 r l))
    (iblk m hO c 2 t (ix3 1 r l)) (iblk m hO c 2 t (ix3 2 r l)) = grad m c d p (ix2 (grow m hO t r) l) :=
  gE_congr (blk0 m hO d hd c t r l) (blk1 m hO p hp c t r l) (blk2 m hO c t 0 r l) (blk2 m hO c t 1 r l) (blk2 m hO c t 2 r l)

theorem final6 : (dats m hO 0 c).arrAt 6 (cfgM m hO).N = grad m c d p :=
  (dats m hO 0 c).arrAt_eq_of_covers 6 _ (cov m hO 6 (by decide)) fun t _ y => (congrFun (after0_6 m hO c t) y).trans (by_rows m hO t _ (grad m c d p) (fun r l => by
    refine Eq.trans (by unfold outsAt0; dsimp only; apply out6) (summed_at m hO c d hd p hp t r l)) y)
theorem final7 : (dats m hO 0 c).arrAt 7 (cfgM m hO).N = DD (grad m c d p) (m ((c : Thread nD τ).loc main_arg5)) (m ((c : Thread nD τ).loc main_arg6)) (m ((c : Thread nD τ).loc main_arg7)) :=
  (dats m hO 0 c).arrAt_eq_of_covers 7 _ (cov m hO 7 (by decide)) fun t _ y => (congrFun (after0_7 m hO c t) y).trans (by_rows m hO t _ (DD (grad m c d p) _ _ _) (fun r l => by
    have g := summed_at m hO c d hd p hp t r l
    exact Eq.trans (by unfold outsAt0; dsimp only; apply out7) (dE_congr (blk3 m hO c t r l) (congrArg₂ mE (blk4 m hO c t r l) g) (congrArg₂ vE (blk5 m hO c t r l) g))) y)
theorem final8 : (dats m hO 0 c).arrAt 8 (cfgM m hO).N = MM (grad m c d p) (m ((c : Thread nD τ).loc main_arg6)) :=
  (dats m hO 0 c).arrAt_eq_of_covers 8 _ (cov m hO 8 (by decide)) fun t _ y => (congrFun (after0_8 m hO c t) y).trans (by_rows m hO t _ (MM (grad m c d p) _) (fun r l => by
    exact Eq.trans (by unfold outsAt0; dsimp only; apply out8) (congrArg₂ mE (blk4 m hO c t r l) (summed_at m hO c d hd p hp t r l))) y)
theorem final9 : (dats m hO 0 c).arrAt 9 (cfgM m hO).N = VV (grad m c d p) (m ((c : Thread nD τ).loc main_arg7)) :=
  (dats m hO 0 c).arrAt_eq_of_covers 9 _ (cov m hO 9 (by decide)) fun t _ y => (congrFun (after0_9 m hO c t) y).trans (by_rows m hO t _ (VV (grad m c d p) _) (fun r l => by
    exact Eq.trans (by unfold outsAt0; dsimp only; apply out9) (congrArg₂ vE (blk5 m hO c t r l) (summed_at m hO c d hd p hp t r l))) y)

end Cert.KAdamBIdeal.RefValue

namespace Cert.KAdamB.RefValue
open Cert.KAdamB Cert.KAdamB.Gen Idealize.ShloMosaic Idealize.ShloMosaic.TcCoe Idealize.SL.Sem
open Idealize.ShloMosaic.Pipeline (Dat)

variable {F : FTy → Type} [FloatOps F] (m : (ℓ : Loc nD τ sig) → Buf (Elt Bits) ℓ)

theorem ok_of_pre (h : Cert.Pre_KAdamB m) : Ok m := by
  have hw := Cert.Placed.words _ _ _ _ _ _ _ _ (h 0) (ix1 0)
  refine Cert.KAdamBIdeal.RefValue.ok_of_words (F := Bits) (tbl m) (ix1 0) ?_
  have e0 : (tbl m 0 (ix1 0) : BitVec 32) = m (((0 : Dev nD) : Thread nD τ).loc main_arg3) (ix1 0) := congrFun (V_main_arg3 m 0) _
  have e1 : (tbl m 1 (ix1 0) : BitVec 32) = m (((0 : Dev nD) : Thread nD τ).loc main_arg4) (ix1 0) := congrFun (V_main_arg4 m 0) _
  rw [e0, e1]
  exact hw

end Cert.KAdamB.RefValue

namespace Cert.RAdamBIdeal.RefValue
open Cert.RAdamBIdeal Cert.RAdamBIdeal.Gen Cert.RAdamBIdeal.Read Idealize.ShloMosaic Idealize.ShloMosaic.TcCoe Idealize.SL.Sem
open Cert.KAdamBIdeal.RefValue (G MM VV DD gE mE vE dE)

/-- A sum that keeps the one block at a place is the entry of that block. -/
theorem pick {n : Nat} (hn : n ≤ 8) (w : BitVec 32) (d : Fin n) (hd : w.toNat = d.val) (f : Fin n → EReal) :
    (∑ k : Fin n, (Scalar.select (IntOp.cmpi .eq (BitVec.ofNat 32 k.val) w) (f k) (0 : EReal) : EReal)) = f d := by
  rw [Finset.sum_eq_single d]
  · have : BitVec.ofNat 32 d.val = w := by
      apply BitVec.eq_of_toNat_eq
      rw [BitVec.toNat_ofNat, hd]
      omega
    rw [this]
    simp [Scalar.select, IntOp.cmpi]
  · intro k _ hk
    have : BitVec.ofNat 32 k.val ≠ w := by
      intro h
      apply hk
      apply Fin.ext
      have e := congrArg BitVec.toNat h
      rw [BitVec.toNat_ofNat, hd] at e
      omega
    simp [Scalar.select, IntOp.cmpi, beq_eq_false_iff_ne.mpr this]
  · intro h; exact absurd (Finset.mem_univ _) h

variable (x0 : FVec Ideal S8x4096x2752 .bf16) (x1 : FVec Ideal S4x4096x2752 .bf16) (x2 : FVec Ideal S3x4096x2752 .bf16) (x3 x4 : IVec S1 32)
  (x5 x6 x7 : FVec Ideal S1x4096x2752 .f32) (d : Fin 8) (hd : (x3 (ix1 0)).toNat = d.val) (p : Fin 4) (hp : (x4 (ix1 0)).toNat = p.val)

theorem word2 (i : S_.Idx) : val_main_v2 (F := Ideal) x3 i = x3 (ix1 0) := congrArg x3 (Cert.Placed.one _ _)
theorem word10 (i : S_.Idx) : val_main_v10 (F := Ideal) x4 i = x4 (ix1 0) := congrArg x4 (Cert.Placed.one _ _)

include hd in
theorem own (j : S4096x2752.Idx) : val_main_v7 (F := Ideal) x0 x3 j = (x0 (ix3 d (j 0) (j 1)) : EReal) := by
  rw [val_main_v7_apply]
  refine (congrArg (· + _) (show val_main_cst_0 (F := Ideal) (Shape.Idx.first h_S_) = (0 : EReal) from by simp [val_main_cst_0_apply])).trans ?_
  rw [zero_add]
  refine (Finset.sum_congr rfl fun k _ => ?_).trans (pick (le_refl 8) (x3 (ix1 0)) d hd fun k => x0 (ix3 k (j 0) (j 1)))
  rw [val_main_v6_apply, val_main_call0_v1_apply, val_main_v4_apply, val_main_v1_apply, val_main_v0_apply, val_main_v3_apply, word2,
    val_main_call0_v2_apply, val_main_call0_v0_apply, val_main_v5_apply]
  exact congrArg₂ (Scalar.select _) (congrArg x0 (eq_ix3 _)) (by simp [val_main_cst_apply])

include hp in
theorem sibling (j : S4096x2752.Idx) : val_main_v15 (F := Ideal) x1 x4 j = (x1 (ix3 p (j 0) (j 1)) : EReal) := by
  rw [val_main_v15_apply]
  refine (congrArg (· + _) (show val_main_cst_2 (F := Ideal) (Shape.Idx.first h_S_) = (0 : EReal) from by simp [val_main_cst_2_apply])).trans ?_
  rw [zero_add]
  refine (Finset.sum_congr rfl fun k _ => ?_).trans (pick (by decide) (x4 (ix1 0)) p hp fun k => x1 (ix3 k (j 0) (j 1)))
  rw [val_main_v14_apply, val_main_call1_v1_apply, val_main_v12_apply, val_main_v9_apply, val_main_v8_apply, val_main_v11_apply, word10,
    val_main_call1_v2_apply, val_main_call1_v0_apply, val_main_v13_apply]
  exact congrArg₂ (Scalar.select _) (congrArg x1 (eq_ix3 _)) (by simp [val_main_cst_1_apply])

theorem chips (j : S4096x2752.Idx) : val_main_v18 (F := Ideal) x2 j = (x2 (ix3 0 (j 0) (j 1)) + x2 (ix3 1 (j 0) (j 1)) + x2 (ix3 2 (j 0) (j 1)) : EReal) := by
  rw [val_main_v18_apply]
  refine (congrArg (· + _) (show val_main_cst_3 (F := Ideal) (Shape.Idx.first h_S_) = (0 : EReal) from by simp [val_main_cst_3_apply])).trans ?_
  rw [zero_add, Fin.sum_univ_three]
  exact congrArg₂ (fun a b : EReal => a + b) (congrArg₂ (fun a b : EReal => a + b) (congrArg x2 (eq_ix3 _)) (congrArg x2 (eq_ix3 _))) (congrArg x2 (eq_ix3 _))

theorem at_v20 (j : S4096x2752.Idx) : idx_main_v20 j = ix3 0 (j 0) (j 1) := by
  refine (eq_ix3 _).trans ?_
  have h0 : (j 0).val < 4096 := (j 0).isLt
  have h1 : (j 1).val < 2752 := (j 1).isLt
  congr 1 <;> apply Fin.ext <;> simp [idx_main_v20] <;> omega
theorem at_v21 (j : S4096x2752.Idx) : idx_main_v21 j = ix3 0 (j 0) (j 1) := by
  refine (eq_ix3 _).trans ?_
  have h0 : (j 0).val < 4096 := (j 0).isLt
  have h1 : (j 1).val < 2752 := (j 1).isLt
  congr 1 <;> apply Fin.ext <;> simp [idx_main_v21] <;> omega
theorem at_v22 (j : S4096x2752.Idx) : idx_main_v22 j = ix3 0 (j 0) (j 1) := by
  refine (eq_ix3 _).trans ?_
  have h0 : (j 0).val < 4096 := (j 0).isLt
  have h1 : (j 1).val < 2752 := (j 1).isLt
  congr 1 <;> apply Fin.ext <;> simp [idx_main_v22] <;> omega

include hd hp in
/-- The reference's gradient, running means and change. -/
theorem ref_g : val_main_v19 (F := Ideal) x0 x1 x2 x3 x4 = G x0 x1 x2 d p := by
  funext j
  rw [val_main_v19_apply, val_main_v16_apply, own x0 x3 d hd j, sibling x1 x4 p hp j, chips x2 j]
  exact ((add_assoc _ _ _).trans (congrArg (_ + ·) rfl)).trans (by unfold G gE; simp only [add_assoc])

include hd hp in
theorem ref_m : val_main_v27 (F := Ideal) x0 x1 x2 x3 x4 x6 = MM (G x0 x1 x2 d p) x6 := by
  funext j
  rw [val_main_v27_apply, val_main_v26_apply, ref_g x0 x1 x2 x3 x4 d hd p hp, val_main_v24_apply, val_main_v23_apply, val_main_v25_apply, val_main_v21_apply]
  exact congrArg₂ (fun a b : EReal => a + b) (congrArg (_ * ·) (congrArg x6 (at_v21 j))) rfl

include hd hp in
theorem ref_v : val_main_v33 (F := Ideal) x0 x1 x2 x3 x4 x7 = VV (G x0 x1 x2 d p) x7 := by
  funext j
  rw [val_main_v33_apply, val_main_v32_apply, val_main_v30_apply, ref_g x0 x1 x2 x3 x4 d hd p hp, val_main_v29_apply, val_main_v28_apply, val_main_v31_apply, val_main_v22_apply]
  exact congrArg₂ (fun a b : EReal => a + b) (congrArg (_ * ·) (congrArg x7 (at_v22 j))) rfl

include hd hp in
theorem ref_d : val_main_v46 (F := Ideal) x0 x1 x2 x3 x4 x5 x6 x7 = DD (G x0 x1 x2 d p) x5 x6 x7 := by
  funext j
  rw [val_main_v46_apply, val_main_v44_apply, val_main_v41_apply, val_main_v35_apply, val_main_v40_apply, val_main_v38_apply, val_main_v37_apply,
    ref_m x0 x1 x2 x3 x4 x6 d hd p hp, ref_v x0 x1 x2 x3 x4 x7 d hd p hp, val_main_v43_apply, val_main_v20_apply]
  exact congrArg (_ * ·) (congrArg₂ (fun a b : EReal => a + b) rfl (congrArg (_ * ·) (congrArg x5 (at_v20 j))))

end Cert.RAdamBIdeal.RefValue

namespace Cert.Proof
open Idealize.ShloMosaic Idealize.ShloMosaic.TcCoe Idealize.SL.Sem
open Cert.KAdamBIdeal.RefValue (G MM VV DD)

theorem algebraic_adamb : Cert.algebraic_KAdamBIdeal_RAdamBIdeal := by
  intro m g m' g' hpre hagree
  have hO := Cert.KAdamBIdeal.RefValue.ok_of_pre m hpre
  have hw := fun c => Cert.Placed.words _ _ _ _ _ _ _ _ (hpre c) (ix1 0)
  refine ⟨fun c => (G (m ((c.tc : Thread Cert.KAdamBIdeal.nD Cert.KAdamBIdeal.τ).loc Cert.KAdamBIdeal.main_arg0)) (m ((c.tc : Thread Cert.KAdamBIdeal.nD Cert.KAdamBIdeal.τ).loc Cert.KAdamBIdeal.main_arg1)) (m ((c.tc : Thread Cert.KAdamBIdeal.nD Cert.KAdamBIdeal.τ).loc Cert.KAdamBIdeal.main_arg2)) ⟨_, (hw c).1⟩ ⟨_, (hw c).2⟩),
    fun c => DD (G (m ((c.tc : Thread Cert.KAdamBIdeal.nD Cert.KAdamBIdeal.τ).loc Cert.KAdamBIdeal.main_arg0)) (m ((c.tc : Thread Cert.KAdamBIdeal.nD Cert.KAdamBIdeal.τ).loc Cert.KAdamBIdeal.main_arg1)) (m ((c.tc : Thread Cert.KAdamBIdeal.nD Cert.KAdamBIdeal.τ).loc Cert.KAdamBIdeal.main_arg2)) ⟨_, (hw c).1⟩ ⟨_, (hw c).2⟩) (m ((c.tc : Thread Cert.KAdamBIdeal.nD Cert.KAdamBIdeal.τ).loc Cert.KAdamBIdeal.main_arg5)) (m ((c.tc : Thread Cert.KAdamBIdeal.nD Cert.KAdamBIdeal.τ).loc Cert.KAdamBIdeal.main_arg6)) (m ((c.tc : Thread Cert.KAdamBIdeal.nD Cert.KAdamBIdeal.τ).loc Cert.KAdamBIdeal.main_arg7)),
    fun c => MM (G (m ((c.tc : Thread Cert.KAdamBIdeal.nD Cert.KAdamBIdeal.τ).loc Cert.KAdamBIdeal.main_arg0)) (m ((c.tc : Thread Cert.KAdamBIdeal.nD Cert.KAdamBIdeal.τ).loc Cert.KAdamBIdeal.main_arg1)) (m ((c.tc : Thread Cert.KAdamBIdeal.nD Cert.KAdamBIdeal.τ).loc Cert.KAdamBIdeal.main_arg2)) ⟨_, (hw c).1⟩ ⟨_, (hw c).2⟩) (m ((c.tc : Thread Cert.KAdamBIdeal.nD Cert.KAdamBIdeal.τ).loc Cert.KAdamBIdeal.main_arg6)),
    fun c => VV (G (m ((c.tc : Thread Cert.KAdamBIdeal.nD Cert.KAdamBIdeal.τ).loc Cert.KAdamBIdeal.main_arg0)) (m ((c.tc : Thread Cert.KAdamBIdeal.nD Cert.KAdamBIdeal.τ).loc Cert.KAdamBIdeal.main_arg1)) (m ((c.tc : Thread Cert.KAdamBIdeal.nD Cert.KAdamBIdeal.τ).loc Cert.KAdamBIdeal.main_arg2)) ⟨_, (hw c).1⟩ ⟨_, (hw c).2⟩) (m ((c.tc : Thread Cert.KAdamBIdeal.nD Cert.KAdamBIdeal.τ).loc Cert.KAdamBIdeal.main_arg7)), ?_, ?_⟩
  · refine (θ_run _ _ _).mono (fun r h c => ?_) (θ_run_and (Cert.KAdamBIdeal.Gen.run_main m g hO) (Cert.KAdamBIdeal.Gen.unchanged m g hO))
    obtain rfl : c = 0 := Subsingleton.elim (α := Fin 1) _ _
    have d0 : (Cert.KAdamBIdeal.Gen.tbl m 0 (ix1 0) : BitVec 32).toNat = ((⟨_, (hw 0).1⟩ : Fin 8) : Nat) := congrArg BitVec.toNat (congrFun (Cert.KAdamBIdeal.Gen.V_main_arg3 m 0) _)
    have p0 : (Cert.KAdamBIdeal.Gen.tbl m 1 (ix1 0) : BitVec 32).toNat = ((⟨_, (hw 0).2⟩ : Fin 4) : Nat) := congrArg BitVec.toNat (congrFun (Cert.KAdamBIdeal.Gen.V_main_arg4 m 0) _)
    exact ⟨((h.1 0).1 6).trans (Cert.KAdamBIdeal.RefValue.final6 m hO 0 _ d0 _ p0), ((h.1 0).1 7).trans (Cert.KAdamBIdeal.RefValue.final7 m hO 0 _ d0 _ p0),
      ((h.1 0).1 8).trans (Cert.KAdamBIdeal.RefValue.final8 m hO 0 _ d0 _ p0), ((h.1 0).1 9).trans (Cert.KAdamBIdeal.RefValue.final9 m hO 0 _ d0 _ p0), h.2 0⟩
  · refine (θ_run _ _ _).mono (fun r h c => ?_) (Cert.RAdamBIdeal.Value.run m' g')
    obtain ⟨e0, e1, e2, e3, e4, e5, e6, e7⟩ := hagree c
    obtain ⟨r0, r1, r2, r3, rest⟩ := h c
    refine ⟨r0.trans ?_, r1.trans ?_, r2.trans ?_, r3.trans ?_, rest⟩
    · refine (Cert.RAdamBIdeal.Read.val_main_v19_eq (F := Ideal) _ _ _ _ _).trans ?_
      rw [e0, e1, e2, e3, e4]
      exact Cert.RAdamBIdeal.RefValue.ref_g _ _ _ _ _ _ rfl _ rfl
    · refine (Cert.RAdamBIdeal.Read.val_main_v46_eq (F := Ideal) m' c).trans ?_
      rw [e0, e1, e2, e3, e4, e5, e6, e7]
      exact Cert.RAdamBIdeal.RefValue.ref_d _ _ _ _ _ _ _ _ _ rfl _ rfl
    · refine (Cert.RAdamBIdeal.Read.val_main_v27_eq (F := Ideal) _ _ _ _ _ _).trans ?_
      rw [e0, e1, e2, e3, e4, e6]
      exact Cert.RAdamBIdeal.RefValue.ref_m _ _ _ _ _ _ _ rfl _ rfl
    · refine (Cert.RAdamBIdeal.Read.val_main_v33_eq (F := Ideal) _ _ _ _ _ _).trans ?_
      rw [e0, e1, e2, e3, e4, e7]
      exact Cert.RAdamBIdeal.RefValue.ref_v _ _ _ _ _ _ _ rfl _ rfl
end Cert.Proof
end
-- ==== Proof.AddSibRun.lean ====
/- The run of `_add_sibling`, over any float values. The kernel is given three words, its place on the mesh; the blocks that it reads lie where the words say. Its body
   reads no word, so what is known of them passes it by. -/
module

public import proofs.«01_k».proof.Proof.Gen.KAddSibIdeal.Launch
public import proofs.«01_k».proof.Proof.Gen.KAddSibIdeal.Skeleton
public import proofs.«01_k».proof.Proof.Gen.KAddSibIdeal.Points
public import Idealize.ShloMosaic.Lib.Pipeline.FrameBody
public import Idealize.ShloMosaic.Lib.Pipeline.ValueKit
public import Idealize.ShloMosaic.Lib.VecWindow
public import Idealize.ShloMosaic.Lib.Tactic
public import Idealize.ShloMosaic.Lib.Claim

@[expose] public section

set_option maxRecDepth 16384

noncomputable section

namespace Cert.KAddSibIdeal.Placed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KAddSibIdeal.Gen

variable {F : FTy → Type} [FloatOps F]

/-- What the logic speaks of. -/
abbrev Assn (F : FTy → Type) : Type := sProp (MT nD τ sig Unit (Elt F) ℕ (UR sig nD τ) ℕ)
abbrev Staging : Type := Memref sig .tc .vmem S1x512x2752 .bf16
abbrev Word : Type := Memref sig .tc .smem S1 .i32

/-- The body on three whole buffers: the third ends with the sum of the other two, whatever the words' buffers are. -/
theorem body_sum (c : Dev nD) (i : grid0.Coords) {u v w : Word} (hu : u.IsWhole) (hv : v.IsWhole) (hw : w.IsWhole) {a b o : Staging} (ha : a.IsWhole) (hb : b.IsWhole)
    (ho : o.IsWhole) (x y : Vec F S1x512x2752 .bf16) (K : PUnit → Assn F) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ owns (c : Thread nD τ) o fullShare (k0_pay1 x y)) -∗ K ⟨⟩))
      ⊢ wp frame (wpE (defs₀ (F := F)) Variants.none c none) Set.univ (cc0_rs_add_ffn1_w_gu i u hu v hv w hw a ha b hb o ho) K := by
  rw [cc0_rs_add_ffn1_w_gu_eq_skeleton]
  unfold cc0_rs_add_ffn1_w_gu_skel owns
  iintro ⟨⟨%f, %hf, A⟩, ⟨%g, %hg, B⟩, ⟨%d, %k, -, O⟩, Q⟩
  obtain rfl := ha.eq_unread hf
  obtain rfl := hb.eq_unread hg
  sl_exec
  sl_step
  iapply Q
  isplitl [A]; · iexists _; isplitr [A]; (· ipureintro; exact ha.read_unread _); iexact A
  isplitl [B]; · iexists _; isplitr [B]; (· ipureintro; exact hb.read_unread _); iexact B
  iexists _
  isplitr [O]
  swap; · iexact O
  ipureintro
  have zero : (![0, 0, 0] : Fin 3 → ℕ) = fun _ => 0 := funext fun a => by fin_cases a <;> rfl
  refine (View.read_writes_full _ _ _ _ _).trans (congrArg₂ k0_pay1 ?_ ?_)
  · exact (congrArg (View.ld · _) hf).trans (View.ld_unit_zero zero _ x)
  · exact (congrArg (View.ld · _) hg).trans (View.ld_unit_zero zero _ y)

variable (m : (ℓ : Loc nD τ sig) → Buf (Elt F) ℓ) (ρ : Dev nD → PrngReg)

/-- The words, as the launch finds them. -/
def place : pre0.Contents (Elt F) := fun j => m (((0 : Dev nD) : Thread nD τ).loc (pre0.ref j))
/-- The blocks that the words name lie inside their arrays. -/
abbrev Fits : Prop := ok0 (place m)
variable (h : Fits m)
abbrev pinned : (pcfg0 (F := F)).Adm := ⟨place m, h⟩
abbrev conf : Pipeline.Cfg sig Λ₀ := cfg0 (pinned m h)

/-- Window `w`'s block of its array, at a point of the grid. -/
def block (c : Dev nD) (w : Fin 3) (t : Fin (conf m h).N) : (((conf m h).win w).xblock ((conf m h).grid.coords t)).Idx → Elt F ((conf m h).win w).elt :=
  (((conf m h).win w).blk t).view.read (Elt F) (m ((c : Thread nD τ).loc (Pipeline.arrRef spec0 w)))

/-- A point leaves the two input blocks as they are, and their sum in the output's. -/
def plan (_ : Fin 1) (c : Dev nD) : Pipeline.Dat τ (Elt F) Unit ℕ (UR sig nD τ) ℕ (conf m h) c where
  A w := m ((c : Thread nD τ).loc (Pipeline.arrRef spec0 w))
  after w t := match w with
    | ⟨0, _⟩ => block m h c 0 t
    | ⟨1, _⟩ => block m h c 1 t
    | ⟨2, _⟩ => k0_pay1 (F := F) (block m h c 0 t) (block m h c 1 t)
  Φ _ := iprop(Pipeline.ΦA spec0 c ∗ Pipeline.ΦT pre0 (place m) c)
  q _ := fullShare
  owed _ := 0

/-- What the body finds in an input's buffer is the input's block, fetched at this point or before. -/
theorem found (c : Dev nD) (t : Fin (conf m h).N) (w : Fin 3) (hw : w ≠ 2) (d) : (plan m h 0 c).before w t d = block m h c w t := by
  fin_cases w
  iterate 2
    exact ((plan m h 0 c).before_in_eq_fetched _ rfl (fun _ => rfl) (fun _ _ _ => rfl) (fun _ => rfl) t d).trans rfl
  exact absurd rfl hw

/-- The body at a point of the grid, on the point's buffers. -/
theorem point (c : Dev nD) (t : Fin (conf m h).N) :
    iprop((plan m h 0 c).Φ t.castSucc ∗ (plan m h 0 c).owesAt () t.castSucc
        ∗ (∃ d, owns (c : Thread nD τ) (st0_0 (pinned m h) t) fullShare ((plan m h 0 c).before 0 t d))
        ∗ (∃ d, owns (c : Thread nD τ) (st0_1 (pinned m h) t) fullShare ((plan m h 0 c).before 1 t d))
        ∗ (∃ d, owns (c : Thread nD τ) (st0_2 (pinned m h) t) fullShare ((plan m h 0 c).before 2 t d)))
      ⊢ wp frame (wpE (defs₀ (F := F)) Variants.none c none) Set.univ (bodyAt0 (pinned m h) t) fun _ =>
        iprop((plan m h 0 c).Φ t.castSucc ∗ (plan m h 0 c).owesAt () t.castSucc
          ∗ owns (c : Thread nD τ) (st0_0 (pinned m h) t) fullShare (block m h c 0 t)
          ∗ owns (c : Thread nD τ) (st0_1 (pinned m h) t) fullShare (block m h c 1 t)
          ∗ owns (c : Thread nD τ) (st0_2 (pinned m h) t) fullShare (k0_pay1 (F := F) (block m h c 0 t) (block m h c 1 t))) := by
  iintro ⟨I, W, ⟨%p, A⟩, ⟨%q, B⟩, ⟨%r, O⟩⟩
  rw [found m h c t 0 (by decide) p, found m h c t 1 (by decide) q]
  iapply (body_sum c (grid0.coords t) _ _ _ _ _ _ (block m h c 0 t) (block m h c 1 t) _)
  isplitl [A]; · iexact A
  isplitl [B]; · iexact B
  isplitl [O]; · iexists _; iexact O
  iintro ⟨A, B, O⟩
  isplitl [I]; · iexact I
  isplitl [W]; · iexact W
  isplitl [A]; · iexact A
  isplitl [B]; · iexact B
  iexact O

theorem row (t : Fin (conf m h).N) : defs₀ (F := F) .tc (conf m h).body ((conf m h).bodyArgs t ((conf m h).slots t)) = bodyAt0 (pinned m h) t := by
  unfold defs₀; rw [Defs.onTc_tc]

theorem every_point (c : Dev nD) : Pipeline.BodyObligation (plan m h 0 c) (defs₀ (F := F)) Variants.none () Set.univ := fun t => by
  rw [bigSep_W0, bigSep_W0, row m h]
  exact triple_restated (point m h c t) rfl .rfl fun _ => .rfl

set_option maxHeartbeats 800000 in
set_option backward.isDefEq.respectTransparency.types false in
/-- The launch: the output's array ends with what the points left, every other as it was, and no semaphore is raised. -/
theorem launched : θ_run defs (onTc (τ := τ) (main (F := F))) (s₀ m ρ) fun r =>
    Pipeline.FramePost (Pipeline.pin pcfgs fun _ => pinned m h) (plan m h) 0 (fun c b => m ((c : Thread nD τ).loc b)) r ∧ r.2.sem = fun _ => 0 :=
  Pipeline.θ_run_frameP (Q' := _) pcfgs (fun _ => pinned m h) (plan m h) (0 : Fin 1) launch0 defs₀ Variants.none m ρ main
    (hbody := fun c => (every_point m h c).loose) (hshare := fun c => (plan m h 0 c).share_full fun _ => rfl) (howed := fun _ _ => rfl)
    (V := fun c b => m ((c : Thread nD τ).loc b)) (hmain := Pipeline.hmainP_region pcfgs 0 defs₀ Variants.none m main fun c => (main_chain c).trans rfl)
    (hA := fun _ _ => rfl) (hpf := fun c j => by obtain rfl : c = 0 := Subsingleton.elim _ _; rfl) (hΦ := fun _ _ => rfl)

/-- Device `c`'s arguments are in `m'` what they are in `m`. -/
abbrev Kept (m' : (ℓ : Loc nD τ sig) → Buf (Elt F) ℓ) (c : Dev nD) : Prop :=
  m' ((c.tc : Thread nD τ).loc main_arg0) = m ((c.tc : Thread nD τ).loc main_arg0) ∧ m' ((c.tc : Thread nD τ).loc main_arg1) = m ((c.tc : Thread nD τ).loc main_arg1)
    ∧ m' ((c.tc : Thread nD τ).loc main_arg2) = m ((c.tc : Thread nD τ).loc main_arg2) ∧ m' ((c.tc : Thread nD τ).loc main_arg3) = m ((c.tc : Thread nD τ).loc main_arg3)
    ∧ m' ((c.tc : Thread nD τ).loc main_arg4) = m ((c.tc : Thread nD τ).loc main_arg4)

/-- The same, read: the output's array, the arguments, the semaphores. -/
theorem ends : θ_run defs (onTc (τ := τ) (main (F := F))) ⟨m, fun _ => 0, ρ⟩ fun r =>
    (∀ c : Dev nD, r.2.mem ((c.tc : Thread nD τ).loc (Pipeline.arrRef spec0 2)) = (plan m h 0 c).arrAt 2 (conf m h).N ∧ Kept m r.2.mem c) ∧ r.2.sem = fun _ => 0 :=
  (θ_run defs _ _).mono (fun r e => ⟨fun c => by
    have input : ∀ w : Fin 3, w ≠ 2 → r.2.mem ((c.tc : Thread nD τ).loc (Pipeline.arrRef spec0 w)) = m ((c.tc : Thread nD τ).loc (Pipeline.arrRef spec0 w)) := fun w hw =>
      ((e.1 c).1 w).trans ((plan m h 0 c).arrAt_in w (by fin_cases w <;> first | rfl | exact absurd rfl hw) _)
    have other : ∀ b, b ∈ Pipeline.restRefs sig spec0 → r.2.mem ((c.tc : Thread nD τ).loc b) = m ((c.tc : Thread nD τ).loc b) := (e.1 c).2
    exact ⟨(e.1 c).1 2, input 0 (by decide), input 1 (by decide), other main_arg2 (by decide), other main_arg3 (by decide), other main_arg4 (by decide)⟩, e.2⟩)
    (launched m ρ h)

include h in
/-- The frame: the program runs, its arguments end unchanged, no semaphore is left raised. -/
theorem frame : θ_run defs (onTc (τ := τ) (main (F := F))) ⟨m, fun _ => 0, ρ⟩ fun r => (∀ c : Dev nD, Kept m r.2.mem c) ∧ r.2.sem = fun _ => 0 :=
  (θ_run defs _ _).mono (fun _ e => ⟨fun c => (e.1 c).2, e.2⟩) (ends m ρ h)

end Cert.KAddSibIdeal.Placed
end
-- ==== Proof.AddSib.lean ====
/- A device's part of a gradient and its sibling's, summed for the three other chips (`_add_sibling`): the kernel reads the
   blocks at the places that its own place on the mesh gives. -/
module

public import proofs.«01_k».proof.Defs
public import proofs.«01_k».proof.Proof.Gen.KAddSib
public import proofs.«01_k».proof.Proof.Gen.KAddSibIdeal
public import proofs.«01_k».proof.Proof.AddSibRun
public import proofs.«01_k».proof.Proof.Gen.RAddSibIdeal
public import proofs.«01_k».proof.Proof.Gen.RAddSibIdeal.Run
public import proofs.«01_k».proof.Proof.Gen.RAddSibIdeal.Read
public import proofs.«01_k».proof.Proof.Gen.Pre_on_mesh
public import Idealize.ShloMosaic.Lib.StableHlo.Predicate
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.OnMesh
open Idealize.ShloMosaic Cert.Pre_on_mesh

theorem one (x y : S1.Idx) : x = y := by
  funext a
  fin_cases a
  exact Subsingleton.elim (α := Fin 1) _ _

/-- The precondition says of the place what it should: each of its three coordinates is 0 or 1. -/
theorem words {F : FTy → Type} [FloatOps F] (a0 : FVec F S8x4096x2752 .bf16) (a1 : FVec F S4x4096x2752 .bf16)
    (x y c : IVec S1 32) (h : Cert.Pre_on_mesh.fn a0 a1 x y c = fun _ => 1#1) (i : S1.Idx) :
    (x i).toNat < 2 ∧ (y i).toNat < 2 ∧ (c i).toNat < 2 := by
  have e := congrFun h (fun a => a.elim0)
  have hs : ∀ (x : IVec S1 32) (j : S_.Idx), shapeCast S_ x Cert.Pre_on_mesh.Facts.shapeCasts_S1_S_ j = x i := fun x j => congrArg x (one _ _)
  simp only [Cert.Pre_on_mesh.fn, constantI, cmpi, andi, hs] at e
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at e
  have h0 : (0#32 : BitVec 32).toInt = 0 := by decide
  have h2 : (2#32 : BitVec 32).toInt = 2 := by decide
  have t1 := BitVec.toInt_eq_toNat_cond (x i)
  have t2 := BitVec.toInt_eq_toNat_cond (y i)
  have t3 := BitVec.toInt_eq_toNat_cond (c i)
  have l1 := (x i).isLt
  have l2 := (y i).isLt
  have l3 := (c i).isLt
  split at t1 <;> split at t2 <;> split at t3 <;> omega

/-- The number of the `k`-th other chip seen from chip `(x, y)`, and of the core `c` there among the devices. -/
def chipW (k : Fin 3) (x y : BitVec 32) : BitVec 32 :=
  ![2#32 * (1#32 - x) + y, 2#32 * x + (1#32 - y), 2#32 * (1#32 - x) + (1#32 - y)] k
def devW (k : Fin 3) (x y c : BitVec 32) : BitVec 32 := 2#32 * chipW k x y + c

theorem bit {x : BitVec 32} (h : x.toNat < 2) : x = 0#32 ∨ x = 1#32 := by
  rcases Nat.lt_succ_iff_lt_or_eq.mp h with h | h
  · exact Or.inl (BitVec.eq_of_toNat_eq (show x.toNat = 0 by omega))
  · exact Or.inr (BitVec.eq_of_toNat_eq h)

theorem chip_lt (k : Fin 3) {x y : BitVec 32} (hx : x.toNat < 2) (hy : y.toNat < 2) : (chipW k x y).toNat < 4 := by
  rcases bit hx with rfl | rfl <;> rcases bit hy with rfl | rfl <;> revert k <;> decide

theorem dev_lt (k : Fin 3) {x y c : BitVec 32} (hx : x.toNat < 2) (hy : y.toNat < 2) (hc : c.toNat < 2) : (devW k x y c).toNat < 8 := by
  rcases bit hx with rfl | rfl <;> rcases bit hy with rfl | rfl <;> rcases bit hc with rfl | rfl <;> revert k <;> decide

/-- The kernel's way to those numbers: it flips the coordinates that differ. -/
theorem chip_of (k : Fin 3) {a a' b b' x y : BitVec 32} (ha : a = x) (ha' : a' = x) (hb : b = y) (hb' : b' = y) :
    Scalar.addi (Scalar.muli 2#32 (Scalar.select (Scalar.cmpi .eq (BitVec.ofNat 32 k.val) 1#32) a (Scalar.subi 1#32 a')))
      (Scalar.select (Scalar.cmpi .eq (BitVec.ofNat 32 k.val) 0#32) b (Scalar.subi 1#32 b')) = chipW k x y := by
  subst ha ha' hb hb'
  fin_cases k <;> rfl
theorem dev_of (k : Fin 3) {a a' b b' c x y z : BitVec 32} (ha : a = x) (ha' : a' = x) (hb : b = y) (hb' : b' = y) (hc : c = z) :
    Scalar.addi (Scalar.muli 2#32 (Scalar.addi (Scalar.muli 2#32 (Scalar.select (Scalar.cmpi .eq (BitVec.ofNat 32 k.val) 1#32) a (Scalar.subi 1#32 a')))
      (Scalar.select (Scalar.cmpi .eq (BitVec.ofNat 32 k.val) 0#32) b (Scalar.subi 1#32 b')))) c = devW k x y z := by
  rw [chip_of k ha ha' hb hb', hc]; rfl

theorem fits0 : ∀ (k : Fin 8) (t : Fin 8), ∃ h : (∀ a, ((![k.val, t.val, 0] : Fin 3 → Nat) a + 1) * Cert.KAddSibIdeal.S1x512x2752.size a ≤ S8x4096x2752.size a),
    EltTy.bits .bf16 = 32 ∨ (Rect.block (s := S8x4096x2752) Cert.KAddSibIdeal.S1x512x2752.size ![k.val, t.val, 0] h).WholeWords (EltTy.packing .bf16) := by decide +kernel

theorem fits1 : ∀ (k : Fin 4) (t : Fin 8), ∃ h : (∀ a, ((![k.val, t.val, 0] : Fin 3 → Nat) a + 1) * Cert.KAddSibIdeal.S1x512x2752.size a ≤ S4x4096x2752.size a),
    EltTy.bits .bf16 = 32 ∨ (Rect.block (s := S4x4096x2752) Cert.KAddSibIdeal.S1x512x2752.size ![k.val, t.val, 0] h).WholeWords (EltTy.packing .bf16) := by decide +kernel
end Cert.OnMesh

namespace Cert.KAddSibIdeal.RefValue
open Cert.KAddSibIdeal Cert.KAddSibIdeal.Gen Cert.KAddSibIdeal.Placed Cert.OnMesh Idealize.ShloMosaic Idealize.ShloMosaic.TcCoe Idealize.SL.Sem
open Idealize.ShloMosaic.Pipeline (Dat)

variable {F : FTy → Type} [FloatOps F] (m : (ℓ : Loc nD τ sig) → Buf (Elt Ideal) ℓ)

/-- The blocks' places: of the device's own part and of its sibling's, on the other chip that the step is for. -/
theorem place0 (pf : pre0.Contents (Elt F)) (i : grid0.Coords) (j : S1.Idx) : cc0_transform_0 Facts₀.inb_S1_S1_0 Facts₀.numel1_S1 pf i
    = ![(devW (i 0) (pf 0 j) (pf 1 j) (pf 2 j)).toNat, (i 1).val, 0] := by
  have hi : (i 1).val < 8 := (i 1).isLt
  have h0 : ∀ y : S1.Idx, (pf 0 y : BitVec 32) = pf 0 j := fun y => congrArg (pf 0) (one y j)
  have h1 : ∀ y : S1.Idx, (pf 1 y : BitVec 32) = pf 1 j := fun y => congrArg (pf 1) (one y j)
  have h2 : ∀ y : S1.Idx, (pf 2 y : BitVec 32) = pf 2 j := fun y => congrArg (pf 2) (one y j)
  unfold cc0_transform_0
  simp only [Pipeline.Prefetch.Contents.at]
  refine congrArg₂ (fun a b => (![a, b, 0] : Fin 3 → Nat)) (congrArg BitVec.toNat (dev_of (i 0) (h0 _) (h0 _) (h1 _) (h1 _) (h2 _))) ?_
  rw [BitVec.toNat_ofNat]; omega

theorem place1 (pf : pre0.Contents (Elt F)) (i : grid0.Coords) (j : S1.Idx) : cc0_transform_1 Facts₀.inb_S1_S1_0 Facts₀.numel1_S1 pf i
    = ![(chipW (i 0) (pf 0 j) (pf 1 j)).toNat, (i 1).val, 0] := by
  have hi : (i 1).val < 8 := (i 1).isLt
  have h0 : ∀ y : S1.Idx, (pf 0 y : BitVec 32) = pf 0 j := fun y => congrArg (pf 0) (one y j)
  have h1 : ∀ y : S1.Idx, (pf 1 y : BitVec 32) = pf 1 j := fun y => congrArg (pf 1) (one y j)
  unfold cc0_transform_1
  simp only [Pipeline.Prefetch.Contents.at]
  refine congrArg₂ (fun a b => (![a, b, 0] : Fin 3 → Nat)) (congrArg BitVec.toNat (chip_of (i 0) (h0 _) (h0 _) (h1 _) (h1 _))) ?_
  rw [BitVec.toNat_ofNat]; omega

theorem ok_of_words (pf : pre0.Contents (Elt F)) (j : S1.Idx) (h : (pf 0 j : BitVec 32).toNat < 2 ∧ (pf 1 j : BitVec 32).toNat < 2 ∧ (pf 2 j : BitVec 32).toNat < 2) : ok0 pf := by
  unfold ok0
  refine ⟨fun i => ?_, fun i => ?_⟩
  · rw [place0 pf i j]
    exact fits0 ⟨_, dev_lt (i 0) h.1 h.2.1 h.2.2⟩ (i 1)
  · rw [place1 pf i j]
    exact fits1 ⟨_, chip_lt (i 0) h.1 h.2.1⟩ (i 1)

theorem ok_of_pre (h : Cert.Pre_KAddSibIdeal m) : Fits m := ok_of_words (place m) (ix1 0) (words _ _ _ _ _ (h 0) (ix1 0))

/-- The sums for the other chips: an entry of the device's own part at the place `d k` and of its sibling's at `p k`. -/
def G (X0 : FVec Ideal S8x4096x2752 .bf16) (X1 : FVec Ideal S4x4096x2752 .bf16) (d : Fin 3 → Fin 8) (p : Fin 3 → Fin 4) : FVec Ideal S3x4096x2752 .bf16 := fun j =>
  (X0 (ix3 (d (j 0)) (j 1) (j 2)) + X1 (ix3 (p (j 0)) (j 1) (j 2)) : EReal)

theorem pay (v0 v3 : FVec Ideal S1x512x2752 .bf16) (r : Fin 512) (l : Fin 2752) : k0_pay1 (F := Ideal) v0 v3 (ix3 0 r l)
    = (v0 (ix3 0 r l) + v3 (ix3 0 r l) : EReal) := by
  pointwise [k0_pay1]

variable (hO : Fits m)

/-- The row of the array that row `r` of block `s` is. -/
def grow (s : Fin 8) (r : Fin 512) : Fin 4096 := ⟨s.val * 512 + r.val, by omega⟩

theorem pos2 : ∀ t : Fin grid0.N, cc0_transform_2 (grid0.coords t) = ![(grid0.coords t 0).val, (grid0.coords t 1).val, 0] := by decide +kernel
theorem at2 : ∀ (a : Fin 3) (b : Fin 8), cc0_transform_2 (grid0.coords ⟨a.val * 8 + b.val, lt_of_lt_of_eq (by omega) N_0.symm⟩) = ![a.val, b.val, 0] := by decide +kernel

theorem part_val {n : Nat} (q : Fin n) (s : Fin 8) (r : Fin 512) (l : Fin 2752) (f : Fin 3 → Nat) (e : f = ![q.val, s.val, 0]) (a : Fin 3) :
    f a * S1x512x2752.size a + 1 * (ix3 (0 : Fin 1) r l a).val = (ix3 q (grow s r) l a).val := by
  rw [e]
  fin_cases a
  · show q.val * 1 + 1 * 0 = q.val; omega
  · show s.val * 512 + 1 * r.val = s.val * 512 + r.val; omega
  · show 0 * 2752 + 1 * l.val = l.val; omega

theorem emb2 (t : Fin (conf m hO).N) (r : Fin 512) (l : Fin 2752) : (((conf m hO).win 2).blk t).view.emb (ix3 0 r l) = ix3 (grid0.coords t 0) (grow (grid0.coords t 1) r) l :=
  funext fun a => Fin.ext (part_val (grid0.coords t 0) (grid0.coords t 1) r l _ (pos2 t) a)

section places
variable (d : Fin 3 → Fin 8) (hd : ∀ k, (devW k (place m 0 (ix1 0)) (place m 1 (ix1 0)) (place m 2 (ix1 0))).toNat = (d k).val)
variable (p : Fin 3 → Fin 4) (hp : ∀ k, (chipW k (place m 0 (ix1 0)) (place m 1 (ix1 0))).toNat = (p k).val)

include hd in
theorem emb0 (t : Fin (conf m hO).N) (r : Fin 512) (l : Fin 2752) : (((conf m hO).win 0).blk t).view.emb (ix3 0 r l) = ix3 (d (grid0.coords t 0)) (grow (grid0.coords t 1) r) l :=
  funext fun a => Fin.ext (part_val (d (grid0.coords t 0)) (grid0.coords t 1) r l _ ((place0 (place m) (grid0.coords t) (ix1 0)).trans (congrArg (fun n : Nat => (![n, (grid0.coords t 1).val, 0] : Fin 3 → Nat)) (hd (grid0.coords t 0)))) a)
include hp in
theorem emb1 (t : Fin (conf m hO).N) (r : Fin 512) (l : Fin 2752) : (((conf m hO).win 1).blk t).view.emb (ix3 0 r l) = ix3 (p (grid0.coords t 0)) (grow (grid0.coords t 1) r) l :=
  funext fun a => Fin.ext (part_val (p (grid0.coords t 0)) (grid0.coords t 1) r l _ ((place1 (place m) (grid0.coords t) (ix1 0)).trans (congrArg (fun n : Nat => (![n, (grid0.coords t 1).val, 0] : Fin 3 → Nat)) (hp (grid0.coords t 0)))) a)

include hd in
theorem blk0 (c : Dev nD) (t : Fin (conf m hO).N) (r : Fin 512) (l : Fin 2752) : block m hO c 0 t (ix3 0 r l)
    = m ((c : Thread nD τ).loc main_arg0) (ix3 (d (grid0.coords t 0)) (grow (grid0.coords t 1) r) l) := by
  blk_simp [block]
  exact congrArg (m ((c : Thread nD τ).loc main_arg0)) (emb0 m hO d hd t r l)
include hp in
theorem blk1 (c : Dev nD) (t : Fin (conf m hO).N) (r : Fin 512) (l : Fin 2752) : block m hO c 1 t (ix3 0 r l)
    = m ((c : Thread nD τ).loc main_arg1) (ix3 (p (grid0.coords t 0)) (grow (grid0.coords t 1) r) l) := by
  blk_simp [block]
  exact congrArg (m ((c : Thread nD τ).loc main_arg1)) (emb1 m hO p hp t r l)

/-- The output's blocks tile its array. -/
theorem cov2 : ((conf m hO).win 2).Covers := by
  refine ⟨(show ∀ a : Fin 3, 0 < S1x512x2752.size a from by decide), fun β => ?_⟩
  have h0 : (β (0 : Fin 3)).val < 3 := lt_of_lt_of_eq (β (0 : Fin 3)).isLt (show (3 + 1 - 1) / 1 = 3 by decide)
  have h1 : (β (1 : Fin 3)).val < 8 := lt_of_lt_of_eq (β (1 : Fin 3)).isLt (show (4096 + 512 - 1) / 512 = 8 by decide)
  have h2 : (β (2 : Fin 3)).val < 1 := lt_of_lt_of_eq (β (2 : Fin 3)).isLt (show (2752 + 2752 - 1) / 2752 = 1 by decide)
  refine ⟨⟨(β (0 : Fin 3)).val * 8 + (β (1 : Fin 3)).val, lt_of_lt_of_eq (by omega) N_0.symm⟩, flush0_2 (pinned m hO) _, fun a => ⟨?_, Or.inl ?_⟩⟩
  · refine (congrFun (at2 ⟨_, h0⟩ ⟨_, h1⟩) a).trans ?_
    fin_cases a
    · rfl
    · rfl
    · show 0 = (β (2 : Fin 3)).val; omega
  · rfl

-- What the kernel leaves: the sums at the places of the three other chips.
variable (c : Dev nD)
include hd hp
theorem key2 (t : Fin (conf m hO).N) (r : Fin 512) (l : Fin 2752) : k0_pay1 (F := Ideal) (block m hO c 0 t) (block m hO c 1 t) (ix3 0 r l)
    = (G (m ((c : Thread nD τ).loc main_arg0)) (m ((c : Thread nD τ).loc main_arg1)) d p) (ix3 (grid0.coords t 0) (grow (grid0.coords t 1) r) l) :=
  (pay _ _ r l).trans (congrArg₂ (fun a b : EReal => a + b) (blk0 m hO d hd c t r l) (blk1 m hO p hp c t r l))
theorem final2 : (plan m hO 0 c).arrAt 2 (conf m hO).N = G (m ((c : Thread nD τ).loc main_arg0)) (m ((c : Thread nD τ).loc main_arg1)) d p := by
  refine (plan m hO 0 c).arrAt_eq_of_covers 2 _ (cov2 m hO) fun t _ => ?_
  have key : ∀ y : S1x512x2752.Idx, k0_pay1 (F := Ideal) (block m hO c 0 t) (block m hO c 1 t) y = (G (m ((c : Thread nD τ).loc main_arg0)) (m ((c : Thread nD τ).loc main_arg1)) d p) ((((conf m hO).win 2).blk t).view.emb y) := by
    intro y
    obtain ⟨r, l, rfl⟩ : ∃ (r : Fin 512) (l : Fin 2752), y = ix3 0 r l := by
      refine ⟨y 1, y 2, (eq_ix3 y).trans ?_⟩
      exact congrArg (fun z : Fin 1 => (ix3 z (y 1) (y 2) : S1x512x2752.Idx)) (Subsingleton.elim (α := Fin 1) _ _)
    exact (key2 m hO d hd p hp c t r l).trans (congrArg (G (m ((c : Thread nD τ).loc main_arg0)) (m ((c : Thread nD τ).loc main_arg1)) d p) (emb2 m hO t r l)).symm
  exact key
end places

end Cert.KAddSibIdeal.RefValue

namespace Cert.RAddSibIdeal.RefValue
open Cert.RAddSibIdeal Cert.RAddSibIdeal.Gen Cert.RAddSibIdeal.Read Cert.OnMesh Idealize.ShloMosaic Idealize.ShloMosaic.TcCoe Idealize.SL.Sem
open Cert.KAddSibIdeal.RefValue (G)

/-- A sum that keeps the one block at a place is the entry of that block. -/
theorem pick {n : Nat} (hn : n ≤ 8) (w : BitVec 32) (d : Fin n) (hd : w.toNat = d.val) (f : Fin n → EReal) :
    (∑ k : Fin n, (Scalar.select (IntOp.cmpi .eq (BitVec.ofNat 32 k.val) w) (f k) (0 : EReal) : EReal)) = f d := by
  rw [Finset.sum_eq_single d]
  · have : BitVec.ofNat 32 d.val = w := by
      apply BitVec.eq_of_toNat_eq
      rw [BitVec.toNat_ofNat, hd]
      omega
    rw [this]
    simp [Scalar.select, IntOp.cmpi]
  · intro k _ hk
    have : BitVec.ofNat 32 k.val ≠ w := by
      intro h
      apply hk
      apply Fin.ext
      have e := congrArg BitVec.toNat h
      rw [BitVec.toNat_ofNat, hd] at e
      omega
    simp [Scalar.select, IntOp.cmpi, beq_eq_false_iff_ne.mpr this]
  · intro h; exact absurd (Finset.mem_univ _) h

variable (x0 : FVec Ideal S8x4096x2752 .bf16) (x1 : FVec Ideal S4x4096x2752 .bf16) (x2 x3 x4 : IVec S1 32)
variable (d : Fin 3 → Fin 8) (hd : ∀ k, (devW k (x2 (ix1 0)) (x3 (ix1 0)) (x4 (ix1 0))).toNat = (d k).val)
variable (p : Fin 3 → Fin 4) (hp : ∀ k, (chipW k (x2 (ix1 0)) (x3 (ix1 0))).toNat = (p k).val)

theorem cast_word (x : IVec S1 32) (i : S_.Idx) : shapeCast S_ x shapeCasts_S1_S_ i = x (ix1 0) := congrArg x (one _ _)
theorem word0 (i : S_.Idx) : val_main_v0 (F := Ideal) x2 i = x2 (ix1 0) := cast_word x2 i
theorem word3 (i : S_.Idx) : val_main_v3 (F := Ideal) x3 i = x3 (ix1 0) := cast_word x3 i
theorem word5 (i : S_.Idx) : val_main_v5 (F := Ideal) x2 i = x2 (ix1 0) := cast_word x2 i
theorem word7 (i : S_.Idx) : val_main_v7 (F := Ideal) x3 i = x3 (ix1 0) := cast_word x3 i
theorem word10 (i : S_.Idx) : val_main_v10 (F := Ideal) x2 i = x2 (ix1 0) := cast_word x2 i
theorem word13 (i : S_.Idx) : val_main_v13 (F := Ideal) x3 i = x3 (ix1 0) := cast_word x3 i
theorem word25 (i : S_.Idx) : val_main_v25 (F := Ideal) x4 i = x4 (ix1 0) := cast_word x4 i

theorem chipA (i : S1.Idx) : val_main_v16 (F := Ideal) x2 x3 i = chipW 0 (x2 (ix1 0)) (x3 (ix1 0)) := by
  rw [val_main_v16_apply, val_main_v4_apply, val_main_v2_apply, val_main_v1_apply, word0, word3]; rfl
theorem chipB (i : S1.Idx) : val_main_v17 (F := Ideal) x2 x3 i = chipW 1 (x2 (ix1 0)) (x3 (ix1 0)) := by
  rw [val_main_v17_apply, val_main_v9_apply, val_main_v6_apply, val_main_v8_apply, word5, word7]; rfl
theorem chipC (i : S1.Idx) : val_main_v18 (F := Ideal) x2 x3 i = chipW 2 (x2 (ix1 0)) (x3 (ix1 0)) := by
  rw [val_main_v18_apply, val_main_v15_apply, val_main_v12_apply, val_main_v11_apply, val_main_v14_apply, word10, word13]; rfl

/-- The three chips, one after the other. -/
theorem chips (k : Fin 3) : val_main_v19 (F := Ideal) x2 x3 (ix1 k) = chipW k (x2 (ix1 0)) (x3 (ix1 0)) := by
  fin_cases k
  · exact (by unfold val_main_v19; rfl : val_main_v19 (F := Ideal) x2 x3 (ix1 0) = val_main_v16 (F := Ideal) x2 x3 (ix1 0)).trans (chipA x2 x3 _)
  · exact (by unfold val_main_v19; rfl : val_main_v19 (F := Ideal) x2 x3 (ix1 1) = val_main_v17 (F := Ideal) x2 x3 (ix1 0)).trans (chipB x2 x3 _)
  · exact (by unfold val_main_v19; rfl : val_main_v19 (F := Ideal) x2 x3 (ix1 2) = val_main_v18 (F := Ideal) x2 x3 (ix1 0)).trans (chipC x2 x3 _)

theorem chip_at (i : S3x1x1x1.Idx) : val_main_v20 (F := Ideal) x2 x3 i = chipW (i 0) (x2 (ix1 0)) (x3 (ix1 0)) := by
  rw [val_main_v20_apply]
  exact (congrArg (val_main_v19 (F := Ideal) x2 x3) (eq_ix1 _)).trans (chips x2 x3 (i 0))
theorem dev_at (i : S3x1x1x1.Idx) : val_main_v27 (F := Ideal) x2 x3 x4 i = devW (i 0) (x2 (ix1 0)) (x3 (ix1 0)) (x4 (ix1 0)) := by
  rw [val_main_v27_apply, val_main_v24_apply, chip_at, val_main_v26_apply, word25, val_main_v23_apply]; rfl

include hd in
theorem own (j : S3x4096x2752.Idx) : val_main_v34 (F := Ideal) x0 x2 x3 x4 j = (x0 (ix3 (d (j 0)) (j 1) (j 2)) : EReal) := by
  rw [val_main_v34_apply]
  refine (congrArg (· + _) (show val_main_cst_7 (F := Ideal) (Shape.Idx.first h_S_) = (0 : EReal) from by simp [val_main_cst_7_apply])).trans ?_
  rw [zero_add]
  refine (Finset.sum_congr rfl fun k _ => ?_).trans (pick (le_refl 8) (devW (j 0) (x2 (ix1 0)) (x3 (ix1 0)) (x4 (ix1 0))) (d (j 0)) (hd (j 0)) fun k => x0 (ix3 k (j 1) (j 2)))
  rw [val_main_v33_apply, val_main_call0_v1_apply, val_main_v30_apply, val_main_v28_apply, val_main_v22_apply, val_main_v21_apply, val_main_v29_apply, dev_at,
    val_main_call0_v2_apply, val_main_v32_apply, val_main_v31_apply, val_main_call0_v3_apply, val_main_call0_v0_apply]
  exact congrArg₂ (Scalar.select _) (congrArg x0 (eq_ix3 _)) (by simp [val_main_cst_apply])

include hp in
theorem sibling (j : S3x4096x2752.Idx) : val_main_v43 (F := Ideal) x1 x2 x3 j = (x1 (ix3 (p (j 0)) (j 1) (j 2)) : EReal) := by
  rw [val_main_v43_apply]
  refine (congrArg (· + _) (show val_main_cst_9 (F := Ideal) (Shape.Idx.first h_S_) = (0 : EReal) from by simp [val_main_cst_9_apply])).trans ?_
  rw [zero_add]
  refine (Finset.sum_congr rfl fun k _ => ?_).trans (pick (by decide) (chipW (j 0) (x2 (ix1 0)) (x3 (ix1 0))) (p (j 0)) (hp (j 0)) fun k => x1 (ix3 k (j 1) (j 2)))
  rw [val_main_v42_apply, val_main_call1_v1_apply, val_main_v39_apply, val_main_v37_apply, val_main_v36_apply, val_main_v35_apply, val_main_v38_apply, chip_at,
    val_main_call1_v2_apply, val_main_v41_apply, val_main_v40_apply, val_main_call1_v3_apply, val_main_call1_v0_apply]
  exact congrArg₂ (Scalar.select _) (congrArg x1 (eq_ix3 _)) (by simp [val_main_cst_8_apply])

include hd hp in
/-- The reference's sums. -/
theorem ref_g : val_main_v45 (F := Ideal) x0 x1 x2 x3 x4 = G x0 x1 d p := by
  funext j
  rw [val_main_v45_apply, val_main_v44_apply, own x0 x2 x3 x4 d hd j, sibling x1 x2 x3 p hp j]
  rfl

end Cert.RAddSibIdeal.RefValue

namespace Cert.Proof
open Idealize.ShloMosaic Idealize.ShloMosaic.TcCoe Idealize.SL.Sem
open Cert.KAddSibIdeal.RefValue (G)
open Cert.OnMesh (words dev_lt chip_lt)

/-- The two programs have one text: one run serves both frames. -/
theorem frame_addsib : Cert.quiescent_KAddSib := fun m ρ h => by
  have hO : Cert.KAddSibIdeal.Placed.Fits (F := Bits) m := Cert.KAddSibIdeal.RefValue.ok_of_words (Cert.KAddSibIdeal.Placed.place (F := Bits) m) (ix1 0) (words _ _ _ _ _ (h 0) (ix1 0))
  have e := Cert.KAddSibIdeal.Placed.frame (F := Bits) m ρ hO
  have hd : Cert.KAddSib.defs (F := Bits) = Cert.KAddSibIdeal.defs (F := Bits) := by sl_kernel_rfl
  have hm : Cert.KAddSib.main (F := Bits) = Cert.KAddSibIdeal.main (F := Bits) := by sl_kernel_rfl
  rw [hd, hm]
  exact e
theorem frame_addsib_ideal : Cert.quiescent_KAddSibIdeal := fun m ρ h => Cert.KAddSibIdeal.Placed.frame m ρ (Cert.KAddSibIdeal.RefValue.ok_of_pre m h)

theorem algebraic_addsib : Cert.algebraic_KAddSibIdeal_RAddSibIdeal := by
  intro m g m' g' hpre hagree
  have hO := Cert.KAddSibIdeal.RefValue.ok_of_pre m hpre
  have hw := fun c => words _ _ _ _ _ (hpre c) (ix1 0)
  refine ⟨fun c => G (m ((c.tc : Thread Cert.KAddSibIdeal.nD Cert.KAddSibIdeal.τ).loc Cert.KAddSibIdeal.main_arg0)) (m ((c.tc : Thread Cert.KAddSibIdeal.nD Cert.KAddSibIdeal.τ).loc Cert.KAddSibIdeal.main_arg1))
    (fun k => ⟨_, dev_lt k (hw c).1 (hw c).2.1 (hw c).2.2⟩) (fun k => ⟨_, chip_lt k (hw c).1 (hw c).2.1⟩), ?_, ?_⟩
  · refine (θ_run _ _ _).mono (fun r h c => ?_) (Cert.KAddSibIdeal.Placed.ends m g hO)
    obtain rfl : c = 0 := Subsingleton.elim (α := Fin 1) _ _
    exact ⟨(h.1 0).1.trans (Cert.KAddSibIdeal.RefValue.final2 m hO _ (fun _ => rfl) _ (fun _ => rfl) 0), (h.1 0).2⟩
  · refine (θ_run _ _ _).mono (fun r h c => ?_) (Cert.RAddSibIdeal.Value.run m' g')
    obtain ⟨e0, e1, e2, e3, e4⟩ := hagree c
    obtain ⟨r0, rest⟩ := h c
    refine ⟨r0.trans ?_, rest⟩
    refine (Cert.RAddSibIdeal.Read.val_main_v45_eq (F := Ideal) _ _ _ _ _).trans ?_
    rw [e0, e1, e2, e3, e4]
    exact Cert.RAddSibIdeal.RefValue.ref_g _ _ _ _ _ _ (fun _ => rfl) _ (fun _ => rfl)
end Cert.Proof
end
-- ==== Proof.lean ====
/- The claim, assembled: the frame of every program, and of every pair the equality of the kernel's results with the reference's. The
   facts of the programs come first. -/
module

public import proofs.«01_k».proof.Defs
public import proofs.«01_k».proof.Proof.Gen.KScale
public import proofs.«01_k».proof.Proof.Gen.KScaleIdeal
public import proofs.«01_k».proof.Proof.Gen.KScale.Frame
public import proofs.«01_k».proof.Proof.Gen.KScaleIdeal.Frame
public import proofs.«01_k».proof.Proof.Gen.KScaleIdeal.Value
public import proofs.«01_k».proof.Proof.Gen.RScaleIdeal
public import proofs.«01_k».proof.Proof.Gen.RScaleIdeal.Run
public import proofs.«01_k».proof.Proof.Gen.RScaleIdeal.Read
public import proofs.«01_k».proof.Proof.Gen.KConv
public import proofs.«01_k».proof.Proof.Gen.KConvIdeal
public import proofs.«01_k».proof.Proof.Gen.KConv.Frame
public import proofs.«01_k».proof.Proof.Gen.KConvIdeal.Frame
public import proofs.«01_k».proof.Proof.Gen.KConvIdeal.Value
public import proofs.«01_k».proof.Proof.Gen.RConvIdeal
public import proofs.«01_k».proof.Proof.Gen.RConvIdeal.Run
public import proofs.«01_k».proof.Proof.Gen.RConvIdeal.Read
public import proofs.«01_k».proof.Proof.Gen.KLn
public import proofs.«01_k».proof.Proof.Gen.KLnIdeal
public import proofs.«01_k».proof.Proof.Gen.KLn.Frame
public import proofs.«01_k».proof.Proof.Gen.KLnIdeal.Frame
public import proofs.«01_k».proof.Proof.Gen.KLnIdeal.Value
public import proofs.«01_k».proof.Proof.Gen.RLnIdeal
public import proofs.«01_k».proof.Proof.Gen.RLnIdeal.Run
public import proofs.«01_k».proof.Proof.Gen.RLnIdeal.Read
public import proofs.«01_k».proof.Proof.Gen.Pre_finite_ln
public import proofs.«01_k».proof.Proof.Gen.KDgu
public import proofs.«01_k».proof.Proof.Gen.KDguIdeal
public import proofs.«01_k».proof.Proof.Gen.KDgu.Frame
public import proofs.«01_k».proof.Proof.Gen.KDguIdeal.Frame
public import proofs.«01_k».proof.Proof.Gen.KDguIdeal.Value
public import proofs.«01_k».proof.Proof.Gen.RDguIdeal
public import proofs.«01_k».proof.Proof.Gen.RDguIdeal.Run
public import proofs.«01_k».proof.Proof.Gen.RDguIdeal.Read
public import proofs.«01_k».proof.Proof.Gen.Pre_finite_dgu
public import proofs.«01_k».proof.Proof.Gen.KPool
public import proofs.«01_k».proof.Proof.Gen.KPoolIdeal
public import proofs.«01_k».proof.Proof.Gen.KPool.Frame
public import proofs.«01_k».proof.Proof.Gen.KPoolIdeal.Frame
public import proofs.«01_k».proof.Proof.Gen.KPoolIdeal.Value
public import proofs.«01_k».proof.Proof.Gen.RPoolIdeal
public import proofs.«01_k».proof.Proof.Gen.RPoolIdeal.Run
public import proofs.«01_k».proof.Proof.Gen.RPoolIdeal.Read
public import proofs.«01_k».proof.Proof.Gen.Pre_finite_pool
public import proofs.«01_k».proof.Proof.Gen.KLoss
public import proofs.«01_k».proof.Proof.Gen.KLossIdeal
public import proofs.«01_k».proof.Proof.Gen.KLoss.Frame
public import proofs.«01_k».proof.Proof.Gen.KLossIdeal.Frame
public import proofs.«01_k».proof.Proof.Gen.RLossIdeal
public import proofs.«01_k».proof.Proof.Gen.RLossIdeal.Run
public import proofs.«01_k».proof.Proof.Gen.RLossIdeal.Read
public import proofs.«01_k».proof.Proof.Gen.Pre_finite_loss
public import proofs.«01_k».proof.Proof.Gen.KLnF
public import proofs.«01_k».proof.Proof.Gen.KLnFIdeal
public import proofs.«01_k».proof.Proof.Gen.KLnF.Frame
public import proofs.«01_k».proof.Proof.Gen.KLnFIdeal.Frame
public import proofs.«01_k».proof.Proof.Gen.KLnFIdeal.Value
public import proofs.«01_k».proof.Proof.Gen.RLnFIdeal
public import proofs.«01_k».proof.Proof.Gen.RLnFIdeal.Run
public import proofs.«01_k».proof.Proof.Gen.RLnFIdeal.Read
public import proofs.«01_k».proof.Proof.Gen.KGuF
public import proofs.«01_k».proof.Proof.Gen.KGuFIdeal
public import proofs.«01_k».proof.Proof.Gen.KGuF.Frame
public import proofs.«01_k».proof.Proof.Gen.KGuFIdeal.Frame
public import proofs.«01_k».proof.Proof.Gen.KGuFIdeal.Value
public import proofs.«01_k».proof.Proof.Gen.RGuFIdeal
public import proofs.«01_k».proof.Proof.Gen.RGuFIdeal.Run
public import proofs.«01_k».proof.Proof.Gen.RGuFIdeal.Read
public import proofs.«01_k».proof.Proof.Gen.KConvF
public import proofs.«01_k».proof.Proof.Gen.KConvFIdeal
public import proofs.«01_k».proof.Proof.Gen.KConvF.Frame
public import proofs.«01_k».proof.Proof.Gen.KConvFIdeal.Frame
public import proofs.«01_k».proof.Proof.Gen.RConvFIdeal
public import proofs.«01_k».proof.Proof.Gen.RConvFIdeal.Run
public import proofs.«01_k».proof.Proof.Gen.RConvFIdeal.Read
public import proofs.«01_k».proof.Proof.Gen.KPoolF
public import proofs.«01_k».proof.Proof.Gen.KPoolFIdeal
public import proofs.«01_k».proof.Proof.Gen.KPoolF.Frame
public import proofs.«01_k».proof.Proof.Gen.KPoolFIdeal.Frame
public import proofs.«01_k».proof.Proof.Gen.RPoolFIdeal
public import proofs.«01_k».proof.Proof.Gen.RPoolFIdeal.Run
public import proofs.«01_k».proof.Proof.Gen.RPoolFIdeal.Read
public import proofs.«01_k».proof.Proof.Gen.Pre_finite_poolf
public import proofs.«01_k».proof.Proof.Gen.KMixF
public import proofs.«01_k».proof.Proof.Gen.KMixFIdeal
public import proofs.«01_k».proof.Proof.Gen.KMixF.Frame
public import proofs.«01_k».proof.Proof.Gen.KMixFIdeal.Frame
public import proofs.«01_k».proof.Proof.Gen.KMixFIdeal.Value
public import proofs.«01_k».proof.Proof.Gen.RMixFIdeal
public import proofs.«01_k».proof.Proof.Gen.RMixFIdeal.Run
public import proofs.«01_k».proof.Proof.Gen.RMixFIdeal.Read
public import proofs.«01_k».proof.Proof.Gen.KPoolIn
public import proofs.«01_k».proof.Proof.Gen.KPoolInIdeal
public import proofs.«01_k».proof.Proof.Gen.KPoolIn.Frame
public import proofs.«01_k».proof.Proof.Gen.KPoolInIdeal.Frame
public import proofs.«01_k».proof.Proof.Gen.KPoolInIdeal.Value
public import proofs.«01_k».proof.Proof.Gen.RPoolInIdeal
public import proofs.«01_k».proof.Proof.Gen.RPoolInIdeal.Run
public import proofs.«01_k».proof.Proof.Gen.RPoolInIdeal.Read
public import proofs.«01_k».proof.Proof.Gen.KOutY
public import proofs.«01_k».proof.Proof.Gen.KOutYIdeal
public import proofs.«01_k».proof.Proof.Gen.KOutY.Frame
public import proofs.«01_k».proof.Proof.Gen.KOutYIdeal.Frame
public import proofs.«01_k».proof.Proof.Gen.KOutYIdeal.Value
public import proofs.«01_k».proof.Proof.Gen.ROutYIdeal
public import proofs.«01_k».proof.Proof.Gen.ROutYIdeal.Run
public import proofs.«01_k».proof.Proof.Gen.ROutYIdeal.Read
public import proofs.«01_k».proof.Proof.Gen.KPoolW
public import proofs.«01_k».proof.Proof.Gen.KPoolWIdeal
public import proofs.«01_k».proof.Proof.Gen.KPoolW.Frame
public import proofs.«01_k».proof.Proof.Gen.KPoolWIdeal.Frame
public import proofs.«01_k».proof.Proof.Gen.KPoolWIdeal.Value
public import proofs.«01_k».proof.Proof.Gen.RPoolWIdeal
public import proofs.«01_k».proof.Proof.Gen.RPoolWIdeal.Run
public import proofs.«01_k».proof.Proof.Gen.RPoolWIdeal.Read
public import proofs.«01_k».proof.Proof.Gen.KProjIn
public import proofs.«01_k».proof.Proof.Gen.KProjInIdeal
public import proofs.«01_k».proof.Proof.Gen.KProjIn.Frame
public import proofs.«01_k».proof.Proof.Gen.KProjInIdeal.Frame
public import proofs.«01_k».proof.Proof.Gen.KProjInIdeal.Value
public import proofs.«01_k».proof.Proof.Gen.RProjInIdeal
public import proofs.«01_k».proof.Proof.Gen.RProjInIdeal.Run
public import proofs.«01_k».proof.Proof.Gen.RProjInIdeal.Read
public import proofs.«01_k».proof.Proof.Gen.KProjOut
public import proofs.«01_k».proof.Proof.Gen.KProjOutIdeal
public import proofs.«01_k».proof.Proof.Gen.KProjOut.Frame
public import proofs.«01_k».proof.Proof.Gen.KProjOutIdeal.Frame
public import proofs.«01_k».proof.Proof.Gen.KProjOutIdeal.Value
public import proofs.«01_k».proof.Proof.Gen.RProjOutIdeal
public import proofs.«01_k».proof.Proof.Gen.RProjOutIdeal.Run
public import proofs.«01_k».proof.Proof.Gen.RProjOutIdeal.Read
public import proofs.«01_k».proof.Proof.Gen.KOutW
public import proofs.«01_k».proof.Proof.Gen.KOutWIdeal
public import proofs.«01_k».proof.Proof.Gen.KOutW.Frame
public import proofs.«01_k».proof.Proof.Gen.KOutWIdeal.Frame
public import proofs.«01_k».proof.Proof.Gen.KOutWIdeal.Value
public import proofs.«01_k».proof.Proof.Gen.ROutWIdeal
public import proofs.«01_k».proof.Proof.Gen.ROutWIdeal.Run
public import proofs.«01_k».proof.Proof.Gen.ROutWIdeal.Read
public import proofs.«01_k».proof.Proof.Gen.KInW
public import proofs.«01_k».proof.Proof.Gen.KInWIdeal
public import proofs.«01_k».proof.Proof.Gen.KInW.Frame
public import proofs.«01_k».proof.Proof.Gen.KInWIdeal.Frame
public import proofs.«01_k».proof.Proof.Gen.KInWIdeal.Value
public import proofs.«01_k».proof.Proof.Gen.RInWIdeal
public import proofs.«01_k».proof.Proof.Gen.RInWIdeal.Run
public import proofs.«01_k».proof.Proof.Gen.RInWIdeal.Read
public import proofs.«01_k».proof.Proof.Gen.KInH
public import proofs.«01_k».proof.Proof.Gen.KInHIdeal
public import proofs.«01_k».proof.Proof.Gen.KInH.Frame
public import proofs.«01_k».proof.Proof.Gen.KInHIdeal.Frame
public import proofs.«01_k».proof.Proof.Gen.KInHIdeal.Value
public import proofs.«01_k».proof.Proof.Gen.RInHIdeal
public import proofs.«01_k».proof.Proof.Gen.RInHIdeal.Run
public import proofs.«01_k».proof.Proof.Gen.RInHIdeal.Read
public import proofs.«01_k».proof.Proof.Gen.KDown
public import proofs.«01_k».proof.Proof.Gen.KDownIdeal
public import proofs.«01_k».proof.Proof.Gen.KDown.Frame
public import proofs.«01_k».proof.Proof.Gen.KDownIdeal.Frame
public import proofs.«01_k».proof.Proof.Gen.KDownIdeal.Value
public import proofs.«01_k».proof.Proof.Gen.RDownIdeal
public import proofs.«01_k».proof.Proof.Gen.RDownIdeal.Run
public import proofs.«01_k».proof.Proof.Gen.RDownIdeal.Read
public import proofs.«01_k».proof.Proof.Gen.KBwdWd
public import proofs.«01_k».proof.Proof.Gen.KBwdWdIdeal
public import proofs.«01_k».proof.Proof.Gen.KBwdWd.Frame
public import proofs.«01_k».proof.Proof.Gen.KBwdWdIdeal.Frame
public import proofs.«01_k».proof.Proof.Gen.KBwdWdIdeal.Value
public import proofs.«01_k».proof.Proof.Gen.RBwdWdIdeal
public import proofs.«01_k».proof.Proof.Gen.RBwdWdIdeal.Run
public import proofs.«01_k».proof.Proof.Gen.RBwdWdIdeal.Read
public import proofs.«01_k».proof.Proof.Gen.KBwdWgu
public import proofs.«01_k».proof.Proof.Gen.KBwdWguIdeal
public import proofs.«01_k».proof.Proof.Gen.KBwdWgu.Frame
public import proofs.«01_k».proof.Proof.Gen.KBwdWguIdeal.Frame
public import proofs.«01_k».proof.Proof.Gen.KBwdWguIdeal.Value
public import proofs.«01_k».proof.Proof.Gen.RBwdWguIdeal
public import proofs.«01_k».proof.Proof.Gen.RBwdWguIdeal.Run
public import proofs.«01_k».proof.Proof.Gen.RBwdWguIdeal.Read
public import proofs.«01_k».proof.Proof.Gen.KBwdDh
public import proofs.«01_k».proof.Proof.Gen.KBwdDhIdeal
public import proofs.«01_k».proof.Proof.Gen.KBwdDh.Frame
public import proofs.«01_k».proof.Proof.Gen.KBwdDhIdeal.Frame
public import proofs.«01_k».proof.Proof.Gen.KBwdDhIdeal.Value
public import proofs.«01_k».proof.Proof.Gen.RBwdDhIdeal
public import proofs.«01_k».proof.Proof.Gen.RBwdDhIdeal.Run
public import proofs.«01_k».proof.Proof.Gen.RBwdDhIdeal.Read
public import proofs.«01_k».proof.Proof.Gen.KSumParts
public import proofs.«01_k».proof.Proof.Gen.KSumPartsIdeal
public import proofs.«01_k».proof.Proof.Gen.KSumParts.Frame
public import proofs.«01_k».proof.Proof.Gen.KSumPartsIdeal.Frame
public import proofs.«01_k».proof.Proof.Gen.KSumPartsIdeal.Value
public import proofs.«01_k».proof.Proof.Gen.RSumPartsIdeal
public import proofs.«01_k».proof.Proof.Gen.RSumPartsIdeal.Run
public import proofs.«01_k».proof.Proof.Gen.RSumPartsIdeal.Read
public import proofs.«01_k».proof.Proof.Gen.KAdamB
public import proofs.«01_k».proof.Proof.Gen.KAdamBIdeal
public import proofs.«01_k».proof.Proof.Gen.KAdamB.Frame
public import proofs.«01_k».proof.Proof.Gen.KAdamBIdeal.Frame
public import proofs.«01_k».proof.Proof.Gen.RAdamBIdeal
public import proofs.«01_k».proof.Proof.Gen.RAdamBIdeal.Run
public import proofs.«01_k».proof.Proof.Gen.RAdamBIdeal.Read
public import proofs.«01_k».proof.Proof.Gen.KAddSib
public import proofs.«01_k».proof.Proof.Gen.KAddSibIdeal
public import proofs.«01_k».proof.Proof.Gen.RAddSibIdeal
public import proofs.«01_k».proof.Proof.Gen.RAddSibIdeal.Run
public import proofs.«01_k».proof.Proof.Gen.RAddSibIdeal.Read
public import proofs.«01_k».proof.Proof.Scale
public import proofs.«01_k».proof.Proof.Conv
public import proofs.«01_k».proof.Proof.Ln
public import proofs.«01_k».proof.Proof.Dgu
public import proofs.«01_k».proof.Proof.Pool
public import proofs.«01_k».proof.Proof.Loss
public import proofs.«01_k».proof.Proof.LnF
public import proofs.«01_k».proof.Proof.GuF
public import proofs.«01_k».proof.Proof.ConvF
public import proofs.«01_k».proof.Proof.PoolF
public import proofs.«01_k».proof.Proof.MixF
public import proofs.«01_k».proof.Proof.PoolIn
public import proofs.«01_k».proof.Proof.OutY
public import proofs.«01_k».proof.Proof.PoolW
public import proofs.«01_k».proof.Proof.ProjIn
public import proofs.«01_k».proof.Proof.ProjOut
public import proofs.«01_k».proof.Proof.OutW
public import proofs.«01_k».proof.Proof.InW
public import proofs.«01_k».proof.Proof.InH
public import proofs.«01_k».proof.Proof.Down
public import proofs.«01_k».proof.Proof.BwdWd
public import proofs.«01_k».proof.Proof.BwdWgu
public import proofs.«01_k».proof.Proof.BwdDh
public import proofs.«01_k».proof.Proof.SumParts
public import proofs.«01_k».proof.Proof.AdamB
public import proofs.«01_k».proof.Proof.AddSib
public import Idealize.ShloMosaic.Lib.Claim
public import Idealize.ShloMosaic.Lib.Pipeline.ValueKit

@[expose] public section

namespace Cert.Proof

open Idealize.ShloMosaic Idealize.SL.Sem

theorem claim : Cert.Claim :=
  ⟨Cert.KScale.Gen.facts,
   Cert.KScaleIdeal.Gen.facts,
   Cert.RScaleIdeal.Gen.facts,
   Cert.KConv.Gen.facts,
   Cert.KConvIdeal.Gen.facts,
   Cert.RConvIdeal.Gen.facts,
   Cert.KLn.Gen.facts,
   Cert.KLnIdeal.Gen.facts,
   Cert.RLnIdeal.Gen.facts,
   Cert.KDgu.Gen.facts,
   Cert.KDguIdeal.Gen.facts,
   Cert.RDguIdeal.Gen.facts,
   Cert.KPool.Gen.facts,
   Cert.KPoolIdeal.Gen.facts,
   Cert.RPoolIdeal.Gen.facts,
   Cert.KLoss.Gen.facts,
   Cert.KLossIdeal.Gen.facts,
   Cert.RLossIdeal.Gen.facts,
   Cert.KLnF.Gen.facts,
   Cert.KLnFIdeal.Gen.facts,
   Cert.RLnFIdeal.Gen.facts,
   Cert.KGuF.Gen.facts,
   Cert.KGuFIdeal.Gen.facts,
   Cert.RGuFIdeal.Gen.facts,
   Cert.KConvF.Gen.facts,
   Cert.KConvFIdeal.Gen.facts,
   Cert.RConvFIdeal.Gen.facts,
   Cert.KPoolF.Gen.facts,
   Cert.KPoolFIdeal.Gen.facts,
   Cert.RPoolFIdeal.Gen.facts,
   Cert.KMixF.Gen.facts,
   Cert.KMixFIdeal.Gen.facts,
   Cert.RMixFIdeal.Gen.facts,
   Cert.KPoolIn.Gen.facts,
   Cert.KPoolInIdeal.Gen.facts,
   Cert.RPoolInIdeal.Gen.facts,
   Cert.KOutY.Gen.facts,
   Cert.KOutYIdeal.Gen.facts,
   Cert.ROutYIdeal.Gen.facts,
   Cert.KPoolW.Gen.facts,
   Cert.KPoolWIdeal.Gen.facts,
   Cert.RPoolWIdeal.Gen.facts,
   Cert.KProjIn.Gen.facts,
   Cert.KProjInIdeal.Gen.facts,
   Cert.RProjInIdeal.Gen.facts,
   Cert.KProjOut.Gen.facts,
   Cert.KProjOutIdeal.Gen.facts,
   Cert.RProjOutIdeal.Gen.facts,
   Cert.KOutW.Gen.facts,
   Cert.KOutWIdeal.Gen.facts,
   Cert.ROutWIdeal.Gen.facts,
   Cert.KInW.Gen.facts,
   Cert.KInWIdeal.Gen.facts,
   Cert.RInWIdeal.Gen.facts,
   Cert.KInH.Gen.facts,
   Cert.KInHIdeal.Gen.facts,
   Cert.RInHIdeal.Gen.facts,
   Cert.KDown.Gen.facts,
   Cert.KDownIdeal.Gen.facts,
   Cert.RDownIdeal.Gen.facts,
   Cert.KBwdWd.Gen.facts,
   Cert.KBwdWdIdeal.Gen.facts,
   Cert.RBwdWdIdeal.Gen.facts,
   Cert.KBwdWgu.Gen.facts,
   Cert.KBwdWguIdeal.Gen.facts,
   Cert.RBwdWguIdeal.Gen.facts,
   Cert.KBwdDh.Gen.facts,
   Cert.KBwdDhIdeal.Gen.facts,
   Cert.RBwdDhIdeal.Gen.facts,
   Cert.KSumParts.Gen.facts,
   Cert.KSumPartsIdeal.Gen.facts,
   Cert.RSumPartsIdeal.Gen.facts,
   Cert.KAdamB.Gen.facts,
   Cert.KAdamBIdeal.Gen.facts,
   Cert.RAdamBIdeal.Gen.facts,
   Cert.KAddSib.Gen.facts,
   Cert.KAddSibIdeal.Gen.facts,
   Cert.RAddSibIdeal.Gen.facts,
   Cert.Pre_finite_ln.Gen.facts,
   Cert.Pre_finite_dgu.Gen.facts,
   Cert.Pre_finite_pool.Gen.facts,
   Cert.Pre_finite_loss.Gen.facts,
   Cert.Pre_finite_poolf.Gen.facts,
   Cert.Pre_placed.Gen.facts,
   Cert.Pre_on_mesh.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.KScale.Gen.frame m ρ
  · exact fun m ρ _ => Cert.KScaleIdeal.Gen.frame m ρ
  · exact fun m ρ _ => (θ_run Cert.RScaleIdeal.defs _ _).mono (fun r h => ⟨fun c => (h c).2.2, sem_eq_zero_of_no_sems (by decide) r.2⟩) (Cert.RScaleIdeal.Value.run m ρ)
  · exact fun m ρ _ => Cert.KConv.Gen.frame m ρ
  · exact fun m ρ _ => Cert.KConvIdeal.Gen.frame m ρ
  · exact fun m ρ _ => (θ_run Cert.RConvIdeal.defs _ _).mono (fun r h => ⟨fun c => (h c).2.2.2.2, sem_eq_zero_of_no_sems (by decide) r.2⟩) (Cert.RConvIdeal.Value.run m ρ)
  · exact fun m ρ _ => Cert.KLn.Gen.frame m ρ
  · exact fun m ρ _ => Cert.KLnIdeal.Gen.frame m ρ
  · exact fun m ρ _ => Cert.KLnIdeal.Gen.frame m ρ
  · exact fun m ρ _ => (θ_run Cert.RLnIdeal.defs _ _).mono (fun r h => ⟨fun c => (h c).2.2.2.2, sem_eq_zero_of_no_sems (by decide) r.2⟩) (Cert.RLnIdeal.Value.run m ρ)
  · exact fun m ρ _ => (θ_run Cert.RLnIdeal.defs _ _).mono (fun r h => ⟨fun c => (h c).2.2.2.2, sem_eq_zero_of_no_sems (by decide) r.2⟩) (Cert.RLnIdeal.Value.run m ρ)
  · exact fun m ρ _ => Cert.KDgu.Gen.frame m ρ
  · exact fun m ρ _ => Cert.KDguIdeal.Gen.frame m ρ
  · exact fun m ρ _ => Cert.KDguIdeal.Gen.frame m ρ
  · exact fun m ρ _ => (θ_run Cert.RDguIdeal.defs _ _).mono (fun r h => ⟨fun c => (h c).2, sem_eq_zero_of_no_sems (by decide) r.2⟩) (Cert.RDguIdeal.Value.run m ρ)
  · exact fun m ρ _ => (θ_run Cert.RDguIdeal.defs _ _).mono (fun r h => ⟨fun c => (h c).2, sem_eq_zero_of_no_sems (by decide) r.2⟩) (Cert.RDguIdeal.Value.run m ρ)
  · exact fun m ρ _ => Cert.KPool.Gen.frame m ρ
  · exact fun m ρ _ => Cert.KPoolIdeal.Gen.frame m ρ
  · exact fun m ρ _ => Cert.KPoolIdeal.Gen.frame m ρ
  · exact fun m ρ _ => (θ_run Cert.RPoolIdeal.defs _ _).mono (fun r h => ⟨fun c => (h c).2, sem_eq_zero_of_no_sems (by decide) r.2⟩) (Cert.RPoolIdeal.Value.run m ρ)
  · exact fun m ρ _ => (θ_run Cert.RPoolIdeal.defs _ _).mono (fun r h => ⟨fun c => (h c).2, sem_eq_zero_of_no_sems (by decide) r.2⟩) (Cert.RPoolIdeal.Value.run m ρ)
  · exact fun m ρ _ => Cert.KLoss.Gen.frame m ρ
  · exact fun m ρ _ => Cert.KLossIdeal.Gen.frame m ρ
  · exact fun m ρ _ => Cert.KLossIdeal.Gen.frame m ρ
  · exact fun m ρ _ => (θ_run Cert.RLossIdeal.defs _ _).mono (fun r h => ⟨fun c => (h c).2.2.2.2.2, sem_eq_zero_of_no_sems (by decide) r.2⟩) (Cert.RLossIdeal.Value.run m ρ)
  · exact fun m ρ _ => (θ_run Cert.RLossIdeal.defs _ _).mono (fun r h => ⟨fun c => (h c).2.2.2.2.2, sem_eq_zero_of_no_sems (by decide) r.2⟩) (Cert.RLossIdeal.Value.run m ρ)
  · exact fun m ρ _ => Cert.KLnF.Gen.frame m ρ
  · exact fun m ρ _ => Cert.KLnFIdeal.Gen.frame m ρ
  · exact fun m ρ _ => (θ_run Cert.RLnFIdeal.defs _ _).mono (fun r h => ⟨fun c => (h c).2.2, sem_eq_zero_of_no_sems (by decide) r.2⟩) (Cert.RLnFIdeal.Value.run m ρ)
  · exact fun m ρ _ => Cert.KGuF.Gen.frame m ρ
  · exact fun m ρ _ => Cert.KGuFIdeal.Gen.frame m ρ
  · exact fun m ρ _ => (θ_run Cert.RGuFIdeal.defs _ _).mono (fun r h => ⟨fun c => (h c).2.2, sem_eq_zero_of_no_sems (by decide) r.2⟩) (Cert.RGuFIdeal.Value.run m ρ)
  · exact fun m ρ _ => Cert.KConvF.Gen.frame m ρ
  · exact fun m ρ _ => Cert.KConvFIdeal.Gen.frame m ρ
  · exact fun m ρ _ => (θ_run Cert.RConvFIdeal.defs _ _).mono (fun r h => ⟨fun c => (h c).2, sem_eq_zero_of_no_sems (by decide) r.2⟩) (Cert.RConvFIdeal.Value.run m ρ)
  · exact fun m ρ _ => Cert.KPoolF.Gen.frame m ρ
  · exact fun m ρ _ => Cert.KPoolFIdeal.Gen.frame m ρ
  · exact fun m ρ _ => Cert.KPoolFIdeal.Gen.frame m ρ
  · exact fun m ρ _ => (θ_run Cert.RPoolFIdeal.defs _ _).mono (fun r h => ⟨fun c => (h c).2, sem_eq_zero_of_no_sems (by decide) r.2⟩) (Cert.RPoolFIdeal.Value.run m ρ)
  · exact fun m ρ _ => (θ_run Cert.RPoolFIdeal.defs _ _).mono (fun r h => ⟨fun c => (h c).2, sem_eq_zero_of_no_sems (by decide) r.2⟩) (Cert.RPoolFIdeal.Value.run m ρ)
  · exact fun m ρ _ => Cert.KMixF.Gen.frame m ρ
  · exact fun m ρ _ => Cert.KMixFIdeal.Gen.frame m ρ
  · exact fun m ρ _ => (θ_run Cert.RMixFIdeal.defs _ _).mono (fun r h => ⟨fun c => (h c).2.2, sem_eq_zero_of_no_sems (by decide) r.2⟩) (Cert.RMixFIdeal.Value.run m ρ)
  · exact fun m ρ _ => Cert.KPoolIn.Gen.frame m ρ
  · exact fun m ρ _ => Cert.KPoolInIdeal.Gen.frame m ρ
  · exact fun m ρ _ => (θ_run Cert.RPoolInIdeal.defs _ _).mono (fun r h => ⟨fun c => (h c).2, sem_eq_zero_of_no_sems (by decide) r.2⟩) (Cert.RPoolInIdeal.Value.run m ρ)
  · exact fun m ρ _ => Cert.KOutY.Gen.frame m ρ
  · exact fun m ρ _ => Cert.KOutYIdeal.Gen.frame m ρ
  · exact fun m ρ _ => (θ_run Cert.ROutYIdeal.defs _ _).mono (fun r h => ⟨fun c => (h c).2, sem_eq_zero_of_no_sems (by decide) r.2⟩) (Cert.ROutYIdeal.Value.run m ρ)
  · exact fun m ρ _ => Cert.KPoolW.Gen.frame m ρ
  · exact fun m ρ _ => Cert.KPoolWIdeal.Gen.frame m ρ
  · exact fun m ρ _ => (θ_run Cert.RPoolWIdeal.defs _ _).mono (fun r h => ⟨fun c => (h c).2, sem_eq_zero_of_no_sems (by decide) r.2⟩) (Cert.RPoolWIdeal.Value.run m ρ)
  · exact fun m ρ _ => Cert.KProjIn.Gen.frame m ρ
  · exact fun m ρ _ => Cert.KProjInIdeal.Gen.frame m ρ
  · exact fun m ρ _ => (θ_run Cert.RProjInIdeal.defs _ _).mono (fun r h => ⟨fun c => (h c).2, sem_eq_zero_of_no_sems (by decide) r.2⟩) (Cert.RProjInIdeal.Value.run m ρ)
  · exact fun m ρ _ => Cert.KProjOut.Gen.frame m ρ
  · exact fun m ρ _ => Cert.KProjOutIdeal.Gen.frame m ρ
  · exact fun m ρ _ => (θ_run Cert.RProjOutIdeal.defs _ _).mono (fun r h => ⟨fun c => (h c).2, sem_eq_zero_of_no_sems (by decide) r.2⟩) (Cert.RProjOutIdeal.Value.run m ρ)
  · exact fun m ρ _ => Cert.KOutW.Gen.frame m ρ
  · exact fun m ρ _ => Cert.KOutWIdeal.Gen.frame m ρ
  · exact fun m ρ _ => (θ_run Cert.ROutWIdeal.defs _ _).mono (fun r h => ⟨fun c => (h c).2, sem_eq_zero_of_no_sems (by decide) r.2⟩) (Cert.ROutWIdeal.Value.run m ρ)
  · exact fun m ρ _ => Cert.KInW.Gen.frame m ρ
  · exact fun m ρ _ => Cert.KInWIdeal.Gen.frame m ρ
  · exact fun m ρ _ => (θ_run Cert.RInWIdeal.defs _ _).mono (fun r h => ⟨fun c => (h c).2, sem_eq_zero_of_no_sems (by decide) r.2⟩) (Cert.RInWIdeal.Value.run m ρ)
  · exact fun m ρ _ => Cert.KInH.Gen.frame m ρ
  · exact fun m ρ _ => Cert.KInHIdeal.Gen.frame m ρ
  · exact fun m ρ _ => (θ_run Cert.RInHIdeal.defs _ _).mono (fun r h => ⟨fun c => (h c).2, sem_eq_zero_of_no_sems (by decide) r.2⟩) (Cert.RInHIdeal.Value.run m ρ)
  · exact fun m ρ _ => Cert.KDown.Gen.frame m ρ
  · exact fun m ρ _ => Cert.KDownIdeal.Gen.frame m ρ
  · exact fun m ρ _ => (θ_run Cert.RDownIdeal.defs _ _).mono (fun r h => ⟨fun c => (h c).2, sem_eq_zero_of_no_sems (by decide) r.2⟩) (Cert.RDownIdeal.Value.run m ρ)
  · exact fun m ρ _ => Cert.KBwdWd.Gen.frame m ρ
  · exact fun m ρ _ => Cert.KBwdWdIdeal.Gen.frame m ρ
  · exact fun m ρ _ => (θ_run Cert.RBwdWdIdeal.defs _ _).mono (fun r h => ⟨fun c => (h c).2, sem_eq_zero_of_no_sems (by decide) r.2⟩) (Cert.RBwdWdIdeal.Value.run m ρ)
  · exact fun m ρ _ => Cert.KBwdWgu.Gen.frame m ρ
  · exact fun m ρ _ => Cert.KBwdWguIdeal.Gen.frame m ρ
  · exact fun m ρ _ => (θ_run Cert.RBwdWguIdeal.defs _ _).mono (fun r h => ⟨fun c => (h c).2, sem_eq_zero_of_no_sems (by decide) r.2⟩) (Cert.RBwdWguIdeal.Value.run m ρ)
  · exact fun m ρ _ => Cert.KBwdDh.Gen.frame m ρ
  · exact fun m ρ _ => Cert.KBwdDhIdeal.Gen.frame m ρ
  · exact fun m ρ _ => (θ_run Cert.RBwdDhIdeal.defs _ _).mono (fun r h => ⟨fun c => (h c).2, sem_eq_zero_of_no_sems (by decide) r.2⟩) (Cert.RBwdDhIdeal.Value.run m ρ)
  · exact fun m ρ _ => Cert.KSumParts.Gen.frame m ρ
  · exact fun m ρ _ => Cert.KSumPartsIdeal.Gen.frame m ρ
  · exact fun m ρ _ => (θ_run Cert.RSumPartsIdeal.defs _ _).mono (fun r h => ⟨fun c => (h c).2, sem_eq_zero_of_no_sems (by decide) r.2⟩) (Cert.RSumPartsIdeal.Value.run m ρ)
  · exact fun m ρ h => Cert.KAdamB.Gen.frame m ρ (Cert.KAdamB.RefValue.ok_of_pre m h)
  · exact fun m ρ h => Cert.KAdamBIdeal.Gen.frame m ρ (Cert.KAdamBIdeal.RefValue.ok_of_pre m h)
  · exact fun m ρ _ => (θ_run Cert.RAdamBIdeal.defs _ _).mono (fun r h => ⟨fun c => (h c).2.2.2.2, sem_eq_zero_of_no_sems (by decide) r.2⟩) (Cert.RAdamBIdeal.Value.run m ρ)
  · exact fun m ρ _ => (θ_run Cert.RAdamBIdeal.defs _ _).mono (fun r h => ⟨fun c => (h c).2.2.2.2, sem_eq_zero_of_no_sems (by decide) r.2⟩) (Cert.RAdamBIdeal.Value.run m ρ)
  · exact Cert.Proof.frame_addsib
  · exact Cert.Proof.frame_addsib_ideal
  · exact fun m ρ _ => (θ_run Cert.RAddSibIdeal.defs _ _).mono (fun r h => ⟨fun c => (h c).2, sem_eq_zero_of_no_sems (by decide) r.2⟩) (Cert.RAddSibIdeal.Value.run m ρ)
  · exact fun m ρ _ => (θ_run Cert.RAddSibIdeal.defs _ _).mono (fun r h => ⟨fun c => (h c).2, sem_eq_zero_of_no_sems (by decide) r.2⟩) (Cert.RAddSibIdeal.Value.run m ρ)
  · trivial
  · exact algebraic_scale
  · trivial
  · exact algebraic_conv
  · trivial
  · exact algebraic_ln
  · trivial
  · exact algebraic_dgu
  · trivial
  · exact algebraic_pool
  · trivial
  · exact algebraic_loss
  · trivial
  · exact algebraic_lnf
  · trivial
  · exact algebraic_guf
  · trivial
  · exact algebraic_convf
  · trivial
  · exact algebraic_poolf
  · trivial
  · exact algebraic_mixf
  · trivial
  · exact algebraic_poolin
  · trivial
  · exact algebraic_outy
  · trivial
  · exact algebraic_poolw
  · trivial
  · exact algebraic_projin
  · trivial
  · exact algebraic_projout
  · trivial
  · exact algebraic_outw
  · trivial
  · exact algebraic_inw
  · trivial
  · exact algebraic_inh
  · trivial
  · exact algebraic_down
  · trivial
  · exact algebraic_bwdwd
  · trivial
  · exact algebraic_bwdwgu
  · trivial
  · exact algebraic_bwddh
  · trivial
  · exact algebraic_sumparts
  · trivial
  · exact algebraic_adamb
  · trivial
  · exact algebraic_addsib⟩

end Cert.Proof
